-- ==== Defs.lean ====
def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemKernelIdeal_mem_finite [hPre_mem_finite : Cert.Pre_mem_finite.Facts] (m : (ℓ : Loc Cert.MemKernelIdeal.nD Cert.MemKernelIdeal.τ Cert.MemKernelIdeal.sig) → Buf (Elt Ideal) ℓ) : Prop :=
  ∀ c : Dev Cert.MemKernelIdeal.nD,
    (Cert.Pre_mem_finite.fn (F := Ideal) (m ((c.tc : Thread Cert.MemKernelIdeal.nD Cert.MemKernelIdeal.τ).loc Cert.MemKernelIdeal.main_arg0)) (m ((c.tc : Thread Cert.MemKernelIdeal.nD Cert.MemKernelIdeal.τ).loc Cert.MemKernelIdeal.main_arg1)) (m ((c.tc : Thread Cert.MemKernelIdeal.nD Cert.MemKernelIdeal.τ).loc Cert.MemKernelIdeal.main_arg2))) = (fun _ => 1#1)

def Pre_MemReferenceIdeal (m : (ℓ : Loc Cert.MemReferenceIdeal.nD Cert.MemReferenceIdeal.τ Cert.MemReferenceIdeal.sig) → Buf (Elt Ideal) ℓ) : Prop :=
  True

def Pre_MemReferenceIdeal_mem_finite [hPre_mem_finite : Cert.Pre_mem_finite.Facts] (m : (ℓ : Loc Cert.MemReferenceIdeal.nD Cert.MemReferenceIdeal.τ Cert.MemReferenceIdeal.sig) → Buf (Elt Ideal) ℓ) : Prop :=
  ∀ c : Dev Cert.MemReferenceIdeal.nD,
    (Cert.Pre_mem_finite.fn (F := Ideal) (m ((c.tc : Thread Cert.MemReferenceIdeal.nD Cert.MemReferenceIdeal.τ).loc Cert.MemReferenceIdeal.main_arg0)) (m ((c.tc : Thread Cert.MemReferenceIdeal.nD Cert.MemReferenceIdeal.τ).loc Cert.MemReferenceIdeal.main_arg1)) (m ((c.tc : Thread Cert.MemReferenceIdeal.nD Cert.MemReferenceIdeal.τ).loc Cert.MemReferenceIdeal.main_arg2))) = (fun _ => 1#1)

def Pre_DilAttn (m : (ℓ : Loc Cert.DilAttn.nD Cert.DilAttn.τ Cert.DilAttn.sig) → Buf (Elt Bits) ℓ) : Prop :=
  True

def Pre_DilAttnIdeal (m : (ℓ : Loc Cert.DilAttnIdeal.nD Cert.DilAttnIdeal.τ Cert.DilAttnIdeal.sig) → Buf (Elt Ideal) ℓ) : Prop :=
  True

def Pre_DilAttnIdeal_dil_finite [hPre_dil_finite : Cert.Pre_dil_finite.Facts] (m : (ℓ : Loc Cert.DilAttnIdeal.nD Cert.DilAttnIdeal.τ Cert.DilAttnIdeal.sig) → Buf (Elt Ideal) ℓ) : Prop :=
  ∀ c : Dev Cert.DilAttnIdeal.nD,
    (Cert.Pre_dil_finite.fn (F := Ideal) (m ((c.tc : Thread Cert.DilAttnIdeal.nD Cert.DilAttnIdeal.τ).loc Cert.DilAttnIdeal.main_arg0)) (m ((c.tc : Thread Cert.DilAttnIdeal.nD Cert.DilAttnIdeal.τ).loc Cert.DilAttnIdeal.main_arg1)) (m ((c.tc : Thread Cert.DilAttnIdeal.nD Cert.DilAttnIdeal.τ).loc Cert.DilAttnIdeal.main_arg2)) (m ((c.tc : Thread Cert.DilAttnIdeal.nD Cert.DilAttnIdeal.τ).loc Cert.DilAttnIdeal.main_arg3))) = (fun _ => 1#1)

def Pre_DilAttnRefIdeal (m : (ℓ : Loc Cert.DilAttnRefIdeal.nD Cert.DilAttnRefIdeal.τ Cert.DilAttnRefIdeal.sig) → Buf (Elt Ideal) ℓ) : Prop :=
  True

def Pre_DilAttnRefIdeal_dil_finite [hPre_dil_finite : Cert.Pre_dil_finite.Facts] (m : (ℓ : Loc Cert.DilAttnRefIdeal.nD Cert.DilAttnRefIdeal.τ Cert.DilAttnRefIdeal.sig) → Buf (Elt Ideal) ℓ) : Prop :=
  ∀ c : Dev Cert.DilAttnRefIdeal.nD,
    (Cert.Pre_dil_finite.fn (F := Ideal) (m ((c.tc : Thread Cert.DilAttnRefIdeal.nD Cert.DilAttnRefIdeal.τ).loc Cert.DilAttnRefIdeal.main_arg0)) (m ((c.tc : Thread Cert.DilAttnRefIdeal.nD Cert.DilAttnRefIdeal.τ).loc Cert.DilAttnRefIdeal.main_arg1)) (m ((c.tc : Thread Cert.DilAttnRefIdeal.nD Cert.DilAttnRefIdeal.τ).loc Cert.DilAttnRefIdeal.main_arg2)) (m ((c.tc : Thread Cert.DilAttnRefIdeal.nD Cert.DilAttnRefIdeal.τ).loc Cert.DilAttnRefIdeal.main_arg3))) = (fun _ => 1#1)

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_ffn_finite [hPre_ffn_finite : Cert.Pre_ffn_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_ffn_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3))) = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_ffn_finite [hPre_ffn_finite : Cert.Pre_ffn_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_ffn_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutDx (m : (ℓ : Loc Cert.MixOutDx.nD Cert.MixOutDx.τ Cert.MixOutDx.sig) → Buf (Elt Bits) ℓ) : Prop :=
  True

def Pre_MixOutDxIdeal (m : (ℓ : Loc Cert.MixOutDxIdeal.nD Cert.MixOutDxIdeal.τ Cert.MixOutDxIdeal.sig) → Buf (Elt Ideal) ℓ) : Prop :=
  True

def Pre_MixOutDxRefIdeal (m : (ℓ : Loc Cert.MixOutDxRefIdeal.nD Cert.MixOutDxRefIdeal.τ Cert.MixOutDxRefIdeal.sig) → Buf (Elt Ideal) ℓ) : Prop :=
  True

def Pre_MixOutDw (m : (ℓ : Loc Cert.MixOutDw.nD Cert.MixOutDw.τ Cert.MixOutDw.sig) → Buf (Elt Bits) ℓ) : Prop :=
  True

def Pre_MixOutDwIdeal (m : (ℓ : Loc Cert.MixOutDwIdeal.nD Cert.MixOutDwIdeal.τ Cert.MixOutDwIdeal.sig) → Buf (Elt Ideal) ℓ) : Prop :=
  True

def Pre_MixOutDwRefIdeal (m : (ℓ : Loc Cert.MixOutDwRefIdeal.nD Cert.MixOutDwRefIdeal.τ Cert.MixOutDwRefIdeal.sig) → Buf (Elt Ideal) ℓ) : Prop :=
  True

def Pre_DilInDx (m : (ℓ : Loc Cert.DilInDx.nD Cert.DilInDx.τ Cert.DilInDx.sig) → Buf (Elt Bits) ℓ) : Prop :=
  True

def Pre_DilInDxIdeal (m : (ℓ : Loc Cert.DilInDxIdeal.nD Cert.DilInDxIdeal.τ Cert.DilInDxIdeal.sig) → Buf (Elt Ideal) ℓ) : Prop :=
  True

def Pre_DilInDxRefIdeal (m : (ℓ : Loc Cert.DilInDxRefIdeal.nD Cert.DilInDxRefIdeal.τ Cert.DilInDxRefIdeal.sig) → Buf (Elt Ideal) ℓ) : Prop :=
  True

def Pre_RecIn (m : (ℓ : Loc Cert.RecIn.nD Cert.RecIn.τ Cert.RecIn.sig) → Buf (Elt Bits) ℓ) : Prop :=
  True

def Pre_RecInIdeal (m : (ℓ : Loc Cert.RecInIdeal.nD Cert.RecInIdeal.τ Cert.RecInIdeal.sig) → Buf (Elt Ideal) ℓ) : Prop :=
  True

def Pre_RecInRefIdeal (m : (ℓ : Loc Cert.RecInRefIdeal.nD Cert.RecInRefIdeal.τ Cert.RecInRefIdeal.sig) → Buf (Elt Ideal) ℓ) : Prop :=
  True

def Pre_RecInDx (m : (ℓ : Loc Cert.RecInDx.nD Cert.RecInDx.τ Cert.RecInDx.sig) → Buf (Elt Bits) ℓ) : Prop :=
  True

def Pre_RecInDxIdeal (m : (ℓ : Loc Cert.RecInDxIdeal.nD Cert.RecInDxIdeal.τ Cert.RecInDxIdeal.sig) → Buf (Elt Ideal) ℓ) : Prop :=
  True

def Pre_RecInDxRefIdeal (m : (ℓ : Loc Cert.RecInDxRefIdeal.nD Cert.RecInDxRefIdeal.τ Cert.RecInDxRefIdeal.sig) → Buf (Elt Ideal) ℓ) : Prop :=
  True

def Pre_RecInDw (m : (ℓ : Loc Cert.RecInDw.nD Cert.RecInDw.τ Cert.RecInDw.sig) → Buf (Elt Bits) ℓ) : Prop :=
  True

def Pre_RecInDwIdeal (m : (ℓ : Loc Cert.RecInDwIdeal.nD Cert.RecInDwIdeal.τ Cert.RecInDwIdeal.sig) → Buf (Elt Ideal) ℓ) : Prop :=
  True

def Pre_RecInDwRefIdeal (m : (ℓ : Loc Cert.RecInDwRefIdeal.nD Cert.RecInDwRefIdeal.τ Cert.RecInDwRefIdeal.sig) → Buf (Elt Ideal) ℓ) : Prop :=
  True

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjRefIdeal (m : (ℓ : Loc Cert.KvProjRefIdeal.nD Cert.KvProjRefIdeal.τ Cert.KvProjRefIdeal.sig) → Buf (Elt Ideal) ℓ) : Prop :=
  True

def Pre_KvProjDx (m : (ℓ : Loc Cert.KvProjDx.nD Cert.KvProjDx.τ Cert.KvProjDx.sig) → Buf (Elt Bits) ℓ) : Prop :=
  True

def Pre_KvProjDxIdeal (m : (ℓ : Loc Cert.KvProjDxIdeal.nD Cert.KvProjDxIdeal.τ Cert.KvProjDxIdeal.sig) → Buf (Elt Ideal) ℓ) : Prop :=
  True

def Pre_KvProjDxRefIdeal (m : (ℓ : Loc Cert.KvProjDxRefIdeal.nD Cert.KvProjDxRefIdeal.τ Cert.KvProjDxRefIdeal.sig) → Buf (Elt Ideal) ℓ) : Prop :=
  True

def Pre_KvProjDw (m : (ℓ : Loc Cert.KvProjDw.nD Cert.KvProjDw.τ Cert.KvProjDw.sig) → Buf (Elt Bits) ℓ) : Prop :=
  True

def Pre_KvProjDwIdeal (m : (ℓ : Loc Cert.KvProjDwIdeal.nD Cert.KvProjDwIdeal.τ Cert.KvProjDwIdeal.sig) → Buf (Elt Ideal) ℓ) : Prop :=
  True

def Pre_KvProjDwRefIdeal (m : (ℓ : Loc Cert.KvProjDwRefIdeal.nD Cert.KvProjDwRefIdeal.τ Cert.KvProjDwRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemKvDx (m : (ℓ : Loc Cert.MemKvDx.nD Cert.MemKvDx.τ Cert.MemKvDx.sig) → Buf (Elt Bits) ℓ) : Prop :=
  True

def Pre_MemKvDxIdeal (m : (ℓ : Loc Cert.MemKvDxIdeal.nD Cert.MemKvDxIdeal.τ Cert.MemKvDxIdeal.sig) → Buf (Elt Ideal) ℓ) : Prop :=
  True

def Pre_MemKvDxRefIdeal (m : (ℓ : Loc Cert.MemKvDxRefIdeal.nD Cert.MemKvDxRefIdeal.τ Cert.MemKvDxRefIdeal.sig) → Buf (Elt Ideal) ℓ) : Prop :=
  True

def Pre_MemKvDw (m : (ℓ : Loc Cert.MemKvDw.nD Cert.MemKvDw.τ Cert.MemKvDw.sig) → Buf (Elt Bits) ℓ) : Prop :=
  True

def Pre_MemKvDwIdeal (m : (ℓ : Loc Cert.MemKvDwIdeal.nD Cert.MemKvDwIdeal.τ Cert.MemKvDwIdeal.sig) → Buf (Elt Ideal) ℓ) : Prop :=
  True

def Pre_MemKvDwRefIdeal (m : (ℓ : Loc Cert.MemKvDwRefIdeal.nD Cert.MemKvDwRefIdeal.τ Cert.MemKvDwRefIdeal.sig) → Buf (Elt Ideal) ℓ) : Prop :=
  True

def Pre_RecMem (m : (ℓ : Loc Cert.RecMem.nD Cert.RecMem.τ Cert.RecMem.sig) → Buf (Elt Bits) ℓ) : Prop :=
  True

def Pre_RecMemIdeal (m : (ℓ : Loc Cert.RecMemIdeal.nD Cert.RecMemIdeal.τ Cert.RecMemIdeal.sig) → Buf (Elt Ideal) ℓ) : Prop :=
  True

def Pre_RecMemRefIdeal (m : (ℓ : Loc Cert.RecMemRefIdeal.nD Cert.RecMemRefIdeal.τ Cert.RecMemRefIdeal.sig) → Buf (Elt Ideal) ℓ) : Prop :=
  True

def Pre_DilMem (m : (ℓ : Loc Cert.DilMem.nD Cert.DilMem.τ Cert.DilMem.sig) → Buf (Elt Bits) ℓ) : Prop :=
  True

def Pre_DilMemIdeal (m : (ℓ : Loc Cert.DilMemIdeal.nD Cert.DilMemIdeal.τ Cert.DilMemIdeal.sig) → Buf (Elt Ideal) ℓ) : Prop :=
  True

def Pre_DilMemRefIdeal (m : (ℓ : Loc Cert.DilMemRefIdeal.nD Cert.DilMemRefIdeal.τ Cert.DilMemRefIdeal.sig) → Buf (Elt Ideal) ℓ) : Prop :=
  True

def Pre_DilMemGrad (m : (ℓ : Loc Cert.DilMemGrad.nD Cert.DilMemGrad.τ Cert.DilMemGrad.sig) → Buf (Elt Bits) ℓ) : Prop :=
  True

def Pre_DilMemGradIdeal (m : (ℓ : Loc Cert.DilMemGradIdeal.nD Cert.DilMemGradIdeal.τ Cert.DilMemGradIdeal.sig) → Buf (Elt Ideal) ℓ) : Prop :=
  True

def Pre_DilMemGradIdeal_dil_mem_finite [hPre_dil_mem_finite : Cert.Pre_dil_mem_finite.Facts] (m : (ℓ : Loc Cert.DilMemGradIdeal.nD Cert.DilMemGradIdeal.τ Cert.DilMemGradIdeal.sig) → Buf (Elt Ideal) ℓ) : Prop :=
  ∀ c : Dev Cert.DilMemGradIdeal.nD,
    (Cert.Pre_dil_mem_finite.fn (F := Ideal) (m ((c.tc : Thread Cert.DilMemGradIdeal.nD Cert.DilMemGradIdeal.τ).loc Cert.DilMemGradIdeal.main_arg0)) (m ((c.tc : Thread Cert.DilMemGradIdeal.nD Cert.DilMemGradIdeal.τ).loc Cert.DilMemGradIdeal.main_arg1)) (m ((c.tc : Thread Cert.DilMemGradIdeal.nD Cert.DilMemGradIdeal.τ).loc Cert.DilMemGradIdeal.main_arg2))) = (fun _ => 1#1)

def Pre_DilMemGradRefIdeal (m : (ℓ : Loc Cert.DilMemGradRefIdeal.nD Cert.DilMemGradRefIdeal.τ Cert.DilMemGradRefIdeal.sig) → Buf (Elt Ideal) ℓ) : Prop :=
  True

def Pre_DilMemGradRefIdeal_dil_mem_finite [hPre_dil_mem_finite : Cert.Pre_dil_mem_finite.Facts] (m : (ℓ : Loc Cert.DilMemGradRefIdeal.nD Cert.DilMemGradRefIdeal.τ Cert.DilMemGradRefIdeal.sig) → Buf (Elt Ideal) ℓ) : Prop :=
  ∀ c : Dev Cert.DilMemGradRefIdeal.nD,
    (Cert.Pre_dil_mem_finite.fn (F := Ideal) (m ((c.tc : Thread Cert.DilMemGradRefIdeal.nD Cert.DilMemGradRefIdeal.τ).loc Cert.DilMemGradRefIdeal.main_arg0)) (m ((c.tc : Thread Cert.DilMemGradRefIdeal.nD Cert.DilMemGradRefIdeal.τ).loc Cert.DilMemGradRefIdeal.main_arg1)) (m ((c.tc : Thread Cert.DilMemGradRefIdeal.nD Cert.DilMemGradRefIdeal.τ).loc Cert.DilMemGradRefIdeal.main_arg2))) = (fun _ => 1#1)

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormRefIdeal (m : (ℓ : Loc Cert.PreNormRefIdeal.nD Cert.PreNormRefIdeal.τ Cert.PreNormRefIdeal.sig) → Buf (Elt Ideal) ℓ) : Prop :=
  True

def Pre_PostNorm (m : (ℓ : Loc Cert.PostNorm.nD Cert.PostNorm.τ Cert.PostNorm.sig) → Buf (Elt Bits) ℓ) : Prop :=
  True

def Pre_PostNormIdeal (m : (ℓ : Loc Cert.PostNormIdeal.nD Cert.PostNormIdeal.τ Cert.PostNormIdeal.sig) → Buf (Elt Ideal) ℓ) : Prop :=
  True

def Pre_PostNormRefIdeal (m : (ℓ : Loc Cert.PostNormRefIdeal.nD Cert.PostNormRefIdeal.τ Cert.PostNormRefIdeal.sig) → Buf (Elt Ideal) ℓ) : Prop :=
  True

def Pre_PostPreNorm (m : (ℓ : Loc Cert.PostPreNorm.nD Cert.PostPreNorm.τ Cert.PostPreNorm.sig) → Buf (Elt Bits) ℓ) : Prop :=
  True

def Pre_PostPreNormIdeal (m : (ℓ : Loc Cert.PostPreNormIdeal.nD Cert.PostPreNormIdeal.τ Cert.PostPreNormIdeal.sig) → Buf (Elt Ideal) ℓ) : Prop :=
  True

def Pre_PostPreNormRefIdeal (m : (ℓ : Loc Cert.PostPreNormRefIdeal.nD Cert.PostPreNormRefIdeal.τ Cert.PostPreNormRefIdeal.sig) → Buf (Elt Ideal) ℓ) : Prop :=
  True

def Pre_PostNormBwd (m : (ℓ : Loc Cert.PostNormBwd.nD Cert.PostNormBwd.τ Cert.PostNormBwd.sig) → Buf (Elt Bits) ℓ) : Prop :=
  True

def Pre_PostNormBwdIdeal (m : (ℓ : Loc Cert.PostNormBwdIdeal.nD Cert.PostNormBwdIdeal.τ Cert.PostNormBwdIdeal.sig) → Buf (Elt Ideal) ℓ) : Prop :=
  True

def Pre_PostNormBwdRefIdeal (m : (ℓ : Loc Cert.PostNormBwdRefIdeal.nD Cert.PostNormBwdRefIdeal.τ Cert.PostNormBwdRefIdeal.sig) → Buf (Elt Ideal) ℓ) : Prop :=
  True

def Pre_PreNormBwd (m : (ℓ : Loc Cert.PreNormBwd.nD Cert.PreNormBwd.τ Cert.PreNormBwd.sig) → Buf (Elt Bits) ℓ) : Prop :=
  True

def Pre_PreNormBwdIdeal (m : (ℓ : Loc Cert.PreNormBwdIdeal.nD Cert.PreNormBwdIdeal.τ Cert.PreNormBwdIdeal.sig) → Buf (Elt Ideal) ℓ) : Prop :=
  True

def Pre_PreNormBwdRefIdeal (m : (ℓ : Loc Cert.PreNormBwdRefIdeal.nD Cert.PreNormBwdRefIdeal.τ Cert.PreNormBwdRefIdeal.sig) → Buf (Elt Ideal) ℓ) : Prop :=
  True

def Pre_PrePostNormBwd (m : (ℓ : Loc Cert.PrePostNormBwd.nD Cert.PrePostNormBwd.τ Cert.PrePostNormBwd.sig) → Buf (Elt Bits) ℓ) : Prop :=
  True

def Pre_PrePostNormBwdIdeal (m : (ℓ : Loc Cert.PrePostNormBwdIdeal.nD Cert.PrePostNormBwdIdeal.τ Cert.PrePostNormBwdIdeal.sig) → Buf (Elt Ideal) ℓ) : Prop :=
  True

def Pre_PrePostNormBwdRefIdeal (m : (ℓ : Loc Cert.PrePostNormBwdRefIdeal.nD Cert.PrePostNormBwdRefIdeal.τ Cert.PrePostNormBwdRefIdeal.sig) → Buf (Elt Ideal) ℓ) : Prop :=
  True

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemKernelIdeal_pre_mem_finite [hMemKernelIdeal : Cert.MemKernelIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal_mem_finite m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_MemReferenceIdeal_pre_mem_finite [hMemReferenceIdeal : Cert.MemReferenceIdeal.Facts] [hPre_mem_finite : Cert.Pre_mem_finite.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal_mem_finite m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2))
      ∧ r.2.sem = fun _ => 0)

def quiescent_DilAttn [hDilAttn : Cert.DilAttn.Facts] : Prop :=
  ∀ (m : (ℓ : Loc Cert.DilAttn.nD Cert.DilAttn.τ Cert.DilAttn.sig) → Buf (Elt Bits) ℓ) (g : Dev Cert.DilAttn.nD → PrngReg), Pre_DilAttn m →
    θ_run (Cert.DilAttn.defs (F := Bits)) (onTc (τ := Cert.DilAttn.τ) (Cert.DilAttn.main (F := Bits))) ⟨m, fun _ => 0, g⟩ (fun r => (∀ c : Dev Cert.DilAttn.nD,
      r.2.mem ((c.tc : Thread Cert.DilAttn.nD Cert.DilAttn.τ).loc Cert.DilAttn.main_arg0) = m ((c.tc : Thread Cert.DilAttn.nD Cert.DilAttn.τ).loc Cert.DilAttn.main_arg0)
      ∧ r.2.mem ((c.tc : Thread Cert.DilAttn.nD Cert.DilAttn.τ).loc Cert.DilAttn.main_arg1) = m ((c.tc : Thread Cert.DilAttn.nD Cert.DilAttn.τ).loc Cert.DilAttn.main_arg1)
      ∧ r.2.mem ((c.tc : Thread Cert.DilAttn.nD Cert.DilAttn.τ).loc Cert.DilAttn.main_arg2) = m ((c.tc : Thread Cert.DilAttn.nD Cert.DilAttn.τ).loc Cert.DilAttn.main_arg2)
      ∧ r.2.mem ((c.tc : Thread Cert.DilAttn.nD Cert.DilAttn.τ).loc Cert.DilAttn.main_arg3) = m ((c.tc : Thread Cert.DilAttn.nD Cert.DilAttn.τ).loc Cert.DilAttn.main_arg3))
      ∧ r.2.sem = fun _ => 0)

def quiescent_DilAttnIdeal [hDilAttnIdeal : Cert.DilAttnIdeal.Facts] : Prop :=
  ∀ (m : (ℓ : Loc Cert.DilAttnIdeal.nD Cert.DilAttnIdeal.τ Cert.DilAttnIdeal.sig) → Buf (Elt Ideal) ℓ) (g : Dev Cert.DilAttnIdeal.nD → PrngReg), Pre_DilAttnIdeal m →
    θ_run (Cert.DilAttnIdeal.defs (F := Ideal)) (onTc (τ := Cert.DilAttnIdeal.τ) (Cert.DilAttnIdeal.main (F := Ideal))) ⟨m, fun _ => 0, g⟩ (fun r => (∀ c : Dev Cert.DilAttnIdeal.nD,
      r.2.mem ((c.tc : Thread Cert.DilAttnIdeal.nD Cert.DilAttnIdeal.τ).loc Cert.DilAttnIdeal.main_arg0) = m ((c.tc : Thread Cert.DilAttnIdeal.nD Cert.DilAttnIdeal.τ).loc Cert.DilAttnIdeal.main_arg0)
      ∧ r.2.mem ((c.tc : Thread Cert.DilAttnIdeal.nD Cert.DilAttnIdeal.τ).loc Cert.DilAttnIdeal.main_arg1) = m ((c.tc : Thread Cert.DilAttnIdeal.nD Cert.DilAttnIdeal.τ).loc Cert.DilAttnIdeal.main_arg1)
      ∧ r.2.mem ((c.tc : Thread Cert.DilAttnIdeal.nD Cert.DilAttnIdeal.τ).loc Cert.DilAttnIdeal.main_arg2) = m ((c.tc : Thread Cert.DilAttnIdeal.nD Cert.DilAttnIdeal.τ).loc Cert.DilAttnIdeal.main_arg2)
      ∧ r.2.mem ((c.tc : Thread Cert.DilAttnIdeal.nD Cert.DilAttnIdeal.τ).loc Cert.DilAttnIdeal.main_arg3) = m ((c.tc : Thread Cert.DilAttnIdeal.nD Cert.DilAttnIdeal.τ).loc Cert.DilAttnIdeal.main_arg3))
      ∧ r.2.sem = fun _ => 0)

def quiescent_DilAttnIdeal_pre_dil_finite [hDilAttnIdeal : Cert.DilAttnIdeal.Facts] [hPre_dil_finite : Cert.Pre_dil_finite.Facts] : Prop :=
  ∀ (m : (ℓ : Loc Cert.DilAttnIdeal.nD Cert.DilAttnIdeal.τ Cert.DilAttnIdeal.sig) → Buf (Elt Ideal) ℓ) (g : Dev Cert.DilAttnIdeal.nD → PrngReg), Pre_DilAttnIdeal_dil_finite m →
    θ_run (Cert.DilAttnIdeal.defs (F := Ideal)) (onTc (τ := Cert.DilAttnIdeal.τ) (Cert.DilAttnIdeal.main (F := Ideal))) ⟨m, fun _ => 0, g⟩ (fun r => (∀ c : Dev Cert.DilAttnIdeal.nD,
      r.2.mem ((c.tc : Thread Cert.DilAttnIdeal.nD Cert.DilAttnIdeal.τ).loc Cert.DilAttnIdeal.main_arg0) = m ((c.tc : Thread Cert.DilAttnIdeal.nD Cert.DilAttnIdeal.τ).loc Cert.DilAttnIdeal.main_arg0)
      ∧ r.2.mem ((c.tc : Thread Cert.DilAttnIdeal.nD Cert.DilAttnIdeal.τ).loc Cert.DilAttnIdeal.main_arg1) = m ((c.tc : Thread Cert.DilAttnIdeal.nD Cert.DilAttnIdeal.τ).loc Cert.DilAttnIdeal.main_arg1)
      ∧ r.2.mem ((c.tc : Thread Cert.DilAttnIdeal.nD Cert.DilAttnIdeal.τ).loc Cert.DilAttnIdeal.main_arg2) = m ((c.tc : Thread Cert.DilAttnIdeal.nD Cert.DilAttnIdeal.τ).loc Cert.DilAttnIdeal.main_arg2)
      ∧ r.2.mem ((c.tc : Thread Cert.DilAttnIdeal.nD Cert.DilAttnIdeal.τ).loc Cert.DilAttnIdeal.main_arg3) = m ((c.tc : Thread Cert.DilAttnIdeal.nD Cert.DilAttnIdeal.τ).loc Cert.DilAttnIdeal.main_arg3))
      ∧ r.2.sem = fun _ => 0)

def quiescent_DilAttnRefIdeal [hDilAttnRefIdeal : Cert.DilAttnRefIdeal.Facts] : Prop :=
  ∀ (m : (ℓ : Loc Cert.DilAttnRefIdeal.nD Cert.DilAttnRefIdeal.τ Cert.DilAttnRefIdeal.sig) → Buf (Elt Ideal) ℓ) (g : Dev Cert.DilAttnRefIdeal.nD → PrngReg), Pre_DilAttnRefIdeal m →
    θ_run (Cert.DilAttnRefIdeal.defs (F := Ideal)) (onTc (τ := Cert.DilAttnRefIdeal.τ) (Cert.DilAttnRefIdeal.main (F := Ideal))) ⟨m, fun _ => 0, g⟩ (fun r => (∀ c : Dev Cert.DilAttnRefIdeal.nD,
      r.2.mem ((c.tc : Thread Cert.DilAttnRefIdeal.nD Cert.DilAttnRefIdeal.τ).loc Cert.DilAttnRefIdeal.main_arg0) = m ((c.tc : Thread Cert.DilAttnRefIdeal.nD Cert.DilAttnRefIdeal.τ).loc Cert.DilAttnRefIdeal.main_arg0)
      ∧ r.2.mem ((c.tc : Thread Cert.DilAttnRefIdeal.nD Cert.DilAttnRefIdeal.τ).loc Cert.DilAttnRefIdeal.main_arg1) = m ((c.tc : Thread Cert.DilAttnRefIdeal.nD Cert.DilAttnRefIdeal.τ).loc Cert.DilAttnRefIdeal.main_arg1)
      ∧ r.2.mem ((c.tc : Thread Cert.DilAttnRefIdeal.nD Cert.DilAttnRefIdeal.τ).loc Cert.DilAttnRefIdeal.main_arg2) = m ((c.tc : Thread Cert.DilAttnRefIdeal.nD Cert.DilAttnRefIdeal.τ).loc Cert.DilAttnRefIdeal.main_arg2)
      ∧ r.2.mem ((c.tc : Thread Cert.DilAttnRefIdeal.nD Cert.DilAttnRefIdeal.τ).loc Cert.DilAttnRefIdeal.main_arg3) = m ((c.tc : Thread Cert.DilAttnRefIdeal.nD Cert.DilAttnRefIdeal.τ).loc Cert.DilAttnRefIdeal.main_arg3))
      ∧ r.2.sem = fun _ => 0)

def quiescent_DilAttnRefIdeal_pre_dil_finite [hDilAttnRefIdeal : Cert.DilAttnRefIdeal.Facts] [hPre_dil_finite : Cert.Pre_dil_finite.Facts] : Prop :=
  ∀ (m : (ℓ : Loc Cert.DilAttnRefIdeal.nD Cert.DilAttnRefIdeal.τ Cert.DilAttnRefIdeal.sig) → Buf (Elt Ideal) ℓ) (g : Dev Cert.DilAttnRefIdeal.nD → PrngReg), Pre_DilAttnRefIdeal_dil_finite m →
    θ_run (Cert.DilAttnRefIdeal.defs (F := Ideal)) (onTc (τ := Cert.DilAttnRefIdeal.τ) (Cert.DilAttnRefIdeal.main (F := Ideal))) ⟨m, fun _ => 0, g⟩ (fun r => (∀ c : Dev Cert.DilAttnRefIdeal.nD,
      r.2.mem ((c.tc : Thread Cert.DilAttnRefIdeal.nD Cert.DilAttnRefIdeal.τ).loc Cert.DilAttnRefIdeal.main_arg0) = m ((c.tc : Thread Cert.DilAttnRefIdeal.nD Cert.DilAttnRefIdeal.τ).loc Cert.DilAttnRefIdeal.main_arg0)
      ∧ r.2.mem ((c.tc : Thread Cert.DilAttnRefIdeal.nD Cert.DilAttnRefIdeal.τ).loc Cert.DilAttnRefIdeal.main_arg1) = m ((c.tc : Thread Cert.DilAttnRefIdeal.nD Cert.DilAttnRefIdeal.τ).loc Cert.DilAttnRefIdeal.main_arg1)
      ∧ r.2.mem ((c.tc : Thread Cert.DilAttnRefIdeal.nD Cert.DilAttnRefIdeal.τ).loc Cert.DilAttnRefIdeal.main_arg2) = m ((c.tc : Thread Cert.DilAttnRefIdeal.nD Cert.DilAttnRefIdeal.τ).loc Cert.DilAttnRefIdeal.main_arg2)
      ∧ r.2.mem ((c.tc : Thread Cert.DilAttnRefIdeal.nD Cert.DilAttnRefIdeal.τ).loc Cert.DilAttnRefIdeal.main_arg3) = m ((c.tc : Thread Cert.DilAttnRefIdeal.nD Cert.DilAttnRefIdeal.τ).loc Cert.DilAttnRefIdeal.main_arg3))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActIdeal_pre_ffn_finite [hFfnActIdeal : Cert.FfnActIdeal.Facts] [hPre_ffn_finite : Cert.Pre_ffn_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_ffn_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnActRefIdeal_pre_ffn_finite [hFfnActRefIdeal : Cert.FfnActRefIdeal.Facts] [hPre_ffn_finite : Cert.Pre_ffn_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_ffn_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixOutDx [hMixOutDx : Cert.MixOutDx.Facts] : Prop :=
  ∀ (m : (ℓ : Loc Cert.MixOutDx.nD Cert.MixOutDx.τ Cert.MixOutDx.sig) → Buf (Elt Bits) ℓ) (g : Dev Cert.MixOutDx.nD → PrngReg), Pre_MixOutDx m →
    θ_run (Cert.MixOutDx.defs (F := Bits)) (onTc (τ := Cert.MixOutDx.τ) (Cert.MixOutDx.main (F := Bits))) ⟨m, fun _ => 0, g⟩ (fun r => (∀ c : Dev Cert.MixOutDx.nD,
      r.2.mem ((c.tc : Thread Cert.MixOutDx.nD Cert.MixOutDx.τ).loc Cert.MixOutDx.main_arg0) = m ((c.tc : Thread Cert.MixOutDx.nD Cert.MixOutDx.τ).loc Cert.MixOutDx.main_arg0)
      ∧ r.2.mem ((c.tc : Thread Cert.MixOutDx.nD Cert.MixOutDx.τ).loc Cert.MixOutDx.main_arg1) = m ((c.tc : Thread Cert.MixOutDx.nD Cert.MixOutDx.τ).loc Cert.MixOutDx.main_arg1))
      ∧ r.2.sem = fun _ => 0)

def quiescent_MixOutDxIdeal [hMixOutDxIdeal : Cert.MixOutDxIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg), Pre_MixOutDxIdeal m →
    θ_run (Cert.MixOutDxIdeal.defs (F := Ideal)) (onTc (τ := Cert.MixOutDxIdeal.τ) (Cert.MixOutDxIdeal.main (F := Ideal))) ⟨m, fun _ => 0, g⟩ (fun r => (∀ c : Dev Cert.MixOutDxIdeal.nD,
      r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
      ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ r.2.sem = fun _ => 0)

def quiescent_MixOutDxRefIdeal [hMixOutDxRefIdeal : Cert.MixOutDxRefIdeal.Facts] : Prop :=
  ∀ (m : (ℓ : Loc Cert.MixOutDxRefIdeal.nD Cert.MixOutDxRefIdeal.τ Cert.MixOutDxRefIdeal.sig) → Buf (Elt Ideal) ℓ) (g : Dev Cert.MixOutDxRefIdeal.nD → PrngReg), Pre_MixOutDxRefIdeal m →
    θ_run (Cert.MixOutDxRefIdeal.defs (F := Ideal)) (onTc (τ := Cert.MixOutDxRefIdeal.τ) (Cert.MixOutDxRefIdeal.main (F := Ideal))) ⟨m, fun _ => 0, g⟩ (fun r => (∀ c : Dev Cert.MixOutDxRefIdeal.nD,
      r.2.mem ((c.tc : Thread Cert.MixOutDxRefIdeal.nD Cert.MixOutDxRefIdeal.τ).loc Cert.MixOutDxRefIdeal.main_arg0) = m ((c.tc : Thread Cert.MixOutDxRefIdeal.nD Cert.MixOutDxRefIdeal.τ).loc Cert.MixOutDxRefIdeal.main_arg0)
      ∧ r.2.mem ((c.tc : Thread Cert.MixOutDxRefIdeal.nD Cert.MixOutDxRefIdeal.τ).loc Cert.MixOutDxRefIdeal.main_arg1) = m ((c.tc : Thread Cert.MixOutDxRefIdeal.nD Cert.MixOutDxRefIdeal.τ).loc Cert.MixOutDxRefIdeal.main_arg1))
      ∧ r.2.sem = fun _ => 0)

def quiescent_MixOutDw [hMixOutDw : Cert.MixOutDw.Facts] : Prop :=
  ∀ (m : (ℓ : Loc Cert.MixOutDw.nD Cert.MixOutDw.τ Cert.MixOutDw.sig) → Buf (Elt Bits) ℓ) (g : Dev Cert.MixOutDw.nD → PrngReg), Pre_MixOutDw m →
    θ_run (Cert.MixOutDw.defs (F := Bits)) (onTc (τ := Cert.MixOutDw.τ) (Cert.MixOutDw.main (F := Bits))) ⟨m, fun _ => 0, g⟩ (fun r => (∀ c : Dev Cert.MixOutDw.nD,
      r.2.mem ((c.tc : Thread Cert.MixOutDw.nD Cert.MixOutDw.τ).loc Cert.MixOutDw.main_arg0) = m ((c.tc : Thread Cert.MixOutDw.nD Cert.MixOutDw.τ).loc Cert.MixOutDw.main_arg0)
      ∧ r.2.mem ((c.tc : Thread Cert.MixOutDw.nD Cert.MixOutDw.τ).loc Cert.MixOutDw.main_arg1) = m ((c.tc : Thread Cert.MixOutDw.nD Cert.MixOutDw.τ).loc Cert.MixOutDw.main_arg1))
      ∧ r.2.sem = fun _ => 0)

def quiescent_MixOutDwIdeal [hMixOutDwIdeal : Cert.MixOutDwIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg), Pre_MixOutDwIdeal m →
    θ_run (Cert.MixOutDwIdeal.defs (F := Ideal)) (onTc (τ := Cert.MixOutDwIdeal.τ) (Cert.MixOutDwIdeal.main (F := Ideal))) ⟨m, fun _ => 0, g⟩ (fun r => (∀ c : Dev Cert.MixOutDwIdeal.nD,
      r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
      ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ r.2.sem = fun _ => 0)

def quiescent_MixOutDwRefIdeal [hMixOutDwRefIdeal : Cert.MixOutDwRefIdeal.Facts] : Prop :=
  ∀ (m : (ℓ : Loc Cert.MixOutDwRefIdeal.nD Cert.MixOutDwRefIdeal.τ Cert.MixOutDwRefIdeal.sig) → Buf (Elt Ideal) ℓ) (g : Dev Cert.MixOutDwRefIdeal.nD → PrngReg), Pre_MixOutDwRefIdeal m →
    θ_run (Cert.MixOutDwRefIdeal.defs (F := Ideal)) (onTc (τ := Cert.MixOutDwRefIdeal.τ) (Cert.MixOutDwRefIdeal.main (F := Ideal))) ⟨m, fun _ => 0, g⟩ (fun r => (∀ c : Dev Cert.MixOutDwRefIdeal.nD,
      r.2.mem ((c.tc : Thread Cert.MixOutDwRefIdeal.nD Cert.MixOutDwRefIdeal.τ).loc Cert.MixOutDwRefIdeal.main_arg0) = m ((c.tc : Thread Cert.MixOutDwRefIdeal.nD Cert.MixOutDwRefIdeal.τ).loc Cert.MixOutDwRefIdeal.main_arg0)
      ∧ r.2.mem ((c.tc : Thread Cert.MixOutDwRefIdeal.nD Cert.MixOutDwRefIdeal.τ).loc Cert.MixOutDwRefIdeal.main_arg1) = m ((c.tc : Thread Cert.MixOutDwRefIdeal.nD Cert.MixOutDwRefIdeal.τ).loc Cert.MixOutDwRefIdeal.main_arg1))
      ∧ r.2.sem = fun _ => 0)

def quiescent_DilInDx [hDilInDx : Cert.DilInDx.Facts] : Prop :=
  ∀ (m : (ℓ : Loc Cert.DilInDx.nD Cert.DilInDx.τ Cert.DilInDx.sig) → Buf (Elt Bits) ℓ) (g : Dev Cert.DilInDx.nD → PrngReg), Pre_DilInDx m →
    θ_run (Cert.DilInDx.defs (F := Bits)) (onTc (τ := Cert.DilInDx.τ) (Cert.DilInDx.main (F := Bits))) ⟨m, fun _ => 0, g⟩ (fun r => (∀ c : Dev Cert.DilInDx.nD,
      r.2.mem ((c.tc : Thread Cert.DilInDx.nD Cert.DilInDx.τ).loc Cert.DilInDx.main_arg0) = m ((c.tc : Thread Cert.DilInDx.nD Cert.DilInDx.τ).loc Cert.DilInDx.main_arg0)
      ∧ r.2.mem ((c.tc : Thread Cert.DilInDx.nD Cert.DilInDx.τ).loc Cert.DilInDx.main_arg1) = m ((c.tc : Thread Cert.DilInDx.nD Cert.DilInDx.τ).loc Cert.DilInDx.main_arg1))
      ∧ r.2.sem = fun _ => 0)

def quiescent_DilInDxIdeal [hDilInDxIdeal : Cert.DilInDxIdeal.Facts] : Prop :=
  ∀ (m : (ℓ : Loc Cert.DilInDxIdeal.nD Cert.DilInDxIdeal.τ Cert.DilInDxIdeal.sig) → Buf (Elt Ideal) ℓ) (g : Dev Cert.DilInDxIdeal.nD → PrngReg), Pre_DilInDxIdeal m →
    θ_run (Cert.DilInDxIdeal.defs (F := Ideal)) (onTc (τ := Cert.DilInDxIdeal.τ) (Cert.DilInDxIdeal.main (F := Ideal))) ⟨m, fun _ => 0, g⟩ (fun r => (∀ c : Dev Cert.DilInDxIdeal.nD,
      r.2.mem ((c.tc : Thread Cert.DilInDxIdeal.nD Cert.DilInDxIdeal.τ).loc Cert.DilInDxIdeal.main_arg0) = m ((c.tc : Thread Cert.DilInDxIdeal.nD Cert.DilInDxIdeal.τ).loc Cert.DilInDxIdeal.main_arg0)
      ∧ r.2.mem ((c.tc : Thread Cert.DilInDxIdeal.nD Cert.DilInDxIdeal.τ).loc Cert.DilInDxIdeal.main_arg1) = m ((c.tc : Thread Cert.DilInDxIdeal.nD Cert.DilInDxIdeal.τ).loc Cert.DilInDxIdeal.main_arg1))
      ∧ r.2.sem = fun _ => 0)

def quiescent_DilInDxRefIdeal [hDilInDxRefIdeal : Cert.DilInDxRefIdeal.Facts] : Prop :=
  ∀ (m : (ℓ : Loc Cert.DilInDxRefIdeal.nD Cert.DilInDxRefIdeal.τ Cert.DilInDxRefIdeal.sig) → Buf (Elt Ideal) ℓ) (g : Dev Cert.DilInDxRefIdeal.nD → PrngReg), Pre_DilInDxRefIdeal m →
    θ_run (Cert.DilInDxRefIdeal.defs (F := Ideal)) (onTc (τ := Cert.DilInDxRefIdeal.τ) (Cert.DilInDxRefIdeal.main (F := Ideal))) ⟨m, fun _ => 0, g⟩ (fun r => (∀ c : Dev Cert.DilInDxRefIdeal.nD,
      r.2.mem ((c.tc : Thread Cert.DilInDxRefIdeal.nD Cert.DilInDxRefIdeal.τ).loc Cert.DilInDxRefIdeal.main_arg0) = m ((c.tc : Thread Cert.DilInDxRefIdeal.nD Cert.DilInDxRefIdeal.τ).loc Cert.DilInDxRefIdeal.main_arg0)
      ∧ r.2.mem ((c.tc : Thread Cert.DilInDxRefIdeal.nD Cert.DilInDxRefIdeal.τ).loc Cert.DilInDxRefIdeal.main_arg1) = m ((c.tc : Thread Cert.DilInDxRefIdeal.nD Cert.DilInDxRefIdeal.τ).loc Cert.DilInDxRefIdeal.main_arg1))
      ∧ r.2.sem = fun _ => 0)

def quiescent_RecIn [hRecIn : Cert.RecIn.Facts] : Prop :=
  ∀ (m : (ℓ : Loc Cert.RecIn.nD Cert.RecIn.τ Cert.RecIn.sig) → Buf (Elt Bits) ℓ) (g : Dev Cert.RecIn.nD → PrngReg), Pre_RecIn m →
    θ_run (Cert.RecIn.defs (F := Bits)) (onTc (τ := Cert.RecIn.τ) (Cert.RecIn.main (F := Bits))) ⟨m, fun _ => 0, g⟩ (fun r => (∀ c : Dev Cert.RecIn.nD,
      r.2.mem ((c.tc : Thread Cert.RecIn.nD Cert.RecIn.τ).loc Cert.RecIn.main_arg0) = m ((c.tc : Thread Cert.RecIn.nD Cert.RecIn.τ).loc Cert.RecIn.main_arg0)
      ∧ r.2.mem ((c.tc : Thread Cert.RecIn.nD Cert.RecIn.τ).loc Cert.RecIn.main_arg1) = m ((c.tc : Thread Cert.RecIn.nD Cert.RecIn.τ).loc Cert.RecIn.main_arg1))
      ∧ r.2.sem = fun _ => 0)

def quiescent_RecInIdeal [hRecInIdeal : Cert.RecInIdeal.Facts] : Prop :=
  ∀ (m : (ℓ : Loc Cert.RecInIdeal.nD Cert.RecInIdeal.τ Cert.RecInIdeal.sig) → Buf (Elt Ideal) ℓ) (g : Dev Cert.RecInIdeal.nD → PrngReg), Pre_RecInIdeal m →
    θ_run (Cert.RecInIdeal.defs (F := Ideal)) (onTc (τ := Cert.RecInIdeal.τ) (Cert.RecInIdeal.main (F := Ideal))) ⟨m, fun _ => 0, g⟩ (fun r => (∀ c : Dev Cert.RecInIdeal.nD,
      r.2.mem ((c.tc : Thread Cert.RecInIdeal.nD Cert.RecInIdeal.τ).loc Cert.RecInIdeal.main_arg0) = m ((c.tc : Thread Cert.RecInIdeal.nD Cert.RecInIdeal.τ).loc Cert.RecInIdeal.main_arg0)
      ∧ r.2.mem ((c.tc : Thread Cert.RecInIdeal.nD Cert.RecInIdeal.τ).loc Cert.RecInIdeal.main_arg1) = m ((c.tc : Thread Cert.RecInIdeal.nD Cert.RecInIdeal.τ).loc Cert.RecInIdeal.main_arg1))
      ∧ r.2.sem = fun _ => 0)

def quiescent_RecInRefIdeal [hRecInRefIdeal : Cert.RecInRefIdeal.Facts] : Prop :=
  ∀ (m : (ℓ : Loc Cert.RecInRefIdeal.nD Cert.RecInRefIdeal.τ Cert.RecInRefIdeal.sig) → Buf (Elt Ideal) ℓ) (g : Dev Cert.RecInRefIdeal.nD → PrngReg), Pre_RecInRefIdeal m →
    θ_run (Cert.RecInRefIdeal.defs (F := Ideal)) (onTc (τ := Cert.RecInRefIdeal.τ) (Cert.RecInRefIdeal.main (F := Ideal))) ⟨m, fun _ => 0, g⟩ (fun r => (∀ c : Dev Cert.RecInRefIdeal.nD,
      r.2.mem ((c.tc : Thread Cert.RecInRefIdeal.nD Cert.RecInRefIdeal.τ).loc Cert.RecInRefIdeal.main_arg0) = m ((c.tc : Thread Cert.RecInRefIdeal.nD Cert.RecInRefIdeal.τ).loc Cert.RecInRefIdeal.main_arg0)
      ∧ r.2.mem ((c.tc : Thread Cert.RecInRefIdeal.nD Cert.RecInRefIdeal.τ).loc Cert.RecInRefIdeal.main_arg1) = m ((c.tc : Thread Cert.RecInRefIdeal.nD Cert.RecInRefIdeal.τ).loc Cert.RecInRefIdeal.main_arg1))
      ∧ r.2.sem = fun _ => 0)

def quiescent_RecInDx [hRecInDx : Cert.RecInDx.Facts] : Prop :=
  ∀ (m : (ℓ : Loc Cert.RecInDx.nD Cert.RecInDx.τ Cert.RecInDx.sig) → Buf (Elt Bits) ℓ) (g : Dev Cert.RecInDx.nD → PrngReg), Pre_RecInDx m →
    θ_run (Cert.RecInDx.defs (F := Bits)) (onTc (τ := Cert.RecInDx.τ) (Cert.RecInDx.main (F := Bits))) ⟨m, fun _ => 0, g⟩ (fun r => (∀ c : Dev Cert.RecInDx.nD,
      r.2.mem ((c.tc : Thread Cert.RecInDx.nD Cert.RecInDx.τ).loc Cert.RecInDx.main_arg0) = m ((c.tc : Thread Cert.RecInDx.nD Cert.RecInDx.τ).loc Cert.RecInDx.main_arg0)
      ∧ r.2.mem ((c.tc : Thread Cert.RecInDx.nD Cert.RecInDx.τ).loc Cert.RecInDx.main_arg1) = m ((c.tc : Thread Cert.RecInDx.nD Cert.RecInDx.τ).loc Cert.RecInDx.main_arg1))
      ∧ r.2.sem = fun _ => 0)

def quiescent_RecInDxIdeal [hRecInDxIdeal : Cert.RecInDxIdeal.Facts] : Prop :=
  ∀ (m : (ℓ : Loc Cert.RecInDxIdeal.nD Cert.RecInDxIdeal.τ Cert.RecInDxIdeal.sig) → Buf (Elt Ideal) ℓ) (g : Dev Cert.RecInDxIdeal.nD → PrngReg), Pre_RecInDxIdeal m →
    θ_run (Cert.RecInDxIdeal.defs (F := Ideal)) (onTc (τ := Cert.RecInDxIdeal.τ) (Cert.RecInDxIdeal.main (F := Ideal))) ⟨m, fun _ => 0, g⟩ (fun r => (∀ c : Dev Cert.RecInDxIdeal.nD,
      r.2.mem ((c.tc : Thread Cert.RecInDxIdeal.nD Cert.RecInDxIdeal.τ).loc Cert.RecInDxIdeal.main_arg0) = m ((c.tc : Thread Cert.RecInDxIdeal.nD Cert.RecInDxIdeal.τ).loc Cert.RecInDxIdeal.main_arg0)
      ∧ r.2.mem ((c.tc : Thread Cert.RecInDxIdeal.nD Cert.RecInDxIdeal.τ).loc Cert.RecInDxIdeal.main_arg1) = m ((c.tc : Thread Cert.RecInDxIdeal.nD Cert.RecInDxIdeal.τ).loc Cert.RecInDxIdeal.main_arg1))
      ∧ r.2.sem = fun _ => 0)

def quiescent_RecInDxRefIdeal [hRecInDxRefIdeal : Cert.RecInDxRefIdeal.Facts] : Prop :=
  ∀ (m : (ℓ : Loc Cert.RecInDxRefIdeal.nD Cert.RecInDxRefIdeal.τ Cert.RecInDxRefIdeal.sig) → Buf (Elt Ideal) ℓ) (g : Dev Cert.RecInDxRefIdeal.nD → PrngReg), Pre_RecInDxRefIdeal m →
    θ_run (Cert.RecInDxRefIdeal.defs (F := Ideal)) (onTc (τ := Cert.RecInDxRefIdeal.τ) (Cert.RecInDxRefIdeal.main (F := Ideal))) ⟨m, fun _ => 0, g⟩ (fun r => (∀ c : Dev Cert.RecInDxRefIdeal.nD,
      r.2.mem ((c.tc : Thread Cert.RecInDxRefIdeal.nD Cert.RecInDxRefIdeal.τ).loc Cert.RecInDxRefIdeal.main_arg0) = m ((c.tc : Thread Cert.RecInDxRefIdeal.nD Cert.RecInDxRefIdeal.τ).loc Cert.RecInDxRefIdeal.main_arg0)
      ∧ r.2.mem ((c.tc : Thread Cert.RecInDxRefIdeal.nD Cert.RecInDxRefIdeal.τ).loc Cert.RecInDxRefIdeal.main_arg1) = m ((c.tc : Thread Cert.RecInDxRefIdeal.nD Cert.RecInDxRefIdeal.τ).loc Cert.RecInDxRefIdeal.main_arg1))
      ∧ r.2.sem = fun _ => 0)

def quiescent_RecInDw [hRecInDw : Cert.RecInDw.Facts] : Prop :=
  ∀ (m : (ℓ : Loc Cert.RecInDw.nD Cert.RecInDw.τ Cert.RecInDw.sig) → Buf (Elt Bits) ℓ) (g : Dev Cert.RecInDw.nD → PrngReg), Pre_RecInDw m →
    θ_run (Cert.RecInDw.defs (F := Bits)) (onTc (τ := Cert.RecInDw.τ) (Cert.RecInDw.main (F := Bits))) ⟨m, fun _ => 0, g⟩ (fun r => (∀ c : Dev Cert.RecInDw.nD,
      r.2.mem ((c.tc : Thread Cert.RecInDw.nD Cert.RecInDw.τ).loc Cert.RecInDw.main_arg0) = m ((c.tc : Thread Cert.RecInDw.nD Cert.RecInDw.τ).loc Cert.RecInDw.main_arg0)
      ∧ r.2.mem ((c.tc : Thread Cert.RecInDw.nD Cert.RecInDw.τ).loc Cert.RecInDw.main_arg1) = m ((c.tc : Thread Cert.RecInDw.nD Cert.RecInDw.τ).loc Cert.RecInDw.main_arg1))
      ∧ r.2.sem = fun _ => 0)

def quiescent_RecInDwIdeal [hRecInDwIdeal : Cert.RecInDwIdeal.Facts] : Prop :=
  ∀ (m : (ℓ : Loc Cert.RecInDwIdeal.nD Cert.RecInDwIdeal.τ Cert.RecInDwIdeal.sig) → Buf (Elt Ideal) ℓ) (g : Dev Cert.RecInDwIdeal.nD → PrngReg), Pre_RecInDwIdeal m →
    θ_run (Cert.RecInDwIdeal.defs (F := Ideal)) (onTc (τ := Cert.RecInDwIdeal.τ) (Cert.RecInDwIdeal.main (F := Ideal))) ⟨m, fun _ => 0, g⟩ (fun r => (∀ c : Dev Cert.RecInDwIdeal.nD,
      r.2.mem ((c.tc : Thread Cert.RecInDwIdeal.nD Cert.RecInDwIdeal.τ).loc Cert.RecInDwIdeal.main_arg0) = m ((c.tc : Thread Cert.RecInDwIdeal.nD Cert.RecInDwIdeal.τ).loc Cert.RecInDwIdeal.main_arg0)
      ∧ r.2.mem ((c.tc : Thread Cert.RecInDwIdeal.nD Cert.RecInDwIdeal.τ).loc Cert.RecInDwIdeal.main_arg1) = m ((c.tc : Thread Cert.RecInDwIdeal.nD Cert.RecInDwIdeal.τ).loc Cert.RecInDwIdeal.main_arg1))
      ∧ r.2.sem = fun _ => 0)

def quiescent_RecInDwRefIdeal [hRecInDwRefIdeal : Cert.RecInDwRefIdeal.Facts] : Prop :=
  ∀ (m : (ℓ : Loc Cert.RecInDwRefIdeal.nD Cert.RecInDwRefIdeal.τ Cert.RecInDwRefIdeal.sig) → Buf (Elt Ideal) ℓ) (g : Dev Cert.RecInDwRefIdeal.nD → PrngReg), Pre_RecInDwRefIdeal m →
    θ_run (Cert.RecInDwRefIdeal.defs (F := Ideal)) (onTc (τ := Cert.RecInDwRefIdeal.τ) (Cert.RecInDwRefIdeal.main (F := Ideal))) ⟨m, fun _ => 0, g⟩ (fun r => (∀ c : Dev Cert.RecInDwRefIdeal.nD,
      r.2.mem ((c.tc : Thread Cert.RecInDwRefIdeal.nD Cert.RecInDwRefIdeal.τ).loc Cert.RecInDwRefIdeal.main_arg0) = m ((c.tc : Thread Cert.RecInDwRefIdeal.nD Cert.RecInDwRefIdeal.τ).loc Cert.RecInDwRefIdeal.main_arg0)
      ∧ r.2.mem ((c.tc : Thread Cert.RecInDwRefIdeal.nD Cert.RecInDwRefIdeal.τ).loc Cert.RecInDwRefIdeal.main_arg1) = m ((c.tc : Thread Cert.RecInDwRefIdeal.nD Cert.RecInDwRefIdeal.τ).loc Cert.RecInDwRefIdeal.main_arg1))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1))
      ∧ r.2.sem = fun _ => 0)

def quiescent_KvProjDx [hKvProjDx : Cert.KvProjDx.Facts] : Prop :=
  ∀ (m : (ℓ : Loc Cert.KvProjDx.nD Cert.KvProjDx.τ Cert.KvProjDx.sig) → Buf (Elt Bits) ℓ) (g : Dev Cert.KvProjDx.nD → PrngReg), Pre_KvProjDx m →
    θ_run (Cert.KvProjDx.defs (F := Bits)) (onTc (τ := Cert.KvProjDx.τ) (Cert.KvProjDx.main (F := Bits))) ⟨m, fun _ => 0, g⟩ (fun r => (∀ c : Dev Cert.KvProjDx.nD,
      r.2.mem ((c.tc : Thread Cert.KvProjDx.nD Cert.KvProjDx.τ).loc Cert.KvProjDx.main_arg0) = m ((c.tc : Thread Cert.KvProjDx.nD Cert.KvProjDx.τ).loc Cert.KvProjDx.main_arg0)
      ∧ r.2.mem ((c.tc : Thread Cert.KvProjDx.nD Cert.KvProjDx.τ).loc Cert.KvProjDx.main_arg1) = m ((c.tc : Thread Cert.KvProjDx.nD Cert.KvProjDx.τ).loc Cert.KvProjDx.main_arg1))
      ∧ r.2.sem = fun _ => 0)

def quiescent_KvProjDxIdeal [hKvProjDxIdeal : Cert.KvProjDxIdeal.Facts] : Prop :=
  ∀ (m : (ℓ : Loc Cert.KvProjDxIdeal.nD Cert.KvProjDxIdeal.τ Cert.KvProjDxIdeal.sig) → Buf (Elt Ideal) ℓ) (g : Dev Cert.KvProjDxIdeal.nD → PrngReg), Pre_KvProjDxIdeal m →
    θ_run (Cert.KvProjDxIdeal.defs (F := Ideal)) (onTc (τ := Cert.KvProjDxIdeal.τ) (Cert.KvProjDxIdeal.main (F := Ideal))) ⟨m, fun _ => 0, g⟩ (fun r => (∀ c : Dev Cert.KvProjDxIdeal.nD,
      r.2.mem ((c.tc : Thread Cert.KvProjDxIdeal.nD Cert.KvProjDxIdeal.τ).loc Cert.KvProjDxIdeal.main_arg0) = m ((c.tc : Thread Cert.KvProjDxIdeal.nD Cert.KvProjDxIdeal.τ).loc Cert.KvProjDxIdeal.main_arg0)
      ∧ r.2.mem ((c.tc : Thread Cert.KvProjDxIdeal.nD Cert.KvProjDxIdeal.τ).loc Cert.KvProjDxIdeal.main_arg1) = m ((c.tc : Thread Cert.KvProjDxIdeal.nD Cert.KvProjDxIdeal.τ).loc Cert.KvProjDxIdeal.main_arg1))
      ∧ r.2.sem = fun _ => 0)

def quiescent_KvProjDxRefIdeal [hKvProjDxRefIdeal : Cert.KvProjDxRefIdeal.Facts] : Prop :=
  ∀ (m : (ℓ : Loc Cert.KvProjDxRefIdeal.nD Cert.KvProjDxRefIdeal.τ Cert.KvProjDxRefIdeal.sig) → Buf (Elt Ideal) ℓ) (g : Dev Cert.KvProjDxRefIdeal.nD → PrngReg), Pre_KvProjDxRefIdeal m →
    θ_run (Cert.KvProjDxRefIdeal.defs (F := Ideal)) (onTc (τ := Cert.KvProjDxRefIdeal.τ) (Cert.KvProjDxRefIdeal.main (F := Ideal))) ⟨m, fun _ => 0, g⟩ (fun r => (∀ c : Dev Cert.KvProjDxRefIdeal.nD,
      r.2.mem ((c.tc : Thread Cert.KvProjDxRefIdeal.nD Cert.KvProjDxRefIdeal.τ).loc Cert.KvProjDxRefIdeal.main_arg0) = m ((c.tc : Thread Cert.KvProjDxRefIdeal.nD Cert.KvProjDxRefIdeal.τ).loc Cert.KvProjDxRefIdeal.main_arg0)
      ∧ r.2.mem ((c.tc : Thread Cert.KvProjDxRefIdeal.nD Cert.KvProjDxRefIdeal.τ).loc Cert.KvProjDxRefIdeal.main_arg1) = m ((c.tc : Thread Cert.KvProjDxRefIdeal.nD Cert.KvProjDxRefIdeal.τ).loc Cert.KvProjDxRefIdeal.main_arg1))
      ∧ r.2.sem = fun _ => 0)

def quiescent_KvProjDw [hKvProjDw : Cert.KvProjDw.Facts] : Prop :=
  ∀ (m : (ℓ : Loc Cert.KvProjDw.nD Cert.KvProjDw.τ Cert.KvProjDw.sig) → Buf (Elt Bits) ℓ) (g : Dev Cert.KvProjDw.nD → PrngReg), Pre_KvProjDw m →
    θ_run (Cert.KvProjDw.defs (F := Bits)) (onTc (τ := Cert.KvProjDw.τ) (Cert.KvProjDw.main (F := Bits))) ⟨m, fun _ => 0, g⟩ (fun r => (∀ c : Dev Cert.KvProjDw.nD,
      r.2.mem ((c.tc : Thread Cert.KvProjDw.nD Cert.KvProjDw.τ).loc Cert.KvProjDw.main_arg0) = m ((c.tc : Thread Cert.KvProjDw.nD Cert.KvProjDw.τ).loc Cert.KvProjDw.main_arg0)
      ∧ r.2.mem ((c.tc : Thread Cert.KvProjDw.nD Cert.KvProjDw.τ).loc Cert.KvProjDw.main_arg1) = m ((c.tc : Thread Cert.KvProjDw.nD Cert.KvProjDw.τ).loc Cert.KvProjDw.main_arg1))
      ∧ r.2.sem = fun _ => 0)

def quiescent_KvProjDwIdeal [hKvProjDwIdeal : Cert.KvProjDwIdeal.Facts] : Prop :=
  ∀ (m : (ℓ : Loc Cert.KvProjDwIdeal.nD Cert.KvProjDwIdeal.τ Cert.KvProjDwIdeal.sig) → Buf (Elt Ideal) ℓ) (g : Dev Cert.KvProjDwIdeal.nD → PrngReg), Pre_KvProjDwIdeal m →
    θ_run (Cert.KvProjDwIdeal.defs (F := Ideal)) (onTc (τ := Cert.KvProjDwIdeal.τ) (Cert.KvProjDwIdeal.main (F := Ideal))) ⟨m, fun _ => 0, g⟩ (fun r => (∀ c : Dev Cert.KvProjDwIdeal.nD,
      r.2.mem ((c.tc : Thread Cert.KvProjDwIdeal.nD Cert.KvProjDwIdeal.τ).loc Cert.KvProjDwIdeal.main_arg0) = m ((c.tc : Thread Cert.KvProjDwIdeal.nD Cert.KvProjDwIdeal.τ).loc Cert.KvProjDwIdeal.main_arg0)
      ∧ r.2.mem ((c.tc : Thread Cert.KvProjDwIdeal.nD Cert.KvProjDwIdeal.τ).loc Cert.KvProjDwIdeal.main_arg1) = m ((c.tc : Thread Cert.KvProjDwIdeal.nD Cert.KvProjDwIdeal.τ).loc Cert.KvProjDwIdeal.main_arg1))
      ∧ r.2.sem = fun _ => 0)

def quiescent_KvProjDwRefIdeal [hKvProjDwRefIdeal : Cert.KvProjDwRefIdeal.Facts] : Prop :=
  ∀ (m : (ℓ : Loc Cert.KvProjDwRefIdeal.nD Cert.KvProjDwRefIdeal.τ Cert.KvProjDwRefIdeal.sig) → Buf (Elt Ideal) ℓ) (g : Dev Cert.KvProjDwRefIdeal.nD → PrngReg), Pre_KvProjDwRefIdeal m →
    θ_run (Cert.KvProjDwRefIdeal.defs (F := Ideal)) (onTc (τ := Cert.KvProjDwRefIdeal.τ) (Cert.KvProjDwRefIdeal.main (F := Ideal))) ⟨m, fun _ => 0, g⟩ (fun r => (∀ c : Dev Cert.KvProjDwRefIdeal.nD,
      r.2.mem ((c.tc : Thread Cert.KvProjDwRefIdeal.nD Cert.KvProjDwRefIdeal.τ).loc Cert.KvProjDwRefIdeal.main_arg0) = m ((c.tc : Thread Cert.KvProjDwRefIdeal.nD Cert.KvProjDwRefIdeal.τ).loc Cert.KvProjDwRefIdeal.main_arg0)
      ∧ r.2.mem ((c.tc : Thread Cert.KvProjDwRefIdeal.nD Cert.KvProjDwRefIdeal.τ).loc Cert.KvProjDwRefIdeal.main_arg1) = m ((c.tc : Thread Cert.KvProjDwRefIdeal.nD Cert.KvProjDwRefIdeal.τ).loc Cert.KvProjDwRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemKvDx [hMemKvDx : Cert.MemKvDx.Facts] : Prop :=
  ∀ (m : (ℓ : Loc Cert.MemKvDx.nD Cert.MemKvDx.τ Cert.MemKvDx.sig) → Buf (Elt Bits) ℓ) (g : Dev Cert.MemKvDx.nD → PrngReg), Pre_MemKvDx m →
    θ_run (Cert.MemKvDx.defs (F := Bits)) (onTc (τ := Cert.MemKvDx.τ) (Cert.MemKvDx.main (F := Bits))) ⟨m, fun _ => 0, g⟩ (fun r => (∀ c : Dev Cert.MemKvDx.nD,
      r.2.mem ((c.tc : Thread Cert.MemKvDx.nD Cert.MemKvDx.τ).loc Cert.MemKvDx.main_arg0) = m ((c.tc : Thread Cert.MemKvDx.nD Cert.MemKvDx.τ).loc Cert.MemKvDx.main_arg0)
      ∧ r.2.mem ((c.tc : Thread Cert.MemKvDx.nD Cert.MemKvDx.τ).loc Cert.MemKvDx.main_arg1) = m ((c.tc : Thread Cert.MemKvDx.nD Cert.MemKvDx.τ).loc Cert.MemKvDx.main_arg1))
      ∧ r.2.sem = fun _ => 0)

def quiescent_MemKvDxIdeal [hMemKvDxIdeal : Cert.MemKvDxIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg), Pre_MemKvDxIdeal m →
    θ_run (Cert.MemKvDxIdeal.defs (F := Ideal)) (onTc (τ := Cert.MemKvDxIdeal.τ) (Cert.MemKvDxIdeal.main (F := Ideal))) ⟨m, fun _ => 0, g⟩ (fun r => (∀ c : Dev Cert.MemKvDxIdeal.nD,
      r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
      ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ r.2.sem = fun _ => 0)

def quiescent_MemKvDxRefIdeal [hMemKvDxRefIdeal : Cert.MemKvDxRefIdeal.Facts] : Prop :=
  ∀ (m : (ℓ : Loc Cert.MemKvDxRefIdeal.nD Cert.MemKvDxRefIdeal.τ Cert.MemKvDxRefIdeal.sig) → Buf (Elt Ideal) ℓ) (g : Dev Cert.MemKvDxRefIdeal.nD → PrngReg), Pre_MemKvDxRefIdeal m →
    θ_run (Cert.MemKvDxRefIdeal.defs (F := Ideal)) (onTc (τ := Cert.MemKvDxRefIdeal.τ) (Cert.MemKvDxRefIdeal.main (F := Ideal))) ⟨m, fun _ => 0, g⟩ (fun r => (∀ c : Dev Cert.MemKvDxRefIdeal.nD,
      r.2.mem ((c.tc : Thread Cert.MemKvDxRefIdeal.nD Cert.MemKvDxRefIdeal.τ).loc Cert.MemKvDxRefIdeal.main_arg0) = m ((c.tc : Thread Cert.MemKvDxRefIdeal.nD Cert.MemKvDxRefIdeal.τ).loc Cert.MemKvDxRefIdeal.main_arg0)
      ∧ r.2.mem ((c.tc : Thread Cert.MemKvDxRefIdeal.nD Cert.MemKvDxRefIdeal.τ).loc Cert.MemKvDxRefIdeal.main_arg1) = m ((c.tc : Thread Cert.MemKvDxRefIdeal.nD Cert.MemKvDxRefIdeal.τ).loc Cert.MemKvDxRefIdeal.main_arg1))
      ∧ r.2.sem = fun _ => 0)

def quiescent_MemKvDw [hMemKvDw : Cert.MemKvDw.Facts] : Prop :=
  ∀ (m : (ℓ : Loc Cert.MemKvDw.nD Cert.MemKvDw.τ Cert.MemKvDw.sig) → Buf (Elt Bits) ℓ) (g : Dev Cert.MemKvDw.nD → PrngReg), Pre_MemKvDw m →
    θ_run (Cert.MemKvDw.defs (F := Bits)) (onTc (τ := Cert.MemKvDw.τ) (Cert.MemKvDw.main (F := Bits))) ⟨m, fun _ => 0, g⟩ (fun r => (∀ c : Dev Cert.MemKvDw.nD,
      r.2.mem ((c.tc : Thread Cert.MemKvDw.nD Cert.MemKvDw.τ).loc Cert.MemKvDw.main_arg0) = m ((c.tc : Thread Cert.MemKvDw.nD Cert.MemKvDw.τ).loc Cert.MemKvDw.main_arg0)
      ∧ r.2.mem ((c.tc : Thread Cert.MemKvDw.nD Cert.MemKvDw.τ).loc Cert.MemKvDw.main_arg1) = m ((c.tc : Thread Cert.MemKvDw.nD Cert.MemKvDw.τ).loc Cert.MemKvDw.main_arg1))
      ∧ r.2.sem = fun _ => 0)

def quiescent_MemKvDwIdeal [hMemKvDwIdeal : Cert.MemKvDwIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg), Pre_MemKvDwIdeal m →
    θ_run (Cert.MemKvDwIdeal.defs (F := Ideal)) (onTc (τ := Cert.MemKvDwIdeal.τ) (Cert.MemKvDwIdeal.main (F := Ideal))) ⟨m, fun _ => 0, g⟩ (fun r => (∀ c : Dev Cert.MemKvDwIdeal.nD,
      r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
      ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ r.2.sem = fun _ => 0)

def quiescent_MemKvDwRefIdeal [hMemKvDwRefIdeal : Cert.MemKvDwRefIdeal.Facts] : Prop :=
  ∀ (m : (ℓ : Loc Cert.MemKvDwRefIdeal.nD Cert.MemKvDwRefIdeal.τ Cert.MemKvDwRefIdeal.sig) → Buf (Elt Ideal) ℓ) (g : Dev Cert.MemKvDwRefIdeal.nD → PrngReg), Pre_MemKvDwRefIdeal m →
    θ_run (Cert.MemKvDwRefIdeal.defs (F := Ideal)) (onTc (τ := Cert.MemKvDwRefIdeal.τ) (Cert.MemKvDwRefIdeal.main (F := Ideal))) ⟨m, fun _ => 0, g⟩ (fun r => (∀ c : Dev Cert.MemKvDwRefIdeal.nD,
      r.2.mem ((c.tc : Thread Cert.MemKvDwRefIdeal.nD Cert.MemKvDwRefIdeal.τ).loc Cert.MemKvDwRefIdeal.main_arg0) = m ((c.tc : Thread Cert.MemKvDwRefIdeal.nD Cert.MemKvDwRefIdeal.τ).loc Cert.MemKvDwRefIdeal.main_arg0)
      ∧ r.2.mem ((c.tc : Thread Cert.MemKvDwRefIdeal.nD Cert.MemKvDwRefIdeal.τ).loc Cert.MemKvDwRefIdeal.main_arg1) = m ((c.tc : Thread Cert.MemKvDwRefIdeal.nD Cert.MemKvDwRefIdeal.τ).loc Cert.MemKvDwRefIdeal.main_arg1))
      ∧ r.2.sem = fun _ => 0)

def quiescent_RecMem [hRecMem : Cert.RecMem.Facts] : Prop :=
  ∀ (m : (ℓ : Loc Cert.RecMem.nD Cert.RecMem.τ Cert.RecMem.sig) → Buf (Elt Bits) ℓ) (g : Dev Cert.RecMem.nD → PrngReg), Pre_RecMem m →
    θ_run (Cert.RecMem.defs (F := Bits)) (onTc (τ := Cert.RecMem.τ) (Cert.RecMem.main (F := Bits))) ⟨m, fun _ => 0, g⟩ (fun r => (∀ c : Dev Cert.RecMem.nD,
      r.2.mem ((c.tc : Thread Cert.RecMem.nD Cert.RecMem.τ).loc Cert.RecMem.main_arg0) = m ((c.tc : Thread Cert.RecMem.nD Cert.RecMem.τ).loc Cert.RecMem.main_arg0)
      ∧ r.2.mem ((c.tc : Thread Cert.RecMem.nD Cert.RecMem.τ).loc Cert.RecMem.main_arg1) = m ((c.tc : Thread Cert.RecMem.nD Cert.RecMem.τ).loc Cert.RecMem.main_arg1))
      ∧ r.2.sem = fun _ => 0)

def quiescent_RecMemIdeal [hRecMemIdeal : Cert.RecMemIdeal.Facts] : Prop :=
  ∀ (m : (ℓ : Loc Cert.RecMemIdeal.nD Cert.RecMemIdeal.τ Cert.RecMemIdeal.sig) → Buf (Elt Ideal) ℓ) (g : Dev Cert.RecMemIdeal.nD → PrngReg), Pre_RecMemIdeal m →
    θ_run (Cert.RecMemIdeal.defs (F := Ideal)) (onTc (τ := Cert.RecMemIdeal.τ) (Cert.RecMemIdeal.main (F := Ideal))) ⟨m, fun _ => 0, g⟩ (fun r => (∀ c : Dev Cert.RecMemIdeal.nD,
      r.2.mem ((c.tc : Thread Cert.RecMemIdeal.nD Cert.RecMemIdeal.τ).loc Cert.RecMemIdeal.main_arg0) = m ((c.tc : Thread Cert.RecMemIdeal.nD Cert.RecMemIdeal.τ).loc Cert.RecMemIdeal.main_arg0)
      ∧ r.2.mem ((c.tc : Thread Cert.RecMemIdeal.nD Cert.RecMemIdeal.τ).loc Cert.RecMemIdeal.main_arg1) = m ((c.tc : Thread Cert.RecMemIdeal.nD Cert.RecMemIdeal.τ).loc Cert.RecMemIdeal.main_arg1))
      ∧ r.2.sem = fun _ => 0)

def quiescent_RecMemRefIdeal [hRecMemRefIdeal : Cert.RecMemRefIdeal.Facts] : Prop :=
  ∀ (m : (ℓ : Loc Cert.RecMemRefIdeal.nD Cert.RecMemRefIdeal.τ Cert.RecMemRefIdeal.sig) → Buf (Elt Ideal) ℓ) (g : Dev Cert.RecMemRefIdeal.nD → PrngReg), Pre_RecMemRefIdeal m →
    θ_run (Cert.RecMemRefIdeal.defs (F := Ideal)) (onTc (τ := Cert.RecMemRefIdeal.τ) (Cert.RecMemRefIdeal.main (F := Ideal))) ⟨m, fun _ => 0, g⟩ (fun r => (∀ c : Dev Cert.RecMemRefIdeal.nD,
      r.2.mem ((c.tc : Thread Cert.RecMemRefIdeal.nD Cert.RecMemRefIdeal.τ).loc Cert.RecMemRefIdeal.main_arg0) = m ((c.tc : Thread Cert.RecMemRefIdeal.nD Cert.RecMemRefIdeal.τ).loc Cert.RecMemRefIdeal.main_arg0)
      ∧ r.2.mem ((c.tc : Thread Cert.RecMemRefIdeal.nD Cert.RecMemRefIdeal.τ).loc Cert.RecMemRefIdeal.main_arg1) = m ((c.tc : Thread Cert.RecMemRefIdeal.nD Cert.RecMemRefIdeal.τ).loc Cert.RecMemRefIdeal.main_arg1))
      ∧ r.2.sem = fun _ => 0)

def quiescent_DilMem [hDilMem : Cert.DilMem.Facts] : Prop :=
  ∀ (m : (ℓ : Loc Cert.DilMem.nD Cert.DilMem.τ Cert.DilMem.sig) → Buf (Elt Bits) ℓ) (g : Dev Cert.DilMem.nD → PrngReg), Pre_DilMem m →
    θ_run (Cert.DilMem.defs (F := Bits)) (onTc (τ := Cert.DilMem.τ) (Cert.DilMem.main (F := Bits))) ⟨m, fun _ => 0, g⟩ (fun r => (∀ c : Dev Cert.DilMem.nD,
      r.2.mem ((c.tc : Thread Cert.DilMem.nD Cert.DilMem.τ).loc Cert.DilMem.main_arg0) = m ((c.tc : Thread Cert.DilMem.nD Cert.DilMem.τ).loc Cert.DilMem.main_arg0)
      ∧ r.2.mem ((c.tc : Thread Cert.DilMem.nD Cert.DilMem.τ).loc Cert.DilMem.main_arg1) = m ((c.tc : Thread Cert.DilMem.nD Cert.DilMem.τ).loc Cert.DilMem.main_arg1))
      ∧ r.2.sem = fun _ => 0)

def quiescent_DilMemIdeal [hDilMemIdeal : Cert.DilMemIdeal.Facts] : Prop :=
  ∀ (m : (ℓ : Loc Cert.DilMemIdeal.nD Cert.DilMemIdeal.τ Cert.DilMemIdeal.sig) → Buf (Elt Ideal) ℓ) (g : Dev Cert.DilMemIdeal.nD → PrngReg), Pre_DilMemIdeal m →
    θ_run (Cert.DilMemIdeal.defs (F := Ideal)) (onTc (τ := Cert.DilMemIdeal.τ) (Cert.DilMemIdeal.main (F := Ideal))) ⟨m, fun _ => 0, g⟩ (fun r => (∀ c : Dev Cert.DilMemIdeal.nD,
      r.2.mem ((c.tc : Thread Cert.DilMemIdeal.nD Cert.DilMemIdeal.τ).loc Cert.DilMemIdeal.main_arg0) = m ((c.tc : Thread Cert.DilMemIdeal.nD Cert.DilMemIdeal.τ).loc Cert.DilMemIdeal.main_arg0)
      ∧ r.2.mem ((c.tc : Thread Cert.DilMemIdeal.nD Cert.DilMemIdeal.τ).loc Cert.DilMemIdeal.main_arg1) = m ((c.tc : Thread Cert.DilMemIdeal.nD Cert.DilMemIdeal.τ).loc Cert.DilMemIdeal.main_arg1))
      ∧ r.2.sem = fun _ => 0)

def quiescent_DilMemRefIdeal [hDilMemRefIdeal : Cert.DilMemRefIdeal.Facts] : Prop :=
  ∀ (m : (ℓ : Loc Cert.DilMemRefIdeal.nD Cert.DilMemRefIdeal.τ Cert.DilMemRefIdeal.sig) → Buf (Elt Ideal) ℓ) (g : Dev Cert.DilMemRefIdeal.nD → PrngReg), Pre_DilMemRefIdeal m →
    θ_run (Cert.DilMemRefIdeal.defs (F := Ideal)) (onTc (τ := Cert.DilMemRefIdeal.τ) (Cert.DilMemRefIdeal.main (F := Ideal))) ⟨m, fun _ => 0, g⟩ (fun r => (∀ c : Dev Cert.DilMemRefIdeal.nD,
      r.2.mem ((c.tc : Thread Cert.DilMemRefIdeal.nD Cert.DilMemRefIdeal.τ).loc Cert.DilMemRefIdeal.main_arg0) = m ((c.tc : Thread Cert.DilMemRefIdeal.nD Cert.DilMemRefIdeal.τ).loc Cert.DilMemRefIdeal.main_arg0)
      ∧ r.2.mem ((c.tc : Thread Cert.DilMemRefIdeal.nD Cert.DilMemRefIdeal.τ).loc Cert.DilMemRefIdeal.main_arg1) = m ((c.tc : Thread Cert.DilMemRefIdeal.nD Cert.DilMemRefIdeal.τ).loc Cert.DilMemRefIdeal.main_arg1))
      ∧ r.2.sem = fun _ => 0)

def quiescent_DilMemGrad [hDilMemGrad : Cert.DilMemGrad.Facts] : Prop :=
  ∀ (m : (ℓ : Loc Cert.DilMemGrad.nD Cert.DilMemGrad.τ Cert.DilMemGrad.sig) → Buf (Elt Bits) ℓ) (g : Dev Cert.DilMemGrad.nD → PrngReg), Pre_DilMemGrad m →
    θ_run (Cert.DilMemGrad.defs (F := Bits)) (onTc (τ := Cert.DilMemGrad.τ) (Cert.DilMemGrad.main (F := Bits))) ⟨m, fun _ => 0, g⟩ (fun r => (∀ c : Dev Cert.DilMemGrad.nD,
      r.2.mem ((c.tc : Thread Cert.DilMemGrad.nD Cert.DilMemGrad.τ).loc Cert.DilMemGrad.main_arg0) = m ((c.tc : Thread Cert.DilMemGrad.nD Cert.DilMemGrad.τ).loc Cert.DilMemGrad.main_arg0)
      ∧ r.2.mem ((c.tc : Thread Cert.DilMemGrad.nD Cert.DilMemGrad.τ).loc Cert.DilMemGrad.main_arg1) = m ((c.tc : Thread Cert.DilMemGrad.nD Cert.DilMemGrad.τ).loc Cert.DilMemGrad.main_arg1)
      ∧ r.2.mem ((c.tc : Thread Cert.DilMemGrad.nD Cert.DilMemGrad.τ).loc Cert.DilMemGrad.main_arg2) = m ((c.tc : Thread Cert.DilMemGrad.nD Cert.DilMemGrad.τ).loc Cert.DilMemGrad.main_arg2))
      ∧ r.2.sem = fun _ => 0)

def quiescent_DilMemGradIdeal [hDilMemGradIdeal : Cert.DilMemGradIdeal.Facts] : Prop :=
  ∀ (m : (ℓ : Loc Cert.DilMemGradIdeal.nD Cert.DilMemGradIdeal.τ Cert.DilMemGradIdeal.sig) → Buf (Elt Ideal) ℓ) (g : Dev Cert.DilMemGradIdeal.nD → PrngReg), Pre_DilMemGradIdeal m →
    θ_run (Cert.DilMemGradIdeal.defs (F := Ideal)) (onTc (τ := Cert.DilMemGradIdeal.τ) (Cert.DilMemGradIdeal.main (F := Ideal))) ⟨m, fun _ => 0, g⟩ (fun r => (∀ c : Dev Cert.DilMemGradIdeal.nD,
      r.2.mem ((c.tc : Thread Cert.DilMemGradIdeal.nD Cert.DilMemGradIdeal.τ).loc Cert.DilMemGradIdeal.main_arg0) = m ((c.tc : Thread Cert.DilMemGradIdeal.nD Cert.DilMemGradIdeal.τ).loc Cert.DilMemGradIdeal.main_arg0)
      ∧ r.2.mem ((c.tc : Thread Cert.DilMemGradIdeal.nD Cert.DilMemGradIdeal.τ).loc Cert.DilMemGradIdeal.main_arg1) = m ((c.tc : Thread Cert.DilMemGradIdeal.nD Cert.DilMemGradIdeal.τ).loc Cert.DilMemGradIdeal.main_arg1)
      ∧ r.2.mem ((c.tc : Thread Cert.DilMemGradIdeal.nD Cert.DilMemGradIdeal.τ).loc Cert.DilMemGradIdeal.main_arg2) = m ((c.tc : Thread Cert.DilMemGradIdeal.nD Cert.DilMemGradIdeal.τ).loc Cert.DilMemGradIdeal.main_arg2))
      ∧ r.2.sem = fun _ => 0)

def quiescent_DilMemGradIdeal_pre_dil_mem_finite [hDilMemGradIdeal : Cert.DilMemGradIdeal.Facts] [hPre_dil_mem_finite : Cert.Pre_dil_mem_finite.Facts] : Prop :=
  ∀ (m : (ℓ : Loc Cert.DilMemGradIdeal.nD Cert.DilMemGradIdeal.τ Cert.DilMemGradIdeal.sig) → Buf (Elt Ideal) ℓ) (g : Dev Cert.DilMemGradIdeal.nD → PrngReg), Pre_DilMemGradIdeal_dil_mem_finite m →
    θ_run (Cert.DilMemGradIdeal.defs (F := Ideal)) (onTc (τ := Cert.DilMemGradIdeal.τ) (Cert.DilMemGradIdeal.main (F := Ideal))) ⟨m, fun _ => 0, g⟩ (fun r => (∀ c : Dev Cert.DilMemGradIdeal.nD,
      r.2.mem ((c.tc : Thread Cert.DilMemGradIdeal.nD Cert.DilMemGradIdeal.τ).loc Cert.DilMemGradIdeal.main_arg0) = m ((c.tc : Thread Cert.DilMemGradIdeal.nD Cert.DilMemGradIdeal.τ).loc Cert.DilMemGradIdeal.main_arg0)
      ∧ r.2.mem ((c.tc : Thread Cert.DilMemGradIdeal.nD Cert.DilMemGradIdeal.τ).loc Cert.DilMemGradIdeal.main_arg1) = m ((c.tc : Thread Cert.DilMemGradIdeal.nD Cert.DilMemGradIdeal.τ).loc Cert.DilMemGradIdeal.main_arg1)
      ∧ r.2.mem ((c.tc : Thread Cert.DilMemGradIdeal.nD Cert.DilMemGradIdeal.τ).loc Cert.DilMemGradIdeal.main_arg2) = m ((c.tc : Thread Cert.DilMemGradIdeal.nD Cert.DilMemGradIdeal.τ).loc Cert.DilMemGradIdeal.main_arg2))
      ∧ r.2.sem = fun _ => 0)

def quiescent_DilMemGradRefIdeal [hDilMemGradRefIdeal : Cert.DilMemGradRefIdeal.Facts] : Prop :=
  ∀ (m : (ℓ : Loc Cert.DilMemGradRefIdeal.nD Cert.DilMemGradRefIdeal.τ Cert.DilMemGradRefIdeal.sig) → Buf (Elt Ideal) ℓ) (g : Dev Cert.DilMemGradRefIdeal.nD → PrngReg), Pre_DilMemGradRefIdeal m →
    θ_run (Cert.DilMemGradRefIdeal.defs (F := Ideal)) (onTc (τ := Cert.DilMemGradRefIdeal.τ) (Cert.DilMemGradRefIdeal.main (F := Ideal))) ⟨m, fun _ => 0, g⟩ (fun r => (∀ c : Dev Cert.DilMemGradRefIdeal.nD,
      r.2.mem ((c.tc : Thread Cert.DilMemGradRefIdeal.nD Cert.DilMemGradRefIdeal.τ).loc Cert.DilMemGradRefIdeal.main_arg0) = m ((c.tc : Thread Cert.DilMemGradRefIdeal.nD Cert.DilMemGradRefIdeal.τ).loc Cert.DilMemGradRefIdeal.main_arg0)
      ∧ r.2.mem ((c.tc : Thread Cert.DilMemGradRefIdeal.nD Cert.DilMemGradRefIdeal.τ).loc Cert.DilMemGradRefIdeal.main_arg1) = m ((c.tc : Thread Cert.DilMemGradRefIdeal.nD Cert.DilMemGradRefIdeal.τ).loc Cert.DilMemGradRefIdeal.main_arg1)
      ∧ r.2.mem ((c.tc : Thread Cert.DilMemGradRefIdeal.nD Cert.DilMemGradRefIdeal.τ).loc Cert.DilMemGradRefIdeal.main_arg2) = m ((c.tc : Thread Cert.DilMemGradRefIdeal.nD Cert.DilMemGradRefIdeal.τ).loc Cert.DilMemGradRefIdeal.main_arg2))
      ∧ r.2.sem = fun _ => 0)

def quiescent_DilMemGradRefIdeal_pre_dil_mem_finite [hDilMemGradRefIdeal : Cert.DilMemGradRefIdeal.Facts] [hPre_dil_mem_finite : Cert.Pre_dil_mem_finite.Facts] : Prop :=
  ∀ (m : (ℓ : Loc Cert.DilMemGradRefIdeal.nD Cert.DilMemGradRefIdeal.τ Cert.DilMemGradRefIdeal.sig) → Buf (Elt Ideal) ℓ) (g : Dev Cert.DilMemGradRefIdeal.nD → PrngReg), Pre_DilMemGradRefIdeal_dil_mem_finite m →
    θ_run (Cert.DilMemGradRefIdeal.defs (F := Ideal)) (onTc (τ := Cert.DilMemGradRefIdeal.τ) (Cert.DilMemGradRefIdeal.main (F := Ideal))) ⟨m, fun _ => 0, g⟩ (fun r => (∀ c : Dev Cert.DilMemGradRefIdeal.nD,
      r.2.mem ((c.tc : Thread Cert.DilMemGradRefIdeal.nD Cert.DilMemGradRefIdeal.τ).loc Cert.DilMemGradRefIdeal.main_arg0) = m ((c.tc : Thread Cert.DilMemGradRefIdeal.nD Cert.DilMemGradRefIdeal.τ).loc Cert.DilMemGradRefIdeal.main_arg0)
      ∧ r.2.mem ((c.tc : Thread Cert.DilMemGradRefIdeal.nD Cert.DilMemGradRefIdeal.τ).loc Cert.DilMemGradRefIdeal.main_arg1) = m ((c.tc : Thread Cert.DilMemGradRefIdeal.nD Cert.DilMemGradRefIdeal.τ).loc Cert.DilMemGradRefIdeal.main_arg1)
      ∧ r.2.mem ((c.tc : Thread Cert.DilMemGradRefIdeal.nD Cert.DilMemGradRefIdeal.τ).loc Cert.DilMemGradRefIdeal.main_arg2) = m ((c.tc : Thread Cert.DilMemGradRefIdeal.nD Cert.DilMemGradRefIdeal.τ).loc Cert.DilMemGradRefIdeal.main_arg2))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ r.2.sem = fun _ => 0)

def quiescent_PreNormRefIdeal [hPreNormRefIdeal : Cert.PreNormRefIdeal.Facts] : Prop :=
  ∀ (m : (ℓ : Loc Cert.PreNormRefIdeal.nD Cert.PreNormRefIdeal.τ Cert.PreNormRefIdeal.sig) → Buf (Elt Ideal) ℓ) (g : Dev Cert.PreNormRefIdeal.nD → PrngReg), Pre_PreNormRefIdeal m →
    θ_run (Cert.PreNormRefIdeal.defs (F := Ideal)) (onTc (τ := Cert.PreNormRefIdeal.τ) (Cert.PreNormRefIdeal.main (F := Ideal))) ⟨m, fun _ => 0, g⟩ (fun r => (∀ c : Dev Cert.PreNormRefIdeal.nD,
      r.2.mem ((c.tc : Thread Cert.PreNormRefIdeal.nD Cert.PreNormRefIdeal.τ).loc Cert.PreNormRefIdeal.main_arg0) = m ((c.tc : Thread Cert.PreNormRefIdeal.nD Cert.PreNormRefIdeal.τ).loc Cert.PreNormRefIdeal.main_arg0)
      ∧ r.2.mem ((c.tc : Thread Cert.PreNormRefIdeal.nD Cert.PreNormRefIdeal.τ).loc Cert.PreNormRefIdeal.main_arg1) = m ((c.tc : Thread Cert.PreNormRefIdeal.nD Cert.PreNormRefIdeal.τ).loc Cert.PreNormRefIdeal.main_arg1))
      ∧ r.2.sem = fun _ => 0)

def quiescent_PostNorm [hPostNorm : Cert.PostNorm.Facts] : Prop :=
  ∀ (m : (ℓ : Loc Cert.PostNorm.nD Cert.PostNorm.τ Cert.PostNorm.sig) → Buf (Elt Bits) ℓ) (g : Dev Cert.PostNorm.nD → PrngReg), Pre_PostNorm m →
    θ_run (Cert.PostNorm.defs (F := Bits)) (onTc (τ := Cert.PostNorm.τ) (Cert.PostNorm.main (F := Bits))) ⟨m, fun _ => 0, g⟩ (fun r => (∀ c : Dev Cert.PostNorm.nD,
      r.2.mem ((c.tc : Thread Cert.PostNorm.nD Cert.PostNorm.τ).loc Cert.PostNorm.main_arg0) = m ((c.tc : Thread Cert.PostNorm.nD Cert.PostNorm.τ).loc Cert.PostNorm.main_arg0)
      ∧ r.2.mem ((c.tc : Thread Cert.PostNorm.nD Cert.PostNorm.τ).loc Cert.PostNorm.main_arg1) = m ((c.tc : Thread Cert.PostNorm.nD Cert.PostNorm.τ).loc Cert.PostNorm.main_arg1)
      ∧ r.2.mem ((c.tc : Thread Cert.PostNorm.nD Cert.PostNorm.τ).loc Cert.PostNorm.main_arg2) = m ((c.tc : Thread Cert.PostNorm.nD Cert.PostNorm.τ).loc Cert.PostNorm.main_arg2))
      ∧ r.2.sem = fun _ => 0)

def quiescent_PostNormIdeal [hPostNormIdeal : Cert.PostNormIdeal.Facts] : Prop :=
  ∀ (m : (ℓ : Loc Cert.PostNormIdeal.nD Cert.PostNormIdeal.τ Cert.PostNormIdeal.sig) → Buf (Elt Ideal) ℓ) (g : Dev Cert.PostNormIdeal.nD → PrngReg), Pre_PostNormIdeal m →
    θ_run (Cert.PostNormIdeal.defs (F := Ideal)) (onTc (τ := Cert.PostNormIdeal.τ) (Cert.PostNormIdeal.main (F := Ideal))) ⟨m, fun _ => 0, g⟩ (fun r => (∀ c : Dev Cert.PostNormIdeal.nD,
      r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
      ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
      ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ r.2.sem = fun _ => 0)

def quiescent_PostNormRefIdeal [hPostNormRefIdeal : Cert.PostNormRefIdeal.Facts] : Prop :=
  ∀ (m : (ℓ : Loc Cert.PostNormRefIdeal.nD Cert.PostNormRefIdeal.τ Cert.PostNormRefIdeal.sig) → Buf (Elt Ideal) ℓ) (g : Dev Cert.PostNormRefIdeal.nD → PrngReg), Pre_PostNormRefIdeal m →
    θ_run (Cert.PostNormRefIdeal.defs (F := Ideal)) (onTc (τ := Cert.PostNormRefIdeal.τ) (Cert.PostNormRefIdeal.main (F := Ideal))) ⟨m, fun _ => 0, g⟩ (fun r => (∀ c : Dev Cert.PostNormRefIdeal.nD,
      r.2.mem ((c.tc : Thread Cert.PostNormRefIdeal.nD Cert.PostNormRefIdeal.τ).loc Cert.PostNormRefIdeal.main_arg0) = m ((c.tc : Thread Cert.PostNormRefIdeal.nD Cert.PostNormRefIdeal.τ).loc Cert.PostNormRefIdeal.main_arg0)
      ∧ r.2.mem ((c.tc : Thread Cert.PostNormRefIdeal.nD Cert.PostNormRefIdeal.τ).loc Cert.PostNormRefIdeal.main_arg1) = m ((c.tc : Thread Cert.PostNormRefIdeal.nD Cert.PostNormRefIdeal.τ).loc Cert.PostNormRefIdeal.main_arg1)
      ∧ r.2.mem ((c.tc : Thread Cert.PostNormRefIdeal.nD Cert.PostNormRefIdeal.τ).loc Cert.PostNormRefIdeal.main_arg2) = m ((c.tc : Thread Cert.PostNormRefIdeal.nD Cert.PostNormRefIdeal.τ).loc Cert.PostNormRefIdeal.main_arg2))
      ∧ r.2.sem = fun _ => 0)

def quiescent_PostPreNorm [hPostPreNorm : Cert.PostPreNorm.Facts] : Prop :=
  ∀ (m : (ℓ : Loc Cert.PostPreNorm.nD Cert.PostPreNorm.τ Cert.PostPreNorm.sig) → Buf (Elt Bits) ℓ) (g : Dev Cert.PostPreNorm.nD → PrngReg), Pre_PostPreNorm m →
    θ_run (Cert.PostPreNorm.defs (F := Bits)) (onTc (τ := Cert.PostPreNorm.τ) (Cert.PostPreNorm.main (F := Bits))) ⟨m, fun _ => 0, g⟩ (fun r => (∀ c : Dev Cert.PostPreNorm.nD,
      r.2.mem ((c.tc : Thread Cert.PostPreNorm.nD Cert.PostPreNorm.τ).loc Cert.PostPreNorm.main_arg0) = m ((c.tc : Thread Cert.PostPreNorm.nD Cert.PostPreNorm.τ).loc Cert.PostPreNorm.main_arg0)
      ∧ r.2.mem ((c.tc : Thread Cert.PostPreNorm.nD Cert.PostPreNorm.τ).loc Cert.PostPreNorm.main_arg1) = m ((c.tc : Thread Cert.PostPreNorm.nD Cert.PostPreNorm.τ).loc Cert.PostPreNorm.main_arg1)
      ∧ r.2.mem ((c.tc : Thread Cert.PostPreNorm.nD Cert.PostPreNorm.τ).loc Cert.PostPreNorm.main_arg2) = m ((c.tc : Thread Cert.PostPreNorm.nD Cert.PostPreNorm.τ).loc Cert.PostPreNorm.main_arg2)
      ∧ r.2.mem ((c.tc : Thread Cert.PostPreNorm.nD Cert.PostPreNorm.τ).loc Cert.PostPreNorm.main_arg3) = m ((c.tc : Thread Cert.PostPreNorm.nD Cert.PostPreNorm.τ).loc Cert.PostPreNorm.main_arg3))
      ∧ r.2.sem = fun _ => 0)

def quiescent_PostPreNormIdeal [hPostPreNormIdeal : Cert.PostPreNormIdeal.Facts] : Prop :=
  ∀ (m : (ℓ : Loc Cert.PostPreNormIdeal.nD Cert.PostPreNormIdeal.τ Cert.PostPreNormIdeal.sig) → Buf (Elt Ideal) ℓ) (g : Dev Cert.PostPreNormIdeal.nD → PrngReg), Pre_PostPreNormIdeal m →
    θ_run (Cert.PostPreNormIdeal.defs (F := Ideal)) (onTc (τ := Cert.PostPreNormIdeal.τ) (Cert.PostPreNormIdeal.main (F := Ideal))) ⟨m, fun _ => 0, g⟩ (fun r => (∀ c : Dev Cert.PostPreNormIdeal.nD,
      r.2.mem ((c.tc : Thread Cert.PostPreNormIdeal.nD Cert.PostPreNormIdeal.τ).loc Cert.PostPreNormIdeal.main_arg0) = m ((c.tc : Thread Cert.PostPreNormIdeal.nD Cert.PostPreNormIdeal.τ).loc Cert.PostPreNormIdeal.main_arg0)
      ∧ r.2.mem ((c.tc : Thread Cert.PostPreNormIdeal.nD Cert.PostPreNormIdeal.τ).loc Cert.PostPreNormIdeal.main_arg1) = m ((c.tc : Thread Cert.PostPreNormIdeal.nD Cert.PostPreNormIdeal.τ).loc Cert.PostPreNormIdeal.main_arg1)
      ∧ r.2.mem ((c.tc : Thread Cert.PostPreNormIdeal.nD Cert.PostPreNormIdeal.τ).loc Cert.PostPreNormIdeal.main_arg2) = m ((c.tc : Thread Cert.PostPreNormIdeal.nD Cert.PostPreNormIdeal.τ).loc Cert.PostPreNormIdeal.main_arg2)
      ∧ r.2.mem ((c.tc : Thread Cert.PostPreNormIdeal.nD Cert.PostPreNormIdeal.τ).loc Cert.PostPreNormIdeal.main_arg3) = m ((c.tc : Thread Cert.PostPreNormIdeal.nD Cert.PostPreNormIdeal.τ).loc Cert.PostPreNormIdeal.main_arg3))
      ∧ r.2.sem = fun _ => 0)

def quiescent_PostPreNormRefIdeal [hPostPreNormRefIdeal : Cert.PostPreNormRefIdeal.Facts] : Prop :=
  ∀ (m : (ℓ : Loc Cert.PostPreNormRefIdeal.nD Cert.PostPreNormRefIdeal.τ Cert.PostPreNormRefIdeal.sig) → Buf (Elt Ideal) ℓ) (g : Dev Cert.PostPreNormRefIdeal.nD → PrngReg), Pre_PostPreNormRefIdeal m →
    θ_run (Cert.PostPreNormRefIdeal.defs (F := Ideal)) (onTc (τ := Cert.PostPreNormRefIdeal.τ) (Cert.PostPreNormRefIdeal.main (F := Ideal))) ⟨m, fun _ => 0, g⟩ (fun r => (∀ c : Dev Cert.PostPreNormRefIdeal.nD,
      r.2.mem ((c.tc : Thread Cert.PostPreNormRefIdeal.nD Cert.PostPreNormRefIdeal.τ).loc Cert.PostPreNormRefIdeal.main_arg0) = m ((c.tc : Thread Cert.PostPreNormRefIdeal.nD Cert.PostPreNormRefIdeal.τ).loc Cert.PostPreNormRefIdeal.main_arg0)
      ∧ r.2.mem ((c.tc : Thread Cert.PostPreNormRefIdeal.nD Cert.PostPreNormRefIdeal.τ).loc Cert.PostPreNormRefIdeal.main_arg1) = m ((c.tc : Thread Cert.PostPreNormRefIdeal.nD Cert.PostPreNormRefIdeal.τ).loc Cert.PostPreNormRefIdeal.main_arg1)
      ∧ r.2.mem ((c.tc : Thread Cert.PostPreNormRefIdeal.nD Cert.PostPreNormRefIdeal.τ).loc Cert.PostPreNormRefIdeal.main_arg2) = m ((c.tc : Thread Cert.PostPreNormRefIdeal.nD Cert.PostPreNormRefIdeal.τ).loc Cert.PostPreNormRefIdeal.main_arg2)
      ∧ r.2.mem ((c.tc : Thread Cert.PostPreNormRefIdeal.nD Cert.PostPreNormRefIdeal.τ).loc Cert.PostPreNormRefIdeal.main_arg3) = m ((c.tc : Thread Cert.PostPreNormRefIdeal.nD Cert.PostPreNormRefIdeal.τ).loc Cert.PostPreNormRefIdeal.main_arg3))
      ∧ r.2.sem = fun _ => 0)

def quiescent_PostNormBwd [hPostNormBwd : Cert.PostNormBwd.Facts] : Prop :=
  ∀ (m : (ℓ : Loc Cert.PostNormBwd.nD Cert.PostNormBwd.τ Cert.PostNormBwd.sig) → Buf (Elt Bits) ℓ) (g : Dev Cert.PostNormBwd.nD → PrngReg), Pre_PostNormBwd m →
    θ_run (Cert.PostNormBwd.defs (F := Bits)) (onTc (τ := Cert.PostNormBwd.τ) (Cert.PostNormBwd.main (F := Bits))) ⟨m, fun _ => 0, g⟩ (fun r => (∀ c : Dev Cert.PostNormBwd.nD,
      r.2.mem ((c.tc : Thread Cert.PostNormBwd.nD Cert.PostNormBwd.τ).loc Cert.PostNormBwd.main_arg0) = m ((c.tc : Thread Cert.PostNormBwd.nD Cert.PostNormBwd.τ).loc Cert.PostNormBwd.main_arg0)
      ∧ r.2.mem ((c.tc : Thread Cert.PostNormBwd.nD Cert.PostNormBwd.τ).loc Cert.PostNormBwd.main_arg1) = m ((c.tc : Thread Cert.PostNormBwd.nD Cert.PostNormBwd.τ).loc Cert.PostNormBwd.main_arg1)
      ∧ r.2.mem ((c.tc : Thread Cert.PostNormBwd.nD Cert.PostNormBwd.τ).loc Cert.PostNormBwd.main_arg2) = m ((c.tc : Thread Cert.PostNormBwd.nD Cert.PostNormBwd.τ).loc Cert.PostNormBwd.main_arg2))
      ∧ r.2.sem = fun _ => 0)

def quiescent_PostNormBwdIdeal [hPostNormBwdIdeal : Cert.PostNormBwdIdeal.Facts] : Prop :=
  ∀ (m : (ℓ : Loc Cert.PostNormBwdIdeal.nD Cert.PostNormBwdIdeal.τ Cert.PostNormBwdIdeal.sig) → Buf (Elt Ideal) ℓ) (g : Dev Cert.PostNormBwdIdeal.nD → PrngReg), Pre_PostNormBwdIdeal m →
    θ_run (Cert.PostNormBwdIdeal.defs (F := Ideal)) (onTc (τ := Cert.PostNormBwdIdeal.τ) (Cert.PostNormBwdIdeal.main (F := Ideal))) ⟨m, fun _ => 0, g⟩ (fun r => (∀ c : Dev Cert.PostNormBwdIdeal.nD,
      r.2.mem ((c.tc : Thread Cert.PostNormBwdIdeal.nD Cert.PostNormBwdIdeal.τ).loc Cert.PostNormBwdIdeal.main_arg0) = m ((c.tc : Thread Cert.PostNormBwdIdeal.nD Cert.PostNormBwdIdeal.τ).loc Cert.PostNormBwdIdeal.main_arg0)
      ∧ r.2.mem ((c.tc : Thread Cert.PostNormBwdIdeal.nD Cert.PostNormBwdIdeal.τ).loc Cert.PostNormBwdIdeal.main_arg1) = m ((c.tc : Thread Cert.PostNormBwdIdeal.nD Cert.PostNormBwdIdeal.τ).loc Cert.PostNormBwdIdeal.main_arg1)
      ∧ r.2.mem ((c.tc : Thread Cert.PostNormBwdIdeal.nD Cert.PostNormBwdIdeal.τ).loc Cert.PostNormBwdIdeal.main_arg2) = m ((c.tc : Thread Cert.PostNormBwdIdeal.nD Cert.PostNormBwdIdeal.τ).loc Cert.PostNormBwdIdeal.main_arg2))
      ∧ r.2.sem = fun _ => 0)

def quiescent_PostNormBwdRefIdeal [hPostNormBwdRefIdeal : Cert.PostNormBwdRefIdeal.Facts] : Prop :=
  ∀ (m : (ℓ : Loc Cert.PostNormBwdRefIdeal.nD Cert.PostNormBwdRefIdeal.τ Cert.PostNormBwdRefIdeal.sig) → Buf (Elt Ideal) ℓ) (g : Dev Cert.PostNormBwdRefIdeal.nD → PrngReg), Pre_PostNormBwdRefIdeal m →
    θ_run (Cert.PostNormBwdRefIdeal.defs (F := Ideal)) (onTc (τ := Cert.PostNormBwdRefIdeal.τ) (Cert.PostNormBwdRefIdeal.main (F := Ideal))) ⟨m, fun _ => 0, g⟩ (fun r => (∀ c : Dev Cert.PostNormBwdRefIdeal.nD,
      r.2.mem ((c.tc : Thread Cert.PostNormBwdRefIdeal.nD Cert.PostNormBwdRefIdeal.τ).loc Cert.PostNormBwdRefIdeal.main_arg0) = m ((c.tc : Thread Cert.PostNormBwdRefIdeal.nD Cert.PostNormBwdRefIdeal.τ).loc Cert.PostNormBwdRefIdeal.main_arg0)
      ∧ r.2.mem ((c.tc : Thread Cert.PostNormBwdRefIdeal.nD Cert.PostNormBwdRefIdeal.τ).loc Cert.PostNormBwdRefIdeal.main_arg1) = m ((c.tc : Thread Cert.PostNormBwdRefIdeal.nD Cert.PostNormBwdRefIdeal.τ).loc Cert.PostNormBwdRefIdeal.main_arg1)
      ∧ r.2.mem ((c.tc : Thread Cert.PostNormBwdRefIdeal.nD Cert.PostNormBwdRefIdeal.τ).loc Cert.PostNormBwdRefIdeal.main_arg2) = m ((c.tc : Thread Cert.PostNormBwdRefIdeal.nD Cert.PostNormBwdRefIdeal.τ).loc Cert.PostNormBwdRefIdeal.main_arg2))
      ∧ r.2.sem = fun _ => 0)

def quiescent_PreNormBwd [hPreNormBwd : Cert.PreNormBwd.Facts] : Prop :=
  ∀ (m : (ℓ : Loc Cert.PreNormBwd.nD Cert.PreNormBwd.τ Cert.PreNormBwd.sig) → Buf (Elt Bits) ℓ) (g : Dev Cert.PreNormBwd.nD → PrngReg), Pre_PreNormBwd m →
    θ_run (Cert.PreNormBwd.defs (F := Bits)) (onTc (τ := Cert.PreNormBwd.τ) (Cert.PreNormBwd.main (F := Bits))) ⟨m, fun _ => 0, g⟩ (fun r => (∀ c : Dev Cert.PreNormBwd.nD,
      r.2.mem ((c.tc : Thread Cert.PreNormBwd.nD Cert.PreNormBwd.τ).loc Cert.PreNormBwd.main_arg0) = m ((c.tc : Thread Cert.PreNormBwd.nD Cert.PreNormBwd.τ).loc Cert.PreNormBwd.main_arg0)
      ∧ r.2.mem ((c.tc : Thread Cert.PreNormBwd.nD Cert.PreNormBwd.τ).loc Cert.PreNormBwd.main_arg1) = m ((c.tc : Thread Cert.PreNormBwd.nD Cert.PreNormBwd.τ).loc Cert.PreNormBwd.main_arg1)
      ∧ r.2.mem ((c.tc : Thread Cert.PreNormBwd.nD Cert.PreNormBwd.τ).loc Cert.PreNormBwd.main_arg2) = m ((c.tc : Thread Cert.PreNormBwd.nD Cert.PreNormBwd.τ).loc Cert.PreNormBwd.main_arg2)
      ∧ r.2.mem ((c.tc : Thread Cert.PreNormBwd.nD Cert.PreNormBwd.τ).loc Cert.PreNormBwd.main_arg3) = m ((c.tc : Thread Cert.PreNormBwd.nD Cert.PreNormBwd.τ).loc Cert.PreNormBwd.main_arg3))
      ∧ r.2.sem = fun _ => 0)

def quiescent_PreNormBwdIdeal [hPreNormBwdIdeal : Cert.PreNormBwdIdeal.Facts] : Prop :=
  ∀ (m : (ℓ : Loc Cert.PreNormBwdIdeal.nD Cert.PreNormBwdIdeal.τ Cert.PreNormBwdIdeal.sig) → Buf (Elt Ideal) ℓ) (g : Dev Cert.PreNormBwdIdeal.nD → PrngReg), Pre_PreNormBwdIdeal m →
    θ_run (Cert.PreNormBwdIdeal.defs (F := Ideal)) (onTc (τ := Cert.PreNormBwdIdeal.τ) (Cert.PreNormBwdIdeal.main (F := Ideal))) ⟨m, fun _ => 0, g⟩ (fun r => (∀ c : Dev Cert.PreNormBwdIdeal.nD,
      r.2.mem ((c.tc : Thread Cert.PreNormBwdIdeal.nD Cert.PreNormBwdIdeal.τ).loc Cert.PreNormBwdIdeal.main_arg0) = m ((c.tc : Thread Cert.PreNormBwdIdeal.nD Cert.PreNormBwdIdeal.τ).loc Cert.PreNormBwdIdeal.main_arg0)
      ∧ r.2.mem ((c.tc : Thread Cert.PreNormBwdIdeal.nD Cert.PreNormBwdIdeal.τ).loc Cert.PreNormBwdIdeal.main_arg1) = m ((c.tc : Thread Cert.PreNormBwdIdeal.nD Cert.PreNormBwdIdeal.τ).loc Cert.PreNormBwdIdeal.main_arg1)
      ∧ r.2.mem ((c.tc : Thread Cert.PreNormBwdIdeal.nD Cert.PreNormBwdIdeal.τ).loc Cert.PreNormBwdIdeal.main_arg2) = m ((c.tc : Thread Cert.PreNormBwdIdeal.nD Cert.PreNormBwdIdeal.τ).loc Cert.PreNormBwdIdeal.main_arg2)
      ∧ r.2.mem ((c.tc : Thread Cert.PreNormBwdIdeal.nD Cert.PreNormBwdIdeal.τ).loc Cert.PreNormBwdIdeal.main_arg3) = m ((c.tc : Thread Cert.PreNormBwdIdeal.nD Cert.PreNormBwdIdeal.τ).loc Cert.PreNormBwdIdeal.main_arg3))
      ∧ r.2.sem = fun _ => 0)

def quiescent_PreNormBwdRefIdeal [hPreNormBwdRefIdeal : Cert.PreNormBwdRefIdeal.Facts] : Prop :=
  ∀ (m : (ℓ : Loc Cert.PreNormBwdRefIdeal.nD Cert.PreNormBwdRefIdeal.τ Cert.PreNormBwdRefIdeal.sig) → Buf (Elt Ideal) ℓ) (g : Dev Cert.PreNormBwdRefIdeal.nD → PrngReg), Pre_PreNormBwdRefIdeal m →
    θ_run (Cert.PreNormBwdRefIdeal.defs (F := Ideal)) (onTc (τ := Cert.PreNormBwdRefIdeal.τ) (Cert.PreNormBwdRefIdeal.main (F := Ideal))) ⟨m, fun _ => 0, g⟩ (fun r => (∀ c : Dev Cert.PreNormBwdRefIdeal.nD,
      r.2.mem ((c.tc : Thread Cert.PreNormBwdRefIdeal.nD Cert.PreNormBwdRefIdeal.τ).loc Cert.PreNormBwdRefIdeal.main_arg0) = m ((c.tc : Thread Cert.PreNormBwdRefIdeal.nD Cert.PreNormBwdRefIdeal.τ).loc Cert.PreNormBwdRefIdeal.main_arg0)
      ∧ r.2.mem ((c.tc : Thread Cert.PreNormBwdRefIdeal.nD Cert.PreNormBwdRefIdeal.τ).loc Cert.PreNormBwdRefIdeal.main_arg1) = m ((c.tc : Thread Cert.PreNormBwdRefIdeal.nD Cert.PreNormBwdRefIdeal.τ).loc Cert.PreNormBwdRefIdeal.main_arg1)
      ∧ r.2.mem ((c.tc : Thread Cert.PreNormBwdRefIdeal.nD Cert.PreNormBwdRefIdeal.τ).loc Cert.PreNormBwdRefIdeal.main_arg2) = m ((c.tc : Thread Cert.PreNormBwdRefIdeal.nD Cert.PreNormBwdRefIdeal.τ).loc Cert.PreNormBwdRefIdeal.main_arg2)
      ∧ r.2.mem ((c.tc : Thread Cert.PreNormBwdRefIdeal.nD Cert.PreNormBwdRefIdeal.τ).loc Cert.PreNormBwdRefIdeal.main_arg3) = m ((c.tc : Thread Cert.PreNormBwdRefIdeal.nD Cert.PreNormBwdRefIdeal.τ).loc Cert.PreNormBwdRefIdeal.main_arg3))
      ∧ r.2.sem = fun _ => 0)

def quiescent_PrePostNormBwd [hPrePostNormBwd : Cert.PrePostNormBwd.Facts] : Prop :=
  ∀ (m : (ℓ : Loc Cert.PrePostNormBwd.nD Cert.PrePostNormBwd.τ Cert.PrePostNormBwd.sig) → Buf (Elt Bits) ℓ) (g : Dev Cert.PrePostNormBwd.nD → PrngReg), Pre_PrePostNormBwd m →
    θ_run (Cert.PrePostNormBwd.defs (F := Bits)) (onTc (τ := Cert.PrePostNormBwd.τ) (Cert.PrePostNormBwd.main (F := Bits))) ⟨m, fun _ => 0, g⟩ (fun r => (∀ c : Dev Cert.PrePostNormBwd.nD,
      r.2.mem ((c.tc : Thread Cert.PrePostNormBwd.nD Cert.PrePostNormBwd.τ).loc Cert.PrePostNormBwd.main_arg0) = m ((c.tc : Thread Cert.PrePostNormBwd.nD Cert.PrePostNormBwd.τ).loc Cert.PrePostNormBwd.main_arg0)
      ∧ r.2.mem ((c.tc : Thread Cert.PrePostNormBwd.nD Cert.PrePostNormBwd.τ).loc Cert.PrePostNormBwd.main_arg1) = m ((c.tc : Thread Cert.PrePostNormBwd.nD Cert.PrePostNormBwd.τ).loc Cert.PrePostNormBwd.main_arg1)
      ∧ r.2.mem ((c.tc : Thread Cert.PrePostNormBwd.nD Cert.PrePostNormBwd.τ).loc Cert.PrePostNormBwd.main_arg2) = m ((c.tc : Thread Cert.PrePostNormBwd.nD Cert.PrePostNormBwd.τ).loc Cert.PrePostNormBwd.main_arg2)
      ∧ r.2.mem ((c.tc : Thread Cert.PrePostNormBwd.nD Cert.PrePostNormBwd.τ).loc Cert.PrePostNormBwd.main_arg3) = m ((c.tc : Thread Cert.PrePostNormBwd.nD Cert.PrePostNormBwd.τ).loc Cert.PrePostNormBwd.main_arg3)
      ∧ r.2.mem ((c.tc : Thread Cert.PrePostNormBwd.nD Cert.PrePostNormBwd.τ).loc Cert.PrePostNormBwd.main_arg4) = m ((c.tc : Thread Cert.PrePostNormBwd.nD Cert.PrePostNormBwd.τ).loc Cert.PrePostNormBwd.main_arg4)
      ∧ r.2.mem ((c.tc : Thread Cert.PrePostNormBwd.nD Cert.PrePostNormBwd.τ).loc Cert.PrePostNormBwd.main_arg5) = m ((c.tc : Thread Cert.PrePostNormBwd.nD Cert.PrePostNormBwd.τ).loc Cert.PrePostNormBwd.main_arg5))
      ∧ r.2.sem = fun _ => 0)

def quiescent_PrePostNormBwdIdeal [hPrePostNormBwdIdeal : Cert.PrePostNormBwdIdeal.Facts] : Prop :=
  ∀ (m : (ℓ : Loc Cert.PrePostNormBwdIdeal.nD Cert.PrePostNormBwdIdeal.τ Cert.PrePostNormBwdIdeal.sig) → Buf (Elt Ideal) ℓ) (g : Dev Cert.PrePostNormBwdIdeal.nD → PrngReg), Pre_PrePostNormBwdIdeal m →
    θ_run (Cert.PrePostNormBwdIdeal.defs (F := Ideal)) (onTc (τ := Cert.PrePostNormBwdIdeal.τ) (Cert.PrePostNormBwdIdeal.main (F := Ideal))) ⟨m, fun _ => 0, g⟩ (fun r => (∀ c : Dev Cert.PrePostNormBwdIdeal.nD,
      r.2.mem ((c.tc : Thread Cert.PrePostNormBwdIdeal.nD Cert.PrePostNormBwdIdeal.τ).loc Cert.PrePostNormBwdIdeal.main_arg0) = m ((c.tc : Thread Cert.PrePostNormBwdIdeal.nD Cert.PrePostNormBwdIdeal.τ).loc Cert.PrePostNormBwdIdeal.main_arg0)
      ∧ r.2.mem ((c.tc : Thread Cert.PrePostNormBwdIdeal.nD Cert.PrePostNormBwdIdeal.τ).loc Cert.PrePostNormBwdIdeal.main_arg1) = m ((c.tc : Thread Cert.PrePostNormBwdIdeal.nD Cert.PrePostNormBwdIdeal.τ).loc Cert.PrePostNormBwdIdeal.main_arg1)
      ∧ r.2.mem ((c.tc : Thread Cert.PrePostNormBwdIdeal.nD Cert.PrePostNormBwdIdeal.τ).loc Cert.PrePostNormBwdIdeal.main_arg2) = m ((c.tc : Thread Cert.PrePostNormBwdIdeal.nD Cert.PrePostNormBwdIdeal.τ).loc Cert.PrePostNormBwdIdeal.main_arg2)
      ∧ r.2.mem ((c.tc : Thread Cert.PrePostNormBwdIdeal.nD Cert.PrePostNormBwdIdeal.τ).loc Cert.PrePostNormBwdIdeal.main_arg3) = m ((c.tc : Thread Cert.PrePostNormBwdIdeal.nD Cert.PrePostNormBwdIdeal.τ).loc Cert.PrePostNormBwdIdeal.main_arg3)
      ∧ r.2.mem ((c.tc : Thread Cert.PrePostNormBwdIdeal.nD Cert.PrePostNormBwdIdeal.τ).loc Cert.PrePostNormBwdIdeal.main_arg4) = m ((c.tc : Thread Cert.PrePostNormBwdIdeal.nD Cert.PrePostNormBwdIdeal.τ).loc Cert.PrePostNormBwdIdeal.main_arg4)
      ∧ r.2.mem ((c.tc : Thread Cert.PrePostNormBwdIdeal.nD Cert.PrePostNormBwdIdeal.τ).loc Cert.PrePostNormBwdIdeal.main_arg5) = m ((c.tc : Thread Cert.PrePostNormBwdIdeal.nD Cert.PrePostNormBwdIdeal.τ).loc Cert.PrePostNormBwdIdeal.main_arg5))
      ∧ r.2.sem = fun _ => 0)

def quiescent_PrePostNormBwdRefIdeal [hPrePostNormBwdRefIdeal : Cert.PrePostNormBwdRefIdeal.Facts] : Prop :=
  ∀ (m : (ℓ : Loc Cert.PrePostNormBwdRefIdeal.nD Cert.PrePostNormBwdRefIdeal.τ Cert.PrePostNormBwdRefIdeal.sig) → Buf (Elt Ideal) ℓ) (g : Dev Cert.PrePostNormBwdRefIdeal.nD → PrngReg), Pre_PrePostNormBwdRefIdeal m →
    θ_run (Cert.PrePostNormBwdRefIdeal.defs (F := Ideal)) (onTc (τ := Cert.PrePostNormBwdRefIdeal.τ) (Cert.PrePostNormBwdRefIdeal.main (F := Ideal))) ⟨m, fun _ => 0, g⟩ (fun r => (∀ c : Dev Cert.PrePostNormBwdRefIdeal.nD,
      r.2.mem ((c.tc : Thread Cert.PrePostNormBwdRefIdeal.nD Cert.PrePostNormBwdRefIdeal.τ).loc Cert.PrePostNormBwdRefIdeal.main_arg0) = m ((c.tc : Thread Cert.PrePostNormBwdRefIdeal.nD Cert.PrePostNormBwdRefIdeal.τ).loc Cert.PrePostNormBwdRefIdeal.main_arg0)
      ∧ r.2.mem ((c.tc : Thread Cert.PrePostNormBwdRefIdeal.nD Cert.PrePostNormBwdRefIdeal.τ).loc Cert.PrePostNormBwdRefIdeal.main_arg1) = m ((c.tc : Thread Cert.PrePostNormBwdRefIdeal.nD Cert.PrePostNormBwdRefIdeal.τ).loc Cert.PrePostNormBwdRefIdeal.main_arg1)
      ∧ r.2.mem ((c.tc : Thread Cert.PrePostNormBwdRefIdeal.nD Cert.PrePostNormBwdRefIdeal.τ).loc Cert.PrePostNormBwdRefIdeal.main_arg2) = m ((c.tc : Thread Cert.PrePostNormBwdRefIdeal.nD Cert.PrePostNormBwdRefIdeal.τ).loc Cert.PrePostNormBwdRefIdeal.main_arg2)
      ∧ r.2.mem ((c.tc : Thread Cert.PrePostNormBwdRefIdeal.nD Cert.PrePostNormBwdRefIdeal.τ).loc Cert.PrePostNormBwdRefIdeal.main_arg3) = m ((c.tc : Thread Cert.PrePostNormBwdRefIdeal.nD Cert.PrePostNormBwdRefIdeal.τ).loc Cert.PrePostNormBwdRefIdeal.main_arg3)
      ∧ r.2.mem ((c.tc : Thread Cert.PrePostNormBwdRefIdeal.nD Cert.PrePostNormBwdRefIdeal.τ).loc Cert.PrePostNormBwdRefIdeal.main_arg4) = m ((c.tc : Thread Cert.PrePostNormBwdRefIdeal.nD Cert.PrePostNormBwdRefIdeal.τ).loc Cert.PrePostNormBwdRefIdeal.main_arg4)
      ∧ r.2.mem ((c.tc : Thread Cert.PrePostNormBwdRefIdeal.nD Cert.PrePostNormBwdRefIdeal.τ).loc Cert.PrePostNormBwdRefIdeal.main_arg5) = m ((c.tc : Thread Cert.PrePostNormBwdRefIdeal.nD Cert.PrePostNormBwdRefIdeal.τ).loc Cert.PrePostNormBwdRefIdeal.main_arg5))
      ∧ r.2.sem = fun _ => 0)

def preserves_MemKernel_MemKernelIdeal : Prop :=
  True

def algebraic_MemKernelIdeal_MemReferenceIdeal_pre_mem_finite [hMemKernelIdeal : Cert.MemKernelIdeal.Facts] [hMemReferenceIdeal : Cert.MemReferenceIdeal.Facts] [hPre_mem_finite : Cert.Pre_mem_finite.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal_mem_finite m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)) →
    ∃ (v0 : (c : Dev Cert.MemKernelIdeal.nD) → Buf (Elt Ideal) ((c.tc : Thread Cert.MemKernelIdeal.nD Cert.MemKernelIdeal.τ).loc Cert.MemKernelIdeal.main_v1_0)) (v1 : (c : Dev Cert.MemKernelIdeal.nD) → Buf (Elt Ideal) ((c.tc : Thread Cert.MemKernelIdeal.nD Cert.MemKernelIdeal.τ).loc Cert.MemKernelIdeal.main_v1_1)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v1_0) = v0 c
          ∧ r.2.mem ((c.tc : Thread Cert.MemKernelIdeal.nD Cert.MemKernelIdeal.τ).loc Cert.MemKernelIdeal.main_v1_1) = v1 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v67) = v0 c
          ∧ r.2.mem ((c.tc : Thread Cert.MemReferenceIdeal.nD Cert.MemReferenceIdeal.τ).loc Cert.MemReferenceIdeal.main_v68) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2))

def preserves_DilAttn_DilAttnIdeal : Prop :=
  IdealRules.named_const.Statement Cert.DilAttnIdeal.κ "mask" .f32 0xF149F2CA#32 ⊥

def algebraic_DilAttnIdeal_DilAttnRefIdeal_pre_dil_finite [hDilAttnIdeal : Cert.DilAttnIdeal.Facts] [hDilAttnRefIdeal : Cert.DilAttnRefIdeal.Facts] [hPre_dil_finite : Cert.Pre_dil_finite.Facts] : Prop :=
  ∀ (m : (ℓ : Loc Cert.DilAttnIdeal.nD Cert.DilAttnIdeal.τ Cert.DilAttnIdeal.sig) → Buf (Elt Ideal) ℓ) (g : Dev Cert.DilAttnIdeal.nD → PrngReg)
    (m' : (ℓ : Loc Cert.DilAttnRefIdeal.nD Cert.DilAttnRefIdeal.τ Cert.DilAttnRefIdeal.sig) → Buf (Elt Ideal) ℓ) (g' : Dev Cert.DilAttnRefIdeal.nD → PrngReg), Pre_DilAttnIdeal_dil_finite m →
    (∀ c : Dev Cert.DilAttnIdeal.nD,
      m' ((c.tc : Thread Cert.DilAttnRefIdeal.nD Cert.DilAttnRefIdeal.τ).loc Cert.DilAttnRefIdeal.main_arg0) = m ((c.tc : Thread Cert.DilAttnIdeal.nD Cert.DilAttnIdeal.τ).loc Cert.DilAttnIdeal.main_arg0)
      ∧ m' ((c.tc : Thread Cert.DilAttnRefIdeal.nD Cert.DilAttnRefIdeal.τ).loc Cert.DilAttnRefIdeal.main_arg1) = m ((c.tc : Thread Cert.DilAttnIdeal.nD Cert.DilAttnIdeal.τ).loc Cert.DilAttnIdeal.main_arg1)
      ∧ m' ((c.tc : Thread Cert.DilAttnRefIdeal.nD Cert.DilAttnRefIdeal.τ).loc Cert.DilAttnRefIdeal.main_arg2) = m ((c.tc : Thread Cert.DilAttnIdeal.nD Cert.DilAttnIdeal.τ).loc Cert.DilAttnIdeal.main_arg2)
      ∧ m' ((c.tc : Thread Cert.DilAttnRefIdeal.nD Cert.DilAttnRefIdeal.τ).loc Cert.DilAttnRefIdeal.main_arg3) = m ((c.tc : Thread Cert.DilAttnIdeal.nD Cert.DilAttnIdeal.τ).loc Cert.DilAttnIdeal.main_arg3)) →
    ∃ (v0 : (c : Dev Cert.DilAttnIdeal.nD) → Buf (Elt Ideal) ((c.tc : Thread Cert.DilAttnIdeal.nD Cert.DilAttnIdeal.τ).loc Cert.DilAttnIdeal.main_v7_0)) (v1 : (c : Dev Cert.DilAttnIdeal.nD) → Buf (Elt Ideal) ((c.tc : Thread Cert.DilAttnIdeal.nD Cert.DilAttnIdeal.τ).loc Cert.DilAttnIdeal.main_v7_1)) (v2 : (c : Dev Cert.DilAttnIdeal.nD) → Buf (Elt Ideal) ((c.tc : Thread Cert.DilAttnIdeal.nD Cert.DilAttnIdeal.τ).loc Cert.DilAttnIdeal.main_v23_0)) (v3 : (c : Dev Cert.DilAttnIdeal.nD) → Buf (Elt Ideal) ((c.tc : Thread Cert.DilAttnIdeal.nD Cert.DilAttnIdeal.τ).loc Cert.DilAttnIdeal.main_v23_1)) (v4 : (c : Dev Cert.DilAttnIdeal.nD) → Buf (Elt Ideal) ((c.tc : Thread Cert.DilAttnIdeal.nD Cert.DilAttnIdeal.τ).loc Cert.DilAttnIdeal.main_v23_2)),
      θ_run (Cert.DilAttnIdeal.defs (F := Ideal)) (onTc (τ := Cert.DilAttnIdeal.τ) (Cert.DilAttnIdeal.main (F := Ideal))) ⟨m, fun _ => 0, g⟩ (fun r => ∀ c : Dev Cert.DilAttnIdeal.nD,
          r.2.mem ((c.tc : Thread Cert.DilAttnIdeal.nD Cert.DilAttnIdeal.τ).loc Cert.DilAttnIdeal.main_v7_0) = v0 c
          ∧ r.2.mem ((c.tc : Thread Cert.DilAttnIdeal.nD Cert.DilAttnIdeal.τ).loc Cert.DilAttnIdeal.main_v7_1) = v1 c
          ∧ r.2.mem ((c.tc : Thread Cert.DilAttnIdeal.nD Cert.DilAttnIdeal.τ).loc Cert.DilAttnIdeal.main_v23_0) = v2 c
          ∧ r.2.mem ((c.tc : Thread Cert.DilAttnIdeal.nD Cert.DilAttnIdeal.τ).loc Cert.DilAttnIdeal.main_v23_1) = v3 c
          ∧ r.2.mem ((c.tc : Thread Cert.DilAttnIdeal.nD Cert.DilAttnIdeal.τ).loc Cert.DilAttnIdeal.main_v23_2) = v4 c
          ∧ r.2.mem ((c.tc : Thread Cert.DilAttnIdeal.nD Cert.DilAttnIdeal.τ).loc Cert.DilAttnIdeal.main_arg0) = m ((c.tc : Thread Cert.DilAttnIdeal.nD Cert.DilAttnIdeal.τ).loc Cert.DilAttnIdeal.main_arg0)
          ∧ r.2.mem ((c.tc : Thread Cert.DilAttnIdeal.nD Cert.DilAttnIdeal.τ).loc Cert.DilAttnIdeal.main_arg1) = m ((c.tc : Thread Cert.DilAttnIdeal.nD Cert.DilAttnIdeal.τ).loc Cert.DilAttnIdeal.main_arg1)
          ∧ r.2.mem ((c.tc : Thread Cert.DilAttnIdeal.nD Cert.DilAttnIdeal.τ).loc Cert.DilAttnIdeal.main_arg2) = m ((c.tc : Thread Cert.DilAttnIdeal.nD Cert.DilAttnIdeal.τ).loc Cert.DilAttnIdeal.main_arg2)
          ∧ r.2.mem ((c.tc : Thread Cert.DilAttnIdeal.nD Cert.DilAttnIdeal.τ).loc Cert.DilAttnIdeal.main_arg3) = m ((c.tc : Thread Cert.DilAttnIdeal.nD Cert.DilAttnIdeal.τ).loc Cert.DilAttnIdeal.main_arg3))
      ∧ θ_run (Cert.DilAttnRefIdeal.defs (F := Ideal)) (onTc (τ := Cert.DilAttnRefIdeal.τ) (Cert.DilAttnRefIdeal.main (F := Ideal))) ⟨m', fun _ => 0, g'⟩ (fun r => ∀ c : Dev Cert.DilAttnRefIdeal.nD,
          r.2.mem ((c.tc : Thread Cert.DilAttnRefIdeal.nD Cert.DilAttnRefIdeal.τ).loc Cert.DilAttnRefIdeal.main_v178) = v0 c
          ∧ r.2.mem ((c.tc : Thread Cert.DilAttnRefIdeal.nD Cert.DilAttnRefIdeal.τ).loc Cert.DilAttnRefIdeal.main_v179) = v1 c
          ∧ r.2.mem ((c.tc : Thread Cert.DilAttnRefIdeal.nD Cert.DilAttnRefIdeal.τ).loc Cert.DilAttnRefIdeal.main_v181) = v2 c
          ∧ r.2.mem ((c.tc : Thread Cert.DilAttnRefIdeal.nD Cert.DilAttnRefIdeal.τ).loc Cert.DilAttnRefIdeal.main_v182) = v3 c
          ∧ r.2.mem ((c.tc : Thread Cert.DilAttnRefIdeal.nD Cert.DilAttnRefIdeal.τ).loc Cert.DilAttnRefIdeal.main_v183) = v4 c
          ∧ r.2.mem ((c.tc : Thread Cert.DilAttnRefIdeal.nD Cert.DilAttnRefIdeal.τ).loc Cert.DilAttnRefIdeal.main_arg0) = m' ((c.tc : Thread Cert.DilAttnRefIdeal.nD Cert.DilAttnRefIdeal.τ).loc Cert.DilAttnRefIdeal.main_arg0)
          ∧ r.2.mem ((c.tc : Thread Cert.DilAttnRefIdeal.nD Cert.DilAttnRefIdeal.τ).loc Cert.DilAttnRefIdeal.main_arg1) = m' ((c.tc : Thread Cert.DilAttnRefIdeal.nD Cert.DilAttnRefIdeal.τ).loc Cert.DilAttnRefIdeal.main_arg1)
          ∧ r.2.mem ((c.tc : Thread Cert.DilAttnRefIdeal.nD Cert.DilAttnRefIdeal.τ).loc Cert.DilAttnRefIdeal.main_arg2) = m' ((c.tc : Thread Cert.DilAttnRefIdeal.nD Cert.DilAttnRefIdeal.τ).loc Cert.DilAttnRefIdeal.main_arg2)
          ∧ r.2.mem ((c.tc : Thread Cert.DilAttnRefIdeal.nD Cert.DilAttnRefIdeal.τ).loc Cert.DilAttnRefIdeal.main_arg3) = m' ((c.tc : Thread Cert.DilAttnRefIdeal.nD Cert.DilAttnRefIdeal.τ).loc Cert.DilAttnRefIdeal.main_arg3))

def preserves_FfnAct_FfnActIdeal : Prop :=
  True

def algebraic_FfnActIdeal_FfnActRefIdeal_pre_ffn_finite [hFfnActIdeal : Cert.FfnActIdeal.Facts] [hFfnActRefIdeal : Cert.FfnActRefIdeal.Facts] [hPre_ffn_finite : Cert.Pre_ffn_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_ffn_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v4_2)) (v1 : (c : Dev Cert.FfnActIdeal.nD) → Buf (Elt Ideal) ((c.tc : Thread Cert.FfnActIdeal.nD Cert.FfnActIdeal.τ).loc Cert.FfnActIdeal.main_v7_0)) (v2 : (c : Dev Cert.FfnActIdeal.nD) → Buf (Elt Ideal) ((c.tc : Thread Cert.FfnActIdeal.nD Cert.FfnActIdeal.τ).loc Cert.FfnActIdeal.main_v7_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v4_2) = v0 c
          ∧ r.2.mem ((c.tc : Thread Cert.FfnActIdeal.nD Cert.FfnActIdeal.τ).loc Cert.FfnActIdeal.main_v7_0) = v1 c
          ∧ r.2.mem ((c.tc : Thread Cert.FfnActIdeal.nD Cert.FfnActIdeal.τ).loc Cert.FfnActIdeal.main_v7_1) = v2 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v12) = v0 c
          ∧ r.2.mem ((c.tc : Thread Cert.FfnActRefIdeal.nD Cert.FfnActRefIdeal.τ).loc Cert.FfnActRefIdeal.main_v13) = v1 c
          ∧ r.2.mem ((c.tc : Thread Cert.FfnActRefIdeal.nD Cert.FfnActRefIdeal.τ).loc Cert.FfnActRefIdeal.main_v14) = v2 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v2) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v0) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v4) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v5)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v5) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v3)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v3) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v0) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixOutDx_MixOutDxIdeal : Prop :=
  True

def algebraic_MixOutDxIdeal_MixOutDxRefIdeal [hMixOutDxIdeal : Cert.MixOutDxIdeal.Facts] [hMixOutDxRefIdeal : Cert.MixOutDxRefIdeal.Facts] : Prop :=
  ∀ (m : (ℓ : Loc Cert.MixOutDxIdeal.nD Cert.MixOutDxIdeal.τ Cert.MixOutDxIdeal.sig) → Buf (Elt Ideal) ℓ) (g : Dev Cert.MixOutDxIdeal.nD → PrngReg)
    (m' : (ℓ : Loc Cert.MixOutDxRefIdeal.nD Cert.MixOutDxRefIdeal.τ Cert.MixOutDxRefIdeal.sig) → Buf (Elt Ideal) ℓ) (g' : Dev Cert.MixOutDxRefIdeal.nD → PrngReg), Pre_MixOutDxIdeal m →
    (∀ c : Dev Cert.MixOutDxIdeal.nD,
      m' ((c.tc : Thread Cert.MixOutDxRefIdeal.nD Cert.MixOutDxRefIdeal.τ).loc Cert.MixOutDxRefIdeal.main_arg0) = m ((c.tc : Thread Cert.MixOutDxIdeal.nD Cert.MixOutDxIdeal.τ).loc Cert.MixOutDxIdeal.main_arg0)
      ∧ m' ((c.tc : Thread Cert.MixOutDxRefIdeal.nD Cert.MixOutDxRefIdeal.τ).loc Cert.MixOutDxRefIdeal.main_arg1) = m ((c.tc : Thread Cert.MixOutDxIdeal.nD Cert.MixOutDxIdeal.τ).loc Cert.MixOutDxIdeal.main_arg1)) →
    ∃ (v0 : (c : Dev Cert.MixOutDxIdeal.nD) → Buf (Elt Ideal) ((c.tc : Thread Cert.MixOutDxIdeal.nD Cert.MixOutDxIdeal.τ).loc Cert.MixOutDxIdeal.main_v2)),
      θ_run (Cert.MixOutDxIdeal.defs (F := Ideal)) (onTc (τ := Cert.MixOutDxIdeal.τ) (Cert.MixOutDxIdeal.main (F := Ideal))) ⟨m, fun _ => 0, g⟩ (fun r => ∀ c : Dev Cert.MixOutDxIdeal.nD,
          r.2.mem ((c.tc : Thread Cert.MixOutDxIdeal.nD Cert.MixOutDxIdeal.τ).loc Cert.MixOutDxIdeal.main_v2) = v0 c
          ∧ r.2.mem ((c.tc : Thread Cert.MixOutDxIdeal.nD Cert.MixOutDxIdeal.τ).loc Cert.MixOutDxIdeal.main_arg0) = m ((c.tc : Thread Cert.MixOutDxIdeal.nD Cert.MixOutDxIdeal.τ).loc Cert.MixOutDxIdeal.main_arg0)
          ∧ r.2.mem ((c.tc : Thread Cert.MixOutDxIdeal.nD Cert.MixOutDxIdeal.τ).loc Cert.MixOutDxIdeal.main_arg1) = m ((c.tc : Thread Cert.MixOutDxIdeal.nD Cert.MixOutDxIdeal.τ).loc Cert.MixOutDxIdeal.main_arg1))
      ∧ θ_run (Cert.MixOutDxRefIdeal.defs (F := Ideal)) (onTc (τ := Cert.MixOutDxRefIdeal.τ) (Cert.MixOutDxRefIdeal.main (F := Ideal))) ⟨m', fun _ => 0, g'⟩ (fun r => ∀ c : Dev Cert.MixOutDxRefIdeal.nD,
          r.2.mem ((c.tc : Thread Cert.MixOutDxRefIdeal.nD Cert.MixOutDxRefIdeal.τ).loc Cert.MixOutDxRefIdeal.main_v2) = v0 c
          ∧ r.2.mem ((c.tc : Thread Cert.MixOutDxRefIdeal.nD Cert.MixOutDxRefIdeal.τ).loc Cert.MixOutDxRefIdeal.main_arg0) = m' ((c.tc : Thread Cert.MixOutDxRefIdeal.nD Cert.MixOutDxRefIdeal.τ).loc Cert.MixOutDxRefIdeal.main_arg0)
          ∧ r.2.mem ((c.tc : Thread Cert.MixOutDxRefIdeal.nD Cert.MixOutDxRefIdeal.τ).loc Cert.MixOutDxRefIdeal.main_arg1) = m' ((c.tc : Thread Cert.MixOutDxRefIdeal.nD Cert.MixOutDxRefIdeal.τ).loc Cert.MixOutDxRefIdeal.main_arg1))

def preserves_MixOutDw_MixOutDwIdeal : Prop :=
  True

def algebraic_MixOutDwIdeal_MixOutDwRefIdeal [hMixOutDwIdeal : Cert.MixOutDwIdeal.Facts] [hMixOutDwRefIdeal : Cert.MixOutDwRefIdeal.Facts] : Prop :=
  ∀ (m : (ℓ : Loc Cert.MixOutDwIdeal.nD Cert.MixOutDwIdeal.τ Cert.MixOutDwIdeal.sig) → Buf (Elt Ideal) ℓ) (g : Dev Cert.MixOutDwIdeal.nD → PrngReg)
    (m' : (ℓ : Loc Cert.MixOutDwRefIdeal.nD Cert.MixOutDwRefIdeal.τ Cert.MixOutDwRefIdeal.sig) → Buf (Elt Ideal) ℓ) (g' : Dev Cert.MixOutDwRefIdeal.nD → PrngReg), Pre_MixOutDwIdeal m →
    (∀ c : Dev Cert.MixOutDwIdeal.nD,
      m' ((c.tc : Thread Cert.MixOutDwRefIdeal.nD Cert.MixOutDwRefIdeal.τ).loc Cert.MixOutDwRefIdeal.main_arg0) = m ((c.tc : Thread Cert.MixOutDwIdeal.nD Cert.MixOutDwIdeal.τ).loc Cert.MixOutDwIdeal.main_arg0)
      ∧ m' ((c.tc : Thread Cert.MixOutDwRefIdeal.nD Cert.MixOutDwRefIdeal.τ).loc Cert.MixOutDwRefIdeal.main_arg1) = m ((c.tc : Thread Cert.MixOutDwIdeal.nD Cert.MixOutDwIdeal.τ).loc Cert.MixOutDwIdeal.main_arg1)) →
    ∃ (v0 : (c : Dev Cert.MixOutDwIdeal.nD) → Buf (Elt Ideal) ((c.tc : Thread Cert.MixOutDwIdeal.nD Cert.MixOutDwIdeal.τ).loc Cert.MixOutDwIdeal.main_v2)),
      θ_run (Cert.MixOutDwIdeal.defs (F := Ideal)) (onTc (τ := Cert.MixOutDwIdeal.τ) (Cert.MixOutDwIdeal.main (F := Ideal))) ⟨m, fun _ => 0, g⟩ (fun r => ∀ c : Dev Cert.MixOutDwIdeal.nD,
          r.2.mem ((c.tc : Thread Cert.MixOutDwIdeal.nD Cert.MixOutDwIdeal.τ).loc Cert.MixOutDwIdeal.main_v2) = v0 c
          ∧ r.2.mem ((c.tc : Thread Cert.MixOutDwIdeal.nD Cert.MixOutDwIdeal.τ).loc Cert.MixOutDwIdeal.main_arg0) = m ((c.tc : Thread Cert.MixOutDwIdeal.nD Cert.MixOutDwIdeal.τ).loc Cert.MixOutDwIdeal.main_arg0)
          ∧ r.2.mem ((c.tc : Thread Cert.MixOutDwIdeal.nD Cert.MixOutDwIdeal.τ).loc Cert.MixOutDwIdeal.main_arg1) = m ((c.tc : Thread Cert.MixOutDwIdeal.nD Cert.MixOutDwIdeal.τ).loc Cert.MixOutDwIdeal.main_arg1))
      ∧ θ_run (Cert.MixOutDwRefIdeal.defs (F := Ideal)) (onTc (τ := Cert.MixOutDwRefIdeal.τ) (Cert.MixOutDwRefIdeal.main (F := Ideal))) ⟨m', fun _ => 0, g'⟩ (fun r => ∀ c : Dev Cert.MixOutDwRefIdeal.nD,
          r.2.mem ((c.tc : Thread Cert.MixOutDwRefIdeal.nD Cert.MixOutDwRefIdeal.τ).loc Cert.MixOutDwRefIdeal.main_v4) = v0 c
          ∧ r.2.mem ((c.tc : Thread Cert.MixOutDwRefIdeal.nD Cert.MixOutDwRefIdeal.τ).loc Cert.MixOutDwRefIdeal.main_arg0) = m' ((c.tc : Thread Cert.MixOutDwRefIdeal.nD Cert.MixOutDwRefIdeal.τ).loc Cert.MixOutDwRefIdeal.main_arg0)
          ∧ r.2.mem ((c.tc : Thread Cert.MixOutDwRefIdeal.nD Cert.MixOutDwRefIdeal.τ).loc Cert.MixOutDwRefIdeal.main_arg1) = m' ((c.tc : Thread Cert.MixOutDwRefIdeal.nD Cert.MixOutDwRefIdeal.τ).loc Cert.MixOutDwRefIdeal.main_arg1))

def preserves_DilInDx_DilInDxIdeal : Prop :=
  True

def algebraic_DilInDxIdeal_DilInDxRefIdeal [hDilInDxIdeal : Cert.DilInDxIdeal.Facts] [hDilInDxRefIdeal : Cert.DilInDxRefIdeal.Facts] : Prop :=
  ∀ (m : (ℓ : Loc Cert.DilInDxIdeal.nD Cert.DilInDxIdeal.τ Cert.DilInDxIdeal.sig) → Buf (Elt Ideal) ℓ) (g : Dev Cert.DilInDxIdeal.nD → PrngReg)
    (m' : (ℓ : Loc Cert.DilInDxRefIdeal.nD Cert.DilInDxRefIdeal.τ Cert.DilInDxRefIdeal.sig) → Buf (Elt Ideal) ℓ) (g' : Dev Cert.DilInDxRefIdeal.nD → PrngReg), Pre_DilInDxIdeal m →
    (∀ c : Dev Cert.DilInDxIdeal.nD,
      m' ((c.tc : Thread Cert.DilInDxRefIdeal.nD Cert.DilInDxRefIdeal.τ).loc Cert.DilInDxRefIdeal.main_arg0) = m ((c.tc : Thread Cert.DilInDxIdeal.nD Cert.DilInDxIdeal.τ).loc Cert.DilInDxIdeal.main_arg0)
      ∧ m' ((c.tc : Thread Cert.DilInDxRefIdeal.nD Cert.DilInDxRefIdeal.τ).loc Cert.DilInDxRefIdeal.main_arg1) = m ((c.tc : Thread Cert.DilInDxIdeal.nD Cert.DilInDxIdeal.τ).loc Cert.DilInDxIdeal.main_arg1)) →
    ∃ (v0 : (c : Dev Cert.DilInDxIdeal.nD) → Buf (Elt Ideal) ((c.tc : Thread Cert.DilInDxIdeal.nD Cert.DilInDxIdeal.τ).loc Cert.DilInDxIdeal.main_v2)),
      θ_run (Cert.DilInDxIdeal.defs (F := Ideal)) (onTc (τ := Cert.DilInDxIdeal.τ) (Cert.DilInDxIdeal.main (F := Ideal))) ⟨m, fun _ => 0, g⟩ (fun r => ∀ c : Dev Cert.DilInDxIdeal.nD,
          r.2.mem ((c.tc : Thread Cert.DilInDxIdeal.nD Cert.DilInDxIdeal.τ).loc Cert.DilInDxIdeal.main_v2) = v0 c
          ∧ r.2.mem ((c.tc : Thread Cert.DilInDxIdeal.nD Cert.DilInDxIdeal.τ).loc Cert.DilInDxIdeal.main_arg0) = m ((c.tc : Thread Cert.DilInDxIdeal.nD Cert.DilInDxIdeal.τ).loc Cert.DilInDxIdeal.main_arg0)
          ∧ r.2.mem ((c.tc : Thread Cert.DilInDxIdeal.nD Cert.DilInDxIdeal.τ).loc Cert.DilInDxIdeal.main_arg1) = m ((c.tc : Thread Cert.DilInDxIdeal.nD Cert.DilInDxIdeal.τ).loc Cert.DilInDxIdeal.main_arg1))
      ∧ θ_run (Cert.DilInDxRefIdeal.defs (F := Ideal)) (onTc (τ := Cert.DilInDxRefIdeal.τ) (Cert.DilInDxRefIdeal.main (F := Ideal))) ⟨m', fun _ => 0, g'⟩ (fun r => ∀ c : Dev Cert.DilInDxRefIdeal.nD,
          r.2.mem ((c.tc : Thread Cert.DilInDxRefIdeal.nD Cert.DilInDxRefIdeal.τ).loc Cert.DilInDxRefIdeal.main_v3) = v0 c
          ∧ r.2.mem ((c.tc : Thread Cert.DilInDxRefIdeal.nD Cert.DilInDxRefIdeal.τ).loc Cert.DilInDxRefIdeal.main_arg0) = m' ((c.tc : Thread Cert.DilInDxRefIdeal.nD Cert.DilInDxRefIdeal.τ).loc Cert.DilInDxRefIdeal.main_arg0)
          ∧ r.2.mem ((c.tc : Thread Cert.DilInDxRefIdeal.nD Cert.DilInDxRefIdeal.τ).loc Cert.DilInDxRefIdeal.main_arg1) = m' ((c.tc : Thread Cert.DilInDxRefIdeal.nD Cert.DilInDxRefIdeal.τ).loc Cert.DilInDxRefIdeal.main_arg1))

def preserves_RecIn_RecInIdeal : Prop :=
  True

def algebraic_RecInIdeal_RecInRefIdeal [hRecInIdeal : Cert.RecInIdeal.Facts] [hRecInRefIdeal : Cert.RecInRefIdeal.Facts] : Prop :=
  ∀ (m : (ℓ : Loc Cert.RecInIdeal.nD Cert.RecInIdeal.τ Cert.RecInIdeal.sig) → Buf (Elt Ideal) ℓ) (g : Dev Cert.RecInIdeal.nD → PrngReg)
    (m' : (ℓ : Loc Cert.RecInRefIdeal.nD Cert.RecInRefIdeal.τ Cert.RecInRefIdeal.sig) → Buf (Elt Ideal) ℓ) (g' : Dev Cert.RecInRefIdeal.nD → PrngReg), Pre_RecInIdeal m →
    (∀ c : Dev Cert.RecInIdeal.nD,
      m' ((c.tc : Thread Cert.RecInRefIdeal.nD Cert.RecInRefIdeal.τ).loc Cert.RecInRefIdeal.main_arg0) = m ((c.tc : Thread Cert.RecInIdeal.nD Cert.RecInIdeal.τ).loc Cert.RecInIdeal.main_arg0)
      ∧ m' ((c.tc : Thread Cert.RecInRefIdeal.nD Cert.RecInRefIdeal.τ).loc Cert.RecInRefIdeal.main_arg1) = m ((c.tc : Thread Cert.RecInIdeal.nD Cert.RecInIdeal.τ).loc Cert.RecInIdeal.main_arg1)) →
    ∃ (v0 : (c : Dev Cert.RecInIdeal.nD) → Buf (Elt Ideal) ((c.tc : Thread Cert.RecInIdeal.nD Cert.RecInIdeal.τ).loc Cert.RecInIdeal.main_v4)),
      θ_run (Cert.RecInIdeal.defs (F := Ideal)) (onTc (τ := Cert.RecInIdeal.τ) (Cert.RecInIdeal.main (F := Ideal))) ⟨m, fun _ => 0, g⟩ (fun r => ∀ c : Dev Cert.RecInIdeal.nD,
          r.2.mem ((c.tc : Thread Cert.RecInIdeal.nD Cert.RecInIdeal.τ).loc Cert.RecInIdeal.main_v4) = v0 c
          ∧ r.2.mem ((c.tc : Thread Cert.RecInIdeal.nD Cert.RecInIdeal.τ).loc Cert.RecInIdeal.main_arg0) = m ((c.tc : Thread Cert.RecInIdeal.nD Cert.RecInIdeal.τ).loc Cert.RecInIdeal.main_arg0)
          ∧ r.2.mem ((c.tc : Thread Cert.RecInIdeal.nD Cert.RecInIdeal.τ).loc Cert.RecInIdeal.main_arg1) = m ((c.tc : Thread Cert.RecInIdeal.nD Cert.RecInIdeal.τ).loc Cert.RecInIdeal.main_arg1))
      ∧ θ_run (Cert.RecInRefIdeal.defs (F := Ideal)) (onTc (τ := Cert.RecInRefIdeal.τ) (Cert.RecInRefIdeal.main (F := Ideal))) ⟨m', fun _ => 0, g'⟩ (fun r => ∀ c : Dev Cert.RecInRefIdeal.nD,
          r.2.mem ((c.tc : Thread Cert.RecInRefIdeal.nD Cert.RecInRefIdeal.τ).loc Cert.RecInRefIdeal.main_v0) = v0 c
          ∧ r.2.mem ((c.tc : Thread Cert.RecInRefIdeal.nD Cert.RecInRefIdeal.τ).loc Cert.RecInRefIdeal.main_arg0) = m' ((c.tc : Thread Cert.RecInRefIdeal.nD Cert.RecInRefIdeal.τ).loc Cert.RecInRefIdeal.main_arg0)
          ∧ r.2.mem ((c.tc : Thread Cert.RecInRefIdeal.nD Cert.RecInRefIdeal.τ).loc Cert.RecInRefIdeal.main_arg1) = m' ((c.tc : Thread Cert.RecInRefIdeal.nD Cert.RecInRefIdeal.τ).loc Cert.RecInRefIdeal.main_arg1))

def preserves_RecInDx_RecInDxIdeal : Prop :=
  True

def algebraic_RecInDxIdeal_RecInDxRefIdeal [hRecInDxIdeal : Cert.RecInDxIdeal.Facts] [hRecInDxRefIdeal : Cert.RecInDxRefIdeal.Facts] : Prop :=
  ∀ (m : (ℓ : Loc Cert.RecInDxIdeal.nD Cert.RecInDxIdeal.τ Cert.RecInDxIdeal.sig) → Buf (Elt Ideal) ℓ) (g : Dev Cert.RecInDxIdeal.nD → PrngReg)
    (m' : (ℓ : Loc Cert.RecInDxRefIdeal.nD Cert.RecInDxRefIdeal.τ Cert.RecInDxRefIdeal.sig) → Buf (Elt Ideal) ℓ) (g' : Dev Cert.RecInDxRefIdeal.nD → PrngReg), Pre_RecInDxIdeal m →
    (∀ c : Dev Cert.RecInDxIdeal.nD,
      m' ((c.tc : Thread Cert.RecInDxRefIdeal.nD Cert.RecInDxRefIdeal.τ).loc Cert.RecInDxRefIdeal.main_arg0) = m ((c.tc : Thread Cert.RecInDxIdeal.nD Cert.RecInDxIdeal.τ).loc Cert.RecInDxIdeal.main_arg0)
      ∧ m' ((c.tc : Thread Cert.RecInDxRefIdeal.nD Cert.RecInDxRefIdeal.τ).loc Cert.RecInDxRefIdeal.main_arg1) = m ((c.tc : Thread Cert.RecInDxIdeal.nD Cert.RecInDxIdeal.τ).loc Cert.RecInDxIdeal.main_arg1)) →
    ∃ (v0 : (c : Dev Cert.RecInDxIdeal.nD) → Buf (Elt Ideal) ((c.tc : Thread Cert.RecInDxIdeal.nD Cert.RecInDxIdeal.τ).loc Cert.RecInDxIdeal.main_v4)),
      θ_run (Cert.RecInDxIdeal.defs (F := Ideal)) (onTc (τ := Cert.RecInDxIdeal.τ) (Cert.RecInDxIdeal.main (F := Ideal))) ⟨m, fun _ => 0, g⟩ (fun r => ∀ c : Dev Cert.RecInDxIdeal.nD,
          r.2.mem ((c.tc : Thread Cert.RecInDxIdeal.nD Cert.RecInDxIdeal.τ).loc Cert.RecInDxIdeal.main_v4) = v0 c
          ∧ r.2.mem ((c.tc : Thread Cert.RecInDxIdeal.nD Cert.RecInDxIdeal.τ).loc Cert.RecInDxIdeal.main_arg0) = m ((c.tc : Thread Cert.RecInDxIdeal.nD Cert.RecInDxIdeal.τ).loc Cert.RecInDxIdeal.main_arg0)
          ∧ r.2.mem ((c.tc : Thread Cert.RecInDxIdeal.nD Cert.RecInDxIdeal.τ).loc Cert.RecInDxIdeal.main_arg1) = m ((c.tc : Thread Cert.RecInDxIdeal.nD Cert.RecInDxIdeal.τ).loc Cert.RecInDxIdeal.main_arg1))
      ∧ θ_run (Cert.RecInDxRefIdeal.defs (F := Ideal)) (onTc (τ := Cert.RecInDxRefIdeal.τ) (Cert.RecInDxRefIdeal.main (F := Ideal))) ⟨m', fun _ => 0, g'⟩ (fun r => ∀ c : Dev Cert.RecInDxRefIdeal.nD,
          r.2.mem ((c.tc : Thread Cert.RecInDxRefIdeal.nD Cert.RecInDxRefIdeal.τ).loc Cert.RecInDxRefIdeal.main_v3) = v0 c
          ∧ r.2.mem ((c.tc : Thread Cert.RecInDxRefIdeal.nD Cert.RecInDxRefIdeal.τ).loc Cert.RecInDxRefIdeal.main_arg0) = m' ((c.tc : Thread Cert.RecInDxRefIdeal.nD Cert.RecInDxRefIdeal.τ).loc Cert.RecInDxRefIdeal.main_arg0)
          ∧ r.2.mem ((c.tc : Thread Cert.RecInDxRefIdeal.nD Cert.RecInDxRefIdeal.τ).loc Cert.RecInDxRefIdeal.main_arg1) = m' ((c.tc : Thread Cert.RecInDxRefIdeal.nD Cert.RecInDxRefIdeal.τ).loc Cert.RecInDxRefIdeal.main_arg1))

def preserves_RecInDw_RecInDwIdeal : Prop :=
  True

def algebraic_RecInDwIdeal_RecInDwRefIdeal [hRecInDwIdeal : Cert.RecInDwIdeal.Facts] [hRecInDwRefIdeal : Cert.RecInDwRefIdeal.Facts] : Prop :=
  ∀ (m : (ℓ : Loc Cert.RecInDwIdeal.nD Cert.RecInDwIdeal.τ Cert.RecInDwIdeal.sig) → Buf (Elt Ideal) ℓ) (g : Dev Cert.RecInDwIdeal.nD → PrngReg)
    (m' : (ℓ : Loc Cert.RecInDwRefIdeal.nD Cert.RecInDwRefIdeal.τ Cert.RecInDwRefIdeal.sig) → Buf (Elt Ideal) ℓ) (g' : Dev Cert.RecInDwRefIdeal.nD → PrngReg), Pre_RecInDwIdeal m →
    (∀ c : Dev Cert.RecInDwIdeal.nD,
      m' ((c.tc : Thread Cert.RecInDwRefIdeal.nD Cert.RecInDwRefIdeal.τ).loc Cert.RecInDwRefIdeal.main_arg0) = m ((c.tc : Thread Cert.RecInDwIdeal.nD Cert.RecInDwIdeal.τ).loc Cert.RecInDwIdeal.main_arg0)
      ∧ m' ((c.tc : Thread Cert.RecInDwRefIdeal.nD Cert.RecInDwRefIdeal.τ).loc Cert.RecInDwRefIdeal.main_arg1) = m ((c.tc : Thread Cert.RecInDwIdeal.nD Cert.RecInDwIdeal.τ).loc Cert.RecInDwIdeal.main_arg1)) →
    ∃ (v0 : (c : Dev Cert.RecInDwIdeal.nD) → Buf (Elt Ideal) ((c.tc : Thread Cert.RecInDwIdeal.nD Cert.RecInDwIdeal.τ).loc Cert.RecInDwIdeal.main_v2)),
      θ_run (Cert.RecInDwIdeal.defs (F := Ideal)) (onTc (τ := Cert.RecInDwIdeal.τ) (Cert.RecInDwIdeal.main (F := Ideal))) ⟨m, fun _ => 0, g⟩ (fun r => ∀ c : Dev Cert.RecInDwIdeal.nD,
          r.2.mem ((c.tc : Thread Cert.RecInDwIdeal.nD Cert.RecInDwIdeal.τ).loc Cert.RecInDwIdeal.main_v2) = v0 c
          ∧ r.2.mem ((c.tc : Thread Cert.RecInDwIdeal.nD Cert.RecInDwIdeal.τ).loc Cert.RecInDwIdeal.main_arg0) = m ((c.tc : Thread Cert.RecInDwIdeal.nD Cert.RecInDwIdeal.τ).loc Cert.RecInDwIdeal.main_arg0)
          ∧ r.2.mem ((c.tc : Thread Cert.RecInDwIdeal.nD Cert.RecInDwIdeal.τ).loc Cert.RecInDwIdeal.main_arg1) = m ((c.tc : Thread Cert.RecInDwIdeal.nD Cert.RecInDwIdeal.τ).loc Cert.RecInDwIdeal.main_arg1))
      ∧ θ_run (Cert.RecInDwRefIdeal.defs (F := Ideal)) (onTc (τ := Cert.RecInDwRefIdeal.τ) (Cert.RecInDwRefIdeal.main (F := Ideal))) ⟨m', fun _ => 0, g'⟩ (fun r => ∀ c : Dev Cert.RecInDwRefIdeal.nD,
          r.2.mem ((c.tc : Thread Cert.RecInDwRefIdeal.nD Cert.RecInDwRefIdeal.τ).loc Cert.RecInDwRefIdeal.main_v6) = v0 c
          ∧ r.2.mem ((c.tc : Thread Cert.RecInDwRefIdeal.nD Cert.RecInDwRefIdeal.τ).loc Cert.RecInDwRefIdeal.main_arg0) = m' ((c.tc : Thread Cert.RecInDwRefIdeal.nD Cert.RecInDwRefIdeal.τ).loc Cert.RecInDwRefIdeal.main_arg0)
          ∧ r.2.mem ((c.tc : Thread Cert.RecInDwRefIdeal.nD Cert.RecInDwRefIdeal.τ).loc Cert.RecInDwRefIdeal.main_arg1) = m' ((c.tc : Thread Cert.RecInDwRefIdeal.nD Cert.RecInDwRefIdeal.τ).loc Cert.RecInDwRefIdeal.main_arg1))

def preserves_KvProj_KvProjIdeal : Prop :=
  True

def algebraic_KvProjIdeal_KvProjRefIdeal [hKvProjIdeal : Cert.KvProjIdeal.Facts] [hKvProjRefIdeal : Cert.KvProjRefIdeal.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)) →
    ∃ (v0 : (c : Dev Cert.KvProjIdeal.nD) → Buf (Elt Ideal) ((c.tc : Thread Cert.KvProjIdeal.nD Cert.KvProjIdeal.τ).loc Cert.KvProjIdeal.main_v4)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v4) = v0 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v1) = v0 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1))

def preserves_KvProjDx_KvProjDxIdeal : Prop :=
  True

def algebraic_KvProjDxIdeal_KvProjDxRefIdeal [hKvProjDxIdeal : Cert.KvProjDxIdeal.Facts] [hKvProjDxRefIdeal : Cert.KvProjDxRefIdeal.Facts] : Prop :=
  ∀ (m : (ℓ : Loc Cert.KvProjDxIdeal.nD Cert.KvProjDxIdeal.τ Cert.KvProjDxIdeal.sig) → Buf (Elt Ideal) ℓ) (g : Dev Cert.KvProjDxIdeal.nD → PrngReg)
    (m' : (ℓ : Loc Cert.KvProjDxRefIdeal.nD Cert.KvProjDxRefIdeal.τ Cert.KvProjDxRefIdeal.sig) → Buf (Elt Ideal) ℓ) (g' : Dev Cert.KvProjDxRefIdeal.nD → PrngReg), Pre_KvProjDxIdeal m →
    (∀ c : Dev Cert.KvProjDxIdeal.nD,
      m' ((c.tc : Thread Cert.KvProjDxRefIdeal.nD Cert.KvProjDxRefIdeal.τ).loc Cert.KvProjDxRefIdeal.main_arg0) = m ((c.tc : Thread Cert.KvProjDxIdeal.nD Cert.KvProjDxIdeal.τ).loc Cert.KvProjDxIdeal.main_arg0)
      ∧ m' ((c.tc : Thread Cert.KvProjDxRefIdeal.nD Cert.KvProjDxRefIdeal.τ).loc Cert.KvProjDxRefIdeal.main_arg1) = m ((c.tc : Thread Cert.KvProjDxIdeal.nD Cert.KvProjDxIdeal.τ).loc Cert.KvProjDxIdeal.main_arg1)) →
    ∃ (v0 : (c : Dev Cert.KvProjDxIdeal.nD) → Buf (Elt Ideal) ((c.tc : Thread Cert.KvProjDxIdeal.nD Cert.KvProjDxIdeal.τ).loc Cert.KvProjDxIdeal.main_v4)),
      θ_run (Cert.KvProjDxIdeal.defs (F := Ideal)) (onTc (τ := Cert.KvProjDxIdeal.τ) (Cert.KvProjDxIdeal.main (F := Ideal))) ⟨m, fun _ => 0, g⟩ (fun r => ∀ c : Dev Cert.KvProjDxIdeal.nD,
          r.2.mem ((c.tc : Thread Cert.KvProjDxIdeal.nD Cert.KvProjDxIdeal.τ).loc Cert.KvProjDxIdeal.main_v4) = v0 c
          ∧ r.2.mem ((c.tc : Thread Cert.KvProjDxIdeal.nD Cert.KvProjDxIdeal.τ).loc Cert.KvProjDxIdeal.main_arg0) = m ((c.tc : Thread Cert.KvProjDxIdeal.nD Cert.KvProjDxIdeal.τ).loc Cert.KvProjDxIdeal.main_arg0)
          ∧ r.2.mem ((c.tc : Thread Cert.KvProjDxIdeal.nD Cert.KvProjDxIdeal.τ).loc Cert.KvProjDxIdeal.main_arg1) = m ((c.tc : Thread Cert.KvProjDxIdeal.nD Cert.KvProjDxIdeal.τ).loc Cert.KvProjDxIdeal.main_arg1))
      ∧ θ_run (Cert.KvProjDxRefIdeal.defs (F := Ideal)) (onTc (τ := Cert.KvProjDxRefIdeal.τ) (Cert.KvProjDxRefIdeal.main (F := Ideal))) ⟨m', fun _ => 0, g'⟩ (fun r => ∀ c : Dev Cert.KvProjDxRefIdeal.nD,
          r.2.mem ((c.tc : Thread Cert.KvProjDxRefIdeal.nD Cert.KvProjDxRefIdeal.τ).loc Cert.KvProjDxRefIdeal.main_v3) = v0 c
          ∧ r.2.mem ((c.tc : Thread Cert.KvProjDxRefIdeal.nD Cert.KvProjDxRefIdeal.τ).loc Cert.KvProjDxRefIdeal.main_arg0) = m' ((c.tc : Thread Cert.KvProjDxRefIdeal.nD Cert.KvProjDxRefIdeal.τ).loc Cert.KvProjDxRefIdeal.main_arg0)
          ∧ r.2.mem ((c.tc : Thread Cert.KvProjDxRefIdeal.nD Cert.KvProjDxRefIdeal.τ).loc Cert.KvProjDxRefIdeal.main_arg1) = m' ((c.tc : Thread Cert.KvProjDxRefIdeal.nD Cert.KvProjDxRefIdeal.τ).loc Cert.KvProjDxRefIdeal.main_arg1))

def preserves_KvProjDw_KvProjDwIdeal : Prop :=
  True

def algebraic_KvProjDwIdeal_KvProjDwRefIdeal [hKvProjDwIdeal : Cert.KvProjDwIdeal.Facts] [hKvProjDwRefIdeal : Cert.KvProjDwRefIdeal.Facts] : Prop :=
  ∀ (m : (ℓ : Loc Cert.KvProjDwIdeal.nD Cert.KvProjDwIdeal.τ Cert.KvProjDwIdeal.sig) → Buf (Elt Ideal) ℓ) (g : Dev Cert.KvProjDwIdeal.nD → PrngReg)
    (m' : (ℓ : Loc Cert.KvProjDwRefIdeal.nD Cert.KvProjDwRefIdeal.τ Cert.KvProjDwRefIdeal.sig) → Buf (Elt Ideal) ℓ) (g' : Dev Cert.KvProjDwRefIdeal.nD → PrngReg), Pre_KvProjDwIdeal m →
    (∀ c : Dev Cert.KvProjDwIdeal.nD,
      m' ((c.tc : Thread Cert.KvProjDwRefIdeal.nD Cert.KvProjDwRefIdeal.τ).loc Cert.KvProjDwRefIdeal.main_arg0) = m ((c.tc : Thread Cert.KvProjDwIdeal.nD Cert.KvProjDwIdeal.τ).loc Cert.KvProjDwIdeal.main_arg0)
      ∧ m' ((c.tc : Thread Cert.KvProjDwRefIdeal.nD Cert.KvProjDwRefIdeal.τ).loc Cert.KvProjDwRefIdeal.main_arg1) = m ((c.tc : Thread Cert.KvProjDwIdeal.nD Cert.KvProjDwIdeal.τ).loc Cert.KvProjDwIdeal.main_arg1)) →
    ∃ (v0 : (c : Dev Cert.KvProjDwIdeal.nD) → Buf (Elt Ideal) ((c.tc : Thread Cert.KvProjDwIdeal.nD Cert.KvProjDwIdeal.τ).loc Cert.KvProjDwIdeal.main_v2)),
      θ_run (Cert.KvProjDwIdeal.defs (F := Ideal)) (onTc (τ := Cert.KvProjDwIdeal.τ) (Cert.KvProjDwIdeal.main (F := Ideal))) ⟨m, fun _ => 0, g⟩ (fun r => ∀ c : Dev Cert.KvProjDwIdeal.nD,
          r.2.mem ((c.tc : Thread Cert.KvProjDwIdeal.nD Cert.KvProjDwIdeal.τ).loc Cert.KvProjDwIdeal.main_v2) = v0 c
          ∧ r.2.mem ((c.tc : Thread Cert.KvProjDwIdeal.nD Cert.KvProjDwIdeal.τ).loc Cert.KvProjDwIdeal.main_arg0) = m ((c.tc : Thread Cert.KvProjDwIdeal.nD Cert.KvProjDwIdeal.τ).loc Cert.KvProjDwIdeal.main_arg0)
          ∧ r.2.mem ((c.tc : Thread Cert.KvProjDwIdeal.nD Cert.KvProjDwIdeal.τ).loc Cert.KvProjDwIdeal.main_arg1) = m ((c.tc : Thread Cert.KvProjDwIdeal.nD Cert.KvProjDwIdeal.τ).loc Cert.KvProjDwIdeal.main_arg1))
      ∧ θ_run (Cert.KvProjDwRefIdeal.defs (F := Ideal)) (onTc (τ := Cert.KvProjDwRefIdeal.τ) (Cert.KvProjDwRefIdeal.main (F := Ideal))) ⟨m', fun _ => 0, g'⟩ (fun r => ∀ c : Dev Cert.KvProjDwRefIdeal.nD,
          r.2.mem ((c.tc : Thread Cert.KvProjDwRefIdeal.nD Cert.KvProjDwRefIdeal.τ).loc Cert.KvProjDwRefIdeal.main_v6) = v0 c
          ∧ r.2.mem ((c.tc : Thread Cert.KvProjDwRefIdeal.nD Cert.KvProjDwRefIdeal.τ).loc Cert.KvProjDwRefIdeal.main_arg0) = m' ((c.tc : Thread Cert.KvProjDwRefIdeal.nD Cert.KvProjDwRefIdeal.τ).loc Cert.KvProjDwRefIdeal.main_arg0)
          ∧ r.2.mem ((c.tc : Thread Cert.KvProjDwRefIdeal.nD Cert.KvProjDwRefIdeal.τ).loc Cert.KvProjDwRefIdeal.main_arg1) = m' ((c.tc : Thread Cert.KvProjDwRefIdeal.nD Cert.KvProjDwRefIdeal.τ).loc Cert.KvProjDwRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v1) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemKvDx_MemKvDxIdeal : Prop :=
  True

def algebraic_MemKvDxIdeal_MemKvDxRefIdeal [hMemKvDxIdeal : Cert.MemKvDxIdeal.Facts] [hMemKvDxRefIdeal : Cert.MemKvDxRefIdeal.Facts] : Prop :=
  ∀ (m : (ℓ : Loc Cert.MemKvDxIdeal.nD Cert.MemKvDxIdeal.τ Cert.MemKvDxIdeal.sig) → Buf (Elt Ideal) ℓ) (g : Dev Cert.MemKvDxIdeal.nD → PrngReg)
    (m' : (ℓ : Loc Cert.MemKvDxRefIdeal.nD Cert.MemKvDxRefIdeal.τ Cert.MemKvDxRefIdeal.sig) → Buf (Elt Ideal) ℓ) (g' : Dev Cert.MemKvDxRefIdeal.nD → PrngReg), Pre_MemKvDxIdeal m →
    (∀ c : Dev Cert.MemKvDxIdeal.nD,
      m' ((c.tc : Thread Cert.MemKvDxRefIdeal.nD Cert.MemKvDxRefIdeal.τ).loc Cert.MemKvDxRefIdeal.main_arg0) = m ((c.tc : Thread Cert.MemKvDxIdeal.nD Cert.MemKvDxIdeal.τ).loc Cert.MemKvDxIdeal.main_arg0)
      ∧ m' ((c.tc : Thread Cert.MemKvDxRefIdeal.nD Cert.MemKvDxRefIdeal.τ).loc Cert.MemKvDxRefIdeal.main_arg1) = m ((c.tc : Thread Cert.MemKvDxIdeal.nD Cert.MemKvDxIdeal.τ).loc Cert.MemKvDxIdeal.main_arg1)) →
    ∃ (v0 : (c : Dev Cert.MemKvDxIdeal.nD) → Buf (Elt Ideal) ((c.tc : Thread Cert.MemKvDxIdeal.nD Cert.MemKvDxIdeal.τ).loc Cert.MemKvDxIdeal.main_v2)),
      θ_run (Cert.MemKvDxIdeal.defs (F := Ideal)) (onTc (τ := Cert.MemKvDxIdeal.τ) (Cert.MemKvDxIdeal.main (F := Ideal))) ⟨m, fun _ => 0, g⟩ (fun r => ∀ c : Dev Cert.MemKvDxIdeal.nD,
          r.2.mem ((c.tc : Thread Cert.MemKvDxIdeal.nD Cert.MemKvDxIdeal.τ).loc Cert.MemKvDxIdeal.main_v2) = v0 c
          ∧ r.2.mem ((c.tc : Thread Cert.MemKvDxIdeal.nD Cert.MemKvDxIdeal.τ).loc Cert.MemKvDxIdeal.main_arg0) = m ((c.tc : Thread Cert.MemKvDxIdeal.nD Cert.MemKvDxIdeal.τ).loc Cert.MemKvDxIdeal.main_arg0)
          ∧ r.2.mem ((c.tc : Thread Cert.MemKvDxIdeal.nD Cert.MemKvDxIdeal.τ).loc Cert.MemKvDxIdeal.main_arg1) = m ((c.tc : Thread Cert.MemKvDxIdeal.nD Cert.MemKvDxIdeal.τ).loc Cert.MemKvDxIdeal.main_arg1))
      ∧ θ_run (Cert.MemKvDxRefIdeal.defs (F := Ideal)) (onTc (τ := Cert.MemKvDxRefIdeal.τ) (Cert.MemKvDxRefIdeal.main (F := Ideal))) ⟨m', fun _ => 0, g'⟩ (fun r => ∀ c : Dev Cert.MemKvDxRefIdeal.nD,
          r.2.mem ((c.tc : Thread Cert.MemKvDxRefIdeal.nD Cert.MemKvDxRefIdeal.τ).loc Cert.MemKvDxRefIdeal.main_v2) = v0 c
          ∧ r.2.mem ((c.tc : Thread Cert.MemKvDxRefIdeal.nD Cert.MemKvDxRefIdeal.τ).loc Cert.MemKvDxRefIdeal.main_arg0) = m' ((c.tc : Thread Cert.MemKvDxRefIdeal.nD Cert.MemKvDxRefIdeal.τ).loc Cert.MemKvDxRefIdeal.main_arg0)
          ∧ r.2.mem ((c.tc : Thread Cert.MemKvDxRefIdeal.nD Cert.MemKvDxRefIdeal.τ).loc Cert.MemKvDxRefIdeal.main_arg1) = m' ((c.tc : Thread Cert.MemKvDxRefIdeal.nD Cert.MemKvDxRefIdeal.τ).loc Cert.MemKvDxRefIdeal.main_arg1))

def preserves_MemKvDw_MemKvDwIdeal : Prop :=
  True

def algebraic_MemKvDwIdeal_MemKvDwRefIdeal [hMemKvDwIdeal : Cert.MemKvDwIdeal.Facts] [hMemKvDwRefIdeal : Cert.MemKvDwRefIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg)
    (m' : (ℓ : Loc Cert.MemKvDwRefIdeal.nD Cert.MemKvDwRefIdeal.τ Cert.MemKvDwRefIdeal.sig) → Buf (Elt Ideal) ℓ) (g' : Dev Cert.MemKvDwRefIdeal.nD → PrngReg), Pre_MemKvDwIdeal m →
    (∀ c : Dev Cert.MemKvDwIdeal.nD,
      m' ((c.tc : Thread Cert.MemKvDwRefIdeal.nD Cert.MemKvDwRefIdeal.τ).loc Cert.MemKvDwRefIdeal.main_arg0) = m ((c.tc : Thread Cert.MemKvDwIdeal.nD Cert.MemKvDwIdeal.τ).loc Cert.MemKvDwIdeal.main_arg0)
      ∧ m' ((c.tc : Thread Cert.MemKvDwRefIdeal.nD Cert.MemKvDwRefIdeal.τ).loc Cert.MemKvDwRefIdeal.main_arg1) = m ((c.tc : Thread Cert.MemKvDwIdeal.nD Cert.MemKvDwIdeal.τ).loc Cert.MemKvDwIdeal.main_arg1)) →
    ∃ (v0 : (c : Dev Cert.MemKvDwIdeal.nD) → Buf (Elt Ideal) ((c.tc : Thread Cert.MemKvDwIdeal.nD Cert.MemKvDwIdeal.τ).loc Cert.MemKvDwIdeal.main_v2)),
      θ_run (Cert.MemKvDwIdeal.defs (F := Ideal)) (onTc (τ := Cert.MemKvDwIdeal.τ) (Cert.MemKvDwIdeal.main (F := Ideal))) ⟨m, fun _ => 0, g⟩ (fun r => ∀ c : Dev Cert.MemKvDwIdeal.nD,
          r.2.mem ((c.tc : Thread Cert.MemKvDwIdeal.nD Cert.MemKvDwIdeal.τ).loc Cert.MemKvDwIdeal.main_v2) = v0 c
          ∧ r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
          ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1))
      ∧ θ_run (Cert.MemKvDwRefIdeal.defs (F := Ideal)) (onTc (τ := Cert.MemKvDwRefIdeal.τ) (Cert.MemKvDwRefIdeal.main (F := Ideal))) ⟨m', fun _ => 0, g'⟩ (fun r => ∀ c : Dev Cert.MemKvDwRefIdeal.nD,
          r.2.mem ((c.tc : Thread Cert.MemKvDwRefIdeal.nD Cert.MemKvDwRefIdeal.τ).loc Cert.MemKvDwRefIdeal.main_v4) = v0 c
          ∧ r.2.mem ((c.tc : Thread Cert.MemKvDwRefIdeal.nD Cert.MemKvDwRefIdeal.τ).loc Cert.MemKvDwRefIdeal.main_arg0) = m' ((c.tc : Thread Cert.MemKvDwRefIdeal.nD Cert.MemKvDwRefIdeal.τ).loc Cert.MemKvDwRefIdeal.main_arg0)
          ∧ r.2.mem ((c.tc : Thread Cert.MemKvDwRefIdeal.nD Cert.MemKvDwRefIdeal.τ).loc Cert.MemKvDwRefIdeal.main_arg1) = m' ((c.tc : Thread Cert.MemKvDwRefIdeal.nD Cert.MemKvDwRefIdeal.τ).loc Cert.MemKvDwRefIdeal.main_arg1))

def preserves_RecMem_RecMemIdeal : Prop :=
  True

def algebraic_RecMemIdeal_RecMemRefIdeal [hRecMemIdeal : Cert.RecMemIdeal.Facts] [hRecMemRefIdeal : Cert.RecMemRefIdeal.Facts] : Prop :=
  ∀ (m : (ℓ : Loc Cert.RecMemIdeal.nD Cert.RecMemIdeal.τ Cert.RecMemIdeal.sig) → Buf (Elt Ideal) ℓ) (g : Dev Cert.RecMemIdeal.nD → PrngReg)
    (m' : (ℓ : Loc Cert.RecMemRefIdeal.nD Cert.RecMemRefIdeal.τ Cert.RecMemRefIdeal.sig) → Buf (Elt Ideal) ℓ) (g' : Dev Cert.RecMemRefIdeal.nD → PrngReg), Pre_RecMemIdeal m →
    (∀ c : Dev Cert.RecMemIdeal.nD,
      m' ((c.tc : Thread Cert.RecMemRefIdeal.nD Cert.RecMemRefIdeal.τ).loc Cert.RecMemRefIdeal.main_arg0) = m ((c.tc : Thread Cert.RecMemIdeal.nD Cert.RecMemIdeal.τ).loc Cert.RecMemIdeal.main_arg0)
      ∧ m' ((c.tc : Thread Cert.RecMemRefIdeal.nD Cert.RecMemRefIdeal.τ).loc Cert.RecMemRefIdeal.main_arg1) = m ((c.tc : Thread Cert.RecMemIdeal.nD Cert.RecMemIdeal.τ).loc Cert.RecMemIdeal.main_arg1)) →
    ∃ (v0 : (c : Dev Cert.RecMemIdeal.nD) → Buf (Elt Ideal) ((c.tc : Thread Cert.RecMemIdeal.nD Cert.RecMemIdeal.τ).loc Cert.RecMemIdeal.main_v1)),
      θ_run (Cert.RecMemIdeal.defs (F := Ideal)) (onTc (τ := Cert.RecMemIdeal.τ) (Cert.RecMemIdeal.main (F := Ideal))) ⟨m, fun _ => 0, g⟩ (fun r => ∀ c : Dev Cert.RecMemIdeal.nD,
          r.2.mem ((c.tc : Thread Cert.RecMemIdeal.nD Cert.RecMemIdeal.τ).loc Cert.RecMemIdeal.main_v1) = v0 c
          ∧ r.2.mem ((c.tc : Thread Cert.RecMemIdeal.nD Cert.RecMemIdeal.τ).loc Cert.RecMemIdeal.main_arg0) = m ((c.tc : Thread Cert.RecMemIdeal.nD Cert.RecMemIdeal.τ).loc Cert.RecMemIdeal.main_arg0)
          ∧ r.2.mem ((c.tc : Thread Cert.RecMemIdeal.nD Cert.RecMemIdeal.τ).loc Cert.RecMemIdeal.main_arg1) = m ((c.tc : Thread Cert.RecMemIdeal.nD Cert.RecMemIdeal.τ).loc Cert.RecMemIdeal.main_arg1))
      ∧ θ_run (Cert.RecMemRefIdeal.defs (F := Ideal)) (onTc (τ := Cert.RecMemRefIdeal.τ) (Cert.RecMemRefIdeal.main (F := Ideal))) ⟨m', fun _ => 0, g'⟩ (fun r => ∀ c : Dev Cert.RecMemRefIdeal.nD,
          r.2.mem ((c.tc : Thread Cert.RecMemRefIdeal.nD Cert.RecMemRefIdeal.τ).loc Cert.RecMemRefIdeal.main_v23) = v0 c
          ∧ r.2.mem ((c.tc : Thread Cert.RecMemRefIdeal.nD Cert.RecMemRefIdeal.τ).loc Cert.RecMemRefIdeal.main_arg0) = m' ((c.tc : Thread Cert.RecMemRefIdeal.nD Cert.RecMemRefIdeal.τ).loc Cert.RecMemRefIdeal.main_arg0)
          ∧ r.2.mem ((c.tc : Thread Cert.RecMemRefIdeal.nD Cert.RecMemRefIdeal.τ).loc Cert.RecMemRefIdeal.main_arg1) = m' ((c.tc : Thread Cert.RecMemRefIdeal.nD Cert.RecMemRefIdeal.τ).loc Cert.RecMemRefIdeal.main_arg1))

def preserves_DilMem_DilMemIdeal : Prop :=
  True

def algebraic_DilMemIdeal_DilMemRefIdeal [hDilMemIdeal : Cert.DilMemIdeal.Facts] [hDilMemRefIdeal : Cert.DilMemRefIdeal.Facts] : Prop :=
  ∀ (m : (ℓ : Loc Cert.DilMemIdeal.nD Cert.DilMemIdeal.τ Cert.DilMemIdeal.sig) → Buf (Elt Ideal) ℓ) (g : Dev Cert.DilMemIdeal.nD → PrngReg)
    (m' : (ℓ : Loc Cert.DilMemRefIdeal.nD Cert.DilMemRefIdeal.τ Cert.DilMemRefIdeal.sig) → Buf (Elt Ideal) ℓ) (g' : Dev Cert.DilMemRefIdeal.nD → PrngReg), Pre_DilMemIdeal m →
    (∀ c : Dev Cert.DilMemIdeal.nD,
      m' ((c.tc : Thread Cert.DilMemRefIdeal.nD Cert.DilMemRefIdeal.τ).loc Cert.DilMemRefIdeal.main_arg0) = m ((c.tc : Thread Cert.DilMemIdeal.nD Cert.DilMemIdeal.τ).loc Cert.DilMemIdeal.main_arg0)
      ∧ m' ((c.tc : Thread Cert.DilMemRefIdeal.nD Cert.DilMemRefIdeal.τ).loc Cert.DilMemRefIdeal.main_arg1) = m ((c.tc : Thread Cert.DilMemIdeal.nD Cert.DilMemIdeal.τ).loc Cert.DilMemIdeal.main_arg1)) →
    ∃ (v0 : (c : Dev Cert.DilMemIdeal.nD) → Buf (Elt Ideal) ((c.tc : Thread Cert.DilMemIdeal.nD Cert.DilMemIdeal.τ).loc Cert.DilMemIdeal.main_v1)),
      θ_run (Cert.DilMemIdeal.defs (F := Ideal)) (onTc (τ := Cert.DilMemIdeal.τ) (Cert.DilMemIdeal.main (F := Ideal))) ⟨m, fun _ => 0, g⟩ (fun r => ∀ c : Dev Cert.DilMemIdeal.nD,
          r.2.mem ((c.tc : Thread Cert.DilMemIdeal.nD Cert.DilMemIdeal.τ).loc Cert.DilMemIdeal.main_v1) = v0 c
          ∧ r.2.mem ((c.tc : Thread Cert.DilMemIdeal.nD Cert.DilMemIdeal.τ).loc Cert.DilMemIdeal.main_arg0) = m ((c.tc : Thread Cert.DilMemIdeal.nD Cert.DilMemIdeal.τ).loc Cert.DilMemIdeal.main_arg0)
          ∧ r.2.mem ((c.tc : Thread Cert.DilMemIdeal.nD Cert.DilMemIdeal.τ).loc Cert.DilMemIdeal.main_arg1) = m ((c.tc : Thread Cert.DilMemIdeal.nD Cert.DilMemIdeal.τ).loc Cert.DilMemIdeal.main_arg1))
      ∧ θ_run (Cert.DilMemRefIdeal.defs (F := Ideal)) (onTc (τ := Cert.DilMemRefIdeal.τ) (Cert.DilMemRefIdeal.main (F := Ideal))) ⟨m', fun _ => 0, g'⟩ (fun r => ∀ c : Dev Cert.DilMemRefIdeal.nD,
          r.2.mem ((c.tc : Thread Cert.DilMemRefIdeal.nD Cert.DilMemRefIdeal.τ).loc Cert.DilMemRefIdeal.main_v23) = v0 c
          ∧ r.2.mem ((c.tc : Thread Cert.DilMemRefIdeal.nD Cert.DilMemRefIdeal.τ).loc Cert.DilMemRefIdeal.main_arg0) = m' ((c.tc : Thread Cert.DilMemRefIdeal.nD Cert.DilMemRefIdeal.τ).loc Cert.DilMemRefIdeal.main_arg0)
          ∧ r.2.mem ((c.tc : Thread Cert.DilMemRefIdeal.nD Cert.DilMemRefIdeal.τ).loc Cert.DilMemRefIdeal.main_arg1) = m' ((c.tc : Thread Cert.DilMemRefIdeal.nD Cert.DilMemRefIdeal.τ).loc Cert.DilMemRefIdeal.main_arg1))

def preserves_DilMemGrad_DilMemGradIdeal : Prop :=
  True

def algebraic_DilMemGradIdeal_DilMemGradRefIdeal_pre_dil_mem_finite [hDilMemGradIdeal : Cert.DilMemGradIdeal.Facts] [hDilMemGradRefIdeal : Cert.DilMemGradRefIdeal.Facts] [hPre_dil_mem_finite : Cert.Pre_dil_mem_finite.Facts] : Prop :=
  ∀ (m : (ℓ : Loc Cert.DilMemGradIdeal.nD Cert.DilMemGradIdeal.τ Cert.DilMemGradIdeal.sig) → Buf (Elt Ideal) ℓ) (g : Dev Cert.DilMemGradIdeal.nD → PrngReg)
    (m' : (ℓ : Loc Cert.DilMemGradRefIdeal.nD Cert.DilMemGradRefIdeal.τ Cert.DilMemGradRefIdeal.sig) → Buf (Elt Ideal) ℓ) (g' : Dev Cert.DilMemGradRefIdeal.nD → PrngReg), Pre_DilMemGradIdeal_dil_mem_finite m →
    (∀ c : Dev Cert.DilMemGradIdeal.nD,
      m' ((c.tc : Thread Cert.DilMemGradRefIdeal.nD Cert.DilMemGradRefIdeal.τ).loc Cert.DilMemGradRefIdeal.main_arg0) = m ((c.tc : Thread Cert.DilMemGradIdeal.nD Cert.DilMemGradIdeal.τ).loc Cert.DilMemGradIdeal.main_arg0)
      ∧ m' ((c.tc : Thread Cert.DilMemGradRefIdeal.nD Cert.DilMemGradRefIdeal.τ).loc Cert.DilMemGradRefIdeal.main_arg1) = m ((c.tc : Thread Cert.DilMemGradIdeal.nD Cert.DilMemGradIdeal.τ).loc Cert.DilMemGradIdeal.main_arg1)
      ∧ m' ((c.tc : Thread Cert.DilMemGradRefIdeal.nD Cert.DilMemGradRefIdeal.τ).loc Cert.DilMemGradRefIdeal.main_arg2) = m ((c.tc : Thread Cert.DilMemGradIdeal.nD Cert.DilMemGradIdeal.τ).loc Cert.DilMemGradIdeal.main_arg2)) →
    ∃ (v0 : (c : Dev Cert.DilMemGradIdeal.nD) → Buf (Elt Ideal) ((c.tc : Thread Cert.DilMemGradIdeal.nD Cert.DilMemGradIdeal.τ).loc Cert.DilMemGradIdeal.main_v1_0)) (v1 : (c : Dev Cert.DilMemGradIdeal.nD) → Buf (Elt Ideal) ((c.tc : Thread Cert.DilMemGradIdeal.nD Cert.DilMemGradIdeal.τ).loc Cert.DilMemGradIdeal.main_v1_1)),
      θ_run (Cert.DilMemGradIdeal.defs (F := Ideal)) (onTc (τ := Cert.DilMemGradIdeal.τ) (Cert.DilMemGradIdeal.main (F := Ideal))) ⟨m, fun _ => 0, g⟩ (fun r => ∀ c : Dev Cert.DilMemGradIdeal.nD,
          r.2.mem ((c.tc : Thread Cert.DilMemGradIdeal.nD Cert.DilMemGradIdeal.τ).loc Cert.DilMemGradIdeal.main_v1_0) = v0 c
          ∧ r.2.mem ((c.tc : Thread Cert.DilMemGradIdeal.nD Cert.DilMemGradIdeal.τ).loc Cert.DilMemGradIdeal.main_v1_1) = v1 c
          ∧ r.2.mem ((c.tc : Thread Cert.DilMemGradIdeal.nD Cert.DilMemGradIdeal.τ).loc Cert.DilMemGradIdeal.main_arg0) = m ((c.tc : Thread Cert.DilMemGradIdeal.nD Cert.DilMemGradIdeal.τ).loc Cert.DilMemGradIdeal.main_arg0)
          ∧ r.2.mem ((c.tc : Thread Cert.DilMemGradIdeal.nD Cert.DilMemGradIdeal.τ).loc Cert.DilMemGradIdeal.main_arg1) = m ((c.tc : Thread Cert.DilMemGradIdeal.nD Cert.DilMemGradIdeal.τ).loc Cert.DilMemGradIdeal.main_arg1)
          ∧ r.2.mem ((c.tc : Thread Cert.DilMemGradIdeal.nD Cert.DilMemGradIdeal.τ).loc Cert.DilMemGradIdeal.main_arg2) = m ((c.tc : Thread Cert.DilMemGradIdeal.nD Cert.DilMemGradIdeal.τ).loc Cert.DilMemGradIdeal.main_arg2))
      ∧ θ_run (Cert.DilMemGradRefIdeal.defs (F := Ideal)) (onTc (τ := Cert.DilMemGradRefIdeal.τ) (Cert.DilMemGradRefIdeal.main (F := Ideal))) ⟨m', fun _ => 0, g'⟩ (fun r => ∀ c : Dev Cert.DilMemGradRefIdeal.nD,
          r.2.mem ((c.tc : Thread Cert.DilMemGradRefIdeal.nD Cert.DilMemGradRefIdeal.τ).loc Cert.DilMemGradRefIdeal.main_v67) = v0 c
          ∧ r.2.mem ((c.tc : Thread Cert.DilMemGradRefIdeal.nD Cert.DilMemGradRefIdeal.τ).loc Cert.DilMemGradRefIdeal.main_v68) = v1 c
          ∧ r.2.mem ((c.tc : Thread Cert.DilMemGradRefIdeal.nD Cert.DilMemGradRefIdeal.τ).loc Cert.DilMemGradRefIdeal.main_arg0) = m' ((c.tc : Thread Cert.DilMemGradRefIdeal.nD Cert.DilMemGradRefIdeal.τ).loc Cert.DilMemGradRefIdeal.main_arg0)
          ∧ r.2.mem ((c.tc : Thread Cert.DilMemGradRefIdeal.nD Cert.DilMemGradRefIdeal.τ).loc Cert.DilMemGradRefIdeal.main_arg1) = m' ((c.tc : Thread Cert.DilMemGradRefIdeal.nD Cert.DilMemGradRefIdeal.τ).loc Cert.DilMemGradRefIdeal.main_arg1)
          ∧ r.2.mem ((c.tc : Thread Cert.DilMemGradRefIdeal.nD Cert.DilMemGradRefIdeal.τ).loc Cert.DilMemGradRefIdeal.main_arg2) = m' ((c.tc : Thread Cert.DilMemGradRefIdeal.nD Cert.DilMemGradRefIdeal.τ).loc Cert.DilMemGradRefIdeal.main_arg2))

def preserves_PreNorm_PreNormIdeal : Prop :=
  True

def algebraic_PreNormIdeal_PreNormRefIdeal [hPreNormIdeal : Cert.PreNormIdeal.Facts] [hPreNormRefIdeal : Cert.PreNormRefIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormRefIdeal.nD Cert.PreNormRefIdeal.τ Cert.PreNormRefIdeal.sig) → Buf (Elt Ideal) ℓ) (g' : Dev Cert.PreNormRefIdeal.nD → PrngReg), Pre_PreNormIdeal m →
    (∀ c : Dev Cert.PreNormIdeal.nD,
      m' ((c.tc : Thread Cert.PreNormRefIdeal.nD Cert.PreNormRefIdeal.τ).loc Cert.PreNormRefIdeal.main_arg0) = m ((c.tc : Thread Cert.PreNormIdeal.nD Cert.PreNormIdeal.τ).loc Cert.PreNormIdeal.main_arg0)
      ∧ m' ((c.tc : Thread Cert.PreNormRefIdeal.nD Cert.PreNormRefIdeal.τ).loc Cert.PreNormRefIdeal.main_arg1) = m ((c.tc : Thread Cert.PreNormIdeal.nD Cert.PreNormIdeal.τ).loc Cert.PreNormIdeal.main_arg1)) →
    ∃ (v0 : (c : Dev Cert.PreNormIdeal.nD) → Buf (Elt Ideal) ((c.tc : Thread Cert.PreNormIdeal.nD Cert.PreNormIdeal.τ).loc Cert.PreNormIdeal.main_v1)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v1) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1))
      ∧ θ_run (Cert.PreNormRefIdeal.defs (F := Ideal)) (onTc (τ := Cert.PreNormRefIdeal.τ) (Cert.PreNormRefIdeal.main (F := Ideal))) ⟨m', fun _ => 0, g'⟩ (fun r => ∀ c : Dev Cert.PreNormRefIdeal.nD,
          r.2.mem ((c.tc : Thread Cert.PreNormRefIdeal.nD Cert.PreNormRefIdeal.τ).loc Cert.PreNormRefIdeal.main_v13) = v0 c
          ∧ r.2.mem ((c.tc : Thread Cert.PreNormRefIdeal.nD Cert.PreNormRefIdeal.τ).loc Cert.PreNormRefIdeal.main_arg0) = m' ((c.tc : Thread Cert.PreNormRefIdeal.nD Cert.PreNormRefIdeal.τ).loc Cert.PreNormRefIdeal.main_arg0)
          ∧ r.2.mem ((c.tc : Thread Cert.PreNormRefIdeal.nD Cert.PreNormRefIdeal.τ).loc Cert.PreNormRefIdeal.main_arg1) = m' ((c.tc : Thread Cert.PreNormRefIdeal.nD Cert.PreNormRefIdeal.τ).loc Cert.PreNormRefIdeal.main_arg1))

def preserves_PostNorm_PostNormIdeal : Prop :=
  True

def algebraic_PostNormIdeal_PostNormRefIdeal [hPostNormIdeal : Cert.PostNormIdeal.Facts] [hPostNormRefIdeal : Cert.PostNormRefIdeal.Facts] : Prop :=
  ∀ (m : (ℓ : Loc Cert.PostNormIdeal.nD Cert.PostNormIdeal.τ Cert.PostNormIdeal.sig) → Buf (Elt Ideal) ℓ) (g : Dev Cert.PostNormIdeal.nD → PrngReg)
    (m' : (ℓ : Loc Cert.PostNormRefIdeal.nD Cert.PostNormRefIdeal.τ Cert.PostNormRefIdeal.sig) → Buf (Elt Ideal) ℓ) (g' : Dev Cert.PostNormRefIdeal.nD → PrngReg), Pre_PostNormIdeal m →
    (∀ c : Dev Cert.PostNormIdeal.nD,
      m' ((c.tc : Thread Cert.PostNormRefIdeal.nD Cert.PostNormRefIdeal.τ).loc Cert.PostNormRefIdeal.main_arg0) = m ((c.tc : Thread Cert.PostNormIdeal.nD Cert.PostNormIdeal.τ).loc Cert.PostNormIdeal.main_arg0)
      ∧ m' ((c.tc : Thread Cert.PostNormRefIdeal.nD Cert.PostNormRefIdeal.τ).loc Cert.PostNormRefIdeal.main_arg1) = m ((c.tc : Thread Cert.PostNormIdeal.nD Cert.PostNormIdeal.τ).loc Cert.PostNormIdeal.main_arg1)
      ∧ m' ((c.tc : Thread Cert.PostNormRefIdeal.nD Cert.PostNormRefIdeal.τ).loc Cert.PostNormRefIdeal.main_arg2) = m ((c.tc : Thread Cert.PostNormIdeal.nD Cert.PostNormIdeal.τ).loc Cert.PostNormIdeal.main_arg2)) →
    ∃ (v0 : (c : Dev Cert.PostNormIdeal.nD) → Buf (Elt Ideal) ((c.tc : Thread Cert.PostNormIdeal.nD Cert.PostNormIdeal.τ).loc Cert.PostNormIdeal.main_v1)),
      θ_run (Cert.PostNormIdeal.defs (F := Ideal)) (onTc (τ := Cert.PostNormIdeal.τ) (Cert.PostNormIdeal.main (F := Ideal))) ⟨m, fun _ => 0, g⟩ (fun r => ∀ c : Dev Cert.PostNormIdeal.nD,
          r.2.mem ((c.tc : Thread Cert.PostNormIdeal.nD Cert.PostNormIdeal.τ).loc Cert.PostNormIdeal.main_v1) = v0 c
          ∧ r.2.mem ((c.tc : Thread Cert.PostNormIdeal.nD Cert.PostNormIdeal.τ).loc Cert.PostNormIdeal.main_arg0) = m ((c.tc : Thread Cert.PostNormIdeal.nD Cert.PostNormIdeal.τ).loc Cert.PostNormIdeal.main_arg0)
          ∧ r.2.mem ((c.tc : Thread Cert.PostNormIdeal.nD Cert.PostNormIdeal.τ).loc Cert.PostNormIdeal.main_arg1) = m ((c.tc : Thread Cert.PostNormIdeal.nD Cert.PostNormIdeal.τ).loc Cert.PostNormIdeal.main_arg1)
          ∧ r.2.mem ((c.tc : Thread Cert.PostNormIdeal.nD Cert.PostNormIdeal.τ).loc Cert.PostNormIdeal.main_arg2) = m ((c.tc : Thread Cert.PostNormIdeal.nD Cert.PostNormIdeal.τ).loc Cert.PostNormIdeal.main_arg2))
      ∧ θ_run (Cert.PostNormRefIdeal.defs (F := Ideal)) (onTc (τ := Cert.PostNormRefIdeal.τ) (Cert.PostNormRefIdeal.main (F := Ideal))) ⟨m', fun _ => 0, g'⟩ (fun r => ∀ c : Dev Cert.PostNormRefIdeal.nD,
          r.2.mem ((c.tc : Thread Cert.PostNormRefIdeal.nD Cert.PostNormRefIdeal.τ).loc Cert.PostNormRefIdeal.main_v13) = v0 c
          ∧ r.2.mem ((c.tc : Thread Cert.PostNormRefIdeal.nD Cert.PostNormRefIdeal.τ).loc Cert.PostNormRefIdeal.main_arg0) = m' ((c.tc : Thread Cert.PostNormRefIdeal.nD Cert.PostNormRefIdeal.τ).loc Cert.PostNormRefIdeal.main_arg0)
          ∧ r.2.mem ((c.tc : Thread Cert.PostNormRefIdeal.nD Cert.PostNormRefIdeal.τ).loc Cert.PostNormRefIdeal.main_arg1) = m' ((c.tc : Thread Cert.PostNormRefIdeal.nD Cert.PostNormRefIdeal.τ).loc Cert.PostNormRefIdeal.main_arg1)
          ∧ r.2.mem ((c.tc : Thread Cert.PostNormRefIdeal.nD Cert.PostNormRefIdeal.τ).loc Cert.PostNormRefIdeal.main_arg2) = m' ((c.tc : Thread Cert.PostNormRefIdeal.nD Cert.PostNormRefIdeal.τ).loc Cert.PostNormRefIdeal.main_arg2))

def preserves_PostPreNorm_PostPreNormIdeal : Prop :=
  True

def algebraic_PostPreNormIdeal_PostPreNormRefIdeal [hPostPreNormIdeal : Cert.PostPreNormIdeal.Facts] [hPostPreNormRefIdeal : Cert.PostPreNormRefIdeal.Facts] : Prop :=
  ∀ (m : (ℓ : Loc Cert.PostPreNormIdeal.nD Cert.PostPreNormIdeal.τ Cert.PostPreNormIdeal.sig) → Buf (Elt Ideal) ℓ) (g : Dev Cert.PostPreNormIdeal.nD → PrngReg)
    (m' : (ℓ : Loc Cert.PostPreNormRefIdeal.nD Cert.PostPreNormRefIdeal.τ Cert.PostPreNormRefIdeal.sig) → Buf (Elt Ideal) ℓ) (g' : Dev Cert.PostPreNormRefIdeal.nD → PrngReg), Pre_PostPreNormIdeal m →
    (∀ c : Dev Cert.PostPreNormIdeal.nD,
      m' ((c.tc : Thread Cert.PostPreNormRefIdeal.nD Cert.PostPreNormRefIdeal.τ).loc Cert.PostPreNormRefIdeal.main_arg0) = m ((c.tc : Thread Cert.PostPreNormIdeal.nD Cert.PostPreNormIdeal.τ).loc Cert.PostPreNormIdeal.main_arg0)
      ∧ m' ((c.tc : Thread Cert.PostPreNormRefIdeal.nD Cert.PostPreNormRefIdeal.τ).loc Cert.PostPreNormRefIdeal.main_arg1) = m ((c.tc : Thread Cert.PostPreNormIdeal.nD Cert.PostPreNormIdeal.τ).loc Cert.PostPreNormIdeal.main_arg1)
      ∧ m' ((c.tc : Thread Cert.PostPreNormRefIdeal.nD Cert.PostPreNormRefIdeal.τ).loc Cert.PostPreNormRefIdeal.main_arg2) = m ((c.tc : Thread Cert.PostPreNormIdeal.nD Cert.PostPreNormIdeal.τ).loc Cert.PostPreNormIdeal.main_arg2)
      ∧ m' ((c.tc : Thread Cert.PostPreNormRefIdeal.nD Cert.PostPreNormRefIdeal.τ).loc Cert.PostPreNormRefIdeal.main_arg3) = m ((c.tc : Thread Cert.PostPreNormIdeal.nD Cert.PostPreNormIdeal.τ).loc Cert.PostPreNormIdeal.main_arg3)) →
    ∃ (v0 : (c : Dev Cert.PostPreNormIdeal.nD) → Buf (Elt Ideal) ((c.tc : Thread Cert.PostPreNormIdeal.nD Cert.PostPreNormIdeal.τ).loc Cert.PostPreNormIdeal.main_v2_0)) (v1 : (c : Dev Cert.PostPreNormIdeal.nD) → Buf (Elt Ideal) ((c.tc : Thread Cert.PostPreNormIdeal.nD Cert.PostPreNormIdeal.τ).loc Cert.PostPreNormIdeal.main_v2_1)),
      θ_run (Cert.PostPreNormIdeal.defs (F := Ideal)) (onTc (τ := Cert.PostPreNormIdeal.τ) (Cert.PostPreNormIdeal.main (F := Ideal))) ⟨m, fun _ => 0, g⟩ (fun r => ∀ c : Dev Cert.PostPreNormIdeal.nD,
          r.2.mem ((c.tc : Thread Cert.PostPreNormIdeal.nD Cert.PostPreNormIdeal.τ).loc Cert.PostPreNormIdeal.main_v2_0) = v0 c
          ∧ r.2.mem ((c.tc : Thread Cert.PostPreNormIdeal.nD Cert.PostPreNormIdeal.τ).loc Cert.PostPreNormIdeal.main_v2_1) = v1 c
          ∧ r.2.mem ((c.tc : Thread Cert.PostPreNormIdeal.nD Cert.PostPreNormIdeal.τ).loc Cert.PostPreNormIdeal.main_arg0) = m ((c.tc : Thread Cert.PostPreNormIdeal.nD Cert.PostPreNormIdeal.τ).loc Cert.PostPreNormIdeal.main_arg0)
          ∧ r.2.mem ((c.tc : Thread Cert.PostPreNormIdeal.nD Cert.PostPreNormIdeal.τ).loc Cert.PostPreNormIdeal.main_arg1) = m ((c.tc : Thread Cert.PostPreNormIdeal.nD Cert.PostPreNormIdeal.τ).loc Cert.PostPreNormIdeal.main_arg1)
          ∧ r.2.mem ((c.tc : Thread Cert.PostPreNormIdeal.nD Cert.PostPreNormIdeal.τ).loc Cert.PostPreNormIdeal.main_arg2) = m ((c.tc : Thread Cert.PostPreNormIdeal.nD Cert.PostPreNormIdeal.τ).loc Cert.PostPreNormIdeal.main_arg2)
          ∧ r.2.mem ((c.tc : Thread Cert.PostPreNormIdeal.nD Cert.PostPreNormIdeal.τ).loc Cert.PostPreNormIdeal.main_arg3) = m ((c.tc : Thread Cert.PostPreNormIdeal.nD Cert.PostPreNormIdeal.τ).loc Cert.PostPreNormIdeal.main_arg3))
      ∧ θ_run (Cert.PostPreNormRefIdeal.defs (F := Ideal)) (onTc (τ := Cert.PostPreNormRefIdeal.τ) (Cert.PostPreNormRefIdeal.main (F := Ideal))) ⟨m', fun _ => 0, g'⟩ (fun r => ∀ c : Dev Cert.PostPreNormRefIdeal.nD,
          r.2.mem ((c.tc : Thread Cert.PostPreNormRefIdeal.nD Cert.PostPreNormRefIdeal.τ).loc Cert.PostPreNormRefIdeal.main_v13) = v0 c
          ∧ r.2.mem ((c.tc : Thread Cert.PostPreNormRefIdeal.nD Cert.PostPreNormRefIdeal.τ).loc Cert.PostPreNormRefIdeal.main_v27) = v1 c
          ∧ r.2.mem ((c.tc : Thread Cert.PostPreNormRefIdeal.nD Cert.PostPreNormRefIdeal.τ).loc Cert.PostPreNormRefIdeal.main_arg0) = m' ((c.tc : Thread Cert.PostPreNormRefIdeal.nD Cert.PostPreNormRefIdeal.τ).loc Cert.PostPreNormRefIdeal.main_arg0)
          ∧ r.2.mem ((c.tc : Thread Cert.PostPreNormRefIdeal.nD Cert.PostPreNormRefIdeal.τ).loc Cert.PostPreNormRefIdeal.main_arg1) = m' ((c.tc : Thread Cert.PostPreNormRefIdeal.nD Cert.PostPreNormRefIdeal.τ).loc Cert.PostPreNormRefIdeal.main_arg1)
          ∧ r.2.mem ((c.tc : Thread Cert.PostPreNormRefIdeal.nD Cert.PostPreNormRefIdeal.τ).loc Cert.PostPreNormRefIdeal.main_arg2) = m' ((c.tc : Thread Cert.PostPreNormRefIdeal.nD Cert.PostPreNormRefIdeal.τ).loc Cert.PostPreNormRefIdeal.main_arg2)
          ∧ r.2.mem ((c.tc : Thread Cert.PostPreNormRefIdeal.nD Cert.PostPreNormRefIdeal.τ).loc Cert.PostPreNormRefIdeal.main_arg3) = m' ((c.tc : Thread Cert.PostPreNormRefIdeal.nD Cert.PostPreNormRefIdeal.τ).loc Cert.PostPreNormRefIdeal.main_arg3))

def preserves_PostNormBwd_PostNormBwdIdeal : Prop :=
  True

def algebraic_PostNormBwdIdeal_PostNormBwdRefIdeal [hPostNormBwdIdeal : Cert.PostNormBwdIdeal.Facts] [hPostNormBwdRefIdeal : Cert.PostNormBwdRefIdeal.Facts] : Prop :=
  ∀ (m : (ℓ : Loc Cert.PostNormBwdIdeal.nD Cert.PostNormBwdIdeal.τ Cert.PostNormBwdIdeal.sig) → Buf (Elt Ideal) ℓ) (g : Dev Cert.PostNormBwdIdeal.nD → PrngReg)
    (m' : (ℓ : Loc Cert.PostNormBwdRefIdeal.nD Cert.PostNormBwdRefIdeal.τ Cert.PostNormBwdRefIdeal.sig) → Buf (Elt Ideal) ℓ) (g' : Dev Cert.PostNormBwdRefIdeal.nD → PrngReg), Pre_PostNormBwdIdeal m →
    (∀ c : Dev Cert.PostNormBwdIdeal.nD,
      m' ((c.tc : Thread Cert.PostNormBwdRefIdeal.nD Cert.PostNormBwdRefIdeal.τ).loc Cert.PostNormBwdRefIdeal.main_arg0) = m ((c.tc : Thread Cert.PostNormBwdIdeal.nD Cert.PostNormBwdIdeal.τ).loc Cert.PostNormBwdIdeal.main_arg0)
      ∧ m' ((c.tc : Thread Cert.PostNormBwdRefIdeal.nD Cert.PostNormBwdRefIdeal.τ).loc Cert.PostNormBwdRefIdeal.main_arg1) = m ((c.tc : Thread Cert.PostNormBwdIdeal.nD Cert.PostNormBwdIdeal.τ).loc Cert.PostNormBwdIdeal.main_arg1)
      ∧ m' ((c.tc : Thread Cert.PostNormBwdRefIdeal.nD Cert.PostNormBwdRefIdeal.τ).loc Cert.PostNormBwdRefIdeal.main_arg2) = m ((c.tc : Thread Cert.PostNormBwdIdeal.nD Cert.PostNormBwdIdeal.τ).loc Cert.PostNormBwdIdeal.main_arg2)) →
    ∃ (v0 : (c : Dev Cert.PostNormBwdIdeal.nD) → Buf (Elt Ideal) ((c.tc : Thread Cert.PostNormBwdIdeal.nD Cert.PostNormBwdIdeal.τ).loc Cert.PostNormBwdIdeal.main_v1_0)) (v1 : (c : Dev Cert.PostNormBwdIdeal.nD) → Buf (Elt Ideal) ((c.tc : Thread Cert.PostNormBwdIdeal.nD Cert.PostNormBwdIdeal.τ).loc Cert.PostNormBwdIdeal.main_v1_1)),
      θ_run (Cert.PostNormBwdIdeal.defs (F := Ideal)) (onTc (τ := Cert.PostNormBwdIdeal.τ) (Cert.PostNormBwdIdeal.main (F := Ideal))) ⟨m, fun _ => 0, g⟩ (fun r => ∀ c : Dev Cert.PostNormBwdIdeal.nD,
          r.2.mem ((c.tc : Thread Cert.PostNormBwdIdeal.nD Cert.PostNormBwdIdeal.τ).loc Cert.PostNormBwdIdeal.main_v1_0) = v0 c
          ∧ r.2.mem ((c.tc : Thread Cert.PostNormBwdIdeal.nD Cert.PostNormBwdIdeal.τ).loc Cert.PostNormBwdIdeal.main_v1_1) = v1 c
          ∧ r.2.mem ((c.tc : Thread Cert.PostNormBwdIdeal.nD Cert.PostNormBwdIdeal.τ).loc Cert.PostNormBwdIdeal.main_arg0) = m ((c.tc : Thread Cert.PostNormBwdIdeal.nD Cert.PostNormBwdIdeal.τ).loc Cert.PostNormBwdIdeal.main_arg0)
          ∧ r.2.mem ((c.tc : Thread Cert.PostNormBwdIdeal.nD Cert.PostNormBwdIdeal.τ).loc Cert.PostNormBwdIdeal.main_arg1) = m ((c.tc : Thread Cert.PostNormBwdIdeal.nD Cert.PostNormBwdIdeal.τ).loc Cert.PostNormBwdIdeal.main_arg1)
          ∧ r.2.mem ((c.tc : Thread Cert.PostNormBwdIdeal.nD Cert.PostNormBwdIdeal.τ).loc Cert.PostNormBwdIdeal.main_arg2) = m ((c.tc : Thread Cert.PostNormBwdIdeal.nD Cert.PostNormBwdIdeal.τ).loc Cert.PostNormBwdIdeal.main_arg2))
      ∧ θ_run (Cert.PostNormBwdRefIdeal.defs (F := Ideal)) (onTc (τ := Cert.PostNormBwdRefIdeal.τ) (Cert.PostNormBwdRefIdeal.main (F := Ideal))) ⟨m', fun _ => 0, g'⟩ (fun r => ∀ c : Dev Cert.PostNormBwdRefIdeal.nD,
          r.2.mem ((c.tc : Thread Cert.PostNormBwdRefIdeal.nD Cert.PostNormBwdRefIdeal.τ).loc Cert.PostNormBwdRefIdeal.main_v36) = v0 c
          ∧ r.2.mem ((c.tc : Thread Cert.PostNormBwdRefIdeal.nD Cert.PostNormBwdRefIdeal.τ).loc Cert.PostNormBwdRefIdeal.main_v37) = v1 c
          ∧ r.2.mem ((c.tc : Thread Cert.PostNormBwdRefIdeal.nD Cert.PostNormBwdRefIdeal.τ).loc Cert.PostNormBwdRefIdeal.main_arg0) = m' ((c.tc : Thread Cert.PostNormBwdRefIdeal.nD Cert.PostNormBwdRefIdeal.τ).loc Cert.PostNormBwdRefIdeal.main_arg0)
          ∧ r.2.mem ((c.tc : Thread Cert.PostNormBwdRefIdeal.nD Cert.PostNormBwdRefIdeal.τ).loc Cert.PostNormBwdRefIdeal.main_arg1) = m' ((c.tc : Thread Cert.PostNormBwdRefIdeal.nD Cert.PostNormBwdRefIdeal.τ).loc Cert.PostNormBwdRefIdeal.main_arg1)
          ∧ r.2.mem ((c.tc : Thread Cert.PostNormBwdRefIdeal.nD Cert.PostNormBwdRefIdeal.τ).loc Cert.PostNormBwdRefIdeal.main_arg2) = m' ((c.tc : Thread Cert.PostNormBwdRefIdeal.nD Cert.PostNormBwdRefIdeal.τ).loc Cert.PostNormBwdRefIdeal.main_arg2))

def preserves_PreNormBwd_PreNormBwdIdeal : Prop :=
  True

def algebraic_PreNormBwdIdeal_PreNormBwdRefIdeal [hPreNormBwdIdeal : Cert.PreNormBwdIdeal.Facts] [hPreNormBwdRefIdeal : Cert.PreNormBwdRefIdeal.Facts] : Prop :=
  ∀ (m : (ℓ : Loc Cert.PreNormBwdIdeal.nD Cert.PreNormBwdIdeal.τ Cert.PreNormBwdIdeal.sig) → Buf (Elt Ideal) ℓ) (g : Dev Cert.PreNormBwdIdeal.nD → PrngReg)
    (m' : (ℓ : Loc Cert.PreNormBwdRefIdeal.nD Cert.PreNormBwdRefIdeal.τ Cert.PreNormBwdRefIdeal.sig) → Buf (Elt Ideal) ℓ) (g' : Dev Cert.PreNormBwdRefIdeal.nD → PrngReg), Pre_PreNormBwdIdeal m →
    (∀ c : Dev Cert.PreNormBwdIdeal.nD,
      m' ((c.tc : Thread Cert.PreNormBwdRefIdeal.nD Cert.PreNormBwdRefIdeal.τ).loc Cert.PreNormBwdRefIdeal.main_arg0) = m ((c.tc : Thread Cert.PreNormBwdIdeal.nD Cert.PreNormBwdIdeal.τ).loc Cert.PreNormBwdIdeal.main_arg0)
      ∧ m' ((c.tc : Thread Cert.PreNormBwdRefIdeal.nD Cert.PreNormBwdRefIdeal.τ).loc Cert.PreNormBwdRefIdeal.main_arg1) = m ((c.tc : Thread Cert.PreNormBwdIdeal.nD Cert.PreNormBwdIdeal.τ).loc Cert.PreNormBwdIdeal.main_arg1)
      ∧ m' ((c.tc : Thread Cert.PreNormBwdRefIdeal.nD Cert.PreNormBwdRefIdeal.τ).loc Cert.PreNormBwdRefIdeal.main_arg2) = m ((c.tc : Thread Cert.PreNormBwdIdeal.nD Cert.PreNormBwdIdeal.τ).loc Cert.PreNormBwdIdeal.main_arg2)
      ∧ m' ((c.tc : Thread Cert.PreNormBwdRefIdeal.nD Cert.PreNormBwdRefIdeal.τ).loc Cert.PreNormBwdRefIdeal.main_arg3) = m ((c.tc : Thread Cert.PreNormBwdIdeal.nD Cert.PreNormBwdIdeal.τ).loc Cert.PreNormBwdIdeal.main_arg3)) →
    ∃ (v0 : (c : Dev Cert.PreNormBwdIdeal.nD) → Buf (Elt Ideal) ((c.tc : Thread Cert.PreNormBwdIdeal.nD Cert.PreNormBwdIdeal.τ).loc Cert.PreNormBwdIdeal.main_v2_0)) (v1 : (c : Dev Cert.PreNormBwdIdeal.nD) → Buf (Elt Ideal) ((c.tc : Thread Cert.PreNormBwdIdeal.nD Cert.PreNormBwdIdeal.τ).loc Cert.PreNormBwdIdeal.main_v2_1)),
      θ_run (Cert.PreNormBwdIdeal.defs (F := Ideal)) (onTc (τ := Cert.PreNormBwdIdeal.τ) (Cert.PreNormBwdIdeal.main (F := Ideal))) ⟨m, fun _ => 0, g⟩ (fun r => ∀ c : Dev Cert.PreNormBwdIdeal.nD,
          r.2.mem ((c.tc : Thread Cert.PreNormBwdIdeal.nD Cert.PreNormBwdIdeal.τ).loc Cert.PreNormBwdIdeal.main_v2_0) = v0 c
          ∧ r.2.mem ((c.tc : Thread Cert.PreNormBwdIdeal.nD Cert.PreNormBwdIdeal.τ).loc Cert.PreNormBwdIdeal.main_v2_1) = v1 c
          ∧ r.2.mem ((c.tc : Thread Cert.PreNormBwdIdeal.nD Cert.PreNormBwdIdeal.τ).loc Cert.PreNormBwdIdeal.main_arg0) = m ((c.tc : Thread Cert.PreNormBwdIdeal.nD Cert.PreNormBwdIdeal.τ).loc Cert.PreNormBwdIdeal.main_arg0)
          ∧ r.2.mem ((c.tc : Thread Cert.PreNormBwdIdeal.nD Cert.PreNormBwdIdeal.τ).loc Cert.PreNormBwdIdeal.main_arg1) = m ((c.tc : Thread Cert.PreNormBwdIdeal.nD Cert.PreNormBwdIdeal.τ).loc Cert.PreNormBwdIdeal.main_arg1)
          ∧ r.2.mem ((c.tc : Thread Cert.PreNormBwdIdeal.nD Cert.PreNormBwdIdeal.τ).loc Cert.PreNormBwdIdeal.main_arg2) = m ((c.tc : Thread Cert.PreNormBwdIdeal.nD Cert.PreNormBwdIdeal.τ).loc Cert.PreNormBwdIdeal.main_arg2)
          ∧ r.2.mem ((c.tc : Thread Cert.PreNormBwdIdeal.nD Cert.PreNormBwdIdeal.τ).loc Cert.PreNormBwdIdeal.main_arg3) = m ((c.tc : Thread Cert.PreNormBwdIdeal.nD Cert.PreNormBwdIdeal.τ).loc Cert.PreNormBwdIdeal.main_arg3))
      ∧ θ_run (Cert.PreNormBwdRefIdeal.defs (F := Ideal)) (onTc (τ := Cert.PreNormBwdRefIdeal.τ) (Cert.PreNormBwdRefIdeal.main (F := Ideal))) ⟨m', fun _ => 0, g'⟩ (fun r => ∀ c : Dev Cert.PreNormBwdRefIdeal.nD,
          r.2.mem ((c.tc : Thread Cert.PreNormBwdRefIdeal.nD Cert.PreNormBwdRefIdeal.τ).loc Cert.PreNormBwdRefIdeal.main_v36) = v0 c
          ∧ r.2.mem ((c.tc : Thread Cert.PreNormBwdRefIdeal.nD Cert.PreNormBwdRefIdeal.τ).loc Cert.PreNormBwdRefIdeal.main_v37) = v1 c
          ∧ r.2.mem ((c.tc : Thread Cert.PreNormBwdRefIdeal.nD Cert.PreNormBwdRefIdeal.τ).loc Cert.PreNormBwdRefIdeal.main_arg0) = m' ((c.tc : Thread Cert.PreNormBwdRefIdeal.nD Cert.PreNormBwdRefIdeal.τ).loc Cert.PreNormBwdRefIdeal.main_arg0)
          ∧ r.2.mem ((c.tc : Thread Cert.PreNormBwdRefIdeal.nD Cert.PreNormBwdRefIdeal.τ).loc Cert.PreNormBwdRefIdeal.main_arg1) = m' ((c.tc : Thread Cert.PreNormBwdRefIdeal.nD Cert.PreNormBwdRefIdeal.τ).loc Cert.PreNormBwdRefIdeal.main_arg1)
          ∧ r.2.mem ((c.tc : Thread Cert.PreNormBwdRefIdeal.nD Cert.PreNormBwdRefIdeal.τ).loc Cert.PreNormBwdRefIdeal.main_arg2) = m' ((c.tc : Thread Cert.PreNormBwdRefIdeal.nD Cert.PreNormBwdRefIdeal.τ).loc Cert.PreNormBwdRefIdeal.main_arg2)
          ∧ r.2.mem ((c.tc : Thread Cert.PreNormBwdRefIdeal.nD Cert.PreNormBwdRefIdeal.τ).loc Cert.PreNormBwdRefIdeal.main_arg3) = m' ((c.tc : Thread Cert.PreNormBwdRefIdeal.nD Cert.PreNormBwdRefIdeal.τ).loc Cert.PreNormBwdRefIdeal.main_arg3))

def preserves_PrePostNormBwd_PrePostNormBwdIdeal : Prop :=
  True

def algebraic_PrePostNormBwdIdeal_PrePostNormBwdRefIdeal [hPrePostNormBwdIdeal : Cert.PrePostNormBwdIdeal.Facts] [hPrePostNormBwdRefIdeal : Cert.PrePostNormBwdRefIdeal.Facts] : Prop :=
  ∀ (m : (ℓ : Loc Cert.PrePostNormBwdIdeal.nD Cert.PrePostNormBwdIdeal.τ Cert.PrePostNormBwdIdeal.sig) → Buf (Elt Ideal) ℓ) (g : Dev Cert.PrePostNormBwdIdeal.nD → PrngReg)
    (m' : (ℓ : Loc Cert.PrePostNormBwdRefIdeal.nD Cert.PrePostNormBwdRefIdeal.τ Cert.PrePostNormBwdRefIdeal.sig) → Buf (Elt Ideal) ℓ) (g' : Dev Cert.PrePostNormBwdRefIdeal.nD → PrngReg), Pre_PrePostNormBwdIdeal m →
    (∀ c : Dev Cert.PrePostNormBwdIdeal.nD,
      m' ((c.tc : Thread Cert.PrePostNormBwdRefIdeal.nD Cert.PrePostNormBwdRefIdeal.τ).loc Cert.PrePostNormBwdRefIdeal.main_arg0) = m ((c.tc : Thread Cert.PrePostNormBwdIdeal.nD Cert.PrePostNormBwdIdeal.τ).loc Cert.PrePostNormBwdIdeal.main_arg0)
      ∧ m' ((c.tc : Thread Cert.PrePostNormBwdRefIdeal.nD Cert.PrePostNormBwdRefIdeal.τ).loc Cert.PrePostNormBwdRefIdeal.main_arg1) = m ((c.tc : Thread Cert.PrePostNormBwdIdeal.nD Cert.PrePostNormBwdIdeal.τ).loc Cert.PrePostNormBwdIdeal.main_arg1)
      ∧ m' ((c.tc : Thread Cert.PrePostNormBwdRefIdeal.nD Cert.PrePostNormBwdRefIdeal.τ).loc Cert.PrePostNormBwdRefIdeal.main_arg2) = m ((c.tc : Thread Cert.PrePostNormBwdIdeal.nD Cert.PrePostNormBwdIdeal.τ).loc Cert.PrePostNormBwdIdeal.main_arg2)
      ∧ m' ((c.tc : Thread Cert.PrePostNormBwdRefIdeal.nD Cert.PrePostNormBwdRefIdeal.τ).loc Cert.PrePostNormBwdRefIdeal.main_arg3) = m ((c.tc : Thread Cert.PrePostNormBwdIdeal.nD Cert.PrePostNormBwdIdeal.τ).loc Cert.PrePostNormBwdIdeal.main_arg3)
      ∧ m' ((c.tc : Thread Cert.PrePostNormBwdRefIdeal.nD Cert.PrePostNormBwdRefIdeal.τ).loc Cert.PrePostNormBwdRefIdeal.main_arg4) = m ((c.tc : Thread Cert.PrePostNormBwdIdeal.nD Cert.PrePostNormBwdIdeal.τ).loc Cert.PrePostNormBwdIdeal.main_arg4)
      ∧ m' ((c.tc : Thread Cert.PrePostNormBwdRefIdeal.nD Cert.PrePostNormBwdRefIdeal.τ).loc Cert.PrePostNormBwdRefIdeal.main_arg5) = m ((c.tc : Thread Cert.PrePostNormBwdIdeal.nD Cert.PrePostNormBwdIdeal.τ).loc Cert.PrePostNormBwdIdeal.main_arg5)) →
    ∃ (v0 : (c : Dev Cert.PrePostNormBwdIdeal.nD) → Buf (Elt Ideal) ((c.tc : Thread Cert.PrePostNormBwdIdeal.nD Cert.PrePostNormBwdIdeal.τ).loc Cert.PrePostNormBwdIdeal.main_v3_0)) (v1 : (c : Dev Cert.PrePostNormBwdIdeal.nD) → Buf (Elt Ideal) ((c.tc : Thread Cert.PrePostNormBwdIdeal.nD Cert.PrePostNormBwdIdeal.τ).loc Cert.PrePostNormBwdIdeal.main_v3_1)) (v2 : (c : Dev Cert.PrePostNormBwdIdeal.nD) → Buf (Elt Ideal) ((c.tc : Thread Cert.PrePostNormBwdIdeal.nD Cert.PrePostNormBwdIdeal.τ).loc Cert.PrePostNormBwdIdeal.main_v3_2)) (v3 : (c : Dev Cert.PrePostNormBwdIdeal.nD) → Buf (Elt Ideal) ((c.tc : Thread Cert.PrePostNormBwdIdeal.nD Cert.PrePostNormBwdIdeal.τ).loc Cert.PrePostNormBwdIdeal.main_v3_3)),
      θ_run (Cert.PrePostNormBwdIdeal.defs (F := Ideal)) (onTc (τ := Cert.PrePostNormBwdIdeal.τ) (Cert.PrePostNormBwdIdeal.main (F := Ideal))) ⟨m, fun _ => 0, g⟩ (fun r => ∀ c : Dev Cert.PrePostNormBwdIdeal.nD,
          r.2.mem ((c.tc : Thread Cert.PrePostNormBwdIdeal.nD Cert.PrePostNormBwdIdeal.τ).loc Cert.PrePostNormBwdIdeal.main_v3_0) = v0 c
          ∧ r.2.mem ((c.tc : Thread Cert.PrePostNormBwdIdeal.nD Cert.PrePostNormBwdIdeal.τ).loc Cert.PrePostNormBwdIdeal.main_v3_1) = v1 c
          ∧ r.2.mem ((c.tc : Thread Cert.PrePostNormBwdIdeal.nD Cert.PrePostNormBwdIdeal.τ).loc Cert.PrePostNormBwdIdeal.main_v3_2) = v2 c
          ∧ r.2.mem ((c.tc : Thread Cert.PrePostNormBwdIdeal.nD Cert.PrePostNormBwdIdeal.τ).loc Cert.PrePostNormBwdIdeal.main_v3_3) = v3 c
          ∧ r.2.mem ((c.tc : Thread Cert.PrePostNormBwdIdeal.nD Cert.PrePostNormBwdIdeal.τ).loc Cert.PrePostNormBwdIdeal.main_arg0) = m ((c.tc : Thread Cert.PrePostNormBwdIdeal.nD Cert.PrePostNormBwdIdeal.τ).loc Cert.PrePostNormBwdIdeal.main_arg0)
          ∧ r.2.mem ((c.tc : Thread Cert.PrePostNormBwdIdeal.nD Cert.PrePostNormBwdIdeal.τ).loc Cert.PrePostNormBwdIdeal.main_arg1) = m ((c.tc : Thread Cert.PrePostNormBwdIdeal.nD Cert.PrePostNormBwdIdeal.τ).loc Cert.PrePostNormBwdIdeal.main_arg1)
          ∧ r.2.mem ((c.tc : Thread Cert.PrePostNormBwdIdeal.nD Cert.PrePostNormBwdIdeal.τ).loc Cert.PrePostNormBwdIdeal.main_arg2) = m ((c.tc : Thread Cert.PrePostNormBwdIdeal.nD Cert.PrePostNormBwdIdeal.τ).loc Cert.PrePostNormBwdIdeal.main_arg2)
          ∧ r.2.mem ((c.tc : Thread Cert.PrePostNormBwdIdeal.nD Cert.PrePostNormBwdIdeal.τ).loc Cert.PrePostNormBwdIdeal.main_arg3) = m ((c.tc : Thread Cert.PrePostNormBwdIdeal.nD Cert.PrePostNormBwdIdeal.τ).loc Cert.PrePostNormBwdIdeal.main_arg3)
          ∧ r.2.mem ((c.tc : Thread Cert.PrePostNormBwdIdeal.nD Cert.PrePostNormBwdIdeal.τ).loc Cert.PrePostNormBwdIdeal.main_arg4) = m ((c.tc : Thread Cert.PrePostNormBwdIdeal.nD Cert.PrePostNormBwdIdeal.τ).loc Cert.PrePostNormBwdIdeal.main_arg4)
          ∧ r.2.mem ((c.tc : Thread Cert.PrePostNormBwdIdeal.nD Cert.PrePostNormBwdIdeal.τ).loc Cert.PrePostNormBwdIdeal.main_arg5) = m ((c.tc : Thread Cert.PrePostNormBwdIdeal.nD Cert.PrePostNormBwdIdeal.τ).loc Cert.PrePostNormBwdIdeal.main_arg5))
      ∧ θ_run (Cert.PrePostNormBwdRefIdeal.defs (F := Ideal)) (onTc (τ := Cert.PrePostNormBwdRefIdeal.τ) (Cert.PrePostNormBwdRefIdeal.main (F := Ideal))) ⟨m', fun _ => 0, g'⟩ (fun r => ∀ c : Dev Cert.PrePostNormBwdRefIdeal.nD,
          r.2.mem ((c.tc : Thread Cert.PrePostNormBwdRefIdeal.nD Cert.PrePostNormBwdRefIdeal.τ).loc Cert.PrePostNormBwdRefIdeal.main_v36) = v0 c
          ∧ r.2.mem ((c.tc : Thread Cert.PrePostNormBwdRefIdeal.nD Cert.PrePostNormBwdRefIdeal.τ).loc Cert.PrePostNormBwdRefIdeal.main_v73) = v1 c
          ∧ r.2.mem ((c.tc : Thread Cert.PrePostNormBwdRefIdeal.nD Cert.PrePostNormBwdRefIdeal.τ).loc Cert.PrePostNormBwdRefIdeal.main_v74) = v2 c
          ∧ r.2.mem ((c.tc : Thread Cert.PrePostNormBwdRefIdeal.nD Cert.PrePostNormBwdRefIdeal.τ).loc Cert.PrePostNormBwdRefIdeal.main_v75) = v3 c
          ∧ r.2.mem ((c.tc : Thread Cert.PrePostNormBwdRefIdeal.nD Cert.PrePostNormBwdRefIdeal.τ).loc Cert.PrePostNormBwdRefIdeal.main_arg0) = m' ((c.tc : Thread Cert.PrePostNormBwdRefIdeal.nD Cert.PrePostNormBwdRefIdeal.τ).loc Cert.PrePostNormBwdRefIdeal.main_arg0)
          ∧ r.2.mem ((c.tc : Thread Cert.PrePostNormBwdRefIdeal.nD Cert.PrePostNormBwdRefIdeal.τ).loc Cert.PrePostNormBwdRefIdeal.main_arg1) = m' ((c.tc : Thread Cert.PrePostNormBwdRefIdeal.nD Cert.PrePostNormBwdRefIdeal.τ).loc Cert.PrePostNormBwdRefIdeal.main_arg1)
          ∧ r.2.mem ((c.tc : Thread Cert.PrePostNormBwdRefIdeal.nD Cert.PrePostNormBwdRefIdeal.τ).loc Cert.PrePostNormBwdRefIdeal.main_arg2) = m' ((c.tc : Thread Cert.PrePostNormBwdRefIdeal.nD Cert.PrePostNormBwdRefIdeal.τ).loc Cert.PrePostNormBwdRefIdeal.main_arg2)
          ∧ r.2.mem ((c.tc : Thread Cert.PrePostNormBwdRefIdeal.nD Cert.PrePostNormBwdRefIdeal.τ).loc Cert.PrePostNormBwdRefIdeal.main_arg3) = m' ((c.tc : Thread Cert.PrePostNormBwdRefIdeal.nD Cert.PrePostNormBwdRefIdeal.τ).loc Cert.PrePostNormBwdRefIdeal.main_arg3)
          ∧ r.2.mem ((c.tc : Thread Cert.PrePostNormBwdRefIdeal.nD Cert.PrePostNormBwdRefIdeal.τ).loc Cert.PrePostNormBwdRefIdeal.main_arg4) = m' ((c.tc : Thread Cert.PrePostNormBwdRefIdeal.nD Cert.PrePostNormBwdRefIdeal.τ).loc Cert.PrePostNormBwdRefIdeal.main_arg4)
          ∧ r.2.mem ((c.tc : Thread Cert.PrePostNormBwdRefIdeal.nD Cert.PrePostNormBwdRefIdeal.τ).loc Cert.PrePostNormBwdRefIdeal.main_arg5) = m' ((c.tc : Thread Cert.PrePostNormBwdRefIdeal.nD Cert.PrePostNormBwdRefIdeal.τ).loc Cert.PrePostNormBwdRefIdeal.main_arg5))

def Claim : Prop :=
  ∃ (hMemKernel : Cert.MemKernel.Facts) (hMemKernelIdeal : Cert.MemKernelIdeal.Facts) (hMemReferenceIdeal : Cert.MemReferenceIdeal.Facts) (hDilAttn : Cert.DilAttn.Facts) (hDilAttnIdeal : Cert.DilAttnIdeal.Facts) (hDilAttnRefIdeal : Cert.DilAttnRefIdeal.Facts) (hFfnAct : Cert.FfnAct.Facts) (hFfnActIdeal : Cert.FfnActIdeal.Facts) (hFfnActRefIdeal : Cert.FfnActRefIdeal.Facts) (hFfnOut : Cert.FfnOut.Facts) (hFfnOutIdeal : Cert.FfnOutIdeal.Facts) (hFfnOutRefIdeal : Cert.FfnOutRefIdeal.Facts) (hOutDw : Cert.OutDw.Facts) (hOutDwIdeal : Cert.OutDwIdeal.Facts) (hOutDwRefIdeal : Cert.OutDwRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hMixOut : Cert.MixOut.Facts) (hMixOutIdeal : Cert.MixOutIdeal.Facts) (hMixOutRefIdeal : Cert.MixOutRefIdeal.Facts) (hMixOutDx : Cert.MixOutDx.Facts) (hMixOutDxIdeal : Cert.MixOutDxIdeal.Facts) (hMixOutDxRefIdeal : Cert.MixOutDxRefIdeal.Facts) (hMixOutDw : Cert.MixOutDw.Facts) (hMixOutDwIdeal : Cert.MixOutDwIdeal.Facts) (hMixOutDwRefIdeal : Cert.MixOutDwRefIdeal.Facts) (hDilInDx : Cert.DilInDx.Facts) (hDilInDxIdeal : Cert.DilInDxIdeal.Facts) (hDilInDxRefIdeal : Cert.DilInDxRefIdeal.Facts) (hRecIn : Cert.RecIn.Facts) (hRecInIdeal : Cert.RecInIdeal.Facts) (hRecInRefIdeal : Cert.RecInRefIdeal.Facts) (hRecInDx : Cert.RecInDx.Facts) (hRecInDxIdeal : Cert.RecInDxIdeal.Facts) (hRecInDxRefIdeal : Cert.RecInDxRefIdeal.Facts) (hRecInDw : Cert.RecInDw.Facts) (hRecInDwIdeal : Cert.RecInDwIdeal.Facts) (hRecInDwRefIdeal : Cert.RecInDwRefIdeal.Facts) (hKvProj : Cert.KvProj.Facts) (hKvProjIdeal : Cert.KvProjIdeal.Facts) (hKvProjRefIdeal : Cert.KvProjRefIdeal.Facts) (hKvProjDx : Cert.KvProjDx.Facts) (hKvProjDxIdeal : Cert.KvProjDxIdeal.Facts) (hKvProjDxRefIdeal : Cert.KvProjDxRefIdeal.Facts) (hKvProjDw : Cert.KvProjDw.Facts) (hKvProjDwIdeal : Cert.KvProjDwIdeal.Facts) (hKvProjDwRefIdeal : Cert.KvProjDwRefIdeal.Facts) (hMemKv : Cert.MemKv.Facts) (hMemKvIdeal : Cert.MemKvIdeal.Facts) (hMemKvRefIdeal : Cert.MemKvRefIdeal.Facts) (hMemKvDx : Cert.MemKvDx.Facts) (hMemKvDxIdeal : Cert.MemKvDxIdeal.Facts) (hMemKvDxRefIdeal : Cert.MemKvDxRefIdeal.Facts) (hMemKvDw : Cert.MemKvDw.Facts) (hMemKvDwIdeal : Cert.MemKvDwIdeal.Facts) (hMemKvDwRefIdeal : Cert.MemKvDwRefIdeal.Facts) (hRecMem : Cert.RecMem.Facts) (hRecMemIdeal : Cert.RecMemIdeal.Facts) (hRecMemRefIdeal : Cert.RecMemRefIdeal.Facts) (hDilMem : Cert.DilMem.Facts) (hDilMemIdeal : Cert.DilMemIdeal.Facts) (hDilMemRefIdeal : Cert.DilMemRefIdeal.Facts) (hDilMemGrad : Cert.DilMemGrad.Facts) (hDilMemGradIdeal : Cert.DilMemGradIdeal.Facts) (hDilMemGradRefIdeal : Cert.DilMemGradRefIdeal.Facts) (hPreNorm : Cert.PreNorm.Facts) (hPreNormIdeal : Cert.PreNormIdeal.Facts) (hPreNormRefIdeal : Cert.PreNormRefIdeal.Facts) (hPostNorm : Cert.PostNorm.Facts) (hPostNormIdeal : Cert.PostNormIdeal.Facts) (hPostNormRefIdeal : Cert.PostNormRefIdeal.Facts) (hPostPreNorm : Cert.PostPreNorm.Facts) (hPostPreNormIdeal : Cert.PostPreNormIdeal.Facts) (hPostPreNormRefIdeal : Cert.PostPreNormRefIdeal.Facts) (hPostNormBwd : Cert.PostNormBwd.Facts) (hPostNormBwdIdeal : Cert.PostNormBwdIdeal.Facts) (hPostNormBwdRefIdeal : Cert.PostNormBwdRefIdeal.Facts) (hPreNormBwd : Cert.PreNormBwd.Facts) (hPreNormBwdIdeal : Cert.PreNormBwdIdeal.Facts) (hPreNormBwdRefIdeal : Cert.PreNormBwdRefIdeal.Facts) (hPrePostNormBwd : Cert.PrePostNormBwd.Facts) (hPrePostNormBwdIdeal : Cert.PrePostNormBwdIdeal.Facts) (hPrePostNormBwdRefIdeal : Cert.PrePostNormBwdRefIdeal.Facts) (hPre_mem_finite : Cert.Pre_mem_finite.Facts) (hPre_dil_finite : Cert.Pre_dil_finite.Facts) (hPre_ffn_finite : Cert.Pre_ffn_finite.Facts) (hPre_dil_mem_finite : Cert.Pre_dil_mem_finite.Facts),
    quiescent_MemKernel (hMemKernel := hMemKernel)
    ∧ quiescent_MemKernelIdeal (hMemKernelIdeal := hMemKernelIdeal)
    ∧ quiescent_MemKernelIdeal_pre_mem_finite (hMemKernelIdeal := hMemKernelIdeal) (hPre_mem_finite := hPre_mem_finite)
    ∧ quiescent_MemReferenceIdeal (hMemReferenceIdeal := hMemReferenceIdeal)
    ∧ quiescent_MemReferenceIdeal_pre_mem_finite (hMemReferenceIdeal := hMemReferenceIdeal) (hPre_mem_finite := hPre_mem_finite)
    ∧ quiescent_DilAttn (hDilAttn := hDilAttn)
    ∧ quiescent_DilAttnIdeal (hDilAttnIdeal := hDilAttnIdeal)
    ∧ quiescent_DilAttnIdeal_pre_dil_finite (hDilAttnIdeal := hDilAttnIdeal) (hPre_dil_finite := hPre_dil_finite)
    ∧ quiescent_DilAttnRefIdeal (hDilAttnRefIdeal := hDilAttnRefIdeal)
    ∧ quiescent_DilAttnRefIdeal_pre_dil_finite (hDilAttnRefIdeal := hDilAttnRefIdeal) (hPre_dil_finite := hPre_dil_finite)
    ∧ quiescent_FfnAct (hFfnAct := hFfnAct)
    ∧ quiescent_FfnActIdeal (hFfnActIdeal := hFfnActIdeal)
    ∧ quiescent_FfnActIdeal_pre_ffn_finite (hFfnActIdeal := hFfnActIdeal) (hPre_ffn_finite := hPre_ffn_finite)
    ∧ quiescent_FfnActRefIdeal (hFfnActRefIdeal := hFfnActRefIdeal)
    ∧ quiescent_FfnActRefIdeal_pre_ffn_finite (hFfnActRefIdeal := hFfnActRefIdeal) (hPre_ffn_finite := hPre_ffn_finite)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutDx (hMixOutDx := hMixOutDx)
    ∧ quiescent_MixOutDxIdeal (hMixOutDxIdeal := hMixOutDxIdeal)
    ∧ quiescent_MixOutDxRefIdeal (hMixOutDxRefIdeal := hMixOutDxRefIdeal)
    ∧ quiescent_MixOutDw (hMixOutDw := hMixOutDw)
    ∧ quiescent_MixOutDwIdeal (hMixOutDwIdeal := hMixOutDwIdeal)
    ∧ quiescent_MixOutDwRefIdeal (hMixOutDwRefIdeal := hMixOutDwRefIdeal)
    ∧ quiescent_DilInDx (hDilInDx := hDilInDx)
    ∧ quiescent_DilInDxIdeal (hDilInDxIdeal := hDilInDxIdeal)
    ∧ quiescent_DilInDxRefIdeal (hDilInDxRefIdeal := hDilInDxRefIdeal)
    ∧ quiescent_RecIn (hRecIn := hRecIn)
    ∧ quiescent_RecInIdeal (hRecInIdeal := hRecInIdeal)
    ∧ quiescent_RecInRefIdeal (hRecInRefIdeal := hRecInRefIdeal)
    ∧ quiescent_RecInDx (hRecInDx := hRecInDx)
    ∧ quiescent_RecInDxIdeal (hRecInDxIdeal := hRecInDxIdeal)
    ∧ quiescent_RecInDxRefIdeal (hRecInDxRefIdeal := hRecInDxRefIdeal)
    ∧ quiescent_RecInDw (hRecInDw := hRecInDw)
    ∧ quiescent_RecInDwIdeal (hRecInDwIdeal := hRecInDwIdeal)
    ∧ quiescent_RecInDwRefIdeal (hRecInDwRefIdeal := hRecInDwRefIdeal)
    ∧ quiescent_KvProj (hKvProj := hKvProj)
    ∧ quiescent_KvProjIdeal (hKvProjIdeal := hKvProjIdeal)
    ∧ quiescent_KvProjRefIdeal (hKvProjRefIdeal := hKvProjRefIdeal)
    ∧ quiescent_KvProjDx (hKvProjDx := hKvProjDx)
    ∧ quiescent_KvProjDxIdeal (hKvProjDxIdeal := hKvProjDxIdeal)
    ∧ quiescent_KvProjDxRefIdeal (hKvProjDxRefIdeal := hKvProjDxRefIdeal)
    ∧ quiescent_KvProjDw (hKvProjDw := hKvProjDw)
    ∧ quiescent_KvProjDwIdeal (hKvProjDwIdeal := hKvProjDwIdeal)
    ∧ quiescent_KvProjDwRefIdeal (hKvProjDwRefIdeal := hKvProjDwRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemKvDx (hMemKvDx := hMemKvDx)
    ∧ quiescent_MemKvDxIdeal (hMemKvDxIdeal := hMemKvDxIdeal)
    ∧ quiescent_MemKvDxRefIdeal (hMemKvDxRefIdeal := hMemKvDxRefIdeal)
    ∧ quiescent_MemKvDw (hMemKvDw := hMemKvDw)
    ∧ quiescent_MemKvDwIdeal (hMemKvDwIdeal := hMemKvDwIdeal)
    ∧ quiescent_MemKvDwRefIdeal (hMemKvDwRefIdeal := hMemKvDwRefIdeal)
    ∧ quiescent_RecMem (hRecMem := hRecMem)
    ∧ quiescent_RecMemIdeal (hRecMemIdeal := hRecMemIdeal)
    ∧ quiescent_RecMemRefIdeal (hRecMemRefIdeal := hRecMemRefIdeal)
    ∧ quiescent_DilMem (hDilMem := hDilMem)
    ∧ quiescent_DilMemIdeal (hDilMemIdeal := hDilMemIdeal)
    ∧ quiescent_DilMemRefIdeal (hDilMemRefIdeal := hDilMemRefIdeal)
    ∧ quiescent_DilMemGrad (hDilMemGrad := hDilMemGrad)
    ∧ quiescent_DilMemGradIdeal (hDilMemGradIdeal := hDilMemGradIdeal)
    ∧ quiescent_DilMemGradIdeal_pre_dil_mem_finite (hDilMemGradIdeal := hDilMemGradIdeal) (hPre_dil_mem_finite := hPre_dil_mem_finite)
    ∧ quiescent_DilMemGradRefIdeal (hDilMemGradRefIdeal := hDilMemGradRefIdeal)
    ∧ quiescent_DilMemGradRefIdeal_pre_dil_mem_finite (hDilMemGradRefIdeal := hDilMemGradRefIdeal) (hPre_dil_mem_finite := hPre_dil_mem_finite)
    ∧ quiescent_PreNorm (hPreNorm := hPreNorm)
    ∧ quiescent_PreNormIdeal (hPreNormIdeal := hPreNormIdeal)
    ∧ quiescent_PreNormRefIdeal (hPreNormRefIdeal := hPreNormRefIdeal)
    ∧ quiescent_PostNorm (hPostNorm := hPostNorm)
    ∧ quiescent_PostNormIdeal (hPostNormIdeal := hPostNormIdeal)
    ∧ quiescent_PostNormRefIdeal (hPostNormRefIdeal := hPostNormRefIdeal)
    ∧ quiescent_PostPreNorm (hPostPreNorm := hPostPreNorm)
    ∧ quiescent_PostPreNormIdeal (hPostPreNormIdeal := hPostPreNormIdeal)
    ∧ quiescent_PostPreNormRefIdeal (hPostPreNormRefIdeal := hPostPreNormRefIdeal)
    ∧ quiescent_PostNormBwd (hPostNormBwd := hPostNormBwd)
    ∧ quiescent_PostNormBwdIdeal (hPostNormBwdIdeal := hPostNormBwdIdeal)
    ∧ quiescent_PostNormBwdRefIdeal (hPostNormBwdRefIdeal := hPostNormBwdRefIdeal)
    ∧ quiescent_PreNormBwd (hPreNormBwd := hPreNormBwd)
    ∧ quiescent_PreNormBwdIdeal (hPreNormBwdIdeal := hPreNormBwdIdeal)
    ∧ quiescent_PreNormBwdRefIdeal (hPreNormBwdRefIdeal := hPreNormBwdRefIdeal)
    ∧ quiescent_PrePostNormBwd (hPrePostNormBwd := hPrePostNormBwd)
    ∧ quiescent_PrePostNormBwdIdeal (hPrePostNormBwdIdeal := hPrePostNormBwdIdeal)
    ∧ quiescent_PrePostNormBwdRefIdeal (hPrePostNormBwdRefIdeal := hPrePostNormBwdRefIdeal)
    ∧ preserves_MemKernel_MemKernelIdeal
    ∧ algebraic_MemKernelIdeal_MemReferenceIdeal_pre_mem_finite (hMemKernelIdeal := hMemKernelIdeal) (hMemReferenceIdeal := hMemReferenceIdeal) (hPre_mem_finite := hPre_mem_finite)
    ∧ preserves_DilAttn_DilAttnIdeal
    ∧ algebraic_DilAttnIdeal_DilAttnRefIdeal_pre_dil_finite (hDilAttnIdeal := hDilAttnIdeal) (hDilAttnRefIdeal := hDilAttnRefIdeal) (hPre_dil_finite := hPre_dil_finite)
    ∧ preserves_FfnAct_FfnActIdeal
    ∧ algebraic_FfnActIdeal_FfnActRefIdeal_pre_ffn_finite (hFfnActIdeal := hFfnActIdeal) (hFfnActRefIdeal := hFfnActRefIdeal) (hPre_ffn_finite := hPre_ffn_finite)
    ∧ preserves_FfnOut_FfnOutIdeal
    ∧ algebraic_FfnOutIdeal_FfnOutRefIdeal (hFfnOutIdeal := hFfnOutIdeal) (hFfnOutRefIdeal := hFfnOutRefIdeal)
    ∧ preserves_OutDw_OutDwIdeal
    ∧ algebraic_OutDwIdeal_OutDwRefIdeal (hOutDwIdeal := hOutDwIdeal) (hOutDwRefIdeal := hOutDwRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_MixOut_MixOutIdeal
    ∧ algebraic_MixOutIdeal_MixOutRefIdeal (hMixOutIdeal := hMixOutIdeal) (hMixOutRefIdeal := hMixOutRefIdeal)
    ∧ preserves_MixOutDx_MixOutDxIdeal
    ∧ algebraic_MixOutDxIdeal_MixOutDxRefIdeal (hMixOutDxIdeal := hMixOutDxIdeal) (hMixOutDxRefIdeal := hMixOutDxRefIdeal)
    ∧ preserves_MixOutDw_MixOutDwIdeal
    ∧ algebraic_MixOutDwIdeal_MixOutDwRefIdeal (hMixOutDwIdeal := hMixOutDwIdeal) (hMixOutDwRefIdeal := hMixOutDwRefIdeal)
    ∧ preserves_DilInDx_DilInDxIdeal
    ∧ algebraic_DilInDxIdeal_DilInDxRefIdeal (hDilInDxIdeal := hDilInDxIdeal) (hDilInDxRefIdeal := hDilInDxRefIdeal)
    ∧ preserves_RecIn_RecInIdeal
    ∧ algebraic_RecInIdeal_RecInRefIdeal (hRecInIdeal := hRecInIdeal) (hRecInRefIdeal := hRecInRefIdeal)
    ∧ preserves_RecInDx_RecInDxIdeal
    ∧ algebraic_RecInDxIdeal_RecInDxRefIdeal (hRecInDxIdeal := hRecInDxIdeal) (hRecInDxRefIdeal := hRecInDxRefIdeal)
    ∧ preserves_RecInDw_RecInDwIdeal
    ∧ algebraic_RecInDwIdeal_RecInDwRefIdeal (hRecInDwIdeal := hRecInDwIdeal) (hRecInDwRefIdeal := hRecInDwRefIdeal)
    ∧ preserves_KvProj_KvProjIdeal
    ∧ algebraic_KvProjIdeal_KvProjRefIdeal (hKvProjIdeal := hKvProjIdeal) (hKvProjRefIdeal := hKvProjRefIdeal)
    ∧ preserves_KvProjDx_KvProjDxIdeal
    ∧ algebraic_KvProjDxIdeal_KvProjDxRefIdeal (hKvProjDxIdeal := hKvProjDxIdeal) (hKvProjDxRefIdeal := hKvProjDxRefIdeal)
    ∧ preserves_KvProjDw_KvProjDwIdeal
    ∧ algebraic_KvProjDwIdeal_KvProjDwRefIdeal (hKvProjDwIdeal := hKvProjDwIdeal) (hKvProjDwRefIdeal := hKvProjDwRefIdeal)
    ∧ preserves_MemKv_MemKvIdeal
    ∧ algebraic_MemKvIdeal_MemKvRefIdeal (hMemKvIdeal := hMemKvIdeal) (hMemKvRefIdeal := hMemKvRefIdeal)
    ∧ preserves_MemKvDx_MemKvDxIdeal
    ∧ algebraic_MemKvDxIdeal_MemKvDxRefIdeal (hMemKvDxIdeal := hMemKvDxIdeal) (hMemKvDxRefIdeal := hMemKvDxRefIdeal)
    ∧ preserves_MemKvDw_MemKvDwIdeal
    ∧ algebraic_MemKvDwIdeal_MemKvDwRefIdeal (hMemKvDwIdeal := hMemKvDwIdeal) (hMemKvDwRefIdeal := hMemKvDwRefIdeal)
    ∧ preserves_RecMem_RecMemIdeal
    ∧ algebraic_RecMemIdeal_RecMemRefIdeal (hRecMemIdeal := hRecMemIdeal) (hRecMemRefIdeal := hRecMemRefIdeal)
    ∧ preserves_DilMem_DilMemIdeal
    ∧ algebraic_DilMemIdeal_DilMemRefIdeal (hDilMemIdeal := hDilMemIdeal) (hDilMemRefIdeal := hDilMemRefIdeal)
    ∧ preserves_DilMemGrad_DilMemGradIdeal
    ∧ algebraic_DilMemGradIdeal_DilMemGradRefIdeal_pre_dil_mem_finite (hDilMemGradIdeal := hDilMemGradIdeal) (hDilMemGradRefIdeal := hDilMemGradRefIdeal) (hPre_dil_mem_finite := hPre_dil_mem_finite)
    ∧ preserves_PreNorm_PreNormIdeal
    ∧ algebraic_PreNormIdeal_PreNormRefIdeal (hPreNormIdeal := hPreNormIdeal) (hPreNormRefIdeal := hPreNormRefIdeal)
    ∧ preserves_PostNorm_PostNormIdeal
    ∧ algebraic_PostNormIdeal_PostNormRefIdeal (hPostNormIdeal := hPostNormIdeal) (hPostNormRefIdeal := hPostNormRefIdeal)
    ∧ preserves_PostPreNorm_PostPreNormIdeal
    ∧ algebraic_PostPreNormIdeal_PostPreNormRefIdeal (hPostPreNormIdeal := hPostPreNormIdeal) (hPostPreNormRefIdeal := hPostPreNormRefIdeal)
    ∧ preserves_PostNormBwd_PostNormBwdIdeal
    ∧ algebraic_PostNormBwdIdeal_PostNormBwdRefIdeal (hPostNormBwdIdeal := hPostNormBwdIdeal) (hPostNormBwdRefIdeal := hPostNormBwdRefIdeal)
    ∧ preserves_PreNormBwd_PreNormBwdIdeal
    ∧ algebraic_PreNormBwdIdeal_PreNormBwdRefIdeal (hPreNormBwdIdeal := hPreNormBwdIdeal) (hPreNormBwdRefIdeal := hPreNormBwdRefIdeal)
    ∧ preserves_PrePostNormBwd_PrePostNormBwdIdeal
    ∧ algebraic_PrePostNormBwdIdeal_PrePostNormBwdRefIdeal (hPrePostNormBwdIdeal := hPrePostNormBwdIdeal) (hPrePostNormBwdRefIdeal := hPrePostNormBwdRefIdeal)
-- ==== Pre_dil_finite.lean ====
abbrev S8192x2048 : Shape := ⟨2, ![8192, 2048]⟩
abbrev S8192x3072 : Shape := ⟨2, ![8192, 3072]⟩
abbrev S8192x512 : Shape := ⟨2, ![8192, 512]⟩
abbrev S8192x4 : Shape := ⟨2, ![8192, 4]⟩
abbrev S_ : Shape := ⟨0, ![]⟩

class Facts : Prop where
  slices_S8192x2048_S8192x512_0_512 : S8192x2048.Slices ![0, 512] S8192x512
  slices_S8192x3072_S8192x512_0_512 : S8192x3072.Slices ![0, 512] S8192x512
  slices_S8192x3072_S8192x512_0_2048 : S8192x3072.Slices ![0, 2048] S8192x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x4 : S_.BroadcastsInDim S8192x4 (![] : Fin 0 → Fin S8192x4.rank)
  reducesTo_S8192x4_S_d0_1 : S8192x4.ReducesTo [0, 1] S_

variable [Facts]

def fn_part1 {F : FTy → Type} [FloatOps F] (main_arg3 : FVec F S8192x4 .f32) (main_v16 : IVec S_ 1) (main_v17 : FVec F S8192x512 .f32) : IVec S_ 1 :=
  let main_cst_4 : FVec F S_ .f32 := constant S_ .f32 0x7F800000#32
  let main_v18 : FVec F S8192x512 .f32 := broadcastInDim S8192x512 ![] bcast_S_S8192x512 main_cst_4
  let main_v19 : IVec S8192x512 1 := cmpf .olt main_v17 main_v18
  let main_c_5 : IVec S_ 1 := constantI S_ 1 1#1
  let main_v20 : IVec S_ 1 := (fun x v => Host.reduce IntOp.andi x v reducesTo_S8192x512_S_d0_1 h_S_) main_v19 main_c_5
  let main_v21 : IVec S_ 1 := andi main_v16 main_v20
  let main_v22 : FVec F S8192x4 .f32 := Host.absf main_arg3
  let main_cst_6 : FVec F S_ .f32 := constant S_ .f32 0x7F800000#32
  let main_v23 : FVec F S8192x4 .f32 := broadcastInDim S8192x4 ![] bcast_S_S8192x4 main_cst_6
  let main_v24 : IVec S8192x4 1 := cmpf .olt main_v22 main_v23
  let main_c_7 : IVec S_ 1 := constantI S_ 1 1#1
  let main_v25 : IVec S_ 1 := (fun x v => Host.reduce IntOp.andi x v reducesTo_S8192x4_S_d0_1 h_S_) main_v24 main_c_7
  let main_v26 : IVec S_ 1 := andi main_v21 main_v25
  main_v26

def fn {F : FTy → Type} [FloatOps F] (main_arg0 : FVec F S8192x2048 .f32) (main_arg1 : FVec F S8192x3072 .f32) (main_arg2 : FVec F S8192x512 .f32) (main_arg3 : FVec F S8192x4 .f32) : IVec S_ 1 :=
  let main_v0 : FVec F S8192x512 .f32 := (extractStridedSlice S8192x512 ![0, 512] · slices_S8192x2048_S8192x512_0_512) main_arg0
  let main_v1 : FVec F S8192x512 .f32 := (extractStridedSlice S8192x512 ![0, 512] · slices_S8192x3072_S8192x512_0_512) main_arg1
  let main_v2 : FVec F S8192x512 .f32 := (extractStridedSlice S8192x512 ![0, 2048] · slices_S8192x3072_S8192x512_0_2048) main_arg1
  let main_v3 : FVec F S8192x512 .f32 := Host.absf main_v0
  let main_cst : FVec F S_ .f32 := constant S_ .f32 0x7F800000#32
  let main_v4 : FVec F S8192x512 .f32 := broadcastInDim S8192x512 ![] bcast_S_S8192x512 main_cst
  let main_v5 : IVec S8192x512 1 := cmpf .olt main_v3 main_v4
  let main_c : IVec S_ 1 := constantI S_ 1 1#1
  let main_v6 : IVec S_ 1 := (fun x v => Host.reduce IntOp.andi x v reducesTo_S8192x512_S_d0_1 h_S_) main_v5 main_c
  let main_v7 : FVec F S8192x512 .f32 := Host.absf main_v1
  let main_cst_0 : FVec F S_ .f32 := constant S_ .f32 0x7F800000#32
  let main_v8 : FVec F S8192x512 .f32 := broadcastInDim S8192x512 ![] bcast_S_S8192x512 main_cst_0
  let main_v9 : IVec S8192x512 1 := cmpf .olt main_v7 main_v8
  let main_c_1 : IVec S_ 1 := constantI S_ 1 1#1
  let main_v10 : IVec S_ 1 := (fun x v => Host.reduce IntOp.andi x v reducesTo_S8192x512_S_d0_1 h_S_) main_v9 main_c_1
  let main_v11 : IVec S_ 1 := andi main_v6 main_v10
  let main_v12 : FVec F S8192x512 .f32 := Host.absf main_v2
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_c_3 : IVec S_ 1 := constantI S_ 1 1#1
  let main_v15 : IVec S_ 1 := (fun x v => Host.reduce IntOp.andi x v reducesTo_S8192x512_S_d0_1 h_S_) main_v14 main_c_3
  let main_v16 : IVec S_ 1 := andi main_v11 main_v15
  let main_v17 : FVec F S8192x512 .f32 := Host.absf main_arg2
  fn_part1 (F := F) main_arg3 main_v16 main_v17
-- ==== Pre_dil_mem_finite.lean ====
abbrev S8192x2048 : Shape := ⟨2, ![8192, 2048]⟩
abbrev S256x1024 : Shape := ⟨2, ![256, 1024]⟩
abbrev S8192x512 : Shape := ⟨2, ![8192, 512]⟩
abbrev S_ : Shape := ⟨0, ![]⟩
abbrev S256x512 : Shape := ⟨2, ![256, 512]⟩

class Facts : Prop where
  slices_S8192x2048_S8192x512_0_1536 : S8192x2048.Slices ![0, 1536] S8192x512
  bcast_S_S8192x512 : S_.BroadcastsInDim S8192x512 (![] : Fin 0 → Fin S8192x512.rank)
  reducesTo_S8192x512_S_d0_1 : S8192x512.ReducesTo [0, 1] S_
  h_S_ : 0 < S_.numel
  slices_S256x1024_S256x512_0_0 : S256x1024.Slices ![0, 0] S256x512
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x2048 .f32) (main_arg1 : FVec F S256x1024 .f32) (main_arg2 : FVec F S8192x2048 .f32) : IVec S_ 1 :=
  let main_v0 : FVec F S8192x512 .f32 := (extractStridedSlice S8192x512 ![0, 1536] · slices_S8192x2048_S8192x512_0_1536) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S256x512 .f32 := (extractStridedSlice S256x512 ![0, 0] · slices_S256x1024_S256x512_0_0) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v4 main_v9
  main_v10
-- ==== Pre_ffn_finite.lean ====
abbrev S8192x2048 : Shape := ⟨2, ![8192, 2048]⟩
abbrev S2048x11264 : Shape := ⟨2, ![2048, 11264]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S2048x11264 .f32) (main_arg2 : FVec F S5632x2048 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_mem_finite.lean ====
abbrev S8192x3584 : Shape := ⟨2, ![8192, 3584]⟩
abbrev S256x1024 : Shape := ⟨2, ![256, 1024]⟩
abbrev S8192x2048 : Shape := ⟨2, ![8192, 2048]⟩
abbrev S8192x512 : Shape := ⟨2, ![8192, 512]⟩
abbrev S_ : Shape := ⟨0, ![]⟩
abbrev S256x512 : Shape := ⟨2, ![256, 512]⟩

class Facts : Prop where
  slices_S8192x3584_S8192x512_0_3072 : S8192x3584.Slices ![0, 3072] S8192x512
  bcast_S_S8192x512 : S_.BroadcastsInDim S8192x512 (![] : Fin 0 → Fin S8192x512.rank)
  reducesTo_S8192x512_S_d0_1 : S8192x512.ReducesTo [0, 1] S_
  h_S_ : 0 < S_.numel
  slices_S256x1024_S256x512_0_0 : S256x1024.Slices ![0, 0] S256x512
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x3584 .f32) (main_arg1 : FVec F S256x1024 .f32) (main_arg2 : FVec F S8192x2048 .f32) : IVec S_ 1 :=
  let main_v0 : FVec F S8192x512 .f32 := (extractStridedSlice S8192x512 ![0, 3072] · slices_S8192x3584_S8192x512_0_3072) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S256x512 .f32 := (extractStridedSlice S256x512 ![0, 0] · slices_S256x1024_S256x512_0_0) main_arg1
  let main_v6 : FVec F S256x512 .f32 := Host.absf main_v5
  let main_cst_0 : FVec F S_ .f32 := constant S_ .f32 0x7F800000#32
  let main_v7 : FVec F S256x512 .f32 := broadcastInDim S256x512 ![] bcast_S_S256x512 main_cst_0
  let main_v8 : IVec S256x512 1 := cmpf .olt main_v6 main_v7
  let main_c_1 : IVec S_ 1 := constantI S_ 1 1#1
  let main_v9 : IVec S_ 1 := (fun x v => Host.reduce IntOp.andi x v reducesTo_S256x512_S_d0_1 h_S_) main_v8 main_c_1
  let main_v10 : IVec S_ 1 := andi main_v4 main_v9
  main_v10
-- ==== MemKernel.lean ====
abbrev S8192x3584 : Shape := ⟨2, ![8192, 3584]⟩
abbrev S256x1024 : Shape := ⟨2, ![256, 1024]⟩
abbrev S8192x2048 : Shape := ⟨2, ![8192, 2048]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x3584, .f32⟩
  | .hbm, ⟨1, _⟩ => ⟨S256x1024, .f32⟩
  | .hbm, ⟨2, _⟩ => ⟨S8192x2048, .f32⟩
  | .hbm, ⟨3, _⟩ => ⟨S256x1024, .bf16⟩
  | .hbm, ⟨4, _⟩ => ⟨S8192x512, .bf16⟩
  | .hbm, ⟨5, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemReferenceIdeal.lean ====
abbrev S8192x3584 : Shape := ⟨2, ![8192, 3584]⟩
abbrev S256x1024 : Shape := ⟨2, ![256, 1024]⟩
abbrev S8192x2048 : Shape := ⟨2, ![8192, 2048]⟩
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S256x1024, .f32⟩
  | .hbm, ⟨2, _⟩ => ⟨S8192x2048, .f32⟩
  | .hbm, ⟨3, _⟩ => ⟨S8192x512, .f32⟩
  | .hbm, ⟨4, _⟩ => ⟨S256x512, .f32⟩
  | .hbm, ⟨5, _⟩ => ⟨S256x512, .f32⟩
  | .hbm, ⟨6, _⟩ => ⟨S8192x4x128, .f32⟩
  | .hbm, ⟨7, _⟩ => ⟨S256x4x128, .f32⟩
  | .hbm, ⟨8, _⟩ => ⟨S256x4x128, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x128x8192, .f32⟩
  | .hbm, ⟨52, _⟩ => ⟨S8192x4x128, .f32⟩
  | .hbm, ⟨53, _⟩ => ⟨S8192x512, .f32⟩
  | .hbm, ⟨54, _⟩ => ⟨S8192x512, .f32⟩
  | .hbm, ⟨55, _⟩ => ⟨S8192x4x128, .f32⟩
  | .hbm, ⟨56, _⟩ => ⟨S4x128x8192, .f32⟩
  | .hbm, ⟨57, _⟩ => ⟨S4x8192x256, .f32⟩
  | .hbm, ⟨58, _⟩ => ⟨S4x128x256, .f32⟩
  | .hbm, ⟨59, _⟩ => ⟨S256x4x128, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x128, .f32⟩
  | .hbm, ⟨78, _⟩ => ⟨S256x4x128, .f32⟩
  | .hbm, ⟨79, _⟩ => ⟨S4x8192x128, .f32⟩
  | .hbm, ⟨80, _⟩ => ⟨S8192x4x128, .f32⟩
  | .hbm, ⟨81, _⟩ => ⟨S256x512, .f32⟩
  | .hbm, ⟨82, _⟩ => ⟨S256x512, .f32⟩
  | .hbm, ⟨83, _⟩ => ⟨S8192x512, .f32⟩
  | .hbm, ⟨84, _⟩ => ⟨S8192x512, .bf16⟩
  | .hbm, ⟨85, _⟩ => ⟨S256x1024, .f32⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== DilAttn.lean ====
abbrev S8192x2048 : Shape := ⟨2, ![8192, 2048]⟩
abbrev S8192x3072 : Shape := ⟨2, ![8192, 3072]⟩
abbrev S8192x512 : Shape := ⟨2, ![8192, 512]⟩
abbrev S8192x4 : Shape := ⟨2, ![8192, 4]⟩
abbrev S2048x2048 : Shape := ⟨2, ![2048, 2048]⟩
abbrev S256x512 : Shape := ⟨2, ![256, 512]⟩
abbrev S128x512 : Shape := ⟨2, ![128, 512]⟩
abbrev S128x128 : Shape := ⟨2, ![128, 128]⟩
abbrev S128 : Shape := ⟨1, ![128]⟩
abbrev S128x1 : Shape := ⟨2, ![128, 1]⟩
abbrev S2048x16x128 : Shape := ⟨3, ![2048, 16, 128]⟩
abbrev S_ : Shape := ⟨0, ![]⟩
abbrev S2048x16 : Shape := ⟨2, ![2048, 16]⟩
abbrev S2048x16x1 : Shape := ⟨3, ![2048, 16, 1]⟩

abbrev nBuf : Space → Nat
  | .hbm => 32
  | .vmem => 44
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x512, .f32⟩
  | .hbm, ⟨3, _⟩ => ⟨S8192x4, .f32⟩
  | .hbm, ⟨4, _⟩ => ⟨S8192x3072, .bf16⟩
  | .hbm, ⟨5, _⟩ => ⟨S8192x512, .f32⟩
  | .hbm, ⟨6, _⟩ => ⟨S2048x2048, .f32⟩
  | .hbm, ⟨7, _⟩ => ⟨S8192x512, .bf16⟩
  | .hbm, ⟨8, _⟩ => ⟨S2048x2048, .bf16⟩
  | .hbm, ⟨9, _⟩ => ⟨S8192x512, .bf16⟩
  | .hbm, ⟨10, _⟩ => ⟨S2048x2048, .bf16⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x16x128, .f32⟩
  | .hbm, ⟨16, _⟩ => ⟨S_, .f32⟩
  | .hbm, ⟨17, _⟩ => ⟨S2048x16, .f32⟩
  | .hbm, ⟨18, _⟩ => ⟨S2048x16, .f32⟩
  | .hbm, ⟨19, _⟩ => ⟨S2048x16, .f32⟩
  | .hbm, ⟨20, _⟩ => ⟨S2048x16x1, .f32⟩
  | .hbm, ⟨21, _⟩ => ⟨S2048x16x128, .f32⟩
  | .hbm, ⟨22, _⟩ => ⟨S2048x2048, .f32⟩
  | .hbm, ⟨23, _⟩ => ⟨S8192x512, .f32⟩
  | .hbm, ⟨24, _⟩ => ⟨S2048x2048, .f32⟩
  | .hbm, ⟨25, _⟩ => ⟨S8192x512, .bf16⟩
  | .hbm, ⟨26, _⟩ => ⟨S2048x2048, .bf16⟩
  | .hbm, ⟨27, _⟩ => ⟨S8192x512, .bf16⟩
  | .hbm, ⟨28, _⟩ => ⟨S2048x2048, .bf16⟩
  | .hbm, ⟨29, _⟩ => ⟨S2048x2048, .bf16⟩
  | .hbm, ⟨30, _⟩ => ⟨S2048x2048, .f32⟩
  | .hbm, ⟨31, _⟩ => ⟨S2048x2048, .f32⟩
  | .local _ .vmem, ⟨0, _⟩ => ⟨S256x512, .f32⟩
  | .local _ .vmem, ⟨1, _⟩ => ⟨S256x512, .f32⟩
  | .local _ .vmem, ⟨2, _⟩ => ⟨S128x512, .bf16⟩
  | .local _ .vmem, ⟨3, _⟩ => ⟨S128x512, .bf16⟩
  | .local _ .vmem, ⟨4, _⟩ => ⟨S256x512, .bf16⟩
  | .local _ .vmem, ⟨5, _⟩ => ⟨S256x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S128x512, .f32⟩
  | .local _ .vmem, ⟨17, _⟩ => ⟨S128x512, .f32⟩
  | .local _ .vmem, ⟨18, _⟩ => ⟨S128x512, .bf16⟩
  | .local _ .vmem, ⟨19, _⟩ => ⟨S128x512, .bf16⟩
  | .local _ .vmem, ⟨20, _⟩ => ⟨S256x512, .bf16⟩
  | .local _ .vmem, ⟨21, _⟩ => ⟨S256x512, .bf16⟩
  | .local _ .vmem, ⟨22, _⟩ => ⟨S128x512, .bf16⟩
  | .local _ .vmem, ⟨23, _⟩ => ⟨S128x512, .bf16⟩
  | .local _ .vmem, ⟨24, _⟩ => ⟨S256x512, .bf16⟩
  | .local _ .vmem, ⟨25, _⟩ => ⟨S256x512, .bf16⟩
  | .local _ .vmem, ⟨26, _⟩ => ⟨S256x512, .f32⟩
  | .local _ .vmem, ⟨27, _⟩ => ⟨S256x512, .f32⟩
  | .local _ .vmem, ⟨28, _⟩ => ⟨S128x512, .f32⟩
  | .local _ .vmem, ⟨29, _⟩ => ⟨S128x512, .f32⟩
  | .local _ .vmem, ⟨30, _⟩ => ⟨S256x512, .f32⟩
  | .local _ .vmem, ⟨31, _⟩ => ⟨S256x512, .f32⟩
  | .local _ .vmem, ⟨32, _⟩ => ⟨S128x512, .f32⟩
  | .local _ .vmem, ⟨33, _⟩ => ⟨S128x512, .f32⟩
  | .local _ .vmem, ⟨34, _⟩ => ⟨S256x512, .f32⟩
  | .local _ .vmem, ⟨35, _⟩ => ⟨S256x512, .f32⟩
  | .local _ .vmem, ⟨36, _⟩ => ⟨S128x512, .f32⟩
  | .local _ .vmem, ⟨37, _⟩ => ⟨S128x512, .f32⟩
  | .local _ .vmem, ⟨38, _⟩ => ⟨S256x512, .bf16⟩
  | .local _ .vmem, ⟨39, _⟩ => ⟨S256x512, .bf16⟩
  | .local _ .vmem, ⟨40, _⟩ => ⟨S256x512, .f32⟩
  | .local _ .vmem, ⟨41, _⟩ => ⟨S256x512, .f32⟩
  | .local _ .vmem, ⟨42, _⟩ => ⟨S256x512, .f32⟩
  | .local _ .vmem, ⟨43, _⟩ => ⟨S256x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23_0 : Ref sig .tc := ⟨.hbm, 29, rfl⟩
abbrev main_v23_1 : Ref sig .tc := ⟨.hbm, 30, rfl⟩
abbrev main_v23_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41
abbrev cc1_sem14_0 : DmaSem sig := 42
abbrev cc1_sem14_1 : DmaSem sig := 43

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c15_i32 : BitVec 32 := 15#32
  let v2 : BitVec 32 := Scalar.minsi v1 c15_i32
  let c0_i32 : BitVec 32 := 0#32
  ![v2.toNat, arg0.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c15_i32 : BitVec 32 := 15#32
  let v2 : BitVec 32 := Scalar.minsi v1 c15_i32
  let c0_i32 : BitVec 32 := 0#32
  ![v2.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c15_i32 : BitVec 32 := 15#32
  let v2 : BitVec 32 := Scalar.minsi v1 c15_i32
  let c0_i32 : BitVec 32 := 0#32
  ![v2.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_11 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c2_i32_0 : BitVec 32 := 2#32
  let v1 : BitVec 32 := Scalar.addi v0 c2_i32_0
  let c15_i32 : BitVec 32 := 15#32
  let v2 : BitVec 32 := Scalar.minsi v1 c15_i32
  let c0_i32 : BitVec 32 := 0#32
  ![v2.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S128x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S128x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S256x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S256x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S256x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== DilAttnIdeal.lean ====
variable {F : FTy → Type} [FloatOps F] [Named F]
def κ : String → Option EReal := fun
  | "mask" => some ⊥
  | _ => none
-- ==== DilAttnRefIdeal.lean ====
abbrev S8192x2048 : Shape := ⟨2, ![8192, 2048]⟩
abbrev S8192x3072 : Shape := ⟨2, ![8192, 3072]⟩
abbrev S8192x512 : Shape := ⟨2, ![8192, 512]⟩
abbrev S8192x4 : Shape := ⟨2, ![8192, 4]⟩
abbrev S8192x4x128 : Shape := ⟨3, ![8192, 4, 128]⟩
abbrev S4 : Shape := ⟨1, ![4]⟩
abbrev S_ : Shape := ⟨0, ![]⟩
abbrev S2048x4x4x128 : Shape := ⟨4, ![2048, 4, 4, 128]⟩
abbrev S4x2048x4x128 : Shape := ⟨4, ![4, 2048, 4, 128]⟩
abbrev S4x16x128x4x128 : Shape := ⟨5, ![4, 16, 128, 4, 128]⟩
abbrev S4x1x128x4x128 : Shape := ⟨5, ![4, 1, 128, 4, 128]⟩
abbrev S4x15x128x4x128 : Shape := ⟨5, ![4, 15, 128, 4, 128]⟩
abbrev S4x16x256x4x128 : Shape := ⟨5, ![4, 16, 256, 4, 128]⟩
abbrev S4x16x4x128x256 : Shape := ⟨5, ![4, 16, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S4x1x1 : Shape := ⟨3, ![4, 1, 1]⟩
abbrev S4x128x256 : Shape := ⟨3, ![4, 128, 256]⟩
abbrev S16x1x128x256 : Shape := ⟨4, ![16, 1, 128, 256]⟩
abbrev S1x1x4x128x256 : Shape := ⟨5, ![1, 1, 4, 128, 256]⟩
abbrev S4x16x4x128 : Shape := ⟨4, ![4, 16, 4, 128]⟩
abbrev S4x16x4x128x1 : Shape := ⟨5, ![4, 16, 4, 128, 1]⟩
abbrev S4x16x4x128x128 : Shape := ⟨5, ![4, 16, 4, 128, 128]⟩
abbrev S4x16x128x4 : Shape := ⟨4, ![4, 16, 128, 4]⟩
abbrev S4x2048x4 : Shape := ⟨3, ![4, 2048, 4]⟩
abbrev S2048x4x4 : Shape := ⟨3, ![2048, 4, 4]⟩
abbrev S4x16x4x256x128 : Shape := ⟨5, ![4, 16, 4, 256, 128]⟩
abbrev S8192x4x1 : Shape := ⟨3, ![8192, 4, 1]⟩
abbrev S2048x2048 : Shape := ⟨2, ![2048, 2048]⟩

abbrev nBuf : Space → Nat
  | .hbm => 231
  | .vmem => 0
  | .smem => 0
  | _ => 0

abbrev hbmTy0_0 (i : Nat) : BufTy := match i % 128 with
  | 0 => ⟨S8192x2048, .f32⟩
  | 1 => ⟨S8192x3072, .f32⟩
  | 2 => ⟨S8192x512, .f32⟩
  | 3 => ⟨S8192x4, .f32⟩
  | 4 => ⟨S8192x512, .f32⟩
  | 5 => ⟨S8192x4x128, .f32⟩
  | 6 => ⟨S8192x512, .f32⟩
  | 7 => ⟨S8192x4x128, .f32⟩
  | 8 => ⟨S8192x512, .f32⟩
  | 9 => ⟨S8192x4x128, .f32⟩
  | 10 => ⟨S4, .i32⟩
  | 11 => ⟨S_, .f32⟩
  | 12 => ⟨S4, .f32⟩
  | 13 => ⟨S_, .i32⟩
  | 14 => ⟨S4, .i32⟩
  | 15 => ⟨S4, .i1⟩
  | 16 => ⟨S_, .f32⟩
  | 17 => ⟨S4, .f32⟩
  | 18 => ⟨S4, .f32⟩
  | 19 => ⟨S_, .i32⟩
  | 20 => ⟨S4, .i32⟩
  | 21 => ⟨S4, .i1⟩
  | 22 => ⟨S_, .f32⟩
  | 23 => ⟨S4, .f32⟩
  | 24 => ⟨S4, .f32⟩
  | 25 => ⟨S_, .i32⟩
  | 26 => ⟨S4, .i32⟩
  | 27 => ⟨S4, .i1⟩
  | 28 => ⟨S_, .f32⟩
  | 29 => ⟨S4, .f32⟩
  | 30 => ⟨S4, .f32⟩
  | 31 => ⟨S_, .i32⟩
  | 32 => ⟨S4, .i32⟩
  | 33 => ⟨S4, .i1⟩
  | 34 => ⟨S_, .f32⟩
  | 35 => ⟨S4, .f32⟩
  | 36 => ⟨S4, .f32⟩
  | 37 => ⟨S2048x4x4x128, .f32⟩
  | 38 => ⟨S4x2048x4x128, .f32⟩
  | 39 => ⟨S4x16x128x4x128, .f32⟩
  | 40 => ⟨S2048x4x4x128, .f32⟩
  | 41 => ⟨S4x2048x4x128, .f32⟩
  | 42 => ⟨S4x16x128x4x128, .f32⟩
  | 43 => ⟨S4x1x128x4x128, .f32⟩
  | 44 => ⟨S_, .f32⟩
  | 45 => ⟨S4x1x128x4x128, .f32⟩
  | 46 => ⟨S4x15x128x4x128, .f32⟩
  | 47 => ⟨S4x16x128x4x128, .f32⟩
  | 48 => ⟨S_, .f32⟩
  | 49 => ⟨S4x1x128x4x128, .f32⟩
  | 50 => ⟨S4x16x256x4x128, .f32⟩
  | 51 => ⟨S2048x4x4x128, .f32⟩
  | 52 => ⟨S4x2048x4x128, .f32⟩
  | 53 => ⟨S4x16x128x4x128, .f32⟩
  | 54 => ⟨S4x1x128x4x128, .f32⟩
  | 55 => ⟨S_, .f32⟩
  | 56 => ⟨S4x1x128x4x128, .f32⟩
  | 57 => ⟨S4x15x128x4x128, .f32⟩
  | 58 => ⟨S4x16x128x4x128, .f32⟩
  | 59 => ⟨S_, .f32⟩
  | 60 => ⟨S4x1x128x4x128, .f32⟩
  | 61 => ⟨S4x16x256x4x128, .f32⟩
  | 62 => ⟨S4x16x4x128x256, .f32⟩
  | 63 => ⟨S_, .f32⟩
  | 64 => ⟨S4x16x4x128x256, .f32⟩
  | 65 => ⟨S4x16x4x128x256, .f32⟩
  | 66 => ⟨S128, .i32⟩
  | 67 => ⟨S128x1, .i32⟩
  | 68 => ⟨S256, .i32⟩
  | 69 => ⟨S1x256, .i32⟩
  | 70 => ⟨S_, .i32⟩
  | 71 => ⟨S128x1, .i32⟩
  | 72 => ⟨S128x1, .i32⟩
  | 73 => ⟨S128x256, .i32⟩
  | 74 => ⟨S128x256, .i32⟩
  | 75 => ⟨S128x256, .i32⟩
  | 76 => ⟨S16, .i32⟩
  | 77 => ⟨S16x1x1, .i32⟩
  | 78 => ⟨S_, .i32⟩
  | 79 => ⟨S16x1x1, .i32⟩
  | 80 => ⟨S16x1x1, .i32⟩
  | 81 => ⟨S_, .i32⟩
  | 82 => ⟨S16x1x1, .i32⟩
  | 83 => ⟨S16x1x1, .i32⟩
  | 84 => ⟨S1x1x256, .i32⟩
  | 85 => ⟨S16x1x256, .i32⟩
  | 86 => ⟨S16x1x256, .i32⟩
  | 87 => ⟨S16x1x256, .i32⟩
  | 88 => ⟨S_, .i32⟩
  | 89 => ⟨S128x256, .i32⟩
  | 90 => ⟨S128x256, .i1⟩
  | 91 => ⟨S1x128x256, .i1⟩
  | 92 => ⟨S_, .i32⟩
  | 93 => ⟨S128x256, .i32⟩
  | 94 => ⟨S128x256, .i1⟩
  | 95 => ⟨S1x128x256, .i1⟩
  | 96 => ⟨S1x128x256, .i1⟩
  | 97 => ⟨S_, .i32⟩
  | 98 => ⟨S16x1x256, .i32⟩
  | 99 => ⟨S16x1x256, .i1⟩
  | 100 => ⟨S16x128x256, .i1⟩
  | 101 => ⟨S16x128x256, .i1⟩
  | 102 => ⟨S16x128x256, .i1⟩
  | 103 => ⟨S4x1x1, .f32⟩
  | 104 => ⟨S4x1x1, .f32⟩
  | 105 => ⟨S_, .i32⟩
  | 106 => ⟨S128x256, .i32⟩
  | 107 => ⟨S128x256, .i32⟩
  | 108 => ⟨S128x256, .f32⟩
  | 109 => ⟨S1x128x256, .f32⟩
  | 110 => ⟨S4x128x256, .f32⟩
  | 111 => ⟨S4x128x256, .f32⟩
  | 112 => ⟨S4x128x256, .f32⟩
  | 113 => ⟨S16x1x128x256, .i1⟩
  | 114 => ⟨S1x1x4x128x256, .f32⟩
  | 115 => ⟨S4x16x4x128x256, .f32⟩
  | 116 => ⟨S4x16x4x128x256, .f32⟩
  | 117 => ⟨S_, .f32⟩
  | 118 => ⟨S_, .f32⟩
  | 119 => ⟨S4x16x4x128x256, .i1⟩
  | 120 => ⟨S4x16x4x128x256, .f32⟩
  | 121 => ⟨S4x16x4x128x256, .f32⟩
  | 122 => ⟨S_, .f32⟩
  | 123 => ⟨S4x16x4x128x256, .f32⟩
  | 124 => ⟨S_, .f32⟩
  | 125 => ⟨S4x16x4x128, .f32⟩
  | 126 => ⟨S4x16x4x128x1, .f32⟩
  | 127 => ⟨S4x16x4x128x256, .f32⟩
  | _ => ⟨S8192x2048, .f32⟩

abbrev hbmTy0_1 (i : Nat) : BufTy := match i % 128 with
  | 0 => ⟨S4x16x4x128x256, .i1⟩
  | 1 => ⟨S4x16x4x128x256, .f32⟩
  | 2 => ⟨S_, .f32⟩
  | 3 => ⟨S4x16x4x128, .f32⟩
  | 4 => ⟨S4x16x4x128x1, .f32⟩
  | 5 => ⟨S4x16x4x128x256, .f32⟩
  | 6 => ⟨S4x16x4x128x256, .f32⟩
  | 7 => ⟨S4x16x4x128x256, .f32⟩
  | 8 => ⟨S_, .f32⟩
  | 9 => ⟨S4x16x4x128, .f32⟩
  | 10 => ⟨S4x16x4x128x1, .f32⟩
  | 11 => ⟨S4x16x4x128x1, .f32⟩
  | 12 => ⟨S4x16x4x128x1, .f32⟩
  | 13 => ⟨S4x16x4x128x256, .f32⟩
  | 14 => ⟨S4x16x4x128x256, .f32⟩
  | 15 => ⟨S4x16x4x128x256, .f32⟩
  | 16 => ⟨S4x16x4x128x128, .f32⟩
  | 17 => ⟨S4x16x128x4x128, .f32⟩
  | 18 => ⟨S4x2048x4x128, .f32⟩
  | 19 => ⟨S2048x4x4x128, .f32⟩
  | 20 => ⟨S8192x4x128, .f32⟩
  | 21 => ⟨S4x16x4x128, .f32⟩
  | 22 => ⟨S4x16x128x4, .f32⟩
  | 23 => ⟨S4x2048x4, .f32⟩
  | 24 => ⟨S2048x4x4, .f32⟩
  | 25 => ⟨S8192x4, .f32⟩
  | 26 => ⟨S8192x4x128, .f32⟩
  | 27 => ⟨S2048x4x4, .f32⟩
  | 28 => ⟨S4x2048x4, .f32⟩
  | 29 => ⟨S4x16x128x4, .f32⟩
  | 30 => ⟨S4x16x4x128, .f32⟩
  | 31 => ⟨S4x16x4x128x1, .f32⟩
  | 32 => ⟨S2048x4x4x128, .f32⟩
  | 33 => ⟨S4x2048x4x128, .f32⟩
  | 34 => ⟨S4x16x128x4x128, .f32⟩
  | 35 => ⟨S4x16x4x128x128, .f32⟩
  | 36 => ⟨S4x16x4x128x256, .f32⟩
  | 37 => ⟨S4x16x4x128x256, .f32⟩
  | 38 => ⟨S4x16x256x4x128, .f32⟩
  | 39 => ⟨S4x16x4x128x256, .f32⟩
  | 40 => ⟨S4x16x4x128x256, .f32⟩
  | 41 => ⟨S_, .f32⟩
  | 42 => ⟨S4x16x4x128, .f32⟩
  | 43 => ⟨S4x16x4x128x1, .f32⟩
  | 44 => ⟨S4x16x4x128x1, .f32⟩
  | 45 => ⟨S4x16x4x128x1, .f32⟩
  | 46 => ⟨S_, .f32⟩
  | 47 => ⟨S4x16x4x128, .f32⟩
  | 48 => ⟨S4x16x4x128x256, .f32⟩
  | 49 => ⟨S4x16x4x128x256, .f32⟩
  | 50 => ⟨S4x16x4x128x256, .f32⟩
  | 51 => ⟨S_, .f32⟩
  | 52 => ⟨S4x16x4x128, .f32⟩
  | 53 => ⟨S4x16x4x128x1, .f32⟩
  | 54 => ⟨S4x16x4x128x256, .f32⟩
  | 55 => ⟨S4x16x4x128x1, .f32⟩
  | 56 => ⟨S_, .f32⟩
  | 57 => ⟨S4x16x4x128, .f32⟩
  | 58 => ⟨S4x16x4x128, .f32⟩
  | 59 => ⟨S4x16x4x128x256, .f32⟩
  | 60 => ⟨S4x16x4x128x256, .f32⟩
  | 61 => ⟨S4x16x4x128x256, .f32⟩
  | 62 => ⟨S_, .f32⟩
  | 63 => ⟨S4x16x4x128x256, .f32⟩
  | 64 => ⟨S4x16x4x128x256, .f32⟩
  | 65 => ⟨S_, .f32⟩
  | 66 => ⟨S4x16x4x128x256, .f32⟩
  | 67 => ⟨S4x16x4x128x256, .f32⟩
  | 68 => ⟨S4x16x4x256x128, .f32⟩
  | 69 => ⟨S4x16x256x4x128, .f32⟩
  | 70 => ⟨S4x16x4x128x128, .f32⟩
  | 71 => ⟨S4x16x128x4x128, .f32⟩
  | 72 => ⟨S4x16x128x4x128, .f32⟩
  | 73 => ⟨S4x16x128x4x128, .f32⟩
  | 74 => ⟨S4x1x128x4x128, .f32⟩
  | 75 => ⟨S4x15x128x4x128, .f32⟩
  | 76 => ⟨S_, .f32⟩
  | 77 => ⟨S4x16x128x4x128, .f32⟩
  | 78 => ⟨S4x16x128x4x128, .f32⟩
  | 79 => ⟨S4x2048x4x128, .f32⟩
  | 80 => ⟨S2048x4x4x128, .f32⟩
  | 81 => ⟨S8192x4x128, .f32⟩
  | 82 => ⟨S4x16x128x4x128, .f32⟩
  | 83 => ⟨S4x16x128x4x128, .f32⟩
  | 84 => ⟨S4x1x128x4x128, .f32⟩
  | 85 => ⟨S4x15x128x4x128, .f32⟩
  | 86 => ⟨S_, .f32⟩
  | 87 => ⟨S4x16x128x4x128, .f32⟩
  | 88 => ⟨S4x16x128x4x128, .f32⟩
  | 89 => ⟨S4x2048x4x128, .f32⟩
  | 90 => ⟨S2048x4x4x128, .f32⟩
  | 91 => ⟨S8192x4x128, .f32⟩
  | 92 => ⟨S4x2048x4x128, .f32⟩
  | 93 => ⟨S2048x4x4x128, .f32⟩
  | 94 => ⟨S8192x4x128, .f32⟩
  | 95 => ⟨S8192x4x1, .f32⟩
  | 96 => ⟨S8192x4x128, .f32⟩
  | 97 => ⟨S2048x2048, .f32⟩
  | 98 => ⟨S2048x2048, .f32⟩
  | 99 => ⟨S2048x2048, .f32⟩
  | 100 => ⟨S2048x2048, .bf16⟩
  | 101 => ⟨S2048x2048, .f32⟩
  | 102 => ⟨S2048x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_call0_v0 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call1_v0 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_call2_v0 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_call3_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_13 : Ref sig .tc := ⟨.hbm, 78, rfl⟩
abbrev main_v55 : Ref sig .tc := ⟨.hbm, 79, rfl⟩
abbrev main_v56 : Ref sig .tc := ⟨.hbm, 80, rfl⟩
abbrev main_c_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_15 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_16 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_17 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_19 : Ref sig .tc := ⟨.hbm, 117, rfl⟩
abbrev main_call4_v0 : Ref sig .tc := ⟨.hbm, 118, rfl⟩
abbrev main_v88_1 : Ref sig .tc := ⟨.hbm, 119, rfl⟩
abbrev main_call4_v2 : Ref sig .tc := ⟨.hbm, 120, rfl⟩
abbrev main_v88_0 : Ref sig .tc := ⟨.hbm, 121, rfl⟩
abbrev main_call4_cst : Ref sig .tc := ⟨.hbm, 122, rfl⟩
abbrev main_v88_2 : Ref sig .tc := ⟨.hbm, 123, rfl⟩
abbrev main_cst_20 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_22 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_cst_23 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_24 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_cst_25 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_26 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_call5_cst : Ref sig .tc := ⟨.hbm, 190, rfl⟩
abbrev main_call5_v0 : Ref sig .tc := ⟨.hbm, 191, rfl⟩
abbrev main_v148 : Ref sig .tc := ⟨.hbm, 192, rfl⟩
abbrev main_cst_27 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_cst_28 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_29 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩
abbrev main_v183 : Ref sig .tc := ⟨.hbm, 230, rfl⟩

abbrev nD : Nat := 1
abbrev τ : Topo := Topo.v7x

variable {F : FTy → Type} [FloatOps F]
-- ==== FfnAct.lean ====
abbrev S8192x2048 : Shape := ⟨2, ![8192, 2048]⟩
abbrev S2048x11264 : Shape := ⟨2, ![2048, 11264]⟩
abbrev S5632x2048 : Shape := ⟨2, ![5632, 2048]⟩
abbrev S2048x4x2816 : Shape := ⟨3, ![2048, 4, 2816]⟩
abbrev S4x2048x2816 : Shape := ⟨3, ![4, 2048, 2816]⟩
abbrev S8192x5632 : Shape := ⟨2, ![8192, 5632]⟩
abbrev S512x2048 : Shape := ⟨2, ![512, 2048]⟩
abbrev S1x2048x1408 : Shape := ⟨3, ![1, 2048, 1408]⟩
abbrev S512x1408 : Shape := ⟨2, ![512, 1408]⟩
abbrev S1x2048x512 : Shape := ⟨3, ![1, 2048, 512]⟩
abbrev S2048x512 : Shape := ⟨2, ![2048, 512]⟩
abbrev S512x512 : Shape := ⟨2, ![512, 512]⟩
abbrev S1x2048x384 : Shape := ⟨3, ![1, 2048, 384]⟩
abbrev S2048x384 : Shape := ⟨2, ![2048, 384]⟩
abbrev S512x384 : Shape := ⟨2, ![512, 384]⟩
abbrev S1024x2048 : Shape := ⟨2, ![1024, 2048]⟩
abbrev S1408x2048 : Shape := ⟨2, ![1408, 2048]⟩
abbrev S1024x1408 : Shape := ⟨2, ![1024, 1408]⟩
abbrev S1024x512 : Shape := ⟨2, ![1024, 512]⟩
abbrev S384x2048 : Shape := ⟨2, ![384, 2048]⟩
abbrev S1024x384 : Shape := ⟨2, ![1024, 384]⟩

abbrev nBuf : Space → Nat
  | .hbm => 15
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S5632x2048, .f32⟩
  | .hbm, ⟨3, _⟩ => ⟨S8192x2048, .f32⟩
  | .hbm, ⟨4, _⟩ => ⟨S8192x2048, .bf16⟩
  | .hbm, ⟨5, _⟩ => ⟨S2048x11264, .bf16⟩
  | .hbm, ⟨6, _⟩ => ⟨S2048x4x2816, .bf16⟩
  | .hbm, ⟨7, _⟩ => ⟨S4x2048x2816, .bf16⟩
  | .hbm, ⟨8, _⟩ => ⟨S8192x5632, .bf16⟩
  | .hbm, ⟨9, _⟩ => ⟨S8192x5632, .bf16⟩
  | .hbm, ⟨10, _⟩ => ⟨S8192x5632, .bf16⟩
  | .hbm, ⟨11, _⟩ => ⟨S8192x2048, .bf16⟩
  | .hbm, ⟨12, _⟩ => ⟨S5632x2048, .bf16⟩
  | .hbm, ⟨13, _⟩ => ⟨S8192x5632, .bf16⟩
  | .hbm, ⟨14, _⟩ => ⟨S8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1024x2048, .bf16⟩
  | .local _ .vmem, ⟨13, _⟩ => ⟨S1024x2048, .bf16⟩
  | .local _ .vmem, ⟨14, _⟩ => ⟨S1408x2048, .bf16⟩
  | .local _ .vmem, ⟨15, _⟩ => ⟨S1408x2048, .bf16⟩
  | .local _ .vmem, ⟨16, _⟩ => ⟨S1024x1408, .bf16⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S1024x1408, .bf16⟩
  | .local _ .vmem, ⟨22, _⟩ => ⟨S1024x1408, .bf16⟩
  | .local _ .vmem, ⟨23, _⟩ => ⟨S1024x1408, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c2_i32_0 : BitVec 32 := 2#32
  let v1 : BitVec 32 := Scalar.remsi arg0 c2_i32_0
  let c0_i32 : BitVec 32 := 0#32
  let c0_i32_1 : BitVec 32 := 0#32
  ![v0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c2_i32_0 : BitVec 32 := 2#32
  let v1 : BitVec 32 := Scalar.addi c2_i32_0 v0
  let c2_i32_1 : BitVec 32 := 2#32
  let v2 : BitVec 32 := Scalar.remsi arg0 c2_i32_1
  let c0_i32 : BitVec 32 := 0#32
  let c0_i32_2 : BitVec 32 := 0#32
  ![v1.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1024x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== FfnActRefIdeal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S5632x2048, .f32⟩
  | .hbm, ⟨3, _⟩ => ⟨S8192x2048, .f32⟩
  | .hbm, ⟨4, _⟩ => ⟨S8192x11264, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S_, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x2048, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .bf16⟩
  | .hbm, ⟨40, _⟩ => ⟨S8192x5632, .bf16⟩
  | .hbm, ⟨41, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_v5_2 : Ref sig .tc := ⟨.hbm, 24, rfl⟩
abbrev main_call1_cst_1 : Ref sig .tc := ⟨.hbm, 25, rfl⟩
abbrev main_call1_v6 : Ref sig .tc := ⟨.hbm, 26, rfl⟩
abbrev main_call1_v7 : Ref sig .tc := ⟨.hbm, 27, rfl⟩
abbrev main_v5_1 : Ref sig .tc := ⟨.hbm, 28, rfl⟩
abbrev main_v5_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩

abbrev nD : Nat := 1
abbrev τ : Topo := Topo.v7x

variable {F : FTy → Type} [FloatOps F]
-- ==== FfnOut.lean ====
abbrev S8192x5632 : Shape := ⟨2, ![8192, 5632]⟩
abbrev S5632x2048 : Shape := ⟨2, ![5632, 2048]⟩
abbrev S8192x2048 : Shape := ⟨2, ![8192, 2048]⟩
abbrev S512x2816 : Shape := ⟨2, ![512, 2816]⟩
abbrev S2816x2048 : Shape := ⟨2, ![2816, 2048]⟩
abbrev S512x2048 : Shape := ⟨2, ![512, 2048]⟩
abbrev S2816x512 : Shape := ⟨2, ![2816, 512]⟩
abbrev S512x512 : Shape := ⟨2, ![512, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x5632, .bf16⟩
  | .hbm, ⟨3, _⟩ => ⟨S5632x2048, .bf16⟩
  | .hbm, ⟨4, _⟩ => ⟨S8192x2048, .f32⟩
  | .local _ .vmem, ⟨0, _⟩ => ⟨S512x2816, .bf16⟩
  | .local _ .vmem, ⟨1, _⟩ => ⟨S512x2816, .bf16⟩
  | .local _ .vmem, ⟨2, _⟩ => ⟨S2816x2048, .bf16⟩
  | .local _ .vmem, ⟨3, _⟩ => ⟨S2816x2048, .bf16⟩
  | .local _ .vmem, ⟨4, _⟩ => ⟨S512x2048, .f32⟩
  | .local _ .vmem, ⟨5, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDw.lean ====
abbrev S8192x5632 : Shape := ⟨2, ![8192, 5632]⟩
abbrev S8192x2048 : Shape := ⟨2, ![8192, 2048]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x5632, .bf16⟩
  | .hbm, ⟨3, _⟩ => ⟨S8192x2048, .bf16⟩
  | .hbm, ⟨4, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InDx.lean ====
abbrev S8192x5632 : Shape := ⟨2, ![8192, 5632]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S8192x2048 : Shape := ⟨2, ![8192, 2048]⟩
abbrev S512x2816 : Shape := ⟨2, ![512, 2816]⟩
abbrev S1x2048x2816 : Shape := ⟨3, ![1, 2048, 2816]⟩
abbrev S512x2048 : Shape := ⟨2, ![512, 2048]⟩
abbrev S1x512x2816 : Shape := ⟨3, ![1, 512, 2816]⟩
abbrev S512x512 : Shape := ⟨2, ![512, 512]⟩

abbrev nBuf : Space → Nat
  | .hbm => 9
  | .vmem => 9
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x11264, .f32⟩
  | .hbm, ⟨3, _⟩ => ⟨S8192x5632, .bf16⟩
  | .hbm, ⟨4, _⟩ => ⟨S8192x5632, .bf16⟩
  | .hbm, ⟨5, _⟩ => ⟨S2048x11264, .bf16⟩
  | .hbm, ⟨6, _⟩ => ⟨S2048x4x2816, .bf16⟩
  | .hbm, ⟨7, _⟩ => ⟨S4x2048x2816, .bf16⟩
  | .hbm, ⟨8, _⟩ => ⟨S8192x2048, .bf16⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x2048x2816, .bf16⟩
  | .local _ .vmem, ⟨5, _⟩ => ⟨S1x2048x2816, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 4], ![false, false, false]⟩

def k0_cond1 (i : grid0.Coords) : BitVec 1 :=
  let arg2 : BitVec 32 := BitVec.ofNat 32 (i 2).val
  let c2_i32 : BitVec 32 := 2#32
  let v0 : BitVec 1 := Scalar.cmpi .slt arg2 c2_i32
  let v1 : BitVec 32 := Scalar.extui v0
  let c0_i32 : BitVec 32 := 0#32
  let v2 : BitVec 1 := Scalar.cmpi .ne v1 c0_i32
  v2

def k0_cond4 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def k0_cond5 (i : grid0.Coords) : BitVec 1 :=
  let arg2 : BitVec 32 := BitVec.ofNat 32 (i 2).val
  let c2_i32_0 : BitVec 32 := 2#32
  let v3 : BitVec 1 := Scalar.cmpi .sge arg2 c2_i32_0
  let v4 : BitVec 32 := Scalar.extui v3
  let c0_i32_1 : BitVec 32 := 0#32
  let v5 : BitVec 1 := Scalar.cmpi .ne v4 c0_i32_1
  v5

def k0_cond8 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.minsi arg2 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDxRefIdeal.lean ====
abbrev S8192x5632 : Shape := ⟨2, ![8192, 5632]⟩
abbrev S2048x11264 : Shape := ⟨2, ![2048, 11264]⟩
abbrev S8192x11264 : Shape := ⟨2, ![8192, 11264]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x5632, .f32⟩
  | .hbm, ⟨2, _⟩ => ⟨S2048x11264, .f32⟩
  | .hbm, ⟨3, _⟩ => ⟨S8192x11264, .f32⟩
  | .hbm, ⟨4, _⟩ => ⟨S_, .f32⟩
  | .hbm, ⟨5, _⟩ => ⟨S8192x2048, .f32⟩
  | .hbm, ⟨6, _⟩ => ⟨S8192x11264, .f32⟩
  | .hbm, ⟨7, _⟩ => ⟨S8192x2048, .f32⟩
  | .hbm, ⟨8, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InDw.lean ====
abbrev S8192x2048 : Shape := ⟨2, ![8192, 2048]⟩
abbrev S8192x5632 : Shape := ⟨2, ![8192, 5632]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S8192x2048, .bf16⟩
  | .hbm, ⟨4, _⟩ => ⟨S8192x5632, .bf16⟩
  | .hbm, ⟨5, _⟩ => ⟨S8192x5632, .bf16⟩
  | .hbm, ⟨6, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond4 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def k0_cond5 (i : grid0.Coords) : BitVec 1 :=
  let arg1 : BitVec 32 := BitVec.ofNat 32 (i 1).val
  let c4_i32_0 : BitVec 32 := 4#32
  let v3 : BitVec 1 := Scalar.cmpi .sge arg1 c4_i32_0
  let v4 : BitVec 32 := Scalar.extui v3
  let c0_i32_1 : BitVec 32 := 0#32
  let v5 : BitVec 1 := Scalar.cmpi .ne v4 c0_i32_1
  v5

def k0_cond8 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .slt arg1 c4_i32
  let c0_i32 : BitVec 32 := 0#32
  let v1 : BitVec 32 := Scalar.select v0 arg2 c0_i32
  let c3_i32 : BitVec 32 := 3#32
  let v2 : BitVec 32 := Scalar.minsi arg1 c3_i32
  let c0_i32_0 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 1 := Scalar.cmpi .sge arg1 c4_i32
  let c0_i32 : BitVec 32 := 0#32
  let v1 : BitVec 32 := Scalar.select v0 arg2 c0_i32
  let c4_i32_0 : BitVec 32 := 4#32
  let v2 : BitVec 32 := Scalar.subi arg1 c4_i32_0
  let c0_i32_1 : BitVec 32 := 0#32
  let v3 : BitVec 32 := Scalar.maxsi v2 c0_i32_1
  let c0_i32_2 : BitVec 32 := 0#32
  ![v1.toNat, v3.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  ![v0.toNat, arg0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== InDwRefIdeal.lean ====
abbrev S8192x2048 : Shape := ⟨2, ![8192, 2048]⟩
abbrev S8192x5632 : Shape := ⟨2, ![8192, 5632]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5632, .f32⟩
  | .hbm, ⟨2, _⟩ => ⟨S8192x5632, .f32⟩
  | .hbm, ⟨3, _⟩ => ⟨S8192x11264, .f32⟩
  | .hbm, ⟨4, _⟩ => ⟨S_, .f32⟩
  | .hbm, ⟨5, _⟩ => ⟨S2048x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x4x2816, .bf16⟩
  | .hbm, ⟨11, _⟩ => ⟨S4x2048x2816, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MixOut.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixOutDx.lean ====
abbrev S8192x2048 : Shape := ⟨2, ![8192, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDxRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixOutDw.lean ====
abbrev S8192x2048 : Shape := ⟨2, ![8192, 2048]⟩
abbrev S2048x2048 : Shape := ⟨2, ![2048, 2048]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DilInDx.lean ====
abbrev S8192x2048 : Shape := ⟨2, ![8192, 2048]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilInDxRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RecIn.lean ====
abbrev S8192x2048 : Shape := ⟨2, ![8192, 2048]⟩
abbrev S2048x3584 : Shape := ⟨2, ![2048, 3584]⟩
abbrev S2048x4x896 : Shape := ⟨3, ![2048, 4, 896]⟩
abbrev S4x2048x896 : Shape := ⟨3, ![4, 2048, 896]⟩
abbrev S8192x3584 : Shape := ⟨2, ![8192, 3584]⟩
abbrev S2048x2048 : Shape := ⟨2, ![2048, 2048]⟩
abbrev S1x2048x896 : Shape := ⟨3, ![1, 2048, 896]⟩
abbrev S2048x896 : Shape := ⟨2, ![2048, 896]⟩
abbrev S1x2048x512 : Shape := ⟨3, ![1, 2048, 512]⟩
abbrev S2048x512 : Shape := ⟨2, ![2048, 512]⟩
abbrev S1x2048x384 : Shape := ⟨3, ![1, 2048, 384]⟩
abbrev S2048x384 : Shape := ⟨2, ![2048, 384]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x3584, .f32⟩
  | .hbm, ⟨2, _⟩ => ⟨S8192x2048, .bf16⟩
  | .hbm, ⟨3, _⟩ => ⟨S2048x3584, .bf16⟩
  | .hbm, ⟨4, _⟩ => ⟨S2048x4x896, .bf16⟩
  | .hbm, ⟨5, _⟩ => ⟨S4x2048x896, .bf16⟩
  | .hbm, ⟨6, _⟩ => ⟨S8192x3584, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S2048x896, .f32⟩
  | .local _ .vmem, ⟨5, _⟩ => ⟨S2048x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecInRefIdeal.lean ====
abbrev S8192x2048 : Shape := ⟨2, ![8192, 2048]⟩
abbrev S2048x3584 : Shape := ⟨2, ![2048, 3584]⟩
abbrev S8192x3584 : Shape := ⟨2, ![8192, 3584]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3584, .f32⟩
  | .hbm, ⟨2, _⟩ => ⟨S8192x3584, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== RecInDx.lean ====
abbrev S8192x3584 : Shape := ⟨2, ![8192, 3584]⟩
abbrev S2048x3584 : Shape := ⟨2, ![2048, 3584]⟩
abbrev S2048x4x896 : Shape := ⟨3, ![2048, 4, 896]⟩
abbrev S4x2048x896 : Shape := ⟨3, ![4, 2048, 896]⟩
abbrev S8192x2048 : Shape := ⟨2, ![8192, 2048]⟩
abbrev S1024x896 : Shape := ⟨2, ![1024, 896]⟩
abbrev S1x2048x896 : Shape := ⟨3, ![1, 2048, 896]⟩
abbrev S1024x2048 : Shape := ⟨2, ![1024, 2048]⟩
abbrev S1x512x896 : Shape := ⟨3, ![1, 512, 896]⟩
abbrev S512x896 : Shape := ⟨2, ![512, 896]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x3584, .f32⟩
  | .hbm, ⟨1, _⟩ => ⟨S2048x3584, .f32⟩
  | .hbm, ⟨2, _⟩ => ⟨S8192x3584, .bf16⟩
  | .hbm, ⟨3, _⟩ => ⟨S2048x3584, .bf16⟩
  | .hbm, ⟨4, _⟩ => ⟨S2048x4x896, .bf16⟩
  | .hbm, ⟨5, _⟩ => ⟨S4x2048x896, .bf16⟩
  | .hbm, ⟨6, _⟩ => ⟨S8192x2048, .bf16⟩
  | .local _ .vmem, ⟨0, _⟩ => ⟨S1024x896, .bf16⟩
  | .local _ .vmem, ⟨1, _⟩ => ⟨S1024x896, .bf16⟩
  | .local _ .vmem, ⟨2, _⟩ => ⟨S1x2048x896, .bf16⟩
  | .local _ .vmem, ⟨3, _⟩ => ⟨S1x2048x896, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecInDxRefIdeal.lean ====
abbrev S8192x3584 : Shape := ⟨2, ![8192, 3584]⟩
abbrev S2048x3584 : Shape := ⟨2, ![2048, 3584]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S2048x3584, .f32⟩
  | .hbm, ⟨2, _⟩ => ⟨S_, .f32⟩
  | .hbm, ⟨3, _⟩ => ⟨S8192x2048, .f32⟩
  | .hbm, ⟨4, _⟩ => ⟨S8192x3584, .f32⟩
  | .hbm, ⟨5, _⟩ => ⟨S8192x2048, .f32⟩
  | .hbm, ⟨6, _⟩ => ⟨S8192x2048, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RecInDw.lean ====
abbrev S8192x2048 : Shape := ⟨2, ![8192, 2048]⟩
abbrev S8192x3584 : Shape := ⟨2, ![8192, 3584]⟩
abbrev S4x2048x896 : Shape := ⟨3, ![4, 2048, 896]⟩
abbrev S2048x2048 : Shape := ⟨2, ![2048, 2048]⟩
abbrev S2048x896 : Shape := ⟨2, ![2048, 896]⟩
abbrev S1x2048x896 : Shape := ⟨3, ![1, 2048, 896]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x3584, .f32⟩
  | .hbm, ⟨2, _⟩ => ⟨S8192x2048, .bf16⟩
  | .hbm, ⟨3, _⟩ => ⟨S8192x3584, .bf16⟩
  | .hbm, ⟨4, _⟩ => ⟨S4x2048x896, .bf16⟩
  | .local _ .vmem, ⟨0, _⟩ => ⟨S2048x2048, .bf16⟩
  | .local _ .vmem, ⟨1, _⟩ => ⟨S2048x2048, .bf16⟩
  | .local _ .vmem, ⟨2, _⟩ => ⟨S2048x896, .bf16⟩
  | .local _ .vmem, ⟨3, _⟩ => ⟨S2048x896, .bf16⟩
  | .local _ .vmem, ⟨4, _⟩ => ⟨S1x2048x896, .bf16⟩
  | .local _ .vmem, ⟨5, _⟩ => ⟨S1x2048x896, .bf16⟩
  | .local _ .vmem, ⟨6, _⟩ => ⟨S2048x896, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecInDwRefIdeal.lean ====
abbrev S8192x2048 : Shape := ⟨2, ![8192, 2048]⟩
abbrev S8192x3584 : Shape := ⟨2, ![8192, 3584]⟩
abbrev S_ : Shape := ⟨0, ![]⟩
abbrev S2048x3584 : Shape := ⟨2, ![2048, 3584]⟩
abbrev S3584x2048 : Shape := ⟨2, ![3584, 2048]⟩
abbrev S2048x4x896 : Shape := ⟨3, ![2048, 4, 896]⟩
abbrev S4x2048x896 : Shape := ⟨3, ![4, 2048, 896]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3584, .f32⟩
  | .hbm, ⟨2, _⟩ => ⟨S_, .f32⟩
  | .hbm, ⟨3, _⟩ => ⟨S2048x3584, .f32⟩
  | .hbm, ⟨4, _⟩ => ⟨S8192x3584, .f32⟩
  | .hbm, ⟨5, _⟩ => ⟨S3584x2048, .f32⟩
  | .hbm, ⟨6, _⟩ => ⟨S2048x3584, .f32⟩
  | .hbm, ⟨7, _⟩ => ⟨S2048x3584, .bf16⟩
  | .hbm, ⟨8, _⟩ => ⟨S2048x4x896, .bf16⟩
  | .hbm, ⟨9, _⟩ => ⟨S4x2048x896, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KvProj.lean ====
abbrev S8192x2048 : Shape := ⟨2, ![8192, 2048]⟩
abbrev S2048x3072 : Shape := ⟨2, ![2048, 3072]⟩
abbrev S2048x4x768 : Shape := ⟨3, ![2048, 4, 768]⟩
abbrev S4x2048x768 : Shape := ⟨3, ![4, 2048, 768]⟩
abbrev S8192x3072 : Shape := ⟨2, ![8192, 3072]⟩
abbrev S1024x2048 : Shape := ⟨2, ![1024, 2048]⟩
abbrev S1x2048x768 : Shape := ⟨3, ![1, 2048, 768]⟩
abbrev S1024x768 : Shape := ⟨2, ![1024, 768]⟩
abbrev S1x2048x512 : Shape := ⟨3, ![1, 2048, 512]⟩
abbrev S2048x512 : Shape := ⟨2, ![2048, 512]⟩
abbrev S1024x512 : Shape := ⟨2, ![1024, 512]⟩
abbrev S1x2048x256 : Shape := ⟨3, ![1, 2048, 256]⟩
abbrev S2048x256 : Shape := ⟨2, ![2048, 256]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x2048, .bf16⟩
  | .hbm, ⟨3, _⟩ => ⟨S2048x3072, .bf16⟩
  | .hbm, ⟨4, _⟩ => ⟨S2048x4x768, .bf16⟩
  | .hbm, ⟨5, _⟩ => ⟨S4x2048x768, .bf16⟩
  | .hbm, ⟨6, _⟩ => ⟨S8192x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .bf16⟩
  | .local _ .vmem, ⟨5, _⟩ => ⟨S1024x768, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjRefIdeal.lean ====
abbrev S8192x2048 : Shape := ⟨2, ![8192, 2048]⟩
abbrev S2048x3072 : Shape := ⟨2, ![2048, 3072]⟩
abbrev S8192x3072 : Shape := ⟨2, ![8192, 3072]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x3072, .f32⟩
  | .hbm, ⟨3, _⟩ => ⟨S8192x3072, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KvProjDx.lean ====
abbrev S8192x3072 : Shape := ⟨2, ![8192, 3072]⟩
abbrev S2048x3072 : Shape := ⟨2, ![2048, 3072]⟩
abbrev S2048x4x768 : Shape := ⟨3, ![2048, 4, 768]⟩
abbrev S4x2048x768 : Shape := ⟨3, ![4, 2048, 768]⟩
abbrev S8192x2048 : Shape := ⟨2, ![8192, 2048]⟩
abbrev S1024x768 : Shape := ⟨2, ![1024, 768]⟩
abbrev S1x2048x768 : Shape := ⟨3, ![1, 2048, 768]⟩
abbrev S1024x2048 : Shape := ⟨2, ![1024, 2048]⟩
abbrev S1x512x768 : Shape := ⟨3, ![1, 512, 768]⟩
abbrev S512x768 : Shape := ⟨2, ![512, 768]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S2048x3072, .f32⟩
  | .hbm, ⟨2, _⟩ => ⟨S8192x3072, .bf16⟩
  | .hbm, ⟨3, _⟩ => ⟨S2048x3072, .bf16⟩
  | .hbm, ⟨4, _⟩ => ⟨S2048x4x768, .bf16⟩
  | .hbm, ⟨5, _⟩ => ⟨S4x2048x768, .bf16⟩
  | .hbm, ⟨6, _⟩ => ⟨S8192x2048, .bf16⟩
  | .local _ .vmem, ⟨0, _⟩ => ⟨S1024x768, .bf16⟩
  | .local _ .vmem, ⟨1, _⟩ => ⟨S1024x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c1_i32_0 : BitVec 32 := 1#32
  let v1 : BitVec 32 := Scalar.remsi arg2 c1_i32_0
  let c0_i32 : BitVec 32 := 0#32
  ![v0.toNat, arg1.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjDxRefIdeal.lean ====
abbrev S8192x3072 : Shape := ⟨2, ![8192, 3072]⟩
abbrev S2048x3072 : Shape := ⟨2, ![2048, 3072]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S2048x3072, .f32⟩
  | .hbm, ⟨2, _⟩ => ⟨S_, .f32⟩
  | .hbm, ⟨3, _⟩ => ⟨S8192x2048, .f32⟩
  | .hbm, ⟨4, _⟩ => ⟨S8192x3072, .f32⟩
  | .hbm, ⟨5, _⟩ => ⟨S8192x2048, .f32⟩
  | .hbm, ⟨6, _⟩ => ⟨S8192x2048, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvProjDw.lean ====
abbrev S8192x2048 : Shape := ⟨2, ![8192, 2048]⟩
abbrev S8192x3072 : Shape := ⟨2, ![8192, 3072]⟩
abbrev S4x2048x768 : Shape := ⟨3, ![4, 2048, 768]⟩
abbrev S2048x2048 : Shape := ⟨2, ![2048, 2048]⟩
abbrev S2048x768 : Shape := ⟨2, ![2048, 768]⟩
abbrev S1x2048x768 : Shape := ⟨3, ![1, 2048, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S8192x2048, .bf16⟩
  | .hbm, ⟨3, _⟩ => ⟨S8192x3072, .bf16⟩
  | .hbm, ⟨4, _⟩ => ⟨S4x2048x768, .bf16⟩
  | .local _ .vmem, ⟨0, _⟩ => ⟨S2048x2048, .bf16⟩
  | .local _ .vmem, ⟨1, _⟩ => ⟨S2048x2048, .bf16⟩
  | .local _ .vmem, ⟨2, _⟩ => ⟨S2048x768, .bf16⟩
  | .local _ .vmem, ⟨3, _⟩ => ⟨S2048x768, .bf16⟩
  | .local _ .vmem, ⟨4, _⟩ => ⟨S1x2048x768, .bf16⟩
  | .local _ .vmem, ⟨5, _⟩ => ⟨S1x2048x768, .bf16⟩
  | .local _ .vmem, ⟨6, _⟩ => ⟨S2048x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvProjDwRefIdeal.lean ====
abbrev S8192x2048 : Shape := ⟨2, ![8192, 2048]⟩
abbrev S8192x3072 : Shape := ⟨2, ![8192, 3072]⟩
abbrev S_ : Shape := ⟨0, ![]⟩
abbrev S2048x3072 : Shape := ⟨2, ![2048, 3072]⟩
abbrev S3072x2048 : Shape := ⟨2, ![3072, 2048]⟩
abbrev S2048x4x768 : Shape := ⟨3, ![2048, 4, 768]⟩
abbrev S4x2048x768 : Shape := ⟨3, ![4, 2048, 768]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S_, .f32⟩
  | .hbm, ⟨3, _⟩ => ⟨S2048x3072, .f32⟩
  | .hbm, ⟨4, _⟩ => ⟨S8192x3072, .f32⟩
  | .hbm, ⟨5, _⟩ => ⟨S3072x2048, .f32⟩
  | .hbm, ⟨6, _⟩ => ⟨S2048x3072, .f32⟩
  | .hbm, ⟨7, _⟩ => ⟨S2048x3072, .bf16⟩
  | .hbm, ⟨8, _⟩ => ⟨S2048x4x768, .bf16⟩
  | .hbm, ⟨9, _⟩ => ⟨S4x2048x768, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemKv.lean ====
abbrev S256x2048 : Shape := ⟨2, ![256, 2048]⟩
abbrev S2048x1024 : Shape := ⟨2, ![2048, 1024]⟩
abbrev S256x1024 : Shape := ⟨2, ![256, 1024]⟩
abbrev S2048x512 : Shape := ⟨2, ![2048, 512]⟩
abbrev S256x512 : Shape := ⟨2, ![256, 512]⟩

abbrev nBuf : Space → Nat
  | .hbm => 5
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x2048, .bf16⟩
  | .hbm, ⟨3, _⟩ => ⟨S2048x1024, .bf16⟩
  | .hbm, ⟨4, _⟩ => ⟨S256x1024, .bf16⟩
  | .local _ .vmem, ⟨0, _⟩ => ⟨S256x2048, .bf16⟩
  | .local _ .vmem, ⟨1, _⟩ => ⟨S2048x1024, .bf16⟩
  | .local _ .vmem, ⟨2, _⟩ => ⟨S256x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x1024, .f32⟩
  | .hbm, ⟨3, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MemKvDx.lean ====
abbrev S256x1024 : Shape := ⟨2, ![256, 1024]⟩
abbrev S2048x1024 : Shape := ⟨2, ![2048, 1024]⟩
abbrev S256x2048 : Shape := ⟨2, ![256, 2048]⟩
abbrev S512x1024 : Shape := ⟨2, ![512, 1024]⟩
abbrev S256x512 : Shape := ⟨2, ![256, 512]⟩

abbrev nBuf : Space → Nat
  | .hbm => 5
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S256x1024, .bf16⟩
  | .hbm, ⟨3, _⟩ => ⟨S2048x1024, .bf16⟩
  | .hbm, ⟨4, _⟩ => ⟨S256x2048, .f32⟩
  | .local _ .vmem, ⟨0, _⟩ => ⟨S256x1024, .bf16⟩
  | .local _ .vmem, ⟨1, _⟩ => ⟨S2048x1024, .bf16⟩
  | .local _ .vmem, ⟨2, _⟩ => ⟨S256x2048, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDxRefIdeal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .f32⟩
  | .hbm, ⟨2, _⟩ => ⟨S_, .f32⟩
  | .hbm, ⟨3, _⟩ => ⟨S256x2048, .f32⟩
  | .hbm, ⟨4, _⟩ => ⟨S256x1024, .f32⟩
  | .hbm, ⟨5, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MemKvDw.lean ====
abbrev S256x2048 : Shape := ⟨2, ![256, 2048]⟩
abbrev S256x1024 : Shape := ⟨2, ![256, 1024]⟩
abbrev S2048x1024 : Shape := ⟨2, ![2048, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x2048, .bf16⟩
  | .hbm, ⟨3, _⟩ => ⟨S256x1024, .bf16⟩
  | .hbm, ⟨4, _⟩ => ⟨S2048x1024, .bf16⟩
  | .local _ .vmem, ⟨0, _⟩ => ⟨S256x2048, .bf16⟩
  | .local _ .vmem, ⟨1, _⟩ => ⟨S256x1024, .bf16⟩
  | .local _ .vmem, ⟨2, _⟩ => ⟨S2048x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvDwRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== RecMem.lean ====
abbrev S8192x3584 : Shape := ⟨2, ![8192, 3584]⟩
abbrev S256x1024 : Shape := ⟨2, ![256, 1024]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x3584, .f32⟩
  | .hbm, ⟨1, _⟩ => ⟨S256x1024, .f32⟩
  | .hbm, ⟨2, _⟩ => ⟨S256x1024, .bf16⟩
  | .hbm, ⟨3, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RecMemRefIdeal.lean ====
abbrev S8192x3584 : Shape := ⟨2, ![8192, 3584]⟩
abbrev S256x1024 : Shape := ⟨2, ![256, 1024]⟩
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S256x1024, .f32⟩
  | .hbm, ⟨2, _⟩ => ⟨S8192x512, .f32⟩
  | .hbm, ⟨3, _⟩ => ⟨S256x512, .f32⟩
  | .hbm, ⟨4, _⟩ => ⟨S256x512, .f32⟩
  | .hbm, ⟨5, _⟩ => ⟨S8192x4x128, .f32⟩
  | .hbm, ⟨6, _⟩ => ⟨S256x4x128, .f32⟩
  | .hbm, ⟨7, _⟩ => ⟨S256x4x128, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x128x8192, .f32⟩
  | .hbm, ⟨27, _⟩ => ⟨S8192x4x128, .f32⟩
  | .hbm, ⟨28, _⟩ => ⟨S8192x512, .f32⟩
  | .hbm, ⟨29, _⟩ => ⟨S8192x512, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== DilMem.lean ====
abbrev S8192x2048 : Shape := ⟨2, ![8192, 2048]⟩
abbrev S256x1024 : Shape := ⟨2, ![256, 1024]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S256x1024, .f32⟩
  | .hbm, ⟨2, _⟩ => ⟨S256x1024, .bf16⟩
  | .hbm, ⟨3, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DilMemRefIdeal.lean ====
abbrev S8192x2048 : Shape := ⟨2, ![8192, 2048]⟩
abbrev S256x1024 : Shape := ⟨2, ![256, 1024]⟩
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x1024, .f32⟩
  | .hbm, ⟨2, _⟩ => ⟨S8192x512, .f32⟩
  | .hbm, ⟨3, _⟩ => ⟨S256x512, .f32⟩
  | .hbm, ⟨4, _⟩ => ⟨S256x512, .f32⟩
  | .hbm, ⟨5, _⟩ => ⟨S8192x4x128, .f32⟩
  | .hbm, ⟨6, _⟩ => ⟨S256x4x128, .f32⟩
  | .hbm, ⟨7, _⟩ => ⟨S256x4x128, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S_, .f32⟩
  | .hbm, ⟨15, _⟩ => ⟨S4x8192, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .f32⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x256, .f32⟩
  | .hbm, ⟨25, _⟩ => ⟨S4x8192x256, .f32⟩
  | .hbm, ⟨26, _⟩ => ⟨S4x128x8192, .f32⟩
  | .hbm, ⟨27, _⟩ => ⟨S8192x4x128, .f32⟩
  | .hbm, ⟨28, _⟩ => ⟨S8192x512, .f32⟩
  | .hbm, ⟨29, _⟩ => ⟨S8192x512, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== DilMemGrad.lean ====
abbrev S8192x2048 : Shape := ⟨2, ![8192, 2048]⟩
abbrev S256x1024 : Shape := ⟨2, ![256, 1024]⟩
abbrev S8192x512 : Shape := ⟨2, ![8192, 512]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S256x1024, .f32⟩
  | .hbm, ⟨2, _⟩ => ⟨S8192x2048, .f32⟩
  | .hbm, ⟨3, _⟩ => ⟨S256x1024, .bf16⟩
  | .hbm, ⟨4, _⟩ => ⟨S8192x512, .bf16⟩
  | .hbm, ⟨5, _⟩ => ⟨S256x1024, .f32⟩
  | .local _ .vmem, ⟨0, _⟩ => ⟨S512x512, .f32⟩
  | .local _ .vmem, ⟨1, _⟩ => ⟨S512x512, .f32⟩
  | .local _ .vmem, ⟨2, _⟩ => ⟨S256x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DilMemGradRefIdeal.lean ====
abbrev S8192x2048 : Shape := ⟨2, ![8192, 2048]⟩
abbrev S256x1024 : Shape := ⟨2, ![256, 1024]⟩
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x1024, .f32⟩
  | .hbm, ⟨2, _⟩ => ⟨S8192x2048, .f32⟩
  | .hbm, ⟨3, _⟩ => ⟨S8192x512, .f32⟩
  | .hbm, ⟨4, _⟩ => ⟨S256x512, .f32⟩
  | .hbm, ⟨5, _⟩ => ⟨S256x512, .f32⟩
  | .hbm, ⟨6, _⟩ => ⟨S8192x4x128, .f32⟩
  | .hbm, ⟨7, _⟩ => ⟨S256x4x128, .f32⟩
  | .hbm, ⟨8, _⟩ => ⟨S256x4x128, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S4x8192x256, .f32⟩
  | .hbm, ⟨17, _⟩ => ⟨S4x8192x256, .i1⟩
  | .hbm, ⟨18, _⟩ => ⟨S4x8192x256, .f32⟩
  | .hbm, ⟨19, _⟩ => ⟨S_, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .i1⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192x1, .f32⟩
  | .hbm, ⟨39, _⟩ => ⟨S4x8192x256, .f32⟩
  | .hbm, ⟨40, _⟩ => ⟨S4x8192x256, .f32⟩
  | .hbm, ⟨41, _⟩ => ⟨S4x8192x256, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x256, .f32⟩
  | .hbm, ⟨46, _⟩ => ⟨S4x8192x256, .f32⟩
  | .hbm, ⟨47, _⟩ => ⟨S4x8192x1, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x128x8192, .f32⟩
  | .hbm, ⟨52, _⟩ => ⟨S8192x4x128, .f32⟩
  | .hbm, ⟨53, _⟩ => ⟨S8192x512, .f32⟩
  | .hbm, ⟨54, _⟩ => ⟨S8192x512, .f32⟩
  | .hbm, ⟨55, _⟩ => ⟨S8192x4x128, .f32⟩
  | .hbm, ⟨56, _⟩ => ⟨S4x128x8192, .f32⟩
  | .hbm, ⟨57, _⟩ => ⟨S4x8192x256, .f32⟩
  | .hbm, ⟨58, _⟩ => ⟨S4x128x256, .f32⟩
  | .hbm, ⟨59, _⟩ => ⟨S256x4x128, .f32⟩
  | .hbm, ⟨60, _⟩ => ⟨S4x8192x256, .f32⟩
  | .hbm, ⟨61, _⟩ => ⟨S4x8192x256, .f32⟩
  | .hbm, ⟨62, _⟩ => ⟨S4x8192x256, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S4x8192x1, .f32⟩
  | .hbm, ⟨67, _⟩ => ⟨S4x8192x256, .f32⟩
  | .hbm, ⟨68, _⟩ => ⟨S4x8192x256, .f32⟩
  | .hbm, ⟨69, _⟩ => ⟨S_, .f32⟩
  | .hbm, ⟨70, _⟩ => ⟨S4x8192, .f32⟩
  | .hbm, ⟨71, _⟩ => ⟨S4x8192x256, .f32⟩
  | .hbm, ⟨72, _⟩ => ⟨S4x8192x256, .f32⟩
  | .hbm, ⟨73, _⟩ => ⟨S4x8192x256, .f32⟩
  | .hbm, ⟨74, _⟩ => ⟨S_, .f32⟩
  | .hbm, ⟨75, _⟩ => ⟨S4x8192x256, .f32⟩
  | .hbm, ⟨76, _⟩ => ⟨S4x8192x256, .f32⟩
  | .hbm, ⟨77, _⟩ => ⟨S4x256x128, .f32⟩
  | .hbm, ⟨78, _⟩ => ⟨S256x4x128, .f32⟩
  | .hbm, ⟨79, _⟩ => ⟨S4x8192x128, .f32⟩
  | .hbm, ⟨80, _⟩ => ⟨S8192x4x128, .f32⟩
  | .hbm, ⟨81, _⟩ => ⟨S256x512, .f32⟩
  | .hbm, ⟨82, _⟩ => ⟨S256x512, .f32⟩
  | .hbm, ⟨83, _⟩ => ⟨S8192x512, .f32⟩
  | .hbm, ⟨84, _⟩ => ⟨S8192x512, .bf16⟩
  | .hbm, ⟨85, _⟩ => ⟨S256x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== PreNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== PostNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== PostPreNorm.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostPreNormRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S1x2048, .f32⟩
  | .hbm, ⟨35, _⟩ => ⟨S8192x2048, .f32⟩
  | .hbm, ⟨36, _⟩ => ⟨S8192x2048, .f32⟩
  | .hbm, ⟨37, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== PostNormBwd.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostNormBwdRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | .hbm, ⟨49, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== PreNormBwd.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .bf16⟩
  | .hbm, ⟨5, _⟩ => ⟨S1x2048, .f32⟩
  | .hbm, ⟨6, _⟩ => ⟨S8192x2048, .f32⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== PreNormBwdRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== PrePostNormBwd.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S1x2048, .f32⟩
  | .hbm, ⟨11, _⟩ => ⟨S8192x2048, .bf16⟩
  | .hbm, ⟨12, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PrePostNormBwdRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 100
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x2048, .f32⟩
  | .hbm, ⟨39, _⟩ => ⟨S8192x2048, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S8192x2048, .f32⟩
  | .hbm, ⟨68, _⟩ => ⟨S8192x2048, .f32⟩
  | .hbm, ⟨69, _⟩ => ⟨S1x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S_, .f32⟩
  | .hbm, ⟨74, _⟩ => ⟨S2048, .f32⟩
  | .hbm, ⟨75, _⟩ => ⟨S1x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S2048, .f32⟩
  | .hbm, ⟨80, _⟩ => ⟨S8192x2048, .f32⟩
  | .hbm, ⟨81, _⟩ => ⟨S_, .f32⟩
  | .hbm, ⟨82, _⟩ => ⟨S8192, .f32⟩
  | .hbm, ⟨83, _⟩ => ⟨S8192x1, .f32⟩
  | .hbm, ⟨84, _⟩ => ⟨S8192x2048, .f32⟩
  | .hbm, ⟨85, _⟩ => ⟨S8192x2048, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S1x2048, .f32⟩
  | .hbm, ⟨98, _⟩ => ⟨S8192x2048, .bf16⟩
  | .hbm, ⟨99, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Proof.Math.Softmax.lean ====
/- The mathematics of a softmax row and of its gradient over the extended reals: where the scores are real numbers, the
   weights are real, and the gradient of the scores is `p (dp - Σ p dp)`, in whichever order the quotients are taken. -/
module

public import Idealize.ShloMosaic.Lib.Pointwise

@[expose] public section

noncomputable section

namespace Cert.Attn

open Idealize.ShloMosaic

/-- A family of extended reals all of whose members are real numbers. -/
def Fin' {ι : Type*} (s : ι → EReal) : Prop := ∀ k, ∃ r : ℝ, s k = (r : EReal)

/-- The largest member of a finite family, minus infinity if there is none. -/
def rowMax {n : ℕ} (s : Fin n → EReal) : EReal := Finset.univ.fold max ⊥ s

/-- The weight of key `k` before normalization: the exponential of its score less the largest score. -/
def ex {n : ℕ} (s : Fin n → EReal) (k : Fin n) : EReal := Ideal.exp (s k - rowMax s)

/-- The sum of the weights. -/
def den {n : ℕ} (s : Fin n → EReal) : EReal := ∑ k, ex s k

/-- The softmax. -/
def prob {n : ℕ} (s : Fin n → EReal) (k : Fin n) : EReal := Ideal.div (ex s k) (den s)

/-- The gradient of the score of key `k`, from the gradients `dp` of the softmax's entries, times the scale `c`. -/
def dscore {n : ℕ} (c : EReal) (s dp : Fin n → EReal) (k : Fin n) : EReal :=
  prob s k * (dp k - ∑ j, prob s j * dp j) * c

/-- The 32-bit word of minus infinity denotes minus infinity. -/
theorem ofBits_neg_inf : Ideal.ofBits .f32 0xFF800000#32 = ⊥ := by
  simp [Ideal.ofBits, Ideal.ieee]

/-- The 32-bit word of zero denotes zero. -/
theorem ofBits_zero : Ideal.ofBits .f32 0x00000000#32 = 0 := by
  simp [Ideal.ofBits, Ideal.ieee]

/-- The 32-bit word of one denotes one. -/
theorem ofBits_one : Ideal.ofBits .f32 0x3F800000#32 = 1 := by
  simp [Ideal.ofBits, Ideal.ieee]
  rw [← EReal.coe_mul, ← EReal.coe_one]
  norm_num

/-- The sum of real numbers read as extended reals is the sum read so. -/
theorem coe_sum {ι : Type*} (t : Finset ι) (f : ι → ℝ) : ∑ k ∈ t, (f k : EReal) = ((∑ k ∈ t, f k : ℝ) : EReal) := by
  classical
  induction t using Finset.induction_on with
  | empty => simp
  | insert a t ha ih => rw [Finset.sum_insert ha, Finset.sum_insert ha, ih, EReal.coe_add]

/-- A finite sum of real numbers is real. -/
theorem Fin'.sum {ι : Type*} [Fintype ι] {s : ι → EReal} (h : Fin' s) : ∃ r : ℝ, ∑ k, s k = (r : EReal) := by
  choose f hf using h
  exact ⟨∑ k, f k, by simp only [hf]; exact coe_sum _ _⟩

/-- A product of real numbers is real. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, by norm_cast⟩

/-- The largest of finitely many real numbers, at least one, is one of them. -/
theorem rowMax_mem {n : ℕ} (s : Fin (n + 1) → EReal) : ∃ k, rowMax s = s k := by
  have key : ∀ t : Finset (Fin (n + 1)), t.fold max ⊥ s = ⊥ ∨ ∃ k, t.fold max ⊥ s = s k := by
    intro t
    induction t using Finset.induction_on with
    | empty => exact Or.inl rfl
    | insert a t ha ih =>
      rw [Finset.fold_insert ha]
      rcases max_choice (s a) (t.fold max ⊥ s) with h | h
      · exact Or.inr ⟨a, h⟩
      · rw [h]; exact ih
  rcases key Finset.univ with h | h
  · refine ⟨0, ?_⟩
    have h0 : s 0 ≤ rowMax s := by
      unfold rowMax
      rw [Finset.le_fold_max]
      exact Or.inr ⟨0, Finset.mem_univ _, le_rfl⟩
    unfold rowMax at h0 ⊢
    rw [h] at h0 ⊢
    exact (le_bot_iff.mp h0).symm
  · exact h

/-- The largest of real scores is real. -/
theorem rowMax_real {n : ℕ} (s : Fin (n + 1) → EReal) (h : Fin' s) : ∃ r : ℝ, rowMax s = r := by
  obtain ⟨k, hk⟩ := rowMax_mem s
  obtain ⟨r, hr⟩ := h k
  exact ⟨r, hk.trans hr⟩

/-- The weights of real scores are positive real numbers. -/
theorem ex_real {n : ℕ} (s : Fin (n + 1) → EReal) (h : Fin' s) : ∃ f : Fin (n + 1) → ℝ, (∀ k, ex s k = (f k : EReal)) ∧ ∀ k, 0 < f k := by
  obtain ⟨r, hr⟩ := rowMax_real s h
  choose f hf using h
  refine ⟨fun k => Real.exp (f k - r), fun k => ?_, fun k => Real.exp_pos _⟩
  unfold ex
  rw [hr, hf k, ← EReal.coe_sub, Ideal.exp_coe]

/-- A real factor that is not negative comes out of a finite sum of extended reals. -/
theorem sum_mul_coe {ι : Type*} (t : Finset ι) (g : ι → EReal) {r : ℝ} (hr : 0 ≤ r) :
    ∑ k ∈ t, g k * (r : EReal) = (∑ k ∈ t, g k) * (r : EReal) := by
  classical
  induction t using Finset.induction_on with
  | empty => simp
  | insert a t ha ih =>
    rw [Finset.sum_insert ha, Finset.sum_insert ha, ih,
      EReal.right_distrib_of_nonneg_of_ne_top (by exact_mod_cast hr) (EReal.coe_ne_top r)]

/-- The gradient of the softmax as differentiation of the quotient gives it — the quotient's numerator and denominator
    apart — is the gradient of the softmax. -/
theorem dscore_of_quotient {n : ℕ} (c : EReal) (s dp : Fin (n + 1) → EReal) (h : Fin' s) (k : Fin (n + 1)) :
    (Ideal.div (dp k) (den s) + -(∑ j, dp j * Ideal.div 1 (den s * den s) * ex s j)) * ex s k * c = dscore c s dp k := by
  obtain ⟨f, hf, hpos⟩ := ex_real s h
  have hden : den s = ((∑ j, f j : ℝ) : EReal) := by
    unfold den
    simp only [hf]
    exact coe_sum _ _
  have hl : 0 < ∑ j, f j := Finset.sum_pos (fun j _ => hpos j) Finset.univ_nonempty
  generalize hL : ∑ j, f j = l at *
  have hp : ∀ j, prob s j = ((f j * (1 / l) : ℝ) : EReal) := by
    intro j
    unfold prob
    rw [hden, hf, Ideal.div_coe hl.ne', ← EReal.coe_mul]
  have hl' : (0 : ℝ) ≤ 1 / l := by positivity
  have h1 : ∀ j, dp j * Ideal.div 1 (den s * den s) * ex s j = prob s j * dp j * ((1 / l : ℝ) : EReal) := by
    intro j
    rw [hp, hden, hf, ← EReal.coe_mul, Ideal.div_coe (mul_pos hl hl).ne', one_mul, mul_assoc, ← EReal.coe_mul,
      mul_comm (((f j * (1 / l) : ℝ) : EReal)), mul_assoc, ← EReal.coe_mul]
    congr 2
    field_simp
  simp only [h1]
  rw [sum_mul_coe _ _ hl']
  unfold dscore
  generalize ∑ j, prob s j * dp j = D
  rw [hden, Ideal.div_coe hl.ne', hp k, hf k, ← EReal.neg_mul,
    ← EReal.right_distrib_of_nonneg_of_ne_top (by exact_mod_cast hl') (EReal.coe_ne_top _), ← sub_eq_add_neg, mul_assoc (dp k - D),
    ← EReal.coe_mul, mul_comm (1 / l) (f k), mul_comm (dp k - D)]

end Cert.Attn

end
-- ==== Proof.Math.Attention.lean ====
/- The mathematics of the gradient of one head of a softmax attention, over `R` queries and `n` keys of 128 features: the
   scores, the gradients of the scores, and from them the gradients of the queries, of the keys and of the values. -/
module

public import proofs.«01_k».proof.Proof.Math.Softmax

@[expose] public section

noncomputable section

namespace Cert.Attn

open Idealize.ShloMosaic

/-- The scale of the scores, the 32-bit word next to `1 / √128`. -/
def scl : EReal := Ideal.ofBits .f32 0x3DB504F3#32

/-- The scale is a real number. -/
theorem scl_real : ∃ x : ℝ, scl = x := by
  unfold scl
  simp [Ideal.ofBits, Ideal.ieee]
  exact ⟨_, by norm_cast⟩

/-- The 128 columns of a matrix from column `o` on. -/
def cols {R C : ℕ} (X : (⟨2, ![R, C]⟩ : Shape).Idx → EReal) (o : ℕ) (h : o + 128 ≤ C) : Fin R → Fin 128 → EReal :=
  fun r d => X (ix2 r ⟨o + d.val, by have := d.isLt; omega⟩)

/-- The scores of query `r`: its inner product with each key, scaled. -/
def score {R n : ℕ} (Q : Fin R → Fin 128 → EReal) (K : Fin n → Fin 128 → EReal) (r : Fin R) (k : Fin n) : EReal :=
  (∑ d, Q r d * K k d) * scl

/-- The gradients of the softmax's entries of query `r`: the inner product of its output's gradient with each value. -/
def dprob {R n : ℕ} (V : Fin n → Fin 128 → EReal) (D : Fin R → Fin 128 → EReal) (r : Fin R) (k : Fin n) : EReal :=
  ∑ d, D r d * V k d

section
variable {R n : ℕ} (Q : Fin R → Fin 128 → EReal) (K V : Fin n → Fin 128 → EReal) (D : Fin R → Fin 128 → EReal)

/-- The gradient of the inner product of query `r` with key `k`. -/
def dS (r : Fin R) (k : Fin n) : EReal := dscore scl (score Q K r) (dprob V D r) k

/-- The gradient of the queries. -/
def dQ (r : Fin R) (d : Fin 128) : EReal := ∑ k, dS Q K V D r k * K k d

/-- The gradient of the keys. -/
def dK (k : Fin n) (d : Fin 128) : EReal := ∑ r, dS Q K V D r k * Q r d

/-- The gradient of the values. -/
def dV (k : Fin n) (d : Fin 128) : EReal := ∑ r, prob (score Q K r) k * D r d

end

end Cert.Attn

end
-- ==== Proof.Mem.Block.lean ====
/- What one block of the memory attention's gradient kernel computes, at the extended reals: from 512 queries, the
   memory's keys and values and the gradients of 512 outputs, head by head, the gradient of the queries and the block's
   share of the gradients of the keys and of the values. -/
module

public import proofs.«01_k».proof.Proof.Math.Attention
public import proofs.«01_k».proof.Proof.Gen.MemKernelIdeal.Skeleton

@[expose] public section

noncomputable section

namespace Cert.MemBlock

open Idealize.ShloMosaic Cert.MemKernelIdeal.Gen Cert.MemKernelIdeal Cert.Attn

section
variable (x0 : Vec Ideal S512x512 .f32) (x1 : Vec Ideal S256x1024 .bf16) (x2 : Vec Ideal S512x512 .f32)

/-- The softmax weights of heads 0 to 3. -/
abbrev p0 := k0_pay11 (F := Ideal) (k0_pay9 x0 x1)
abbrev p1 := k0_pay12 (F := Ideal) (k0_pay10 x0 x1)
abbrev p2 := k0_pay13 (F := Ideal) (k0_pay7 x0 x1)
abbrev p3 := k0_pay14 (F := Ideal) (k0_pay8 x0 x1)

/-- The gradients of the scores of heads 0 to 3. -/
abbrev s0 := k0_pay18 (F := Ideal) (k0_pay5 x2) (k0_pay6 x1) (k0_pay9 x0 x1)
abbrev s1 := k0_pay20 (F := Ideal) (p1 x0 x1) (k0_pay15 (k0_pay5 x2) (k0_pay6 x1)) (k0_pay19 (k0_pay5 x2) (k0_pay6 x1) (k0_pay10 x0 x1))
abbrev s2 := k0_pay21 (F := Ideal) (p2 x0 x1) (k0_pay16 (k0_pay5 x2) (k0_pay6 x1))
abbrev s3 := k0_pay22 (F := Ideal) (p3 x0 x1) (k0_pay17 (k0_pay5 x2) (k0_pay6 x1))

/-- The head `h` of the block's queries, of the keys, of the values and of the outputs' gradients. -/
abbrev hQ (h : Fin 4) := cols x0 (128 * h.val) (by omega)
abbrev hK (h : Fin 4) := cols x1 (128 * h.val) (by omega)
abbrev hV (h : Fin 4) := cols x1 (512 + 128 * h.val) (by omega)

theorem p0_apply (r : Fin 512) (k : Fin 256) : p0 x0 x1 (ix2 r k) = prob (score (hQ x0 0) (hK x1 0) r) k := by
  unfold p0 k0_pay11 k0_pay9 k0_pay4 k0_pay6
  pointwise [ofBits_neg_inf]
  simp only [prob, den, ex, rowMax, score, scl, hQ, hK, cols]
  rfl

theorem p1_apply (r : Fin 512) (k : Fin 256) : p1 x0 x1 (ix2 r k) = prob (score (hQ x0 1) (hK x1 1) r) k := by
  unfold p1 k0_pay12 k0_pay10 k0_pay4 k0_pay6
  pointwise [ofBits_neg_inf]
  rfl

theorem p2_apply (r : Fin 512) (k : Fin 256) : p2 x0 x1 (ix2 r k) = prob (score (hQ x0 2) (hK x1 2) r) k := by
  unfold p2 k0_pay13 k0_pay7 k0_pay4 k0_pay6
  pointwise [ofBits_neg_inf]
  rfl

theorem p3_apply (r : Fin 512) (k : Fin 256) : p3 x0 x1 (ix2 r k) = prob (score (hQ x0 3) (hK x1 3) r) k := by
  unfold p3 k0_pay14 k0_pay8 k0_pay4 k0_pay6
  pointwise [ofBits_neg_inf]
  rfl

theorem s0_apply (r : Fin 512) (k : Fin 256) :
    s0 x0 x1 x2 (ix2 r k) = dS (hQ x0 0) (hK x1 0) (hV x1 0) (hQ x2 0) r k := by
  unfold dS dscore
  simp only [← p0_apply, s0]
  unfold k0_pay18 k0_pay6 k0_pay5
  pointwise
  simp only [dprob, hQ, hV, cols]
  rfl

theorem s1_apply (r : Fin 512) (k : Fin 256) :
    s1 x0 x1 x2 (ix2 r k) = dS (hQ x0 1) (hK x1 1) (hV x1 1) (hQ x2 1) r k := by
  unfold dS dscore
  simp only [← p1_apply, s1]
  unfold k0_pay20 k0_pay19 k0_pay15 k0_pay6 k0_pay5
  pointwise
  rfl

theorem s2_apply (r : Fin 512) (k : Fin 256) :
    s2 x0 x1 x2 (ix2 r k) = dS (hQ x0 2) (hK x1 2) (hV x1 2) (hQ x2 2) r k := by
  unfold dS dscore
  simp only [← p2_apply, s2]
  unfold k0_pay21 k0_pay16 k0_pay6 k0_pay5
  pointwise
  rfl

theorem s3_apply (r : Fin 512) (k : Fin 256) :
    s3 x0 x1 x2 (ix2 r k) = dS (hQ x0 3) (hK x1 3) (hV x1 3) (hQ x2 3) r k := by
  unfold dS dscore
  simp only [← p3_apply, s3]
  unfold k0_pay22 k0_pay17 k0_pay6 k0_pay5
  pointwise
  rfl

/-- What the block leaves in the block of the queries' gradient. -/
def outQ : Vec Ideal S512x512 .bf16 :=
  k0_pay1 (F := Ideal) (k0_pay23 (k0_pay6 x1) (s0 x0 x1 x2))
    (k0_pay24 (k0_pay6 x1) (p1 x0 x1) (k0_pay15 (k0_pay5 x2) (k0_pay6 x1)) (k0_pay19 (k0_pay5 x2) (k0_pay6 x1) (k0_pay10 x0 x1)))
    (k0_pay25 (k0_pay6 x1) (p2 x0 x1) (k0_pay16 (k0_pay5 x2) (k0_pay6 x1)))
    (k0_pay26 (k0_pay6 x1) (p3 x0 x1) (k0_pay17 (k0_pay5 x2) (k0_pay6 x1)))

/-- What the block leaves, over `a`, in the gradient of the keys and the values. -/
def outKV (a : Vec Ideal S256x1024 .f32) : Vec Ideal S256x1024 .f32 :=
  k0_pay2 (F := Ideal) (k0_pay5 x2) (p2 x0 x1) (p3 x0 x1) (k0_pay27 (k0_pay4 x0) (s0 x0 x1 x2))
    (k0_pay28 (k0_pay4 x0) (p1 x0 x1) (k0_pay15 (k0_pay5 x2) (k0_pay6 x1)) (k0_pay19 (k0_pay5 x2) (k0_pay6 x1) (k0_pay10 x0 x1)))
    (k0_pay29 (k0_pay4 x0) (p2 x0 x1) (k0_pay16 (k0_pay5 x2) (k0_pay6 x1)))
    (k0_pay30 (k0_pay4 x0) (p3 x0 x1) (k0_pay17 (k0_pay5 x2) (k0_pay6 x1)))
    (k0_pay31 (k0_pay5 x2) (p0 x0 x1)) (k0_pay32 (p1 x0 x1)) a

theorem pay6_apply (i : Fin 256) (j : Fin 1024) : k0_pay6 (F := Ideal) x1 (ix2 i j) = x1 (ix2 i j) := by
  unfold k0_pay6
  pointwise

theorem outQ_apply (r : Fin 512) (h : Fin 4) (d : Fin 128) :
    outQ x0 x1 x2 (ix2 r ⟨128 * h.val + d.val, by omega⟩) = dQ (hQ x0 h) (hK x1 h) (hV x1 h) (hQ x2 h) r d := by
  have hd := d.isLt
  unfold dQ
  match h with
  | 0 =>
    simp only [← s0_apply]
    unfold outQ k0_pay1
    pointwise
    unfold k0_pay23
    pointwise
    simp only [pay6_apply]
    simp only [hK, cols, Fin.val_zero, Nat.mul_zero, Nat.zero_add]
  | 1 =>
    simp only [← s1_apply]
    unfold outQ k0_pay1
    pointwise
    unfold k0_pay24
    pointwise
    simp only [pay6_apply]
    rfl
  | 2 =>
    simp only [← s2_apply]
    unfold outQ k0_pay1
    pointwise
    iterate 2 rw [dif_neg (by omega)]
    rw [dif_pos (by omega)]
    have e : 256 + d.val - 128 - 128 = d.val := by omega
    simp only [e]
    unfold k0_pay25
    pointwise
    simp only [pay6_apply]
    rfl
  | 3 =>
    simp only [← s3_apply]
    unfold outQ k0_pay1
    pointwise
    iterate 3 rw [dif_neg (by omega)]
    have e : 384 + d.val - 128 - 128 - 128 = d.val := by omega
    simp only [e]
    unfold k0_pay26
    pointwise
    simp only [pay6_apply]
    rfl

/-- The keys' columns: what was there before, and the block's share of the gradient of the keys. -/
theorem outKV_apply_k (a : Vec Ideal S256x1024 .f32) (k : Fin 256) (h : Fin 4) (d : Fin 128) :
    outKV x0 x1 x2 a (ix2 k ⟨128 * h.val + d.val, by omega⟩)
      = a (ix2 k ⟨128 * h.val + d.val, by omega⟩) + dK (hQ x0 h) (hK x1 h) (hV x1 h) (hQ x2 h) k d := by
  have hd := d.isLt
  unfold dK
  match h with
  | 0 =>
    simp only [← s0_apply]
    unfold outKV k0_pay2
    pointwise
    unfold k0_pay27 k0_pay4
    pointwise
    simp only [hQ, cols, Fin.val_zero, Nat.mul_zero, Nat.zero_add]
  | 1 =>
    simp only [← s1_apply]
    unfold outKV k0_pay2
    pointwise
    unfold k0_pay28 k0_pay4
    pointwise
    rfl
  | 2 =>
    simp only [← s2_apply]
    unfold outKV k0_pay2
    pointwise
    iterate 2 rw [dif_neg (by omega)]
    rw [dif_pos (by omega)]
    have e : 256 + d.val - 128 - 128 = d.val := by omega
    simp only [e]
    unfold k0_pay29 k0_pay4
    pointwise
    rfl
  | 3 =>
    simp only [← s3_apply]
    unfold outKV k0_pay2
    pointwise
    iterate 3 rw [dif_neg (by omega)]
    rw [dif_pos (by omega)]
    have e : 384 + d.val - 128 - 128 - 128 = d.val := by omega
    simp only [e]
    unfold k0_pay30 k0_pay4
    pointwise
    rfl

/-- The values' columns: what was there before, and the block's share of the gradient of the values. -/
theorem outKV_apply_v (a : Vec Ideal S256x1024 .f32) (k : Fin 256) (h : Fin 4) (d : Fin 128) :
    outKV x0 x1 x2 a (ix2 k ⟨512 + 128 * h.val + d.val, by omega⟩)
      = a (ix2 k ⟨512 + 128 * h.val + d.val, by omega⟩) + dV (hQ x0 h) (hK x1 h) (hQ x2 h) k d := by
  have hd := d.isLt
  unfold dV
  match h with
  | 0 =>
    simp only [← p0_apply]
    unfold outKV k0_pay2
    pointwise
    iterate 4 rw [dif_neg (by omega)]
    rw [dif_pos (by omega)]
    have e : 512 + d.val - 128 - 128 - 128 - 128 = d.val := by omega
    simp only [e]
    unfold k0_pay31 k0_pay5
    pointwise
    simp only [hQ, cols, Fin.val_zero, Nat.mul_zero, Nat.zero_add]
  | 1 =>
    simp only [← p1_apply]
    unfold outKV k0_pay2
    pointwise
    iterate 5 rw [dif_neg (by omega)]
    rw [dif_pos (by omega)]
    have e : 640 + d.val - 128 - 128 - 128 - 128 - 128 = d.val := by omega
    simp only [e]
    rfl
  | 2 =>
    simp only [← p2_apply]
    unfold outKV k0_pay2
    pointwise
    iterate 6 rw [dif_neg (by omega)]
    rw [dif_pos (by omega)]
    have e : 768 + d.val - 128 - 128 - 128 - 128 - 128 - 128 = d.val := by omega
    simp only [e]
    rfl
  | 3 =>
    simp only [← p3_apply]
    unfold outKV k0_pay2
    pointwise
    iterate 7 rw [dif_neg (by omega)]
    have e : 896 + d.val - 128 - 128 - 128 - 128 - 128 - 128 - 128 = d.val := by omega
    simp only [e]
    rfl

end

end Cert.MemBlock

end
-- ==== Proof.Math.Sums.lean ====
/- Sums taken in parts: an accumulator that starts from zero and takes one summand at each step ends at the sum, and a sum
   over all rows is the sum over the blocks of rows of each block's sum. -/
module

public import Idealize.ShloMosaic.Lib.Pointwise

@[expose] public section

noncomputable section

namespace Cert.Attn

open Idealize.ShloMosaic

/-- An accumulator that holds `0 + T 0` first and takes `T (n + 1)` at each later step holds the sum of the summands so far. -/
theorem acc_eq_sum {N : ℕ} (T : Fin N → EReal) (A : (n : ℕ) → n < N → EReal)
    (h0 : ∀ h, A 0 h = 0 + T ⟨0, h⟩) (hs : ∀ n h h', A (n + 1) h = A n h' + T ⟨n + 1, h⟩) :
    ∀ n h, A n h = ∑ t : Fin (n + 1), T ⟨t.val, by have := t.isLt; omega⟩
  | 0, h => by simp [h0]
  | n + 1, h => by
    rw [hs n h (Nat.lt_of_succ_lt h), acc_eq_sum T A h0 hs n, Fin.sum_univ_castSucc (n := n + 1)]
    rfl

/-- An accumulator that starts anew every `G` steps holds, within a run of `G`, the sum of the run's summands so far. -/
theorem run_sum {N : ℕ} (G : ℕ) (A T : (t : ℕ) → t < N → EReal) (h0 : ∀ t h, t % G = 0 → A t h = T t h)
    (hs : ∀ t h, ¬ t % G = 0 → A t h = A (t - 1) (Nat.lt_of_le_of_lt (Nat.sub_le _ _) h) + T t h) (b : ℕ) :
    ∀ j (_ : j < G) (h : G * b + j < N), A (G * b + j) h = ∑ s : Fin (j + 1), T (G * b + s.val) (by have := s.isLt; omega)
  | 0, _, h => by simpa using h0 (G * b) h (Nat.mul_mod_right _ _)
  | j + 1, hj, h => by
    rw [hs _ h (by rw [Nat.mul_add_mod, Nat.mod_eq_of_lt hj]; omega), Fin.sum_univ_castSucc]
    exact congrArg (· + T (G * b + (j + 1)) h) (run_sum G A T h0 hs b j (by omega) (by omega))

/-- Row `r` of block `t` of `b` rows. -/
def row {a b R : ℕ} (e : a * b = R) (t : Fin a) (r : Fin b) : Fin R :=
  ⟨b * t.val + r.val, by
    have := t.isLt; have := r.isLt
    calc b * t.val + r.val < b * t.val + b := by omega
      _ = b * (t.val + 1) := by ring
      _ ≤ b * a := Nat.mul_le_mul_left _ (by omega)
      _ = R := by rw [Nat.mul_comm, e]⟩

/-- The sum over all rows, block by block. -/
theorem sum_rows {a b R : ℕ} (e : a * b = R) (f : Fin R → EReal) :
    ∑ i, f i = ∑ t : Fin a, ∑ r : Fin b, f (row e t r) := by
  subst e
  rw [← finProdFinEquiv.sum_comp f, Fintype.sum_prod_type]
  refine Finset.sum_congr rfl fun t _ => Finset.sum_congr rfl fun r _ => congrArg f (Fin.ext ?_)
  simp [finProdFinEquiv, row, Nat.add_comm]

/-- Four heads of 128 features side by side. -/
def joinHeads {R : ℕ} (f : Fin 4 → Fin R → Fin 128 → EReal) : (⟨2, ![R, 512]⟩ : Shape).Idx → EReal :=
  fun i => f ⟨(i 1).val / 128, by have : (i 1).val < 512 := (i 1).isLt; omega⟩ (i 0) ⟨(i 1).val % 128, by omega⟩

/-- The keys' four heads, then the values' four heads. -/
def joinKV {R : ℕ} (f g : Fin 4 → Fin R → Fin 128 → EReal) : (⟨2, ![R, 1024]⟩ : Shape).Idx → EReal :=
  fun i => if h : (i 1).val < 512
    then f ⟨(i 1).val / 128, by omega⟩ (i 0) ⟨(i 1).val % 128, by omega⟩
    else g ⟨((i 1).val - 512) / 128, by have : (i 1).val < 1024 := (i 1).isLt; omega⟩ (i 0) ⟨((i 1).val - 512) % 128, by omega⟩

/-- Two matrices of heads agree at two indices of one column whose rows' heads agree. -/
theorem joinHeads_congr {R R' : ℕ} (f : Fin 4 → Fin R → Fin 128 → EReal) (g : Fin 4 → Fin R' → Fin 128 → EReal)
    (i : (⟨2, ![R, 512]⟩ : Shape).Idx) (j : (⟨2, ![R', 512]⟩ : Shape).Idx) (h1 : (j 1).val = (i 1).val)
    (h : ∀ a d, f a (i 0) d = g a (j 0) d) : joinHeads f i = joinHeads g j := by
  unfold joinHeads
  simp only [h1]
  exact h _ _

/-- A matrix whose heads are known is the heads side by side. -/
theorem eq_joinHeads {R : ℕ} (X : (⟨2, ![R, 512]⟩ : Shape).Idx → EReal) (f : Fin 4 → Fin R → Fin 128 → EReal)
    (h : ∀ r (a : Fin 4) (d : Fin 128), X (ix2 r ⟨128 * a.val + d.val, by omega⟩) = f a r d) : X = joinHeads f := by
  funext i
  have h1 : (i 1).val < 512 := (i 1).isLt
  unfold joinHeads
  refine Eq.trans ?_ (h (i 0) ⟨(i 1).val / 128, by omega⟩ ⟨(i 1).val % 128, by omega⟩)
  congr 1
  funext a
  match a with
  | 0 => rfl
  | 1 => exact Fin.ext (Nat.div_add_mod _ _).symm

/-- A matrix whose heads are known, of the keys and of the values, is the heads side by side. -/
theorem eq_joinKV {R : ℕ} (X : (⟨2, ![R, 1024]⟩ : Shape).Idx → EReal) (f g : Fin 4 → Fin R → Fin 128 → EReal)
    (hf : ∀ r (a : Fin 4) (d : Fin 128), X (ix2 r ⟨128 * a.val + d.val, by omega⟩) = f a r d)
    (hg : ∀ r (a : Fin 4) (d : Fin 128), X (ix2 r ⟨512 + 128 * a.val + d.val, by omega⟩) = g a r d) : X = joinKV f g := by
  funext i
  have h1 : (i 1).val < 1024 := (i 1).isLt
  unfold joinKV
  split
  · refine Eq.trans ?_ (hf (i 0) ⟨(i 1).val / 128, by omega⟩ ⟨(i 1).val % 128, by omega⟩)
    congr 1
    funext a
    match a with
    | 0 => rfl
    | 1 => exact Fin.ext (Nat.div_add_mod _ _).symm
  · refine Eq.trans ?_ (hg (i 0) ⟨((i 1).val - 512) / 128, by omega⟩ ⟨((i 1).val - 512) % 128, by omega⟩)
    congr 1
    funext a
    match a with
    | 0 => rfl
    | 1 =>
      refine Fin.ext ?_
      show (i 1).val = 512 + 128 * (((i 1).val - 512) / 128) + ((i 1).val - 512) % 128
      omega

end Cert.Attn

end
-- ==== Proof.Mem.Spec.lean ====
/- The gradient of the memory attention as a function of the layer's projections `a0`, of the memory's keys and values `a1`
   and of the gradient of the layer's mixed outputs `a2`. Every query attends all the 256 memory entries. -/
module

public import proofs.«01_k».proof.Proof.Math.Attention
public import proofs.«01_k».proof.Proof.Math.Sums

@[expose] public section

noncomputable section

namespace Cert.MemSpec

open Idealize.ShloMosaic Cert.Attn

variable (a0 : (⟨2, ![8192, 3584]⟩ : Shape).Idx → EReal) (a1 : (⟨2, ![256, 1024]⟩ : Shape).Idx → EReal)
  (a2 : (⟨2, ![8192, 2048]⟩ : Shape).Idx → EReal)

/-- The queries of head `h`. -/
abbrev Q (h : Fin 4) := cols a0 (3072 + 128 * h.val) (by omega)
/-- The keys of head `h`. -/
abbrev K (h : Fin 4) := cols a1 (128 * h.val) (by omega)
/-- The values of head `h`. -/
abbrev V (h : Fin 4) := cols a1 (512 + 128 * h.val) (by omega)
/-- The gradient of the output of head `h`. -/
abbrev D (h : Fin 4) := cols a2 (1536 + 128 * h.val) (by omega)

/-- The gradient of the queries. -/
def gradQ : (⟨2, ![8192, 512]⟩ : Shape).Idx → EReal := joinHeads fun h => dQ (Q a0 h) (K a1 h) (V a1 h) (D a2 h)

/-- The gradient of the keys, then the gradient of the values. -/
def gradKV : (⟨2, ![256, 1024]⟩ : Shape).Idx → EReal :=
  joinKV (fun h => dK (Q a0 h) (K a1 h) (V a1 h) (D a2 h)) fun h => dV (Q a0 h) (K a1 h) (D a2 h)

end Cert.MemSpec

end
-- ==== Proof.Mem.Gather.lean ====
/- The memory attention's gradient kernel gathered over its sixteen blocks of 512 queries, whatever the array the queries
   stand in: each block's rows of the queries' gradient are that block's own, and the gradients of keys and values are the
   sum of every block's share. -/
module

public import proofs.«01_k».proof.Proof.Mem.Block
public import proofs.«01_k».proof.Proof.Mem.Spec

@[expose] public section

noncomputable section

namespace Cert.MemGather

open Idealize.ShloMosaic Cert.MemKernelIdeal Cert.MemKernelIdeal.Gen Cert.Attn Cert.MemBlock

/-- Row `r` of the block of point `t`. -/
abbrev rw_ (t : Fin 16) (r : Fin 512) : Fin 8192 := row (a := 16) (b := 512) rfl t r

variable (a0 : S8192x3584.Idx → EReal) (a1 : S256x1024.Idx → EReal) (a2 : S8192x2048.Idx → EReal)
  (X0 : Fin 16 → Vec Ideal S512x512 .f32) (X1 : Fin 16 → Vec Ideal S256x1024 .bf16) (X2 : Fin 16 → Vec Ideal S512x512 .f32)

/-- The blocks that the points read are the arrays': the rows of the point's own queries and outputs' gradients, and all the
    keys and values. -/
structure Reads : Prop where
  q : ∀ t h, hQ (X0 t) h = fun r => MemSpec.Q a0 h (rw_ t r)
  k : ∀ t h, hK (X1 t) h = MemSpec.K a1 h
  v : ∀ t h, hV (X1 t) h = MemSpec.V a1 h
  d : ∀ t h, hQ (X2 t) h = fun r => MemSpec.D a2 h (rw_ t r)

/-- Point `t`'s share of the gradient of key `k`. -/
def shareK (h : Fin 4) (k : Fin 256) (d : Fin 128) (t : Fin 16) : EReal :=
  ∑ r : Fin 512, dS (MemSpec.Q a0 h) (MemSpec.K a1 h) (MemSpec.V a1 h) (MemSpec.D a2 h) (rw_ t r) k * MemSpec.Q a0 h (rw_ t r) d
/-- Point `t`'s share of the gradient of value `k`. -/
def shareV (h : Fin 4) (k : Fin 256) (d : Fin 128) (t : Fin 16) : EReal :=
  ∑ r : Fin 512, prob (score (MemSpec.Q a0 h) (MemSpec.K a1 h) (rw_ t r)) k * MemSpec.D a2 h (rw_ t r) d

/-- The accumulator the first point starts from. -/
theorem zeros (i : Fin 256) (j : Fin 1024) : k0_pay3 (F := Ideal) (ix2 i j) = 0 := by
  unfold k0_pay3
  pointwise [ofBits_zero]

variable {a0 a1 a2 X0 X1 X2} (B : Reads a0 a1 a2 X0 X1 X2)
include B

theorem share_k (t : Fin 16) (a : Vec Ideal S256x1024 .f32) (h : Fin 4) (k : Fin 256) (d : Fin 128) :
    outKV (X0 t) (X1 t) (X2 t) a (ix2 k ⟨128 * h.val + d.val, by omega⟩)
      = a (ix2 k ⟨128 * h.val + d.val, by omega⟩) + shareK a0 a1 a2 h k d t := by
  rw [outKV_apply_k, B.q, B.d, B.k, B.v]
  rfl
theorem share_v (t : Fin 16) (a : Vec Ideal S256x1024 .f32) (h : Fin 4) (k : Fin 256) (d : Fin 128) :
    outKV (X0 t) (X1 t) (X2 t) a (ix2 k ⟨512 + 128 * h.val + d.val, by omega⟩)
      = a (ix2 k ⟨512 + 128 * h.val + d.val, by omega⟩) + shareV a0 a1 a2 h k d t := by
  rw [outKV_apply_v, B.q, B.d, B.k]
  rfl

/-- A point's rows of the queries' gradient, in its block (at `i`) and in the array (at `j`). -/
theorem rows (t : Fin 16) (i : S512x512.Idx) (j : S8192x512.Idx) (hr : j 0 = rw_ t (i 0)) (hc : (j 1).val = (i 1).val) :
    outQ (X0 t) (X1 t) (X2 t) i = MemSpec.gradQ a0 a1 a2 j := by
  rw [eq_joinHeads (R := 512) (outQ (X0 t) (X1 t) (X2 t)) _ (fun r h d => outQ_apply _ _ _ r h d)]
  refine joinHeads_congr (R := 512) (R' := 8192) _ _ i _ hc fun h d => ?_
  rw [hr, B.q, B.d, B.k, B.v]
  rfl

/-- What the keys' and values' accumulator `o` holds after the last point: the sum of all shares. -/
theorem last (o : ∀ n, n < 16 → Vec Ideal S256x1024 .f32)
    (h0 : ∀ h, o 0 h = outKV (X0 ⟨0, h⟩) (X1 ⟨0, h⟩) (X2 ⟨0, h⟩) (k0_pay3 (F := Ideal)))
    (hs : ∀ n h h', o (n + 1) h = outKV (X0 ⟨n + 1, h⟩) (X1 ⟨n + 1, h⟩) (X2 ⟨n + 1, h⟩) (o n h')) :
    o 15 (by decide) = MemSpec.gradKV a0 a1 a2 :=
  eq_joinKV (R := 256) _ _ _
    (fun k h d => (acc_eq_sum (N := 16) (shareK a0 a1 a2 h k d) (fun n hn => o n hn (ix2 k ⟨128 * h.val + d.val, by omega⟩))
        (fun l => (congrFun (h0 l) _).trans ((share_k B _ _ h k d).trans (congrArg (· + _) (zeros _ _))))
        (fun n l l' => (congrFun (hs n l l') _).trans (share_k B _ _ h k d)) 15 (by decide)).trans
      (sum_rows (a := 16) (b := 512) rfl fun r =>
        dS (MemSpec.Q a0 h) (MemSpec.K a1 h) (MemSpec.V a1 h) (MemSpec.D a2 h) r k * MemSpec.Q a0 h r d).symm)
    (fun k h d => (acc_eq_sum (N := 16) (shareV a0 a1 a2 h k d) (fun n hn => o n hn (ix2 k ⟨512 + 128 * h.val + d.val, by omega⟩))
        (fun l => (congrFun (h0 l) _).trans ((share_v B _ _ h k d).trans (congrArg (· + _) (zeros _ _))))
        (fun n l l' => (congrFun (hs n l l') _).trans (share_v B _ _ h k d)) 15 (by decide)).trans
      (sum_rows (a := 16) (b := 512) rfl fun r =>
        prob (score (MemSpec.Q a0 h) (MemSpec.K a1 h) r) k * MemSpec.D a2 h r d).symm)

end Cert.MemGather

end
-- ==== Proof.Mem.Array.lean ====
/- The memory attention's gradient kernel over its sixteen blocks of 512 queries: each block's rows of the queries'
   gradient are that block's own, and the gradients of keys and values gather every block's share. -/
module

public import proofs.«01_k».proof.Proof.Mem.Gather
public import proofs.«01_k».proof.Proof.Gen.MemKernelIdeal.Value

@[expose] public section

noncomputable section

namespace Cert.MemArray

open Idealize.ShloMosaic Idealize.ShloMosaic.TcCoe Idealize.ShloMosaic.Tactic Idealize.SL.Sem
open Cert.MemKernelIdeal Cert.MemKernelIdeal.Gen Cert.Attn Cert.MemBlock Cert.MemGather
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

/-- What a later point leaves: its own rows of the queries' gradient, and its share added to the keys' and values'. -/
theorem outs_later (t : Fin cfg0.N) (h : ¬ t.val % 16 = 0) :
    outsAt0 m c t.val t.isLt = (outQ (iblk m c 0 t) (iblk m c 1 t) (iblk m c 2 t),
      outKV (iblk m c 0 t) (iblk m c 1 t) (iblk m c 2 t) (outsAt0 m c (t.val - 1) (Nat.lt_of_le_of_lt (Nat.sub_le _ _) t.isLt)).2) := by
  rw [outsAt0_B m c t h]
  refine Prod.ext ?_ ?_
  · dsimp only
    unfold out0_B_3; rw [View.read_writes_eq_canon _ _ _ (cover0_B_3 c _ _ _ _ _ _ _ _ _ _ _ _ _ _ _ _)]
    unfold kernelRun0_B; dsimp only; sl_unfold_words
    simp only [View.readAt_eq_ld, (hs0_0 t).read_unread, (hs0_1 t).read_unread, (hs0_2 t).read_unread]
    rw [View.canon_unit_zero hz]
    simp only [View.ld_unit_zero (S := S512x512) hz, View.ld_unit_zero (S := S256x1024) hz]
    rfl
  · dsimp only
    unfold out0_B_4; rw [View.read_writes_eq_canon _ _ _ (cover0_B_4 c _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_4 t).read_unread]
    rw [View.canon_unit_zero hz]
    simp only [View.ld_unit_zero (S := S512x512) hz, View.ld_unit_zero (S := S256x1024) hz]
    rfl

/-- What the first point leaves: the same, its share added to zeros. -/
theorem outs_first (t : Fin cfg0.N) (h : t.val % 16 = 0) :
    outsAt0 m c t.val t.isLt = (outQ (iblk m c 0 t) (iblk m c 1 t) (iblk m c 2 t),
      outKV (iblk m c 0 t) (iblk m c 1 t) (iblk m c 2 t) (k0_pay3 (F := Ideal))) := by
  rw [outsAt0_A m c t h]
  refine Prod.ext ?_ ?_
  · dsimp only
    unfold out0_A_3; rw [View.read_writes_eq_canon _ _ _ (cover0_A_3 c _ _ _ _ _ _ _ _ _ _ _ _ _ _ _)]
    unfold kernelRun0_A; dsimp only; sl_unfold_words
    simp only [View.readAt_eq_ld, (hs0_0 t).read_unread, (hs0_1 t).read_unread, (hs0_2 t).read_unread]
    rw [View.canon_unit_zero hz]
    simp only [View.ld_unit_zero (S := S512x512) hz, View.ld_unit_zero (S := S256x1024) hz]
    rfl
  · dsimp only
    unfold out0_A_4; rw [View.read_writes_eq_canon _ _ _ (cover0_A_4 c _ _ _ _ _ _ _ _ _ _ _ _ _ _ _)]
    unfold kernelRun0_A; dsimp only; sl_unfold_words
    simp only [View.readAt_eq_ld, (hs0_0 t).read_unread, (hs0_1 t).read_unread, (hs0_2 t).read_unread]
    rw [View.canon_cons_unit_zero (S := S256x1024) hz, View.readCov_unit_zero (S := S256x1024) _ hz]
    simp only [View.ld_unit_zero (S := S512x512) hz, View.ld_unit_zero (S := S256x1024) hz]
    rfl

/-- The arguments: the layer's projections, the memory's keys and values, the gradient of the mixed outputs. -/
abbrev A0 : S8192x3584.Idx → EReal := m ((c : Thread nD τ).loc main_arg0)
abbrev A1 : S256x1024.Idx → EReal := m ((c : Thread nD τ).loc main_arg1)
abbrev A2 : S8192x2048.Idx → EReal := m ((c : Thread nD τ).loc main_arg2)

theorem index0 : ∀ t : Fin cfg0.N, win0_0.index t 0 = t.val ∧ win0_0.index t 1 = 6 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 3 := by decide +kernel
theorem index3 : ∀ t : Fin cfg0.N, win0_3.index t 0 = t.val ∧ win0_3.index t 1 = 0 := by decide +kernel
theorem index4 : ∀ t : Fin cfg0.N, win0_4.index t 0 = 0 ∧ win0_4.index t 1 = 0 := by decide +kernel

/-- The queries of the block of point `t`. -/
theorem blk0 (t : Fin cfg0.N) (r : Fin 512) (j : Fin 512) :
    iblk m c 0 t (ix2 r j) = A0 m c (ix2 (rw_ t r) ⟨3072 + j.val, by omega⟩) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(index0 t).1]; omega
  | ⟨1, _⟩ => show win0_0.index t 1 * 512 + 1 * j.val = 3072 + j.val; rw [(index0 t).2]; omega

/-- The gradients of the outputs in the block of point `t`. -/
theorem blk2 (t : Fin cfg0.N) (r : Fin 512) (j : Fin 512) :
    iblk m c 2 t (ix2 r j) = A2 m c (ix2 (rw_ t r) ⟨1536 + j.val, by omega⟩) := by
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [(index2 t).1]; omega
  | ⟨1, _⟩ => show win0_2.index t 1 * 512 + 1 * j.val = 1536 + j.val; rw [(index2 t).2]; omega

/-- The keys and values, rounded to bfloat16 by the host: at the extended reals, the argument. -/
theorem V_kv : V m c main_v0 = A1 m c := by
  rfl

/-- Every point's block of keys and values is the whole of them. -/
theorem blk1 (t : Fin cfg0.N) (k : Fin 256) (j : Fin 1024) : iblk m c 1 t (ix2 k j) = A1 m c (ix2 k j) := by
  unfold iblk
  rw [View.read_apply]
  show V m c main_v0 _ = _
  rw [V_kv]
  congr 1
  funext a
  apply Fin.ext
  match a with
  | ⟨0, _⟩ => show win0_1.index t 0 * 256 + 1 * k.val = k.val; rw [(index1 t).1]; omega
  | ⟨1, _⟩ => show win0_1.index t 1 * 1024 + 1 * j.val = j.val; rw [(index1 t).2]; omega

/-- The heads of the blocks, read from the arguments. -/
theorem hQ0 (t : Fin cfg0.N) (h : Fin 4) : hQ (iblk m c 0 t) h = fun r => MemSpec.Q (A0 m c) h (rw_ t r) := by
  funext r d
  refine (blk0 m c t r _).trans (congrArg (A0 m c) (congrArg (ix2 _) (Fin.ext ?_)))
  show 3072 + (128 * h.val + d.val) = 3072 + 128 * h.val + d.val
  omega
theorem hQ2 (t : Fin cfg0.N) (h : Fin 4) : hQ (iblk m c 2 t) h = fun r => MemSpec.D (A2 m c) h (rw_ t r) := by
  funext r d
  refine (blk2 m c t r _).trans (congrArg (A2 m c) (congrArg (ix2 _) (Fin.ext ?_)))
  show 1536 + (128 * h.val + d.val) = 1536 + 128 * h.val + d.val
  omega
theorem hK1 (t : Fin cfg0.N) (h : Fin 4) : hK (iblk m c 1 t) h = MemSpec.K (A1 m c) h := funext fun r => funext fun d => blk1 m c t r _
theorem hV1 (t : Fin cfg0.N) (h : Fin 4) : hV (iblk m c 1 t) h = MemSpec.V (A1 m c) h := funext fun r => funext fun d => blk1 m c t r _

/-- The points read the arguments' blocks. -/
theorem reads : MemGather.Reads (A0 m c) (A1 m c) (A2 m c) (iblk m c 0) (iblk m c 1) (iblk m c 2) where
  q := hQ0 m c
  k := hK1 m c
  v := hV1 m c
  d := hQ2 m c

/-- Every point leaves its own rows of the queries' gradient. -/
theorem outs_1 (t : Fin cfg0.N) : (outsAt0 m c t.val t.isLt).1 = outQ (iblk m c 0 t) (iblk m c 1 t) (iblk m c 2 t) := by
  by_cases h : t.val % 16 = 0
  · rw [outs_first m c t h]
  · rw [outs_later m c t h]

/-- The last point leaves the gradient of the keys and the values. -/
theorem last_kv : (outsAt0 m c 15 (by decide)).2 = MemSpec.gradKV (A0 m c) (A1 m c) (A2 m c) :=
  MemGather.last (reads m c) (fun n hn => (outsAt0 m c n hn).2)
    (fun h => congrArg Prod.snd (outs_first m c ⟨0, h⟩ rfl))
    (fun n h _ => congrArg Prod.snd (outs_later m c ⟨n + 1, h⟩ (by
      have hn : n + 1 < 16 := h
      show ¬ (n + 1) % 16 = 0; omega)))

/-- What point `t` writes to the queries' gradient is its block of the queries' gradient. -/
theorem flushed_q (t : Fin cfg0.N) :
    (dats m 0 c).flushed 3 t = ((cfg0.win 3).blk t).view.read (Elt Ideal) (MemSpec.gradQ (A0 m c) (A1 m c) (A2 m c)) := by
  rw [Value.flushed3, outs_1]
  funext i
  rw [View.read_apply]
  have hr : ((cfg0.win 3).blk t).view.emb i 0 = rw_ t (i 0) := by
    apply Fin.ext
    show win0_3.index t 0 * 512 + 1 * (i 0).val = 512 * t.val + (i 0).val; rw [(index3 t).1]; omega
  have hc : (((cfg0.win 3).blk t).view.emb i 1).val = (i 1).val := by
    show win0_3.index t 1 * 512 + 1 * (i 1).val = (i 1).val; rw [(index3 t).2]; omega
  refine Eq.trans ?_ (cast_eq _ _).symm
  exact MemGather.rows (reads m c) t i _ hr hc

theorem mem_q (t : Fin cfg0.N) (i : S8192x512.Idx) (h : 512 * t.val ≤ (i 0).val ∧ (i 0).val < 512 * t.val + 512) :
    i ∈ ((cfg0.win 3).blk t).view.set := by
  show i ∈ ((View.whole main_v1_0).slice (win0_3.rect t)).set
  rw [View.set_slice_whole, Rect.mem_set_unit]
  have h1 : (i 1).val < 512 := (i 1).isLt
  intro a
  match a with
  | ⟨0, _⟩ =>
    show win0_3.index t 0 * 512 ≤ (i 0).val ∧ (i 0).val < win0_3.index t 0 * 512 + 512
    rw [(index3 t).1]; omega
  | ⟨1, _⟩ =>
    show win0_3.index t 1 * 512 ≤ (i 1).val ∧ (i 1).val < win0_3.index t 1 * 512 + 512
    rw [(index3 t).2]; omega

/-- The queries' gradient after the run. -/
theorem final_q : (dats m 0 c).arrAt 3 cfg0.N = MemSpec.gradQ (A0 m c) (A1 m c) (A2 m c) :=
  (dats m 0 c).arrAt_eq_of_cover 3 _ (fun t _ => flushed_q m c t) fun i => by
    have h0 : (i 0).val < 8192 := (i 0).isLt
    have ht : (i 0).val / 512 < 16 := by omega
    exact ⟨⟨(i 0).val / 512, ht⟩, flush0_3 _, mem_q ⟨(i 0).val / 512, ht⟩ i
      (show 512 * ((i 0).val / 512) ≤ (i 0).val ∧ (i 0).val < 512 * ((i 0).val / 512) + 512 by omega)⟩

theorem flushed_kv (t : Fin cfg0.N) (hf : (cfg0.win 4).flush t = true) :
    (dats m 0 c).flushed 4 t = ((cfg0.win 4).blk t).view.read (Elt Ideal) (MemSpec.gradKV (A0 m c) (A1 m c) (A2 m c)) := by
  have ht : t = ⟨15, by decide⟩ := by
    have h := (flush0_4 t).mp hf
    have h' : t.val < 16 := t.isLt
    exact Fin.ext (by show t.val = 15; omega)
  subst ht
  rw [Value.flushed4]
  show (cfg0.win 4).cut _ (outsAt0 m c 15 _).2 = _
  rw [last_kv]
  funext i
  rw [View.read_apply]
  refine Eq.trans ?_ (cast_eq _ _).symm
  show MemSpec.gradKV _ _ _ _ = MemSpec.gradKV _ _ _ _
  congr 1
  funext a
  apply Fin.ext
  match a with
  | ⟨0, _⟩ => show (i 0).val = win0_4.index _ 0 * 256 + 1 * (i 0).val; rw [(index4 _).1]; omega
  | ⟨1, _⟩ => show (i 1).val = win0_4.index _ 1 * 1024 + 1 * (i 1).val; rw [(index4 _).2]; omega

theorem mem_kv (t : Fin cfg0.N) (i : S256x1024.Idx) : i ∈ ((cfg0.win 4).blk t).view.set := by
  show i ∈ ((View.whole main_v1_1).slice (win0_4.rect t)).set
  rw [View.set_slice_whole, Rect.mem_set_unit]
  have h0 : (i 0).val < 256 := (i 0).isLt
  have h1 : (i 1).val < 1024 := (i 1).isLt
  intro a
  match a with
  | ⟨0, _⟩ =>
    show win0_4.index t 0 * 256 ≤ (i 0).val ∧ (i 0).val < win0_4.index t 0 * 256 + 256
    rw [(index4 t).1]; omega
  | ⟨1, _⟩ =>
    show win0_4.index t 1 * 1024 ≤ (i 1).val ∧ (i 1).val < win0_4.index t 1 * 1024 + 1024
    rw [(index4 t).2]; omega

/-- The keys' and values' gradient after the run. -/
theorem final_kv : (dats m 0 c).arrAt 4 cfg0.N = MemSpec.gradKV (A0 m c) (A1 m c) (A2 m c) :=
  (dats m 0 c).arrAt_eq_of_cover 4 _ (flushed_kv m c) fun i =>
    ⟨⟨15, by decide⟩, (flush0_4 _).mpr rfl, mem_kv _ i⟩

end Cert.MemArray

end
-- ==== Proof.Mem.Ref.lean ====
/- The memory attention's reference, `vjp` of the softmax attention written out by JAX, read one element at a time: it is
   the gradient of `Spec.lean` where the scores are real numbers. -/
module

public import proofs.«01_k».proof.Proof.Mem.Spec
public import proofs.«01_k».proof.Proof.Gen.MemReferenceIdeal.Read

@[expose] public section

noncomputable section

namespace Cert.MemRef

open Idealize.ShloMosaic Cert.MemReferenceIdeal Cert.MemReferenceIdeal.Gen Cert.MemReferenceIdeal.Read Cert.Attn

variable (x0 : S8192x3584.Idx → EReal) (x1 : S256x1024.Idx → EReal) (x2 : S8192x2048.Idx → EReal)

abbrev Q (h : Fin 4) := MemSpec.Q x0 h
abbrev K (h : Fin 4) := MemSpec.K x1 h
abbrev V (h : Fin 4) := MemSpec.V x1 h
abbrev D (h : Fin 4) := MemSpec.D x2 h

theorem q_apply (r : Fin 8192) (h : Fin 4) (d : Fin 128) : val_main_v3 (F := Ideal) x0 (ix3 r h d) = Q x0 h r d := by
  unfold val_main_v3 val_main_v0
  pointwise
  exact congrArg x0 (congrArg (ix2 _) (Fin.ext (by show 3072 + (h.val * 128 + d.val) = 3072 + 128 * h.val + d.val; omega)))
theorem k_apply (k : Fin 256) (h : Fin 4) (d : Fin 128) : val_main_v4 (F := Ideal) x1 (ix3 k h d) = K x1 h k d := by
  unfold val_main_v4 val_main_v1
  pointwise
  exact congrArg x1 (congrArg (ix2 _) (Fin.ext (by show h.val * 128 + d.val = 128 * h.val + d.val; omega)))
theorem v_apply (k : Fin 256) (h : Fin 4) (d : Fin 128) : val_main_v5 (F := Ideal) x1 (ix3 k h d) = V x1 h k d := by
  unfold val_main_v5 val_main_v2
  pointwise
  exact congrArg x1 (congrArg (ix2 _) (Fin.ext (by show 512 + (h.val * 128 + d.val) = 512 + 128 * h.val + d.val; omega)))
theorem d_apply (r : Fin 8192) (h : Fin 4) (d : Fin 128) : val_main_v42 (F := Ideal) x2 (ix3 h d r) = D x2 h r d := by
  unfold val_main_v42 val_main_v41 val_main_v40
  pointwise
  exact congrArg x2 (congrArg (ix2 _) (Fin.ext (by show 1536 + (h.val * 128 + d.val) = 1536 + 128 * h.val + d.val; omega)))

/-- The scores, their maximum, the exponentials and their sum, and the softmax. -/
theorem score_apply (h : Fin 4) (r : Fin 8192) (k : Fin 256) :
    val_main_v8 (F := Ideal) x0 x1 (ix3 h r k) = score (Q x0 h) (K x1 h) r k := by
  unfold val_main_v8 val_main_v7 val_main_v6 val_main_cst
  pointwise [q_apply, k_apply]
  rfl
theorem fold_apply (h : Fin 4) (r : Fin 8192) :
    val_main_v9 (F := Ideal) x0 x1 (ix2 h r)
      = Finset.univ.fold max (Ideal.ofBits .f32 0xFF800000#32) fun k => val_main_v8 (F := Ideal) x0 x1 (ix3 h r k) := by
  unfold val_main_v9 val_main_cst_0
  pointwise
theorem max_eq_fold (h : Fin 4) (r : Fin 8192) :
    val_main_v16 (F := Ideal) x0 x1 (ix2 h r) = max (Ideal.ofBits .f32 0xFF800000#32) (val_main_v9 (F := Ideal) x0 x1 (ix2 h r)) := by
  rw [val_main_v16_apply, val_main_v15_apply, val_main_cst_2_apply]
  generalize val_main_v9 (F := Ideal) x0 x1 (ix2 h r) = y
  rfl
theorem fold_score (h : Fin 4) (r : Fin 8192) :
    val_main_v9 (F := Ideal) x0 x1 (ix2 h r) = rowMax (score (Q x0 h) (K x1 h) r) := by
  have e : (fun k => val_main_v8 (F := Ideal) x0 x1 (ix3 h r k)) = score (Q x0 h) (K x1 h) r := funext fun k => score_apply x0 x1 h r k
  rw [fold_apply, e, ofBits_neg_inf]
  rfl
theorem max_apply (h : Fin 4) (r : Fin 8192) :
    val_main_v16 (F := Ideal) x0 x1 (ix2 h r) = rowMax (score (Q x0 h) (K x1 h) r) := by
  rw [max_eq_fold, fold_score, ofBits_neg_inf, max_eq_right bot_le]
theorem ex_apply (h : Fin 4) (r : Fin 8192) (k : Fin 256) :
    val_main_v29 (F := Ideal) x0 x1 (ix3 h r k) = ex (score (Q x0 h) (K x1 h) r) k := by
  unfold val_main_v29 val_main_v28 val_main_v27 val_main_v26
  pointwise [score_apply, max_apply]
  rfl
theorem den_apply (h : Fin 4) (r : Fin 8192) :
    val_main_v30 (F := Ideal) x0 x1 (ix2 h r) = den (score (Q x0 h) (K x1 h) r) := by
  unfold val_main_v30 val_main_cst_8
  pointwise [ex_apply, ofBits_zero]
  rfl
theorem prob_apply (h : Fin 4) (r : Fin 8192) (k : Fin 256) :
    val_main_v33 (F := Ideal) x0 x1 (ix3 h r k) = prob (score (Q x0 h) (K x1 h) r) k := by
  unfold val_main_v33 val_main_v32 val_main_v31
  pointwise [ex_apply, den_apply]
  rfl
theorem dprob_apply (h : Fin 4) (r : Fin 8192) (k : Fin 256) :
    val_main_v43 (F := Ideal) x1 x2 (ix3 h r k) = dprob (V x1 h) (D x2 h) r k := by
  unfold val_main_v43
  pointwise [d_apply, v_apply]
  rfl
/-- The gradient of the scores: JAX differentiates the softmax's quotient, which is the short form of it at real scores. -/
theorem ds_apply (h : Fin 4) (r : Fin 8192) (k : Fin 256) (hs : Fin' (score (Q x0 h) (K x1 h) r)) :
    val_main_v59 (F := Ideal) x0 x1 x2 (ix3 h r k) = dS (Q x0 h) (K x1 h) (V x1 h) (D x2 h) r k := by
  unfold dS
  rw [← dscore_of_quotient (n := 255) scl _ _ hs k]
  unfold val_main_v59 val_main_v58 val_main_cst_12 val_main_v57 val_main_v56 val_main_v55 val_main_v54 val_main_cst_11
    val_main_v53 val_main_v52 val_main_v51 val_main_v50 val_main_v49 val_main_cst_10 val_main_v48 val_main_v47 val_main_v46
    val_main_v36 val_main_v35 val_main_cst_9 val_main_v34 val_main_v31
  pointwise [ex_apply, den_apply, dprob_apply, ofBits_zero, ofBits_one]
  rw [Fin.sum_univ_one]
  rfl
theorem dq_apply (r : Fin 8192) (h : Fin 4) (d : Fin 128) (hs : Fin' (score (Q x0 h) (K x1 h) r)) :
    val_main_v67 (F := Ideal) x0 x1 x2 (ix2 r ⟨128 * h.val + d.val, by omega⟩) = dQ (Q x0 h) (K x1 h) (V x1 h) (D x2 h) r d := by
  unfold val_main_v67 val_main_v66 val_main_v63 val_main_v62
  pointwise [k_apply]
  simp only [ds_apply x0 x1 x2 h r _ hs]
  rfl
theorem dk_apply (k : Fin 256) (h : Fin 4) (d : Fin 128) (hs : ∀ r, Fin' (score (Q x0 h) (K x1 h) r)) :
    val_main_v68 (F := Ideal) x0 x1 x2 (ix2 k ⟨128 * h.val + d.val, by omega⟩) = dK (Q x0 h) (K x1 h) (V x1 h) (D x2 h) k d := by
  unfold val_main_v68 val_main_v65 val_main_v61 val_main_v60
  pointwise [q_apply]
  rw [dif_pos (by omega)]
  simp only [ds_apply x0 x1 x2 h _ _ (hs _)]
  rfl
theorem dv_apply (k : Fin 256) (h : Fin 4) (d : Fin 128) :
    val_main_v68 (F := Ideal) x0 x1 x2 (ix2 k ⟨512 + 128 * h.val + d.val, by omega⟩) = dV (Q x0 h) (K x1 h) (D x2 h) k d := by
  unfold val_main_v68 val_main_v64 val_main_v45 val_main_v44
  pointwise [d_apply, prob_apply]
  rw [dif_neg (by omega)]
  have eh : (512 + 128 * h.val + d.val - 512) / 128 = h.val := by omega
  have ed : (512 + 128 * h.val + d.val - 512) % 128 = d.val := by omega
  simp only [eh, ed]
  exact Finset.sum_congr rfl fun r _ => mul_comm _ _

/-- The reference's two results, where every score is a real number. -/
theorem gradQ_eq (hs : ∀ h r, Fin' (score (Q x0 h) (K x1 h) r)) : val_main_v67 (F := Ideal) x0 x1 x2 = MemSpec.gradQ x0 x1 x2 :=
  eq_joinHeads (R := 8192) _ _ fun r h d => dq_apply x0 x1 x2 r h d (hs h r)
theorem gradKV_eq (hs : ∀ h r, Fin' (score (Q x0 h) (K x1 h) r)) : val_main_v68 (F := Ideal) x0 x1 x2 = MemSpec.gradKV x0 x1 x2 :=
  eq_joinKV (R := 256) _ _ _ (fun k h d => dk_apply x0 x1 x2 k h d (hs h)) (dv_apply x0 x1 x2)

/-- The scores are real numbers where queries and keys are. -/
theorem score_fin (hq : ∀ r (j : Fin 512), ∃ x : ℝ, x0 (ix2 r ⟨3072 + j.val, by omega⟩) = x)
    (hk : ∀ k (j : Fin 512), ∃ x : ℝ, x1 (ix2 k ⟨j.val, by omega⟩) = x) (h : Fin 4) (r : Fin 8192) :
    Fin' (score (Q x0 h) (K x1 h) r) := by
  refine fun k => real_mul (Fin'.sum fun d => real_mul ?_ ?_) scl_real
  · obtain ⟨x, hx⟩ := hq r ⟨128 * h.val + d.val, by omega⟩
    exact ⟨x, (congrArg x0 (congrArg (ix2 _) (Fin.ext (by show 3072 + 128 * h.val + d.val = 3072 + (128 * h.val + d.val); omega)))).trans hx⟩
  · exact hk k ⟨128 * h.val + d.val, by omega⟩

end Cert.MemRef

end
-- ==== Proof.Mem.Pre.lean ====
/- The precondition of the memory attention's value claim, read: where the predicate is all ones, every query and every key is
   a real number. -/
module

public import proofs.«01_k».proof.Pre_mem_finite
public import proofs.«01_k».proof.Proof.Gen.Pre_mem_finite
public import Idealize.ShloMosaic.Lib.ReduceAll
public import Idealize.ShloMosaic.Lib.Pointwise

@[expose] public section

noncomputable section

namespace Cert.MemPre

open Idealize.ShloMosaic Cert.Pre_mem_finite Cert.Pre_mem_finite.Facts

/-- The word the predicate compares with denotes `⊤`. -/
theorem ofBits_inf : Ideal.ofBits .f32 0x7F800000#32 = (⊤ : EReal) := by
  simp [Ideal.ofBits, Ideal.ieee]

/-- An extended real whose absolute value compares less than `⊤` is a real number. -/
theorem real_of_abs (x : EReal) (h : Ideal.cmp .olt (max x (-x)) ⊤ = 1#1) : ∃ y : ℝ, x = y := by
  induction x using EReal.rec with
  | bot => exact absurd h (by simp [Ideal.cmp])
  | top => exact absurd h (by simp [Ideal.cmp])
  | coe y => exact ⟨y, rfl⟩

variable (a0 : S8192x3584.Idx → EReal) (a1 : S256x1024.Idx → EReal) (a2 : S8192x2048.Idx → EReal)

theorem split (h : fn (F := Ideal) a0 a1 a2 = fun _ => 1#1) :
    (∀ r (j : Fin 512), ∃ x : ℝ, a0 (ix2 r ⟨3072 + j.val, by omega⟩) = x)
      ∧ ∀ k (j : Fin 512), ∃ x : ℝ, a1 (ix2 k ⟨j.val, by omega⟩) = x := by
  have e := congrFun h (fun a => a.elim0)
  unfold fn at e
  dsimp only at e
  obtain ⟨e0, e1⟩ := IntOp.andi_eq_one.1 e
  refine ⟨fun r j => real_of_abs _ ?_, fun k j => real_of_abs _ ?_⟩
  · have := Host.reduce_andi_all _ _ _ _ _ e0 (ix2 r j)
    rw [← ofBits_inf]
    revert this
    pointwise
    exact id
  · have := Host.reduce_andi_all _ _ _ _ _ e1 (ix2 k j)
    rw [← ofBits_inf]
    revert this
    pointwise
    exact id

end Cert.MemPre

end
-- ==== Proof.Mem.Claim.lean ====
/- The memory attention's gradient: the kernel's two results are the reference's, at finite queries and keys. -/
module

public import proofs.«01_k».proof.Defs
public import proofs.«01_k».proof.Proof.Mem.Array
public import proofs.«01_k».proof.Proof.Mem.Ref
public import proofs.«01_k».proof.Proof.Mem.Pre
public import proofs.«01_k».proof.Proof.Gen.MemReferenceIdeal.Run

@[expose] public section

noncomputable section

namespace Cert.MemClaim

open Idealize.ShloMosaic Idealize.SL.Sem Idealize.ShloMosaic.TcCoe Cert.MemArray

theorem algebraic : Cert.algebraic_MemKernelIdeal_MemReferenceIdeal_pre_mem_finite := by
  intro m ρ m' ρ' hpre hag
  refine ⟨fun c => MemSpec.gradQ (A0 m c) (A1 m c) (A2 m c), fun c => MemSpec.gradKV (A0 m c) (A1 m c) (A2 m c),
    (θ_run _ _ _).mono (fun _ h c => ?_) (Cert.MemKernelIdeal.Value.run_blocks m ρ),
    (θ_run _ _ _).mono (fun _ h c => ?_) (Cert.MemReferenceIdeal.Value.run m' ρ')⟩
  · obtain ⟨h0, h1, h2⟩ := h c
    exact ⟨h0.trans (final_q m c), h1.trans (final_kv m c), h2⟩
  · obtain ⟨h0, h1, h2⟩ := h c
    obtain ⟨e0, e1, e2⟩ := hag c
    obtain ⟨hq, hk⟩ := MemPre.split _ _ _ (hpre c)
    have hs := MemRef.score_fin _ _ hq hk
    refine ⟨h0.trans ?_, h1.trans ?_, h2⟩
    · rw [Cert.MemReferenceIdeal.Read.val_main_v67_eq, e0, e1, e2]
      exact MemRef.gradQ_eq _ _ _ hs
    · rw [Cert.MemReferenceIdeal.Read.val_main_v68_eq, e0, e1, e2]
      exact MemRef.gradKV_eq _ _ _ hs

end Cert.MemClaim

end
-- ==== Proof.Math.Gate.lean ====
/- The FFN's gate: the logistic function as the kernel computes it, from a hyperbolic tangent, is the logistic function as
   the reference computes it, from an exponential; and the two forms of the gate's gradient agree at real numbers. -/
module

public import Idealize.ShloMosaic.Lib.Pointwise

@[expose] public section

noncomputable section

namespace Cert.Attn

open Idealize.ShloMosaic

/-- One half and one, as the kernel's literals spell them. -/
def half : EReal := Ideal.ofBits FTy.f32 1056964608#32
def unit : EReal := Ideal.ofBits FTy.f32 1065353216#32

theorem half_eq : half = ((1 / 2 : ℝ) : EReal) := by
  unfold half; simp [Ideal.ofBits, Ideal.ieee]
  rw [← EReal.coe_mul]; congr 1; norm_num
theorem unit_eq : unit = ((1 : ℝ) : EReal) := by
  unfold unit; simp [Ideal.ofBits, Ideal.ieee]
  rw [← EReal.coe_mul, ← EReal.coe_one]; congr 1; norm_num

/-- The logistic function, from a hyperbolic tangent. -/
def sig (z : EReal) : EReal := half * Ideal.tanh (half * z) + half
/-- The gate, its gradient, and the gate times the other branch. -/
def silu (z : EReal) : EReal := z * sig z
def gateSlope (z u : EReal) : EReal := u * sig z * (unit + z * (unit - sig z))
def gated (z u : EReal) : EReal := silu z * u

/-- The logistic function of a real number. -/
theorem sig_coe (x : ℝ) : sig x = ((1 / (1 + Real.exp (-x)) : ℝ) : EReal) := by
  unfold sig
  rw [half_eq, ← EReal.coe_mul, Ideal.tanh_coe, ← EReal.coe_mul, ← EReal.coe_add]
  congr 1
  have ha : 0 < Real.exp (1 / 2 * x) := Real.exp_pos _
  have e : Real.exp (-x) = (Real.exp (1 / 2 * x))⁻¹ * (Real.exp (1 / 2 * x))⁻¹ := by
    rw [← Real.exp_neg, ← Real.exp_add]; congr 1; ring
  rw [Real.tanh_eq_sinh_div_cosh, Real.sinh_eq, Real.cosh_eq, e, Real.exp_neg]
  generalize Real.exp (1 / 2 * x) = a at ha
  have : a ^ 2 + 1 ≠ 0 := by positivity
  field_simp
  ring

/-- The reference's logistic function of a real number. -/
theorem logistic_coe (x : ℝ) : Ideal.div unit (unit + Ideal.exp (-(x : EReal))) = sig x := by
  have h : (1 : ℝ) + Real.exp (-x) ≠ 0 := by have := Real.exp_pos (-x); positivity
  rw [sig_coe, unit_eq, ← EReal.coe_neg, Ideal.exp_coe, ← EReal.coe_add, Ideal.div_coe h, ← EReal.coe_mul, one_mul]

/-- The gate's gradient, as the reference computes it. -/
theorem gateSlope_eq (z u d : EReal) (hz : ∃ x : ℝ, z = x) (hu : ∃ x : ℝ, u = x) (hd : ∃ x : ℝ, d = x) :
    d * u * sig z + z * (d * u) * (sig z * (unit - sig z)) = d * gateSlope z u := by
  obtain ⟨x, rfl⟩ := hz
  obtain ⟨y, rfl⟩ := hu
  obtain ⟨w, rfl⟩ := hd
  unfold gateSlope
  rw [sig_coe, unit_eq]
  generalize 1 / (1 + Real.exp (-x)) = s
  simp only [← EReal.coe_mul, ← EReal.coe_add, ← EReal.coe_sub]
  congr 1
  ring

end Cert.Attn

end
-- ==== Proof.Math.Side.lean ====
/- Two matrices side by side, and the zero offsets of whole blocks. -/
module

public import Idealize.ShloMosaic.Lib.Pointwise

@[expose] public section

noncomputable section

namespace Cert.Attn

open Idealize.ShloMosaic

/-- The offsets of a whole block are zero. -/
theorem hz : (![0, 0] : Fin 2 → Nat) = fun _ => 0 := funext fun a => by fin_cases a <;> rfl
theorem hz3 : (![0, 0, 0] : Fin 3 → Nat) = fun _ => 0 := funext fun a => by fin_cases a <;> rfl

/-- Two matrices of 5632 columns side by side. -/
def side (g u : (⟨2, ![8192, 5632]⟩ : Shape).Idx → EReal) (r : Fin 8192) (j : Fin 11264) : EReal :=
  if h : j.val < 5632 then g (ix2 r ⟨j.val, h⟩) else u (ix2 r ⟨j.val - 5632, by omega⟩)

/-- The host's concatenation puts them side by side. -/
theorem concatenate_side (g u : (⟨2, ![8192, 5632]⟩ : Shape).Idx → EReal)
    (h : Shape.Concatenates [⟨2, ![8192, 5632]⟩, ⟨2, ![8192, 5632]⟩] ⟨2, ![8192, 11264]⟩ 1) (r : Fin 8192) (j : Fin 11264) :
    concatenate ⟨2, ![8192, 11264]⟩ 1 [⟨⟨2, ![8192, 5632]⟩, g⟩, ⟨⟨2, ![8192, 5632]⟩, u⟩] h (ix2 r j) = side g u r j := by
  unfold side
  pointwise

end Cert.Attn

end
-- ==== Proof.Ffn.Act.lean ====
/- The FFN's input product and gate, block by block: each point multiplies a block of 512 rows by a block of 1408 columns of
   the gates' matrix and of the other branch's, in three blocks of columns, and writes out the gate times the other branch
   and the factors its gradient will need. -/
module

public import proofs.«01_k».proof.Proof.Math.Gate
public import proofs.«01_k».proof.Proof.Math.Side
public import proofs.«01_k».proof.Proof.Gen.FfnActIdeal.Frame
public import Idealize.ShloMosaic.Lib.Pipeline.ValueKit

@[expose] public section

noncomputable section

namespace Cert.FfnActArray

open Idealize.ShloMosaic Idealize.ShloMosaic.TcCoe Idealize.ShloMosaic.Tactic Idealize.SL.Sem
open Cert.FfnActIdeal Cert.FfnActIdeal.Gen Cert.Attn

/-! ## The payloads at an index -/

theorem pay7_apply (a : S512x2048.Idx → EReal) (b : S1x2048x512.Idx → EReal) (p q : Fin 512) :
    (k0_pay7 (F := Ideal) a b (ix2 p q) : EReal) = ∑ k : Fin 2048, a (ix2 p k) * b (ix3 0 k q) := by
  unfold k0_pay7 k0_pay6
  pointwise
theorem pay8_apply (a : S512x2048.Idx → EReal) (b : S1x2048x512.Idx → EReal) (p q : Fin 512) :
    (k0_pay8 (F := Ideal) a b (ix2 p q) : EReal) = ∑ k : Fin 2048, a (ix2 p k) * b (ix3 0 k q) := pay7_apply a b p q
theorem pay9_apply (a : S512x2048.Idx → EReal) (b : S1x2048x512.Idx → EReal) (p q : Fin 512) :
    (k0_pay9 (F := Ideal) a b (ix2 p q) : EReal) = ∑ k : Fin 2048, a (ix2 p k) * b (ix3 0 k q) := pay7_apply a b p q
theorem pay10_apply (a : S512x2048.Idx → EReal) (b : S1x2048x512.Idx → EReal) (p q : Fin 512) :
    (k0_pay10 (F := Ideal) a b (ix2 p q) : EReal) = ∑ k : Fin 2048, a (ix2 p k) * b (ix3 0 k q) := pay7_apply a b p q
theorem pay16_apply (a : S512x2048.Idx → EReal) (b : S1x2048x384.Idx → EReal) (p : Fin 512) (q : Fin 384) :
    (k0_pay16 (F := Ideal) (k0_pay6 (F := Ideal) a) b (ix2 p q) : EReal) = ∑ k : Fin 2048, a (ix2 p k) * b (ix3 0 k q) := by
  unfold k0_pay16 k0_pay6
  pointwise
theorem pay17_apply (a : S512x2048.Idx → EReal) (b : S1x2048x384.Idx → EReal) (p : Fin 512) (q : Fin 384) :
    (k0_pay17 (F := Ideal) (k0_pay6 (F := Ideal) a) b (ix2 p q) : EReal) = ∑ k : Fin 2048, a (ix2 p k) * b (ix3 0 k q) := pay16_apply a b p q

theorem pay20_apply (g u : S512x512.Idx → EReal) (p q : Fin 512) : (k0_pay20 (F := Ideal) g u (ix2 p q) : EReal) = gateSlope (g (ix2 p q)) (u (ix2 p q)) := by
  unfold k0_pay20 k0_pay18
  rfl
theorem pay21_apply (g : S512x512.Idx → EReal) (p q : Fin 512) : (k0_pay21 (F := Ideal) g (ix2 p q) : EReal) = silu (g (ix2 p q)) := rfl
theorem pay22_apply (g u : S512x512.Idx → EReal) (p q : Fin 512) : (k0_pay22 (F := Ideal) g u (ix2 p q) : EReal) = gated (g (ix2 p q)) (u (ix2 p q)) := rfl
theorem pay3_apply (g u : S512x384.Idx → EReal) (p : Fin 512) (q : Fin 384) : (k0_pay3 (F := Ideal) g u (ix2 p q) : EReal) = gateSlope (g (ix2 p q)) (u (ix2 p q)) := rfl
theorem pay4_apply (g : S512x384.Idx → EReal) (p : Fin 512) (q : Fin 384) : (k0_pay4 (F := Ideal) g (ix2 p q) : EReal) = silu (g (ix2 p q)) := rfl
theorem pay5_apply (g u : S512x384.Idx → EReal) (p : Fin 512) (q : Fin 384) : (k0_pay5 (F := Ideal) g u (ix2 p q) : EReal) = gated (g (ix2 p q)) (u (ix2 p q)) := rfl

theorem pay13_eq (a : S512x2048.Idx → EReal) (b d : S1x2048x512.Idx → EReal) :
    k0_pay13 (F := Ideal) a b d = k0_pay20 (F := Ideal) (k0_pay9 a b) (k0_pay10 a d) := rfl
theorem pay14_eq (a : S512x2048.Idx → EReal) (b : S1x2048x512.Idx → EReal) :
    k0_pay14 (F := Ideal) a b = k0_pay21 (F := Ideal) (k0_pay9 a b) := rfl
theorem pay15_eq (a : S512x2048.Idx → EReal) (b d : S1x2048x512.Idx → EReal) :
    k0_pay15 (F := Ideal) (k0_pay8 a d) (k0_pay12 a b) = k0_pay22 (F := Ideal) (k0_pay9 a b) (k0_pay10 a d) := rfl

variable (V : (c : Dev nD) → (b : Ref Cert.FfnActIdeal.sig .tc) → Buf (Elt Ideal) ((c : Thread nD τ).loc b)) (c : Dev nD)

abbrev X0 (t : Fin cfg0.N) : S512x2048.Idx → EReal := iblk0 V c 0 t
abbrev X1 (t : Fin cfg0.N) : S1x2048x1408.Idx → EReal := iblk0 V c 1 t
abbrev X2 (t : Fin cfg0.N) : S1x2048x1408.Idx → EReal := iblk0 V c 2 t
/-- A point's two products. -/
def blkG (t : Fin cfg0.N) (p : Fin 512) (q : Fin 1408) : EReal := ∑ k : Fin 2048, X0 V c t (ix2 p k) * X1 V c t (ix3 0 k q)
def blkU (t : Fin cfg0.N) (p : Fin 512) (q : Fin 1408) : EReal := ∑ k : Fin 2048, X0 V c t (ix2 p k) * X2 V c t (ix3 0 k q)

theorem idx_eq {n : Nat} (x : (⟨2, ![512, n]⟩ : Shape).Idx) (p : Fin 512) (h : p.val = (x 0).val) : x = ix2 p (x 1) := funext fun a => by
  match a with
  | ⟨0, _⟩ => exact Fin.ext h.symm
  | ⟨1, _⟩ => rfl

theorem prod512 (A : S512x2048.Idx → EReal) (B : S1x2048x1408.Idx → EReal) (off : Nat) (h) (h')
    (p j : Fin 512) (q : Fin 1408) (hq : q.val = off + j.val) :
    (k0_pay9 (F := Ideal) (View.ld A (Rect.unit (s := S512x2048) ![0, 0] ![512, 2048] h)) (View.ld B (Rect.unit (s := S1x2048x1408) ![0, 0, off] ![1, 2048, 512] h')) (ix2 p j) : EReal)
      = ∑ k : Fin 2048, A (ix2 p k) * B (ix3 0 k q) := by
  refine (pay9_apply _ _ p j).trans (Finset.sum_congr rfl fun k _ => congrArg₂ (· * ·) ?_ ?_)
  · exact View.ld_unit_apply_of _ _ _ _ _ (ix2 p k) (Fin.forall_fin_two.2 ⟨(Nat.zero_add _).symm, (Nat.zero_add _).symm⟩)
  · exact View.ld_unit_apply_of _ _ _ _ _ (ix3 0 k q) (fun a => by
      match a with
      | ⟨0, _⟩ => rfl
      | ⟨1, _⟩ => exact (Nat.zero_add _).symm
      | ⟨2, _⟩ => exact hq)
theorem prod384 (A : S512x2048.Idx → EReal) (B : S1x2048x1408.Idx → EReal) (off : Nat) (h) (h')
    (p : Fin 512) (j : Fin 384) (q : Fin 1408) (hq : q.val = off + j.val) :
    (k0_pay16 (F := Ideal) (k0_pay6 (F := Ideal) (View.ld A (Rect.unit (s := S512x2048) ![0, 0] ![512, 2048] h))) (View.ld B (Rect.unit (s := S1x2048x1408) ![0, 0, off] ![1, 2048, 384] h')) (ix2 p j) : EReal)
      = ∑ k : Fin 2048, A (ix2 p k) * B (ix3 0 k q) := by
  refine (pay16_apply _ _ p j).trans (Finset.sum_congr rfl fun k _ => congrArg₂ (· * ·) ?_ ?_)
  · exact View.ld_unit_apply_of _ _ _ _ _ (ix2 p k) (Fin.forall_fin_two.2 ⟨(Nat.zero_add _).symm, (Nat.zero_add _).symm⟩)
  · exact View.ld_unit_apply_of _ _ _ _ _ (ix3 0 k q) (fun a => by
      match a with
      | ⟨0, _⟩ => rfl
      | ⟨1, _⟩ => exact (Nat.zero_add _).symm
      | ⟨2, _⟩ => exact hq)

/-- What a point writes out. -/
theorem dag_block (t : Fin cfg0.N) (p : Fin 512) (q : Fin 1408) : ((outsAt0 V c t).1 (ix2 p q) : EReal) = gateSlope (blkG V c t p q) (blkU V c t p q) := by
  unfold outsAt0; dsimp only
  have hc := cover0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (iblk0 V c 0 t) (iblk0 V c 1 t) (iblk0 V c 2 t)
  unfold out0_A_3; rw [View.read_writes_eq_canon _ _ _ hc]
  replace hc := hc (ix2 p q)
  revert hc
  unfold kernelRun0_A; dsimp only; sl_unfold_words
  simp only [View.readAt_eq_ld, (hs0_0 t).read_unread, (hs0_1 t).read_unread, (hs0_2 t).read_unread]
  intro hc
  canon_tiles x hx using hc
  all_goals rw [idx_eq x p hx0]
  · exact (pay3_apply _ _ p (x 1)).trans (congrArg₂ gateSlope (prod384 _ _ 1024 _ _ p (x 1) q hx1) (prod384 _ _ 1024 _ _ p (x 1) q hx1))
  · exact (pay20_apply _ _ p (x 1)).trans (congrArg₂ gateSlope (prod512 _ _ 512 _ _ p (x 1) q hx1) (prod512 _ _ 512 _ _ p (x 1) q hx1))
  · exact (pay20_apply _ _ p (x 1)).trans (congrArg₂ gateSlope (prod512 _ _ 0 _ _ p (x 1) q (hx1.trans (Nat.zero_add _).symm)) (prod512 _ _ 0 _ _ p (x 1) q (hx1.trans (Nat.zero_add _).symm)))
theorem dau_block (t : Fin cfg0.N) (p : Fin 512) (q : Fin 1408) : ((outsAt0 V c t).2.1 (ix2 p q) : EReal) = silu (blkG V c t p q) := by
  unfold outsAt0; dsimp only
  have hc := cover0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (iblk0 V c 0 t) (iblk0 V c 1 t) (iblk0 V c 2 t)
  unfold out0_A_4; rw [View.read_writes_eq_canon _ _ _ hc]
  replace hc := hc (ix2 p q)
  revert hc
  unfold kernelRun0_A; dsimp only; sl_unfold_words
  simp only [View.readAt_eq_ld, (hs0_0 t).read_unread, (hs0_1 t).read_unread, (hs0_2 t).read_unread]
  intro hc
  canon_tiles x hx using hc
  all_goals rw [idx_eq x p hx0]
  · exact (pay4_apply _ p (x 1)).trans (congrArg silu (prod384 _ _ 1024 _ _ p (x 1) q hx1))
  · exact (pay21_apply _ p (x 1)).trans (congrArg silu (prod512 _ _ 512 _ _ p (x 1) q hx1))
  · exact (pay21_apply _ p (x 1)).trans (congrArg silu (prod512 _ _ 0 _ _ p (x 1) q (hx1.trans (Nat.zero_add _).symm)))
theorem act_block (t : Fin cfg0.N) (p : Fin 512) (q : Fin 1408) : ((outsAt0 V c t).2.2 (ix2 p q) : EReal) = gated (blkG V c t p q) (blkU V c t p q) := by
  unfold outsAt0; dsimp only
  have hc := cover0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (iblk0 V c 0 t) (iblk0 V c 1 t) (iblk0 V c 2 t)
  unfold out0_A_5; rw [View.read_writes_eq_canon _ _ _ hc]
  replace hc := hc (ix2 p q)
  revert hc
  unfold kernelRun0_A; dsimp only; sl_unfold_words
  simp only [View.readAt_eq_ld, (hs0_0 t).read_unread, (hs0_1 t).read_unread, (hs0_2 t).read_unread]
  intro hc
  canon_tiles x hx using hc
  all_goals rw [idx_eq x p hx0]
  · exact (pay5_apply _ _ p (x 1)).trans (congrArg₂ gated (prod384 _ _ 1024 _ _ p (x 1) q hx1) (prod384 _ _ 1024 _ _ p (x 1) q hx1))
  · exact (pay22_apply _ _ p (x 1)).trans (congrArg₂ gated (prod512 _ _ 512 _ _ p (x 1) q hx1) (prod512 _ _ 512 _ _ p (x 1) q hx1))
  · exact (pay22_apply _ _ p (x 1)).trans (congrArg₂ gated (prod512 _ _ 0 _ _ p (x 1) q (hx1.trans (Nat.zero_add _).symm)) (prod512 _ _ 0 _ _ p (x 1) q (hx1.trans (Nat.zero_add _).symm)))

end Cert.FfnActArray

end
-- ==== Proof.Ffn.ActArray.lean ====
/- The FFN's input product and gate as arrays: after the first call the three arrays hold the gate times the other branch and the
   factors of its gradient, at every row and column. -/
module

public import proofs.«01_k».proof.Proof.Ffn.Act

@[expose] public section

noncomputable section

namespace Cert.FfnActArray

open Idealize.ShloMosaic Idealize.ShloMosaic.TcCoe Idealize.ShloMosaic.Tactic Idealize.SL.Sem
open Cert.FfnActIdeal Cert.FfnActIdeal.Gen Cert.Attn

variable (m : (ℓ : Loc nD τ Cert.FfnActIdeal.sig) → Buf (Elt Ideal) ℓ) (ρ : Dev nD → PrngReg) (c : Dev nD)

/-- The arguments: the normalised input, the input matrix, the output matrix, the output's gradient. -/
abbrev A0 : S8192x2048.Idx → EReal := m ((c : Thread nD τ).loc main_arg0)
abbrev A1 : S2048x11264.Idx → EReal := m ((c : Thread nD τ).loc main_arg1)
abbrev A2 : S5632x2048.Idx → EReal := m ((c : Thread nD τ).loc main_arg2)
abbrev A3 : S8192x2048.Idx → EReal := m ((c : Thread nD τ).loc main_arg3)

/-- The gates before the logistic function, and the other branch. -/
def gates (a : S8192x2048.Idx → EReal) (w : S2048x11264.Idx → EReal) (r : Fin 8192) (j : Fin 5632) : EReal :=
  ∑ k : Fin 2048, a (ix2 r k) * w (ix2 k ⟨j.val, by omega⟩)
def other (a : S8192x2048.Idx → EReal) (w : S2048x11264.Idx → EReal) (r : Fin 8192) (j : Fin 5632) : EReal :=
  ∑ k : Fin 2048, a (ix2 r k) * w (ix2 k ⟨5632 + j.val, by omega⟩)

/-- The three arrays. -/
def dag (a : S8192x2048.Idx → EReal) (w : S2048x11264.Idx → EReal) : S8192x5632.Idx → EReal := fun i => gateSlope (gates a w (i 0) (i 1)) (other a w (i 0) (i 1))
def dau (a : S8192x2048.Idx → EReal) (w : S2048x11264.Idx → EReal) : S8192x5632.Idx → EReal := fun i => silu (gates a w (i 0) (i 1))
def act (a : S8192x2048.Idx → EReal) (w : S2048x11264.Idx → EReal) : S8192x5632.Idx → EReal := fun i => gated (gates a w (i 0) (i 1)) (other a w (i 0) (i 1))

theorem index0 : ∀ t : Fin cfg0.N, win0_0.index t 0 = t.val % 16 ∧ win0_0.index t 1 = 0 := by decide +kernel
theorem index1 : ∀ t : Fin cfg0.N, win0_1.index t 0 = t.val / 32 ∧ win0_1.index t 1 = 0 ∧ win0_1.index t 2 = t.val / 16 % 2 := by decide +kernel
theorem index2 : ∀ t : Fin cfg0.N, win0_2.index t 0 = 2 + t.val / 32 ∧ win0_2.index t 1 = 0 ∧ win0_2.index t 2 = t.val / 16 % 2 := by decide +kernel
theorem index3 : ∀ t : Fin cfg0.N, win0_3.index t 0 = t.val % 16 ∧ win0_3.index t 1 = t.val / 16 := by decide +kernel
theorem index4 : ∀ t : Fin cfg0.N, win0_4.index t 0 = t.val % 16 ∧ win0_4.index t 1 = t.val / 16 := by decide +kernel
theorem index5 : ∀ t : Fin cfg0.N, win0_5.index t 0 = t.val % 16 ∧ win0_5.index t 1 = t.val / 16 := by decide +kernel

/-- The host's roundings are the identity at the extended reals. -/
theorem V1_0 : V1 m ρ c main_v0 = A0 m c := by
  rfl
/-- The input matrix, its columns in four blocks. -/
theorem V1_3 (b : Fin 4) (q : Fin 2048) (r : Fin 2816) : (V1 m ρ c main_v3 : S4x2048x2816.Idx → EReal) (ix3 b q r)
    = A1 m c (ix2 q ⟨2816 * b.val + r.val, by omega⟩) := by
  show transpose S4x2048x2816 [1, 0, 2] (shapeCast S2048x4x2816 (A1 m c) shapeCasts_S2048x11264_S2048x4x2816) transposes_S2048x4x2816_S4x2048x2816_1_0_2 (ix3 b q r) = _
  refine (transpose_apply (t := S4x2048x2816) [1, 0, 2] _ _ _ (ix3 q b r) (fun a => match a with | ⟨0, _⟩ => rfl | ⟨1, _⟩ => rfl | ⟨2, _⟩ => rfl)).trans ?_
  refine shapeCast_apply _ _ _ _ ?_
  rw [Shape.rowMajor_val_two, Shape.rowMajor_val_three]
  show q.val * 11264 + (2816 * b.val + r.val) = (q.val * 4 + b.val) * 2816 + r.val
  omega

theorem blk0 (t : Fin cfg0.N) (p : Fin 512) (k : Fin 2048) : X0 (V1 m ρ) c t (ix2 p k)
    = A0 m c (ix2 ⟨512 * (t.val % 16) + p.val, by omega⟩ k) := by
  show (V1 m ρ c main_v0 : S8192x2048.Idx → EReal) _ = _
  rw [V1_0]
  congr 1
  funext a
  apply Fin.ext
  match a with
  | ⟨0, _⟩ => show win0_0.index t 0 * 512 + 1 * p.val = 512 * (t.val % 16) + p.val; rw [(index0 t).1]; omega
  | ⟨1, _⟩ => show win0_0.index t 1 * 2048 + 1 * k.val = k.val; rw [(index0 t).2]; omega
theorem blk1 (t : Fin cfg0.N) (k : Fin 2048) (q : Fin 1408) : X1 (V1 m ρ) c t (ix3 0 k q)
    = A1 m c (ix2 k ⟨1408 * (t.val / 16) + q.val, by have : t.val < 64 := t.isLt; omega⟩) := by
  have ht : t.val < 64 := t.isLt
  show (V1 m ρ c main_v3 : S4x2048x2816.Idx → EReal) _ = _
  refine Eq.trans (congrArg _ ?_) ((V1_3 m ρ c ⟨t.val / 32, by omega⟩ k ⟨1408 * (t.val / 16 % 2) + q.val, by omega⟩).trans ?_)
  · funext a
    apply Fin.ext
    match a with
    | ⟨0, _⟩ => show win0_1.index t 0 * 1 + 1 * 0 = t.val / 32; rw [(index1 t).1]; omega
    | ⟨1, _⟩ => show win0_1.index t 1 * 2048 + 1 * k.val = k.val; rw [(index1 t).2.1]; omega
    | ⟨2, _⟩ => show win0_1.index t 2 * 1408 + 1 * q.val = 1408 * (t.val / 16 % 2) + q.val; rw [(index1 t).2.2]; omega
  · refine congrArg _ (congrArg _ (Fin.ext ?_))
    show 2816 * (t.val / 32) + (1408 * (t.val / 16 % 2) + q.val) = 1408 * (t.val / 16) + q.val; omega
theorem blk2 (t : Fin cfg0.N) (k : Fin 2048) (q : Fin 1408) : X2 (V1 m ρ) c t (ix3 0 k q)
    = A1 m c (ix2 k ⟨5632 + (1408 * (t.val / 16) + q.val), by have : t.val < 64 := t.isLt; omega⟩) := by
  have ht : t.val < 64 := t.isLt
  show (V1 m ρ c main_v3 : S4x2048x2816.Idx → EReal) _ = _
  refine Eq.trans (congrArg _ ?_) ((V1_3 m ρ c ⟨2 + t.val / 32, by omega⟩ k ⟨1408 * (t.val / 16 % 2) + q.val, by omega⟩).trans ?_)
  · funext a
    apply Fin.ext
    match a with
    | ⟨0, _⟩ => show win0_2.index t 0 * 1 + 1 * 0 = 2 + t.val / 32; rw [(index2 t).1]; omega
    | ⟨1, _⟩ => show win0_2.index t 1 * 2048 + 1 * k.val = k.val; rw [(index2 t).2.1]; omega
    | ⟨2, _⟩ => show win0_2.index t 2 * 1408 + 1 * q.val = 1408 * (t.val / 16 % 2) + q.val; rw [(index2 t).2.2]; omega
  · refine congrArg _ (congrArg _ (Fin.ext ?_))
    show 2816 * (2 + t.val / 32) + (1408 * (t.val / 16 % 2) + q.val) = 5632 + (1408 * (t.val / 16) + q.val); omega

/-- A point's products are blocks of the gates and of the other branch. -/
theorem blkG_eq (t : Fin cfg0.N) (p : Fin 512) (q : Fin 1408) : blkG (V1 m ρ) c t p q = gates (A0 m c) (A1 m c)
    ⟨512 * (t.val % 16) + p.val, by omega⟩ ⟨1408 * (t.val / 16) + q.val, by have : t.val < 64 := t.isLt; omega⟩ :=
  Finset.sum_congr rfl fun k _ => congrArg₂ (· * ·) (blk0 m ρ c t p k) (blk1 m ρ c t k q)
theorem blkU_eq (t : Fin cfg0.N) (p : Fin 512) (q : Fin 1408) : blkU (V1 m ρ) c t p q = other (A0 m c) (A1 m c)
    ⟨512 * (t.val % 16) + p.val, by omega⟩ ⟨1408 * (t.val / 16) + q.val, by have : t.val < 64 := t.isLt; omega⟩ :=
  Finset.sum_congr rfl fun k _ => congrArg₂ (· * ·) (blk0 m ρ c t p k) (blk2 m ρ c t k q)

/-- The array `dag` after the first call. -/
theorem flushed_dag (t : Fin cfg0.N) (hf : (cfg0.win 3).flush t = true) :
    (dat0 (V1 m ρ) c).flushed 3 t = ((cfg0.win 3).blk t).view.read (Elt Ideal) (dag (A0 m c) (A1 m c)) := by
  show (cfg0.win 3).cut (grid0.coords t) ((dat0 (V1 m ρ) c).after 3 t) = _
  rw [after0_3]
  funext i
  rw [View.read_apply]
  refine Eq.trans ?_ (cast_eq _ _).symm
  show (outsAt0 (V1 m ρ) c t).1 i = _
  obtain ⟨p, q, rfl⟩ : ∃ (p : Fin 512) (q : Fin 1408), i = ix2 p q :=
    ⟨i 0, i 1, funext fun a => by match a with | ⟨0, _⟩ => rfl | ⟨1, _⟩ => rfl⟩
  refine (dag_block (V1 m ρ) c t p q).trans ?_
  rw [blkG_eq, blkU_eq]
  have e0 : (⟨512 * (t.val % 16) + p.val, by omega⟩ : Fin 8192) = (((cfg0.win 3).blk t).view.emb (ix2 p q) 0 : Fin 8192) := by
    apply Fin.ext
    show 512 * (t.val % 16) + p.val = win0_3.index t 0 * 512 + 1 * p.val; rw [(index3 t).1]; omega
  have e1 : (⟨1408 * (t.val / 16) + q.val, by have : t.val < 64 := t.isLt; omega⟩ : Fin 5632) = (((cfg0.win 3).blk t).view.emb (ix2 p q) 1 : Fin 5632) := by
    apply Fin.ext
    show 1408 * (t.val / 16) + q.val = win0_3.index t 1 * 1408 + 1 * q.val; rw [(index3 t).2]; omega
  exact congrArg₂ gateSlope (congrArg₂ _ e0 e1) (congrArg₂ _ e0 e1)
theorem final_dag : (dat0 (V1 m ρ) c).arrAt 3 cfg0.N = dag (A0 m c) (A1 m c) :=
  (dat0 (V1 m ρ) c).arrAt_eq_of_cover 3 _ (flushed_dag m ρ c) fun i => by
    have h0 : (i 0).val < 8192 := (i 0).isLt
    have h1 : (i 1).val < 5632 := (i 1).isLt
    have ht : 16 * ((i 1).val / 1408) + (i 0).val / 512 < 64 := by omega
    refine ⟨⟨_, ht⟩, flush0_3 _, ?_⟩
    show i ∈ ((View.whole main_v4_0).slice (win0_3.rect ⟨_, ht⟩)).set
    rw [View.set_slice_whole, Rect.mem_set_unit]
    obtain ⟨e0, e1⟩ := index3 ⟨_, ht⟩
    intro a
    match a with
    | ⟨0, _⟩ => show win0_3.index _ 0 * 512 ≤ (i 0).val ∧ (i 0).val < win0_3.index _ 0 * 512 + 512; rw [e0]; dsimp only; omega
    | ⟨1, _⟩ => show win0_3.index _ 1 * 1408 ≤ (i 1).val ∧ (i 1).val < win0_3.index _ 1 * 1408 + 1408; rw [e1]; dsimp only; omega

/-- The array `dau` after the first call. -/
theorem flushed_dau (t : Fin cfg0.N) (hf : (cfg0.win 4).flush t = true) :
    (dat0 (V1 m ρ) c).flushed 4 t = ((cfg0.win 4).blk t).view.read (Elt Ideal) (dau (A0 m c) (A1 m c)) := by
  show (cfg0.win 4).cut (grid0.coords t) ((dat0 (V1 m ρ) c).after 4 t) = _
  rw [after0_4]
  funext i
  rw [View.read_apply]
  refine Eq.trans ?_ (cast_eq _ _).symm
  show (outsAt0 (V1 m ρ) c t).2.1 i = _
  obtain ⟨p, q, rfl⟩ : ∃ (p : Fin 512) (q : Fin 1408), i = ix2 p q :=
    ⟨i 0, i 1, funext fun a => by match a with | ⟨0, _⟩ => rfl | ⟨1, _⟩ => rfl⟩
  refine (dau_block (V1 m ρ) c t p q).trans ?_
  rw [blkG_eq]
  have e0 : (⟨512 * (t.val % 16) + p.val, by omega⟩ : Fin 8192) = (((cfg0.win 4).blk t).view.emb (ix2 p q) 0 : Fin 8192) := by
    apply Fin.ext
    show 512 * (t.val % 16) + p.val = win0_4.index t 0 * 512 + 1 * p.val; rw [(index4 t).1]; omega
  have e1 : (⟨1408 * (t.val / 16) + q.val, by have : t.val < 64 := t.isLt; omega⟩ : Fin 5632) = (((cfg0.win 4).blk t).view.emb (ix2 p q) 1 : Fin 5632) := by
    apply Fin.ext
    show 1408 * (t.val / 16) + q.val = win0_4.index t 1 * 1408 + 1 * q.val; rw [(index4 t).2]; omega
  exact congrArg silu (congrArg₂ _ e0 e1)
theorem final_dau : (dat0 (V1 m ρ) c).arrAt 4 cfg0.N = dau (A0 m c) (A1 m c) :=
  (dat0 (V1 m ρ) c).arrAt_eq_of_cover 4 _ (flushed_dau m ρ c) fun i => by
    have h0 : (i 0).val < 8192 := (i 0).isLt
    have h1 : (i 1).val < 5632 := (i 1).isLt
    have ht : 16 * ((i 1).val / 1408) + (i 0).val / 512 < 64 := by omega
    refine ⟨⟨_, ht⟩, flush0_4 _, ?_⟩
    show i ∈ ((View.whole main_v4_1).slice (win0_4.rect ⟨_, ht⟩)).set
    rw [View.set_slice_whole, Rect.mem_set_unit]
    obtain ⟨e0, e1⟩ := index4 ⟨_, ht⟩
    intro a
    match a with
    | ⟨0, _⟩ => show win0_4.index _ 0 * 512 ≤ (i 0).val ∧ (i 0).val < win0_4.index _ 0 * 512 + 512; rw [e0]; dsimp only; omega
    | ⟨1, _⟩ => show win0_4.index _ 1 * 1408 ≤ (i 1).val ∧ (i 1).val < win0_4.index _ 1 * 1408 + 1408; rw [e1]; dsimp only; omega

/-- The array `act` after the first call. -/
theorem flushed_act (t : Fin cfg0.N) (hf : (cfg0.win 5).flush t = true) :
    (dat0 (V1 m ρ) c).flushed 5 t = ((cfg0.win 5).blk t).view.read (Elt Ideal) (act (A0 m c) (A1 m c)) := by
  show (cfg0.win 5).cut (grid0.coords t) ((dat0 (V1 m ρ) c).after 5 t) = _
  rw [after0_5]
  funext i
  rw [View.read_apply]
  refine Eq.trans ?_ (cast_eq _ _).symm
  show (outsAt0 (V1 m ρ) c t).2.2 i = _
  obtain ⟨p, q, rfl⟩ : ∃ (p : Fin 512) (q : Fin 1408), i = ix2 p q :=
    ⟨i 0, i 1, funext fun a => by match a with | ⟨0, _⟩ => rfl | ⟨1, _⟩ => rfl⟩
  refine (act_block (V1 m ρ) c t p q).trans ?_
  rw [blkG_eq, blkU_eq]
  have e0 : (⟨512 * (t.val % 16) + p.val, by omega⟩ : Fin 8192) = (((cfg0.win 5).blk t).view.emb (ix2 p q) 0 : Fin 8192) := by
    apply Fin.ext
    show 512 * (t.val % 16) + p.val = win0_5.index t 0 * 512 + 1 * p.val; rw [(index5 t).1]; omega
  have e1 : (⟨1408 * (t.val / 16) + q.val, by have : t.val < 64 := t.isLt; omega⟩ : Fin 5632) = (((cfg0.win 5).blk t).view.emb (ix2 p q) 1 : Fin 5632) := by
    apply Fin.ext
    show 1408 * (t.val / 16) + q.val = win0_5.index t 1 * 1408 + 1 * q.val; rw [(index5 t).2]; omega
  exact congrArg₂ gated (congrArg₂ _ e0 e1) (congrArg₂ _ e0 e1)
theorem final_act : (dat0 (V1 m ρ) c).arrAt 5 cfg0.N = act (A0 m c) (A1 m c) :=
  (dat0 (V1 m ρ) c).arrAt_eq_of_cover 5 _ (flushed_act m ρ c) fun i => by
    have h0 : (i 0).val < 8192 := (i 0).isLt
    have h1 : (i 1).val < 5632 := (i 1).isLt
    have ht : 16 * ((i 1).val / 1408) + (i 0).val / 512 < 64 := by omega
    refine ⟨⟨_, ht⟩, flush0_5 _, ?_⟩
    show i ∈ ((View.whole main_v4_2).slice (win0_5.rect ⟨_, ht⟩)).set
    rw [View.set_slice_whole, Rect.mem_set_unit]
    obtain ⟨e0, e1⟩ := index5 ⟨_, ht⟩
    intro a
    match a with
    | ⟨0, _⟩ => show win0_5.index _ 0 * 512 ≤ (i 0).val ∧ (i 0).val < win0_5.index _ 0 * 512 + 512; rw [e0]; dsimp only; omega
    | ⟨1, _⟩ => show win0_5.index _ 1 * 1408 ≤ (i 1).val ∧ (i 1).val < win0_5.index _ 1 * 1408 + 1408; rw [e1]; dsimp only; omega

end Cert.FfnActArray

end
-- ==== Proof.Ffn.ActBwd.lean ====
/- The gradients of the FFN's gate, block by block and as arrays: each point multiplies a block of 1024 rows of the output's
   gradient by a block of 1408 rows of the output matrix, in three blocks, and writes out the product times each factor the
   first call left. -/
module

public import proofs.«01_k».proof.Proof.Ffn.ActArray

@[expose] public section

noncomputable section

namespace Cert.FfnActArray

open Idealize.ShloMosaic Idealize.ShloMosaic.TcCoe Idealize.ShloMosaic.Tactic Idealize.SL.Sem
open Cert.FfnActIdeal Cert.FfnActIdeal.Gen Cert.Attn

/-! ## The payloads at an index -/

theorem dact512_apply (a : S1024x2048.Idx → EReal) (b : S512x2048.Idx → EReal) (p : Fin 1024) (q : Fin 512) :
    (k1_pay6 (F := Ideal) a b (ix2 p q) : EReal) = ∑ k : Fin 2048, a (ix2 p k) * b (ix2 q k) := by
  unfold k1_pay6 k1_pay4
  pointwise
theorem dact384_apply (a : S1024x2048.Idx → EReal) (b : S384x2048.Idx → EReal) (p : Fin 1024) (q : Fin 384) :
    (k1_pay9 (F := Ideal) a b (ix2 p q) : EReal) = ∑ k : Fin 2048, a (ix2 p k) * b (ix2 q k) := by
  unfold k1_pay9 k1_pay4
  pointwise
theorem grad512_apply (a : S1024x2048.Idx → EReal) (b : S512x2048.Idx → EReal) (f : S1024x512.Idx → EReal) (p : Fin 1024) (q : Fin 512) :
    (k1_pay10 (F := Ideal) a b f (ix2 p q) : EReal) = (k1_pay6 (F := Ideal) a b (ix2 p q) : EReal) * f (ix2 p q) := by
  unfold k1_pay10
  pointwise
theorem grad384_apply (d f : S1024x384.Idx → EReal) (p : Fin 1024) (q : Fin 384) :
    (k1_pay2 (F := Ideal) d f (ix2 p q) : EReal) = d (ix2 p q) * f (ix2 p q) := by
  unfold k1_pay2
  pointwise

/-- The same, over blocks read at an offset. -/
theorem ld512 (A : S1024x2048.Idx → EReal) (B : S1408x2048.Idx → EReal) (G : S1024x1408.Idx → EReal) (off : Nat) (h) (h') (h'')
    (p : Fin 1024) (j : Fin 512) (q : Fin 1408) (hq : q.val = off + j.val) :
    (k1_pay10 (F := Ideal) (View.ld A (Rect.unit (s := S1024x2048) ![0, 0] ![1024, 2048] h)) (View.ld B (Rect.unit (s := S1408x2048) ![off, 0] ![512, 2048] h'))
      (View.ld G (Rect.unit (s := S1024x1408) ![0, off] ![1024, 512] h'')) (ix2 p j) : EReal)
      = (∑ k : Fin 2048, A (ix2 p k) * B (ix2 q k)) * G (ix2 p q) := by
  refine (grad512_apply _ _ _ p j).trans (congrArg₂ (· * ·) ((dact512_apply _ _ p j).trans (Finset.sum_congr rfl fun k _ => congrArg₂ (· * ·) ?_ ?_)) ?_)
  · exact View.ld_unit_apply_of _ _ _ _ _ (ix2 p k) (Fin.forall_fin_two.2 ⟨(Nat.zero_add _).symm, (Nat.zero_add _).symm⟩)
  · exact View.ld_unit_apply_of _ _ _ _ _ (ix2 q k) (Fin.forall_fin_two.2 ⟨hq, (Nat.zero_add _).symm⟩)
  · exact View.ld_unit_apply_of _ _ _ _ _ (ix2 p q) (Fin.forall_fin_two.2 ⟨(Nat.zero_add _).symm, hq⟩)
theorem ld384 (A : S1024x2048.Idx → EReal) (B : S1408x2048.Idx → EReal) (G : S1024x1408.Idx → EReal) (off : Nat) (h) (h') (h'')
    (p : Fin 1024) (j : Fin 384) (q : Fin 1408) (hq : q.val = off + j.val) :
    (k1_pay2 (F := Ideal) (k1_pay9 (F := Ideal) (View.ld A (Rect.unit (s := S1024x2048) ![0, 0] ![1024, 2048] h)) (View.ld B (Rect.unit (s := S1408x2048) ![off, 0] ![384, 2048] h')))
      (View.ld G (Rect.unit (s := S1024x1408) ![0, off] ![1024, 384] h'')) (ix2 p j) : EReal)
      = (∑ k : Fin 2048, A (ix2 p k) * B (ix2 q k)) * G (ix2 p q) := by
  refine (grad384_apply _ _ p j).trans (congrArg₂ (· * ·) ((dact384_apply _ _ p j).trans (Finset.sum_congr rfl fun k _ => congrArg₂ (· * ·) ?_ ?_)) ?_)
  · exact View.ld_unit_apply_of _ _ _ _ _ (ix2 p k) (Fin.forall_fin_two.2 ⟨(Nat.zero_add _).symm, (Nat.zero_add _).symm⟩)
  · exact View.ld_unit_apply_of _ _ _ _ _ (ix2 q k) (Fin.forall_fin_two.2 ⟨hq, (Nat.zero_add _).symm⟩)
  · exact View.ld_unit_apply_of _ _ _ _ _ (ix2 p q) (Fin.forall_fin_two.2 ⟨(Nat.zero_add _).symm, hq⟩)

theorem idx1_eq {n : Nat} (x : (⟨2, ![1024, n]⟩ : Shape).Idx) (p : Fin 1024) (h : p.val = (x 0).val) : x = ix2 p (x 1) := funext fun a => by
  match a with
  | ⟨0, _⟩ => exact Fin.ext h.symm
  | ⟨1, _⟩ => rfl

section Blocks
variable (V : (c : Dev nD) → (b : Ref Cert.FfnActIdeal.sig .tc) → Buf (Elt Ideal) ((c : Thread nD τ).loc b)) (c : Dev nD)

abbrev Y0 (t : Fin cfg1.N) : S1024x2048.Idx → EReal := iblk1 V c 0 t
abbrev Y1 (t : Fin cfg1.N) : S1408x2048.Idx → EReal := iblk1 V c 1 t
abbrev Y2 (t : Fin cfg1.N) : S1024x1408.Idx → EReal := iblk1 V c 2 t
abbrev Y3 (t : Fin cfg1.N) : S1024x1408.Idx → EReal := iblk1 V c 3 t

/-- What a point writes out. -/
theorem dg_block (t : Fin cfg1.N) (p : Fin 1024) (q : Fin 1408) : ((outsAt1 V c t).1 (ix2 p q) : EReal)
    = (∑ k : Fin 2048, Y0 V c t (ix2 p k) * Y1 V c t (ix2 q k)) * Y2 V c t (ix2 p q) := by
  unfold outsAt1; dsimp only
  have hc := cover1_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t)
    (iblk1 V c 0 t) (iblk1 V c 1 t) (iblk1 V c 2 t) (iblk1 V c 3 t)
  unfold out1_A_4; rw [View.read_writes_eq_canon _ _ _ hc]
  replace hc := hc (ix2 p q)
  revert hc
  unfold kernelRun1_A; dsimp only; sl_unfold_words
  simp only [View.readAt_eq_ld, (hs1_0 t).read_unread, (hs1_1 t).read_unread, (hs1_2 t).read_unread, (hs1_3 t).read_unread]
  intro hc
  canon_tiles x hx using hc
  all_goals rw [idx1_eq x p hx0]
  · exact ld384 (Y0 V c t) (Y1 V c t) (Y2 V c t) 1024 _ _ _ p (x 1) q hx1
  · exact ld512 (Y0 V c t) (Y1 V c t) (Y2 V c t) 512 _ _ _ p (x 1) q hx1
  · exact ld512 (Y0 V c t) (Y1 V c t) (Y2 V c t) 0 _ _ _ p (x 1) q (hx1.trans (Nat.zero_add _).symm)
theorem du_block (t : Fin cfg1.N) (p : Fin 1024) (q : Fin 1408) : ((outsAt1 V c t).2 (ix2 p q) : EReal)
    = (∑ k : Fin 2048, Y0 V c t (ix2 p k) * Y1 V c t (ix2 q k)) * Y3 V c t (ix2 p q) := by
  unfold outsAt1; dsimp only
  have hc := cover1_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t)
    (iblk1 V c 0 t) (iblk1 V c 1 t) (iblk1 V c 2 t) (iblk1 V c 3 t)
  unfold out1_A_5; rw [View.read_writes_eq_canon _ _ _ hc]
  replace hc := hc (ix2 p q)
  revert hc
  unfold kernelRun1_A; dsimp only; sl_unfold_words
  simp only [View.readAt_eq_ld, (hs1_0 t).read_unread, (hs1_1 t).read_unread, (hs1_2 t).read_unread, (hs1_3 t).read_unread]
  intro hc
  canon_tiles x hx using hc
  all_goals rw [idx1_eq x p hx0]
  · exact ld384 (Y0 V c t) (Y1 V c t) (Y3 V c t) 1024 _ _ _ p (x 1) q hx1
  · exact ld512 (Y0 V c t) (Y1 V c t) (Y3 V c t) 512 _ _ _ p (x 1) q hx1
  · exact ld512 (Y0 V c t) (Y1 V c t) (Y3 V c t) 0 _ _ _ p (x 1) q (hx1.trans (Nat.zero_add _).symm)

end Blocks

/-! ## The arrays -/

variable (m : (ℓ : Loc nD τ Cert.FfnActIdeal.sig) → Buf (Elt Ideal) ℓ) (ρ : Dev nD → PrngReg) (c : Dev nD)

/-- The gradient of the gated branch: the output's gradient times the output matrix, transposed. -/
def dact (w : S5632x2048.Idx → EReal) (dy : S8192x2048.Idx → EReal) (r : Fin 8192) (j : Fin 5632) : EReal :=
  ∑ k : Fin 2048, dy (ix2 r k) * w (ix2 j k)
def dgate (a : S8192x2048.Idx → EReal) (w : S2048x11264.Idx → EReal) (v : S5632x2048.Idx → EReal) (dy : S8192x2048.Idx → EReal) : S8192x5632.Idx → EReal :=
  fun i => dact v dy (i 0) (i 1) * dag a w i
def dother (a : S8192x2048.Idx → EReal) (w : S2048x11264.Idx → EReal) (v : S5632x2048.Idx → EReal) (dy : S8192x2048.Idx → EReal) : S8192x5632.Idx → EReal :=
  fun i => dact v dy (i 0) (i 1) * dau a w i

theorem place0 : ∀ t : Fin cfg1.N, win1_0.index t 0 = t.val % 8 ∧ win1_0.index t 1 = 0 := by decide +kernel
theorem place1 : ∀ t : Fin cfg1.N, win1_1.index t 0 = t.val / 8 ∧ win1_1.index t 1 = 0 := by decide +kernel
theorem place2 : ∀ t : Fin cfg1.N, win1_2.index t 0 = t.val % 8 ∧ win1_2.index t 1 = t.val / 8 := by decide +kernel
theorem place3 : ∀ t : Fin cfg1.N, win1_3.index t 0 = t.val % 8 ∧ win1_3.index t 1 = t.val / 8 := by decide +kernel
theorem place4 : ∀ t : Fin cfg1.N, win1_4.index t 0 = t.val % 8 ∧ win1_4.index t 1 = t.val / 8 := by decide +kernel
theorem place5 : ∀ t : Fin cfg1.N, win1_5.index t 0 = t.val % 8 ∧ win1_5.index t 1 = t.val / 8 := by decide +kernel

theorem V3_5 : V3 m ρ c main_v5 = A3 m c := by
  show W3 m ρ c (Proc.devRef .tc main_v5) = _
  unfold W3
  have e : W2 m ρ c (Proc.devRef .tc main_arg3) = A3 m c := W2_args m ρ c main_arg3 (by decide)
  rw [← e]
  rfl
theorem V3_6 : V3 m ρ c main_v6 = A2 m c := by
  show W3 m ρ c (Proc.devRef .tc main_v6) = _
  unfold W3
  have e : W2 m ρ c (Proc.devRef .tc main_arg2) = A2 m c := W2_args m ρ c main_arg2 (by decide)
  rw [← e]
  rfl
theorem V3_dag : V3 m ρ c main_v4_0 = dag (A0 m c) (A1 m c) :=
  (W3_of m ρ c main_v4_0 (by decide)).trans ((W2_arr m ρ c 3).trans (final_dag m ρ c))
theorem V3_dau : V3 m ρ c main_v4_1 = dau (A0 m c) (A1 m c) :=
  (W3_of m ρ c main_v4_1 (by decide)).trans ((W2_arr m ρ c 4).trans (final_dau m ρ c))

theorem row0 (t : Fin cfg1.N) (p : Fin 1024) (k : Fin 2048) : Y0 (V3 m ρ) c t (ix2 p k)
    = A3 m c (ix2 ⟨1024 * (t.val % 8) + p.val, by omega⟩ k) := by
  show (V3 m ρ c main_v5 : S8192x2048.Idx → EReal) _ = _
  rw [V3_5]
  congr 1
  funext a
  apply Fin.ext
  match a with
  | ⟨0, _⟩ => show win1_0.index t 0 * 1024 + 1 * p.val = 1024 * (t.val % 8) + p.val; rw [(place0 t).1]; omega
  | ⟨1, _⟩ => show win1_0.index t 1 * 2048 + 1 * k.val = k.val; rw [(place0 t).2]; omega
theorem row1 (t : Fin cfg1.N) (q : Fin 1408) (k : Fin 2048) : Y1 (V3 m ρ) c t (ix2 q k)
    = A2 m c (ix2 ⟨1408 * (t.val / 8) + q.val, by have : t.val < 32 := t.isLt; omega⟩ k) := by
  show (V3 m ρ c main_v6 : S5632x2048.Idx → EReal) _ = _
  rw [V3_6]
  congr 1
  funext a
  apply Fin.ext
  match a with
  | ⟨0, _⟩ => show win1_1.index t 0 * 1408 + 1 * q.val = 1408 * (t.val / 8) + q.val; rw [(place1 t).1]; omega
  | ⟨1, _⟩ => show win1_1.index t 1 * 2048 + 1 * k.val = k.val; rw [(place1 t).2]; omega
theorem row2 (t : Fin cfg1.N) (p : Fin 1024) (q : Fin 1408) : Y2 (V3 m ρ) c t (ix2 p q)
    = dag (A0 m c) (A1 m c) (ix2 ⟨1024 * (t.val % 8) + p.val, by omega⟩ ⟨1408 * (t.val / 8) + q.val, by have : t.val < 32 := t.isLt; omega⟩) := by
  show (V3 m ρ c main_v4_0 : S8192x5632.Idx → EReal) _ = _
  rw [V3_dag]
  congr 1
  funext a
  apply Fin.ext
  match a with
  | ⟨0, _⟩ => show win1_2.index t 0 * 1024 + 1 * p.val = 1024 * (t.val % 8) + p.val; rw [(place2 t).1]; omega
  | ⟨1, _⟩ => show win1_2.index t 1 * 1408 + 1 * q.val = 1408 * (t.val / 8) + q.val; rw [(place2 t).2]; omega
theorem row3 (t : Fin cfg1.N) (p : Fin 1024) (q : Fin 1408) : Y3 (V3 m ρ) c t (ix2 p q)
    = dau (A0 m c) (A1 m c) (ix2 ⟨1024 * (t.val % 8) + p.val, by omega⟩ ⟨1408 * (t.val / 8) + q.val, by have : t.val < 32 := t.isLt; omega⟩) := by
  show (V3 m ρ c main_v4_1 : S8192x5632.Idx → EReal) _ = _
  rw [V3_dau]
  congr 1
  funext a
  apply Fin.ext
  match a with
  | ⟨0, _⟩ => show win1_3.index t 0 * 1024 + 1 * p.val = 1024 * (t.val % 8) + p.val; rw [(place3 t).1]; omega
  | ⟨1, _⟩ => show win1_3.index t 1 * 1408 + 1 * q.val = 1408 * (t.val / 8) + q.val; rw [(place3 t).2]; omega

theorem flushed_dg (t : Fin cfg1.N) (hf : (cfg1.win 4).flush t = true) :
    (dat1 (V3 m ρ) c).flushed 4 t = ((cfg1.win 4).blk t).view.read (Elt Ideal) (dgate (A0 m c) (A1 m c) (A2 m c) (A3 m c)) := by
  show (cfg1.win 4).cut (grid1.coords t) ((dat1 (V3 m ρ) c).after 4 t) = _
  rw [after1_4]
  funext i
  rw [View.read_apply]
  refine Eq.trans ?_ (cast_eq _ _).symm
  show (outsAt1 (V3 m ρ) c t).1 i = _
  obtain ⟨p, q, rfl⟩ : ∃ (p : Fin 1024) (q : Fin 1408), i = ix2 p q :=
    ⟨i 0, i 1, funext fun a => by match a with | ⟨0, _⟩ => rfl | ⟨1, _⟩ => rfl⟩
  refine (dg_block (V3 m ρ) c t p q).trans ?_
  have key : (∑ k : Fin 2048, Y0 (V3 m ρ) c t (ix2 p k) * Y1 (V3 m ρ) c t (ix2 q k)) * Y2 (V3 m ρ) c t (ix2 p q)
      = dgate (A0 m c) (A1 m c) (A2 m c) (A3 m c) (ix2 ⟨1024 * (t.val % 8) + p.val, by omega⟩ ⟨1408 * (t.val / 8) + q.val, by have : t.val < 32 := t.isLt; omega⟩) :=
    congrArg₂ (· * ·) (Finset.sum_congr rfl fun k _ => congrArg₂ (· * ·) (row0 m ρ c t p k) (row1 m ρ c t q k)) (row2 m ρ c t p q)
  rw [key]
  congr 1
  funext a
  apply Fin.ext
  match a with
  | ⟨0, _⟩ => show 1024 * (t.val % 8) + p.val = win1_4.index t 0 * 1024 + 1 * p.val; rw [(place4 t).1]; omega
  | ⟨1, _⟩ => show 1408 * (t.val / 8) + q.val = win1_4.index t 1 * 1408 + 1 * q.val; rw [(place4 t).2]; omega
theorem final_dg : (dat1 (V3 m ρ) c).arrAt 4 cfg1.N = dgate (A0 m c) (A1 m c) (A2 m c) (A3 m c) :=
  (dat1 (V3 m ρ) c).arrAt_eq_of_cover 4 _ (flushed_dg m ρ c) fun i => by
    have h0 : (i 0).val < 8192 := (i 0).isLt
    have h1 : (i 1).val < 5632 := (i 1).isLt
    have ht : 8 * ((i 1).val / 1408) + (i 0).val / 1024 < 32 := by omega
    refine ⟨⟨_, ht⟩, flush1_4 _, ?_⟩
    show i ∈ ((View.whole main_v7_0).slice (win1_4.rect ⟨_, ht⟩)).set
    rw [View.set_slice_whole, Rect.mem_set_unit]
    obtain ⟨e0, e1⟩ := place4 ⟨_, ht⟩
    intro a
    match a with
    | ⟨0, _⟩ => show win1_4.index _ 0 * 1024 ≤ (i 0).val ∧ (i 0).val < win1_4.index _ 0 * 1024 + 1024; rw [e0]; dsimp only; omega
    | ⟨1, _⟩ => show win1_4.index _ 1 * 1408 ≤ (i 1).val ∧ (i 1).val < win1_4.index _ 1 * 1408 + 1408; rw [e1]; dsimp only; omega

theorem flushed_du (t : Fin cfg1.N) (hf : (cfg1.win 5).flush t = true) :
    (dat1 (V3 m ρ) c).flushed 5 t = ((cfg1.win 5).blk t).view.read (Elt Ideal) (dother (A0 m c) (A1 m c) (A2 m c) (A3 m c)) := by
  show (cfg1.win 5).cut (grid1.coords t) ((dat1 (V3 m ρ) c).after 5 t) = _
  rw [after1_5]
  funext i
  rw [View.read_apply]
  refine Eq.trans ?_ (cast_eq _ _).symm
  show (outsAt1 (V3 m ρ) c t).2 i = _
  obtain ⟨p, q, rfl⟩ : ∃ (p : Fin 1024) (q : Fin 1408), i = ix2 p q :=
    ⟨i 0, i 1, funext fun a => by match a with | ⟨0, _⟩ => rfl | ⟨1, _⟩ => rfl⟩
  refine (du_block (V3 m ρ) c t p q).trans ?_
  have key : (∑ k : Fin 2048, Y0 (V3 m ρ) c t (ix2 p k) * Y1 (V3 m ρ) c t (ix2 q k)) * Y3 (V3 m ρ) c t (ix2 p q)
      = dother (A0 m c) (A1 m c) (A2 m c) (A3 m c) (ix2 ⟨1024 * (t.val % 8) + p.val, by omega⟩ ⟨1408 * (t.val / 8) + q.val, by have : t.val < 32 := t.isLt; omega⟩) :=
    congrArg₂ (· * ·) (Finset.sum_congr rfl fun k _ => congrArg₂ (· * ·) (row0 m ρ c t p k) (row1 m ρ c t q k)) (row3 m ρ c t p q)
  rw [key]
  congr 1
  funext a
  apply Fin.ext
  match a with
  | ⟨0, _⟩ => show 1024 * (t.val % 8) + p.val = win1_5.index t 0 * 1024 + 1 * p.val; rw [(place5 t).1]; omega
  | ⟨1, _⟩ => show 1408 * (t.val / 8) + q.val = win1_5.index t 1 * 1408 + 1 * q.val; rw [(place5 t).2]; omega
theorem final_du : (dat1 (V3 m ρ) c).arrAt 5 cfg1.N = dother (A0 m c) (A1 m c) (A2 m c) (A3 m c) :=
  (dat1 (V3 m ρ) c).arrAt_eq_of_cover 5 _ (flushed_du m ρ c) fun i => by
    have h0 : (i 0).val < 8192 := (i 0).isLt
    have h1 : (i 1).val < 5632 := (i 1).isLt
    have ht : 8 * ((i 1).val / 1408) + (i 0).val / 1024 < 32 := by omega
    refine ⟨⟨_, ht⟩, flush1_5 _, ?_⟩
    show i ∈ ((View.whole main_v7_1).slice (win1_5.rect ⟨_, ht⟩)).set
    rw [View.set_slice_whole, Rect.mem_set_unit]
    obtain ⟨e0, e1⟩ := place5 ⟨_, ht⟩
    intro a
    match a with
    | ⟨0, _⟩ => show win1_5.index _ 0 * 1024 ≤ (i 0).val ∧ (i 0).val < win1_5.index _ 0 * 1024 + 1024; rw [e0]; dsimp only; omega
    | ⟨1, _⟩ => show win1_5.index _ 1 * 1408 ≤ (i 1).val ∧ (i 1).val < win1_5.index _ 1 * 1408 + 1408; rw [e1]; dsimp only; omega

end Cert.FfnActArray

end
-- ==== Proof.Ffn.ActRun.lean ====
/- The run of the gate's two calls: every execution ends with the three results at the arrays computed from the arguments, the
   arguments as they were. -/
module

public import proofs.«01_k».proof.Proof.Ffn.ActBwd

@[expose] public section

noncomputable section

namespace Cert.FfnActArray

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnActIdeal Cert.FfnActIdeal.Gen

variable (m : (ℓ : Loc nD τ Cert.FfnActIdeal.sig) → Buf (Elt Ideal) ℓ) (ρ : Dev nD → PrngReg)

-- The launch theorem's implicit arguments are found by unifying its conclusion with this one.
set_option backward.isDefEq.respectTransparency.types false in
/-- Every unscoped buffer ends at the last boundary's contents. -/
theorem ends : θ_run defs (onTc (τ := τ) (main (F := Ideal))) ⟨m, fun _ => 0, ρ⟩ (fun r => ∀ c : Dev nD,
      ∀ b ∈ Pipeline.ucRefs τ Cert.FfnActIdeal.sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ Cert.FfnActIdeal.sig Unit (Elt Ideal) ℕ (UR Cert.FfnActIdeal.sig nD τ) ℕ))
            ⊢ BI.own (emb₁ (initOf (Pipeline.cells cfgs cellOf_inj) (Pipeline.launchToks cfgs cellOf_inj))) from .rfl)
        iexact Hu
      iapply (show (BI.emp : sProp (MT nD τ Cert.FfnActIdeal.sig Unit (Elt Ideal) ℕ (UR Cert.FfnActIdeal.sig nD τ) ℕ)) ⊢ bigSep Finset.univ (fun _ : Dev nD => (BI.emp : sProp (MT nD τ Cert.FfnActIdeal.sig Unit (Elt Ideal) ℕ (UR Cert.FfnActIdeal.sig nD τ) ℕ))) from by rw [BI.bigSep_emp_const])
      iempintro)
    (T₀ := fun c => iprop(StableHlo.held (c : Thread nD τ) (Pipeline.ucRefs τ Cert.FfnActIdeal.sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ Cert.FfnActIdeal.sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ Cert.FfnActIdeal.sig, s.mem (((c : Thread nD τ)).1, b) = W4 m ρ c b)
    (hfin := fun c s' => by
      iintro ⟨⟨Hh, -⟩, HSI⟩
      unfold StableHlo.held
      imodintro
      iapply (pointsTo_read_all (Pipeline.ucRefs τ Cert.FfnActIdeal.sig) (fun b => (((c : Thread nD τ)).1, b)) (W4 m ρ c) s')
      isplitl [Hh] <;> iassumption)
    (hQ := fun s h _ => h)

/-- The results and the arguments at the end of the run. -/
theorem run : θ_run defs (onTc (τ := τ) (main (F := Ideal))) ⟨m, fun _ => 0, ρ⟩ (fun r => ∀ c : Dev nD,
      r.2.mem ((c.tc : Thread nD τ).loc main_v4_2) = act (A0 m c) (A1 m c)
      ∧ r.2.mem ((c.tc : Thread nD τ).loc main_v7_0) = dgate (A0 m c) (A1 m c) (A2 m c) (A3 m c)
      ∧ r.2.mem ((c.tc : Thread nD τ).loc main_v7_1) = dother (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4_2 (by decide))).trans ((W4_of m ρ c main_v4_2 (by decide)).trans ((W3_of m ρ c main_v4_2 (by decide)).trans
        ((W2_arr m ρ c 5).trans (final_act m ρ c)))),
      (h c _ (mem_uc main_v7_0 (by decide))).trans ((W4_arr m ρ c 4).trans (final_dg m ρ c)),
      (h c _ (mem_uc main_v7_1 (by decide))).trans ((W4_arr m ρ c 5).trans (final_du m ρ c)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c)⟩) (ends m ρ)

end Cert.FfnActArray

end
-- ==== Proof.Ffn.ActPre.lean ====
/- The precondition of the gate's value claim, read: where the predicate is all ones, every argument's entries are real numbers. -/
module

public import proofs.«01_k».proof.Pre_ffn_finite
public import proofs.«01_k».proof.Proof.Gen.Pre_ffn_finite
public import proofs.«01_k».proof.Proof.Mem.Pre

@[expose] public section

noncomputable section

namespace Cert.FfnActPre

open Idealize.ShloMosaic Cert.Pre_ffn_finite Cert.Pre_ffn_finite.Facts Cert.MemPre

variable (a0 : S8192x2048.Idx → EReal) (a1 : S2048x11264.Idx → EReal) (a2 : S5632x2048.Idx → EReal) (a3 : S8192x2048.Idx → EReal)

theorem split (h : fn (F := Ideal) a0 a1 a2 a3 = fun _ => 1#1) :
    (∀ r j, ∃ x : ℝ, a0 (ix2 r j) = x) ∧ (∀ r j, ∃ x : ℝ, a1 (ix2 r j) = x)
      ∧ (∀ r j, ∃ x : ℝ, a2 (ix2 r j) = x) ∧ ∀ r j, ∃ x : ℝ, a3 (ix2 r j) = x := by
  have e := congrFun h (fun a => a.elim0)
  unfold fn fn_part1 at e
  dsimp only at e
  obtain ⟨e, e3⟩ := IntOp.andi_eq_one.1 e
  obtain ⟨e, e2⟩ := IntOp.andi_eq_one.1 e
  obtain ⟨e0, e1⟩ := IntOp.andi_eq_one.1 e
  refine ⟨fun r j => real_of_abs _ ?_, fun r j => real_of_abs _ ?_, fun r j => real_of_abs _ ?_, fun r j => real_of_abs _ ?_⟩
  · have := Host.reduce_andi_all _ _ _ _ _ e0 (ix2 r j)
    rw [← ofBits_inf]
    exact this
  · have := Host.reduce_andi_all _ _ _ _ _ e1 (ix2 r j)
    rw [← ofBits_inf]
    exact this
  · have := Host.reduce_andi_all _ _ _ _ _ e2 (ix2 r j)
    rw [← ofBits_inf]
    exact this
  · have := Host.reduce_andi_all _ _ _ _ _ e3 (ix2 r j)
    rw [← ofBits_inf]
    exact this

end Cert.FfnActPre

end
-- ==== Proof.Ffn.ActClaim.lean ====
/- The gate's value: the kernel's three results are the reference's, at finite arguments. -/
module

public import proofs.«01_k».proof.Defs
public import proofs.«01_k».proof.Proof.Ffn.ActRun
public import proofs.«01_k».proof.Proof.Ffn.ActPre
public import proofs.«01_k».proof.Proof.Math.Softmax
public import proofs.«01_k».proof.Proof.Gen.FfnActRefIdeal.Run
public import proofs.«01_k».proof.Proof.Gen.FfnActRefIdeal.Read

@[expose] public section

noncomputable section

namespace Cert.FfnActClaim

open Idealize.ShloMosaic Idealize.SL.Sem Idealize.ShloMosaic.TcCoe Cert.FfnActArray Cert.Attn

section Reference
open Cert.FfnActRefIdeal Cert.FfnActRefIdeal.Read

variable (a : S8192x2048.Idx → EReal) (w : S2048x11264.Idx → EReal) (v : S5632x2048.Idx → EReal) (dy : S8192x2048.Idx → EReal)

/-- The reference's two halves of the input product, and its product with the output matrix. -/
theorem ref_gates (p : Fin 8192) (q : Fin 5632) : (val_main_v1 (F := Ideal) a w (ix2 p q) : EReal) = gates a w p q := by
  rw [val_main_v1_apply, val_main_v0_apply]
  refine Finset.sum_congr rfl fun k _ => congrArg₂ (· * ·) (congrArg a ?_) (congrArg w ?_)
  · exact funext fun a => by fin_cases a <;> rfl
  · exact funext fun a => by fin_cases a <;> rfl
theorem ref_other (p : Fin 8192) (q : Fin 5632) : (val_main_v2 (F := Ideal) a w (ix2 p q) : EReal) = other a w p q := by
  rw [val_main_v2_apply, val_main_v0_apply]
  refine Finset.sum_congr rfl fun k _ => congrArg₂ (· * ·) (congrArg a ?_) (congrArg w ?_)
  · exact funext fun a => by fin_cases a <;> rfl
  · exact funext fun a => by fin_cases a <;> rfl
theorem ref_dact (p : Fin 8192) (q : Fin 5632) : (val_main_v8 (F := Ideal) v dy (ix2 p q) : EReal) = dact v dy p q := by
  rw [val_main_v8_apply]
  refine Finset.sum_congr rfl fun k _ => congrArg₂ (· * ·) (congrArg dy ?_) (congrArg v ?_)
  · exact funext fun a => by fin_cases a <;> rfl
  · exact funext fun a => by fin_cases a <;> rfl

variable (ha : ∀ r j, ∃ x : ℝ, a (ix2 r j) = x) (hw : ∀ r j, ∃ x : ℝ, w (ix2 r j) = x)
  (hv : ∀ r j, ∃ x : ℝ, v (ix2 r j) = x) (hdy : ∀ r j, ∃ x : ℝ, dy (ix2 r j) = x)

/-- A sum of products of real numbers is real. -/
theorem sum_fin {n : Nat} (f g : Fin n → EReal) (hf : ∀ k, ∃ x : ℝ, f k = x) (hg : ∀ k, ∃ x : ℝ, g k = x) : ∃ x : ℝ, ∑ k, f k * g k = x := by
  choose x hx using hf
  choose y hy using hg
  exact ⟨∑ k, x k * y k, by simp only [hx, hy, ← EReal.coe_mul]; exact coe_sum _ _⟩

include ha hw in
theorem gates_fin (p : Fin 8192) (q : Fin 5632) : ∃ x : ℝ, gates a w p q = x := sum_fin _ _ (fun k => ha p k) (fun k => hw k _)
include ha hw in
theorem other_fin (p : Fin 8192) (q : Fin 5632) : ∃ x : ℝ, other a w p q = x := sum_fin _ _ (fun k => ha p k) (fun k => hw k _)
include hv hdy in
theorem dact_fin (p : Fin 8192) (q : Fin 5632) : ∃ x : ℝ, dact v dy p q = x := sum_fin _ _ (fun k => hdy p k) (fun k => hv q k)

include ha hw in
/-- The reference's logistic function of the gates. -/
theorem ref_sig (p : Fin 8192) (q : Fin 5632) : (val_main_v5_2 (F := Ideal) a w (ix2 p q) : EReal) = sig (gates a w p q) := by
  have e : (val_main_v5_2 (F := Ideal) a w (ix2 p q) : EReal) = Ideal.div unit (unit + Ideal.exp (-(val_main_v1 (F := Ideal) a w (ix2 p q) : EReal))) := by
    rw [val_main_v5_2_apply, val_main_call1_v4_apply, val_main_call1_v3_apply, val_main_call1_v2_apply]
    rfl
  rw [e, ref_gates]
  obtain ⟨x, hx⟩ := gates_fin a w ha hw p q
  rw [hx]
  exact logistic_coe x

include ha hw in
theorem ref_act : (val_main_v12 (F := Ideal) a w : _ → EReal) = act a w := by
  funext i
  obtain ⟨p, q, rfl⟩ : ∃ p q, i = ix2 p q := ⟨i 0, i 1, funext fun a => by fin_cases a <;> rfl⟩
  have e : (val_main_v12 (F := Ideal) a w (ix2 p q) : EReal)
      = val_main_v1 (F := Ideal) a w (ix2 p q) * val_main_v5_2 (F := Ideal) a w (ix2 p q) * val_main_v2 (F := Ideal) a w (ix2 p q) := rfl
  rw [e, ref_sig a w ha hw, ref_gates, ref_other]
  rfl
include ha hw hv hdy in
theorem ref_dgate : (val_main_v13 (F := Ideal) a w v dy : _ → EReal) = dgate a w v dy := by
  funext i
  obtain ⟨p, q, rfl⟩ : ∃ p q, i = ix2 p q := ⟨i 0, i 1, funext fun a => by fin_cases a <;> rfl⟩
  have one : (val_main_call1_v6 (F := Ideal) (ix2 p q) : EReal) = unit := by rw [val_main_call1_v6_apply]; rfl
  have e : (val_main_v13 (F := Ideal) a w v dy (ix2 p q) : EReal)
      = val_main_v8 (F := Ideal) v dy (ix2 p q) * val_main_v2 (F := Ideal) a w (ix2 p q) * val_main_v5_2 (F := Ideal) a w (ix2 p q)
        + val_main_v1 (F := Ideal) a w (ix2 p q) * (val_main_v8 (F := Ideal) v dy (ix2 p q) * val_main_v2 (F := Ideal) a w (ix2 p q))
          * (val_main_v5_2 (F := Ideal) a w (ix2 p q) * (val_main_call1_v6 (F := Ideal) (ix2 p q) - val_main_v5_2 (F := Ideal) a w (ix2 p q))) := rfl
  rw [e, one, ref_sig a w ha hw, ref_gates, ref_other, ref_dact]
  exact gateSlope_eq _ _ _ (gates_fin a w ha hw p q) (other_fin a w ha hw p q) (dact_fin v dy hv hdy p q)
include ha hw in
theorem ref_dother : (val_main_v14 (F := Ideal) a w v dy : _ → EReal) = dother a w v dy := by
  funext i
  obtain ⟨p, q, rfl⟩ : ∃ p q, i = ix2 p q := ⟨i 0, i 1, funext fun a => by fin_cases a <;> rfl⟩
  have e : (val_main_v14 (F := Ideal) a w v dy (ix2 p q) : EReal)
      = val_main_v1 (F := Ideal) a w (ix2 p q) * val_main_v5_2 (F := Ideal) a w (ix2 p q) * val_main_v8 (F := Ideal) v dy (ix2 p q) := rfl
  rw [e, ref_sig a w ha hw, ref_gates, ref_dact]
  exact mul_comm _ _

end Reference

theorem algebraic : Cert.algebraic_FfnActIdeal_FfnActRefIdeal_pre_ffn_finite := by
  intro m ρ m' ρ' hpre hag
  refine ⟨fun c => act (A0 m c) (A1 m c), fun c => dgate (A0 m c) (A1 m c) (A2 m c) (A3 m c), fun c => dother (A0 m c) (A1 m c) (A2 m c) (A3 m c),
    FfnActArray.run m ρ, (θ_run _ _ _).mono (fun _ h c => ?_) (Cert.FfnActRefIdeal.Value.run m' ρ')⟩
  obtain ⟨h0, h1, h2, h3⟩ := h c
  obtain ⟨e0, e1, e2, e3⟩ := hag c
  obtain ⟨ha, hw, hv, hdy⟩ := FfnActPre.split _ _ _ _ (hpre c)
  refine ⟨h0.trans ?_, h1.trans ?_, h2.trans ?_, h3⟩
  · rw [FfnActRefIdeal.Read.val_main_v12_eq, e0, e1]
    exact ref_act _ _ ha hw
  · rw [FfnActRefIdeal.Read.val_main_v13_eq, e0, e1, e2, e3]
    exact ref_dgate _ _ _ _ ha hw hv hdy
  · rw [FfnActRefIdeal.Read.val_main_v14_eq, e0, e1, e2, e3]
    exact ref_dother _ _ _ _ ha hw

end Cert.FfnActClaim

end
-- ==== Proof.Ffn.FfnOut.lean ====
/- The FFN's output product: a block of 512 rows is the sum of two products, over the two halves of the inner dimension,
   each computed in four blocks of 512 columns. -/
module

public import proofs.«01_k».proof.Proof.Math.Sums
public import proofs.«01_k».proof.Proof.Math.Side
public import proofs.«01_k».proof.Proof.Gen.FfnOutIdeal.Value
public import Idealize.ShloMosaic.Lib.Pipeline.ValueKit

@[expose] public section

noncomputable section

namespace Cert.FfnOutArray

open Idealize.ShloMosaic Idealize.ShloMosaic.TcCoe Idealize.ShloMosaic.Tactic Idealize.SL.Sem
open Cert.FfnOutIdeal Cert.FfnOutIdeal.Gen Cert.Attn
open Idealize.ShloMosaic.Pipeline (Dat)

variable (m : (ℓ : Loc nD τ sig) → Buf (Elt Ideal) ℓ) (c : Dev nD)

/-- The arguments: the activations and the output matrix. -/
abbrev A0 : S8192x5632.Idx → EReal := m ((c : Thread nD τ).loc main_arg0)
abbrev A1 : S5632x2048.Idx → EReal := m ((c : Thread nD τ).loc main_arg1)

/-- Point `t`'s blocks of them. -/
abbrev X0 (t : Fin cfg0.N) : S512x2816.Idx → EReal := iblk m c 0 t
abbrev X1 (t : Fin cfg0.N) : S2816x2048.Idx → EReal := iblk m c 1 t

/-- The payloads at an index. -/
theorem pay_first (a : S512x2816.Idx → EReal) (b : S2816x512.Idx → EReal) (p q : Fin 512) :
    (k0_pay2 (F := Ideal) a b (ix2 p q) : EReal) = ∑ r : Fin 2816, a (ix2 p r) * b (ix2 r q) := by
  unfold k0_pay2 k0_pay1
  pointwise
theorem pay_later (a : S512x2816.Idx → EReal) (b : S2816x512.Idx → EReal) (s : S512x512.Idx → EReal) (p q : Fin 512) :
    (k0_pay7 (F := Ideal) a b s (ix2 p q) : EReal) = s (ix2 p q) + ∑ r : Fin 2816, a (ix2 p r) * b (ix2 r q) := by
  unfold k0_pay7 k0_pay6
  pointwise

/-- An index of a block of 512 columns, from its place in the whole block. -/
theorem idx_eq (x : S512x512.Idx) (p : Fin 512) (h : p.val = (x 0).val) : x = ix2 p (x 1) := funext fun a => by
  match a with
  | ⟨0, _⟩ => exact Fin.ext h.symm
  | ⟨1, _⟩ => rfl

/-- The first product of a run of two. -/
theorem acc_first (t : Fin cfg0.N) (h : t.val % 2 = 0) (p : Fin 512) (q : Fin 2048) :
    outsAt0 m c t.val t.isLt (ix2 p q) = ∑ r : Fin 2816, X0 m c t (ix2 p r) * X1 m c t (ix2 r q) := by
  rw [outsAt0_A m c t h (by omega)]
  unfold out0_A_2; rw [View.read_writes_eq_canon _ _ _ (cover0_A_2 c _ _ _ _ _ _ _ _ _ _ _)]
  unfold kernelRun0_A; dsimp only; sl_unfold_words
  simp only [View.readAt_eq_ld, (hs0_0 t).read_unread, (hs0_1 t).read_unread]
  canon_tiles x hx
  all_goals
    rw [idx_eq x p hx0]
    refine (pay_first _ _ p (x 1)).trans (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix2 r q) (Fin.forall_fin_two.2 ⟨(Nat.zero_add _).symm, by first | exact hx1 | exact hx1.trans (Nat.zero_add _).symm⟩)

/-- The second product is added to the first. -/
theorem acc_later (t : Fin cfg0.N) (h : ¬ t.val % 2 = 0) (p : Fin 512) (q : Fin 2048) :
    outsAt0 m c t.val t.isLt (ix2 p q) = (outsAt0 m c (t.val - 1) (Nat.lt_of_le_of_lt (Nat.sub_le _ _) t.isLt) (ix2 p q) : EReal)
      + ∑ r : Fin 2816, X0 m c t (ix2 p r) * X1 m c t (ix2 r q) := by
  rw [outsAt0_B m c t h (by omega)]
  unfold out0_B_2; rw [View.read_writes_eq_canon _ _ _ (cover0_B_2 c _ _ _ _ _ _ _ _ _ _ _ _)]
  unfold kernelRun0_B; dsimp only; sl_unfold_words
  simp only [View.readAt_eq_ld, (hs0_0 t).read_unread, (hs0_1 t).read_unread, (hs0_2 t).read_unread]
  canon_tiles x hx
  all_goals
    rw [idx_eq x p hx0]
    refine (pay_later _ _ _ p (x 1)).trans (congrArg₂ (· + ·) ?_ (Finset.sum_congr rfl fun r _ => congrArg₂ (· * ·) ?_ ?_))
    · exact View.ld_unit_apply_of _ _ _ _ _ (ix2 p q) (Fin.forall_fin_two.2 ⟨(Nat.zero_add _).symm, by first | exact hx1 | exact hx1.trans (Nat.zero_add _).symm⟩)
    · exact View.ld_unit_apply_of _ _ _ _ _ (ix2 p r) (Fin.forall_fin_two.2 ⟨(Nat.zero_add _).symm, (Nat.zero_add _).symm⟩)
    · exact View.ld_unit_apply_of _ _ _ _ _ (ix2 r q) (Fin.forall_fin_two.2 ⟨(Nat.zero_add _).symm, by first | exact hx1 | exact hx1.trans (Nat.zero_add _).symm⟩)

theorem index0 : ∀ t : Fin cfg0.N, win0_0.index t 0 = t.val / 2 ∧ win0_0.index t 1 = t.val % 2 := by decide +kernel
theorem index1 : ∀ t : Fin cfg0.N, win0_1.index t 0 = t.val % 2 ∧ win0_1.index t 1 = 0 := by decide +kernel
theorem index2 : ∀ t : Fin cfg0.N, win0_2.index t 0 = t.val / 2 ∧ win0_2.index t 1 = 0 := by decide +kernel

/-- The arguments, rounded to bfloat16 by the host: at the extended reals, the arguments. -/
theorem V_0 : V m c main_v0 = A0 m c := by
  rfl
theorem V_1 : V m c main_v1 = A1 m c := by
  rfl

/-- Point `t`'s block of activations. -/
theorem blk0 (t : Fin cfg0.N) (p : Fin 512) (r : Fin 2816) : X0 m c t (ix2 p r) = A0 m c (ix2
    ⟨512 * (t.val / 2) + p.val, by have : t.val < 32 := t.isLt; omega⟩ ⟨2816 * (t.val % 2) + r.val, by omega⟩) := by
  unfold X0 iblk
  rw [View.read_apply]
  show V m c main_v0 _ = _
  rw [V_0]
  congr 1
  funext a
  apply Fin.ext
  match a with
  | ⟨0, _⟩ => show win0_0.index t 0 * 512 + 1 * p.val = 512 * (t.val / 2) + p.val; rw [(index0 t).1]; omega
  | ⟨1, _⟩ => show win0_0.index t 1 * 2816 + 1 * r.val = 2816 * (t.val % 2) + r.val; rw [(index0 t).2]; omega

/-- Point `t`'s half of the output matrix. -/
theorem blk1 (t : Fin cfg0.N) (r : Fin 2816) (q : Fin 2048) :
    X1 m c t (ix2 r q) = A1 m c (ix2 ⟨2816 * (t.val % 2) + r.val, by omega⟩ q) := by
  unfold X1 iblk
  rw [View.read_apply]
  show V m c main_v1 _ = _
  rw [V_1]
  congr 1
  funext a
  apply Fin.ext
  match a with
  | ⟨0, _⟩ => show win0_1.index t 0 * 2816 + 1 * r.val = 2816 * (t.val % 2) + r.val; rw [(index1 t).1]; omega
  | ⟨1, _⟩ => show win0_1.index t 1 * 2048 + 1 * q.val = q.val; rw [(index1 t).2]; omega

/-- The product of two matrices. -/
def prod (a : S8192x5632.Idx → EReal) (b : S5632x2048.Idx → EReal) : S8192x2048.Idx → EReal :=
  fun i => ∑ r : Fin 5632, a (ix2 (i 0) r) * b (ix2 r (i 1))

/-- The second of a run of two leaves its block of the product. -/
theorem out_apply (t : Fin cfg0.N) (h : t.val % 2 = 1) (p : Fin 512) (q : Fin 2048) :
    outsAt0 m c t.val t.isLt (ix2 p q)
      = ∑ r : Fin 5632, A0 m c (ix2 ⟨512 * (t.val / 2) + p.val, by have : t.val < 32 := t.isLt; omega⟩ r) * A1 m c (ix2 r q) := by
  have key := run_sum (N := cfg0.N) 2
    (fun t h => outsAt0 m c t h (ix2 p q))
    (fun t h => ∑ r : Fin 2816, X0 m c ⟨t, h⟩ (ix2 p r) * X1 m c ⟨t, h⟩ (ix2 r q))
    (fun t h ht => acc_first m c ⟨t, h⟩ ht p q) (fun t h ht => acc_later m c ⟨t, h⟩ ht p q)
    (t.val / 2) 1 (by omega) (by have := t.isLt; omega)
  have ht : 2 * (t.val / 2) + 1 = t.val := by omega
  simp only [ht] at key
  refine key.trans ?_
  rw [sum_rows (a := 2) (b := 2816) rfl]
  refine Finset.sum_congr rfl fun s _ => Finset.sum_congr rfl fun r _ => ?_
  have hs : s.val < 2 := s.isLt
  rw [blk0, blk1]
  congr 2
  · funext a
    apply Fin.ext
    match a with
    | ⟨0, _⟩ => show 512 * ((2 * (t.val / 2) + s.val) / 2) + p.val = 512 * (t.val / 2) + p.val; omega
    | ⟨1, _⟩ => show 2816 * ((2 * (t.val / 2) + s.val) % 2) + r.val = 2816 * s.val + r.val; omega
  · funext a
    apply Fin.ext
    match a with
    | ⟨0, _⟩ => show 2816 * ((2 * (t.val / 2) + s.val) % 2) + r.val = 2816 * s.val + r.val; omega
    | ⟨1, _⟩ => rfl

/-- Each block is written at its place. -/
theorem flushed_eq (t : Fin cfg0.N) (hf : (cfg0.win 2).flush t = true) :
    (dats m 0 c).flushed 2 t = ((cfg0.win 2).blk t).view.read (Elt Ideal) (prod (A0 m c) (A1 m c)) := by
  rw [Value.flushed2]
  funext i
  rw [View.read_apply]
  refine Eq.trans ?_ (cast_eq _ _).symm
  show outsAt0 m c t.val t.isLt i = _
  obtain ⟨p, q, rfl⟩ : ∃ (p : Fin 512) (q : Fin 2048), i = ix2 p q :=
    ⟨i 0, i 1, funext fun a => by match a with | ⟨0, _⟩ => rfl | ⟨1, _⟩ => rfl⟩
  rw [out_apply m c t ((flush0_2 t).mp hf)]
  unfold prod
  refine Finset.sum_congr rfl fun r _ => ?_
  congr 2
  · funext a
    apply Fin.ext
    match a with
    | ⟨0, _⟩ => show 512 * (t.val / 2) + p.val = win0_2.index t 0 * 512 + 1 * p.val; rw [(index2 t).1]; omega
    | ⟨1, _⟩ => rfl
  · funext a
    apply Fin.ext
    match a with
    | ⟨0, _⟩ => rfl
    | ⟨1, _⟩ => show q.val = win0_2.index t 1 * 2048 + 1 * q.val; rw [(index2 t).2]; omega

/-- The product after the run. -/
theorem final : (dats m 0 c).arrAt 2 cfg0.N = prod (A0 m c) (A1 m c) :=
  (dats m 0 c).arrAt_eq_of_cover 2 _ (flushed_eq m c) fun i => by
    have h0 : (i 0).val < 8192 := (i 0).isLt
    have h1 : (i 1).val < 2048 := (i 1).isLt
    have ht : 2 * ((i 0).val / 512) + 1 < 32 := by omega
    refine ⟨⟨_, ht⟩, (flush0_2 _).mpr (by show (2 * ((i 0).val / 512) + 1) % 2 = 1; omega), ?_⟩
    show i ∈ ((View.whole main_v2).slice (win0_2.rect ⟨_, ht⟩)).set
    rw [View.set_slice_whole, Rect.mem_set_unit]
    obtain ⟨e0, e1⟩ := index2 ⟨_, ht⟩
    intro a
    match a with
    | ⟨0, _⟩ => show win0_2.index _ 0 * 512 ≤ (i 0).val ∧ (i 0).val < win0_2.index _ 0 * 512 + 512; rw [e0]; dsimp only; omega
    | ⟨1, _⟩ => show win0_2.index _ 1 * 2048 ≤ (i 1).val ∧ (i 1).val < win0_2.index _ 1 * 2048 + 2048; rw [e1]; omega

end Cert.FfnOutArray

end
-- ==== Proof.Ffn.OutDw.lean ====
/- The gradient of the FFN's output matrix: a block of it gathers the products of eight blocks of 1024 rows in a scratch
   buffer, and the last of the eight writes it out. -/
module

public import proofs.«01_k».proof.Proof.Math.Sums
public import proofs.«01_k».proof.Proof.Math.Side
public import proofs.«01_k».proof.Proof.Gen.OutDwIdeal.Value

@[expose] public section

noncomputable section

namespace Cert.OutDwArray

open Idealize.ShloMosaic Idealize.ShloMosaic.TcCoe Idealize.ShloMosaic.Tactic Idealize.SL.Sem
open Cert.OutDwIdeal Cert.OutDwIdeal.Gen Cert.Attn

variable (m : (ℓ : Loc nD τ sig) → Buf (Elt Ideal) ℓ) (c : Dev nD)

/-- The first product of a run of eight. -/
theorem acc_first (t : Fin cfg0.N) (h : t.val % 8 = 0) :
    (outsAt0 m c t.val t.isLt).2 = k0_pay1 (iblk m c 0 t) (iblk m c 1 t) := by
  rw [outsAt0_A m c t h (by omega) (by omega)]
  dsimp only
  unfold sout0_A_0; rw [View.read_writes_eq_canon _ _ _ (scover0_A_0 c _ _ _ _ _ _ _ _ _ _ _ _ _ _)]
  unfold kernelRun0_A; dsimp only; sl_unfold_words
  simp only [View.readAt_eq_ld, (hs0_0 t).read_unread, (hs0_1 t).read_unread]
  rw [View.canon_unit_zero hz]
  simp only [View.ld_unit_zero (S := S1024x1408) hz, View.ld_unit_zero (S := S1024x2048) hz]

/-- A later product is added to what the scratch holds. -/
theorem acc_later (t : Fin cfg0.N) (h : ¬ t.val % 8 = 0) :
    (outsAt0 m c t.val t.isLt).2 = k0_pay2 (iblk m c 0 t) (iblk m c 1 t)
      (outsAt0 m c (t.val - 1) (Nat.lt_of_le_of_lt (Nat.sub_le _ _) t.isLt)).2 := by
  by_cases h7 : t.val % 8 = 7
  · rw [outsAt0_C m c t h (by omega) h7]
    dsimp only
    unfold sout0_C_0; rw [View.read_writes_eq_canon _ _ _ (scover0_C_0 c _ _ _ _ _ _ _ _ _ _ _ _ _ _ _)]
    unfold kernelRun0_C; dsimp only; sl_unfold_words
    simp only [View.readAt_eq_ld, (hs0_0 t).read_unread, (hs0_1 t).read_unread, (Memref.isWhole_whole _).read_unread]
    rw [View.canon_unit_zero hz]
    simp only [View.ld_unit_zero (S := S1024x1408) hz, View.ld_unit_zero (S := S1024x2048) hz, View.ld_unit_zero (S := S1408x2048) hz]
  · rw [outsAt0_B m c t h (by omega) h7]
    dsimp only
    unfold sout0_B_0; rw [View.read_writes_eq_canon _ _ _ (scover0_B_0 c _ _ _ _ _ _ _ _ _ _ _ _ _ _ _)]
    unfold kernelRun0_B; dsimp only; sl_unfold_words
    simp only [View.readAt_eq_ld, (hs0_0 t).read_unread, (hs0_1 t).read_unread, (Memref.isWhole_whole _).read_unread]
    rw [View.canon_unit_zero hz]
    simp only [View.ld_unit_zero (S := S1024x1408) hz, View.ld_unit_zero (S := S1024x2048) hz, View.ld_unit_zero (S := S1408x2048) hz]

/-- The last of a run of eight writes out what the scratch then holds. -/
theorem out_last (t : Fin cfg0.N) (h : t.val % 8 = 7) :
    (outsAt0 m c t.val t.isLt).1 = k0_pay3 (outsAt0 m c t.val t.isLt).2 := by
  rw [acc_later m c t (by omega), outsAt0_C m c t (by omega) (by omega) h]
  dsimp only
  unfold out0_C_2; rw [View.read_writes_eq_canon _ _ _ (cover0_C_2 c _ _ _ _ _ _ _ _ _ _ _ _ _ _ _)]
  unfold kernelRun0_C; dsimp only; sl_unfold_words
  simp only [View.readAt_eq_ld, (hs0_0 t).read_unread, (hs0_1 t).read_unread, (Memref.isWhole_whole _).read_unread]
  rw [View.canon_unit_zero hz, View.readCov_unit_zero (S := S1408x2048) _ hz]
  simp only [View.ld_unit_zero (S := S1024x1408) hz, View.ld_unit_zero (S := S1024x2048) hz, View.ld_unit_zero (S := S1408x2048) hz]

/-- The payloads at an index. -/
theorem pay1_apply (a : S1024x1408.Idx → EReal) (b : S1024x2048.Idx → EReal) (p : Fin 1408) (q : Fin 2048) :
    (k0_pay1 (F := Ideal) a b (ix2 p q) : EReal) = ∑ r : Fin 1024, a (ix2 r p) * b (ix2 r q) := by
  unfold k0_pay1
  pointwise
theorem pay2_apply (a : S1024x1408.Idx → EReal) (b : S1024x2048.Idx → EReal) (s : S1408x2048.Idx → EReal) (p : Fin 1408) (q : Fin 2048) :
    (k0_pay2 (F := Ideal) a b s (ix2 p q) : EReal) = s (ix2 p q) + ∑ r : Fin 1024, a (ix2 r p) * b (ix2 r q) := by
  unfold k0_pay2
  pointwise

/-- The arguments: the activations, and the gradient of the layer's output. -/
abbrev A0 : S8192x5632.Idx → EReal := m ((c : Thread nD τ).loc main_arg0)
abbrev A1 : S8192x2048.Idx → EReal := m ((c : Thread nD τ).loc main_arg1)

theorem index0 : ∀ t : Fin cfg0.N, win0_0.index t 0 = t.val % 8 ∧ win0_0.index t 1 = t.val / 8 := by decide +kernel
theorem index1 : ∀ t : Fin cfg0.N, win0_1.index t 0 = t.val % 8 ∧ win0_1.index t 1 = 0 := by decide +kernel

/-- The arguments, rounded to bfloat16 by the host: at the extended reals, the arguments. -/
theorem V_0 : V m c main_v0 = A0 m c := by
  rfl
theorem V_1 : V m c main_v1 = A1 m c := by
  rfl

/-- Point `t`'s blocks of them. -/
abbrev X0 (t : Fin cfg0.N) : S1024x1408.Idx → EReal := iblk m c 0 t
abbrev X1 (t : Fin cfg0.N) : S1024x2048.Idx → EReal := iblk m c 1 t

/-- Point `t`'s block of activations. -/
theorem blk0 (t : Fin cfg0.N) (r : Fin 1024) (p : Fin 1408) : X0 m c t (ix2 r p) = A0 m c (ix2
    ⟨1024 * (t.val % 8) + r.val, by omega⟩ ⟨1408 * (t.val / 8) + p.val, by have : t.val < 32 := t.isLt; omega⟩) := by
  unfold X0 iblk
  rw [View.read_apply]
  show V m c main_v0 _ = _
  rw [V_0]
  congr 1
  funext a
  apply Fin.ext
  match a with
  | ⟨0, _⟩ => show win0_0.index t 0 * 1024 + 1 * r.val = 1024 * (t.val % 8) + r.val; rw [(index0 t).1]; omega
  | ⟨1, _⟩ => show win0_0.index t 1 * 1408 + 1 * p.val = 1408 * (t.val / 8) + p.val; rw [(index0 t).2]; omega

/-- Point `t`'s block of the output's gradient. -/
theorem blk1 (t : Fin cfg0.N) (r : Fin 1024) (q : Fin 2048) :
    X1 m c t (ix2 r q) = A1 m c (ix2 ⟨1024 * (t.val % 8) + r.val, by omega⟩ q) := by
  unfold X1 iblk
  rw [View.read_apply]
  show V m c main_v1 _ = _
  rw [V_1]
  congr 1
  funext a
  apply Fin.ext
  match a with
  | ⟨0, _⟩ => show win0_1.index t 0 * 1024 + 1 * r.val = 1024 * (t.val % 8) + r.val; rw [(index1 t).1]; omega
  | ⟨1, _⟩ => show win0_1.index t 1 * 2048 + 1 * q.val = q.val; rw [(index1 t).2]; omega

/-- The gradient: activations transposed times the output's gradient. -/
def grad (a : S8192x5632.Idx → EReal) (b : S8192x2048.Idx → EReal) : S5632x2048.Idx → EReal :=
  fun i => ∑ r : Fin 8192, a (ix2 r (i 0)) * b (ix2 r (i 1))

/-- What the array ends holding. -/
theorem final : (Value.G2 m c : S5632x2048.Idx → EReal) = grad (A0 m c) (A1 m c) := by
  funext i
  have h0 : (i 0).val < 5632 := (i 0).isLt
  have h1 : (i 1).val < 2048 := (i 1).isLt
  have hp : Value.pt2Of i < cfg0.N := by
    show 8 * (1 * ((i 0).val / 1408 - 0) + 1 * ((i 1).val / 2048 - 0)) + 7 < 32
    omega
  have hb : Value.pt2Of i = 8 * ((i 0).val / 1408) + 7 := by
    show 8 * (1 * ((i 0).val / 1408 - 0) + 1 * ((i 1).val / 2048 - 0)) + 7 = _
    omega
  unfold Value.G2
  rw [dif_pos hp, ← Value.outsAt0_sweep m c _ hp, out_last m c ⟨_, hp⟩ (by show Value.pt2Of i % 8 = 7; omega)]
  show (outsAt0 m c (Value.pt2Of i) hp).2 (Value.loc2Of i) = _
  have hl : Value.loc2Of i = ix2 (⟨(i 0).val % 1408, by omega⟩ : Fin 1408) (⟨(i 1).val, h1⟩ : Fin 2048) := by
    funext a
    match a with
    | ⟨0, _⟩ => rfl
    | ⟨1, _⟩ => exact Fin.ext (Nat.mod_eq_of_lt h1)
  rw [hl]
  have key := run_sum (N := cfg0.N) 8
    (fun t h => (outsAt0 m c t h).2 (ix2 (⟨(i 0).val % 1408, by omega⟩ : Fin 1408) (⟨(i 1).val, h1⟩ : Fin 2048)))
    (fun t h => ∑ r : Fin 1024, X0 m c ⟨t, h⟩ (ix2 r (⟨(i 0).val % 1408, by omega⟩ : Fin 1408)) * X1 m c ⟨t, h⟩ (ix2 r (⟨(i 1).val, h1⟩ : Fin 2048)))
    (fun t h ht => by
      show (outsAt0 m c t h).2 _ = _
      rw [acc_first m c ⟨t, h⟩ ht]; exact pay1_apply _ _ _ _)
    (fun t h ht => by
      show (outsAt0 m c t h).2 _ = _
      rw [acc_later m c ⟨t, h⟩ ht]; exact pay2_apply _ _ _ _ _)
    ((i 0).val / 1408) 7 (by omega) (hb ▸ hp)
  simp only [hb]
  refine key.trans ?_
  unfold grad
  rw [sum_rows (a := 8) (b := 1024) rfl]
  refine Finset.sum_congr rfl fun s _ => Finset.sum_congr rfl fun r _ => ?_
  have hs : s.val < 8 := s.isLt
  rw [blk0, blk1]
  congr 2
  · funext a
    apply Fin.ext
    match a with
    | ⟨0, _⟩ => show 1024 * ((8 * ((i 0).val / 1408) + s.val) % 8) + r.val = 1024 * s.val + r.val; omega
    | ⟨1, _⟩ => show 1408 * ((8 * ((i 0).val / 1408) + s.val) / 8) + (i 0).val % 1408 = (i 0).val; omega
  · funext a
    apply Fin.ext
    match a with
    | ⟨0, _⟩ => show 1024 * ((8 * ((i 0).val / 1408) + s.val) % 8) + r.val = 1024 * s.val + r.val; omega
    | ⟨1, _⟩ => rfl

end Cert.OutDwArray

end
-- ==== Proof.Ffn.InDx.lean ====
/- The gradient of the FFN's input: a block of 512 rows gathers four products in a scratch buffer, over the four blocks of
   columns of the input matrix, each computed in four blocks of 512 columns; the last of the four writes it out. The first
   two take the gates' gradient, the last two the other branch's. -/
module

public import proofs.«01_k».proof.Proof.Math.Sums
public import proofs.«01_k».proof.Proof.Math.Side
public import proofs.«01_k».proof.Proof.Gen.InDxIdeal.Value
public import Idealize.ShloMosaic.Lib.Pipeline.ValueKit

@[expose] public section

noncomputable section

namespace Cert.InDxArray

open Idealize.ShloMosaic Idealize.ShloMosaic.TcCoe Idealize.ShloMosaic.Tactic Idealize.SL.Sem
open Cert.InDxIdeal Cert.InDxIdeal.Gen Cert.Attn

variable (m : (ℓ : Loc nD τ sig) → Buf (Elt Ideal) ℓ) (c : Dev nD)

/-- The arguments: the gates' gradient, the other branch's gradient, the input matrix. -/
abbrev A0 : S8192x5632.Idx → EReal := m ((c : Thread nD τ).loc main_arg0)
abbrev A1 : S8192x5632.Idx → EReal := m ((c : Thread nD τ).loc main_arg1)
abbrev A2 : S2048x11264.Idx → EReal := m ((c : Thread nD τ).loc main_arg2)

/-- Point `t`'s blocks of them; `XA` is the one of the first two the point reads. -/
abbrev X0 (t : Fin cfg0.N) : S512x2816.Idx → EReal := iblk m c 0 t
abbrev X1 (t : Fin cfg0.N) : S512x2816.Idx → EReal := iblk m c 1 t
abbrev X2 (t : Fin cfg0.N) : S1x2048x2816.Idx → EReal := iblk m c 2 t
def XA (t : Fin cfg0.N) : S512x2816.Idx → EReal := if t.val % 4 ≤ 1 then X0 m c t else X1 m c t

/-- The payloads at an index. -/
theorem pay_first (a : S512x2816.Idx → EReal) (b : S1x512x2816.Idx → EReal) (p q : Fin 512) :
    (k0_pay2 (F := Ideal) a b (ix2 p q) : EReal) = ∑ r : Fin 2816, a (ix2 p r) * b (ix3 0 q r) := by
  unfold k0_pay2 k0_pay1
  pointwise
theorem pay_later (a : S512x2816.Idx → EReal) (b : S1x512x2816.Idx → EReal) (s : S512x512.Idx → EReal) (p q : Fin 512) :
    (k0_pay18 (F := Ideal) a b s (ix2 p q) : EReal) = s (ix2 p q) + ∑ r : Fin 2816, a (ix2 p r) * b (ix3 0 q r) := by
  unfold k0_pay18 k0_pay17
  pointwise

/-- An index of a block of 512 columns, from its place in the whole block. -/
theorem idx_eq (x : S512x512.Idx) (p : Fin 512) (h : p.val = (x 0).val) : x = ix2 p (x 1) := funext fun a => by
  match a with
  | ⟨0, _⟩ => exact Fin.ext h.symm
  | ⟨1, _⟩ => rfl

/-- The first product of a run of four. -/
theorem acc_first (t : Fin cfg0.N) (h : t.val % 4 = 0) (p : Fin 512) (q : Fin 2048) :
    (outsAt0 m c t.val t.isLt).2 (ix2 p q) = ∑ r : Fin 2816, XA m c t (ix2 p r) * X2 m c t (ix3 0 q r) := by
  unfold XA
  rw [if_pos (by omega)]
  rw [outsAt0_A m c t (by omega) h (by omega) (by omega) (by omega)]
  dsimp only
  unfold sout0_A_0; rw [View.read_writes_eq_canon _ _ _ (scover0_A_0 c _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread]
  canon_tiles x hx
  all_goals
    rw [idx_eq x p hx0]
    refine (pay_first _ _ p (x 1)).trans (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix3 0 q r) (fun a => by
        match a with
        | ⟨0, _⟩ => rfl
        | ⟨1, _⟩ => first | exact hx1 | exact hx1.trans (Nat.zero_add _).symm
        | ⟨2, _⟩ => exact (Nat.zero_add _).symm)

/-- A later product is added to what the scratch holds. -/
theorem acc_later (t : Fin cfg0.N) (h : ¬ t.val % 4 = 0) (p : Fin 512) (q : Fin 2048) :
    (outsAt0 m c t.val t.isLt).2 (ix2 p q) = ((outsAt0 m c (t.val - 1) (Nat.lt_of_le_of_lt (Nat.sub_le _ _) t.isLt)).2 (ix2 p q) : EReal)
      + ∑ r : Fin 2816, XA m c t (ix2 p r) * X2 m c t (ix3 0 q r) := by
  have hcase : t.val % 4 = 1 ∨ t.val % 4 = 2 ∨ t.val % 4 = 3 := by omega
  unfold XA
  rcases hcase with h1 | h1 | h1
  · rw [if_pos (by omega)]
    rw [outsAt0_B m c t (by omega) h (by omega) (by omega) (by omega)]
    dsimp only
    unfold sout0_B_0; rw [View.read_writes_eq_canon _ _ _ (scover0_B_0 c _ _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (Memref.isWhole_whole _).read_unread]
    canon_tiles x hx
    all_goals
      rw [idx_eq x p hx0]
      refine (pay_later _ _ _ p (x 1)).trans (congrArg₂ (· + ·) ?_ (Finset.sum_congr rfl fun r _ => congrArg₂ (· * ·) ?_ ?_))
      · exact View.ld_unit_apply_of _ _ _ _ _ (ix2 p q) (Fin.forall_fin_two.2 ⟨(Nat.zero_add _).symm, by first | exact hx1 | exact hx1.trans (Nat.zero_add _).symm⟩)
      · exact View.ld_unit_apply_of _ _ _ _ _ (ix2 p r) (Fin.forall_fin_two.2 ⟨(Nat.zero_add _).symm, (Nat.zero_add _).symm⟩)
      · exact View.ld_unit_apply_of _ _ _ _ _ (ix3 0 q r) (fun a => by
          match a with
          | ⟨0, _⟩ => rfl
          | ⟨1, _⟩ => first | exact hx1 | exact hx1.trans (Nat.zero_add _).symm
          | ⟨2, _⟩ => exact (Nat.zero_add _).symm)
  · rw [if_neg (by omega)]
    rw [outsAt0_C m c t (by omega) (by omega) h (by omega) (by omega)]
    dsimp only
    unfold sout0_C_0; rw [View.read_writes_eq_canon _ _ _ (scover0_C_0 c _ _ _ _ _ _ _ _ _ _ _ _ _ _ _ _ _ _ _ _)]
    unfold kernelRun0_C; dsimp only; sl_unfold_words
    simp only [View.readAt_eq_ld, (hs0_0 t).read_unread, (hs0_1 t).read_unread, (hs0_2 t).read_unread, (Memref.isWhole_whole _).read_unread]
    canon_tiles x hx
    all_goals
      rw [idx_eq x p hx0]
      refine (pay_later _ _ _ p (x 1)).trans (congrArg₂ (· + ·) ?_ (Finset.sum_congr rfl fun r _ => congrArg₂ (· * ·) ?_ ?_))
      · exact View.ld_unit_apply_of _ _ _ _ _ (ix2 p q) (Fin.forall_fin_two.2 ⟨(Nat.zero_add _).symm, by first | exact hx1 | exact hx1.trans (Nat.zero_add _).symm⟩)
      · exact View.ld_unit_apply_of _ _ _ _ _ (ix2 p r) (Fin.forall_fin_two.2 ⟨(Nat.zero_add _).symm, (Nat.zero_add _).symm⟩)
      · exact View.ld_unit_apply_of _ _ _ _ _ (ix3 0 q r) (fun a => by
          match a with
          | ⟨0, _⟩ => rfl
          | ⟨1, _⟩ => first | exact hx1 | exact hx1.trans (Nat.zero_add _).symm
          | ⟨2, _⟩ => exact (Nat.zero_add _).symm)
  · rw [if_neg (by omega)]
    rw [outsAt0_D m c t (by omega) (by omega) h (by omega) h1]
    dsimp only
    unfold sout0_D_0; rw [View.read_writes_eq_canon _ _ _ (scover0_D_0 c _ _ _ _ _ _ _ _ _ _ _ _ _ _ _ _ _ _ _ _)]
    unfold kernelRun0_D; dsimp only; sl_unfold_words
    simp only [View.readAt_eq_ld, (hs0_0 t).read_unread, (hs0_1 t).read_unread, (hs0_2 t).read_unread, (Memref.isWhole_whole _).read_unread]
    canon_tiles x hx
    all_goals
      rw [idx_eq x p hx0]
      refine (pay_later _ _ _ p (x 1)).trans (congrArg₂ (· + ·) ?_ (Finset.sum_congr rfl fun r _ => congrArg₂ (· * ·) ?_ ?_))
      · exact View.ld_unit_apply_of _ _ _ _ _ (ix2 p q) (Fin.forall_fin_two.2 ⟨(Nat.zero_add _).symm, by first | exact hx1 | exact hx1.trans (Nat.zero_add _).symm⟩)
      · exact View.ld_unit_apply_of _ _ _ _ _ (ix2 p r) (Fin.forall_fin_two.2 ⟨(Nat.zero_add _).symm, (Nat.zero_add _).symm⟩)
      · exact View.ld_unit_apply_of _ _ _ _ _ (ix3 0 q r) (fun a => by
          match a with
          | ⟨0, _⟩ => rfl
          | ⟨1, _⟩ => first | exact hx1 | exact hx1.trans (Nat.zero_add _).symm
          | ⟨2, _⟩ => exact (Nat.zero_add _).symm)

/-- The last of a run of four writes out what the scratch then holds. -/
theorem out_last (t : Fin cfg0.N) (h : t.val % 4 = 3) :
    (outsAt0 m c t.val t.isLt).1 = k0_pay16 (outsAt0 m c t.val t.isLt).2 := by
  rw [outsAt0_D m c t (by omega) (by omega) (by omega) (by omega) h]
  dsimp only
  unfold out0_D_3 sout0_D_0
  rw [View.read_writes_eq_canon _ _ _ (cover0_D_3 c _ _ _ _ _ _ _ _ _ _ _ _ _ _ _ _ _ _ _ _), View.read_writes_eq_canon _ _ _ (scover0_D_0 c _ _ _ _ _ _ _ _ _ _ _ _ _ _ _ _ _ _ _ _)]
  have hc := scover0_D_0 (F := Ideal) c (grid0.coords t) (ms0_0 t) (hs0_0 t) (ms0_1 t) (hs0_1 t) (ms0_2 t) (hs0_2 t) (ms0_3 t) (hs0_3 t) scM0_0 (Memref.isWhole_whole _)
    (fun h' => (show ¬ t.val % 4 ≤ 1 by omega) ((hcond0_0 t).mp h')) ((hcond0_4 t).mpr (by omega)) (fun h' => (show ¬ t.val % 4 = 0 by omega) ((hcond0_5 t).mp h'))
    ((hcond0_6 t).mpr (by omega)) ((hcond0_7 t).mpr h) (iblk m c 0 t) (iblk m c 1 t) (iblk m c 2 t) (outsAt0 m c (t.val - 1) (Nat.lt_of_le_of_lt (Nat.sub_le _ _) t.isLt)).2
  revert hc
  unfold kernelRun0_D; dsimp only; sl_unfold_words
  intro hc
  rw [View.canon_unit_zero hz, View.readCov_eq_canon_ld _ _ _ hc]
  rw [View.ld_unit_zero (S := S512x2048) hz]

theorem pay16_apply (s : S512x2048.Idx → EReal) (i : S512x2048.Idx) : (k0_pay16 (F := Ideal) s i : EReal) = s i := by
  rfl

theorem index0 : ∀ t : Fin cfg0.N, t.val % 4 ≤ 1 → win0_0.index t 0 = t.val / 4 ∧ win0_0.index t 1 = t.val % 4 := by decide +kernel
theorem index1 : ∀ t : Fin cfg0.N, ¬ t.val % 4 ≤ 1 → win0_1.index t 0 = t.val / 4 ∧ win0_1.index t 1 = t.val % 4 - 2 := by decide +kernel
theorem index2 : ∀ t : Fin cfg0.N, win0_2.index t 0 = t.val % 4 ∧ win0_2.index t 1 = 0 ∧ win0_2.index t 2 = 0 := by decide +kernel
theorem index3 : ∀ t : Fin cfg0.N, win0_3.index t 0 = t.val / 4 ∧ win0_3.index t 1 = 0 := by decide +kernel

/-- The arguments, rounded to bfloat16 by the host: at the extended reals, the arguments. -/
theorem V_0 : V m c main_v0 = A0 m c := by
  rfl
theorem V_1 : V m c main_v1 = A1 m c := by
  rfl

/-- The input matrix, its columns in four blocks. -/
theorem V_2 (b : Fin 4) (q : Fin 2048) (r : Fin 2816) : (V m c main_v4 : S4x2048x2816.Idx → EReal) (ix3 b q r)
    = A2 m c (ix2 q ⟨2816 * b.val + r.val, by omega⟩) := by
  show transpose S4x2048x2816 [1, 0, 2] (shapeCast S2048x4x2816 (A2 m c) shapeCasts_S2048x11264_S2048x4x2816) transposes_S2048x4x2816_S4x2048x2816_1_0_2 (ix3 b q r) = _
  refine (transpose_apply (t := S4x2048x2816) [1, 0, 2] _ _ _ (ix3 q b r) (fun a => match a with | ⟨0, _⟩ => rfl | ⟨1, _⟩ => rfl | ⟨2, _⟩ => rfl)).trans ?_
  refine shapeCast_apply _ _ _ _ ?_
  rw [Shape.rowMajor_val_two, Shape.rowMajor_val_three]
  show q.val * 11264 + (2816 * b.val + r.val) = (q.val * 4 + b.val) * 2816 + r.val
  omega

/-- Point `t`'s block of the gradients side by side. -/
theorem blkA (t : Fin cfg0.N) (p : Fin 512) (r : Fin 2816) : XA m c t (ix2 p r) = side (A0 m c) (A1 m c)
    ⟨512 * (t.val / 4) + p.val, by have : t.val < 64 := t.isLt; omega⟩ ⟨2816 * (t.val % 4) + r.val, by omega⟩ := by
  have hr : r.val < 2816 := r.isLt
  unfold XA side
  split
  · rename_i hb
    rw [dif_pos (show 2816 * (t.val % 4) + r.val < 5632 by omega)]
    unfold X0 iblk
    rw [View.read_apply]
    show V m c main_v0 _ = _
    rw [V_0]
    congr 1
    funext a
    apply Fin.ext
    match a with
    | ⟨0, _⟩ => show win0_0.index t 0 * 512 + 1 * p.val = 512 * (t.val / 4) + p.val; rw [(index0 t hb).1]; omega
    | ⟨1, _⟩ => show win0_0.index t 1 * 2816 + 1 * r.val = 2816 * (t.val % 4) + r.val; rw [(index0 t hb).2]; omega
  · rename_i hb
    rw [dif_neg (show ¬ 2816 * (t.val % 4) + r.val < 5632 by omega)]
    unfold X1 iblk
    rw [View.read_apply]
    show V m c main_v1 _ = _
    rw [V_1]
    congr 1
    funext a
    apply Fin.ext
    match a with
    | ⟨0, _⟩ => show win0_1.index t 0 * 512 + 1 * p.val = 512 * (t.val / 4) + p.val; rw [(index1 t hb).1]; omega
    | ⟨1, _⟩ => show win0_1.index t 1 * 2816 + 1 * r.val = 2816 * (t.val % 4) + r.val - 5632; rw [(index1 t hb).2]; omega

/-- Point `t`'s block of the input matrix. -/
theorem blk2 (t : Fin cfg0.N) (q : Fin 2048) (r : Fin 2816) :
    X2 m c t (ix3 0 q r) = A2 m c (ix2 q ⟨2816 * (t.val % 4) + r.val, by omega⟩) := by
  unfold X2 iblk
  rw [View.read_apply]
  refine Eq.trans ?_ (V_2 m c ⟨t.val % 4, by omega⟩ q r)
  show V m c main_v4 _ = _
  congr 1
  funext a
  apply Fin.ext
  match a with
  | ⟨0, _⟩ => show win0_2.index t 0 * 1 + 1 * 0 = t.val % 4; rw [(index2 t).1]; omega
  | ⟨1, _⟩ => show win0_2.index t 1 * 2048 + 1 * q.val = q.val; rw [(index2 t).2.1]; omega
  | ⟨2, _⟩ => show win0_2.index t 2 * 2816 + 1 * r.val = r.val; rw [(index2 t).2.2]; omega

/-- The gradient: the two gradients side by side times the input matrix transposed. -/
def grad (g u : S8192x5632.Idx → EReal) (w : S2048x11264.Idx → EReal) : S8192x2048.Idx → EReal :=
  fun i => ∑ r : Fin 11264, side g u (i 0) r * w (ix2 (i 1) r)

/-- The last of a run of four leaves its block of the gradient. -/
theorem out_apply (t : Fin cfg0.N) (h : t.val % 4 = 3) (p : Fin 512) (q : Fin 2048) :
    (outsAt0 m c t.val t.isLt).1 (ix2 p q)
      = ∑ r : Fin 11264, side (A0 m c) (A1 m c) ⟨512 * (t.val / 4) + p.val, by have : t.val < 64 := t.isLt; omega⟩ r * A2 m c (ix2 q r) := by
  rw [out_last m c t h, pay16_apply]
  have key := run_sum (N := cfg0.N) 4
    (fun t h => (outsAt0 m c t h).2 (ix2 p q))
    (fun t h => ∑ r : Fin 2816, XA m c ⟨t, h⟩ (ix2 p r) * X2 m c ⟨t, h⟩ (ix3 0 q r))
    (fun t h ht => acc_first m c ⟨t, h⟩ ht p q) (fun t h ht => acc_later m c ⟨t, h⟩ ht p q)
    (t.val / 4) 3 (by omega) (by have := t.isLt; omega)
  have ht : 4 * (t.val / 4) + 3 = t.val := by omega
  simp only [ht] at key
  refine key.trans ?_
  rw [sum_rows (a := 4) (b := 2816) rfl]
  refine Finset.sum_congr rfl fun s _ => Finset.sum_congr rfl fun r _ => ?_
  have hs : s.val < 4 := s.isLt
  rw [blkA, blk2]
  congr 2
  · apply Fin.ext
    show 512 * ((4 * (t.val / 4) + s.val) / 4) + p.val = 512 * (t.val / 4) + p.val; omega
  · apply Fin.ext
    show 2816 * ((4 * (t.val / 4) + s.val) % 4) + r.val = 2816 * s.val + r.val; omega
  · funext a
    apply Fin.ext
    match a with
    | ⟨0, _⟩ => rfl
    | ⟨1, _⟩ => show 2816 * ((4 * (t.val / 4) + s.val) % 4) + r.val = 2816 * s.val + r.val; omega

/-- Each block is written at its place. -/
theorem flushed_eq (t : Fin cfg0.N) (hf : (cfg0.win 3).flush t = true) :
    (dats m 0 c).flushed 3 t = ((cfg0.win 3).blk t).view.read (Elt Ideal) (grad (A0 m c) (A1 m c) (A2 m c)) := by
  rw [Value.flushed3]
  funext i
  rw [View.read_apply]
  refine Eq.trans ?_ (cast_eq _ _).symm
  show (outsAt0 m c t.val t.isLt).1 i = _
  obtain ⟨p, q, rfl⟩ : ∃ (p : Fin 512) (q : Fin 2048), i = ix2 p q :=
    ⟨i 0, i 1, funext fun a => by match a with | ⟨0, _⟩ => rfl | ⟨1, _⟩ => rfl⟩
  rw [out_apply m c t ((flush0_3 t).mp hf)]
  unfold grad
  refine Finset.sum_congr rfl fun r _ => ?_
  congr 2
  · apply Fin.ext
    show 512 * (t.val / 4) + p.val = win0_3.index t 0 * 512 + 1 * p.val; rw [(index3 t).1]; omega
  · funext a
    apply Fin.ext
    match a with
    | ⟨0, _⟩ => show q.val = win0_3.index t 1 * 2048 + 1 * q.val; rw [(index3 t).2]; omega
    | ⟨1, _⟩ => rfl

/-- The gradient after the run. -/
theorem final : (dats m 0 c).arrAt 3 cfg0.N = grad (A0 m c) (A1 m c) (A2 m c) :=
  (dats m 0 c).arrAt_eq_of_cover 3 _ (flushed_eq m c) fun i => by
    have h0 : (i 0).val < 8192 := (i 0).isLt
    have h1 : (i 1).val < 2048 := (i 1).isLt
    have ht : 4 * ((i 0).val / 512) + 3 < 64 := by omega
    refine ⟨⟨_, ht⟩, (flush0_3 _).mpr (by show (4 * ((i 0).val / 512) + 3) % 4 = 3; omega), ?_⟩
    show i ∈ ((View.whole main_v5).slice (win0_3.rect ⟨_, ht⟩)).set
    rw [View.set_slice_whole, Rect.mem_set_unit]
    obtain ⟨e0, e1⟩ := index3 ⟨_, ht⟩
    intro a
    match a with
    | ⟨0, _⟩ => show win0_3.index _ 0 * 512 ≤ (i 0).val ∧ (i 0).val < win0_3.index _ 0 * 512 + 512; rw [e0]; dsimp only; omega
    | ⟨1, _⟩ => show win0_3.index _ 1 * 2048 ≤ (i 1).val ∧ (i 1).val < win0_3.index _ 1 * 2048 + 2048; rw [e1]; omega

end Cert.InDxArray

end
-- ==== Proof.Ffn.InDw.lean ====
/- The gradient of the FFN's input matrix: a block of it gathers the products of four blocks of 2048 rows in a scratch
   buffer, and the last of the four writes it out. The left half of the columns takes its cotangent from the gates'
   gradient, the right half from the other branch's; the result is held in four blocks of columns. -/
module

public import proofs.«01_k».proof.Proof.Math.Sums
public import proofs.«01_k».proof.Proof.Math.Side
public import proofs.«01_k».proof.Proof.Gen.InDwIdeal.Value

@[expose] public section

noncomputable section

namespace Cert.InDwArray

open Idealize.ShloMosaic Idealize.ShloMosaic.TcCoe Idealize.ShloMosaic.Tactic Idealize.SL.Sem
open Cert.InDwIdeal Cert.InDwIdeal.Gen Cert.Attn
open Idealize.ShloMosaic.Pipeline (Dat)

variable (m : (ℓ : Loc nD τ sig) → Buf (Elt Ideal) ℓ) (c : Dev nD)

/-- The arguments: the normalised inputs, the gates' gradient, the other branch's gradient. -/
abbrev A0 : S8192x2048.Idx → EReal := m ((c : Thread nD τ).loc main_arg0)
abbrev A1 : S8192x5632.Idx → EReal := m ((c : Thread nD τ).loc main_arg1)
abbrev A2 : S8192x5632.Idx → EReal := m ((c : Thread nD τ).loc main_arg2)

/-- Point `t`'s blocks of them; `XB` is the one of the last two the point reads. -/
abbrev X0 (t : Fin cfg0.N) : S2048x1024.Idx → EReal := iblk m c 0 t
abbrev X1 (t : Fin cfg0.N) : S2048x1408.Idx → EReal := iblk m c 1 t
abbrev X2 (t : Fin cfg0.N) : S2048x1408.Idx → EReal := iblk m c 2 t
def XB (t : Fin cfg0.N) : S2048x1408.Idx → EReal := if t.val / 4 % 8 ≤ 3 then X1 m c t else X2 m c t

/-- The first product of a run of four. -/
theorem acc_first (t : Fin cfg0.N) (h : t.val % 4 = 0) :
    (outsAt0 m c t.val t.isLt).2 = k0_pay1 (F := Ideal) (X0 m c t) (XB m c t) := by
  unfold XB
  split
  · rename_i hb
    rw [outsAt0_A m c t hb h (by omega) (by omega) (by omega)]
    dsimp only
    unfold sout0_A_0; rw [View.read_writes_eq_canon _ _ _ (scover0_A_0 c _ _ _ _ _ _ _ _ _ _ _ _ _ _ _ _ _ _ _)]
    unfold kernelRun0_A; dsimp only; sl_unfold_words
    simp only [View.readAt_eq_ld, (hs0_0 t).read_unread, (hs0_1 t).read_unread, (hs0_2 t).read_unread]
    rw [View.canon_unit_zero hz]
    simp only [View.ld_unit_zero (S := S2048x1024) hz, View.ld_unit_zero (S := S2048x1408) hz]
  · rename_i hb
    rw [outsAt0_D m c t hb (by omega) h (by omega) (by omega)]
    dsimp only
    unfold sout0_D_0; rw [View.read_writes_eq_canon _ _ _ (scover0_D_0 c _ _ _ _ _ _ _ _ _ _ _ _ _ _ _ _ _ _ _)]
    unfold kernelRun0_D; dsimp only; sl_unfold_words
    simp only [View.readAt_eq_ld, (hs0_0 t).read_unread, (hs0_1 t).read_unread, (hs0_2 t).read_unread]
    rw [View.canon_unit_zero hz]
    simp only [View.ld_unit_zero (S := S2048x1024) hz, View.ld_unit_zero (S := S2048x1408) hz]
    rfl

/-- A later product is added to what the scratch holds. -/
theorem acc_later (t : Fin cfg0.N) (h : ¬ t.val % 4 = 0) :
    (outsAt0 m c t.val t.isLt).2 = k0_pay2 (F := Ideal) (X0 m c t) (XB m c t)
      (outsAt0 m c (t.val - 1) (Nat.lt_of_le_of_lt (Nat.sub_le _ _) t.isLt)).2 := by
  unfold XB
  split <;> rename_i hb <;> by_cases h3 : t.val % 4 = 3
  · rw [outsAt0_C m c t hb h (by omega) h3 (by omega)]
    dsimp only
    unfold sout0_C_0; rw [View.read_writes_eq_canon _ _ _ (scover0_C_0 c _ _ _ _ _ _ _ _ _ _ _ _ _ _ _ _ _ _ _ _)]
    unfold kernelRun0_C; dsimp only; sl_unfold_words
    simp only [View.readAt_eq_ld, (hs0_0 t).read_unread, (hs0_1 t).read_unread, (hs0_2 t).read_unread, (Memref.isWhole_whole _).read_unread]
    rw [View.canon_unit_zero hz]
    simp only [View.ld_unit_zero (S := S2048x1024) hz, View.ld_unit_zero (S := S2048x1408) hz, View.ld_unit_zero (S := S1024x1408) hz]
  · rw [outsAt0_B m c t hb h (by omega) h3 (by omega)]
    dsimp only
    unfold sout0_B_0; rw [View.read_writes_eq_canon _ _ _ (scover0_B_0 c _ _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (Memref.isWhole_whole _).read_unread]
    rw [View.canon_unit_zero hz]
    simp only [View.ld_unit_zero (S := S2048x1024) hz, View.ld_unit_zero (S := S2048x1408) hz, View.ld_unit_zero (S := S1024x1408) hz]
  · rw [outsAt0_F m c t hb (by omega) h (by omega) h3]
    dsimp only
    unfold sout0_F_0; rw [View.read_writes_eq_canon _ _ _ (scover0_F_0 c _ _ _ _ _ _ _ _ _ _ _ _ _ _ _ _ _ _ _ _)]
    unfold kernelRun0_F; dsimp only; sl_unfold_words
    simp only [View.readAt_eq_ld, (hs0_0 t).read_unread, (hs0_1 t).read_unread, (hs0_2 t).read_unread, (Memref.isWhole_whole _).read_unread]
    rw [View.canon_unit_zero hz]
    simp only [View.ld_unit_zero (S := S2048x1024) hz, View.ld_unit_zero (S := S2048x1408) hz, View.ld_unit_zero (S := S1024x1408) hz]
    rfl
  · rw [outsAt0_E m c t hb (by omega) h (by omega) h3]
    dsimp only
    unfold sout0_E_0; rw [View.read_writes_eq_canon _ _ _ (scover0_E_0 c _ _ _ _ _ _ _ _ _ _ _ _ _ _ _ _ _ _ _ _)]
    unfold kernelRun0_E; dsimp only; sl_unfold_words
    simp only [View.readAt_eq_ld, (hs0_0 t).read_unread, (hs0_1 t).read_unread, (hs0_2 t).read_unread, (Memref.isWhole_whole _).read_unread]
    rw [View.canon_unit_zero hz]
    simp only [View.ld_unit_zero (S := S2048x1024) hz, View.ld_unit_zero (S := S2048x1408) hz, View.ld_unit_zero (S := S1024x1408) hz]
    rfl

/-- The last of a run of four writes out what the scratch then holds. -/
theorem out_last (t : Fin cfg0.N) (h : t.val % 4 = 3) :
    (outsAt0 m c t.val t.isLt).1 = k0_pay3 (outsAt0 m c t.val t.isLt).2 := by
  rw [acc_later m c t (by omega)]
  unfold XB
  split <;> rename_i hb
  · rw [outsAt0_C m c t hb (by omega) (by omega) h (by omega)]
    dsimp only
    unfold out0_C_3; rw [View.read_writes_eq_canon _ _ _ (cover0_C_3 c _ _ _ _ _ _ _ _ _ _ _ _ _ _ _ _ _ _ _ _)]
    unfold kernelRun0_C; dsimp only; sl_unfold_words
    simp only [View.readAt_eq_ld, (hs0_0 t).read_unread, (hs0_1 t).read_unread, (hs0_2 t).read_unread, (Memref.isWhole_whole _).read_unread]
    rw [View.canon_unit_zero hz3, View.readCov_unit_zero (S := S1024x1408) _ hz]
    simp only [View.ld_unit_zero (S := S2048x1024) hz, View.ld_unit_zero (S := S2048x1408) hz, View.ld_unit_zero (S := S1024x1408) hz]
  · rw [outsAt0_F m c t hb (by omega) (by omega) (by omega) h]
    dsimp only
    unfold out0_F_3; rw [View.read_writes_eq_canon _ _ _ (cover0_F_3 c _ _ _ _ _ _ _ _ _ _ _ _ _ _ _ _ _ _ _ _)]
    unfold kernelRun0_F; dsimp only; sl_unfold_words
    simp only [View.readAt_eq_ld, (hs0_0 t).read_unread, (hs0_1 t).read_unread, (hs0_2 t).read_unread, (Memref.isWhole_whole _).read_unread]
    rw [View.canon_unit_zero hz3, View.readCov_unit_zero (S := S1024x1408) _ hz]
    simp only [View.ld_unit_zero (S := S2048x1024) hz, View.ld_unit_zero (S := S2048x1408) hz, View.ld_unit_zero (S := S1024x1408) hz]
    rfl

/-- The payloads at an index. -/
theorem pay1_apply (a : S2048x1024.Idx → EReal) (b : S2048x1408.Idx → EReal) (p : Fin 1024) (q : Fin 1408) :
    (k0_pay1 (F := Ideal) a b (ix2 p q) : EReal) = ∑ r : Fin 2048, a (ix2 r p) * b (ix2 r q) := by
  unfold k0_pay1
  pointwise
theorem pay2_apply (a : S2048x1024.Idx → EReal) (b : S2048x1408.Idx → EReal) (s : S1024x1408.Idx → EReal) (p : Fin 1024) (q : Fin 1408) :
    (k0_pay2 (F := Ideal) a b s (ix2 p q) : EReal) = s (ix2 p q) + ∑ r : Fin 2048, a (ix2 r p) * b (ix2 r q) := by
  unfold k0_pay2
  pointwise
theorem pay3_apply (s : S1024x1408.Idx → EReal) (z : Fin 1) (p : Fin 1024) (q : Fin 1408) :
    (k0_pay3 (F := Ideal) s (ix3 z p q) : EReal) = s (ix2 p q) := by
  unfold k0_pay3
  pointwise

theorem index0 : ∀ t : Fin cfg0.N, win0_0.index t 0 = t.val % 4 ∧ win0_0.index t 1 = t.val / 32 := by decide +kernel
theorem index1 : ∀ t : Fin cfg0.N, t.val / 4 % 8 ≤ 3 → win0_1.index t 0 = t.val % 4 ∧ win0_1.index t 1 = t.val / 4 % 8 := by decide +kernel
theorem index2 : ∀ t : Fin cfg0.N, ¬ t.val / 4 % 8 ≤ 3 → win0_2.index t 0 = t.val % 4 ∧ win0_2.index t 1 = t.val / 4 % 8 - 4 := by decide +kernel
theorem index3 : ∀ t : Fin cfg0.N, win0_3.index t 0 = t.val / 4 % 8 / 2 ∧ win0_3.index t 1 = t.val / 32 ∧ win0_3.index t 2 = t.val / 4 % 2 := by
  decide +kernel

/-- The arguments, rounded to bfloat16 by the host: at the extended reals, the arguments. -/
theorem V_0 : V m c main_v0 = A0 m c := by
  rfl
theorem V_1 : V m c main_v1 = A1 m c := by
  rfl
theorem V_2 : V m c main_v2 = A2 m c := by
  rfl

/-- Point `t`'s block of inputs. -/
theorem blk0 (t : Fin cfg0.N) (r : Fin 2048) (p : Fin 1024) : X0 m c t (ix2 r p) = A0 m c (ix2
    ⟨2048 * (t.val % 4) + r.val, by omega⟩ ⟨1024 * (t.val / 32) + p.val, by have : t.val < 64 := t.isLt; omega⟩) := by
  unfold X0 iblk
  rw [View.read_apply]
  show V m c main_v0 _ = _
  rw [V_0]
  congr 1
  funext a
  apply Fin.ext
  match a with
  | ⟨0, _⟩ => show win0_0.index t 0 * 2048 + 1 * r.val = 2048 * (t.val % 4) + r.val; rw [(index0 t).1]; omega
  | ⟨1, _⟩ => show win0_0.index t 1 * 1024 + 1 * p.val = 1024 * (t.val / 32) + p.val; rw [(index0 t).2]; omega

/-- Point `t`'s block of the gradients side by side. -/
theorem blkB (t : Fin cfg0.N) (r : Fin 2048) (q : Fin 1408) : XB m c t (ix2 r q) = side (A1 m c) (A2 m c)
    ⟨2048 * (t.val % 4) + r.val, by omega⟩ ⟨1408 * (t.val / 4 % 8) + q.val, by omega⟩ := by
  have hq : q.val < 1408 := q.isLt
  unfold XB side
  split
  · rename_i hb
    rw [dif_pos (show 1408 * (t.val / 4 % 8) + q.val < 5632 by omega)]
    unfold X1 iblk
    rw [View.read_apply]
    show V m c main_v1 _ = _
    rw [V_1]
    congr 1
    funext a
    apply Fin.ext
    match a with
    | ⟨0, _⟩ => show win0_1.index t 0 * 2048 + 1 * r.val = 2048 * (t.val % 4) + r.val; rw [(index1 t hb).1]; omega
    | ⟨1, _⟩ => show win0_1.index t 1 * 1408 + 1 * q.val = 1408 * (t.val / 4 % 8) + q.val; rw [(index1 t hb).2]; omega
  · rename_i hb
    rw [dif_neg (show ¬ 1408 * (t.val / 4 % 8) + q.val < 5632 by omega)]
    unfold X2 iblk
    rw [View.read_apply]
    show V m c main_v2 _ = _
    rw [V_2]
    congr 1
    funext a
    apply Fin.ext
    match a with
    | ⟨0, _⟩ => show win0_2.index t 0 * 2048 + 1 * r.val = 2048 * (t.val % 4) + r.val; rw [(index2 t hb).1]; omega
    | ⟨1, _⟩ => show win0_2.index t 1 * 1408 + 1 * q.val = 1408 * (t.val / 4 % 8) + q.val - 5632; rw [(index2 t hb).2]; omega

/-- The gradient: the inputs transposed times the two gradients side by side, in four blocks of columns. -/
def grad (x : S8192x2048.Idx → EReal) (g u : S8192x5632.Idx → EReal) : S4x2048x2816.Idx → EReal :=
  fun i => ∑ r : Fin 8192, x (ix2 r (i 1)) * side g u r ⟨2816 * (i 0).val + (i 2).val, by
    have h0 : (i 0).val < 4 := (i 0).isLt
    have h2 : (i 2).val < 2816 := (i 2).isLt
    omega⟩

/-- The last of a run of four leaves its block of the gradient. -/
theorem out_apply (t : Fin cfg0.N) (h : t.val % 4 = 3) (z : Fin 1) (p : Fin 1024) (q : Fin 1408) :
    (outsAt0 m c t.val t.isLt).1 (ix3 z p q) = ∑ r : Fin 8192, A0 m c (ix2 r ⟨1024 * (t.val / 32) + p.val, by have : t.val < 64 := t.isLt; omega⟩)
      * side (A1 m c) (A2 m c) r ⟨1408 * (t.val / 4 % 8) + q.val, by omega⟩ := by
  rw [out_last m c t h, pay3_apply]
  have key := run_sum (N := cfg0.N) 4
    (fun t h => (outsAt0 m c t h).2 (ix2 p q))
    (fun t h => ∑ r : Fin 2048, X0 m c ⟨t, h⟩ (ix2 r p) * XB m c ⟨t, h⟩ (ix2 r q))
    (fun t h ht => by
      show (outsAt0 m c t h).2 _ = _
      rw [acc_first m c ⟨t, h⟩ ht]; exact pay1_apply _ _ _ _)
    (fun t h ht => by
      show (outsAt0 m c t h).2 _ = _
      rw [acc_later m c ⟨t, h⟩ ht]; exact pay2_apply _ _ _ _ _)
    (t.val / 4) 3 (by omega) (by have := t.isLt; omega)
  have ht : 4 * (t.val / 4) + 3 = t.val := by omega
  simp only [ht] at key
  refine key.trans ?_
  rw [sum_rows (a := 4) (b := 2048) rfl]
  refine Finset.sum_congr rfl fun s _ => Finset.sum_congr rfl fun r _ => ?_
  have hs : s.val < 4 := s.isLt
  rw [blk0, blkB]
  congr 2
  · funext a
    apply Fin.ext
    match a with
    | ⟨0, _⟩ => show 2048 * ((4 * (t.val / 4) + s.val) % 4) + r.val = 2048 * s.val + r.val; omega
    | ⟨1, _⟩ => show 1024 * ((4 * (t.val / 4) + s.val) / 32) + p.val = 1024 * (t.val / 32) + p.val; omega
  · apply Fin.ext
    show 2048 * ((4 * (t.val / 4) + s.val) % 4) + r.val = 2048 * s.val + r.val; omega
  · apply Fin.ext
    show 1408 * ((4 * (t.val / 4) + s.val) / 4 % 8) + q.val = 1408 * (t.val / 4 % 8) + q.val; omega

/-- Each block is written at its place. -/
theorem flushed_eq (t : Fin cfg0.N) (hf : (cfg0.win 3).flush t = true) :
    (dats m 0 c).flushed 3 t = ((cfg0.win 3).blk t).view.read (Elt Ideal) (grad (A0 m c) (A1 m c) (A2 m c)) := by
  rw [Value.flushed3]
  funext i
  rw [View.read_apply]
  refine Eq.trans ?_ (cast_eq _ _).symm
  show (outsAt0 m c t.val t.isLt).1 i = _
  obtain ⟨z, p, q, rfl⟩ : ∃ (z : Fin 1) (p : Fin 1024) (q : Fin 1408), i = ix3 z p q :=
    ⟨i 0, i 1, i 2, funext fun a => by match a with | ⟨0, _⟩ => rfl | ⟨1, _⟩ => rfl | ⟨2, _⟩ => rfl⟩
  rw [out_apply m c t ((flush0_3 t).mp hf)]
  unfold grad
  have h0 : z.val = 0 := by omega
  refine Finset.sum_congr rfl fun r _ => ?_
  congr 2
  · funext a
    apply Fin.ext
    match a with
    | ⟨0, _⟩ => rfl
    | ⟨1, _⟩ => show 1024 * (t.val / 32) + p.val = win0_3.index t 1 * 1024 + 1 * p.val; rw [(index3 t).2.1]; omega
  · apply Fin.ext
    show 1408 * (t.val / 4 % 8) + q.val = 2816 * (win0_3.index t 0 * 1 + 1 * z.val) + (win0_3.index t 2 * 1408 + 1 * q.val)
    rw [(index3 t).1, (index3 t).2.2]; omega

/-- The gradient after the run. -/
theorem final : (dats m 0 c).arrAt 3 cfg0.N = grad (A0 m c) (A1 m c) (A2 m c) :=
  (dats m 0 c).arrAt_eq_of_cover 3 _ (flushed_eq m c) fun i => by
    have h0 : (i 0).val < 4 := (i 0).isLt
    have h1 : (i 1).val < 2048 := (i 1).isLt
    have h2 : (i 2).val < 2816 := (i 2).isLt
    have ht : 32 * ((i 1).val / 1024) + 4 * (2 * (i 0).val + (i 2).val / 1408) + 3 < 64 := by omega
    refine ⟨⟨_, ht⟩, (flush0_3 _).mpr (by show (32 * ((i 1).val / 1024) + 4 * (2 * (i 0).val + (i 2).val / 1408) + 3) % 4 = 3; omega), ?_⟩
    show i ∈ ((View.whole main_v3).slice (win0_3.rect ⟨_, ht⟩)).set
    rw [View.set_slice_whole, Rect.mem_set_unit]
    obtain ⟨e0, e1, e2⟩ := index3 ⟨_, ht⟩
    intro a
    match a with
    | ⟨0, _⟩ => show win0_3.index _ 0 * 1 ≤ (i 0).val ∧ (i 0).val < win0_3.index _ 0 * 1 + 1; rw [e0]; dsimp only; omega
    | ⟨1, _⟩ => show win0_3.index _ 1 * 1024 ≤ (i 1).val ∧ (i 1).val < win0_3.index _ 1 * 1024 + 1024; rw [e1]; dsimp only; omega
    | ⟨2, _⟩ => show win0_3.index _ 2 * 1408 ≤ (i 2).val ∧ (i 2).val < win0_3.index _ 2 * 1408 + 1408; rw [e2]; dsimp only; omega

end Cert.InDwArray

end
-- ==== Proof.Ffn.Claims.lean ====
/- The FFN's products: each kernel's result is its reference's, whatever the arguments. -/
module

public import proofs.«01_k».proof.Defs
public import proofs.«01_k».proof.Proof.Ffn.FfnOut
public import proofs.«01_k».proof.Proof.Ffn.OutDw
public import proofs.«01_k».proof.Proof.Ffn.InDx
public import proofs.«01_k».proof.Proof.Ffn.InDw
public import proofs.«01_k».proof.Proof.Gen.FfnOutRefIdeal.Read
public import proofs.«01_k».proof.Proof.Gen.OutDwRefIdeal.Read
public import proofs.«01_k».proof.Proof.Gen.InDxRefIdeal.Read
public import proofs.«01_k».proof.Proof.Gen.InDwRefIdeal.Read

@[expose] public section

noncomputable section

namespace Cert.FfnClaims

open Idealize.ShloMosaic Idealize.SL.Sem Idealize.ShloMosaic.TcCoe Cert.Attn

/-- The references at an index. -/
theorem out_ref (a : (⟨2, ![8192, 5632]⟩ : Shape).Idx → EReal) (b : (⟨2, ![5632, 2048]⟩ : Shape).Idx → EReal) :
    (FfnOutRefIdeal.Read.val_main_v0 (F := Ideal) a b : _ → EReal) = FfnOutArray.prod a b := by
  funext i
  obtain ⟨p, q, rfl⟩ : ∃ p q, i = ix2 p q := ⟨i 0, i 1, funext fun a => by fin_cases a <;> rfl⟩
  unfold FfnOutRefIdeal.Read.val_main_v0 FfnOutArray.prod
  pointwise
theorem out_dw_ref (a : (⟨2, ![8192, 5632]⟩ : Shape).Idx → EReal) (b : (⟨2, ![8192, 2048]⟩ : Shape).Idx → EReal) :
    (OutDwRefIdeal.Read.val_main_v4 (F := Ideal) a b : _ → EReal) = OutDwArray.grad a b := by
  funext i
  obtain ⟨p, q, rfl⟩ : ∃ p q, i = ix2 p q := ⟨i 0, i 1, funext fun a => by fin_cases a <;> rfl⟩
  unfold OutDwRefIdeal.Read.val_main_v4 OutDwRefIdeal.Read.val_main_v3 OutDwRefIdeal.Read.val_main_v2 OutDwArray.grad
  refine Eq.trans (b := ∑ r : Fin 8192, b (ix2 r q) * a (ix2 r p)) ?_ (Finset.sum_congr rfl fun r _ => mul_comm _ _)
  pointwise
theorem in_dx_ref (g u : (⟨2, ![8192, 5632]⟩ : Shape).Idx → EReal) (w : (⟨2, ![2048, 11264]⟩ : Shape).Idx → EReal) :
    (InDxRefIdeal.Read.val_main_v4 (F := Ideal) g u w : _ → EReal) = InDxArray.grad g u w := by
  funext i
  obtain ⟨p, q, rfl⟩ : ∃ p q, i = ix2 p q := ⟨i 0, i 1, funext fun a => by fin_cases a <;> rfl⟩
  have e : (InDxRefIdeal.Read.val_main_v0 (F := Ideal) g u : _ → EReal) = fun i => side g u (i 0) (i 1) := funext fun i => by
    obtain ⟨p, q, rfl⟩ : ∃ p q, i = ix2 p q := ⟨i 0, i 1, funext fun a => by fin_cases a <;> rfl⟩
    exact concatenate_side g u _ p q
  refine (InDxRefIdeal.Read.val_main_v3_apply g u w (ix2 p q)).trans (Finset.sum_congr rfl fun r _ => ?_)
  rw [congrFun e]
  congr 2
  exact funext fun a => by fin_cases a <;> rfl
theorem in_dw_ref (x : (⟨2, ![8192, 2048]⟩ : Shape).Idx → EReal) (g u : (⟨2, ![8192, 5632]⟩ : Shape).Idx → EReal) :
    (InDwRefIdeal.Read.val_main_v7 (F := Ideal) x g u : _ → EReal) = InDwArray.grad x g u := by
  funext i
  rw [InDwRefIdeal.Read.val_main_v7_apply, InDwRefIdeal.Read.val_main_v6_apply]
  rw [InDwRefIdeal.Read.val_main_v5_apply, InDwRefIdeal.Read.val_main_v4_apply, InDwRefIdeal.Read.val_main_v3_apply]
  refine Finset.sum_congr rfl fun r _ => (mul_comm _ _).trans ?_
  have e : (InDwRefIdeal.Read.val_main_v0 (F := Ideal) g u : _ → EReal) = fun i => side g u (i 0) (i 1) := funext fun i => by
    obtain ⟨p, q, rfl⟩ : ∃ p q, i = ix2 p q := ⟨i 0, i 1, funext fun a => by fin_cases a <;> rfl⟩
    exact concatenate_side g u _ p q
  have h0 : (i 0).val < 4 := (i 0).isLt
  have h1 : (i 1).val < 2048 := (i 1).isLt
  have h2 : (i 2).val < 2816 := (i 2).isLt
  rw [congrFun e]
  refine congrArg₂ (· * ·) (congrArg x ?_) (congrArg (side g u r) (Fin.ext ?_))
  · refine funext fun a => Fin.ext ?_
    match a with
    | ⟨0, _⟩ => rfl
    | ⟨1, _⟩ => show (((i 1).val * 4 + (i 0).val) * 2816 + (i 2).val) / 11264 = (i 1).val; omega
  · show (((i 1).val * 4 + (i 0).val) * 2816 + (i 2).val) % 11264 = 2816 * (i 0).val + (i 2).val; omega

theorem ffn_out : Cert.algebraic_FfnOutIdeal_FfnOutRefIdeal := by
  intro m ρ m' ρ' _ hag
  refine ⟨fun c => FfnOutArray.prod (FfnOutArray.A0 m c) (FfnOutArray.A1 m c),
    (θ_run _ _ _).mono (fun _ h c => ?_) (FfnOutIdeal.Value.run_blocks m ρ),
    (θ_run _ _ _).mono (fun _ h c => ?_) (FfnOutRefIdeal.Value.run m' ρ')⟩
  · exact ⟨(h c).1.trans (FfnOutArray.final m c), (h c).2⟩
  · obtain ⟨e0, e1⟩ := hag c
    refine ⟨(h c).1.trans ?_, (h c).2⟩
    rw [FfnOutRefIdeal.Read.val_main_v0_eq, e0, e1]; exact out_ref _ _

theorem out_dw : Cert.algebraic_OutDwIdeal_OutDwRefIdeal := by
  intro m ρ m' ρ' _ hag
  refine ⟨fun c => OutDwArray.grad (OutDwArray.A0 m c) (OutDwArray.A1 m c),
    (θ_run _ _ _).mono (fun _ h c => ?_) (OutDwIdeal.Value.run m ρ),
    (θ_run _ _ _).mono (fun _ h c => ?_) (OutDwRefIdeal.Value.run m' ρ')⟩
  · exact ⟨(h c).1.trans (OutDwArray.final m c), (h c).2⟩
  · obtain ⟨e0, e1⟩ := hag c
    refine ⟨(h c).1.trans ?_, (h c).2⟩
    rw [OutDwRefIdeal.Read.val_main_v4_eq, e0, e1]; exact out_dw_ref _ _

theorem in_dx : Cert.algebraic_InDxIdeal_InDxRefIdeal := by
  intro m ρ m' ρ' _ hag
  refine ⟨fun c => InDxArray.grad (InDxArray.A0 m c) (InDxArray.A1 m c) (InDxArray.A2 m c),
    (θ_run _ _ _).mono (fun _ h c => ?_) (InDxIdeal.Value.run_blocks m ρ),
    (θ_run _ _ _).mono (fun _ h c => ?_) (InDxRefIdeal.Value.run m' ρ')⟩
  · exact ⟨(h c).1.trans (InDxArray.final m c), (h c).2⟩
  · obtain ⟨e0, e1, e2⟩ := hag c
    refine ⟨(h c).1.trans ?_, (h c).2⟩
    rw [InDxRefIdeal.Read.val_main_v4_eq, e0, e1, e2]; exact in_dx_ref _ _ _

theorem in_dw : Cert.algebraic_InDwIdeal_InDwRefIdeal := by
  intro m ρ m' ρ' _ hag
  refine ⟨fun c => InDwArray.grad (InDwArray.A0 m c) (InDwArray.A1 m c) (InDwArray.A2 m c),
    (θ_run _ _ _).mono (fun _ h c => ?_) (InDwIdeal.Value.run_blocks m ρ),
    (θ_run _ _ _).mono (fun _ h c => ?_) (InDwRefIdeal.Value.run m' ρ')⟩
  · exact ⟨(h c).1.trans (InDwArray.final m c), (h c).2⟩
  · obtain ⟨e0, e1, e2⟩ := hag c
    refine ⟨(h c).1.trans ?_, (h c).2⟩
    rw [InDwRefIdeal.Read.val_main_v7_eq, e0, e1, e2]; exact in_dw_ref _ _ _

end Cert.FfnClaims

end
-- ==== Proof.Dil.Unit.lean ====
/- One head of one block of 128 queries in the dilated attention, as the two kernels compute it: the scores of the block
   before and of the block itself, the log-sum, the output, and from them the gradients; and the blocks that a grid point
   writes, put together from its heads. -/
module

public import proofs.«01_k».proof.Proof.Gen.DilAttnIdeal.Skeleton

@[expose] public section

noncomputable section

namespace Cert.DilUnit

open Idealize.ShloMosaic Idealize.SL.Sem Cert.DilAttnIdeal Cert.DilAttnIdeal.Gen

variable {F : FTy → Type} [FloatOps F] [Named F]

/-! ## One head of one block -/

/-- Row times column, both from the left operand's rows. -/
abbrev dotNT (a b : FVec F S128x128 .bf16) : FVec F S128x128 .f32 :=
  matmul dot_S128x128_S128x128_S128x128_1_1_0_0_n_n none a b (constant S128x128 .f32 0x00000000#32)
abbrev dotNN (a b : FVec F S128x128 .bf16) : FVec F S128x128 .f32 :=
  matmul dot_S128x128_S128x128_S128x128_1_0_0_1_n_n none a b (constant S128x128 .f32 0x00000000#32)
abbrev dotTN (a b : FVec F S128x128 .bf16) : FVec F S128x128 .f32 :=
  matmul dot_S128x128_S128x128_S128x128_0_0_1_1_n_n none a b (constant S128x128 .f32 0x00000000#32)

/-- How far a query lies after a key of the block before, and of its own block. -/
abbrev relP : IVec S128x128 32 :=
  subi (addi (iota .tc S128x128 32 [0] iota_S128x128_d0_w32) (broadcast S128x128 128#32)) (iota .tc S128x128 32 [1] iota_S128x128_d1_w32)
abbrev relC : IVec S128x128 32 :=
  subi (iota .tc S128x128 32 [0] iota_S128x128_d0_w32) (iota .tc S128x128 32 [1] iota_S128x128_d1_w32)

/-- The scores before the mask, with the slope's word `w`. -/
abbrev rawScore (w : BitVec 32) (rel : IVec S128x128 32) (q k : FVec F S128x128 .bf16) : FVec F S128x128 .f32 :=
  subf (mulf (dotNT q k) (broadcast S128x128 (Scalar.ofBits .f32 0x3DB504F3#32)))
    (mulf (broadcast S128x128 (Scalar.ofBits .f32 w)) (sitofp .f32 rel))

/-- The scores against the block before, masked beyond 128 keys and where there is no block before. -/
def prevScore (w n : BitVec 32) (q k : FVec F S128x128 .bf16) : FVec F S128x128 .f32 :=
  select (andi (cmpi .sle relP (broadcast S128x128 128#32)) (broadcast S128x128 (Scalar.cmpi .sgt n 0#32))) (rawScore w relP q k)
    (broadcast S128x128 (Named.named κ "mask" 0xF149F2CA#32))
/-- The scores against the block itself, masked after the query. -/
def curScore (w : BitVec 32) (q k : FVec F S128x128 .bf16) : FVec F S128x128 .f32 :=
  select (cmpi .sge relC (broadcast S128x128 0#32)) (rawScore w relC q k) (broadcast S128x128 (Named.named κ "mask" 0xF149F2CA#32))

/-- The greatest score of each row, and the logarithm of the sum of the exponentials. -/
def top (a b : FVec F S128x128 .f32) : FVec F S128x1 .f32 :=
  maximumf (shapeCast S128x1 (multiReduction .maximumf [1] S128 a 0xFF800000#32 reduces_S128x128_S128 (.inl rfl) rfl) shapeCasts_S128_S128x1)
    (shapeCast S128x1 (multiReduction .maximumf [1] S128 b 0xFF800000#32 reduces_S128x128_S128 (.inl rfl) rfl) shapeCasts_S128_S128x1)
def total (a b : FVec F S128x128 .f32) (m : FVec F S128x1 .f32) : FVec F S128x1 .f32 :=
  addf (shapeCast S128x1 (multiReduction .add [1] S128 (exp (subf a (broadcastTo S128x128 m broadcasts_S128x1_S128x128))) 0x00000000#32 reduces_S128x128_S128 (.inl rfl) rfl) shapeCasts_S128_S128x1)
    (shapeCast S128x1 (multiReduction .add [1] S128 (exp (subf b (broadcastTo S128x128 m broadcasts_S128x1_S128x128))) 0x00000000#32 reduces_S128x128_S128 (.inl rfl) rfl) shapeCasts_S128_S128x1)
def logSum (a b : FVec F S128x128 .f32) : FVec F S128x1 .f32 := addf (top a b) (log (total a b (top a b)))

/-- The weights of a block's keys, from its scores and the row's log-sum. -/
def weights (s : FVec F S128x128 .f32) (l : FVec F S128x1 .f32) : FVec F S128x128 .bf16 :=
  truncf .bf16 (exp (subf s (broadcastTo S128x128 l broadcasts_S128x1_S128x128))) bitsLt_bf16_f32

/-- The block's output of one head, and its log-sum beside every column. -/
def outUnit (w n : BitVec 32) (q kp kc vp vc : FVec F S128x128 .bf16) : FVec F S128x128 .f32 :=
  addf (dotNN (weights (prevScore w n q kp) (logSum (prevScore w n q kp) (curScore w q kc))) vp)
    (dotNN (weights (curScore w q kc) (logSum (prevScore w n q kp) (curScore w q kc))) vc)
def lseUnit (w n : BitVec 32) (q kp kc : FVec F S128x128 .bf16) : FVec F S128x128 .f32 :=
  broadcastTo S128x128 (shapeCast S128x1 (logSum (prevScore w n q kp) (curScore w q kc)) shapeCasts_S128x1_S128x1) broadcasts_S128x1_S128x128

/-- In the backward pass: the weights from the scores and the saved log-sum, the gradient of the scores, and the same cut off
    where no block follows. -/
def pUnit (s l : FVec F S128x128 .f32) : FVec F S128x128 .f32 := exp (subf s l)
def dsUnit (p : FVec F S128x128 .f32) (g v : FVec F S128x128 .bf16) (e : FVec F S128x128 .f32) : FVec F S128x128 .bf16 :=
  truncf .bf16 (mulf (mulf p (addf (dotNT g v) e)) (broadcast S128x128 (Scalar.ofBits .f32 0x3DB504F3#32))) bitsLt_bf16_f32
def only (h : BitVec 1) (p : FVec F S128x128 .f32) : FVec F S128x128 .f32 :=
  Scalar.select h p (broadcast S128x128 (Scalar.ofBits .f32 0x00000000#32))
abbrev rnd (p : FVec F S128x128 .f32) : FVec F S128x128 .bf16 := truncf .bf16 p bitsLt_bf16_f32

/-! ## The heads of a block -/

/-- The word of the slope of head `h` times the dilation. -/
abbrev word (h : Fin 4) : BitVec 32 :=
  match h with | 0 => 0x3ECB2FF5#32 | 1 => 0x3E800000#32 | 2 => 0x3E214518#32 | 3 => 0x3DCB2FF5#32

theorem cutsLo (h : Fin 4) : S256x512.Slices ![0, 128 * h.val] S128x128 := by
  match h with
  | 0 => exact slices_S256x512_o0_0_S128x128
  | 1 => exact slices_S256x512_o0_128_S128x128
  | 2 => exact slices_S256x512_o0_256_S128x128
  | 3 => exact slices_S256x512_o0_384_S128x128
theorem cutsHi (h : Fin 4) : S256x512.Slices ![128, 128 * h.val] S128x128 := by
  match h with
  | 0 => exact slices_S256x512_o128_0_S128x128
  | 1 => exact slices_S256x512_o128_128_S128x128
  | 2 => exact slices_S256x512_o128_256_S128x128
  | 3 => exact slices_S256x512_o128_384_S128x128
theorem cutsOne (h : Fin 4) : S128x512.Slices ![0, 128 * h.val] S128x128 := by
  match h with
  | 0 => exact slices_S128x512_o0_0_S128x128
  | 1 => exact slices_S128x512_o0_128_S128x128
  | 2 => exact slices_S128x512_o0_256_S128x128
  | 3 => exact slices_S128x512_o0_384_S128x128

/-- Head `h` of the first 128 rows, of the last 128 rows, and of a block of 128 rows. -/
abbrev lo {φ : FTy} (h : Fin 4) (x : FVec F S256x512 φ) : FVec F S128x128 φ := extractStridedSlice S128x128 ![0, 128 * h.val] x (cutsLo h)
abbrev hi {φ : FTy} (h : Fin 4) (x : FVec F S256x512 φ) : FVec F S128x128 φ := extractStridedSlice S128x128 ![128, 128 * h.val] x (cutsHi h)
abbrev one {φ : FTy} (h : Fin 4) (x : FVec F S128x512 φ) : FVec F S128x128 φ := extractStridedSlice S128x128 ![0, 128 * h.val] x (cutsOne h)
/-- The same head of the first 128 rows, cut in two steps. -/
abbrev lo' {φ : FTy} (h : Fin 4) (x : FVec F S256x512 φ) : FVec F S128x128 φ :=
  one h (extractStridedSlice S128x512 ![0, 0] x slices_S256x512_o0_0_S128x512)

/-- Two blocks of 128 rows, each with its four heads side by side. -/
def tile (a b : Fin 4 → FVec F S128x128 .f32) : FVec F S256x512 .f32 :=
  concatenate S256x512 0 [⟨S128x512, concatenate S128x512 1 [⟨S128x128, a 0⟩, ⟨S128x128, a 1⟩, ⟨S128x128, a 2⟩, ⟨S128x128, a 3⟩] concatenates_S128x128_S128x128_S128x128_S128x128_S128x512_d1⟩,
    ⟨S128x512, concatenate S128x512 1 [⟨S128x128, b 0⟩, ⟨S128x128, b 1⟩, ⟨S128x128, b 2⟩, ⟨S128x128, b 3⟩] concatenates_S128x128_S128x128_S128x128_S128x128_S128x512_d1⟩]
    concatenates_S128x512_S128x512_S256x512_d0

/-! ## What a grid point of the forward call writes -/

/-- The number of a grid point's first block, and of its second. -/
abbrev twice (t : BitVec 32) : BitVec 32 := Scalar.muli 2#32 t
abbrev num (t o : BitVec 32) : BitVec 32 := Scalar.addi (twice t) o

section
variable (t : BitVec 32) (q : FVec F S256x512 .bf16) (kp : FVec F S128x512 .bf16) (kc : FVec F S256x512 .bf16) (vp : FVec F S128x512 .bf16)
  (vc : FVec F S256x512 .bf16)

def outBlock : FVec F S256x512 .f32 :=
  tile (fun h => outUnit (word h) (num t 0#32) (lo h q) (one h kp) (lo h kc) (one h vp) (lo h vc))
    (fun h => outUnit (word h) (num t 1#32) (hi h q) (lo' h kc) (hi h kc) (lo' h vc) (hi h vc))
def lseBlock : FVec F S256x512 .f32 :=
  tile (fun h => lseUnit (word h) (num t 0#32) (lo h q) (one h kp) (lo h kc))
    (fun h => lseUnit (word h) (num t 1#32) (hi h q) (lo' h kc) (hi h kc))
end

end Cert.DilUnit

end
-- ==== Proof.Dil.UnitBwd.lean ====
/- What a grid point of the dilated attention's backward call writes, put together from its heads: of two blocks of queries the
   gradient of the queries, and of two blocks of keys, which the block after them sees too, the gradients of the keys and values. -/
module

public import proofs.«01_k».proof.Proof.Dil.Unit

@[expose] public section

noncomputable section

namespace Cert.DilUnit

open Idealize.ShloMosaic Idealize.SL.Sem Cert.DilAttnIdeal Cert.DilAttnIdeal.Gen

variable {F : FTy → Type} [FloatOps F] [Named F]

section
variable (t : BitVec 32) (q : FVec F S256x512 .bf16) (qn kp : FVec F S128x512 .bf16) (kc : FVec F S256x512 .bf16)
  (vp : FVec F S128x512 .bf16) (vc : FVec F S256x512 .bf16) (l : FVec F S256x512 .f32) (ln : FVec F S128x512 .f32)
  (g : FVec F S256x512 .bf16) (gn : FVec F S128x512 .bf16) (e : FVec F S256x512 .f32) (en : FVec F S128x512 .f32)

/-- The weights of the first block of queries over the keys before it and over its own, of the second block likewise, and of
    the block after over the second block's keys. -/
abbrev pA (h : Fin 4) := pUnit (prevScore (F := F) (word h) (twice t) (lo h q) (one h kp)) (lo h l)
abbrev pB (h : Fin 4) := pUnit (curScore (F := F) (word h) (lo h q) (lo h kc)) (lo h l)
abbrev pC (h : Fin 4) := pUnit (prevScore (F := F) (word h) (num t 1#32) (hi h q) (lo h kc)) (hi h l)
abbrev pD (h : Fin 4) := pUnit (curScore (F := F) (word h) (hi h q) (hi h kc)) (hi h l)
abbrev pE (h : Fin 4) := only (Scalar.cmpi .slt (num t 2#32) 16#32) (pUnit (prevScore (F := F) (word h) (num t 2#32) (one h qn) (hi h kc)) (one h ln))

/-- The gradients of the scores of the same five. -/
abbrev dsA (h : Fin 4) := dsUnit (pA t q kp l h) (lo h g) (one h vp) (lo h e)
abbrev dsB (h : Fin 4) := dsUnit (pB q kc l h) (lo h g) (lo h vc) (lo h e)
abbrev dsC (h : Fin 4) := dsUnit (pC t q kc l h) (hi h g) (lo h vc) (hi h e)
abbrev dsD (h : Fin 4) := dsUnit (pD q kc l h) (hi h g) (hi h vc) (hi h e)
abbrev dsE (h : Fin 4) := dsUnit (pE t qn kc ln h) (one h gn) (hi h vc) (one h en)

def dqBlock : FVec F S256x512 .bf16 :=
  truncf .bf16 (tile (fun h => addf (dotNN (dsA t q kp vp l g e h) (one h kp)) (dotNN (dsB q kc vc l g e h) (lo h kc)))
    (fun h => addf (dotNN (dsC t q kc vc l g e h) (lo h kc)) (dotNN (dsD q kc vc l g e h) (hi h kc)))) bitsLt_bf16_f32
def dkBlock : FVec F S256x512 .f32 :=
  tile (fun h => addf (dotTN (dsB q kc vc l g e h) (lo h q)) (dotTN (dsC t q kc vc l g e h) (hi h q)))
    (fun h => addf (dotTN (dsD q kc vc l g e h) (hi h q)) (dotTN (dsE t qn kc vc ln gn en h) (one h qn)))
def dvBlock : FVec F S256x512 .f32 :=
  tile (fun h => addf (dotTN (rnd (pB q kc l h)) (lo h g)) (dotTN (rnd (pC t q kc l h)) (hi h g)))
    (fun h => addf (dotTN (rnd (pD q kc l h)) (hi h g)) (dotTN (rnd (pE t qn kc ln h)) (one h gn)))
end

end Cert.DilUnit

end
-- ==== Proof.Dil.Out.lean ====
/- The blocks that the two calls of the dilated attention write at a grid point, as put together from their heads. -/
module

public import proofs.«01_k».proof.Proof.Dil.UnitBwd
public import proofs.«01_k».proof.Proof.Gen.DilAttnIdeal.Frame

@[expose] public section

noncomputable section

namespace Cert.DilUnit

open Idealize.ShloMosaic Idealize.SL.Sem Cert.DilAttnIdeal Cert.DilAttnIdeal.Gen

variable {F : FTy → Type} [FloatOps F] [Named F]

theorem out0_5_eq (i : grid0.Coords) (x0 : Vec F S256x512 .f32) (x1 : Vec F S128x512 .bf16) (x2 : Vec F S256x512 .bf16)
    (x3 : Vec F S128x512 .bf16) (x4 : Vec F S256x512 .bf16) :
    out0_5 i x0 x1 x2 x3 x4 = View.canon [⟨r0_0, outBlock (BitVec.ofNat 32 (i 1).val) (k0_pay5 (View.ld x0 r0_0)) (k0_pay6 (View.ld x1 r0_1))
      (k0_pay7 (View.ld x2 r0_0)) (k0_pay8 (View.ld x3 r0_1)) (k0_pay9 (View.ld x4 r0_0))⟩] := by
  rfl
theorem out0_6_eq (i : grid0.Coords) (x0 : Vec F S256x512 .f32) (x1 : Vec F S128x512 .bf16) (x2 : Vec F S256x512 .bf16)
    (x3 : Vec F S128x512 .bf16) (x4 : Vec F S256x512 .bf16) :
    out0_6 i x0 x1 x2 x3 x4 = View.canon [⟨r0_0, lseBlock (BitVec.ofNat 32 (i 1).val) (k0_pay5 (View.ld x0 r0_0)) (k0_pay6 (View.ld x1 r0_1))
      (k0_pay7 (View.ld x2 r0_0))⟩] := by
  rfl

section
variable (i : grid1.Coords) (x0 : Vec F S256x512 .f32) (x1 : Vec F S128x512 .f32) (x2 : Vec F S128x512 .bf16) (x3 : Vec F S256x512 .bf16)
  (x4 : Vec F S128x512 .bf16) (x5 : Vec F S256x512 .bf16) (x6 : Vec F S256x512 .f32) (x7 : Vec F S128x512 .f32) (x8 : Vec F S256x512 .f32)
  (x9 : Vec F S128x512 .f32) (x10 : Vec F S256x512 .f32) (x11 : Vec F S128x512 .f32)

theorem out1_12_eq : out1_12 i x0 x1 x2 x3 x4 x5 x6 x7 x8 x9 x10 x11
    = View.canon [⟨r1_0, dqBlock (BitVec.ofNat 32 (i 1).val) (k1_pay1 (View.ld x0 r1_0)) (k1_pay5 (View.ld x2 r1_1)) (k1_pay6 (View.ld x3 r1_0))
      (k1_pay7 (View.ld x4 r1_1)) (k1_pay8 (View.ld x5 r1_0)) (k1_pay9 (View.ld x6 r1_0)) (k1_pay3 (View.ld x8 r1_0)) (k1_pay11 (View.ld x10 r1_0))⟩] := by
  rfl
theorem out1_13_eq : out1_13 i x0 x1 x2 x3 x4 x5 x6 x7 x8 x9 x10 x11
    = View.canon [⟨r1_0, dkBlock (BitVec.ofNat 32 (i 1).val) (k1_pay1 (View.ld x0 r1_0)) (k1_pay2 (View.ld x1 r1_1)) (k1_pay6 (View.ld x3 r1_0))
      (k1_pay8 (View.ld x5 r1_0)) (k1_pay9 (View.ld x6 r1_0)) (k1_pay10 (View.ld x7 r1_1)) (k1_pay3 (View.ld x8 r1_0)) (k1_pay4 (View.ld x9 r1_1))
      (k1_pay11 (View.ld x10 r1_0)) (k1_pay12 (View.ld x11 r1_1))⟩] := by
  rfl
theorem out1_14_eq : out1_14 i x0 x1 x2 x3 x4 x5 x6 x7 x8 x9 x10 x11
    = View.canon [⟨r1_0, dvBlock (BitVec.ofNat 32 (i 1).val) (k1_pay1 (View.ld x0 r1_0)) (k1_pay2 (View.ld x1 r1_1)) (k1_pay6 (View.ld x3 r1_0))
      (k1_pay9 (View.ld x6 r1_0)) (k1_pay10 (View.ld x7 r1_1)) (k1_pay3 (View.ld x8 r1_0)) (k1_pay4 (View.ld x9 r1_1))⟩] := by
  rfl
end

end Cert.DilUnit

end
-- ==== Proof.Math.Window.lean ====
/- The mathematics of one row of a softmax over 256 keys of which only some are seen: the greatest seen score, the weights, their
   sum, the log-sum and the probabilities, all real numbers, whichever of the two halves of the keys is taken first; and the
   gradient of the scores as differentiation of the log-sum gives it. -/
module

public import proofs.«01_k».proof.Proof.Math.Softmax

@[expose] public section

noncomputable section

namespace Cert.Dil

open Idealize.ShloMosaic Cert.Attn

/-- Key `k` of the first half, and of the second. -/
abbrev lw (k : Fin 128) : Fin 256 := ⟨k.val, by omega⟩
abbrev up (k : Fin 128) : Fin 256 := ⟨128 + k.val, by omega⟩

/-- A sum over the 256 keys is the sum over the two halves. -/
theorem sum_halves {M : Type*} [AddCommMonoid M] (f : Fin 256 → M) : ∑ k, f k = (∑ k, f (lw k)) + ∑ k, f (up k) :=
  Fin.sum_univ_add (a := 128) (b := 128) f

/-- The greatest of 256 is the greater of the greatest of the two halves. -/
theorem rowMax_halves (s : Fin 256 → EReal) : rowMax s = max (rowMax fun k => s (lw k)) (rowMax fun k => s (up k)) := by
  have key : ∀ {n : ℕ} (f : Fin n → EReal) (b : EReal), rowMax f ≤ b ↔ ∀ k, f k ≤ b := by
    intro n f b
    unfold rowMax
    rw [Finset.fold_max_le]
    exact ⟨fun h k => h.2 k (Finset.mem_univ k), fun h => ⟨bot_le, fun k _ => h k⟩⟩
  refine eq_of_forall_ge_iff fun b => ?_
  rw [key, max_le_iff, key, key]
  refine ⟨fun h => ⟨fun k => h _, fun k => h _⟩, fun h k => ?_⟩
  by_cases hk : k.val < 128
  · exact h.1 ⟨k.val, hk⟩
  · have := h.2 ⟨k.val - 128, by omega⟩
    rwa [show up ⟨k.val - 128, by omega⟩ = k from Fin.ext (by show 128 + (k.val - 128) = k.val; omega)] at this

section
variable (v : Fin 256 → Prop) [DecidablePred v] (σ : Fin 256 → ℝ)

/-- The scores, minus infinity where a key is not seen. -/
def masked (k : Fin 256) : EReal := if v k then (σ k : EReal) else ⊥
/-- The greatest seen score. -/
def greatest : ℝ := (rowMax (masked v σ)).toReal
/-- The weights before normalization, and their sum. -/
def wt (k : Fin 256) : ℝ := if v k then Real.exp (σ k - greatest v σ) else 0
def norm : ℝ := ∑ k, wt v σ k
/-- The logarithm of the sum of the exponentials of the seen scores. -/
def lsum : ℝ := greatest v σ + Real.log (norm v σ)
/-- The probabilities. -/
def pr (k : Fin 256) : ℝ := if v k then Real.exp (σ k - lsum v σ) else 0
/-- One where a score is the greatest, else zero. -/
def isTop (k : Fin 256) : ℝ := if masked v σ k = (greatest v σ : EReal) then 1 else 0

theorem pr_of_not {k : Fin 256} (h : ¬ v k) : pr v σ k = 0 := if_neg h

/-- The exponential of a masked score less a real number. -/
theorem exp_masked (k : Fin 256) (r : ℝ) :
    Ideal.exp (masked v σ k - (r : EReal)) = ((if v k then Real.exp (σ k - r) else 0 : ℝ) : EReal) := by
  unfold masked
  split
  · rw [← EReal.coe_sub, Ideal.exp_coe]
  · rw [sub_eq_add_neg, EReal.bot_add, Ideal.exp_bot, EReal.coe_zero]

variable {v} (hv : ∃ k, v k)
include hv

/-- The greatest score is real and is a seen one. -/
theorem greatest_spec : rowMax (masked v σ) = (greatest v σ : EReal) ∧ ∃ k, v k ∧ masked v σ k = (greatest v σ : EReal) := by
  obtain ⟨k0, h0⟩ := hv
  obtain ⟨k, hk⟩ := rowMax_mem (n := 255) (masked v σ)
  have hvk : v k := by
    by_contra hn
    have hle : masked v σ k0 ≤ rowMax (masked v σ) := by
      unfold rowMax
      rw [Finset.le_fold_max]
      exact Or.inr ⟨k0, Finset.mem_univ _, le_rfl⟩
    rw [hk] at hle
    unfold masked at hle
    rw [if_pos h0, if_neg hn] at hle
    exact EReal.coe_ne_bot _ (le_bot_iff.1 hle)
  have e : rowMax (masked v σ) = (σ k : EReal) := hk.trans (if_pos hvk)
  have eg : greatest v σ = σ k := by unfold greatest; rw [e, EReal.toReal_coe]
  rw [eg]
  exact ⟨e, k, hvk, if_pos hvk⟩
theorem greatest_eq : rowMax (masked v σ) = (greatest v σ : EReal) := (greatest_spec σ hv).1

/-- The sum of the weights is positive. -/
theorem norm_pos : 0 < norm v σ := by
  obtain ⟨k, hk⟩ := hv
  refine Finset.sum_pos' (fun j _ => ?_) ⟨k, Finset.mem_univ _, ?_⟩
  · unfold wt; split
    · exact (Real.exp_pos _).le
    · exact le_rfl
  · unfold wt; rw [if_pos hk]; exact Real.exp_pos _
theorem log_norm : Ideal.log ((norm v σ : ℝ) : EReal) = (Real.log (norm v σ) : EReal) := by
  rw [Ideal.log_coe, if_neg (not_le.2 (norm_pos σ hv))]

/-- A probability is its weight over the sum of the weights; the probabilities sum to one. -/
theorem pr_eq (k : Fin 256) : pr v σ k = wt v σ k * (1 / norm v σ) := by
  unfold pr wt
  split
  · unfold lsum
    rw [← sub_sub, Real.exp_sub, Real.exp_log (norm_pos σ hv)]
    ring
  · ring

/-- The scores equal to the greatest are at least one. -/
theorem count_pos : 0 < ∑ k, isTop v σ k := by
  obtain ⟨-, k, -, hk⟩ := greatest_spec σ hv
  refine Finset.sum_pos' (fun j _ => ?_) ⟨k, Finset.mem_univ _, ?_⟩
  · unfold isTop; split
    · exact zero_le_one
    · exact le_rfl
  · unfold isTop; rw [if_pos hk]; exact zero_lt_one

/-- The log-sum, from the two halves of the scores. -/
theorem lsum_eq (a b : Fin 128 → EReal) (ha : ∀ k, a k = masked v σ (lw k)) (hb : ∀ k, b k = masked v σ (up k)) :
    max (rowMax a) (rowMax b) + Ideal.log ((∑ k, Ideal.exp (a k - max (rowMax a) (rowMax b))) + ∑ k, Ideal.exp (b k - max (rowMax a) (rowMax b)))
      = (lsum v σ : EReal) := by
  obtain rfl : a = fun k => masked v σ (lw k) := funext ha
  obtain rfl : b = fun k => masked v σ (up k) := funext hb
  rw [← rowMax_halves, greatest_eq σ hv, ← sum_halves (fun k => Ideal.exp (masked v σ k - (greatest v σ : EReal)))]
  have : ∑ k, Ideal.exp (masked v σ k - (greatest v σ : EReal)) = (norm v σ : EReal) := by
    rw [Finset.sum_congr rfl fun k _ => exp_masked v σ k (greatest v σ)]
    exact coe_sum _ _
  rw [this, log_norm σ hv, ← EReal.coe_add]
  rfl

/-- The gradient of a seen score as differentiation writes it: through the probabilities, through the sum of the weights, and
    through the greatest score, which comes to nothing. -/
theorem dscore_eq (dp : Fin 256 → ℝ) (dl : ℝ) (k : Fin 256) :
    (dp k : EReal) * (pr v σ k : EReal)
        + Ideal.div ((dl : EReal) + ∑ j, -((dp j : EReal) * (pr v σ j : EReal))) (norm v σ : EReal) * (wt v σ k : EReal)
      + Ideal.div (((dl : EReal) + ∑ j, -((dp j : EReal) * (pr v σ j : EReal)))
          + ∑ i, -(Ideal.div ((dl : EReal) + ∑ j, -((dp j : EReal) * (pr v σ j : EReal))) (norm v σ : EReal) * (wt v σ i : EReal)))
          (∑ j, (isTop v σ j : EReal)) * (isTop v σ k : EReal)
      = ((pr v σ k * (dp k + (dl - ∑ j, pr v σ j * dp j)) : ℝ) : EReal) := by
  have hn := norm_pos σ hv
  have hc := count_pos σ hv
  have e1 : ((dl : EReal) + ∑ j, -((dp j : EReal) * (pr v σ j : EReal))) = ((dl - ∑ j, pr v σ j * dp j : ℝ) : EReal) := by
    have : ∀ j, -((dp j : EReal) * (pr v σ j : EReal)) = ((-(pr v σ j * dp j) : ℝ) : EReal) := fun j => by
      rw [← EReal.coe_mul, ← EReal.coe_neg, mul_comm]
    rw [Finset.sum_congr rfl fun j _ => this j, coe_sum, ← EReal.coe_add, Finset.sum_neg_distrib, sub_eq_add_neg]
  rw [e1]
  generalize hB : dl - ∑ j, pr v σ j * dp j = B
  have e2 : ∀ i, -(Ideal.div (B : EReal) (norm v σ : EReal) * (wt v σ i : EReal)) = ((-(B * (1 / norm v σ)) * wt v σ i : ℝ) : EReal) := fun i => by
    rw [Ideal.div_coe hn.ne', ← EReal.coe_mul, ← EReal.coe_mul, ← EReal.coe_neg, neg_mul]
  rw [Finset.sum_congr rfl fun i _ => e2 i, coe_sum, ← Finset.mul_sum, coe_sum, ← EReal.coe_add]
  have e3 : B + -(B * (1 / norm v σ)) * ∑ i, wt v σ i = 0 := by
    show B + -(B * (1 / norm v σ)) * norm v σ = 0
    field_simp
    ring
  rw [e3, Ideal.div_coe hc.ne', EReal.coe_zero, zero_mul, zero_mul, add_zero, Ideal.div_coe hn.ne', ← EReal.coe_mul, ← EReal.coe_mul,
    ← EReal.coe_mul, ← EReal.coe_add, pr_eq σ hv k]
  congr 1
  ring

end

end Cert.Dil

end
-- ==== Proof.Math.Dilated.lean ====
/- The mathematics of one head of one residue of a dilated attention, over 16 blocks of 128 queries: a query sees the keys of its
   own block up to itself and those of the block before from itself on, so at most 129 keys; the output, the log-sum, and from
   the gradients of both the gradients of the queries, keys and values. All numbers are real. -/
module

public import proofs.«01_k».proof.Proof.Math.Window
public import proofs.«01_k».proof.Proof.Math.Attention

@[expose] public section

noncomputable section

namespace Cert.Dil

open Idealize.ShloMosaic Cert.Attn

/-- The word of the scale as a real number. -/
def sclR : ℝ := (Ideal.ofBits .f32 0x3DB504F3#32).toReal
theorem sclR_eq : Ideal.ofBits .f32 0x3DB504F3#32 = (sclR : EReal) := by
  obtain ⟨x, hx⟩ := scl_real
  unfold scl at hx
  unfold sclR
  rw [hx, EReal.toReal_coe]

/-- An inner product of real numbers. -/
theorem coe_dot {n : ℕ} (a b : Fin n → EReal) (A B : Fin n → ℝ) (ha : ∀ d, a d = (A d : EReal)) (hb : ∀ d, b d = (B d : EReal)) :
    ∑ d, a d * b d = ((∑ d, A d * B d : ℝ) : EReal) := by
  rw [← coe_sum]
  exact Finset.sum_congr rfl fun d _ => by rw [ha, hb, EReal.coe_mul]

/-- A sequence of 16 blocks of 128 rows, of 128 features each. -/
abbrev Rows := Fin 16 → Fin 128 → Fin 128 → ℝ

/-- The block before, and the block after; at the ends the block itself. -/
def prev (n : Fin 16) : Fin 16 := ⟨n.val - 1, by omega⟩
def next (n : Fin 16) : Fin 16 := ⟨min (n.val + 1) 15, by omega⟩

/-- What the queries of block `n` look at: the block before, then the block itself. -/
def ctx (X : Rows) (n : Fin 16) (k : Fin 256) (d : Fin 128) : ℝ :=
  if h : k.val < 128 then X (prev n) ⟨k.val, h⟩ d else X n ⟨k.val - 128, by omega⟩ d

/-- Whether query `i` of block `n` sees key `k`. -/
def seen (n : Fin 16) (i : Fin 128) (k : Fin 256) : Prop := (i.val ≤ k.val ∧ k.val ≤ i.val + 128) ∧ (0 < n.val ∨ 128 ≤ k.val)
instance (n : Fin 16) (i : Fin 128) : DecidablePred (seen n i) := fun k => by unfold seen; infer_instance

/-- Every query sees itself. -/
theorem seen_self (n : Fin 16) (i : Fin 128) : ∃ k, seen n i k :=
  ⟨up i, ⟨by show i.val ≤ 128 + i.val; omega, by show 128 + i.val ≤ i.val + 128; omega⟩, Or.inr (by show 128 ≤ 128 + i.val; omega)⟩

theorem seen_lw (n : Fin 16) (i k : Fin 128) : seen n i (lw k) ↔ i.val ≤ k.val ∧ 0 < n.val := by
  have := k.isLt
  unfold seen
  show ((i.val ≤ k.val ∧ k.val ≤ i.val + 128) ∧ (0 < n.val ∨ 128 ≤ k.val)) ↔ _
  omega
theorem seen_up (n : Fin 16) (i k : Fin 128) : seen n i (up k) ↔ k.val ≤ i.val := by
  have := i.isLt
  unfold seen
  show ((i.val ≤ 128 + k.val ∧ 128 + k.val ≤ i.val + 128) ∧ (0 < n.val ∨ 128 ≤ 128 + k.val)) ↔ _
  omega
theorem ctx_lw (X : Rows) (n : Fin 16) (k d : Fin 128) : ctx X n (lw k) d = X (prev n) k d := dif_pos k.isLt
theorem ctx_up (X : Rows) (n : Fin 16) (k d : Fin 128) : ctx X n (up k) d = X n k d := by
  unfold ctx
  rw [dif_neg (by show ¬ 128 + k.val < 128; omega)]
  exact congrArg (fun a => X n a d) (Fin.ext (by show 128 + k.val - 128 = k.val; omega))

/-- One head of one residue: the scores' scale `c`, the slope `w` of the distance's penalty, the queries, keys and values, and
    the gradients of the outputs and of the log-sums. -/
structure Head where
  c : ℝ
  w : ℝ
  Q : Rows
  K : Rows
  V : Rows
  G : Rows
  dl : Fin 16 → Fin 128 → ℝ

namespace Head
variable (H : Head)

/-- The scores: the inner product of query and key, scaled, less the penalty of the distance. -/
def score (n : Fin 16) (i : Fin 128) (k : Fin 256) : ℝ :=
  (∑ d, H.Q n i d * ctx H.K n k d) * H.c - H.w * (((i.val : ℤ) + 128 - (k.val : ℤ) : ℤ) : ℝ)
/-- The scores of the seen keys, minus infinity elsewhere. -/
abbrev sc (n : Fin 16) (i : Fin 128) : Fin 256 → EReal := masked (seen n i) (H.score n i)
/-- The probabilities, the log-sum and the output. -/
abbrev P (n : Fin 16) (i : Fin 128) (k : Fin 256) : ℝ := pr (seen n i) (H.score n i) k
abbrev L (n : Fin 16) (i : Fin 128) : ℝ := lsum (seen n i) (H.score n i)
def O (n : Fin 16) (i d : Fin 128) : ℝ := ∑ k, H.P n i k * ctx H.V n k d
/-- The gradients of the probabilities. -/
def dP (n : Fin 16) (i : Fin 128) (k : Fin 256) : ℝ := ∑ d, H.G n i d * ctx H.V n k d
/-- What the log-sum's gradient and the output's add to each of them. -/
def E (n : Fin 16) (i : Fin 128) : ℝ := H.dl n i - ∑ d, H.G n i d * H.O n i d
/-- The gradients of the scores, times the scale. -/
def dS (n : Fin 16) (i : Fin 128) (k : Fin 256) : ℝ := H.P n i k * (H.dP n i k + H.E n i) * H.c
/-- The gradients of the queries, of the keys and of the values: a key is seen from its own block and from the block after. -/
def dQ (n : Fin 16) (i d : Fin 128) : ℝ := ∑ k, H.dS n i k * ctx H.K n k d
def dK (m : Fin 16) (j d : Fin 128) : ℝ :=
  (∑ i, H.dS m i (up j) * H.Q m i d) + if m.val + 1 < 16 then ∑ i, H.dS (next m) i (lw j) * H.Q (next m) i d else 0
def dV (m : Fin 16) (j d : Fin 128) : ℝ :=
  (∑ i, H.P m i (up j) * H.G m i d) + if m.val + 1 < 16 then ∑ i, H.P (next m) i (lw j) * H.G (next m) i d else 0

/-- The outputs' gradient against the output is the sum of the probabilities' gradients, weighted. -/
theorem sum_GO (n : Fin 16) (i : Fin 128) : ∑ d, H.G n i d * H.O n i d = ∑ k, H.P n i k * H.dP n i k := by
  unfold O dP
  simp only [Finset.mul_sum]
  rw [Finset.sum_comm]
  exact Finset.sum_congr rfl fun k _ => Finset.sum_congr rfl fun d _ => by ring

/-- The same with zeros before the first block, which no query sees. -/
def ctx0 (X : Rows) (n : Fin 16) (k : Fin 256) (d : Fin 128) : ℝ := if n.val = 0 ∧ k.val < 128 then 0 else ctx X n k d
theorem ctx0_eq (X : Rows) (n : Fin 16) (i : Fin 128) (k : Fin 256) (d : Fin 128) (h : seen n i k) : ctx0 X n k d = ctx X n k d := by
  unfold seen at h
  exact if_neg (by omega)
/-- The probability times anything made from what is seen. -/
theorem P_mul (n : Fin 16) (i : Fin 128) (k : Fin 256) {a b : ℝ} (h : seen n i k → a = b) : H.P n i k * a = H.P n i k * b := by
  by_cases hk : seen n i k
  · rw [h hk]
  · rw [show H.P n i k = 0 from pr_of_not _ _ hk, zero_mul, zero_mul]
theorem dS_eq (n : Fin 16) (i : Fin 128) (k : Fin 256) (f : Fin 256 → ℝ) (hf : ∀ j, seen n i j → f j = H.dP n i j) :
    (if seen n i k then H.P n i k * (f k + (H.dl n i - ∑ j, H.P n i j * f j)) else 0) * H.c = H.dS n i k := by
  unfold dS E
  rw [sum_GO, Finset.sum_congr rfl fun j _ => H.P_mul n i j (hf j)]
  split
  · next h => rw [hf k h]
  · next h => rw [show H.P n i k = 0 from pr_of_not _ _ h]; ring

end Head

end Cert.Dil

end
-- ==== Proof.Math.Words.lean ====
/- Small words as integers: the distance of a query and a key, and the comparisons of words by their integers. -/
module

public import Idealize.ShloMosaic.Lib.Pointwise

@[expose] public section

noncomputable section

namespace Cert.Words

open Idealize.ShloMosaic

/-- A small integer is its own remainder. -/
theorem bmod_small (z : ℤ) (h1 : -2147483648 ≤ z) (h2 : z < 2147483648) : z.bmod (2 ^ 32) = z := by
  have e : (2 : ℕ) ^ 32 = 4294967296 := by norm_num
  rw [e]
  exact Int.bmod_eq_of_le (by omega) (by omega)
/-- The word of a small number is that number. -/
theorem toInt_small (i : ℕ) (hi : i < 2 ^ 31) : (BitVec.ofNat 32 i).toInt = (i : ℤ) := by
  rw [BitVec.toInt_eq_toNat_bmod, BitVec.toNat_ofNat, Nat.mod_eq_of_lt (by omega), bmod_small _ (by omega) (by omega)]
/-- The query's place less the key's, with the block before in front of both and without. -/
theorem toInt_rel (i j : ℕ) (hi : i < 256) (hj : j < 256) :
    (IntOp.subi (IntOp.addi (BitVec.ofNat 32 i) 128#32) (BitVec.ofNat 32 j)).toInt = (i : ℤ) + 128 - (j : ℤ) := by
  show (BitVec.ofNat 32 i + BitVec.ofNat 32 128 - BitVec.ofNat 32 j).toInt = _
  rw [BitVec.toInt_sub, BitVec.toInt_add, toInt_small i (by omega), toInt_small j (by omega), toInt_small 128 (by omega),
    bmod_small ((i : ℤ) + (128 : ℕ)) (by omega) (by omega), bmod_small _ (by omega) (by omega)]
  rfl
theorem toInt_rel' (i j : ℕ) (hi : i < 256) (hj : j < 256) :
    (IntOp.subi (BitVec.ofNat 32 i) (BitVec.ofNat 32 j)).toInt = (i : ℤ) - (j : ℤ) := by
  show (BitVec.ofNat 32 i - BitVec.ofNat 32 j).toInt = _
  rw [BitVec.toInt_sub, toInt_small i (by omega), toInt_small j (by omega), bmod_small _ (by omega) (by omega)]
theorem toInt_rel_mul (i j : ℕ) (hi : i < 256) (hj : j < 256) :
    (IntOp.muli (IntOp.subi (IntOp.addi (BitVec.ofNat 32 i) 128#32) (BitVec.ofNat 32 j)) 4#32).toInt = ((i : ℤ) + 128 - (j : ℤ)) * 4 := by
  have h := toInt_rel i j hi hj
  show (IntOp.subi (IntOp.addi (BitVec.ofNat 32 i) 128#32) (BitVec.ofNat 32 j) * BitVec.ofNat 32 4).toInt = _
  rw [BitVec.toInt_mul, h, toInt_small 4 (by omega), bmod_small _ (by omega) (by omega)]
  rfl
/-- A key's place in the sequence. -/
theorem toInt_place (n k : ℕ) (hn : n < 16) (hk : k < 256) :
    (IntOp.addi (IntOp.subi (IntOp.muli (BitVec.ofNat 32 n) 128#32) 128#32) (BitVec.ofNat 32 k)).toInt = (n : ℤ) * 128 - 128 + (k : ℤ) := by
  show (BitVec.ofNat 32 n * BitVec.ofNat 32 128 - BitVec.ofNat 32 128 + BitVec.ofNat 32 k).toInt = _
  rw [BitVec.toInt_add, BitVec.toInt_sub, BitVec.toInt_mul, toInt_small n (by omega), toInt_small 128 (by omega), toInt_small k (by omega),
    bmod_small ((n : ℤ) * (128 : ℕ)) (by omega) (by omega), bmod_small ((n : ℤ) * (128 : ℕ) - (128 : ℕ)) (by omega) (by omega),
    bmod_small _ (by omega) (by omega)]
  rfl

theorem cmpi_sle (x y : BitVec 32) : IntOp.cmpi .sle x y = 1#1 ↔ x.toInt ≤ y.toInt := by
  show BitVec.ofBool (x.sle y) = 1#1 ↔ _
  rw [BitVec.sle_eq_decide]
  by_cases h : x.toInt ≤ y.toInt <;> simp [h]
theorem cmpi_sge (x y : BitVec 32) : IntOp.cmpi .sge x y = 1#1 ↔ y.toInt ≤ x.toInt := cmpi_sle y x
theorem cmpi_slt (x y : BitVec 32) : IntOp.cmpi .slt x y = 1#1 ↔ x.toInt < y.toInt := by
  show BitVec.ofBool (x.slt y) = 1#1 ↔ _
  rw [BitVec.slt_eq_decide]
  by_cases h : x.toInt < y.toInt <;> simp [h]
theorem cmpi_sgt (x y : BitVec 32) : IntOp.cmpi .sgt x y = 1#1 ↔ y.toInt < x.toInt := cmpi_slt y x
theorem toInt_128 : (128#32 : BitVec 32).toInt = 128 := by decide
theorem toInt_0 : (0#32 : BitVec 32).toInt = 0 := by decide

/-- A selection by one bit, and the real number of a word. -/
theorem select_eq {α : Type} (c : BitVec 1) (a b : α) : Scalar.select c a b = if c = 1#1 then a else b := rfl
theorem sitofp_eq (x : BitVec 32) : FloatOps.sitofp (F := Ideal) .f32 x = (((x.toInt : ℤ) : ℝ) : EReal) := rfl

end Cert.Words

end
-- ==== Proof.Dil.UnitValue.lean ====
/- One head of one block in the dilated attention's kernels, at the extended reals. -/
module

public import proofs.«01_k».proof.Proof.Dil.UnitBwd
public import proofs.«01_k».proof.Proof.Math.Dilated
public import proofs.«01_k».proof.Proof.Math.Words
public import Idealize.ShloMosaic.Lib.Pointwise

@[expose] public section

noncomputable section

namespace Cert.DilUnit

open Idealize.ShloMosaic Idealize.SL.Sem Cert.DilAttnIdeal Cert.DilAttnIdeal.Gen Cert.Attn Cert.Dil Cert.Words

/-- The word named as the mask denotes minus infinity. -/
theorem mask_eq : (Named.named (F := Ideal) κ "mask" (φ := .f32) 0xF149F2CA#32) = (⊥ : EReal) := by
  rfl

/-- A 128 by 128 array of extended reals whose entries are the given real numbers. -/
def Reads {φ : FTy} (x : FVec Ideal S128x128 φ) (X : Fin 128 → Fin 128 → ℝ) : Prop := ∀ i d, x (ix2 i d) = (X i d : EReal)

theorem dotNT_apply (a b : FVec Ideal S128x128 .bf16) (i j : Fin 128) : dotNT a b (ix2 i j) = ∑ d, a (ix2 i d) * b (ix2 j d) := by
  pointwise [ofBits_zero]
theorem dotNN_apply (a b : FVec Ideal S128x128 .bf16) (i j : Fin 128) : dotNN a b (ix2 i j) = ∑ d, a (ix2 i d) * b (ix2 d j) := by
  pointwise [ofBits_zero]
theorem dotTN_apply (a b : FVec Ideal S128x128 .bf16) (i j : Fin 128) : dotTN a b (ix2 i j) = ∑ d, a (ix2 d i) * b (ix2 d j) := by
  pointwise [ofBits_zero]

section
variable (H : Head) (hc : H.c = sclR) (w : BitVec 32) (hw : Ideal.ofBits .f32 w = (H.w : EReal)) (n : Fin 16)
include hc hw

/-- The scores of block `n` against the block before, and against itself. -/
theorem prevScore_apply (nb : BitVec 32) (hn : nb.toInt = (n.val : ℤ)) (q k : FVec Ideal S128x128 .bf16) (hq : Reads q (H.Q n)) (hk : Reads k (H.K (prev n)))
    (i j : Fin 128) : prevScore w nb q k (ix2 i j) = H.sc n i (lw j) := by
  have hi := i.isLt
  have hj := j.isLt
  unfold prevScore
  pointwise [ofBits_zero, mask_eq]
  rw [coe_dot _ _ _ _ (hq i) (hk j), sitofp_eq, toInt_rel _ _ (by omega) (by omega), sclR_eq, hw, ← hc, select_eq]
  unfold Head.sc masked
  refine if_congr ?_ ?_ rfl
  · rw [IntOp.andi_eq_one, cmpi_sle, toInt_rel _ _ (by omega) (by omega), toInt_128, seen_lw]
    refine and_congr (by omega) ?_
    show IntOp.cmpi .sgt nb 0#32 = 1#1 ↔ _
    rw [cmpi_sgt, hn, toInt_0]
    omega
  · unfold Head.score
    simp only [ctx_lw]
    push_cast
    rfl
theorem curScore_apply (q k : FVec Ideal S128x128 .bf16) (hq : Reads q (H.Q n)) (hk : Reads k (H.K n))
    (i j : Fin 128) : curScore w q k (ix2 i j) = H.sc n i (up j) := by
  have hi := i.isLt
  have hj := j.isLt
  unfold curScore
  pointwise [ofBits_zero, mask_eq]
  rw [coe_dot _ _ _ _ (hq i) (hk j), sitofp_eq, toInt_rel' _ _ (by omega) (by omega), sclR_eq, hw, ← hc, select_eq]
  unfold Head.sc masked
  refine if_congr ?_ ?_ rfl
  · rw [cmpi_sge, toInt_rel' _ _ (by omega) (by omega), toInt_0, seen_up]
    omega
  · unfold Head.score
    simp only [ctx_up]
    rw [show ((i.val : ℤ) + 128 - ((up j).val : ℤ)) = (i.val : ℤ) - (j.val : ℤ) from by
      show (i.val : ℤ) + 128 - ((128 + j.val : ℕ) : ℤ) = _
      push_cast; ring]
    push_cast
    rfl
end

section
variable (H : Head) (n : Fin 16) (sp sc : FVec Ideal S128x128 .f32) (hp : ∀ i j, sp (ix2 i j) = H.sc n i (lw j)) (hs : ∀ i j, sc (ix2 i j) = H.sc n i (up j))
include hp hs

/-- The log-sum. -/
theorem logSum_apply (i : Fin 128) (z : Fin 1) : logSum sp sc (ix2 i z) = (H.L n i : EReal) := by
  unfold logSum total top
  pointwise [ofBits_zero, ofBits_neg_inf]
  exact lsum_eq (H.score n i) (seen_self n i) _ _ (hp i) (hs i)
end

/-- The probabilities, from masked scores and the log-sum. -/
theorem prob_apply (H : Head) (n : Fin 16) (i : Fin 128) (k : Fin 256) (s l : EReal) (hs : s = H.sc n i k) (hl : l = (H.L n i : EReal)) :
    Ideal.exp (s - l) = (H.P n i k : EReal) := by
  rw [hs, hl]
  exact exp_masked _ _ _ _

theorem weights_apply (s : FVec Ideal S128x128 .f32) (l : FVec Ideal S128x1 .f32) (i j : Fin 128) :
    weights s l (ix2 i j) = Ideal.exp (s (ix2 i j) - l (ix2 i 0)) := by
  unfold weights
  pointwise
theorem pUnit_apply (s l : FVec Ideal S128x128 .f32) (i j : Fin 128) : pUnit s l (ix2 i j) = Ideal.exp (s (ix2 i j) - l (ix2 i j)) := by
  unfold pUnit
  pointwise
theorem dsUnit_apply (p : FVec Ideal S128x128 .f32) (g v : FVec Ideal S128x128 .bf16) (e : FVec Ideal S128x128 .f32) (i j : Fin 128) :
    dsUnit p g v e (ix2 i j) = p (ix2 i j) * ((∑ d, g (ix2 i d) * v (ix2 j d)) + e (ix2 i j)) * (sclR : EReal) := by
  unfold dsUnit
  pointwise [ofBits_zero, sclR_eq]
theorem only_apply (h : BitVec 1) (p : FVec Ideal S128x128 .f32) (i j : Fin 128) : only h p (ix2 i j) = if h = 1#1 then p (ix2 i j) else 0 := by
  unfold only
  pointwise [ofBits_zero]
  rfl
theorem lseUnit_apply (w nb : BitVec 32) (q k k' : FVec Ideal S128x128 .bf16) (i j : Fin 128) :
    lseUnit w nb q k k' (ix2 i j) = logSum (prevScore w nb q k) (curScore w q k') (ix2 i 0) := by
  unfold lseUnit
  pointwise

/-- The output of a block. -/
theorem outUnit_apply (H : Head) (hc : H.c = sclR) (w : BitVec 32) (hw : Ideal.ofBits .f32 w = (H.w : EReal)) (n : Fin 16)
    (nb : BitVec 32) (hn : nb.toInt = (n.val : ℤ)) (q kp kc vp vc : FVec Ideal S128x128 .bf16) (hq : Reads q (H.Q n)) (hkp : Reads kp (H.K (prev n)))
    (hkc : Reads kc (H.K n)) (hvp : Reads vp (H.V (prev n))) (hvc : Reads vc (H.V n)) (i d : Fin 128) :
    outUnit w nb q kp kc vp vc (ix2 i d) = (H.O n i d : EReal) := by
  have hp := prevScore_apply H hc w hw n nb hn q kp hq hkp
  have hs := curScore_apply H hc w hw n q kc hq hkc
  have hl := logSum_apply H n _ _ hp hs
  unfold outUnit
  show dotNN _ _ (ix2 i d) + dotNN _ _ (ix2 i d) = _
  rw [dotNN_apply, dotNN_apply]
  simp only [weights_apply]
  rw [coe_dot _ _ (fun j => H.P n i (lw j)) (fun j => H.V (prev n) j d) (fun j => prob_apply H n i (lw j) _ _ (hp i j) (hl i 0)) (fun j => hvp j d),
    coe_dot _ _ (fun j => H.P n i (up j)) (fun j => H.V n j d) (fun j => prob_apply H n i (up j) _ _ (hs i j) (hl i 0)) (fun j => hvc j d), ← EReal.coe_add]
  unfold Head.O
  rw [sum_halves]
  simp only [ctx_lw, ctx_up]

end Cert.DilUnit

end
-- ==== Proof.Dil.BlockValue.lean ====
/- What a grid point of the dilated attention's two calls writes, at the extended reals: the outputs and log-sums of two blocks
   of queries, and the gradients of two blocks of queries, keys and values. -/
module

public import proofs.«01_k».proof.Proof.Dil.UnitValue

@[expose] public section

noncomputable section

namespace Cert.DilUnit

open Idealize.ShloMosaic Idealize.SL.Sem Cert.DilAttnIdeal Cert.DilAttnIdeal.Gen Cert.Attn Cert.Dil Cert.Words

/-! ## Heads of a tile -/

/-- The first and the second block of the grid point `t`. -/
def a0 (t : Fin 8) : Fin 16 := ⟨2 * t.val, by omega⟩
def a1 (t : Fin 8) : Fin 16 := ⟨2 * t.val + 1, by omega⟩

theorem prev_a1 (t : Fin 8) : prev (a1 t) = a0 t := rfl
theorem next_a0 (t : Fin 8) : next (a0 t) = a1 t := Fin.ext (by show min (2 * t.val + 1) 15 = 2 * t.val + 1; omega)

/-- Column `d` of head `h`. -/
abbrev col (h : Fin 4) (d : Fin 128) : Fin 512 := ⟨128 * h.val + d.val, by omega⟩

/-- A tile of two blocks, and of one, whose four heads are the given real rows. -/
def Big {φ : FTy} (x : FVec Ideal S256x512 φ) (X : Fin 4 → Rows) (t : Fin 8) : Prop :=
  ∀ h (i d : Fin 128), x (ix2 ⟨i.val, by omega⟩ (col h d)) = (X h (a0 t) i d : EReal) ∧ x (ix2 ⟨128 + i.val, by omega⟩ (col h d)) = (X h (a1 t) i d : EReal)
def Small {φ : FTy} (x : FVec Ideal S128x512 φ) (X : Fin 4 → Rows) (n : Fin 16) : Prop :=
  ∀ h (i d : Fin 128), x (ix2 i (col h d)) = (X h n i d : EReal)

theorem reads_lo {φ : FTy} {x : FVec Ideal S256x512 φ} {X : Fin 4 → Rows} {t : Fin 8} (hx : Big x X t) (h : Fin 4) : Reads (lo h x) (X h (a0 t)) :=
  fun i d => Eq.trans (by pointwise) (hx h i d).1
theorem reads_hi {φ : FTy} {x : FVec Ideal S256x512 φ} {X : Fin 4 → Rows} {t : Fin 8} (hx : Big x X t) (h : Fin 4) : Reads (hi h x) (X h (a1 t)) :=
  fun i d => Eq.trans (by pointwise) (hx h i d).2
theorem reads_lo' {φ : FTy} {x : FVec Ideal S256x512 φ} {X : Fin 4 → Rows} {t : Fin 8} (hx : Big x X t) (h : Fin 4) : Reads (lo' h x) (X h (a0 t)) :=
  fun i d => Eq.trans (by pointwise) (hx h i d).1
theorem reads_one {φ : FTy} {x : FVec Ideal S128x512 φ} {X : Fin 4 → Rows} {n : Fin 16} (hx : Small x X n) (h : Fin 4) : Reads (one h x) (X h n) :=
  fun i d => Eq.trans (by pointwise) (hx h i d)

theorem tile_lo (a b : Fin 4 → FVec Ideal S128x128 .f32) (h : Fin 4) (i d : Fin 128) :
    tile a b (ix2 ⟨i.val, by omega⟩ (col h d)) = a h (ix2 i d) := by
  have hi := i.isLt
  have hd := d.isLt
  unfold tile
  match h with
  | 0 => pointwise
  | 1 => pointwise
  | 2 =>
    pointwise
    rw [dif_neg (by omega), dif_neg (by omega), dif_pos (by omega)]
    exact congrArg (a 2) (congrArg (ix2 _) (Fin.ext (by show 256 + d.val - 128 - 128 = d.val; omega)))
  | 3 =>
    pointwise
    rw [dif_neg (by omega), dif_neg (by omega), dif_neg (by omega)]
    exact congrArg (a 3) (congrArg (ix2 _) (Fin.ext (by show 384 + d.val - 128 - 128 - 128 = d.val; omega)))

/-- The second half of a tile is the first half of the tile with the blocks exchanged. -/
theorem tile_swap (a b : Fin 4 → FVec Ideal S128x128 .f32) (i : Fin 128) (j : Fin 512) :
    tile a b (ix2 ⟨128 + i.val, by omega⟩ j) = tile b a (ix2 ⟨i.val, by omega⟩ j) := by
  unfold tile
  pointwise
theorem tile_hi (a b : Fin 4 → FVec Ideal S128x128 .f32) (h : Fin 4) (i d : Fin 128) :
    tile a b (ix2 ⟨128 + i.val, by omega⟩ (col h d)) = b h (ix2 i d) := (tile_swap a b i _).trans (tile_lo b a h i d)

/-- A tile put together from real blocks. -/
theorem big_tile (a b : Fin 4 → FVec Ideal S128x128 .f32) (X : Fin 4 → Rows) (t : Fin 8) (ha : ∀ h, Reads (a h) (X h (a0 t)))
    (hb : ∀ h, Reads (b h) (X h (a1 t))) : Big (tile a b) X t :=
  fun h i d => ⟨(tile_lo a b h i d).trans (ha h i d), (tile_hi a b h i d).trans (hb h i d)⟩

/-! ## The numbers of the blocks -/

theorem toInt_twice (t : Fin 8) : (twice (BitVec.ofNat 32 t.val)).toInt = ((a0 t).val : ℤ) := by revert t; decide
theorem toInt_num0 (t : Fin 8) : (num (BitVec.ofNat 32 t.val) 0#32).toInt = ((a0 t).val : ℤ) := by revert t; decide
theorem toInt_num1 (t : Fin 8) : (num (BitVec.ofNat 32 t.val) 1#32).toInt = ((a1 t).val : ℤ) := by revert t; decide
theorem toInt_num2 (t : Fin 8) (h : (a1 t).val + 1 < 16) : (num (BitVec.ofNat 32 t.val) 2#32).toInt = ((next (a1 t)).val : ℤ) := by revert t; decide
theorem has_next (t : Fin 8) : Scalar.cmpi .slt (num (BitVec.ofNat 32 t.val) 2#32) 16#32 = 1#1 ↔ (a1 t).val + 1 < 16 := by revert t; decide
theorem prev_next (t : Fin 8) (h : (a1 t).val + 1 < 16) : prev (next (a1 t)) = a1 t := by revert t; decide

/-! ## The forward call -/

section
variable (Hs : Fin 4 → Head) (hc : ∀ h, (Hs h).c = sclR) (hw : ∀ h, Ideal.ofBits .f32 (word h) = ((Hs h).w : EReal)) (t : Fin 8)
  (q : FVec Ideal S256x512 .bf16) (kp : FVec Ideal S128x512 .bf16) (kc : FVec Ideal S256x512 .bf16) (vp : FVec Ideal S128x512 .bf16)
  (vc : FVec Ideal S256x512 .bf16) (hq : Big q (fun h => (Hs h).Q) t) (hkp : Small kp (fun h => (Hs h).K) (prev (a0 t)))
  (hkc : Big kc (fun h => (Hs h).K) t) (hvp : Small vp (fun h => (Hs h).V) (prev (a0 t))) (hvc : Big vc (fun h => (Hs h).V) t)
include hc hw hq hkp hkc

theorem big_out (hvp : Small vp (fun h => (Hs h).V) (prev (a0 t))) (hvc : Big vc (fun h => (Hs h).V) t) :
    Big (outBlock (BitVec.ofNat 32 t.val) q kp kc vp vc) (fun h => (Hs h).O) t :=
  big_tile _ _ _ t
    (fun h => outUnit_apply (Hs h) (hc h) _ (hw h) (a0 t) _ (toInt_num0 t) _ _ _ _ _ (reads_lo hq h) (reads_one hkp h) (reads_lo hkc h) (reads_one hvp h) (reads_lo hvc h))
    (fun h => outUnit_apply (Hs h) (hc h) _ (hw h) (a1 t) _ (toInt_num1 t) _ _ _ _ _ (reads_hi hq h) (reads_lo' hkc h) (reads_hi hkc h) (reads_lo' hvc h) (reads_hi hvc h))
theorem big_lse : Big (lseBlock (BitVec.ofNat 32 t.val) q kp kc) (fun h n i _ => (Hs h).L n i) t :=
  big_tile _ _ _ t
    (fun h i d => (lseUnit_apply _ _ _ _ _ i d).trans (logSum_apply (Hs h) (a0 t) _ _
      (prevScore_apply (Hs h) (hc h) _ (hw h) (a0 t) _ (toInt_num0 t) _ _ (reads_lo hq h) (reads_one hkp h))
      (curScore_apply (Hs h) (hc h) _ (hw h) (a0 t) _ _ (reads_lo hq h) (reads_lo hkc h)) i 0))
    (fun h i d => (lseUnit_apply _ _ _ _ _ i d).trans (logSum_apply (Hs h) (a1 t) _ _
      (prevScore_apply (Hs h) (hc h) _ (hw h) (a1 t) _ (toInt_num1 t) _ _ (reads_hi hq h) (reads_lo' hkc h))
      (curScore_apply (Hs h) (hc h) _ (hw h) (a1 t) _ _ (reads_hi hq h) (reads_hi hkc h)) i 0))
end

/-! ## The backward call -/

/-- The gradient of the scores against the keys `kk`, from their probabilities. -/
theorem ds_apply (H : Head) (hc : H.c = sclR) (n : Fin 16) (kk : Fin 128 → Fin 256) (p : FVec Ideal S128x128 .f32) (g v : FVec Ideal S128x128 .bf16)
    (e : FVec Ideal S128x128 .f32) (hp : Reads p fun i j => H.P n i (kk j)) (hg : Reads g (H.G n)) (hv : Reads v fun j d => ctx H.V n (kk j) d)
    (he : Reads e fun i _ => H.E n i) : Reads (dsUnit p g v e) fun i j => H.dS n i (kk j) := by
  intro i j
  rw [dsUnit_apply, coe_dot _ _ _ _ (hg i) (hv j), hp, he, ← hc, ← EReal.coe_add, ← EReal.coe_mul, ← EReal.coe_mul]
  rfl

section
variable (Hs : Fin 4 → Head) (hc : ∀ h, (Hs h).c = sclR) (hw : ∀ h, Ideal.ofBits .f32 (word h) = ((Hs h).w : EReal)) (t : Fin 8)
  {q : FVec Ideal S256x512 .bf16} {qn kp : FVec Ideal S128x512 .bf16} {kc : FVec Ideal S256x512 .bf16}
  {vp : FVec Ideal S128x512 .bf16} {vc : FVec Ideal S256x512 .bf16} {l : FVec Ideal S256x512 .f32} {ln : FVec Ideal S128x512 .f32}
  {g : FVec Ideal S256x512 .bf16} {gn : FVec Ideal S128x512 .bf16} {e : FVec Ideal S256x512 .f32} {en : FVec Ideal S128x512 .f32}

section
include hc hw
theorem reads_pA (hq : Big q (fun h => (Hs h).Q) t) (hkp : Small kp (fun h => (Hs h).K) (prev (a0 t))) (hl : Big l (fun h n i _ => (Hs h).L n i) t)
    (h : Fin 4) : Reads (pA (BitVec.ofNat 32 t.val) q kp l h) fun i j => (Hs h).P (a0 t) i (lw j) := fun i j =>
  (pUnit_apply _ _ i j).trans (prob_apply (Hs h) (a0 t) i (lw j) _ _
    (prevScore_apply (Hs h) (hc h) _ (hw h) (a0 t) _ (toInt_twice t) _ _ (reads_lo hq h) (reads_one hkp h) i j) (reads_lo hl h i j))
theorem reads_pB (hq : Big q (fun h => (Hs h).Q) t) (hkc : Big kc (fun h => (Hs h).K) t) (hl : Big l (fun h n i _ => (Hs h).L n i) t)
    (h : Fin 4) : Reads (pB q kc l h) fun i j => (Hs h).P (a0 t) i (up j) := fun i j =>
  (pUnit_apply _ _ i j).trans (prob_apply (Hs h) (a0 t) i (up j) _ _
    (curScore_apply (Hs h) (hc h) _ (hw h) (a0 t) _ _ (reads_lo hq h) (reads_lo hkc h) i j) (reads_lo hl h i j))
theorem reads_pC (hq : Big q (fun h => (Hs h).Q) t) (hkc : Big kc (fun h => (Hs h).K) t) (hl : Big l (fun h n i _ => (Hs h).L n i) t)
    (h : Fin 4) : Reads (pC (BitVec.ofNat 32 t.val) q kc l h) fun i j => (Hs h).P (a1 t) i (lw j) := fun i j =>
  (pUnit_apply _ _ i j).trans (prob_apply (Hs h) (a1 t) i (lw j) _ _
    (prevScore_apply (Hs h) (hc h) _ (hw h) (a1 t) _ (toInt_num1 t) _ _ (reads_hi hq h) (reads_lo hkc h) i j) (reads_hi hl h i j))
theorem reads_pD (hq : Big q (fun h => (Hs h).Q) t) (hkc : Big kc (fun h => (Hs h).K) t) (hl : Big l (fun h n i _ => (Hs h).L n i) t)
    (h : Fin 4) : Reads (pD q kc l h) fun i j => (Hs h).P (a1 t) i (up j) := fun i j =>
  (pUnit_apply _ _ i j).trans (prob_apply (Hs h) (a1 t) i (up j) _ _
    (curScore_apply (Hs h) (hc h) _ (hw h) (a1 t) _ _ (reads_hi hq h) (reads_hi hkc h) i j) (reads_hi hl h i j))
theorem reads_pE (hqn : Small qn (fun h => (Hs h).Q) (next (a1 t))) (hkc : Big kc (fun h => (Hs h).K) t)
    (hln : Small ln (fun h n i _ => (Hs h).L n i) (next (a1 t))) (h : Fin 4) :
    Reads (pE (BitVec.ofNat 32 t.val) qn kc ln h) fun i j => if (a1 t).val + 1 < 16 then (Hs h).P (next (a1 t)) i (lw j) else 0 := by
  intro i j
  show only _ _ (ix2 i j) = _
  rw [only_apply, if_congr (has_next t) rfl rfl]
  split
  · next hn =>
    have hk : Reads (hi h kc) ((Hs h).K (prev (next (a1 t)))) := by rw [prev_next t hn]; exact reads_hi hkc h
    exact (pUnit_apply _ _ i j).trans (prob_apply (Hs h) (next (a1 t)) i (lw j) _ _
      (prevScore_apply (Hs h) (hc h) _ (hw h) (next (a1 t)) _ (toInt_num2 t hn) _ _ (reads_one hqn h) hk i j) (reads_one hln h i j))
  · rfl
end

theorem reads_ctx_lw {φ : FTy} {x : FVec Ideal S128x128 φ} {X : Rows} {n m : Fin 16} (hm : prev n = m) (hx : Reads x (X m)) :
    Reads x fun j d => ctx X n (lw j) d := fun j d => by
  show _ = ((ctx X n (lw j) d : ℝ) : EReal)
  rw [hx j d, ctx_lw, hm]
theorem reads_ctx_up {φ : FTy} {x : FVec Ideal S128x128 φ} {X : Rows} {n : Fin 16} (hx : Reads x (X n)) :
    Reads x fun j d => ctx X n (up j) d := fun j d => by
  show _ = ((ctx X n (up j) d : ℝ) : EReal)
  rw [hx j d, ctx_up]

/-- The gradient of a block of queries, from the two halves of its scores' gradients. -/
theorem reads_dq (H : Head) (n : Fin 16) (x y a b : FVec Ideal S128x128 .bf16) (hx : Reads x fun i j => H.dS n i (lw j)) (hy : Reads y fun i j => H.dS n i (up j))
    (ha : Reads a (H.K (prev n))) (hb : Reads b (H.K n)) : Reads (addf (dotNN x a) (dotNN y b)) (H.dQ n) := by
  intro i d
  show dotNN x a (ix2 i d) + dotNN y b (ix2 i d) = _
  rw [dotNN_apply, dotNN_apply, coe_dot _ _ _ _ (hx i) (fun j => ha j d), coe_dot _ _ _ _ (hy i) (fun j => hb j d), ← EReal.coe_add]
  unfold Head.dQ
  rw [sum_halves]
  simp only [ctx_lw, ctx_up]
/-- The gradient of a block of keys or values, from its own queries and those of the block after. -/
theorem reads_dkv (m : Fin 16) (A B : Fin 128 → Fin 128 → ℝ) (X : Rows) (x y a b : FVec Ideal S128x128 .bf16)
    (hx : Reads x A) (hy : Reads y fun i j => if m.val + 1 < 16 then B i j else 0) (ha : Reads a (X m)) (hb : Reads b (X (next m))) :
    Reads (addf (dotTN x a) (dotTN y b)) fun j d => (∑ i, A i j * X m i d) + if m.val + 1 < 16 then ∑ i, B i j * X (next m) i d else 0 := by
  intro j d
  show dotTN x a (ix2 j d) + dotTN y b (ix2 j d) = _
  rw [dotTN_apply, dotTN_apply, coe_dot _ _ _ _ (fun i => hx i j) (fun i => ha i d), coe_dot _ _ _ _ (fun i => hy i j) (fun i => hb i d), ← EReal.coe_add]
  split
  · rfl
  · simp only [zero_mul, Finset.sum_const_zero]

section
include hc hw

theorem big_dq (hq : Big q (fun h => (Hs h).Q) t) (hkp : Small kp (fun h => (Hs h).K) (prev (a0 t))) (hkc : Big kc (fun h => (Hs h).K) t)
    (hvp : Small vp (fun h => (Hs h).V) (prev (a0 t))) (hvc : Big vc (fun h => (Hs h).V) t) (hl : Big l (fun h n i _ => (Hs h).L n i) t)
    (hg : Big g (fun h => (Hs h).G) t) (he : Big e (fun h n i _ => (Hs h).E n i) t) :
    Big (dqBlock (BitVec.ofNat 32 t.val) q kp kc vp vc l g e) (fun h => (Hs h).dQ) t := by
  have key := big_tile _ _ (fun h => (Hs h).dQ) t
    (fun h => reads_dq (Hs h) (a0 t) _ _ _ _
      (ds_apply (Hs h) (hc h) (a0 t) lw _ _ _ _ (reads_pA Hs hc hw t hq hkp hl h) (reads_lo hg h) (reads_ctx_lw rfl (reads_one hvp h)) (reads_lo he h))
      (ds_apply (Hs h) (hc h) (a0 t) up _ _ _ _ (reads_pB Hs hc hw t hq hkc hl h) (reads_lo hg h) (reads_ctx_up (reads_lo hvc h)) (reads_lo he h))
      (reads_one hkp h) (reads_lo hkc h))
    (fun h => reads_dq (Hs h) (a1 t) _ _ _ _
      (ds_apply (Hs h) (hc h) (a1 t) lw _ _ _ _ (reads_pC Hs hc hw t hq hkc hl h) (reads_hi hg h) (reads_ctx_lw (prev_a1 t) (reads_lo hvc h)) (reads_hi he h))
      (ds_apply (Hs h) (hc h) (a1 t) up _ _ _ _ (reads_pD Hs hc hw t hq hkc hl h) (reads_hi hg h) (reads_ctx_up (reads_hi hvc h)) (reads_hi he h))
      (reads_lo hkc h) (reads_hi hkc h))
  exact key

/-- With no block after, the gradient of its scores is zero. -/
theorem reads_dsE (hqn : Small qn (fun h => (Hs h).Q) (next (a1 t))) (hkc : Big kc (fun h => (Hs h).K) t) (hvc : Big vc (fun h => (Hs h).V) t)
    (hln : Small ln (fun h n i _ => (Hs h).L n i) (next (a1 t))) (hgn : Small gn (fun h => (Hs h).G) (next (a1 t)))
    (hen : Small en (fun h n i _ => (Hs h).E n i) (next (a1 t))) (h : Fin 4) :
    Reads (dsE (BitVec.ofNat 32 t.val) qn kc vc ln gn en h) fun i j => if (a1 t).val + 1 < 16 then (Hs h).dS (next (a1 t)) i (lw j) else 0 := by
  have hp := reads_pE Hs hc hw t hqn hkc hln h
  by_cases hn : (a1 t).val + 1 < 16
  · simp only [if_pos hn] at hp ⊢
    exact ds_apply (Hs h) (hc h) (next (a1 t)) lw _ _ _ _ hp (reads_one hgn h) (reads_ctx_lw (prev_next t hn) (reads_hi hvc h)) (reads_one hen h)
  · simp only [if_neg hn] at hp ⊢
    intro i j
    show dsUnit _ _ _ _ (ix2 i j) = _
    rw [dsUnit_apply, hp i j, EReal.coe_zero, zero_mul, zero_mul]

theorem big_dk (hq : Big q (fun h => (Hs h).Q) t) (hqn : Small qn (fun h => (Hs h).Q) (next (a1 t))) (hkc : Big kc (fun h => (Hs h).K) t)
    (hvc : Big vc (fun h => (Hs h).V) t) (hl : Big l (fun h n i _ => (Hs h).L n i) t) (hln : Small ln (fun h n i _ => (Hs h).L n i) (next (a1 t)))
    (hg : Big g (fun h => (Hs h).G) t) (hgn : Small gn (fun h => (Hs h).G) (next (a1 t))) (he : Big e (fun h n i _ => (Hs h).E n i) t)
    (hen : Small en (fun h n i _ => (Hs h).E n i) (next (a1 t))) :
    Big (dkBlock (BitVec.ofNat 32 t.val) q qn kc vc l ln g gn e en) (fun h => (Hs h).dK) t :=
  big_tile _ _ (fun h => (Hs h).dK) t
    (fun h => reads_dkv (a0 t) _ (fun i j => (Hs h).dS (next (a0 t)) i (lw j)) (Hs h).Q _ _ _ _
      (ds_apply (Hs h) (hc h) (a0 t) up _ _ _ _ (reads_pB Hs hc hw t hq hkc hl h) (reads_lo hg h) (reads_ctx_up (reads_lo hvc h)) (reads_lo he h))
      (fun i j => by
        show _ = ((if (a0 t).val + 1 < 16 then (Hs h).dS (next (a0 t)) i (lw j) else 0 : ℝ) : EReal)
        rw [if_pos (by show 2 * t.val + 1 < 16; omega), next_a0]
        exact ds_apply (Hs h) (hc h) (a1 t) lw _ _ _ _ (reads_pC Hs hc hw t hq hkc hl h) (reads_hi hg h) (reads_ctx_lw (prev_a1 t) (reads_lo hvc h)) (reads_hi he h) i j)
      (reads_lo hq h) (by rw [next_a0]; exact reads_hi hq h))
    (fun h => reads_dkv (a1 t) _ (fun i j => (Hs h).dS (next (a1 t)) i (lw j)) (Hs h).Q _ _ _ _
      (ds_apply (Hs h) (hc h) (a1 t) up _ _ _ _ (reads_pD Hs hc hw t hq hkc hl h) (reads_hi hg h) (reads_ctx_up (reads_hi hvc h)) (reads_hi he h))
      (reads_dsE Hs hc hw t hqn hkc hvc hln hgn hen h)
      (reads_hi hq h) (reads_one hqn h))

theorem big_dv (hq : Big q (fun h => (Hs h).Q) t) (hqn : Small qn (fun h => (Hs h).Q) (next (a1 t))) (hkc : Big kc (fun h => (Hs h).K) t)
    (hl : Big l (fun h n i _ => (Hs h).L n i) t) (hln : Small ln (fun h n i _ => (Hs h).L n i) (next (a1 t)))
    (hg : Big g (fun h => (Hs h).G) t) (hgn : Small gn (fun h => (Hs h).G) (next (a1 t))) :
    Big (dvBlock (BitVec.ofNat 32 t.val) q qn kc l ln g gn) (fun h => (Hs h).dV) t :=
  big_tile _ _ (fun h => (Hs h).dV) t
    (fun h => reads_dkv (a0 t) _ (fun i j => (Hs h).P (next (a0 t)) i (lw j)) (Hs h).G _ _ _ _
      (reads_pB Hs hc hw t hq hkc hl h)
      (fun i j => by
        show _ = ((if (a0 t).val + 1 < 16 then (Hs h).P (next (a0 t)) i (lw j) else 0 : ℝ) : EReal)
        rw [if_pos (by show 2 * t.val + 1 < 16; omega), next_a0]
        exact reads_pC Hs hc hw t hq hkc hl h i j)
      (reads_lo hg h) (by rw [next_a0]; exact reads_hi hg h))
    (fun h => reads_dkv (a1 t) _ (fun i j => (Hs h).P (next (a1 t)) i (lw j)) (Hs h).G _ _ _ _
      (reads_pD Hs hc hw t hq hkc hl h) (reads_pE Hs hc hw t hqn hkc hln h) (reads_hi hg h) (reads_one hgn h))

end
end

end Cert.DilUnit

end
-- ==== Proof.Dil.Spec.lean ====
/- The second group of the dilated attention as the step holds it: its heads, read from the four arguments' arrays, and the
   arrays of 2048 by 2048 numbers that hold one block of rows per residue and head. -/
module

public import proofs.«01_k».proof.Proof.Math.Dilated

@[expose] public section

noncomputable section

namespace Cert.DilSpec

open Idealize.ShloMosaic Cert.Attn Cert.Dil

/-- Row `i` of block `n` of residue `r`, in the sequence and in the residue's own. -/
def row (r : Fin 4) (n : Fin 16) (i : Fin 128) : Fin 8192 := ⟨4 * (128 * n.val + i.val) + r.val, by omega⟩
def sub (n : Fin 16) (i : Fin 128) : Fin 2048 := ⟨128 * n.val + i.val, by omega⟩
/-- Feature `d` of head `h`, among the group's columns from `o` on, and beside the other residues. -/
def feat (C o : ℕ) (hC : o + 512 ≤ C) (h : Fin 4) (d : Fin 128) : Fin C := ⟨o + (128 * h.val + d.val), by omega⟩
def beside (r h : Fin 4) (d : Fin 128) : Fin 2048 := ⟨512 * r.val + (128 * h.val + d.val), by omega⟩

/-- The word of the slope of head `h` times the dilation. -/
def slopeWord (h : Fin 4) : BitVec 32 :=
  match h with | 0 => 0x3ECB2FF5#32 | 1 => 0x3E800000#32 | 2 => 0x3E214518#32 | 3 => 0x3DCB2FF5#32
def slopeR (h : Fin 4) : ℝ := (Ideal.ofBits .f32 (slopeWord h)).toReal
theorem slopeR_eq (h : Fin 4) : Ideal.ofBits .f32 (slopeWord h) = (slopeR h : EReal) := by
  have key : ∃ x : ℝ, Ideal.ofBits .f32 (slopeWord h) = x := by
    unfold slopeWord
    match h with
    | 0 => simp [Ideal.ofBits, Ideal.ieee]; exact ⟨_, by norm_cast⟩
    | 1 => simp [Ideal.ofBits, Ideal.ieee]; exact ⟨_, by norm_cast⟩
    | 2 => simp [Ideal.ofBits, Ideal.ieee]; exact ⟨_, by norm_cast⟩
    | 3 => simp [Ideal.ofBits, Ideal.ieee]; exact ⟨_, by norm_cast⟩
  obtain ⟨x, hx⟩ := key
  unfold slopeR
  rw [hx, EReal.toReal_coe]

section
variable (x0 : (⟨2, ![8192, 2048]⟩ : Shape).Idx → EReal) (x1 : (⟨2, ![8192, 3072]⟩ : Shape).Idx → EReal)
  (x2 : (⟨2, ![8192, 512]⟩ : Shape).Idx → EReal) (x3 : (⟨2, ![8192, 4]⟩ : Shape).Idx → EReal)

/-- Head `h` of residue `r`. -/
def Hd (r h : Fin 4) : Head where
  c := sclR
  w := slopeR h
  Q n i d := (x0 (ix2 (row r n i) (feat 2048 512 (by omega) h d))).toReal
  K n i d := (x1 (ix2 (row r n i) (feat 3072 512 (by omega) h d))).toReal
  V n i d := (x1 (ix2 (row r n i) (feat 3072 2048 (by omega) h d))).toReal
  G n i d := (x2 (ix2 (row r n i) (feat 512 0 (by omega) h d))).toReal
  dl n i := (x3 (ix2 (row r n i) h)).toReal

/-- The group's queries, keys and values and the two gradients are real numbers. -/
structure AreReal : Prop where
  q : ∀ s (j : Fin 512), ∃ x : ℝ, x0 (ix2 s ⟨512 + j.val, by omega⟩) = x
  k : ∀ s (j : Fin 512), ∃ x : ℝ, x1 (ix2 s ⟨512 + j.val, by omega⟩) = x
  v : ∀ s (j : Fin 512), ∃ x : ℝ, x1 (ix2 s ⟨2048 + j.val, by omega⟩) = x
  g : ∀ s (j : Fin 512), ∃ x : ℝ, x2 (ix2 s j) = x
  dl : ∀ s (h : Fin 4), ∃ x : ℝ, x3 (ix2 s h) = x

theorem coe_of_real {y : EReal} (h : ∃ x : ℝ, y = x) : y = (y.toReal : EReal) := by
  obtain ⟨x, rfl⟩ := h
  rw [EReal.toReal_coe]

variable {x0 x1 x2 x3} (hr : AreReal x0 x1 x2 x3) (r h : Fin 4) (n : Fin 16) (i d : Fin 128)
include hr
theorem q_eq : x0 (ix2 (row r n i) (feat 2048 512 (by omega) h d)) = ((Hd x0 x1 x2 x3 r h).Q n i d : EReal) :=
  coe_of_real (hr.q (row r n i) ⟨128 * h.val + d.val, by omega⟩)
theorem k_eq : x1 (ix2 (row r n i) (feat 3072 512 (by omega) h d)) = ((Hd x0 x1 x2 x3 r h).K n i d : EReal) :=
  coe_of_real (hr.k (row r n i) ⟨128 * h.val + d.val, by omega⟩)
theorem v_eq : x1 (ix2 (row r n i) (feat 3072 2048 (by omega) h d)) = ((Hd x0 x1 x2 x3 r h).V n i d : EReal) :=
  coe_of_real (hr.v (row r n i) ⟨128 * h.val + d.val, by omega⟩)
theorem g_eq : x2 (ix2 (row r n i) (feat 512 0 (by omega) h d)) = ((Hd x0 x1 x2 x3 r h).G n i d : EReal) :=
  coe_of_real (hr.g (row r n i) _)
theorem dl_eq : x3 (ix2 (row r n i) h) = ((Hd x0 x1 x2 x3 r h).dl n i : EReal) :=
  coe_of_real (hr.dl (row r n i) h)
end

/-! ## Arrays of one block of rows per residue and head -/

/-- The array that holds the given real rows, residue and head by residue and head. -/
def Arr (A : (⟨2, ![2048, 2048]⟩ : Shape).Idx → EReal) (X : Fin 4 → Fin 4 → Rows) : Prop :=
  ∀ r h n i d, A (ix2 (sub n i) (beside r h d)) = (X r h n i d : EReal)
def join (X : Fin 4 → Fin 4 → Rows) : (⟨2, ![2048, 2048]⟩ : Shape).Idx → EReal := fun i =>
  (X ⟨(i 1).val / 512, by have : (i 1).val < 2048 := (i 1).isLt; omega⟩ ⟨(i 1).val / 128 % 4, by omega⟩
    ⟨(i 0).val / 128, by have : (i 0).val < 2048 := (i 0).isLt; omega⟩ ⟨(i 0).val % 128, by omega⟩ ⟨(i 1).val % 128, by omega⟩ : EReal)

theorem join_apply (X : Fin 4 → Fin 4 → Rows) (r h : Fin 4) (n : Fin 16) (i d : Fin 128) :
    join X (ix2 (sub n i) (beside r h d)) = (X r h n i d : EReal) := by
  have e1 : (⟨(beside r h d).val / 512, by have := (beside r h d).isLt; omega⟩ : Fin 4) = r := Fin.ext (by
    show (512 * r.val + (128 * h.val + d.val)) / 512 = r.val; omega)
  have e2 : (⟨(beside r h d).val / 128 % 4, by omega⟩ : Fin 4) = h := Fin.ext (by
    show (512 * r.val + (128 * h.val + d.val)) / 128 % 4 = h.val; omega)
  have e3 : (⟨(sub n i).val / 128, by have := (sub n i).isLt; omega⟩ : Fin 16) = n := Fin.ext (by
    show (128 * n.val + i.val) / 128 = n.val; omega)
  have e4 : (⟨(sub n i).val % 128, by omega⟩ : Fin 128) = i := Fin.ext (by
    show (128 * n.val + i.val) % 128 = i.val; omega)
  have e5 : (⟨(beside r h d).val % 128, by omega⟩ : Fin 128) = d := Fin.ext (by
    show (512 * r.val + (128 * h.val + d.val)) % 128 = d.val; omega)
  show ((X ⟨(beside r h d).val / 512, _⟩ ⟨(beside r h d).val / 128 % 4, _⟩ ⟨(sub n i).val / 128, _⟩ ⟨(sub n i).val % 128, _⟩
    ⟨(beside r h d).val % 128, _⟩ : ℝ) : EReal) = _
  rw [e1, e2, e3, e4, e5]

/-- Every place of such an array is one row's one feature. -/
theorem place (j : (⟨2, ![2048, 2048]⟩ : Shape).Idx) : ∃ r h n i d, j = ix2 (sub n i) (beside r h d) := by
  have h0 : (j 0).val < 2048 := (j 0).isLt
  have h1 : (j 1).val < 2048 := (j 1).isLt
  refine ⟨⟨(j 1).val / 512, by omega⟩, ⟨(j 1).val / 128 % 4, by omega⟩, ⟨(j 0).val / 128, by omega⟩, ⟨(j 0).val % 128, by omega⟩,
    ⟨(j 1).val % 128, by omega⟩, funext fun a => ?_⟩
  match a with
  | ⟨0, _⟩ => exact Fin.ext (by show (j 0).val = 128 * ((j 0).val / 128) + (j 0).val % 128; omega)
  | ⟨1, _⟩ => exact Fin.ext (by show (j 1).val = 512 * ((j 1).val / 512) + (128 * ((j 1).val / 128 % 4) + (j 1).val % 128); omega)

theorem eq_join {A : (⟨2, ![2048, 2048]⟩ : Shape).Idx → EReal} {X : Fin 4 → Fin 4 → Rows} (h : Arr A X) : A = join X := by
  funext j
  obtain ⟨r, hh, n, i, d, rfl⟩ := place j
  rw [h, join_apply]
theorem arr_join (X : Fin 4 → Fin 4 → Rows) : Arr (join X) X := fun r h n i d => join_apply X r h n i d

end Cert.DilSpec

end
-- ==== Proof.Dil.Blocks.lean ====
/- Where the tiles of two blocks and of one lie in an array of 2048 by 2048 numbers, and what the host's slices and reshapes and
   the kernel's loads make of the rows they hold. -/
module

public import proofs.«01_k».proof.Proof.Dil.BlockValue
public import proofs.«01_k».proof.Proof.Dil.Spec
public import proofs.«01_k».proof.Proof.Gen.DilAttnIdeal.Frame

@[expose] public section

noncomputable section

namespace Cert.DilBlocks

open Idealize.ShloMosaic Idealize.ShloMosaic.TcCoe Idealize.ShloMosaic.Tactic Idealize.SL.Sem
open Cert.DilAttnIdeal Cert.DilAttnIdeal.Gen Cert.Attn Cert.Dil Cert.DilUnit Cert.DilSpec

theorem hz : (![0, 0] : Fin 2 → Nat) = fun _ => 0 := funext fun a => by fin_cases a <;> rfl

section
variable {φ : FTy} {A : S2048x2048.Idx → EReal} {X : Fin 4 → Fin 4 → Rows} (r : Fin 4)

/-- A tile of an array that holds the rows `X`. -/
theorem big_of (hA : Arr A X) (t : Fin 8) (x : FVec Ideal S256x512 φ)
    (h : ∀ (p : Fin 256) (j : Fin 512), (x (ix2 p j) : EReal) = A (ix2 ⟨256 * t.val + p.val, by omega⟩ ⟨512 * r.val + j.val, by omega⟩)) :
    Big x (X r) t := fun hh i d =>
  ⟨(h _ _).trans (Eq.trans (congrArg A (congrArg (ix2 · _) (Fin.ext (by
      show 256 * t.val + i.val = 128 * (2 * t.val) + i.val; omega)))) (hA r hh (a0 t) i d)),
   (h _ _).trans (Eq.trans (congrArg A (congrArg (ix2 · _) (Fin.ext (by
      show 256 * t.val + (128 + i.val) = 128 * (2 * t.val + 1) + i.val; omega)))) (hA r hh (a1 t) i d))⟩
theorem small_of (hA : Arr A X) (n : Fin 16) (x : FVec Ideal S128x512 φ)
    (h : ∀ (p : Fin 128) (j : Fin 512), (x (ix2 p j) : EReal) = A (ix2 ⟨128 * n.val + p.val, by omega⟩ ⟨512 * r.val + j.val, by omega⟩)) :
    Small x (X r) n := fun hh i d => (h _ _).trans (hA r hh n i d)

/-- And the tile's place in the array of those rows. -/
theorem of_big {x : FVec Ideal S256x512 φ} {t : Fin 8} (hb : Big x (X r) t) (p : Fin 256) (j : Fin 512) :
    (x (ix2 p j) : EReal) = join X (ix2 ⟨256 * t.val + p.val, by omega⟩ ⟨512 * r.val + j.val, by omega⟩) := by
  have ej : j = col ⟨j.val / 128, by omega⟩ ⟨j.val % 128, by omega⟩ := Fin.ext (by
    show j.val = 128 * (j.val / 128) + j.val % 128; omega)
  have eb : (⟨512 * r.val + j.val, by omega⟩ : Fin 2048) = beside r ⟨j.val / 128, by omega⟩ ⟨j.val % 128, by omega⟩ := Fin.ext (by
    show 512 * r.val + j.val = 512 * r.val + (128 * (j.val / 128) + j.val % 128); omega)
  by_cases hp : p.val < 128
  · have ep : p = ⟨(⟨p.val, hp⟩ : Fin 128).val, by omega⟩ := rfl
    have es : (⟨256 * t.val + p.val, by omega⟩ : Fin 2048) = sub (a0 t) ⟨p.val, hp⟩ := Fin.ext (by
      show 256 * t.val + p.val = 128 * (2 * t.val) + p.val; omega)
    rw [es, eb, join_apply]
    exact Eq.trans (congrArg (fun k => (x (ix2 p k) : EReal)) ej) (hb _ ⟨p.val, hp⟩ _).1
  · have ep : p = ⟨128 + (⟨p.val - 128, by omega⟩ : Fin 128).val, by show 128 + (p.val - 128) < 256; omega⟩ := Fin.ext (by
      show p.val = 128 + (p.val - 128); omega)
    have es : (⟨256 * t.val + p.val, by omega⟩ : Fin 2048) = sub (a1 t) ⟨p.val - 128, by omega⟩ := Fin.ext (by
      show 256 * t.val + p.val = 128 * (2 * t.val + 1) + (p.val - 128); omega)
    rw [es, eb, join_apply]
    exact Eq.trans (congrArg₂ (fun a k => (x (ix2 a k) : EReal)) ep ej) (hb _ ⟨p.val - 128, by omega⟩ _).2
end

/-! ## A window's tiles -/

section
variable {φ : FTy} {A : S2048x2048.Idx → EReal} {X : Fin 4 → Fin 4 → Rows} (r : Fin 4) {a b : ℕ}

/-- A window's tile of two blocks, and of one, its places in the array given by the map `e`. -/
theorem big_win (hA : Arr A X) (t : Fin 8) (x : FVec Ideal S256x512 φ) (hi : a = t.val ∧ b = r.val) (e : S256x512.Idx → S2048x2048.Idx)
    (h : ∀ i, (x i : EReal) = A (e i)) (h0 : ∀ i, (e i 0).val = a * 256 + 1 * (i 0).val) (h1 : ∀ i, (e i 1).val = b * 512 + 1 * (i 1).val) :
    Big x (X r) t := big_of r hA t x fun p j => (h _).trans (congrArg A (funext fun k => Fin.ext (by
  match k with
  | ⟨0, _⟩ => exact (h0 (ix2 p j)).trans (by show a * 256 + 1 * p.val = 256 * t.val + p.val; rw [hi.1]; omega)
  | ⟨1, _⟩ => exact (h1 (ix2 p j)).trans (by show b * 512 + 1 * j.val = 512 * r.val + j.val; rw [hi.2]; omega))))
theorem small_win (hA : Arr A X) (n : Fin 16) (x : FVec Ideal S128x512 φ) (hi : a = n.val ∧ b = r.val) (e : S128x512.Idx → S2048x2048.Idx)
    (h : ∀ i, (x i : EReal) = A (e i)) (h0 : ∀ i, (e i 0).val = a * 128 + 1 * (i 0).val) (h1 : ∀ i, (e i 1).val = b * 512 + 1 * (i 1).val) :
    Small x (X r) n := small_of r hA n x fun p j => (h _).trans (congrArg A (funext fun k => Fin.ext (by
  match k with
  | ⟨0, _⟩ => exact (h0 (ix2 p j)).trans (by show a * 128 + 1 * p.val = 128 * n.val + p.val; rw [hi.1]; omega)
  | ⟨1, _⟩ => exact (h1 (ix2 p j)).trans (by show b * 512 + 1 * j.val = 512 * r.val + j.val; rw [hi.2]; omega))))

/-- And such a tile written out. -/
theorem win_big (t : Fin 8) {x : FVec Ideal S256x512 φ} (hb : Big x (X r) t) (hi : a = t.val ∧ b = r.val) (e : S256x512.Idx → S2048x2048.Idx)
    (h0 : ∀ i, (e i 0).val = a * 256 + 1 * (i 0).val) (h1 : ∀ i, (e i 1).val = b * 512 + 1 * (i 1).val) (i : S256x512.Idx) :
    (x i : EReal) = join X (e i) := by
  obtain ⟨p, q, rfl⟩ : ∃ (p : Fin 256) (q : Fin 512), i = ix2 p q :=
    ⟨i 0, i 1, funext fun a => by match a with | ⟨0, _⟩ => rfl | ⟨1, _⟩ => rfl⟩
  refine (of_big r hb p q).trans (congrArg _ (funext fun k => Fin.ext ?_))
  match k with
  | ⟨0, _⟩ => exact Eq.trans (by show 256 * t.val + p.val = a * 256 + 1 * p.val; rw [hi.1]; omega) (h0 (ix2 p q)).symm
  | ⟨1, _⟩ => exact Eq.trans (by show 512 * r.val + q.val = b * 512 + 1 * q.val; rw [hi.2]; omega) (h1 (ix2 p q)).symm
end

/-! ## Loads and casts -/

section
variable {X : Fin 4 → Rows} {t : Fin 8} {n : Fin 16}
theorem big_f32 {x : Vec Ideal S256x512 .f32} (h : Big (φ := .f32) x X t) : Big (φ := .f32) (View.ld x r0_0) X t := by
  rw [View.ld_unit_zero (S := S256x512) hz]; exact h
theorem big_bf16 {x : Vec Ideal S256x512 .bf16} (h : Big (φ := .bf16) x X t) : Big (φ := .bf16) (View.ld x r0_0) X t := by
  rw [View.ld_unit_zero (S := S256x512) hz]; exact h
theorem small_f32 {x : Vec Ideal S128x512 .f32} (h : Small (φ := .f32) x X n) : Small (φ := .f32) (View.ld x r0_1) X n := by
  rw [View.ld_unit_zero (S := S128x512) hz]; exact h
theorem small_bf16 {x : Vec Ideal S128x512 .bf16} (h : Small (φ := .bf16) x X n) : Small (φ := .bf16) (View.ld x r0_1) X n := by
  rw [View.ld_unit_zero (S := S128x512) hz]; exact h

theorem big_cast {x : FVec Ideal S256x512 .f32} (h : Big x X t) : Big (k0_pay5 (F := Ideal) x) X t := fun hh i d => by
  unfold k0_pay5
  pointwise
  exact h hh i d
theorem big_same {φ : FTy} {x : FVec Ideal S256x512 φ} (h : Big x X t) : Big (φ := φ) (shapeCast S256x512 x shapeCasts_S256x512_S256x512) X t := fun hh i d => by
  pointwise
  exact h hh i d
theorem small_cast {x : FVec Ideal S128x512 .f32} (h : Small x X n) : Small (k1_pay2 (F := Ideal) x) X n := fun hh i d => by
  unfold k1_pay2
  pointwise
  exact h hh i d
theorem small_same {φ : FTy} {x : FVec Ideal S128x512 φ} (h : Small x X n) : Small (φ := φ) (shapeCast S128x512 x shapeCasts_S128x512_S128x512) X n := fun hh i d => by
  pointwise
  exact h hh i d
end

/-! ## The host's views of its arguments -/

section
/-- A slice of 512 columns, four rows at a time beside one another: a residue of the sequence modulo 4 in each quarter. -/
theorem view_apply {C : ℕ} (o : ℕ) (hC : o + 512 ≤ C) (a : (⟨2, ![8192, C]⟩ : Shape).Idx → EReal)
    (hs : (⟨2, ![8192, C]⟩ : Shape).Slices ![0, o] S8192x512) (hc : S8192x512.ShapeCasts S2048x2048) (r h : Fin 4) (n : Fin 16) (i d : Fin 128) :
    shapeCast S2048x2048 (extractStridedSlice S8192x512 ![0, o] a hs) hc (ix2 (sub n i) (beside r h d)) = a (ix2 (row r n i) (feat C o hC h d)) := by
  refine (shapeCast_apply _ hc _ (ix2 (row r n i) (feat 512 0 (by omega) h d)) ?_).trans (extractStridedSlice_apply _ a hs _ _ fun b => ?_)
  · rw [Shape.rowMajor_val_two, Shape.rowMajor_val_two]
    show (4 * (128 * n.val + i.val) + r.val) * 512 + (0 + (128 * h.val + d.val)) = (128 * n.val + i.val) * 2048 + (512 * r.val + (128 * h.val + d.val))
    omega
  · match b with
    | ⟨0, _⟩ => exact (Nat.zero_add _).symm
    | ⟨1, _⟩ => show o + (128 * h.val + d.val) = o + (0 + (128 * h.val + d.val)); omega
theorem view_whole (a : S8192x512.Idx → EReal) (hc : S8192x512.ShapeCasts S2048x2048) (r h : Fin 4) (n : Fin 16) (i d : Fin 128) :
    shapeCast S2048x2048 a hc (ix2 (sub n i) (beside r h d)) = a (ix2 (row r n i) (feat 512 0 (by omega) h d)) := by
  refine shapeCast_apply _ hc _ (ix2 (row r n i) (feat 512 0 (by omega) h d)) ?_
  rw [Shape.rowMajor_val_two, Shape.rowMajor_val_two]
  show (4 * (128 * n.val + i.val) + r.val) * 512 + (0 + (128 * h.val + d.val)) = (128 * n.val + i.val) * 2048 + (512 * r.val + (128 * h.val + d.val))
  omega
end

end Cert.DilBlocks

end
-- ==== Proof.Dil.Array0.lean ====
/- The forward call of the dilated attention over its grid: the outputs and the log-sums, residue and head by residue and head. -/
module

public import proofs.«01_k».proof.Proof.Dil.Out
public import proofs.«01_k».proof.Proof.Dil.Blocks

@[expose] public section

noncomputable section

namespace Cert.DilArray

open Idealize.ShloMosaic Idealize.ShloMosaic.TcCoe Idealize.ShloMosaic.Tactic Idealize.SL.Sem
open Cert.DilAttnIdeal Cert.DilAttnIdeal.Gen Cert.Attn Cert.Dil Cert.DilUnit Cert.DilSpec Cert.DilBlocks

variable (m : (ℓ : Loc nD τ Cert.DilAttnIdeal.sig) → Buf (Elt Ideal) ℓ) (ρ : Dev nD → PrngReg) (c : Dev nD)

/-- The arguments: the projected queries, the keys and values, the gradients of the outputs and of the log-sums. -/
abbrev A0 : S8192x2048.Idx → EReal := m ((c : Thread nD τ).loc main_arg0)
abbrev A1 : S8192x3072.Idx → EReal := m ((c : Thread nD τ).loc main_arg1)
abbrev A2 : S8192x512.Idx → EReal := m ((c : Thread nD τ).loc main_arg2)
abbrev A3 : S8192x4.Idx → EReal := m ((c : Thread nD τ).loc main_arg3)
/-- The heads. -/
abbrev HH (r h : Fin 4) : Head := Hd (A0 m c) (A1 m c) (A2 m c) (A3 m c) r h

theorem word_eq (r h : Fin 4) : Ideal.ofBits .f32 (DilUnit.word h) = ((HH m c r h).w : EReal) := by
  refine Eq.trans ?_ (slopeR_eq h)
  fin_cases h <;> rfl

/-- The residue and the pair of blocks of a grid point. -/
def res (t : Fin 32) : Fin 4 := ⟨t.val / 8, by omega⟩
def two (t : Fin 32) : Fin 8 := ⟨t.val % 8, by omega⟩
def at_ (r : Fin 4) (s : Fin 8) : Fin 32 := ⟨8 * r.val + s.val, by omega⟩

theorem coord0 : ∀ t : Fin cfg0.N, (grid0.coords t 1).val = (two t).val := by decide +kernel
theorem index0 : ∀ t : Fin cfg0.N, win0_0.index t 0 = (two t).val ∧ win0_0.index t 1 = (res t).val := by decide +kernel
theorem index1 : ∀ t : Fin cfg0.N, win0_1.index t 0 = (prev (a0 (two t))).val ∧ win0_1.index t 1 = (res t).val := by decide +kernel
theorem index2 : ∀ t : Fin cfg0.N, win0_2.index t 0 = (two t).val ∧ win0_2.index t 1 = (res t).val := by decide +kernel
theorem index3 : ∀ t : Fin cfg0.N, win0_3.index t 0 = (prev (a0 (two t))).val ∧ win0_3.index t 1 = (res t).val := by decide +kernel
theorem index4 : ∀ t : Fin cfg0.N, win0_4.index t 0 = (two t).val ∧ win0_4.index t 1 = (res t).val := by decide +kernel
theorem index5 : ∀ t : Fin cfg0.N, win0_5.index t 0 = (two t).val ∧ win0_5.index t 1 = (res t).val := by decide +kernel
theorem index6 : ∀ t : Fin cfg0.N, win0_6.index t 0 = (two t).val ∧ win0_6.index t 1 = (res t).val := by decide +kernel

variable (hr : AreReal (A0 m c) (A1 m c) (A2 m c) (A3 m c))
include hr

/-! ## What the host hands over -/

theorem V1_q : Arr (V1 m ρ c main_v2) (fun r h => (HH m c r h).Q) := fun r h n i d =>
  (view_apply 512 (by omega) (A0 m c) slices_S8192x2048_S8192x512_0_512 shapeCasts_S8192x512_S2048x2048 r h n i d).trans (q_eq hr r h n i d)
theorem V1_k : Arr (V1 m ρ c main_v4) (fun r h => (HH m c r h).K) := fun r h n i d =>
  (view_apply 512 (by omega) (A1 m c) slices_S8192x3072_S8192x512_0_512 shapeCasts_S8192x512_S2048x2048 r h n i d).trans (k_eq hr r h n i d)
theorem V1_v : Arr (V1 m ρ c main_v6) (fun r h => (HH m c r h).V) := fun r h n i d =>
  (view_apply 2048 (by omega) (A1 m c) slices_S8192x3072_S8192x512_0_2048 shapeCasts_S8192x512_S2048x2048 r h n i d).trans (v_eq hr r h n i d)

/-! ## The tiles of a grid point -/

theorem blk0 (t : Fin cfg0.N) : Big (φ := .f32) (iblk0 (V1 m ρ) c 0 t) (fun h => (HH m c (res t) h).Q) (two t) :=
  big_win (res t) (V1_q m ρ c hr) _ _ (index0 t) ((cfg0.win 0).blk t).view.emb (fun _ => rfl) (fun _ => rfl) (fun _ => rfl)
theorem blk1 (t : Fin cfg0.N) : Small (φ := .bf16) (iblk0 (V1 m ρ) c 1 t) (fun h => (HH m c (res t) h).K) (prev (a0 (two t))) :=
  small_win (res t) (V1_k m ρ c hr) _ _ (index1 t) ((cfg0.win 1).blk t).view.emb (fun _ => rfl) (fun _ => rfl) (fun _ => rfl)
theorem blk2 (t : Fin cfg0.N) : Big (φ := .bf16) (iblk0 (V1 m ρ) c 2 t) (fun h => (HH m c (res t) h).K) (two t) :=
  big_win (res t) (V1_k m ρ c hr) _ _ (index2 t) ((cfg0.win 2).blk t).view.emb (fun _ => rfl) (fun _ => rfl) (fun _ => rfl)
theorem blk3 (t : Fin cfg0.N) : Small (φ := .bf16) (iblk0 (V1 m ρ) c 3 t) (fun h => (HH m c (res t) h).V) (prev (a0 (two t))) :=
  small_win (res t) (V1_v m ρ c hr) _ _ (index3 t) ((cfg0.win 3).blk t).view.emb (fun _ => rfl) (fun _ => rfl) (fun _ => rfl)
theorem blk4 (t : Fin cfg0.N) : Big (φ := .bf16) (iblk0 (V1 m ρ) c 4 t) (fun h => (HH m c (res t) h).V) (two t) :=
  big_win (res t) (V1_v m ρ c hr) _ _ (index4 t) ((cfg0.win 4).blk t).view.emb (fun _ => rfl) (fun _ => rfl) (fun _ => rfl)

/-- What a point writes: its two blocks of outputs and of log-sums. -/
theorem big_5 (t : Fin cfg0.N) : Big (φ := .f32) ((dat0 (V1 m ρ) c).after 5 t) (fun h => (HH m c (res t) h).O) (two t) := by
  rw [after0_5, out0_5_eq, View.canon_unit_zero hz, coord0]
  exact big_out (HH m c (res t)) (fun _ => rfl) (word_eq m c (res t)) (two t) _ _ _ _ _
    (big_cast (big_f32 (blk0 m ρ c hr t))) (small_same (small_bf16 (blk1 m ρ c hr t))) (big_same (big_bf16 (blk2 m ρ c hr t)))
    (small_same (small_bf16 (blk3 m ρ c hr t))) (big_same (big_bf16 (blk4 m ρ c hr t)))
theorem big_6 (t : Fin cfg0.N) : Big (φ := .f32) ((dat0 (V1 m ρ) c).after 6 t) (fun h n i _ => (HH m c (res t) h).L n i) (two t) := by
  rw [after0_6, out0_6_eq, View.canon_unit_zero hz, coord0]
  exact big_lse (HH m c (res t)) (fun _ => rfl) (word_eq m c (res t)) (two t) _ _ _
    (big_cast (big_f32 (blk0 m ρ c hr t))) (small_same (small_bf16 (blk1 m ρ c hr t))) (big_same (big_bf16 (blk2 m ρ c hr t)))

/-! ## The two arrays -/

theorem flushed_5 (t : Fin cfg0.N) (hf : (cfg0.win 5).flush t = true) :
    (dat0 (V1 m ρ) c).flushed 5 t = ((cfg0.win 5).blk t).view.read (Elt Ideal) (join fun r h => (HH m c r h).O) := by
  show (cfg0.win 5).cut (grid0.coords t) ((dat0 (V1 m ρ) c).after 5 t) = _
  funext i
  rw [View.read_apply]
  refine Eq.trans ?_ (cast_eq _ _).symm
  exact win_big (X := fun r h => (HH m c r h).O) (res t) _ (big_5 m ρ c hr t) (index5 t) _ (fun _ => rfl) (fun _ => rfl) i
theorem flushed_6 (t : Fin cfg0.N) (hf : (cfg0.win 6).flush t = true) :
    (dat0 (V1 m ρ) c).flushed 6 t = ((cfg0.win 6).blk t).view.read (Elt Ideal) (join fun r h n i _ => (HH m c r h).L n i) := by
  show (cfg0.win 6).cut (grid0.coords t) ((dat0 (V1 m ρ) c).after 6 t) = _
  funext i
  rw [View.read_apply]
  refine Eq.trans ?_ (cast_eq _ _).symm
  exact win_big (X := fun r h n i _ => (HH m c r h).L n i) (res t) _ (big_6 m ρ c hr t) (index6 t) _ (fun _ => rfl) (fun _ => rfl) i

omit hr in
/-- Every place of such an array lies in the tiles of one grid point. -/
theorem point (i : S2048x2048.Idx) : ∃ t : Fin 32, (two t).val = (i 0).val / 256 ∧ (res t).val = (i 1).val / 512 := by
  have h0 : (i 0).val < 2048 := (i 0).isLt
  have h1 : (i 1).val < 2048 := (i 1).isLt
  refine ⟨⟨8 * ((i 1).val / 512) + (i 0).val / 256, by omega⟩, ?_, ?_⟩
  · show (8 * ((i 1).val / 512) + (i 0).val / 256) % 8 = _; omega
  · show (8 * ((i 1).val / 512) + (i 0).val / 256) / 8 = _; omega

theorem final_5 : (dat0 (V1 m ρ) c).arrAt 5 cfg0.N = join fun r h => (HH m c r h).O :=
  (dat0 (V1 m ρ) c).arrAt_eq_of_cover 5 _ (flushed_5 m ρ c hr) fun i => by
    obtain ⟨t, ht, hs⟩ := point i
    refine ⟨t, flush0_5 _, ?_⟩
    show i ∈ ((View.whole main_v7_0).slice (win0_5.rect t)).set
    rw [View.set_slice_whole, Rect.mem_set_unit]
    intro a
    match a with
    | ⟨0, _⟩ => show win0_5.index t 0 * 256 ≤ (i 0).val ∧ (i 0).val < win0_5.index t 0 * 256 + 256; rw [(index5 t).1, ht]; omega
    | ⟨1, _⟩ => show win0_5.index t 1 * 512 ≤ (i 1).val ∧ (i 1).val < win0_5.index t 1 * 512 + 512; rw [(index5 t).2, hs]; omega
theorem final_6 : (dat0 (V1 m ρ) c).arrAt 6 cfg0.N = join fun r h n i _ => (HH m c r h).L n i :=
  (dat0 (V1 m ρ) c).arrAt_eq_of_cover 6 _ (flushed_6 m ρ c hr) fun i => by
    obtain ⟨t, ht, hs⟩ := point i
    refine ⟨t, flush0_6 _, ?_⟩
    show i ∈ ((View.whole main_v7_1).slice (win0_6.rect t)).set
    rw [View.set_slice_whole, Rect.mem_set_unit]
    intro a
    match a with
    | ⟨0, _⟩ => show win0_6.index t 0 * 256 ≤ (i 0).val ∧ (i 0).val < win0_6.index t 0 * 256 + 256; rw [(index6 t).1, ht]; omega
    | ⟨1, _⟩ => show win0_6.index t 1 * 512 ≤ (i 1).val ∧ (i 1).val < win0_6.index t 1 * 512 + 512; rw [(index6 t).2, hs]; omega

end Cert.DilArray

end
-- ==== Proof.Dil.HostE.lean ====
/- What the host adds to the gradients of the probabilities of the dilated attention: of each row and head, the gradient of the
   log-sum less the inner product of the outputs' gradient and the output, spread over the head's features. -/
module

public import proofs.«01_k».proof.Proof.Dil.Blocks

@[expose] public section

noncomputable section

namespace Cert.DilBlocks

open Idealize.ShloMosaic Idealize.ShloMosaic.TcCoe Idealize.ShloMosaic.Tactic Idealize.SL.Sem
open Cert.DilAttnIdeal Cert.DilAttnIdeal.Gen Cert.Attn Cert.Dil Cert.DilUnit Cert.DilSpec

/-- Head `h` of residue `r` among sixteen. -/
def sixteen (r h : Fin 4) : Fin 16 := ⟨4 * r.val + h.val, by omega⟩

def rest (y : FVec Ideal S2048x16 .f32) (z : FVec Ideal S2048x16x128 .f32) : FVec Ideal S2048x16x128 .f32 :=
  broadcastInDim S2048x16x128 ![0, 1, 2] bcast_S2048x16x1_S2048x16x128_0_1_2 (broadcastInDim S2048x16x1 ![0, 1] bcast_S2048x16_S2048x16x1_0_1
    (subf y (Host.reduceAdd z (constant S_ .f32 0x00000000#32) reducesTo_S2048x16x128_S2048x16_d2 h_S_)))
theorem rest_apply (y : FVec Ideal S2048x16 .f32) (z : FVec Ideal S2048x16x128 .f32) (a : Fin 2048) (b : Fin 16) (d : Fin 128) :
    (rest y z (ix3 a b d) : EReal) = y (ix2 a b) - ∑ j : Fin 128, (z (ix3 a b j) : EReal) := by
  unfold rest
  pointwise [ofBits_zero, zero_add]

def hostE (x : FVec Ideal S8192x4 .f32) (D O : FVec Ideal S2048x2048 .f32) : FVec Ideal S2048x2048 .f32 :=
  shapeCast S2048x2048 (rest (shapeCast S2048x16 x shapeCasts_S8192x4_S2048x16) (shapeCast S2048x16x128 (mulf D O) shapeCasts_S2048x2048_S2048x16x128))
    shapeCasts_S2048x16x128_S2048x2048
theorem hostE_apply (x : FVec Ideal S8192x4 .f32) (D O : FVec Ideal S2048x2048 .f32) (r h : Fin 4) (n : Fin 16) (i d : Fin 128) :
    (hostE x D O (ix2 (sub n i) (beside r h d)) : EReal) = x (ix2 (row r n i) h)
      - ∑ j : Fin 128, (D (ix2 (sub n i) (beside r h j)) : EReal) * O (ix2 (sub n i) (beside r h j)) := by
  unfold hostE
  refine (shapeCast_apply _ _ _ (ix3 (sub n i) (sixteen r h) d) ?_).trans ((rest_apply _ _ _ _ _).trans (congrArg₂ (fun a b : EReal => a - b) ?_ (Finset.sum_congr rfl fun j _ => ?_)))
  · rw [Shape.rowMajor_val_three, Shape.rowMajor_val_two]
    show ((128 * n.val + i.val) * 16 + (4 * r.val + h.val)) * 128 + d.val = (128 * n.val + i.val) * 2048 + (512 * r.val + (128 * h.val + d.val))
    omega
  · refine shapeCast_apply _ _ _ _ ?_
    rw [Shape.rowMajor_val_two, Shape.rowMajor_val_two]
    show (4 * (128 * n.val + i.val) + r.val) * 4 + h.val = (128 * n.val + i.val) * 16 + (4 * r.val + h.val)
    omega
  · refine shapeCast_apply (mulf D O) _ _ (ix2 (sub n i) (beside r h j)) ?_
    rw [Shape.rowMajor_val_two, Shape.rowMajor_val_three]
    show (128 * n.val + i.val) * 2048 + (512 * r.val + (128 * h.val + j.val)) = ((128 * n.val + i.val) * 16 + (4 * r.val + h.val)) * 128 + j.val
    omega

end Cert.DilBlocks

end
-- ==== Proof.Dil.Array1.lean ====
/- The backward call of the dilated attention over its grid: the gradients of the queries, of the keys and of the values, residue
   and head by residue and head, from what the forward call left. -/
module

public import proofs.«01_k».proof.Proof.Dil.Array0
public import proofs.«01_k».proof.Proof.Dil.HostE

@[expose] public section

noncomputable section

namespace Cert.DilArray

open Idealize.ShloMosaic Idealize.ShloMosaic.TcCoe Idealize.ShloMosaic.Tactic Idealize.SL.Sem
open Cert.DilAttnIdeal Cert.DilAttnIdeal.Gen Cert.Attn Cert.Dil Cert.DilUnit Cert.DilSpec Cert.DilBlocks

variable (m : (ℓ : Loc nD τ Cert.DilAttnIdeal.sig) → Buf (Elt Ideal) ℓ) (ρ : Dev nD → PrngReg) (c : Dev nD)

theorem coord1 : ∀ t : Fin cfg1.N, (grid1.coords t 1).val = (two t).val := by decide +kernel
theorem place0 : ∀ t : Fin cfg1.N, win1_0.index t 0 = (two t).val ∧ win1_0.index t 1 = (res t).val := by decide +kernel
theorem place1 : ∀ t : Fin cfg1.N, win1_1.index t 0 = (next (a1 (two t))).val ∧ win1_1.index t 1 = (res t).val := by decide +kernel
theorem place2 : ∀ t : Fin cfg1.N, win1_2.index t 0 = (prev (a0 (two t))).val ∧ win1_2.index t 1 = (res t).val := by decide +kernel
theorem place3 : ∀ t : Fin cfg1.N, win1_3.index t 0 = (two t).val ∧ win1_3.index t 1 = (res t).val := by decide +kernel
theorem place4 : ∀ t : Fin cfg1.N, win1_4.index t 0 = (prev (a0 (two t))).val ∧ win1_4.index t 1 = (res t).val := by decide +kernel
theorem place5 : ∀ t : Fin cfg1.N, win1_5.index t 0 = (two t).val ∧ win1_5.index t 1 = (res t).val := by decide +kernel
theorem place6 : ∀ t : Fin cfg1.N, win1_6.index t 0 = (two t).val ∧ win1_6.index t 1 = (res t).val := by decide +kernel
theorem place7 : ∀ t : Fin cfg1.N, win1_7.index t 0 = (next (a1 (two t))).val ∧ win1_7.index t 1 = (res t).val := by decide +kernel
theorem place8 : ∀ t : Fin cfg1.N, win1_8.index t 0 = (two t).val ∧ win1_8.index t 1 = (res t).val := by decide +kernel
theorem place9 : ∀ t : Fin cfg1.N, win1_9.index t 0 = (next (a1 (two t))).val ∧ win1_9.index t 1 = (res t).val := by decide +kernel
theorem place10 : ∀ t : Fin cfg1.N, win1_10.index t 0 = (two t).val ∧ win1_10.index t 1 = (res t).val := by decide +kernel
theorem place11 : ∀ t : Fin cfg1.N, win1_11.index t 0 = (next (a1 (two t))).val ∧ win1_11.index t 1 = (res t).val := by decide +kernel
theorem place12 : ∀ t : Fin cfg1.N, win1_12.index t 0 = (two t).val ∧ win1_12.index t 1 = (res t).val := by decide +kernel
theorem place13 : ∀ t : Fin cfg1.N, win1_13.index t 0 = (two t).val ∧ win1_13.index t 1 = (res t).val := by decide +kernel
theorem place14 : ∀ t : Fin cfg1.N, win1_14.index t 0 = (two t).val ∧ win1_14.index t 1 = (res t).val := by decide +kernel

/-! ## What the host hands over -/

theorem W2_arg (a : Ref Cert.DilAttnIdeal.sig .tc) (ha : a ∈ argRefs) : W2 m ρ c (Proc.devRef .tc a) = m ((c : Thread nD τ).loc a) := W2_args m ρ c a ha
theorem W2_kv : (W2 m ρ c (Proc.devRef .tc main_v0) : S8192x3072.Idx → EReal) = A1 m c :=
  (W2_of m ρ c main_v0 (by decide +kernel)).trans rfl

theorem V3_18 : V3 m ρ c main_v18 = shapeCast S2048x2048 (extractStridedSlice S8192x512 ![0, 512] (A0 m c) slices_S8192x2048_S8192x512_0_512) shapeCasts_S8192x512_S2048x2048 := by
  show W3 m ρ c (Proc.devRef .tc main_v18) = _
  unfold W3
  have e : W2 m ρ c (Proc.devRef .tc main_arg0) = A0 m c := W2_args m ρ c main_arg0 (by decide)
  rw [← e]
  rfl
theorem V3_20 : V3 m ρ c main_v20 = shapeCast S2048x2048 (extractStridedSlice S8192x512 ![0, 512] (A1 m c) slices_S8192x3072_S8192x512_0_512) shapeCasts_S8192x512_S2048x2048 := by
  show W3 m ρ c (Proc.devRef .tc main_v20) = _
  unfold W3
  rw [← W2_kv m ρ c]
  rfl
theorem V3_22 : V3 m ρ c main_v22 = shapeCast S2048x2048 (extractStridedSlice S8192x512 ![0, 2048] (A1 m c) slices_S8192x3072_S8192x512_0_2048) shapeCasts_S8192x512_S2048x2048 := by
  show W3 m ρ c (Proc.devRef .tc main_v22) = _
  unfold W3
  rw [← W2_kv m ρ c]
  rfl
theorem V3_8 : V3 m ρ c main_v8 = shapeCast S2048x2048 (A2 m c) shapeCasts_S8192x512_S2048x2048 := by
  show W3 m ρ c (Proc.devRef .tc main_v8) = _
  unfold W3
  have e : W2 m ρ c (Proc.devRef .tc main_arg2) = A2 m c := W2_args m ρ c main_arg2 (by decide)
  rw [← e]
  rfl
theorem V3_16 : V3 m ρ c main_v16 = hostE (A3 m c) (V3 m ρ c main_v8) (W2 m ρ c (Proc.devRef .tc main_v7_0)) := by
  rw [V3_8]
  show W3 m ρ c (Proc.devRef .tc main_v16) = _
  unfold W3
  have e : W2 m ρ c (Proc.devRef .tc main_arg3) = A3 m c := W2_args m ρ c main_arg3 (by decide)
  have e' : W2 m ρ c (Proc.devRef .tc main_arg2) = A2 m c := W2_args m ρ c main_arg2 (by decide)
  rw [← e, ← e']
  rfl

variable (hr : AreReal (A0 m c) (A1 m c) (A2 m c) (A3 m c))
include hr

theorem V3_q : Arr (V3 m ρ c main_v18) (fun r h => (HH m c r h).Q) := fun r h n i d => by
  rw [V3_18]
  exact (view_apply 512 (by omega) (A0 m c) slices_S8192x2048_S8192x512_0_512 shapeCasts_S8192x512_S2048x2048 r h n i d).trans (q_eq hr r h n i d)
theorem V3_k : Arr (V3 m ρ c main_v20) (fun r h => (HH m c r h).K) := fun r h n i d => by
  rw [V3_20]
  exact (view_apply 512 (by omega) (A1 m c) slices_S8192x3072_S8192x512_0_512 shapeCasts_S8192x512_S2048x2048 r h n i d).trans (k_eq hr r h n i d)
theorem V3_v : Arr (V3 m ρ c main_v22) (fun r h => (HH m c r h).V) := fun r h n i d => by
  rw [V3_22]
  exact (view_apply 2048 (by omega) (A1 m c) slices_S8192x3072_S8192x512_0_2048 shapeCasts_S8192x512_S2048x2048 r h n i d).trans (v_eq hr r h n i d)
theorem V3_g : Arr (V3 m ρ c main_v8) (fun r h => (HH m c r h).G) := fun r h n i d => by
  rw [V3_8]
  exact (view_whole (A2 m c) shapeCasts_S8192x512_S2048x2048 r h n i d).trans (g_eq hr r h n i d)
theorem W2_o : W2 m ρ c (Proc.devRef .tc main_v7_0) = join fun r h => (HH m c r h).O := (W2_arr m ρ c 5).trans (final_5 m ρ c hr)
theorem V3_l : Arr (V3 m ρ c main_v7_1) (fun r h n i _ => (HH m c r h).L n i) := by
  have e : V3 m ρ c main_v7_1 = join fun r h n i _ => (HH m c r h).L n i :=
    (W3_of m ρ c main_v7_1 (by decide)).trans ((W2_arr m ρ c 6).trans (final_6 m ρ c hr))
  rw [e]
  exact arr_join _
theorem V3_e : Arr (V3 m ρ c main_v16) (fun r h n i _ => (HH m c r h).E n i) := fun r h n i d => by
  rw [V3_16]
  refine (hostE_apply _ _ _ r h n i d).trans ?_
  rw [dl_eq hr, W2_o m ρ c hr]
  show _ = (((HH m c r h).dl n i - ∑ j, (HH m c r h).G n i j * (HH m c r h).O n i j : ℝ) : EReal)
  rw [EReal.coe_sub, coe_dot _ _ ((HH m c r h).G n i) ((HH m c r h).O n i) (fun j => V3_g m ρ c hr r h n i j) (fun j => join_apply _ r h n i j)]

/-! ## The tiles of a grid point -/

theorem bwd0 (t : Fin cfg1.N) : Big (φ := .f32) (iblk1 (V3 m ρ) c 0 t) (fun h => (HH m c (res t) h).Q) (two t) :=
  big_win (res t) (V3_q m ρ c hr) _ _ (place0 t) ((cfg1.win 0).blk t).view.emb (fun _ => rfl) (fun _ => rfl) (fun _ => rfl)
theorem bwd1 (t : Fin cfg1.N) : Small (φ := .f32) (iblk1 (V3 m ρ) c 1 t) (fun h => (HH m c (res t) h).Q) (next (a1 (two t))) :=
  small_win (res t) (V3_q m ρ c hr) _ _ (place1 t) ((cfg1.win 1).blk t).view.emb (fun _ => rfl) (fun _ => rfl) (fun _ => rfl)
theorem bwd2 (t : Fin cfg1.N) : Small (φ := .bf16) (iblk1 (V3 m ρ) c 2 t) (fun h => (HH m c (res t) h).K) (prev (a0 (two t))) :=
  small_win (res t) (V3_k m ρ c hr) _ _ (place2 t) ((cfg1.win 2).blk t).view.emb (fun _ => rfl) (fun _ => rfl) (fun _ => rfl)
theorem bwd3 (t : Fin cfg1.N) : Big (φ := .bf16) (iblk1 (V3 m ρ) c 3 t) (fun h => (HH m c (res t) h).K) (two t) :=
  big_win (res t) (V3_k m ρ c hr) _ _ (place3 t) ((cfg1.win 3).blk t).view.emb (fun _ => rfl) (fun _ => rfl) (fun _ => rfl)
theorem bwd4 (t : Fin cfg1.N) : Small (φ := .bf16) (iblk1 (V3 m ρ) c 4 t) (fun h => (HH m c (res t) h).V) (prev (a0 (two t))) :=
  small_win (res t) (V3_v m ρ c hr) _ _ (place4 t) ((cfg1.win 4).blk t).view.emb (fun _ => rfl) (fun _ => rfl) (fun _ => rfl)
theorem bwd5 (t : Fin cfg1.N) : Big (φ := .bf16) (iblk1 (V3 m ρ) c 5 t) (fun h => (HH m c (res t) h).V) (two t) :=
  big_win (res t) (V3_v m ρ c hr) _ _ (place5 t) ((cfg1.win 5).blk t).view.emb (fun _ => rfl) (fun _ => rfl) (fun _ => rfl)
theorem bwd6 (t : Fin cfg1.N) : Big (φ := .f32) (iblk1 (V3 m ρ) c 6 t) (fun h n i _ => (HH m c (res t) h).L n i) (two t) :=
  big_win (res t) (V3_l m ρ c hr) _ _ (place6 t) ((cfg1.win 6).blk t).view.emb (fun _ => rfl) (fun _ => rfl) (fun _ => rfl)
theorem bwd7 (t : Fin cfg1.N) : Small (φ := .f32) (iblk1 (V3 m ρ) c 7 t) (fun h n i _ => (HH m c (res t) h).L n i) (next (a1 (two t))) :=
  small_win (res t) (V3_l m ρ c hr) _ _ (place7 t) ((cfg1.win 7).blk t).view.emb (fun _ => rfl) (fun _ => rfl) (fun _ => rfl)
theorem bwd8 (t : Fin cfg1.N) : Big (φ := .f32) (iblk1 (V3 m ρ) c 8 t) (fun h => (HH m c (res t) h).G) (two t) :=
  big_win (res t) (V3_g m ρ c hr) _ _ (place8 t) ((cfg1.win 8).blk t).view.emb (fun _ => rfl) (fun _ => rfl) (fun _ => rfl)
theorem bwd9 (t : Fin cfg1.N) : Small (φ := .f32) (iblk1 (V3 m ρ) c 9 t) (fun h => (HH m c (res t) h).G) (next (a1 (two t))) :=
  small_win (res t) (V3_g m ρ c hr) _ _ (place9 t) ((cfg1.win 9).blk t).view.emb (fun _ => rfl) (fun _ => rfl) (fun _ => rfl)
theorem bwd10 (t : Fin cfg1.N) : Big (φ := .f32) (iblk1 (V3 m ρ) c 10 t) (fun h n i _ => (HH m c (res t) h).E n i) (two t) :=
  big_win (res t) (V3_e m ρ c hr) _ _ (place10 t) ((cfg1.win 10).blk t).view.emb (fun _ => rfl) (fun _ => rfl) (fun _ => rfl)
theorem bwd11 (t : Fin cfg1.N) : Small (φ := .f32) (iblk1 (V3 m ρ) c 11 t) (fun h n i _ => (HH m c (res t) h).E n i) (next (a1 (two t))) :=
  small_win (res t) (V3_e m ρ c hr) _ _ (place11 t) ((cfg1.win 11).blk t).view.emb (fun _ => rfl) (fun _ => rfl) (fun _ => rfl)

/-- What a point writes: its two blocks of each gradient. -/
theorem big_12 (t : Fin cfg1.N) : Big (φ := .bf16) ((dat1 (V3 m ρ) c).after 12 t) (fun h => (HH m c (res t) h).dQ) (two t) := by
  rw [after1_12, out1_12_eq, View.canon_unit_zero hz, coord1]
  exact big_dq (HH m c (res t)) (fun _ => rfl) (word_eq m c (res t)) (two t)
    (big_cast (big_f32 (bwd0 m ρ c hr t))) (small_same (small_bf16 (bwd2 m ρ c hr t))) (big_same (big_bf16 (bwd3 m ρ c hr t)))
    (small_same (small_bf16 (bwd4 m ρ c hr t))) (big_same (big_bf16 (bwd5 m ρ c hr t))) (big_same (big_f32 (bwd6 m ρ c hr t)))
    (big_cast (big_f32 (bwd8 m ρ c hr t))) (big_same (big_f32 (bwd10 m ρ c hr t)))
theorem big_13 (t : Fin cfg1.N) : Big (φ := .f32) ((dat1 (V3 m ρ) c).after 13 t) (fun h => (HH m c (res t) h).dK) (two t) := by
  rw [after1_13, out1_13_eq, View.canon_unit_zero hz, coord1]
  exact big_dk (HH m c (res t)) (fun _ => rfl) (word_eq m c (res t)) (two t)
    (big_cast (big_f32 (bwd0 m ρ c hr t))) (small_cast (small_f32 (bwd1 m ρ c hr t))) (big_same (big_bf16 (bwd3 m ρ c hr t)))
    (big_same (big_bf16 (bwd5 m ρ c hr t))) (big_same (big_f32 (bwd6 m ρ c hr t))) (small_same (small_f32 (bwd7 m ρ c hr t)))
    (big_cast (big_f32 (bwd8 m ρ c hr t))) (small_cast (small_f32 (bwd9 m ρ c hr t))) (big_same (big_f32 (bwd10 m ρ c hr t)))
    (small_same (small_f32 (bwd11 m ρ c hr t)))
theorem big_14 (t : Fin cfg1.N) : Big (φ := .f32) ((dat1 (V3 m ρ) c).after 14 t) (fun h => (HH m c (res t) h).dV) (two t) := by
  rw [after1_14, out1_14_eq, View.canon_unit_zero hz, coord1]
  exact big_dv (HH m c (res t)) (fun _ => rfl) (word_eq m c (res t)) (two t)
    (big_cast (big_f32 (bwd0 m ρ c hr t))) (small_cast (small_f32 (bwd1 m ρ c hr t))) (big_same (big_bf16 (bwd3 m ρ c hr t)))
    (big_same (big_f32 (bwd6 m ρ c hr t))) (small_same (small_f32 (bwd7 m ρ c hr t)))
    (big_cast (big_f32 (bwd8 m ρ c hr t))) (small_cast (small_f32 (bwd9 m ρ c hr t)))

/-! ## The three arrays -/

theorem flushed_12 (t : Fin cfg1.N) (hf : (cfg1.win 12).flush t = true) :
    (dat1 (V3 m ρ) c).flushed 12 t = ((cfg1.win 12).blk t).view.read (Elt Ideal) (join fun r h => (HH m c r h).dQ) := by
  show (cfg1.win 12).cut (grid1.coords t) ((dat1 (V3 m ρ) c).after 12 t) = _
  funext i
  rw [View.read_apply]
  refine Eq.trans ?_ (cast_eq _ _).symm
  exact win_big (X := fun r h => (HH m c r h).dQ) (res t) _ (big_12 m ρ c hr t) (place12 t) _ (fun _ => rfl) (fun _ => rfl) i
theorem flushed_13 (t : Fin cfg1.N) (hf : (cfg1.win 13).flush t = true) :
    (dat1 (V3 m ρ) c).flushed 13 t = ((cfg1.win 13).blk t).view.read (Elt Ideal) (join fun r h => (HH m c r h).dK) := by
  show (cfg1.win 13).cut (grid1.coords t) ((dat1 (V3 m ρ) c).after 13 t) = _
  funext i
  rw [View.read_apply]
  refine Eq.trans ?_ (cast_eq _ _).symm
  exact win_big (X := fun r h => (HH m c r h).dK) (res t) _ (big_13 m ρ c hr t) (place13 t) _ (fun _ => rfl) (fun _ => rfl) i
theorem flushed_14 (t : Fin cfg1.N) (hf : (cfg1.win 14).flush t = true) :
    (dat1 (V3 m ρ) c).flushed 14 t = ((cfg1.win 14).blk t).view.read (Elt Ideal) (join fun r h => (HH m c r h).dV) := by
  show (cfg1.win 14).cut (grid1.coords t) ((dat1 (V3 m ρ) c).after 14 t) = _
  funext i
  rw [View.read_apply]
  refine Eq.trans ?_ (cast_eq _ _).symm
  exact win_big (X := fun r h => (HH m c r h).dV) (res t) _ (big_14 m ρ c hr t) (place14 t) _ (fun _ => rfl) (fun _ => rfl) i

theorem final_12 : (dat1 (V3 m ρ) c).arrAt 12 cfg1.N = join fun r h => (HH m c r h).dQ :=
  (dat1 (V3 m ρ) c).arrAt_eq_of_cover 12 _ (flushed_12 m ρ c hr) fun i => by
    obtain ⟨t, ht, hs⟩ := point i
    refine ⟨t, flush1_12 _, ?_⟩
    show i ∈ ((View.whole main_v23_0).slice (win1_12.rect t)).set
    rw [View.set_slice_whole, Rect.mem_set_unit]
    intro a
    match a with
    | ⟨0, _⟩ => show win1_12.index t 0 * 256 ≤ (i 0).val ∧ (i 0).val < win1_12.index t 0 * 256 + 256; rw [(place12 t).1, ht]; omega
    | ⟨1, _⟩ => show win1_12.index t 1 * 512 ≤ (i 1).val ∧ (i 1).val < win1_12.index t 1 * 512 + 512; rw [(place12 t).2, hs]; omega
theorem final_13 : (dat1 (V3 m ρ) c).arrAt 13 cfg1.N = join fun r h => (HH m c r h).dK :=
  (dat1 (V3 m ρ) c).arrAt_eq_of_cover 13 _ (flushed_13 m ρ c hr) fun i => by
    obtain ⟨t, ht, hs⟩ := point i
    refine ⟨t, flush1_13 _, ?_⟩
    show i ∈ ((View.whole main_v23_1).slice (win1_13.rect t)).set
    rw [View.set_slice_whole, Rect.mem_set_unit]
    intro a
    match a with
    | ⟨0, _⟩ => show win1_13.index t 0 * 256 ≤ (i 0).val ∧ (i 0).val < win1_13.index t 0 * 256 + 256; rw [(place13 t).1, ht]; omega
    | ⟨1, _⟩ => show win1_13.index t 1 * 512 ≤ (i 1).val ∧ (i 1).val < win1_13.index t 1 * 512 + 512; rw [(place13 t).2, hs]; omega
theorem final_14 : (dat1 (V3 m ρ) c).arrAt 14 cfg1.N = join fun r h => (HH m c r h).dV :=
  (dat1 (V3 m ρ) c).arrAt_eq_of_cover 14 _ (flushed_14 m ρ c hr) fun i => by
    obtain ⟨t, ht, hs⟩ := point i
    refine ⟨t, flush1_14 _, ?_⟩
    show i ∈ ((View.whole main_v23_2).slice (win1_14.rect t)).set
    rw [View.set_slice_whole, Rect.mem_set_unit]
    intro a
    match a with
    | ⟨0, _⟩ => show win1_14.index t 0 * 256 ≤ (i 0).val ∧ (i 0).val < win1_14.index t 0 * 256 + 256; rw [(place14 t).1, ht]; omega
    | ⟨1, _⟩ => show win1_14.index t 1 * 512 ≤ (i 1).val ∧ (i 1).val < win1_14.index t 1 * 512 + 512; rw [(place14 t).2, hs]; omega

end Cert.DilArray

end
-- ==== Proof.Dil.Run.lean ====
/- The run of the dilated attention's two calls: every execution ends with the five results at the arrays of the heads' outputs,
   log-sums and gradients, the arguments as they were. -/
module

public import proofs.«01_k».proof.Proof.Dil.Array1

@[expose] public section

noncomputable section

namespace Cert.DilArray

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DilAttnIdeal Cert.DilAttnIdeal.Gen Cert.Dil Cert.DilSpec

variable (m : (ℓ : Loc nD τ Cert.DilAttnIdeal.sig) → Buf (Elt Ideal) ℓ) (ρ : Dev nD → PrngReg)

-- The launch theorem's implicit arguments are found by unifying its conclusion with this one.
set_option backward.isDefEq.respectTransparency.types false in
/-- Every unscoped buffer ends at the last boundary's contents. -/
theorem ends : θ_run defs (onTc (τ := τ) (main (F := Ideal))) ⟨m, fun _ => 0, ρ⟩ (fun r => ∀ c : Dev nD,
      ∀ b ∈ Pipeline.ucRefs τ Cert.DilAttnIdeal.sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ Cert.DilAttnIdeal.sig Unit (Elt Ideal) ℕ (UR Cert.DilAttnIdeal.sig nD τ) ℕ))
            ⊢ BI.own (emb₁ (initOf (Pipeline.cells cfgs cellOf_inj) (Pipeline.launchToks cfgs cellOf_inj))) from .rfl)
        iexact Hu
      iapply (show (BI.emp : sProp (MT nD τ Cert.DilAttnIdeal.sig Unit (Elt Ideal) ℕ (UR Cert.DilAttnIdeal.sig nD τ) ℕ)) ⊢ bigSep Finset.univ (fun _ : Dev nD => (BI.emp : sProp (MT nD τ Cert.DilAttnIdeal.sig Unit (Elt Ideal) ℕ (UR Cert.DilAttnIdeal.sig nD τ) ℕ))) from by rw [BI.bigSep_emp_const])
      iempintro)
    (T₀ := fun c => iprop(StableHlo.held (c : Thread nD τ) (Pipeline.ucRefs τ Cert.DilAttnIdeal.sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ Cert.DilAttnIdeal.sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ Cert.DilAttnIdeal.sig, s.mem (((c : Thread nD τ)).1, b) = W4 m ρ c b)
    (hfin := fun c s' => by
      iintro ⟨⟨Hh, -⟩, HSI⟩
      unfold StableHlo.held
      imodintro
      iapply (pointsTo_read_all (Pipeline.ucRefs τ Cert.DilAttnIdeal.sig) (fun b => (((c : Thread nD τ)).1, b)) (W4 m ρ c) s')
      isplitl [Hh] <;> iassumption)
    (hQ := fun s h _ => h)

/-- The results and the arguments at the end of the run, where the heads are made of real numbers. -/
theorem run (hr : ∀ c : Dev nD, AreReal (A0 m c) (A1 m c) (A2 m c) (A3 m c)) :
    θ_run defs (onTc (τ := τ) (main (F := Ideal))) ⟨m, fun _ => 0, ρ⟩ (fun r => ∀ c : Dev nD,
      r.2.mem ((c.tc : Thread nD τ).loc main_v7_0) = (join fun r h => (HH m c r h).O)
      ∧ r.2.mem ((c.tc : Thread nD τ).loc main_v7_1) = (join fun r h n i _ => (HH m c r h).L n i)
      ∧ r.2.mem ((c.tc : Thread nD τ).loc main_v23_0) = (join fun r h => (HH m c r h).dQ)
      ∧ r.2.mem ((c.tc : Thread nD τ).loc main_v23_1) = (join fun r h => (HH m c r h).dK)
      ∧ r.2.mem ((c.tc : Thread nD τ).loc main_v23_2) = (join fun r h => (HH m c r h).dV)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v7_0 (by decide))).trans ((W4_of m ρ c main_v7_0 (by decide +kernel)).trans ((W3_of m ρ c main_v7_0 (by decide)).trans
        ((W2_arr m ρ c 5).trans (final_5 m ρ c (hr c))))),
      (h c _ (mem_uc main_v7_1 (by decide))).trans ((W4_of m ρ c main_v7_1 (by decide +kernel)).trans ((W3_of m ρ c main_v7_1 (by decide)).trans
        ((W2_arr m ρ c 6).trans (final_6 m ρ c (hr c))))),
      (h c _ (mem_uc main_v23_0 (by decide))).trans ((W4_arr m ρ c 12).trans (final_12 m ρ c (hr c))),
      (h c _ (mem_uc main_v23_1 (by decide))).trans ((W4_arr m ρ c 13).trans (final_13 m ρ c (hr c))),
      (h c _ (mem_uc main_v23_2 (by decide))).trans ((W4_arr m ρ c 14).trans (final_14 m ρ c (hr c))),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c)⟩) (ends m ρ)

end Cert.DilArray

end
-- ==== Proof.Dil.Pre.lean ====
/- The precondition of the dilated attention's value claim, read: where the predicate is all ones, the group's queries, keys and
   values and the gradients of its outputs and log-sums are real numbers. -/
module

public import proofs.«01_k».proof.Proof.Mem.Pre
public import proofs.«01_k».proof.Proof.Dil.Spec
public import proofs.«01_k».proof.Pre_dil_finite

@[expose] public section

noncomputable section

namespace Cert.DilPre

open Idealize.ShloMosaic Cert.Pre_dil_finite Cert.Pre_dil_finite.Facts Cert.MemPre

/-- The predicate's side conditions. -/
instance facts : Cert.Pre_dil_finite.Facts where
  slices_S8192x2048_S8192x512_0_512 := by decide
  slices_S8192x3072_S8192x512_0_512 := by decide
  slices_S8192x3072_S8192x512_0_2048 := by decide
  bcast_S_S8192x512 := by decide
  reducesTo_S8192x512_S_d0_1 := by decide
  h_S_ := by decide
  bcast_S_S8192x4 := by decide
  reducesTo_S8192x4_S_d0_1 := by decide

variable (a0 : S8192x2048.Idx → EReal) (a1 : S8192x3072.Idx → EReal) (a2 : S8192x512.Idx → EReal) (a3 : S8192x4.Idx → EReal)

theorem split (h : fn (F := Ideal) a0 a1 a2 a3 = fun _ => 1#1) : DilSpec.AreReal a0 a1 a2 a3 := by
  have e := congrFun h (fun a => a.elim0)
  unfold fn fn_part1 at e
  dsimp only at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun r j => real_of_abs _ ?_, fun r j => real_of_abs _ ?_, fun r j => real_of_abs _ ?_, fun r j => real_of_abs _ ?_, fun r j => real_of_abs _ ?_⟩
  · have := Host.reduce_andi_all _ _ _ _ _ e0 (ix2 r j)
    rw [← ofBits_inf]
    revert this
    pointwise
    exact id
  · have := Host.reduce_andi_all _ _ _ _ _ e1 (ix2 r j)
    rw [← ofBits_inf]
    revert this
    pointwise
    exact id
  · have := Host.reduce_andi_all _ _ _ _ _ e2 (ix2 r j)
    rw [← ofBits_inf]
    revert this
    pointwise
    exact id
  · have := Host.reduce_andi_all _ _ _ _ _ e3 (ix2 r j)
    rw [← ofBits_inf]
    revert this
    pointwise
    exact id
  · have := Host.reduce_andi_all _ _ _ _ _ e4 (ix2 r j)
    rw [← ofBits_inf]
    revert this
    pointwise
    exact id

end Cert.DilPre

end
-- ==== Proof.Dil.RefScore.lean ====
/- The dilated attention's reference read one element at a time: its blocks of queries, keys and values and the masked scores, of the
   heads of `Spec.lean`. -/
module

public import proofs.«01_k».proof.Proof.Dil.Spec
public import proofs.«01_k».proof.Proof.Math.Words
public import proofs.«01_k».proof.Proof.Gen.DilAttnRefIdeal.Read

@[expose] public section

noncomputable section

namespace Cert.DilRef

open Idealize.ShloMosaic Cert.DilAttnRefIdeal Cert.DilAttnRefIdeal.Gen Cert.DilAttnRefIdeal.Read Cert.Attn Cert.Dil Cert.DilSpec Cert.Words

/-! ## The slopes and the mask -/

/-- The words of the slopes. -/
def quarterWord (h : Fin 4) : BitVec 32 :=
  match h with | 0 => 0x3DCB2FF5#32 | 1 => 0x3D800000#32 | 2 => 0x3D214518#32 | 3 => 0x3CCB2FF5#32
theorem quarter_eq (h : Fin 4) : Ideal.ofBits .f32 (quarterWord h) = ((slopeR h / 4 : ℝ) : EReal) := by
  have key : Ideal.ofBits .f32 (quarterWord h) * ((4 : ℝ) : EReal) = Ideal.ofBits .f32 (slopeWord h) := by
    unfold quarterWord slopeWord
    fin_cases h <;> simp [Ideal.ofBits, Ideal.ieee] <;> norm_cast <;> norm_num
  have real : ∃ x : ℝ, Ideal.ofBits .f32 (quarterWord h) = x := by
    unfold quarterWord
    fin_cases h <;> simp [Ideal.ofBits, Ideal.ieee] <;> exact ⟨_, by norm_cast⟩
  obtain ⟨x, hx⟩ := real
  rw [hx, ← EReal.coe_mul, slopeR_eq] at key
  rw [hx, ← EReal.coe_eq_coe_iff.1 key]
  congr 1
  ring
theorem slope_apply (h : Fin 4) : (val_main_v19 (F := Ideal) (ix1 h) : EReal) = ((slopeR h / 4 : ℝ) : EReal) := by
  rw [← quarter_eq]
  unfold val_main_v19 val_main_v18 val_main_v17 val_main_v16 val_main_v15 val_main_v14 val_main_v13 val_main_v12 val_main_v11
    val_main_v10 val_main_v9 val_main_v8 val_main_v7 val_main_v6
  fin_cases h <;> rfl

theorem seen_iff (n : Fin 16) (i : Fin 128) (k : Fin 256) : (val_main_v74 (F := Ideal) (ix3 n i k) : BitVec 1) = 1#1 ↔ seen n i k := by
  unfold val_main_v74 val_main_v73 val_main_v72 val_main_v71 val_main_v70 val_main_v69 val_main_v68 val_main_v67 val_main_v66
    val_main_v65 val_main_v64 val_main_v63 val_main_v62 val_main_v61 val_main_v60 val_main_v59 val_main_v58 val_main_v57 val_main_v56
    val_main_v55 val_main_v54 val_main_v53 val_main_v52 val_main_v51 val_main_v50 val_main_v49 val_main_v48 val_main_v47 val_main_v46
    val_main_v45 val_main_v44 val_main_c_12 val_main_c_13 val_main_c_14 val_main_c_15 val_main_c_16 val_main_c_17
  pointwise
  rw [IntOp.andi_eq_one, IntOp.andi_eq_one, cmpi_sge, cmpi_sge, cmpi_sle, toInt_rel _ _ (by omega) (by omega), toInt_place _ _ (by omega) (by omega),
    toInt_128, toInt_0]
  unfold seen
  omega
theorem bias_apply (h : Fin 4) (i : Fin 128) (k : Fin 256) :
    (val_main_v83 (F := Ideal) (ix3 h i k) : EReal) = ((-(slopeR h * (((i.val : ℤ) + 128 - (k.val : ℤ) : ℤ) : ℝ)) : ℝ) : EReal) := by
  unfold val_main_v83 val_main_v82 val_main_v81 val_main_v80 val_main_v79 val_main_v78 val_main_v77 val_main_v76 val_main_v75
    val_main_v52 val_main_v51 val_main_v50 val_main_v49 val_main_v48 val_main_v47 val_main_v46
    val_main_v45 val_main_v44 val_main_c_12 val_main_c_18
  pointwise [slope_apply]
  rw [sitofp_eq, toInt_rel_mul _ _ (by omega) (by omega), ← EReal.coe_neg, ← EReal.coe_mul]
  congr 1
  push_cast
  ring

variable {x0 : S8192x2048.Idx → EReal} {x1 : S8192x3072.Idx → EReal} {x2 : S8192x512.Idx → EReal} {x3 : S8192x4.Idx → EReal}
  (hr : AreReal x0 x1 x2 x3) (r h : Fin 4) (n : Fin 16)
include hr

/-! ## The blocks -/

theorem q_apply (i d : Fin 128) : (val_main_v22 (F := Ideal) x0 (ix5 r n i h d) : EReal) = ((Hd x0 x1 x2 x3 r h).Q n i d : EReal) := by
  rw [← q_eq hr]
  unfold val_main_v22 val_main_v21 val_main_v20 val_main_v1 val_main_v0
  pointwise
  exact congrArg x0 (congrArg₂ ix2 (Fin.ext (by show (n.val * 128 + i.val) * 4 + r.val = 4 * (128 * n.val + i.val) + r.val; omega))
    (Fin.ext (by show 512 + (h.val * 128 + d.val) = 512 + (128 * h.val + d.val); omega)))
theorem k_apply (i d : Fin 128) : (val_main_v25 (F := Ideal) x1 (ix5 r n i h d) : EReal) = ((Hd x0 x1 x2 x3 r h).K n i d : EReal) := by
  rw [← k_eq hr]
  unfold val_main_v25 val_main_v24 val_main_v23 val_main_v3 val_main_v2
  pointwise
  exact congrArg x1 (congrArg₂ ix2 (Fin.ext (by show (n.val * 128 + i.val) * 4 + r.val = 4 * (128 * n.val + i.val) + r.val; omega))
    (Fin.ext (by show 512 + (h.val * 128 + d.val) = 512 + (128 * h.val + d.val); omega)))
theorem v_apply (i d : Fin 128) : (val_main_v34 (F := Ideal) x1 (ix5 r n i h d) : EReal) = ((Hd x0 x1 x2 x3 r h).V n i d : EReal) := by
  rw [← v_eq hr]
  unfold val_main_v34 val_main_v33 val_main_v32 val_main_v5 val_main_v4
  pointwise
  exact congrArg x1 (congrArg₂ ix2 (Fin.ext (by show (n.val * 128 + i.val) * 4 + r.val = 4 * (128 * n.val + i.val) + r.val; omega))
    (Fin.ext (by show 2048 + (h.val * 128 + d.val) = 2048 + (128 * h.val + d.val); omega)))
theorem g_apply (i d : Fin 128) : (val_main_v125 (F := Ideal) x2 (ix5 r n h d i) : EReal) = ((Hd x0 x1 x2 x3 r h).G n i d : EReal) := by
  rw [← g_eq hr]
  unfold val_main_v125 val_main_v124 val_main_v123 val_main_v122 val_main_v116
  pointwise
  exact congrArg x2 (congrArg₂ ix2 (Fin.ext (by show (n.val * 128 + i.val) * 4 + r.val = 4 * (128 * n.val + i.val) + r.val; omega))
    (Fin.ext (by show h.val * 128 + d.val = 0 + (128 * h.val + d.val); omega)))
theorem dl_apply (i : Fin 128) : (val_main_v121 (F := Ideal) x3 (ix5 r n h i 0) : EReal) = ((Hd x0 x1 x2 x3 r h).dl n i : EReal) := by
  rw [← dl_eq hr]
  unfold val_main_v121 val_main_v120 val_main_v119 val_main_v118 val_main_v117
  pointwise
  exact congrArg x3 (congrArg₂ ix2 (Fin.ext (by show (n.val * 128 + i.val) * 4 + r.val = 4 * (128 * n.val + i.val) + r.val; omega)) rfl)

omit hr in
/-- Two halves of keys, the first shifted by a block, zeros in front. -/
theorem ctx0_coe {X : Rows} {y : Fin 16 → Fin 128 → EReal} (d : Fin 128) (hy : ∀ m j, y m j = (X m j d : EReal)) (k : Fin 256) :
    (if hk : k.val < 128 then if n.val < 1 then 0 else y ⟨n.val - 1, by omega⟩ ⟨k.val, hk⟩ else y n ⟨k.val - 128, by omega⟩) = (Head.ctx0 X n k d : EReal) := by
  unfold Head.ctx0 ctx
  by_cases hk : k.val < 128
  · rw [dif_pos hk, dif_pos hk]
    by_cases hn : n.val < 1
    · rw [if_pos hn, if_pos ⟨by omega, hk⟩, EReal.coe_zero]
    · rw [if_neg hn, if_neg (by omega), hy]
      rfl
  · rw [dif_neg hk, dif_neg hk, if_neg (by omega), hy]
theorem kk_apply (k : Fin 256) (d : Fin 128) : (val_main_v31 (F := Ideal) x1 (ix5 r n k h d) : EReal) = (Head.ctx0 (Hd x0 x1 x2 x3 r h).K n k d : EReal) := by
  rw [← ctx0_coe n d (fun m j => k_apply hr r h m j d)]
  unfold val_main_v31 val_main_v29 val_main_v28 val_main_v27 val_main_cst_7
  pointwise [ofBits_zero]
  rfl
theorem vv_apply (k : Fin 256) (d : Fin 128) : (val_main_v40 (F := Ideal) x1 (ix5 r n k h d) : EReal) = (Head.ctx0 (Hd x0 x1 x2 x3 r h).V n k d : EReal) := by
  rw [← ctx0_coe n d (fun m j => v_apply hr r h m j d)]
  unfold val_main_v40 val_main_v38 val_main_v37 val_main_v36 val_main_cst_9
  pointwise [ofBits_zero]
  rfl

/-! ## The scores and what is made of them -/

theorem score_apply (i : Fin 128) (k : Fin 256) (hk : seen n i k) :
    (val_main_v87 (F := Ideal) x0 x1 (ix5 r n h i k) : EReal) = ((Hd x0 x1 x2 x3 r h).score n i k : EReal) := by
  unfold val_main_v87 val_main_v86 val_main_v85 val_main_v43 val_main_v42 val_main_v41 val_main_cst_11
  pointwise [bias_apply]
  rw [coe_dot _ _ _ _ (fun d => q_apply hr r h n i d) (fun d => kk_apply hr r h n k d), sclR_eq, ← EReal.coe_mul, ← EReal.coe_add]
  unfold Head.score
  simp only [Head.ctx0_eq _ n i k _ hk]
  rfl
theorem masked_apply (i : Fin 128) (k : Fin 256) :
    (val_main_v88_0 (F := Ideal) x0 x1 (ix5 r n h i k) : EReal) = (Hd x0 x1 x2 x3 r h).sc n i k := by
  have e : (val_main_v88_0 (F := Ideal) x0 x1 (ix5 r n h i k) : EReal)
      = if (val_main_v74 (F := Ideal) (ix3 n i k) : BitVec 1) = 1#1 then (val_main_v87 (F := Ideal) x0 x1 (ix5 r n h i k) : EReal) else ⊥ := by
    unfold val_main_v88_0 val_main_v88_1 val_main_v84 val_main_call4_v2 val_main_call4_v0 val_main_cst_19
    pointwise [ofBits_neg_inf]
    rfl
  rw [e]
  unfold Head.sc masked
  by_cases hk : seen n i k
  · rw [if_pos ((seen_iff n i k).2 hk), if_pos hk, score_apply hr r h n i k hk]
  · rw [if_neg (fun hh => hk ((seen_iff n i k).1 hh)), if_neg hk]

end Cert.DilRef

end
-- ==== Proof.Dil.RefFwd.lean ====
/- The dilated attention's reference read one element at a time: the greatest of a row of scores, the weights, the log-sums, the
   probabilities and the outputs, of the heads of `Spec.lean`. -/
module

public import proofs.«01_k».proof.Proof.Dil.RefScore

@[expose] public section

noncomputable section

namespace Cert.DilRef

open Idealize.ShloMosaic Cert.DilAttnRefIdeal Cert.DilAttnRefIdeal.Gen Cert.DilAttnRefIdeal.Read Cert.Attn Cert.Dil Cert.DilSpec Cert.Words

variable {x0 : S8192x2048.Idx → EReal} {x1 : S8192x3072.Idx → EReal} {x2 : S8192x512.Idx → EReal} {x3 : S8192x4.Idx → EReal}
  (hr : AreReal x0 x1 x2 x3) (r h : Fin 4) (n : Fin 16)
include hr

theorem max_apply (i : Fin 128) : (val_main_v89 (F := Ideal) x0 x1 (ix4 r n h i) : EReal)
    = (greatest (seen n i) ((Hd x0 x1 x2 x3 r h).score n i) : EReal) := by
  rw [← greatest_eq _ (seen_self n i)]
  have e : (val_main_v89 (F := Ideal) x0 x1 (ix4 r n h i) : EReal)
      = Finset.univ.fold max (Ideal.ofBits .f32 0xFF800000#32) fun k => val_main_v88_0 (F := Ideal) x0 x1 (ix5 r n h i k) := by
    unfold val_main_v89 val_main_cst_20
    pointwise
  have e' : (fun k => val_main_v88_0 (F := Ideal) x0 x1 (ix5 r n h i k)) = (Hd x0 x1 x2 x3 r h).sc n i := funext fun k => masked_apply hr r h n i k
  rw [e, e', ofBits_neg_inf]
  rfl
theorem top_apply (i : Fin 128) (k : Fin 256) : (val_main_v93 (F := Ideal) x0 x1 (ix5 r n h i k) : EReal)
    = (isTop (seen n i) ((Hd x0 x1 x2 x3 r h).score n i) k : EReal) := by
  unfold val_main_v93 val_main_v92 val_main_v91 val_main_v90
  pointwise [masked_apply hr, max_apply hr]
  by_cases e : (Hd x0 x1 x2 x3 r h).sc n i k = (greatest (seen n i) ((Hd x0 x1 x2 x3 r h).score n i) : EReal)
  · rw [decide_eq_true e, isTop, if_pos e]
    show (((1#1 : BitVec 1).toNat : ℝ) : EReal) = _
    norm_num
  · rw [decide_eq_false e, isTop, if_neg e]
    show (((0#1 : BitVec 1).toNat : ℝ) : EReal) = _
    norm_num
theorem count_apply (i : Fin 128) : (val_main_v94 (F := Ideal) x0 x1 (ix4 r n h i) : EReal)
    = ∑ k, (isTop (seen n i) ((Hd x0 x1 x2 x3 r h).score n i) k : EReal) := by
  unfold val_main_v94 val_main_cst_21
  pointwise [top_apply hr, ofBits_zero, zero_add]
theorem wt_apply (i : Fin 128) (k : Fin 256) : (val_main_v98 (F := Ideal) x0 x1 (ix5 r n h i k) : EReal)
    = (wt (seen n i) ((Hd x0 x1 x2 x3 r h).score n i) k : EReal) := by
  unfold val_main_v98 val_main_v97 val_main_v96 val_main_v95
  pointwise [masked_apply hr, max_apply hr]
  exact exp_masked _ _ _ _
theorem norm_apply (i : Fin 128) : (val_main_v99 (F := Ideal) x0 x1 (ix4 r n h i) : EReal)
    = (norm (seen n i) ((Hd x0 x1 x2 x3 r h).score n i) : EReal) := by
  unfold val_main_v99 val_main_cst_22
  pointwise [wt_apply hr, ofBits_zero, zero_add]
  exact coe_sum _ _
theorem great_apply (i : Fin 128) (z : Fin 1) : (val_main_v95 (F := Ideal) x0 x1 (ix5 r n h i z) : EReal)
    = (greatest (seen n i) ((Hd x0 x1 x2 x3 r h).score n i) : EReal) := by
  unfold val_main_v95
  pointwise [max_apply hr]
theorem total_apply (i : Fin 128) (z : Fin 1) : (val_main_v100 (F := Ideal) x0 x1 (ix5 r n h i z) : EReal)
    = (norm (seen n i) ((Hd x0 x1 x2 x3 r h).score n i) : EReal) := by
  unfold val_main_v100
  pointwise [norm_apply hr]
omit hr in
theorem sum_log (a : EReal) (b c : EReal) (e : Ideal.log b = c) :
    (FloatOps.addf (F := Ideal) (φ := .f32) a (FloatOps.hostUnary (F := Ideal) (φ := .f32) .log b) : EReal) = a + c := e ▸ rfl
theorem lsum_apply (i : Fin 128) (z : Fin 1) : (val_main_v102 (F := Ideal) x0 x1 (ix5 r n h i z) : EReal) = ((Hd x0 x1 x2 x3 r h).L n i : EReal) := by
  rw [val_main_v102_apply, val_main_v101_apply, great_apply hr, total_apply hr, sum_log _ _ _ (log_norm _ (seen_self n i)), ← EReal.coe_add, Head.L, lsum]
theorem prob_apply (i : Fin 128) (k : Fin 256) : (val_main_v105 (F := Ideal) x0 x1 (ix5 r n h i k) : EReal) = ((Hd x0 x1 x2 x3 r h).P n i k : EReal) := by
  unfold val_main_v105 val_main_v104 val_main_v103
  pointwise [masked_apply hr, lsum_apply hr]
  exact exp_masked _ _ _ _
theorem out_apply (i d : Fin 128) : (val_main_v106 (F := Ideal) x0 x1 (ix5 r n h d i) : EReal) = ((Hd x0 x1 x2 x3 r h).O n i d : EReal) := by
  unfold val_main_v106
  pointwise
  rw [coe_dot _ _ _ _ (fun k => vv_apply hr r h n k d) (fun k => prob_apply hr r h n i k)]
  congr 1
  exact Finset.sum_congr rfl fun k _ => (mul_comm _ _).trans (Head.P_mul _ n i k fun hk => Head.ctx0_eq _ n i k d hk)

end Cert.DilRef

end
-- ==== Proof.Dil.RefScoreGrad.lean ====
/- The gradients of the dilated attention's scores in the reference: the gradient that reaches the probabilities, what the sums'
   gradients and the greatest score's add to it, and the whole, times the scale. -/
module

public import proofs.«01_k».proof.Proof.Dil.RefFwd

@[expose] public section

noncomputable section

namespace Cert.DilRef

open Idealize.ShloMosaic Cert.DilAttnRefIdeal Cert.DilAttnRefIdeal.Gen Cert.DilAttnRefIdeal.Read Cert.Attn Cert.Dil Cert.DilSpec

variable {x0 : S8192x2048.Idx → EReal} {x1 : S8192x3072.Idx → EReal} {x2 : S8192x512.Idx → EReal} {x3 : S8192x4.Idx → EReal}

/-- The gradients of the probabilities, the keys before the first block being zeros. -/
def dprob (x0 : S8192x2048.Idx → EReal) (x1 : S8192x3072.Idx → EReal) (x2 : S8192x512.Idx → EReal) (x3 : S8192x4.Idx → EReal)
    (r h : Fin 4) (n : Fin 16) (i : Fin 128) (k : Fin 256) : ℝ :=
  ∑ d, (Hd x0 x1 x2 x3 r h).G n i d * Head.ctx0 (Hd x0 x1 x2 x3 r h).V n k d
/-- The gradient of the log-sum less the weighted sum of the probabilities' gradients. -/
def rest (x0 : S8192x2048.Idx → EReal) (x1 : S8192x3072.Idx → EReal) (x2 : S8192x512.Idx → EReal) (x3 : S8192x4.Idx → EReal)
    (r h : Fin 4) (n : Fin 16) (i : Fin 128) : EReal :=
  ((Hd x0 x1 x2 x3 r h).dl n i : EReal) + ∑ j, -((dprob x0 x1 x2 x3 r h n i j : EReal) * ((Hd x0 x1 x2 x3 r h).P n i j : EReal))

/-- A quotient of the reference is the extended reals' own. -/
theorem quot (a b : EReal) : FloatOps.hostDivf (F := Ideal) (φ := .f32) a b = Ideal.div a b := rfl

variable (hr : AreReal x0 x1 x2 x3) (r h : Fin 4) (n : Fin 16)
include hr

theorem dl_any (i : Fin 128) (z : Fin 1) : (val_main_v121 (F := Ideal) x3 (ix5 r n h i z) : EReal) = ((Hd x0 x1 x2 x3 r h).dl n i : EReal) := by
  rw [Subsingleton.elim z 0]
  exact dl_apply hr r h n i
theorem dprob_apply (i : Fin 128) (k : Fin 256) : (val_main_v126 (F := Ideal) x1 x2 (ix5 r n h i k) : EReal) = (dprob x0 x1 x2 x3 r h n i k : EReal) := by
  unfold val_main_v126
  pointwise
  exact coe_dot _ _ _ _ (fun d => g_apply hr r h n i d) (fun d => vv_apply hr r h n k d)
theorem weighted_apply (i : Fin 128) (k : Fin 256) : (val_main_v129 (F := Ideal) x0 x1 x2 (ix5 r n h i k) : EReal)
    = (dprob x0 x1 x2 x3 r h n i k : EReal) * ((Hd x0 x1 x2 x3 r h).P n i k : EReal) := by
  unfold val_main_v129
  pointwise [dprob_apply hr, prob_apply hr]
theorem sum_apply (i : Fin 128) : (val_main_v131 (F := Ideal) x0 x1 x2 (ix4 r n h i) : EReal)
    = ∑ j, -((dprob x0 x1 x2 x3 r h n i j : EReal) * ((Hd x0 x1 x2 x3 r h).P n i j : EReal)) := by
  unfold val_main_v131 val_main_v130 val_main_cst_23
  pointwise [weighted_apply hr, ofBits_zero, zero_add]
theorem rest_apply (i : Fin 128) (z : Fin 1) : (val_main_v133 (F := Ideal) x0 x1 x2 x3 (ix5 r n h i z) : EReal) = rest x0 x1 x2 x3 r h n i := by
  unfold val_main_v133 val_main_v132
  pointwise [sum_apply hr, dl_any hr]
  rfl
theorem share_apply (i : Fin 128) (z : Fin 1) : (val_main_v134 (F := Ideal) x0 x1 x2 x3 (ix5 r n h i z) : EReal)
    = Ideal.div (rest x0 x1 x2 x3 r h n i) (norm (seen n i) ((Hd x0 x1 x2 x3 r h).score n i) : EReal) := by
  rw [val_main_v134_apply, rest_apply hr, total_apply hr, quot]
theorem shares_apply (i : Fin 128) (k : Fin 256) : (val_main_v137 (F := Ideal) x0 x1 x2 x3 (ix5 r n h i k) : EReal)
    = Ideal.div (rest x0 x1 x2 x3 r h n i) (norm (seen n i) ((Hd x0 x1 x2 x3 r h).score n i) : EReal)
      * (wt (seen n i) ((Hd x0 x1 x2 x3 r h).score n i) k : EReal) := by
  unfold val_main_v137 val_main_v136 val_main_v135 val_main_cst_24
  pointwise [share_apply hr, wt_apply hr, ofBits_zero, zero_add, Fin.sum_univ_one]
theorem left_apply (i : Fin 128) (z : Fin 1) : (val_main_v142 (F := Ideal) x0 x1 x2 x3 (ix5 r n h i z) : EReal)
    = rest x0 x1 x2 x3 r h n i + ∑ j, -(Ideal.div (rest x0 x1 x2 x3 r h n i) (norm (seen n i) ((Hd x0 x1 x2 x3 r h).score n i) : EReal)
      * (wt (seen n i) ((Hd x0 x1 x2 x3 r h).score n i) j : EReal)) := by
  unfold val_main_v142 val_main_v140 val_main_v139 val_main_v138 val_main_cst_25
  pointwise [shares_apply hr, rest_apply hr, ofBits_zero, zero_add]
theorem lefts_apply (i : Fin 128) : (val_main_v143 (F := Ideal) x0 x1 x2 x3 (ix4 r n h i) : EReal)
    = rest x0 x1 x2 x3 r h n i + ∑ j, -(Ideal.div (rest x0 x1 x2 x3 r h n i) (norm (seen n i) ((Hd x0 x1 x2 x3 r h).score n i) : EReal)
      * (wt (seen n i) ((Hd x0 x1 x2 x3 r h).score n i) j : EReal)) := by
  unfold val_main_v143 val_main_cst_26
  pointwise [left_apply hr, ofBits_zero, zero_add, Fin.sum_univ_one]
theorem each_apply (i : Fin 128) : (val_main_v144 (F := Ideal) x0 x1 x2 x3 (ix4 r n h i) : EReal)
    = Ideal.div (rest x0 x1 x2 x3 r h n i + ∑ j, -(Ideal.div (rest x0 x1 x2 x3 r h n i) (norm (seen n i) ((Hd x0 x1 x2 x3 r h).score n i) : EReal)
      * (wt (seen n i) ((Hd x0 x1 x2 x3 r h).score n i) j : EReal))) (∑ k, (isTop (seen n i) ((Hd x0 x1 x2 x3 r h).score n i) k : EReal)) := by
  rw [val_main_v144_apply, lefts_apply hr, count_apply hr, quot]
theorem dmasked_apply (i : Fin 128) (k : Fin 256) : (val_main_v147 (F := Ideal) x0 x1 x2 x3 (ix5 r n h i k) : EReal)
    = (((Hd x0 x1 x2 x3 r h).P n i k * (dprob x0 x1 x2 x3 r h n i k
        + ((Hd x0 x1 x2 x3 r h).dl n i - ∑ j, (Hd x0 x1 x2 x3 r h).P n i j * dprob x0 x1 x2 x3 r h n i j)) : ℝ) : EReal) := by
  rw [← dscore_eq _ (seen_self n i) (dprob x0 x1 x2 x3 r h n i) ((Hd x0 x1 x2 x3 r h).dl n i) k]
  unfold val_main_v147 val_main_v141 val_main_v146 val_main_v145
  pointwise [weighted_apply hr, shares_apply hr, each_apply hr, top_apply hr]
  rfl
theorem ds_apply (i : Fin 128) (k : Fin 256) : (val_main_v150 (F := Ideal) x0 x1 x2 x3 (ix5 r n h i k) : EReal) = ((Hd x0 x1 x2 x3 r h).dS n i k : EReal) := by
  have e : (val_main_v150 (F := Ideal) x0 x1 x2 x3 (ix5 r n h i k) : EReal)
      = if (val_main_v74 (F := Ideal) (ix3 n i k) : BitVec 1) = 1#1
        then (val_main_v147 (F := Ideal) x0 x1 x2 x3 (ix5 r n h i k) : EReal) * Ideal.ofBits .f32 0x3DB504F3#32 else 0 := by
    unfold val_main_v150 val_main_v149 val_main_cst_27 val_main_v148 val_main_v88_1 val_main_v84 val_main_call5_v0 val_main_call5_cst
    pointwise [ofBits_zero]
    rfl
  rw [e, sclR_eq, dmasked_apply hr, ← (Hd x0 x1 x2 x3 r h).dS_eq n i k (dprob x0 x1 x2 x3 r h n i) (fun j hj =>
    Finset.sum_congr rfl fun d _ => by rw [Head.ctx0_eq _ n i j d hj])]
  by_cases hk : seen n i k
  · rw [if_pos ((seen_iff n i k).2 hk), if_pos hk, EReal.coe_mul]
    rfl
  · rw [if_neg (fun hh => hk ((seen_iff n i k).1 hh)), if_neg hk, zero_mul, EReal.coe_zero]

end Cert.DilRef

end
-- ==== Proof.Dil.RefGrad.lean ====
/- The reference's gradients of the queries, the keys and the values, one element at a time: a block's keys are seen from the
   block itself and from the block after. -/
module

public import proofs.«01_k».proof.Proof.Dil.RefScoreGrad

@[expose] public section

noncomputable section

namespace Cert.DilRef

open Idealize.ShloMosaic Cert.DilAttnRefIdeal Cert.DilAttnRefIdeal.Gen Cert.DilAttnRefIdeal.Read Cert.Attn Cert.Dil Cert.DilSpec

variable {x0 : S8192x2048.Idx → EReal} {x1 : S8192x3072.Idx → EReal} {x2 : S8192x512.Idx → EReal} {x3 : S8192x4.Idx → EReal}
  (hr : AreReal x0 x1 x2 x3) (r h : Fin 4) (n : Fin 16)
include hr

theorem dq_apply (i d : Fin 128) : (val_main_v153 (F := Ideal) x0 x1 x2 x3 (ix5 r n h i d) : EReal) = ((Hd x0 x1 x2 x3 r h).dQ n i d : EReal) := by
  unfold val_main_v153
  pointwise
  rw [coe_dot _ _ _ _ (fun k => ds_apply hr r h n i k) (fun k => kk_apply hr r h n k d)]
  congr 1
  refine Finset.sum_congr rfl fun k _ => ?_
  unfold Head.dS
  rw [mul_assoc, mul_assoc, mul_assoc, mul_assoc]
  exact Head.P_mul _ n i k fun hk => by rw [Head.ctx0_eq _ n i k d hk]
theorem dk_apply (k : Fin 256) (d : Fin 128) : (val_main_v152 (F := Ideal) x0 x1 x2 x3 (ix5 r n k h d) : EReal)
    = ((∑ i, (Hd x0 x1 x2 x3 r h).dS n i k * (Hd x0 x1 x2 x3 r h).Q n i d : ℝ) : EReal) := by
  unfold val_main_v152 val_main_v151
  pointwise
  exact coe_dot _ _ _ _ (fun i => ds_apply hr r h n i k) (fun i => q_apply hr r h n i d)
theorem dv_apply (k : Fin 256) (d : Fin 128) : (val_main_v128 (F := Ideal) x0 x1 x2 (ix5 r n k h d) : EReal)
    = ((∑ i, (Hd x0 x1 x2 x3 r h).P n i k * (Hd x0 x1 x2 x3 r h).G n i d : ℝ) : EReal) := by
  unfold val_main_v128 val_main_v127
  pointwise
  rw [coe_dot _ _ _ _ (fun i => g_apply hr r h n i d) (fun i => prob_apply hr r h n i k)]
  congr 1
  exact Finset.sum_congr rfl fun i _ => mul_comm _ _

omit hr in
/-- The upper half of a block's sums and the lower half of the next block's, if there is one. -/
theorem both_halves (y : Fin 16 → Fin 256 → EReal) (Y : Fin 16 → Fin 256 → ℝ) (hy : ∀ m k, y m k = (Y m k : EReal)) (j : Fin 128) :
    (y n ⟨128 + j.val, by omega⟩ + if hn : n.val < 15 then y ⟨1 + n.val, by omega⟩ ⟨j.val, by omega⟩ else 0)
      = ((Y n (up j) + (if n.val + 1 < 16 then Y (next n) (lw j) else 0) : ℝ) : EReal) := by
  rw [EReal.coe_add, hy]
  congr 1
  by_cases hn : n.val < 15
  · rw [dif_pos hn, if_pos (by omega), hy]
    exact congrArg (fun m => (Y m (lw j) : EReal)) (Fin.ext (by show 1 + n.val = min (n.val + 1) 15; omega))
  · rw [dif_neg hn, if_neg (by omega), EReal.coe_zero]
theorem dks_apply (j d : Fin 128) : (val_main_v169 (F := Ideal) x0 x1 x2 x3 (ix5 r n j h d) : EReal) = ((Hd x0 x1 x2 x3 r h).dK n j d : EReal) := by
  refine Eq.trans ?_ (both_halves n (fun m k => (val_main_v152 (F := Ideal) x0 x1 x2 x3 (ix5 r m k h d) : EReal)) _ (fun m k => dk_apply hr r h m k d) j)
  unfold val_main_v169 val_main_v168 val_main_v167 val_main_v165 val_main_v164 val_main_cst_29
  pointwise [ofBits_zero]
theorem dvs_apply (j d : Fin 128) : (val_main_v160 (F := Ideal) x0 x1 x2 (ix5 r n j h d) : EReal) = ((Hd x0 x1 x2 x3 r h).dV n j d : EReal) := by
  refine Eq.trans ?_ (both_halves n (fun m k => (val_main_v128 (F := Ideal) x0 x1 x2 (ix5 r m k h d) : EReal)) _ (fun m k => dv_apply hr r h m k d) j)
  unfold val_main_v160 val_main_v159 val_main_v158 val_main_v156 val_main_v155 val_main_cst_28
  pointwise [ofBits_zero]

/-! ## The results: one row per residue's place, the residues side by side -/

section
omit hr
variable (i d : Fin 128)
theorem at_r (p) : (⟨(beside r h d).val / 512, p⟩ : Fin 4) = r := Fin.ext (by show (512 * r.val + (128 * h.val + d.val)) / 512 = r.val; omega)
theorem residue : ((sub n i).val * 4 + (beside r h d).val / 512) % 4 = r.val := by
  show ((128 * n.val + i.val) * 4 + (512 * r.val + (128 * h.val + d.val)) / 512) % 4 = r.val; omega
theorem ix5_congr {a b c d e : ℕ} {i i' : Fin a} {j j' : Fin b} {k k' : Fin c} {l l' : Fin d} {m m' : Fin e} (hi : i = i') (hj : j = j')
    (hk : k = k') (hl : l = l') (hm : m = m') : ix5 i j k l m = ix5 i' j' k' l' m' := by subst hi hj hk hl hm; rfl
theorem at_h (p) : (⟨(beside r h d).val / 128 % 4, p⟩ : Fin 4) = h := Fin.ext (by show (512 * r.val + (128 * h.val + d.val)) / 128 % 4 = h.val; omega)
theorem at_d (p) : (⟨(beside r h d).val % 128, p⟩ : Fin 128) = d := Fin.ext (by show (512 * r.val + (128 * h.val + d.val)) % 128 = d.val; omega)
theorem at_n (p) : (⟨(sub n i).val / 128, p⟩ : Fin 16) = n := Fin.ext (by show (128 * n.val + i.val) / 128 = n.val; omega)
theorem at_i (p) : (⟨(sub n i).val % 128, p⟩ : Fin 128) = i := Fin.ext (by show (128 * n.val + i.val) % 128 = i.val; omega)
end

theorem res_out : (val_main_v178 (F := Ideal) x0 x1 : _ → EReal) = join fun r h => (Hd x0 x1 x2 x3 r h).O := by
  refine eq_join fun r h n i d => (Eq.trans ?_ (out_apply hr r h n i d))
  unfold val_main_v178 val_main_v110 val_main_v109 val_main_v108 val_main_v107
  pointwise
  rw [at_r, at_h, at_n, at_i, at_d]
theorem res_lsum : (val_main_v179 (F := Ideal) x0 x1 : _ → EReal) = join fun r h n i _ => (Hd x0 x1 x2 x3 r h).L n i := by
  refine eq_join fun r h n i d => (Eq.trans ?_ (lsum_apply hr r h n i 0))
  unfold val_main_v179 val_main_v177 val_main_v176 val_main_v115 val_main_v114 val_main_v113 val_main_v112 val_main_v111
  pointwise
  refine congrArg (val_main_v102 (F := Ideal) x0 x1) (ix5_congr (Fin.ext ?_) (at_n n i _) (at_h r h d _) (at_i n i _) rfl)
  exact residue r h n i d
theorem res_dq : (val_main_v181 (F := Ideal) x0 x1 x2 x3 : _ → EReal) = join fun r h => (Hd x0 x1 x2 x3 r h).dQ := by
  refine eq_join fun r h n i d => (Eq.trans ?_ (dq_apply hr r h n i d))
  unfold val_main_v181 val_main_v180 val_main_v175 val_main_v174 val_main_v173 val_main_v154
  pointwise
  rw [at_r, at_h, at_n, at_i, at_d]
theorem res_dk : (val_main_v182 (F := Ideal) x0 x1 x2 x3 : _ → EReal) = join fun r h => (Hd x0 x1 x2 x3 r h).dK := by
  refine eq_join fun r h n i d => (Eq.trans ?_ (dks_apply hr r h n i d))
  unfold val_main_v182 val_main_v172 val_main_v171 val_main_v170
  pointwise
  rw [at_r, at_h, at_n, at_i, at_d]
theorem res_dv : (val_main_v183 (F := Ideal) x0 x1 x2 : _ → EReal) = join fun r h => (Hd x0 x1 x2 x3 r h).dV := by
  refine eq_join fun r h n i d => (Eq.trans ?_ (dvs_apply hr r h n i d))
  unfold val_main_v183 val_main_v163 val_main_v162 val_main_v161
  pointwise
  rw [at_r, at_h, at_n, at_i, at_d]

end Cert.DilRef

end
-- ==== Proof.Dil.Claim.lean ====
/- The dilated attention's claim: the kernel's five results are its reference's. -/
module

public import proofs.«01_k».proof.Proof.Dil.Run
public import proofs.«01_k».proof.Proof.Dil.Pre
public import proofs.«01_k».proof.Proof.Dil.RefGrad
public import proofs.«01_k».proof.Proof.Gen.DilAttnRefIdeal.Run
public import proofs.«01_k».proof.Defs

@[expose] public section

noncomputable section

namespace Cert.DilClaim

open Idealize.ShloMosaic Idealize.SL.Sem Idealize.ShloMosaic.TcCoe Cert.DilSpec Cert.DilArray

theorem algebraic : Cert.algebraic_DilAttnIdeal_DilAttnRefIdeal_pre_dil_finite := by
  intro m ρ m' ρ' hpre hag
  have hr : ∀ c, AreReal (A0 m c) (A1 m c) (A2 m c) (A3 m c) := fun c => DilPre.split _ _ _ _ (hpre c)
  refine ⟨fun c => join fun r h => (HH m c r h).O, fun c => join fun r h n i _ => (HH m c r h).L n i, fun c => join fun r h => (HH m c r h).dQ,
    fun c => join fun r h => (HH m c r h).dK, fun c => join fun r h => (HH m c r h).dV, DilArray.run m ρ hr,
    (θ_run _ _ _).mono (fun _ h c => ?_) (Cert.DilAttnRefIdeal.Value.run m' ρ')⟩
  obtain ⟨h0, h1, h2, h3, h4, h5⟩ := h c
  obtain ⟨e0, e1, e2, e3⟩ := hag c
  have E0 : StableHlo.launchContents m' c (Proc.tc.devRef DilAttnRefIdeal.main_arg0) = A0 m c := e0
  have E1 : StableHlo.launchContents m' c (Proc.tc.devRef DilAttnRefIdeal.main_arg1) = A1 m c := e1
  have E2 : StableHlo.launchContents m' c (Proc.tc.devRef DilAttnRefIdeal.main_arg2) = A2 m c := e2
  have E3 : StableHlo.launchContents m' c (Proc.tc.devRef DilAttnRefIdeal.main_arg3) = A3 m c := e3
  refine ⟨h0.trans ((DilAttnRefIdeal.Read.val_main_v178_eq _).trans ?_), h1.trans ((DilAttnRefIdeal.Read.val_main_v179_eq _).trans ?_),
    h2.trans ((DilAttnRefIdeal.Read.val_main_v181_eq _).trans ?_), h3.trans ((DilAttnRefIdeal.Read.val_main_v182_eq _).trans ?_),
    h4.trans ((DilAttnRefIdeal.Read.val_main_v183_eq _).trans ?_), h5⟩
  · rw [E0, E1]
    exact DilRef.res_out (hr c)
  · rw [E0, E1]
    exact DilRef.res_lsum (hr c)
  · rw [E0, E1, E2, E3]
    exact DilRef.res_dq (hr c)
  · rw [E0, E1, E2, E3]
    exact DilRef.res_dk (hr c)
  · rw [E0, E1, E2]
    exact DilRef.res_dv (hr c)

end Cert.DilClaim

end
-- ==== Proof.Math.Blocks.lean ====
/- Blocks of matrices: reading an array at an index known by its coordinates, the products of two matrices, and a product
   whose inner sum is gathered block by block. -/
module

public import proofs.«01_k».proof.Proof.Math.Sums

@[expose] public section

noncomputable section

namespace Cert.Attn

open Idealize.ShloMosaic

/-- An index is known by its coordinates. -/
theorem eq_ix2 {A B : ℕ} (i : (⟨2, ![A, B]⟩ : Shape).Idx) (p : Fin A) (q : Fin B) (h0 : (i 0).val = p.val) (h1 : (i 1).val = q.val) :
    i = ix2 p q := funext fun a => by
  match a with
  | ⟨0, _⟩ => exact Fin.ext h0
  | ⟨1, _⟩ => exact Fin.ext h1
theorem eq_ix3 {A B C : ℕ} (i : (⟨3, ![A, B, C]⟩ : Shape).Idx) (p : Fin A) (q : Fin B) (r : Fin C)
    (h0 : (i 0).val = p.val) (h1 : (i 1).val = q.val) (h2 : (i 2).val = r.val) : i = ix3 p q r := funext fun a => by
  match a with
  | ⟨0, _⟩ => exact Fin.ext h0
  | ⟨1, _⟩ => exact Fin.ext h1
  | ⟨2, _⟩ => exact Fin.ext h2

/-- The product of two matrices, with the second transposed, and with the first transposed. -/
def mulNN {A K B : ℕ} (a : (⟨2, ![A, K]⟩ : Shape).Idx → EReal) (b : (⟨2, ![K, B]⟩ : Shape).Idx → EReal) : (⟨2, ![A, B]⟩ : Shape).Idx → EReal :=
  fun i => ∑ r : Fin K, a (ix2 (i 0) r) * b (ix2 r (i 1))
def mulNT {A K B : ℕ} (a : (⟨2, ![A, K]⟩ : Shape).Idx → EReal) (b : (⟨2, ![B, K]⟩ : Shape).Idx → EReal) : (⟨2, ![A, B]⟩ : Shape).Idx → EReal :=
  fun i => ∑ r : Fin K, a (ix2 (i 0) r) * b (ix2 (i 1) r)
def mulTN {A K B : ℕ} (a : (⟨2, ![K, A]⟩ : Shape).Idx → EReal) (b : (⟨2, ![K, B]⟩ : Shape).Idx → EReal) : (⟨2, ![A, B]⟩ : Shape).Idx → EReal :=
  fun i => ∑ r : Fin K, a (ix2 r (i 0)) * b (ix2 r (i 1))

/-- A matrix in four blocks of columns. -/
def fourBlocks {A B N : ℕ} (e : 4 * B = N) (f : (⟨2, ![A, N]⟩ : Shape).Idx → EReal) : (⟨3, ![4, A, B]⟩ : Shape).Idx → EReal :=
  fun i => f (ix2 (i 1) (row e (i 0) (i 2)))

/-- The product with the first matrix transposed, at an entry of a block whose place is known. -/
theorem fourBlocks_mulTN {A B K N : ℕ} (e : 4 * B = N) (a : (⟨2, ![K, A]⟩ : Shape).Idx → EReal) (b : (⟨2, ![K, N]⟩ : Shape).Idx → EReal)
    (i : (⟨3, ![4, A, B]⟩ : Shape).Idx) (p : Fin A) (q : Fin N) (h1 : (i 1).val = p.val) (h2 : B * (i 0).val + (i 2).val = q.val) :
    fourBlocks e (mulTN a b) i = ∑ r : Fin K, a (ix2 r p) * b (ix2 r q) := by
  have e1 : i 1 = p := Fin.ext h1
  have e2 : row e (i 0) (i 2) = q := Fin.ext h2
  unfold fourBlocks mulTN
  exact Finset.sum_congr rfl fun r _ => congrArg₂ (fun p q => a (ix2 r p) * b (ix2 r q)) e1 e2

/-- An accumulator that starts anew every `G` steps, and takes at each step of a run one block of a sum's terms, ends the run
    with the sum. -/
theorem run_rows {N G b R : ℕ} (e : G * b = R) (hG : 0 < G) (A T : (t : ℕ) → t < N → EReal) (h0 : ∀ t h, t % G = 0 → A t h = T t h)
    (hs : ∀ t h, ¬ t % G = 0 → A t h = A (t - 1) (Nat.lt_of_le_of_lt (Nat.sub_le _ _) h) + T t h) (f : Fin R → EReal)
    (t : ℕ) (h : t < N) (hl : t % G = G - 1)
    (hT : ∀ (s : Fin G) (h' : G * (t / G) + s.val < N), T (G * (t / G) + s.val) h' = ∑ r : Fin b, f (row e s r)) :
    A t h = ∑ i, f i := by
  have ht : G * (t / G) + (G - 1) = t := by rw [← hl]; exact Nat.div_add_mod _ _
  obtain ⟨j, rfl⟩ : ∃ j, G = j + 1 := ⟨G - 1, by omega⟩
  have key := run_sum (j + 1) A T h0 hs (t / (j + 1)) j (by omega) (by omega)
  have hj : (j + 1) * (t / (j + 1)) + j = t := ht
  simp only [hj] at key
  rw [key, sum_rows e]
  exact Finset.sum_congr rfl fun s _ => hT s _

end Cert.Attn

end
-- ==== Proof.Mix.MixOut.lean ====
/- The mixers' output product, and the dilated layers' input product, which has the same text: a block of 1024 rows is one
   product, computed in four blocks of 512 columns. -/
module

public import proofs.«01_k».proof.Proof.Math.Blocks
public import proofs.«01_k».proof.Proof.Gen.MixOutIdeal.Value
public import Idealize.ShloMosaic.Lib.Pipeline.ValueKit

@[expose] public section

noncomputable section

namespace Cert.MixOutArray

open Idealize.ShloMosaic Idealize.ShloMosaic.TcCoe Idealize.ShloMosaic.Tactic Idealize.SL.Sem
open Cert.MixOutIdeal Cert.MixOutIdeal.Gen Cert.Attn

variable (m : (ℓ : Loc nD τ sig) → Buf (Elt Ideal) ℓ) (c : Dev nD)

/-- The arguments: the inputs and the matrix. -/
abbrev A0 : S8192x2048.Idx → EReal := m ((c : Thread nD τ).loc main_arg0)
abbrev A1 : S2048x2048.Idx → EReal := m ((c : Thread nD τ).loc main_arg1)

/-- A payload at an index. -/
theorem pay (a : S1024x2048.Idx → EReal) (b : S2048x512.Idx → EReal) (p : Fin 1024) (q : Fin 512) :
    (k0_pay2 (F := Ideal) a b (ix2 p q) : EReal) = ∑ r : Fin 2048, a (ix2 p r) * b (ix2 r q) := by
  unfold k0_pay2 k0_pay1
  pointwise

/-- What a point leaves is its blocks' product. -/
theorem out_eq (a : S1024x2048.Idx → EReal) (b : S2048x2048.Idx → EReal) (p : Fin 1024) (q : Fin 2048) :
    (out0_2 (F := Ideal) a b (ix2 p q) : EReal) = ∑ r : Fin 2048, a (ix2 p r) * b (ix2 r q) := by
  unfold out0_2
  canon_tiles x hx
  all_goals
    rw [eq_ix2 x p (x 1) hx0.symm rfl]
    refine (pay _ _ p (x 1)).trans (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix2 r q) (Fin.forall_fin_two.2 ⟨(Nat.zero_add _).symm, by first | exact hx1 | exact hx1.trans (Nat.zero_add _).symm⟩)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- Point `t`'s blocks of the arguments, which the host rounds to bfloat16: at the extended reals, not at all. -/
abbrev X0 (t : Fin cfg0.N) : S1024x2048.Idx → EReal := iblk m c 0 t
abbrev X1 (t : Fin cfg0.N) : S2048x2048.Idx → EReal := iblk m c 1 t
theorem blk0 (t : Fin cfg0.N) (p : Fin 1024) (r : Fin 2048) :
    X0 m c t (ix2 p r) = A0 m c (ix2 ⟨1024 * t.val + p.val, by have : t.val < 8 := t.isLt; omega⟩ r) := by
  unfold X0 iblk
  rw [View.read_apply]
  refine congrArg (A0 m c) (eq_ix2 _ _ _ ?_ ?_)
  · show win0_0.index t 0 * 1024 + 1 * p.val = 1024 * t.val + p.val; rw [(index0 t).1]; omega
  · show win0_0.index t 1 * 2048 + 1 * r.val = r.val; rw [(index0 t).2]; omega
theorem blk1 (t : Fin cfg0.N) (r q : Fin 2048) : X1 m c t (ix2 r q) = A1 m c (ix2 r q) := by
  unfold X1 iblk
  rw [View.read_apply]
  refine congrArg (A1 m c) (eq_ix2 _ _ _ ?_ ?_)
  · show win0_1.index t 0 * 2048 + 1 * r.val = r.val; rw [(index1 t).1]; omega
  · show win0_1.index t 1 * 2048 + 1 * q.val = q.val; rw [(index1 t).2]; omega

/-- Each block is written at its place. -/
theorem flushed_eq (t : Fin cfg0.N) :
    (dats m 0 c).flushed 2 t = ((cfg0.win 2).blk t).view.read (Elt Ideal) (mulNN (A0 m c) (A1 m c)) := by
  rw [Value.flushed2]
  funext i
  rw [View.read_apply]
  refine Eq.trans ?_ (cast_eq _ _).symm
  show out0_2 (F := Ideal) (X0 m c t) (X1 m c t) i = _
  obtain ⟨p, q, rfl⟩ : ∃ (p : Fin 1024) (q : Fin 2048), i = ix2 p q := ⟨i 0, i 1, eq_ix2 i _ _ rfl rfl⟩
  refine (out_eq _ _ p q).trans (Finset.sum_congr rfl fun r _ => ?_)
  rw [blk0, blk1]
  refine congrArg₂ (· * ·) (congrArg (A0 m c) (eq_ix2 _ _ _ ?_ rfl).symm) (congrArg (A1 m c) (eq_ix2 _ _ _ rfl ?_).symm)
  · show win0_2.index t 0 * 1024 + 1 * p.val = 1024 * t.val + p.val; rw [(index2 t).1]; omega
  · show win0_2.index t 1 * 2048 + 1 * q.val = q.val; rw [(index2 t).2]; omega

/-- The product after the run. -/
theorem final : (dats m 0 c).arrAt 2 cfg0.N = mulNN (A0 m c) (A1 m c) :=
  (dats m 0 c).arrAt_eq_of_cover 2 _ (fun t _ => flushed_eq m c t) fun i => by
    have h0 : (i 0).val < 8192 := (i 0).isLt
    have h1 : (i 1).val < 2048 := (i 1).isLt
    have ht : (i 0).val / 1024 < 8 := by omega
    refine ⟨⟨_, ht⟩, flush0_2 _, ?_⟩
    show i ∈ ((View.whole main_v2).slice (win0_2.rect ⟨_, ht⟩)).set
    rw [View.set_slice_whole, Rect.mem_set_unit]
    obtain ⟨e0, e1⟩ := index2 ⟨_, ht⟩
    intro a
    match a with
    | ⟨0, _⟩ => show win0_2.index _ 0 * 1024 ≤ (i 0).val ∧ (i 0).val < win0_2.index _ 0 * 1024 + 1024; rw [e0]; dsimp only; omega
    | ⟨1, _⟩ => show win0_2.index _ 1 * 2048 ≤ (i 1).val ∧ (i 1).val < win0_2.index _ 1 * 2048 + 2048; rw [e1]; omega

end Cert.MixOutArray

end
-- ==== Proof.Mix.MixOutDx.lean ====
/- The gradient of the mixers' output product's input: a block of 1024 rows is the cotangent's block times the matrix
   transposed, computed in four blocks of 512 columns, which are four blocks of rows of the matrix. -/
module

public import proofs.«01_k».proof.Proof.Math.Blocks
public import proofs.«01_k».proof.Proof.Gen.MixOutDxIdeal.Value
public import Idealize.ShloMosaic.Lib.Pipeline.ValueKit

@[expose] public section

noncomputable section

namespace Cert.MixOutDxArray

open Idealize.ShloMosaic Idealize.ShloMosaic.TcCoe Idealize.ShloMosaic.Tactic Idealize.SL.Sem
open Cert.MixOutDxIdeal Cert.MixOutDxIdeal.Gen Cert.Attn

variable (m : (ℓ : Loc nD τ sig) → Buf (Elt Ideal) ℓ) (c : Dev nD)

/-- The arguments: the cotangent and the matrix. -/
abbrev A0 : S8192x2048.Idx → EReal := m ((c : Thread nD τ).loc main_arg0)
abbrev A1 : S2048x2048.Idx → EReal := m ((c : Thread nD τ).loc main_arg1)

/-- A payload at an index. -/
theorem pay (a : S1024x2048.Idx → EReal) (b : S512x2048.Idx → EReal) (p : Fin 1024) (q : Fin 512) :
    (k0_pay2 (F := Ideal) a b (ix2 p q) : EReal) = ∑ r : Fin 2048, a (ix2 p r) * b (ix2 q r) := by
  unfold k0_pay2 k0_pay1
  pointwise

/-- What a point leaves is its blocks' product. -/
theorem out_eq (a : S1024x2048.Idx → EReal) (b : S2048x2048.Idx → EReal) (p : Fin 1024) (q : Fin 2048) :
    (out0_2 (F := Ideal) a b (ix2 p q) : EReal) = ∑ r : Fin 2048, a (ix2 p r) * b (ix2 q r) := by
  unfold out0_2
  canon_tiles x hx
  all_goals
    rw [eq_ix2 x p (x 1) hx0.symm rfl]
    refine (pay _ _ p (x 1)).trans (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix2 q r) (Fin.forall_fin_two.2 ⟨by first | exact hx1 | exact hx1.trans (Nat.zero_add _).symm, (Nat.zero_add _).symm⟩)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- Point `t`'s blocks of the arguments, which the host rounds to bfloat16: at the extended reals, not at all. -/
abbrev X0 (t : Fin cfg0.N) : S1024x2048.Idx → EReal := iblk m c 0 t
abbrev X1 (t : Fin cfg0.N) : S2048x2048.Idx → EReal := iblk m c 1 t
theorem blk0 (t : Fin cfg0.N) (p : Fin 1024) (r : Fin 2048) :
    X0 m c t (ix2 p r) = A0 m c (ix2 ⟨1024 * t.val + p.val, by have : t.val < 8 := t.isLt; omega⟩ r) := by
  unfold X0 iblk
  rw [View.read_apply]
  refine congrArg (A0 m c) (eq_ix2 _ _ _ ?_ ?_)
  · show win0_0.index t 0 * 1024 + 1 * p.val = 1024 * t.val + p.val; rw [(index0 t).1]; omega
  · show win0_0.index t 1 * 2048 + 1 * r.val = r.val; rw [(index0 t).2]; omega
theorem blk1 (t : Fin cfg0.N) (r q : Fin 2048) : X1 m c t (ix2 r q) = A1 m c (ix2 r q) := by
  unfold X1 iblk
  rw [View.read_apply]
  refine congrArg (A1 m c) (eq_ix2 _ _ _ ?_ ?_)
  · show win0_1.index t 0 * 2048 + 1 * r.val = r.val; rw [(index1 t).1]; omega
  · show win0_1.index t 1 * 2048 + 1 * q.val = q.val; rw [(index1 t).2]; omega

/-- Each block is written at its place. -/
theorem flushed_eq (t : Fin cfg0.N) :
    (dats m 0 c).flushed 2 t = ((cfg0.win 2).blk t).view.read (Elt Ideal) (mulNT (A0 m c) (A1 m c)) := by
  rw [Value.flushed2]
  funext i
  rw [View.read_apply]
  refine Eq.trans ?_ (cast_eq _ _).symm
  show out0_2 (F := Ideal) (X0 m c t) (X1 m c t) i = _
  obtain ⟨p, q, rfl⟩ : ∃ (p : Fin 1024) (q : Fin 2048), i = ix2 p q := ⟨i 0, i 1, eq_ix2 i _ _ rfl rfl⟩
  refine (out_eq _ _ p q).trans (Finset.sum_congr rfl fun r _ => ?_)
  rw [blk0, blk1]
  refine congrArg₂ (· * ·) (congrArg (A0 m c) (eq_ix2 _ _ _ ?_ rfl).symm) (congrArg (A1 m c) (eq_ix2 _ _ _ ?_ rfl).symm)
  · show win0_2.index t 0 * 1024 + 1 * p.val = 1024 * t.val + p.val; rw [(index2 t).1]; omega
  · show win0_2.index t 1 * 2048 + 1 * q.val = q.val; rw [(index2 t).2]; omega

/-- The gradient after the run. -/
theorem final : (dats m 0 c).arrAt 2 cfg0.N = mulNT (A0 m c) (A1 m c) :=
  (dats m 0 c).arrAt_eq_of_cover 2 _ (fun t _ => flushed_eq m c t) fun i => by
    have h0 : (i 0).val < 8192 := (i 0).isLt
    have h1 : (i 1).val < 2048 := (i 1).isLt
    have ht : (i 0).val / 1024 < 8 := by omega
    refine ⟨⟨_, ht⟩, flush0_2 _, ?_⟩
    show i ∈ ((View.whole main_v2).slice (win0_2.rect ⟨_, ht⟩)).set
    rw [View.set_slice_whole, Rect.mem_set_unit]
    obtain ⟨e0, e1⟩ := index2 ⟨_, ht⟩
    intro a
    match a with
    | ⟨0, _⟩ => show win0_2.index _ 0 * 1024 ≤ (i 0).val ∧ (i 0).val < win0_2.index _ 0 * 1024 + 1024; rw [e0]; dsimp only; omega
    | ⟨1, _⟩ => show win0_2.index _ 1 * 2048 ≤ (i 1).val ∧ (i 1).val < win0_2.index _ 1 * 2048 + 2048; rw [e1]; omega

end Cert.MixOutDxArray

end
-- ==== Proof.Mix.MixOutDw.lean ====
/- The gradient of the mixers' output matrix, and of the dilated layers' input matrix, which has the same text: a block of
   1024 columns gathers the products of four blocks of 2048 rows in a scratch buffer, and the last of the four writes it
   out. -/
module

public import proofs.«01_k».proof.Proof.Math.Blocks
public import proofs.«01_k».proof.Proof.Math.Side
public import proofs.«01_k».proof.Proof.Gen.MixOutDwIdeal.Value

@[expose] public section

noncomputable section

namespace Cert.MixOutDwArray

open Idealize.ShloMosaic Idealize.ShloMosaic.TcCoe Idealize.ShloMosaic.Tactic Idealize.SL.Sem
open Cert.MixOutDwIdeal Cert.MixOutDwIdeal.Gen Cert.Attn
open Idealize.ShloMosaic.Pipeline (Dat)

variable (m : (ℓ : Loc nD τ sig) → Buf (Elt Ideal) ℓ) (c : Dev nD)

/-- The arguments: the inputs and the cotangent. -/
abbrev A0 : S8192x2048.Idx → EReal := m ((c : Thread nD τ).loc main_arg0)
abbrev A1 : S8192x2048.Idx → EReal := m ((c : Thread nD τ).loc main_arg1)

/-- Point `t`'s blocks of them. -/
abbrev X0 (t : Fin cfg0.N) : S2048x2048.Idx → EReal := iblk m c 0 t
abbrev X1 (t : Fin cfg0.N) : S2048x1024.Idx → EReal := iblk m c 1 t

/-- The first product of a run of four. -/
theorem acc_first (t : Fin cfg0.N) (h : t.val % 4 = 0) :
    (outsAt0 m c t.val t.isLt).2 = k0_pay1 (F := Ideal) (X0 m c t) (X1 m c t) := by
  rw [outsAt0_A m c t h (by omega) (by omega)]
  dsimp only
  unfold sout0_A_0; rw [View.read_writes_eq_canon _ _ _ (scover0_A_0 c _ _ _ _ _ _ _ _ _ _ _ _ _ _)]
  unfold kernelRun0_A; dsimp only; sl_unfold_words
  simp only [View.readAt_eq_ld, (hs0_0 t).read_unread, (hs0_1 t).read_unread]
  rw [View.canon_unit_zero hz]
  simp only [View.ld_unit_zero (S := S2048x2048) hz, View.ld_unit_zero (S := S2048x1024) hz]

/-- A later product is added to what the scratch holds. -/
theorem acc_later (t : Fin cfg0.N) (h : ¬ t.val % 4 = 0) :
    (outsAt0 m c t.val t.isLt).2 = k0_pay2 (F := Ideal) (X0 m c t) (X1 m c t)
      (outsAt0 m c (t.val - 1) (Nat.lt_of_le_of_lt (Nat.sub_le _ _) t.isLt)).2 := by
  by_cases h3 : t.val % 4 = 3
  · rw [outsAt0_C m c t h (by omega) h3]
    dsimp only
    unfold sout0_C_0; rw [View.read_writes_eq_canon _ _ _ (scover0_C_0 c _ _ _ _ _ _ _ _ _ _ _ _ _ _ _)]
    unfold kernelRun0_C; dsimp only; sl_unfold_words
    simp only [View.readAt_eq_ld, (hs0_0 t).read_unread, (hs0_1 t).read_unread, (Memref.isWhole_whole _).read_unread]
    rw [View.canon_unit_zero hz]
    simp only [View.ld_unit_zero (S := S2048x2048) hz, View.ld_unit_zero (S := S2048x1024) hz]
  · rw [outsAt0_B m c t h (by omega) h3]
    dsimp only
    unfold sout0_B_0; rw [View.read_writes_eq_canon _ _ _ (scover0_B_0 c _ _ _ _ _ _ _ _ _ _ _ _ _ _ _)]
    unfold kernelRun0_B; dsimp only; sl_unfold_words
    simp only [View.readAt_eq_ld, (hs0_0 t).read_unread, (hs0_1 t).read_unread, (Memref.isWhole_whole _).read_unread]
    rw [View.canon_unit_zero hz]
    simp only [View.ld_unit_zero (S := S2048x2048) hz, View.ld_unit_zero (S := S2048x1024) hz]

/-- The last of a run of four writes out what the scratch then holds. -/
theorem out_last (t : Fin cfg0.N) (h : t.val % 4 = 3) :
    (outsAt0 m c t.val t.isLt).1 = k0_pay3 (outsAt0 m c t.val t.isLt).2 := by
  rw [acc_later m c t (by omega), outsAt0_C m c t (by omega) (by omega) h]
  dsimp only
  unfold out0_C_2; rw [View.read_writes_eq_canon _ _ _ (cover0_C_2 c _ _ _ _ _ _ _ _ _ _ _ _ _ _ _)]
  unfold kernelRun0_C; dsimp only; sl_unfold_words
  simp only [View.readAt_eq_ld, (hs0_0 t).read_unread, (hs0_1 t).read_unread, (Memref.isWhole_whole _).read_unread]
  rw [View.canon_unit_zero hz, View.readCov_unit_zero (S := S2048x1024) _ hz]
  simp only [View.ld_unit_zero (S := S2048x2048) hz, View.ld_unit_zero (S := S2048x1024) hz]

/-- The payloads at an index. -/
theorem pay1_apply (a : S2048x2048.Idx → EReal) (b : S2048x1024.Idx → EReal) (p : Fin 2048) (q : Fin 1024) :
    (k0_pay1 (F := Ideal) a b (ix2 p q) : EReal) = ∑ r : Fin 2048, a (ix2 r p) * b (ix2 r q) := by
  unfold k0_pay1
  pointwise
theorem pay2_apply (a : S2048x2048.Idx → EReal) (b s : S2048x1024.Idx → EReal) (p : Fin 2048) (q : Fin 1024) :
    (k0_pay2 (F := Ideal) a b s (ix2 p q) : EReal) = s (ix2 p q) + ∑ r : Fin 2048, a (ix2 r p) * b (ix2 r q) := by
  unfold k0_pay2
  pointwise
theorem pay3_apply (s : S2048x1024.Idx → EReal) (p : Fin 2048) (q : Fin 1024) :
    (k0_pay3 (F := Ideal) s (ix2 p q) : EReal) = s (ix2 p q) := by
  rfl

theorem index0 : ∀ t : Fin cfg0.N, win0_0.index t 0 = t.val % 4 ∧ win0_0.index t 1 = 0 := by decide +kernel
theorem index1 : ∀ t : Fin cfg0.N, win0_1.index t 0 = t.val % 4 ∧ win0_1.index t 1 = t.val / 4 := by decide +kernel
theorem index2 : ∀ t : Fin cfg0.N, win0_2.index t 0 = 0 ∧ win0_2.index t 1 = t.val / 4 := by decide +kernel

theorem blk0 (t : Fin cfg0.N) (r p : Fin 2048) : X0 m c t (ix2 r p) = A0 m c (ix2 ⟨2048 * (t.val % 4) + r.val, by omega⟩ p) := by
  unfold X0 iblk
  rw [View.read_apply]
  refine congrArg (A0 m c) (eq_ix2 _ _ _ ?_ ?_)
  · show win0_0.index t 0 * 2048 + 1 * r.val = 2048 * (t.val % 4) + r.val; rw [(index0 t).1]; omega
  · show win0_0.index t 1 * 2048 + 1 * p.val = p.val; rw [(index0 t).2]; omega
theorem blk1 (t : Fin cfg0.N) (r : Fin 2048) (q : Fin 1024) : X1 m c t (ix2 r q) = A1 m c (ix2
    ⟨2048 * (t.val % 4) + r.val, by omega⟩ ⟨1024 * (t.val / 4) + q.val, by have : t.val < 8 := t.isLt; omega⟩) := by
  unfold X1 iblk
  rw [View.read_apply]
  refine congrArg (A1 m c) (eq_ix2 _ _ _ ?_ ?_)
  · show win0_1.index t 0 * 2048 + 1 * r.val = 2048 * (t.val % 4) + r.val; rw [(index1 t).1]; omega
  · show win0_1.index t 1 * 1024 + 1 * q.val = 1024 * (t.val / 4) + q.val; rw [(index1 t).2]; omega

/-- The last of a run of four leaves its block of the gradient. -/
theorem out_apply (t : Fin cfg0.N) (h : t.val % 4 = 3) (p : Fin 2048) (q : Fin 1024) :
    (outsAt0 m c t.val t.isLt).1 (ix2 p q)
      = ∑ r : Fin 8192, A0 m c (ix2 r p) * A1 m c (ix2 r ⟨1024 * (t.val / 4) + q.val, by have : t.val < 8 := t.isLt; omega⟩) := by
  rw [out_last m c t h, pay3_apply]
  refine run_rows (N := cfg0.N) (G := 4) (b := 2048) rfl (by decide)
    (fun t h => (outsAt0 m c t h).2 (ix2 p q))
    (fun t h => ∑ r : Fin 2048, X0 m c ⟨t, h⟩ (ix2 r p) * X1 m c ⟨t, h⟩ (ix2 r q))
    (fun t h ht => (congrFun (acc_first m c ⟨t, h⟩ ht) _).trans (pay1_apply _ _ _ _))
    (fun t h ht => (congrFun (acc_later m c ⟨t, h⟩ ht) _).trans (pay2_apply _ _ _ _ _)) _ t.val t.isLt h
    (fun s hs => Finset.sum_congr rfl fun r _ => ?_)
  have hs : s.val < 4 := s.isLt
  rw [blk0, blk1]
  refine congrArg₂ (· * ·) (congrArg (A0 m c) (eq_ix2 _ _ _ ?_ rfl)) (congrArg (A1 m c) (eq_ix2 _ _ _ ?_ ?_))
  · show 2048 * ((4 * (t.val / 4) + s.val) % 4) + r.val = 2048 * s.val + r.val; omega
  · show 2048 * ((4 * (t.val / 4) + s.val) % 4) + r.val = 2048 * s.val + r.val; omega
  · show 1024 * ((4 * (t.val / 4) + s.val) / 4) + q.val = 1024 * (t.val / 4) + q.val; omega

/-- Each block is written at its place. -/
theorem flushed_eq (t : Fin cfg0.N) (hf : (cfg0.win 2).flush t = true) :
    (dats m 0 c).flushed 2 t = ((cfg0.win 2).blk t).view.read (Elt Ideal) (mulTN (A0 m c) (A1 m c)) := by
  rw [Value.flushed2]
  funext i
  rw [View.read_apply]
  refine Eq.trans ?_ (cast_eq _ _).symm
  show (outsAt0 m c t.val t.isLt).1 i = _
  obtain ⟨p, q, rfl⟩ : ∃ (p : Fin 2048) (q : Fin 1024), i = ix2 p q := ⟨i 0, i 1, eq_ix2 i _ _ rfl rfl⟩
  refine (out_apply m c t ((flush0_2 t).mp hf) p q).trans (Finset.sum_congr rfl fun r _ => ?_)
  refine congrArg₂ (· * ·) (congrArg (A0 m c) (eq_ix2 _ _ _ rfl ?_).symm) (congrArg (A1 m c) (eq_ix2 _ _ _ rfl ?_).symm)
  · show win0_2.index t 0 * 2048 + 1 * p.val = p.val; rw [(index2 t).1]; omega
  · show win0_2.index t 1 * 1024 + 1 * q.val = 1024 * (t.val / 4) + q.val; rw [(index2 t).2]; omega

/-- The gradient after the run. -/
theorem final : (dats m 0 c).arrAt 2 cfg0.N = mulTN (A0 m c) (A1 m c) :=
  (dats m 0 c).arrAt_eq_of_cover 2 _ (flushed_eq m c) fun i => by
    have h0 : (i 0).val < 2048 := (i 0).isLt
    have h1 : (i 1).val < 2048 := (i 1).isLt
    have ht : 4 * ((i 1).val / 1024) + 3 < 8 := by omega
    refine ⟨⟨_, ht⟩, (flush0_2 _).mpr (by show (4 * ((i 1).val / 1024) + 3) % 4 = 3; omega), ?_⟩
    show i ∈ ((View.whole main_v2).slice (win0_2.rect ⟨_, ht⟩)).set
    rw [View.set_slice_whole, Rect.mem_set_unit]
    obtain ⟨e0, e1⟩ := index2 ⟨_, ht⟩
    intro a
    match a with
    | ⟨0, _⟩ => show win0_2.index _ 0 * 2048 ≤ (i 0).val ∧ (i 0).val < win0_2.index _ 0 * 2048 + 2048; rw [e0]; omega
    | ⟨1, _⟩ => show win0_2.index _ 1 * 1024 ≤ (i 1).val ∧ (i 1).val < win0_2.index _ 1 * 1024 + 1024; rw [e1]; dsimp only; omega

end Cert.MixOutDwArray

end
-- ==== Proof.Mix.DilInDx.lean ====
/- The gradient of the dilated layers' input: a block of 1024 rows is the cotangent's block times the matrix
   transposed, computed in four blocks of 512 columns, which are four blocks of rows of the matrix, and written in bfloat16. -/
module

public import proofs.«01_k».proof.Proof.Math.Blocks
public import proofs.«01_k».proof.Proof.Gen.DilInDxIdeal.Value
public import Idealize.ShloMosaic.Lib.Pipeline.ValueKit

@[expose] public section

noncomputable section

namespace Cert.DilInDxArray

open Idealize.ShloMosaic Idealize.ShloMosaic.TcCoe Idealize.ShloMosaic.Tactic Idealize.SL.Sem
open Cert.DilInDxIdeal Cert.DilInDxIdeal.Gen Cert.Attn

variable (m : (ℓ : Loc nD τ sig) → Buf (Elt Ideal) ℓ) (c : Dev nD)

/-- The arguments: the cotangent and the matrix. -/
abbrev A0 : S8192x2048.Idx → EReal := m ((c : Thread nD τ).loc main_arg0)
abbrev A1 : S2048x2048.Idx → EReal := m ((c : Thread nD τ).loc main_arg1)

/-- A payload at an index. -/
theorem pay (a : S1024x2048.Idx → EReal) (b : S512x2048.Idx → EReal) (p : Fin 1024) (q : Fin 512) :
    (k0_pay2 (F := Ideal) a b (ix2 p q) : EReal) = ∑ r : Fin 2048, a (ix2 p r) * b (ix2 q r) := by
  unfold k0_pay2 k0_pay1
  pointwise

/-- What a point leaves is its blocks' product. -/
theorem out_eq (a : S1024x2048.Idx → EReal) (b : S2048x2048.Idx → EReal) (p : Fin 1024) (q : Fin 2048) :
    (out0_2 (F := Ideal) a b (ix2 p q) : EReal) = ∑ r : Fin 2048, a (ix2 p r) * b (ix2 q r) := by
  unfold out0_2
  canon_tiles x hx
  all_goals
    rw [eq_ix2 x p (x 1) hx0.symm rfl]
    refine (pay _ _ p (x 1)).trans (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix2 q r) (Fin.forall_fin_two.2 ⟨by first | exact hx1 | exact hx1.trans (Nat.zero_add _).symm, (Nat.zero_add _).symm⟩)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- Point `t`'s blocks of the arguments, which the host rounds to bfloat16: at the extended reals, not at all. -/
abbrev X0 (t : Fin cfg0.N) : S1024x2048.Idx → EReal := iblk m c 0 t
abbrev X1 (t : Fin cfg0.N) : S2048x2048.Idx → EReal := iblk m c 1 t
theorem blk0 (t : Fin cfg0.N) (p : Fin 1024) (r : Fin 2048) :
    X0 m c t (ix2 p r) = A0 m c (ix2 ⟨1024 * t.val + p.val, by have : t.val < 8 := t.isLt; omega⟩ r) := by
  unfold X0 iblk
  rw [View.read_apply]
  refine congrArg (A0 m c) (eq_ix2 _ _ _ ?_ ?_)
  · show win0_0.index t 0 * 1024 + 1 * p.val = 1024 * t.val + p.val; rw [(index0 t).1]; omega
  · show win0_0.index t 1 * 2048 + 1 * r.val = r.val; rw [(index0 t).2]; omega
theorem blk1 (t : Fin cfg0.N) (r q : Fin 2048) : X1 m c t (ix2 r q) = A1 m c (ix2 r q) := by
  unfold X1 iblk
  rw [View.read_apply]
  refine congrArg (A1 m c) (eq_ix2 _ _ _ ?_ ?_)
  · show win0_1.index t 0 * 2048 + 1 * r.val = r.val; rw [(index1 t).1]; omega
  · show win0_1.index t 1 * 2048 + 1 * q.val = q.val; rw [(index1 t).2]; omega

/-- Each block is written at its place. -/
theorem flushed_eq (t : Fin cfg0.N) :
    (dats m 0 c).flushed 2 t = ((cfg0.win 2).blk t).view.read (Elt Ideal) (mulNT (A0 m c) (A1 m c)) := by
  rw [Value.flushed2]
  funext i
  rw [View.read_apply]
  refine Eq.trans ?_ (cast_eq _ _).symm
  show out0_2 (F := Ideal) (X0 m c t) (X1 m c t) i = _
  obtain ⟨p, q, rfl⟩ : ∃ (p : Fin 1024) (q : Fin 2048), i = ix2 p q := ⟨i 0, i 1, eq_ix2 i _ _ rfl rfl⟩
  refine (out_eq _ _ p q).trans (Finset.sum_congr rfl fun r _ => ?_)
  rw [blk0, blk1]
  refine congrArg₂ (· * ·) (congrArg (A0 m c) (eq_ix2 _ _ _ ?_ rfl).symm) (congrArg (A1 m c) (eq_ix2 _ _ _ ?_ rfl).symm)
  · show win0_2.index t 0 * 1024 + 1 * p.val = 1024 * t.val + p.val; rw [(index2 t).1]; omega
  · show win0_2.index t 1 * 2048 + 1 * q.val = q.val; rw [(index2 t).2]; omega

/-- The gradient after the run. -/
theorem final : (dats m 0 c).arrAt 2 cfg0.N = mulNT (A0 m c) (A1 m c) :=
  (dats m 0 c).arrAt_eq_of_cover 2 _ (fun t _ => flushed_eq m c t) fun i => by
    have h0 : (i 0).val < 8192 := (i 0).isLt
    have h1 : (i 1).val < 2048 := (i 1).isLt
    have ht : (i 0).val / 1024 < 8 := by omega
    refine ⟨⟨_, ht⟩, flush0_2 _, ?_⟩
    show i ∈ ((View.whole main_v2).slice (win0_2.rect ⟨_, ht⟩)).set
    rw [View.set_slice_whole, Rect.mem_set_unit]
    obtain ⟨e0, e1⟩ := index2 ⟨_, ht⟩
    intro a
    match a with
    | ⟨0, _⟩ => show win0_2.index _ 0 * 1024 ≤ (i 0).val ∧ (i 0).val < win0_2.index _ 0 * 1024 + 1024; rw [e0]; dsimp only; omega
    | ⟨1, _⟩ => show win0_2.index _ 1 * 2048 ≤ (i 1).val ∧ (i 1).val < win0_2.index _ 1 * 2048 + 2048; rw [e1]; omega

end Cert.DilInDxArray

end
-- ==== Proof.Mix.RecIn.lean ====
/- The recurrent layers' input product: a block of 2048 rows and 896 columns is one product, computed in a block of 512
   columns and one of 384. The matrix comes in four blocks of columns. -/
module

public import proofs.«01_k».proof.Proof.Math.Blocks
public import proofs.«01_k».proof.Proof.Gen.RecInIdeal.Value
public import Idealize.ShloMosaic.Lib.Pipeline.ValueKit

@[expose] public section

noncomputable section

namespace Cert.RecInArray

open Idealize.ShloMosaic Idealize.ShloMosaic.TcCoe Idealize.ShloMosaic.Tactic Idealize.SL.Sem
open Cert.RecInIdeal Cert.RecInIdeal.Gen Cert.Attn

variable (m : (ℓ : Loc nD τ sig) → Buf (Elt Ideal) ℓ) (c : Dev nD)

/-- The arguments: the inputs and the matrix. -/
abbrev A0 : S8192x2048.Idx → EReal := m ((c : Thread nD τ).loc main_arg0)
abbrev A1 : S2048x3584.Idx → EReal := m ((c : Thread nD τ).loc main_arg1)

/-- Point `t`'s blocks of them. -/
abbrev X0 (t : Fin cfg0.N) : S2048x2048.Idx → EReal := iblk m c 0 t
abbrev X1 (t : Fin cfg0.N) : S1x2048x896.Idx → EReal := iblk m c 1 t

/-- The payloads at an index. -/
theorem pay_left (a : S2048x2048.Idx → EReal) (b : S1x2048x512.Idx → EReal) (p : Fin 2048) (q : Fin 512) :
    (k0_pay2 (F := Ideal) a b (ix2 p q) : EReal) = ∑ r : Fin 2048, a (ix2 p r) * b (ix3 0 r q) := by
  unfold k0_pay2 k0_pay1
  pointwise
theorem pay_right (a : S2048x2048.Idx → EReal) (b : S1x2048x384.Idx → EReal) (p : Fin 2048) (q : Fin 384) :
    (k0_pay3 (F := Ideal) a b (ix2 p q) : EReal) = ∑ r : Fin 2048, a (ix2 p r) * b (ix3 0 r q) := by
  unfold k0_pay3 k0_pay1
  pointwise

/-- What a point leaves is its blocks' product. -/
theorem out_eq (t : Fin cfg0.N) (p : Fin 2048) (q : Fin 896) :
    outsAt0 m c t (ix2 p q) = ∑ r : Fin 2048, X0 m c t (ix2 p r) * X1 m c t (ix3 0 r q) := by
  unfold outsAt0 out0_A_2
  rw [View.read_writes_eq_canon _ _ _ (cover0_A_2 c _ _ _ _ _ _ _ _ _)]
  have hc := cover0_A_2 (F := Ideal) c (grid0.coords t) (ms0_0 t) (hs0_0 t) (ms0_1 t) (hs0_1 t) (ms0_2 t) (hs0_2 t) (iblk m c 0 t) (iblk m c 1 t) (ix2 p q)
  revert hc
  unfold kernelRun0_A; dsimp only; sl_unfold_words
  simp only [View.readAt_eq_ld, (hs0_0 t).read_unread, (hs0_1 t).read_unread]
  intro hc
  canon_tiles x hx using hc
  all_goals
    rw [eq_ix2 x p (x 1) hx0.symm rfl]
    refine Eq.trans (by first | exact pay_left _ _ p (x 1) | exact pay_right _ _ p (x 1)) (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix3 0 r q) (fun a => by
        match a with
        | ⟨0, _⟩ => rfl
        | ⟨1, _⟩ => exact (Nat.zero_add _).symm
        | ⟨2, _⟩ => first | exact hx1 | exact hx1.trans (Nat.zero_add _).symm)

theorem index0 : ∀ t : Fin cfg0.N, win0_0.index t 0 = t.val / 4 ∧ win0_0.index t 1 = 0 := by decide +kernel
theorem index1 : ∀ t : Fin cfg0.N, win0_1.index t 0 = t.val % 4 ∧ win0_1.index t 1 = 0 ∧ win0_1.index t 2 = 0 := by decide +kernel
theorem index2 : ∀ t : Fin cfg0.N, win0_2.index t 0 = t.val / 4 ∧ win0_2.index t 1 = t.val % 4 := by decide +kernel

/-- The matrix, its columns in four blocks; the host's rounding to bfloat16 is none at the extended reals. -/
theorem V_1 (b : Fin 4) (p : Fin 2048) (q : Fin 896) : (V m c main_v3 : S4x2048x896.Idx → EReal) (ix3 b p q)
    = A1 m c (ix2 p ⟨896 * b.val + q.val, by omega⟩) := by
  show transpose S4x2048x896 [1, 0, 2] (shapeCast S2048x4x896 (A1 m c) shapeCasts_S2048x3584_S2048x4x896) transposes_S2048x4x896_S4x2048x896_1_0_2 (ix3 b p q) = _
  refine (transpose_apply (t := S4x2048x896) [1, 0, 2] _ _ _ (ix3 p b q) (fun a => match a with | ⟨0, _⟩ => rfl | ⟨1, _⟩ => rfl | ⟨2, _⟩ => rfl)).trans ?_
  refine shapeCast_apply _ _ _ _ ?_
  rw [Shape.rowMajor_val_two, Shape.rowMajor_val_three]
  show p.val * 3584 + (896 * b.val + q.val) = (p.val * 4 + b.val) * 896 + q.val
  omega

theorem blk0 (t : Fin cfg0.N) (p r : Fin 2048) :
    X0 m c t (ix2 p r) = A0 m c (ix2 ⟨2048 * (t.val / 4) + p.val, by have : t.val < 16 := t.isLt; omega⟩ r) := by
  unfold X0 iblk
  rw [View.read_apply]
  refine congrArg (A0 m c) (eq_ix2 _ _ _ ?_ ?_)
  · show win0_0.index t 0 * 2048 + 1 * p.val = 2048 * (t.val / 4) + p.val; rw [(index0 t).1]; omega
  · show win0_0.index t 1 * 2048 + 1 * r.val = r.val; rw [(index0 t).2]; omega
theorem blk1 (t : Fin cfg0.N) (r : Fin 2048) (q : Fin 896) :
    X1 m c t (ix3 0 r q) = A1 m c (ix2 r ⟨896 * (t.val % 4) + q.val, by omega⟩) := by
  unfold X1 iblk
  rw [View.read_apply]
  refine Eq.trans ?_ (V_1 m c ⟨t.val % 4, by omega⟩ r q)
  refine congrArg (V m c main_v3) (eq_ix3 _ _ _ _ ?_ ?_ ?_)
  · show win0_1.index t 0 * 1 + 1 * 0 = t.val % 4; rw [(index1 t).1]; omega
  · show win0_1.index t 1 * 2048 + 1 * r.val = r.val; rw [(index1 t).2.1]; omega
  · show win0_1.index t 2 * 896 + 1 * q.val = q.val; rw [(index1 t).2.2]; omega

/-- Each block is written at its place. -/
theorem flushed_eq (t : Fin cfg0.N) :
    (dats m 0 c).flushed 2 t = ((cfg0.win 2).blk t).view.read (Elt Ideal) (mulNN (A0 m c) (A1 m c)) := by
  rw [Value.flushed2]
  funext i
  rw [View.read_apply]
  refine Eq.trans ?_ (cast_eq _ _).symm
  show outsAt0 m c t i = _
  obtain ⟨p, q, rfl⟩ : ∃ (p : Fin 2048) (q : Fin 896), i = ix2 p q := ⟨i 0, i 1, eq_ix2 i _ _ rfl rfl⟩
  refine (out_eq m c t p q).trans (Finset.sum_congr rfl fun r _ => ?_)
  rw [blk0, blk1]
  refine congrArg₂ (· * ·) (congrArg (A0 m c) (eq_ix2 _ _ _ ?_ rfl).symm) (congrArg (A1 m c) (eq_ix2 _ _ _ rfl ?_).symm)
  · show win0_2.index t 0 * 2048 + 1 * p.val = 2048 * (t.val / 4) + p.val; rw [(index2 t).1]; omega
  · show win0_2.index t 1 * 896 + 1 * q.val = 896 * (t.val % 4) + q.val; rw [(index2 t).2]; omega

/-- The product after the run. -/
theorem final : (dats m 0 c).arrAt 2 cfg0.N = mulNN (A0 m c) (A1 m c) :=
  (dats m 0 c).arrAt_eq_of_cover 2 _ (fun t _ => flushed_eq m c t) fun i => by
    have h0 : (i 0).val < 8192 := (i 0).isLt
    have h1 : (i 1).val < 3584 := (i 1).isLt
    have ht : 4 * ((i 0).val / 2048) + (i 1).val / 896 < 16 := by omega
    refine ⟨⟨_, ht⟩, flush0_2 _, ?_⟩
    show i ∈ ((View.whole main_v4).slice (win0_2.rect ⟨_, ht⟩)).set
    rw [View.set_slice_whole, Rect.mem_set_unit]
    obtain ⟨e0, e1⟩ := index2 ⟨_, ht⟩
    intro a
    match a with
    | ⟨0, _⟩ => show win0_2.index _ 0 * 2048 ≤ (i 0).val ∧ (i 0).val < win0_2.index _ 0 * 2048 + 2048; rw [e0]; dsimp only; omega
    | ⟨1, _⟩ => show win0_2.index _ 1 * 896 ≤ (i 1).val ∧ (i 1).val < win0_2.index _ 1 * 896 + 896; rw [e1]; dsimp only; omega

end Cert.RecInArray

end
-- ==== Proof.Mix.RecInDx.lean ====
/- The gradient of the recurrent layers' input: a block of 1024 rows gathers four products in a scratch buffer, over the four
   blocks of columns of the matrix, each computed in four blocks of 512 columns; the last of the four writes it out. -/
module

public import proofs.«01_k».proof.Proof.Math.Blocks
public import proofs.«01_k».proof.Proof.Math.Side
public import proofs.«01_k».proof.Proof.Gen.RecInDxIdeal.Value
public import Idealize.ShloMosaic.Lib.Pipeline.ValueKit

@[expose] public section

noncomputable section

namespace Cert.RecInDxArray

open Idealize.ShloMosaic Idealize.ShloMosaic.TcCoe Idealize.ShloMosaic.Tactic Idealize.SL.Sem
open Cert.RecInDxIdeal Cert.RecInDxIdeal.Gen Cert.Attn

variable (m : (ℓ : Loc nD τ sig) → Buf (Elt Ideal) ℓ) (c : Dev nD)

/-- The arguments: the cotangent and the matrix. -/
abbrev A0 : S8192x3584.Idx → EReal := m ((c : Thread nD τ).loc main_arg0)
abbrev A1 : S2048x3584.Idx → EReal := m ((c : Thread nD τ).loc main_arg1)

/-- Point `t`'s blocks of them. -/
abbrev X0 (t : Fin cfg0.N) : S1024x896.Idx → EReal := iblk m c 0 t
abbrev X1 (t : Fin cfg0.N) : S1x2048x896.Idx → EReal := iblk m c 1 t

/-- The payloads at an index. -/
theorem pay_first (a : S1024x896.Idx → EReal) (b : S1x512x896.Idx → EReal) (p : Fin 1024) (q : Fin 512) :
    (k0_pay2 (F := Ideal) a b (ix2 p q) : EReal) = ∑ r : Fin 896, a (ix2 p r) * b (ix3 0 q r) := by
  unfold k0_pay2 k0_pay1
  pointwise
theorem pay_later (a : S1024x896.Idx → EReal) (b : S1x512x896.Idx → EReal) (s : S1024x512.Idx → EReal) (p : Fin 1024) (q : Fin 512) :
    (k0_pay10 (F := Ideal) a b s (ix2 p q) : EReal) = s (ix2 p q) + ∑ r : Fin 896, a (ix2 p r) * b (ix3 0 q r) := by
  unfold k0_pay10 k0_pay9
  pointwise

/-- The first product of a run of four. -/
theorem acc_first (t : Fin cfg0.N) (h : t.val % 4 = 0) (p : Fin 1024) (q : Fin 2048) :
    (outsAt0 m c t.val t.isLt).2 (ix2 p q) = ∑ r : Fin 896, X0 m c t (ix2 p r) * X1 m c t (ix3 0 q r) := by
  rw [outsAt0_A m c t h (by omega) (by omega)]
  dsimp only
  unfold sout0_A_0; rw [View.read_writes_eq_canon _ _ _ (scover0_A_0 c _ _ _ _ _ _ _ _ _ _ _ _ _ _)]
  unfold kernelRun0_A; dsimp only; sl_unfold_words
  simp only [View.readAt_eq_ld, (hs0_0 t).read_unread, (hs0_1 t).read_unread]
  canon_tiles x hx
  all_goals
    rw [eq_ix2 x p (x 1) hx0.symm rfl]
    refine (pay_first _ _ p (x 1)).trans (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix3 0 q r) (fun a => by
        match a with
        | ⟨0, _⟩ => rfl
        | ⟨1, _⟩ => first | exact hx1 | exact hx1.trans (Nat.zero_add _).symm
        | ⟨2, _⟩ => exact (Nat.zero_add _).symm)

/-- A later product is added to what the scratch holds. -/
theorem acc_later (t : Fin cfg0.N) (h : ¬ t.val % 4 = 0) (p : Fin 1024) (q : Fin 2048) :
    (outsAt0 m c t.val t.isLt).2 (ix2 p q) = ((outsAt0 m c (t.val - 1) (Nat.lt_of_le_of_lt (Nat.sub_le _ _) t.isLt)).2 (ix2 p q) : EReal)
      + ∑ r : Fin 896, X0 m c t (ix2 p r) * X1 m c t (ix3 0 q r) := by
  by_cases h3 : t.val % 4 = 3
  · rw [outsAt0_C m c t h (by omega) h3]
    dsimp only
    unfold sout0_C_0; rw [View.read_writes_eq_canon _ _ _ (scover0_C_0 c _ _ _ _ _ _ _ _ _ _ _ _ _ _ _)]
    unfold kernelRun0_C; dsimp only; sl_unfold_words
    simp only [View.readAt_eq_ld, (hs0_0 t).read_unread, (hs0_1 t).read_unread, (Memref.isWhole_whole _).read_unread]
    canon_tiles x hx
    all_goals
      rw [eq_ix2 x p (x 1) hx0.symm rfl]
      refine (pay_later _ _ _ p (x 1)).trans (congrArg₂ (· + ·) ?_ (Finset.sum_congr rfl fun r _ => congrArg₂ (· * ·) ?_ ?_))
      · exact View.ld_unit_apply_of _ _ _ _ _ (ix2 p q) (Fin.forall_fin_two.2 ⟨(Nat.zero_add _).symm, by first | exact hx1 | exact hx1.trans (Nat.zero_add _).symm⟩)
      · exact View.ld_unit_apply_of _ _ _ _ _ (ix2 p r) (Fin.forall_fin_two.2 ⟨(Nat.zero_add _).symm, (Nat.zero_add _).symm⟩)
      · exact View.ld_unit_apply_of _ _ _ _ _ (ix3 0 q r) (fun a => by
          match a with
          | ⟨0, _⟩ => rfl
          | ⟨1, _⟩ => first | exact hx1 | exact hx1.trans (Nat.zero_add _).symm
          | ⟨2, _⟩ => exact (Nat.zero_add _).symm)
  · rw [outsAt0_B m c t h (by omega) h3]
    dsimp only
    unfold sout0_B_0; rw [View.read_writes_eq_canon _ _ _ (scover0_B_0 c _ _ _ _ _ _ _ _ _ _ _ _ _ _ _)]
    unfold kernelRun0_B; dsimp only; sl_unfold_words
    simp only [View.readAt_eq_ld, (hs0_0 t).read_unread, (hs0_1 t).read_unread, (Memref.isWhole_whole _).read_unread]
    canon_tiles x hx
    all_goals
      rw [eq_ix2 x p (x 1) hx0.symm rfl]
      refine (pay_later _ _ _ p (x 1)).trans (congrArg₂ (· + ·) ?_ (Finset.sum_congr rfl fun r _ => congrArg₂ (· * ·) ?_ ?_))
      · exact View.ld_unit_apply_of _ _ _ _ _ (ix2 p q) (Fin.forall_fin_two.2 ⟨(Nat.zero_add _).symm, by first | exact hx1 | exact hx1.trans (Nat.zero_add _).symm⟩)
      · exact View.ld_unit_apply_of _ _ _ _ _ (ix2 p r) (Fin.forall_fin_two.2 ⟨(Nat.zero_add _).symm, (Nat.zero_add _).symm⟩)
      · exact View.ld_unit_apply_of _ _ _ _ _ (ix3 0 q r) (fun a => by
          match a with
          | ⟨0, _⟩ => rfl
          | ⟨1, _⟩ => first | exact hx1 | exact hx1.trans (Nat.zero_add _).symm
          | ⟨2, _⟩ => exact (Nat.zero_add _).symm)

/-- The last of a run of four writes out what the scratch then holds. -/
theorem out_last (t : Fin cfg0.N) (h : t.val % 4 = 3) :
    (outsAt0 m c t.val t.isLt).1 = k0_pay8 (outsAt0 m c t.val t.isLt).2 := by
  rw [outsAt0_C m c t (by omega) (by omega) h]
  dsimp only
  unfold out0_C_2 sout0_C_0
  rw [View.read_writes_eq_canon _ _ _ (cover0_C_2 c _ _ _ _ _ _ _ _ _ _ _ _ _ _ _), View.read_writes_eq_canon _ _ _ (scover0_C_0 c _ _ _ _ _ _ _ _ _ _ _ _ _ _ _)]
  have hc := scover0_C_0 (F := Ideal) c (grid0.coords t) (ms0_0 t) (hs0_0 t) (ms0_1 t) (hs0_1 t) (ms0_2 t) (hs0_2 t) scM0_0 (Memref.isWhole_whole _)
    (fun h' => (show ¬ t.val % 4 = 0 by omega) ((hcond0_0 t).mp h')) ((hcond0_1 t).mpr (by omega)) ((hcond0_2 t).mpr h)
    (iblk m c 0 t) (iblk m c 1 t) (outsAt0 m c (t.val - 1) (Nat.lt_of_le_of_lt (Nat.sub_le _ _) t.isLt)).2
  revert hc
  unfold kernelRun0_C; dsimp only; sl_unfold_words
  intro hc
  rw [View.canon_unit_zero hz, View.readCov_eq_canon_ld _ _ _ hc]
  rw [View.ld_unit_zero (S := S1024x2048) hz]

theorem pay8_apply (s : S1024x2048.Idx → EReal) (i : S1024x2048.Idx) : (k0_pay8 (F := Ideal) s i : EReal) = s i := by
  rfl

theorem index0 : ∀ t : Fin cfg0.N, win0_0.index t 0 = t.val / 4 ∧ win0_0.index t 1 = t.val % 4 := by decide +kernel
theorem index1 : ∀ t : Fin cfg0.N, win0_1.index t 0 = t.val % 4 ∧ win0_1.index t 1 = 0 ∧ win0_1.index t 2 = 0 := by decide +kernel
theorem index2 : ∀ t : Fin cfg0.N, win0_2.index t 0 = t.val / 4 ∧ win0_2.index t 1 = 0 := by decide +kernel

/-- The matrix, its columns in four blocks; the host's rounding to bfloat16 is none at the extended reals. -/
theorem V_1 (b : Fin 4) (p : Fin 2048) (q : Fin 896) : (V m c main_v3 : S4x2048x896.Idx → EReal) (ix3 b p q)
    = A1 m c (ix2 p ⟨896 * b.val + q.val, by omega⟩) := by
  show transpose S4x2048x896 [1, 0, 2] (shapeCast S2048x4x896 (A1 m c) shapeCasts_S2048x3584_S2048x4x896) transposes_S2048x4x896_S4x2048x896_1_0_2 (ix3 b p q) = _
  refine (transpose_apply (t := S4x2048x896) [1, 0, 2] _ _ _ (ix3 p b q) (fun a => match a with | ⟨0, _⟩ => rfl | ⟨1, _⟩ => rfl | ⟨2, _⟩ => rfl)).trans ?_
  refine shapeCast_apply _ _ _ _ ?_
  rw [Shape.rowMajor_val_two, Shape.rowMajor_val_three]
  show p.val * 3584 + (896 * b.val + q.val) = (p.val * 4 + b.val) * 896 + q.val
  omega

theorem blk0 (t : Fin cfg0.N) (p : Fin 1024) (r : Fin 896) : X0 m c t (ix2 p r) = A0 m c (ix2
    ⟨1024 * (t.val / 4) + p.val, by have : t.val < 32 := t.isLt; omega⟩ ⟨896 * (t.val % 4) + r.val, by omega⟩) := by
  unfold X0 iblk
  rw [View.read_apply]
  refine congrArg (A0 m c) (eq_ix2 _ _ _ ?_ ?_)
  · show win0_0.index t 0 * 1024 + 1 * p.val = 1024 * (t.val / 4) + p.val; rw [(index0 t).1]; omega
  · show win0_0.index t 1 * 896 + 1 * r.val = 896 * (t.val % 4) + r.val; rw [(index0 t).2]; omega
theorem blk1 (t : Fin cfg0.N) (q : Fin 2048) (r : Fin 896) :
    X1 m c t (ix3 0 q r) = A1 m c (ix2 q ⟨896 * (t.val % 4) + r.val, by omega⟩) := by
  unfold X1 iblk
  rw [View.read_apply]
  refine Eq.trans ?_ (V_1 m c ⟨t.val % 4, by omega⟩ q r)
  refine congrArg (V m c main_v3) (eq_ix3 _ _ _ _ ?_ ?_ ?_)
  · show win0_1.index t 0 * 1 + 1 * 0 = t.val % 4; rw [(index1 t).1]; omega
  · show win0_1.index t 1 * 2048 + 1 * q.val = q.val; rw [(index1 t).2.1]; omega
  · show win0_1.index t 2 * 896 + 1 * r.val = r.val; rw [(index1 t).2.2]; omega

/-- The last of a run of four leaves its block of the gradient. -/
theorem out_apply (t : Fin cfg0.N) (h : t.val % 4 = 3) (p : Fin 1024) (q : Fin 2048) :
    (outsAt0 m c t.val t.isLt).1 (ix2 p q)
      = ∑ r : Fin 3584, A0 m c (ix2 ⟨1024 * (t.val / 4) + p.val, by have : t.val < 32 := t.isLt; omega⟩ r) * A1 m c (ix2 q r) := by
  rw [out_last m c t h, pay8_apply]
  refine run_rows (N := cfg0.N) (G := 4) (b := 896) rfl (by decide)
    (fun t h => (outsAt0 m c t h).2 (ix2 p q))
    (fun t h => ∑ r : Fin 896, X0 m c ⟨t, h⟩ (ix2 p r) * X1 m c ⟨t, h⟩ (ix3 0 q r))
    (fun t h ht => acc_first m c ⟨t, h⟩ ht p q) (fun t h ht => acc_later m c ⟨t, h⟩ ht p q) _ t.val t.isLt h
    (fun s hs => Finset.sum_congr rfl fun r _ => ?_)
  have hs : s.val < 4 := s.isLt
  rw [blk0, blk1]
  refine congrArg₂ (· * ·) (congrArg (A0 m c) (eq_ix2 _ _ _ ?_ ?_)) (congrArg (A1 m c) (eq_ix2 _ _ _ rfl ?_))
  · show 1024 * ((4 * (t.val / 4) + s.val) / 4) + p.val = 1024 * (t.val / 4) + p.val; omega
  · show 896 * ((4 * (t.val / 4) + s.val) % 4) + r.val = 896 * s.val + r.val; omega
  · show 896 * ((4 * (t.val / 4) + s.val) % 4) + r.val = 896 * s.val + r.val; omega

/-- Each block is written at its place. -/
theorem flushed_eq (t : Fin cfg0.N) (hf : (cfg0.win 2).flush t = true) :
    (dats m 0 c).flushed 2 t = ((cfg0.win 2).blk t).view.read (Elt Ideal) (mulNT (A0 m c) (A1 m c)) := by
  rw [Value.flushed2]
  funext i
  rw [View.read_apply]
  refine Eq.trans ?_ (cast_eq _ _).symm
  show (outsAt0 m c t.val t.isLt).1 i = _
  obtain ⟨p, q, rfl⟩ : ∃ (p : Fin 1024) (q : Fin 2048), i = ix2 p q := ⟨i 0, i 1, eq_ix2 i _ _ rfl rfl⟩
  refine (out_apply m c t ((flush0_2 t).mp hf) p q).trans (Finset.sum_congr rfl fun r _ => ?_)
  refine congrArg₂ (· * ·) (congrArg (A0 m c) (eq_ix2 _ _ _ ?_ rfl).symm) (congrArg (A1 m c) (eq_ix2 _ _ _ ?_ rfl).symm)
  · show win0_2.index t 0 * 1024 + 1 * p.val = 1024 * (t.val / 4) + p.val; rw [(index2 t).1]; omega
  · show win0_2.index t 1 * 2048 + 1 * q.val = q.val; rw [(index2 t).2]; omega

/-- The gradient after the run. -/
theorem final : (dats m 0 c).arrAt 2 cfg0.N = mulNT (A0 m c) (A1 m c) :=
  (dats m 0 c).arrAt_eq_of_cover 2 _ (flushed_eq m c) fun i => by
    have h0 : (i 0).val < 8192 := (i 0).isLt
    have h1 : (i 1).val < 2048 := (i 1).isLt
    have ht : 4 * ((i 0).val / 1024) + 3 < 32 := by omega
    refine ⟨⟨_, ht⟩, (flush0_2 _).mpr (by show (4 * ((i 0).val / 1024) + 3) % 4 = 3; omega), ?_⟩
    show i ∈ ((View.whole main_v4).slice (win0_2.rect ⟨_, ht⟩)).set
    rw [View.set_slice_whole, Rect.mem_set_unit]
    obtain ⟨e0, e1⟩ := index2 ⟨_, ht⟩
    intro a
    match a with
    | ⟨0, _⟩ => show win0_2.index _ 0 * 1024 ≤ (i 0).val ∧ (i 0).val < win0_2.index _ 0 * 1024 + 1024; rw [e0]; dsimp only; omega
    | ⟨1, _⟩ => show win0_2.index _ 1 * 2048 ≤ (i 1).val ∧ (i 1).val < win0_2.index _ 1 * 2048 + 2048; rw [e1]; omega

end Cert.RecInDxArray

end
-- ==== Proof.Mix.RecInDw.lean ====
/- The gradient of the recurrent layers' input matrix: each of its four blocks of 896 columns gathers the products of four
   blocks of 2048 rows in a scratch buffer, and the last of the four writes it out. -/
module

public import proofs.«01_k».proof.Proof.Math.Blocks
public import proofs.«01_k».proof.Proof.Math.Side
public import proofs.«01_k».proof.Proof.Gen.RecInDwIdeal.Value

@[expose] public section

noncomputable section

namespace Cert.RecInDwArray

open Idealize.ShloMosaic Idealize.ShloMosaic.TcCoe Idealize.ShloMosaic.Tactic Idealize.SL.Sem
open Cert.RecInDwIdeal Cert.RecInDwIdeal.Gen Cert.Attn
open Idealize.ShloMosaic.Pipeline (Dat)

variable (m : (ℓ : Loc nD τ sig) → Buf (Elt Ideal) ℓ) (c : Dev nD)

/-- The arguments: the inputs and the cotangent. -/
abbrev A0 : S8192x2048.Idx → EReal := m ((c : Thread nD τ).loc main_arg0)
abbrev A1 : S8192x3584.Idx → EReal := m ((c : Thread nD τ).loc main_arg1)

/-- Point `t`'s blocks of them. -/
abbrev X0 (t : Fin cfg0.N) : S2048x2048.Idx → EReal := iblk m c 0 t
abbrev X1 (t : Fin cfg0.N) : S2048x896.Idx → EReal := iblk m c 1 t

/-- The first product of a run of four. -/
theorem acc_first (t : Fin cfg0.N) (h : t.val % 4 = 0) :
    (outsAt0 m c t.val t.isLt).2 = k0_pay1 (F := Ideal) (X0 m c t) (X1 m c t) := by
  rw [outsAt0_A m c t h (by omega) (by omega)]
  dsimp only
  unfold sout0_A_0; rw [View.read_writes_eq_canon _ _ _ (scover0_A_0 c _ _ _ _ _ _ _ _ _ _ _ _ _ _)]
  unfold kernelRun0_A; dsimp only; sl_unfold_words
  simp only [View.readAt_eq_ld, (hs0_0 t).read_unread, (hs0_1 t).read_unread]
  rw [View.canon_unit_zero hz]
  simp only [View.ld_unit_zero (S := S2048x2048) hz, View.ld_unit_zero (S := S2048x896) hz]

/-- A later product is added to what the scratch holds. -/
theorem acc_later (t : Fin cfg0.N) (h : ¬ t.val % 4 = 0) :
    (outsAt0 m c t.val t.isLt).2 = k0_pay2 (F := Ideal) (X0 m c t) (X1 m c t)
      (outsAt0 m c (t.val - 1) (Nat.lt_of_le_of_lt (Nat.sub_le _ _) t.isLt)).2 := by
  by_cases h3 : t.val % 4 = 3
  · rw [outsAt0_C m c t h (by omega) h3]
    dsimp only
    unfold sout0_C_0; rw [View.read_writes_eq_canon _ _ _ (scover0_C_0 c _ _ _ _ _ _ _ _ _ _ _ _ _ _ _)]
    unfold kernelRun0_C; dsimp only; sl_unfold_words
    simp only [View.readAt_eq_ld, (hs0_0 t).read_unread, (hs0_1 t).read_unread, (Memref.isWhole_whole _).read_unread]
    rw [View.canon_unit_zero hz]
    simp only [View.ld_unit_zero (S := S2048x2048) hz, View.ld_unit_zero (S := S2048x896) hz]
  · rw [outsAt0_B m c t h (by omega) h3]
    dsimp only
    unfold sout0_B_0; rw [View.read_writes_eq_canon _ _ _ (scover0_B_0 c _ _ _ _ _ _ _ _ _ _ _ _ _ _ _)]
    unfold kernelRun0_B; dsimp only; sl_unfold_words
    simp only [View.readAt_eq_ld, (hs0_0 t).read_unread, (hs0_1 t).read_unread, (Memref.isWhole_whole _).read_unread]
    rw [View.canon_unit_zero hz]
    simp only [View.ld_unit_zero (S := S2048x2048) hz, View.ld_unit_zero (S := S2048x896) hz]

/-- The last of a run of four writes out what the scratch then holds. -/
theorem out_last (t : Fin cfg0.N) (h : t.val % 4 = 3) :
    (outsAt0 m c t.val t.isLt).1 = k0_pay3 (outsAt0 m c t.val t.isLt).2 := by
  rw [acc_later m c t (by omega), outsAt0_C m c t (by omega) (by omega) h]
  dsimp only
  unfold out0_C_2; rw [View.read_writes_eq_canon _ _ _ (cover0_C_2 c _ _ _ _ _ _ _ _ _ _ _ _ _ _ _)]
  unfold kernelRun0_C; dsimp only; sl_unfold_words
  simp only [View.readAt_eq_ld, (hs0_0 t).read_unread, (hs0_1 t).read_unread, (Memref.isWhole_whole _).read_unread]
  rw [View.canon_unit_zero hz3, View.readCov_unit_zero (S := S2048x896) _ hz]
  simp only [View.ld_unit_zero (S := S2048x2048) hz, View.ld_unit_zero (S := S2048x896) hz]

/-- The payloads at an index. -/
theorem pay1_apply (a : S2048x2048.Idx → EReal) (b : S2048x896.Idx → EReal) (p : Fin 2048) (q : Fin 896) :
    (k0_pay1 (F := Ideal) a b (ix2 p q) : EReal) = ∑ r : Fin 2048, a (ix2 r p) * b (ix2 r q) := by
  unfold k0_pay1
  pointwise
theorem pay2_apply (a : S2048x2048.Idx → EReal) (b s : S2048x896.Idx → EReal) (p : Fin 2048) (q : Fin 896) :
    (k0_pay2 (F := Ideal) a b s (ix2 p q) : EReal) = s (ix2 p q) + ∑ r : Fin 2048, a (ix2 r p) * b (ix2 r q) := by
  unfold k0_pay2
  pointwise
theorem pay3_apply (s : S2048x896.Idx → EReal) (z : Fin 1) (p : Fin 2048) (q : Fin 896) :
    (k0_pay3 (F := Ideal) s (ix3 z p q) : EReal) = s (ix2 p q) := by
  unfold k0_pay3
  pointwise

theorem index0 : ∀ t : Fin cfg0.N, win0_0.index t 0 = t.val % 4 ∧ win0_0.index t 1 = 0 := by decide +kernel
theorem index1 : ∀ t : Fin cfg0.N, win0_1.index t 0 = t.val % 4 ∧ win0_1.index t 1 = t.val / 4 := by decide +kernel
theorem index2 : ∀ t : Fin cfg0.N, win0_2.index t 0 = t.val / 4 ∧ win0_2.index t 1 = 0 ∧ win0_2.index t 2 = 0 := by decide +kernel

theorem blk0 (t : Fin cfg0.N) (r p : Fin 2048) : X0 m c t (ix2 r p) = A0 m c (ix2 ⟨2048 * (t.val % 4) + r.val, by omega⟩ p) := by
  unfold X0 iblk
  rw [View.read_apply]
  refine congrArg (A0 m c) (eq_ix2 _ _ _ ?_ ?_)
  · show win0_0.index t 0 * 2048 + 1 * r.val = 2048 * (t.val % 4) + r.val; rw [(index0 t).1]; omega
  · show win0_0.index t 1 * 2048 + 1 * p.val = p.val; rw [(index0 t).2]; omega
theorem blk1 (t : Fin cfg0.N) (r : Fin 2048) (q : Fin 896) : X1 m c t (ix2 r q) = A1 m c (ix2
    ⟨2048 * (t.val % 4) + r.val, by omega⟩ ⟨896 * (t.val / 4) + q.val, by have : t.val < 16 := t.isLt; omega⟩) := by
  unfold X1 iblk
  rw [View.read_apply]
  refine congrArg (A1 m c) (eq_ix2 _ _ _ ?_ ?_)
  · show win0_1.index t 0 * 2048 + 1 * r.val = 2048 * (t.val % 4) + r.val; rw [(index1 t).1]; omega
  · show win0_1.index t 1 * 896 + 1 * q.val = 896 * (t.val / 4) + q.val; rw [(index1 t).2]; omega

/-- The last of a run of four leaves its block of the gradient. -/
theorem out_apply (t : Fin cfg0.N) (h : t.val % 4 = 3) (z : Fin 1) (p : Fin 2048) (q : Fin 896) :
    (outsAt0 m c t.val t.isLt).1 (ix3 z p q)
      = ∑ r : Fin 8192, A0 m c (ix2 r p) * A1 m c (ix2 r ⟨896 * (t.val / 4) + q.val, by have : t.val < 16 := t.isLt; omega⟩) := by
  rw [out_last m c t h, pay3_apply]
  refine run_rows (N := cfg0.N) (G := 4) (b := 2048) rfl (by decide)
    (fun t h => (outsAt0 m c t h).2 (ix2 p q))
    (fun t h => ∑ r : Fin 2048, X0 m c ⟨t, h⟩ (ix2 r p) * X1 m c ⟨t, h⟩ (ix2 r q))
    (fun t h ht => (congrFun (acc_first m c ⟨t, h⟩ ht) _).trans (pay1_apply _ _ _ _))
    (fun t h ht => (congrFun (acc_later m c ⟨t, h⟩ ht) _).trans (pay2_apply _ _ _ _ _)) _ t.val t.isLt h
    (fun s hs => Finset.sum_congr rfl fun r _ => ?_)
  have hs : s.val < 4 := s.isLt
  rw [blk0, blk1]
  refine congrArg₂ (· * ·) (congrArg (A0 m c) (eq_ix2 _ _ _ ?_ rfl)) (congrArg (A1 m c) (eq_ix2 _ _ _ ?_ ?_))
  · show 2048 * ((4 * (t.val / 4) + s.val) % 4) + r.val = 2048 * s.val + r.val; omega
  · show 2048 * ((4 * (t.val / 4) + s.val) % 4) + r.val = 2048 * s.val + r.val; omega
  · show 896 * ((4 * (t.val / 4) + s.val) / 4) + q.val = 896 * (t.val / 4) + q.val; omega

/-- Each block is written at its place. -/
theorem flushed_eq (t : Fin cfg0.N) (hf : (cfg0.win 2).flush t = true) :
    (dats m 0 c).flushed 2 t = ((cfg0.win 2).blk t).view.read (Elt Ideal) (fourBlocks (B := 896) (N := 3584) rfl (mulTN (A0 m c) (A1 m c))) := by
  rw [Value.flushed2]
  funext i
  rw [View.read_apply]
  refine Eq.trans ?_ (cast_eq _ _).symm
  show (outsAt0 m c t.val t.isLt).1 i = _
  obtain ⟨z, p, q, rfl⟩ : ∃ (z : Fin 1) (p : Fin 2048) (q : Fin 896), i = ix3 z p q := ⟨i 0, i 1, i 2, eq_ix3 i _ _ _ rfl rfl rfl⟩
  have h0 : z.val = 0 := by omega
  refine (out_apply m c t ((flush0_2 t).mp hf) z p q).trans (fourBlocks_mulTN _ _ _ _ _ _ ?_ ?_).symm
  · show win0_2.index t 1 * 2048 + 1 * p.val = p.val; rw [(index2 t).2.1]; omega
  · show 896 * (win0_2.index t 0 * 1 + 1 * z.val) + (win0_2.index t 2 * 896 + 1 * q.val) = 896 * (t.val / 4) + q.val
    rw [(index2 t).1, (index2 t).2.2]; omega

/-- The gradient after the run. -/
theorem final : (dats m 0 c).arrAt 2 cfg0.N = fourBlocks (B := 896) (N := 3584) rfl (mulTN (A0 m c) (A1 m c)) :=
  (dats m 0 c).arrAt_eq_of_cover 2 _ (flushed_eq m c) fun i => by
    have h0 : (i 0).val < 4 := (i 0).isLt
    have h1 : (i 1).val < 2048 := (i 1).isLt
    have h2 : (i 2).val < 896 := (i 2).isLt
    have ht : 4 * (i 0).val + 3 < 16 := by omega
    refine ⟨⟨_, ht⟩, (flush0_2 _).mpr (by show (4 * (i 0).val + 3) % 4 = 3; omega), ?_⟩
    show i ∈ ((View.whole main_v2).slice (win0_2.rect ⟨_, ht⟩)).set
    rw [View.set_slice_whole, Rect.mem_set_unit]
    obtain ⟨e0, e1, e2⟩ := index2 ⟨_, ht⟩
    intro a
    match a with
    | ⟨0, _⟩ => show win0_2.index _ 0 * 1 ≤ (i 0).val ∧ (i 0).val < win0_2.index _ 0 * 1 + 1; rw [e0]; dsimp only; omega
    | ⟨1, _⟩ => show win0_2.index _ 1 * 2048 ≤ (i 1).val ∧ (i 1).val < win0_2.index _ 1 * 2048 + 2048; rw [e1]; omega
    | ⟨2, _⟩ => show win0_2.index _ 2 * 896 ≤ (i 2).val ∧ (i 2).val < win0_2.index _ 2 * 896 + 896; rw [e2]; omega

end Cert.RecInDwArray

end
-- ==== Proof.Mix.KvProj.lean ====
/- The shared keys' and values' product: a block of 1024 rows and 768 columns is one product, computed in a block of 512
   columns and one of 256, and written in bfloat16. The matrix comes in four blocks of columns. -/
module

public import proofs.«01_k».proof.Proof.Math.Blocks
public import proofs.«01_k».proof.Proof.Gen.KvProjIdeal.Value
public import Idealize.ShloMosaic.Lib.Pipeline.ValueKit

@[expose] public section

noncomputable section

namespace Cert.KvProjArray

open Idealize.ShloMosaic Idealize.ShloMosaic.TcCoe Idealize.ShloMosaic.Tactic Idealize.SL.Sem
open Cert.KvProjIdeal Cert.KvProjIdeal.Gen Cert.Attn

variable (m : (ℓ : Loc nD τ sig) → Buf (Elt Ideal) ℓ) (c : Dev nD)

/-- The arguments: the inputs and the matrix. -/
abbrev A0 : S8192x2048.Idx → EReal := m ((c : Thread nD τ).loc main_arg0)
abbrev A1 : S2048x3072.Idx → EReal := m ((c : Thread nD τ).loc main_arg1)

/-- Point `t`'s blocks of them. -/
abbrev X0 (t : Fin cfg0.N) : S1024x2048.Idx → EReal := iblk m c 0 t
abbrev X1 (t : Fin cfg0.N) : S1x2048x768.Idx → EReal := iblk m c 1 t

/-- The payloads at an index. -/
theorem pay_left (a : S1024x2048.Idx → EReal) (b : S1x2048x512.Idx → EReal) (p : Fin 1024) (q : Fin 512) :
    (k0_pay2 (F := Ideal) a b (ix2 p q) : EReal) = ∑ r : Fin 2048, a (ix2 p r) * b (ix3 0 r q) := by
  unfold k0_pay2 k0_pay1
  pointwise
theorem pay_right (a : S1024x2048.Idx → EReal) (b : S1x2048x256.Idx → EReal) (p : Fin 1024) (q : Fin 256) :
    (k0_pay3 (F := Ideal) a b (ix2 p q) : EReal) = ∑ r : Fin 2048, a (ix2 p r) * b (ix3 0 r q) := by
  unfold k0_pay3 k0_pay1
  pointwise

/-- What a point leaves is its blocks' product. -/
theorem out_eq (t : Fin cfg0.N) (p : Fin 1024) (q : Fin 768) :
    outsAt0 m c t (ix2 p q) = ∑ r : Fin 2048, X0 m c t (ix2 p r) * X1 m c t (ix3 0 r q) := by
  unfold outsAt0 out0_A_2
  rw [View.read_writes_eq_canon _ _ _ (cover0_A_2 c _ _ _ _ _ _ _ _ _)]
  have hc := cover0_A_2 (F := Ideal) c (grid0.coords t) (ms0_0 t) (hs0_0 t) (ms0_1 t) (hs0_1 t) (ms0_2 t) (hs0_2 t) (iblk m c 0 t) (iblk m c 1 t) (ix2 p q)
  revert hc
  unfold kernelRun0_A; dsimp only; sl_unfold_words
  simp only [View.readAt_eq_ld, (hs0_0 t).read_unread, (hs0_1 t).read_unread]
  intro hc
  canon_tiles x hx using hc
  all_goals
    rw [eq_ix2 x p (x 1) hx0.symm rfl]
    refine Eq.trans (by first | exact pay_left _ _ p (x 1) | exact pay_right _ _ p (x 1)) (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix3 0 r q) (fun a => by
        match a with
        | ⟨0, _⟩ => rfl
        | ⟨1, _⟩ => exact (Nat.zero_add _).symm
        | ⟨2, _⟩ => first | exact hx1 | exact hx1.trans (Nat.zero_add _).symm)

theorem index0 : ∀ t : Fin cfg0.N, win0_0.index t 0 = t.val / 4 ∧ win0_0.index t 1 = 0 := by decide +kernel
theorem index1 : ∀ t : Fin cfg0.N, win0_1.index t 0 = t.val % 4 ∧ win0_1.index t 1 = 0 ∧ win0_1.index t 2 = 0 := by decide +kernel
theorem index2 : ∀ t : Fin cfg0.N, win0_2.index t 0 = t.val / 4 ∧ win0_2.index t 1 = t.val % 4 := by decide +kernel

/-- The matrix, its columns in four blocks; the host's rounding to bfloat16 is none at the extended reals. -/
theorem V_1 (b : Fin 4) (p : Fin 2048) (q : Fin 768) : (V m c main_v3 : S4x2048x768.Idx → EReal) (ix3 b p q)
    = A1 m c (ix2 p ⟨768 * b.val + q.val, by omega⟩) := by
  show transpose S4x2048x768 [1, 0, 2] (shapeCast S2048x4x768 (A1 m c) shapeCasts_S2048x3072_S2048x4x768) transposes_S2048x4x768_S4x2048x768_1_0_2 (ix3 b p q) = _
  refine (transpose_apply (t := S4x2048x768) [1, 0, 2] _ _ _ (ix3 p b q) (fun a => match a with | ⟨0, _⟩ => rfl | ⟨1, _⟩ => rfl | ⟨2, _⟩ => rfl)).trans ?_
  refine shapeCast_apply _ _ _ _ ?_
  rw [Shape.rowMajor_val_two, Shape.rowMajor_val_three]
  show p.val * 3072 + (768 * b.val + q.val) = (p.val * 4 + b.val) * 768 + q.val
  omega

theorem blk0 (t : Fin cfg0.N) (p : Fin 1024) (r : Fin 2048) :
    X0 m c t (ix2 p r) = A0 m c (ix2 ⟨1024 * (t.val / 4) + p.val, by have : t.val < 32 := t.isLt; omega⟩ r) := by
  unfold X0 iblk
  rw [View.read_apply]
  refine congrArg (A0 m c) (eq_ix2 _ _ _ ?_ ?_)
  · show win0_0.index t 0 * 1024 + 1 * p.val = 1024 * (t.val / 4) + p.val; rw [(index0 t).1]; omega
  · show win0_0.index t 1 * 2048 + 1 * r.val = r.val; rw [(index0 t).2]; omega
theorem blk1 (t : Fin cfg0.N) (r : Fin 2048) (q : Fin 768) :
    X1 m c t (ix3 0 r q) = A1 m c (ix2 r ⟨768 * (t.val % 4) + q.val, by omega⟩) := by
  unfold X1 iblk
  rw [View.read_apply]
  refine Eq.trans ?_ (V_1 m c ⟨t.val % 4, by omega⟩ r q)
  refine congrArg (V m c main_v3) (eq_ix3 _ _ _ _ ?_ ?_ ?_)
  · show win0_1.index t 0 * 1 + 1 * 0 = t.val % 4; rw [(index1 t).1]; omega
  · show win0_1.index t 1 * 2048 + 1 * r.val = r.val; rw [(index1 t).2.1]; omega
  · show win0_1.index t 2 * 768 + 1 * q.val = q.val; rw [(index1 t).2.2]; omega

/-- Each block is written at its place. -/
theorem flushed_eq (t : Fin cfg0.N) :
    (dats m 0 c).flushed 2 t = ((cfg0.win 2).blk t).view.read (Elt Ideal) (mulNN (A0 m c) (A1 m c)) := by
  rw [Value.flushed2]
  funext i
  rw [View.read_apply]
  refine Eq.trans ?_ (cast_eq _ _).symm
  show outsAt0 m c t i = _
  obtain ⟨p, q, rfl⟩ : ∃ (p : Fin 1024) (q : Fin 768), i = ix2 p q := ⟨i 0, i 1, eq_ix2 i _ _ rfl rfl⟩
  refine (out_eq m c t p q).trans (Finset.sum_congr rfl fun r _ => ?_)
  rw [blk0, blk1]
  refine congrArg₂ (· * ·) (congrArg (A0 m c) (eq_ix2 _ _ _ ?_ rfl).symm) (congrArg (A1 m c) (eq_ix2 _ _ _ rfl ?_).symm)
  · show win0_2.index t 0 * 1024 + 1 * p.val = 1024 * (t.val / 4) + p.val; rw [(index2 t).1]; omega
  · show win0_2.index t 1 * 768 + 1 * q.val = 768 * (t.val % 4) + q.val; rw [(index2 t).2]; omega

/-- The product after the run. -/
theorem final : (dats m 0 c).arrAt 2 cfg0.N = mulNN (A0 m c) (A1 m c) :=
  (dats m 0 c).arrAt_eq_of_cover 2 _ (fun t _ => flushed_eq m c t) fun i => by
    have h0 : (i 0).val < 8192 := (i 0).isLt
    have h1 : (i 1).val < 3072 := (i 1).isLt
    have ht : 4 * ((i 0).val / 1024) + (i 1).val / 768 < 32 := by omega
    refine ⟨⟨_, ht⟩, flush0_2 _, ?_⟩
    show i ∈ ((View.whole main_v4).slice (win0_2.rect ⟨_, ht⟩)).set
    rw [View.set_slice_whole, Rect.mem_set_unit]
    obtain ⟨e0, e1⟩ := index2 ⟨_, ht⟩
    intro a
    match a with
    | ⟨0, _⟩ => show win0_2.index _ 0 * 1024 ≤ (i 0).val ∧ (i 0).val < win0_2.index _ 0 * 1024 + 1024; rw [e0]; dsimp only; omega
    | ⟨1, _⟩ => show win0_2.index _ 1 * 768 ≤ (i 1).val ∧ (i 1).val < win0_2.index _ 1 * 768 + 768; rw [e1]; dsimp only; omega

end Cert.KvProjArray

end
-- ==== Proof.Mix.KvProjDx.lean ====
/- The gradient of the shared keys' and values' input: a block of 1024 rows gathers four products in a scratch buffer, over the four
   blocks of columns of the matrix, each computed in four blocks of 512 columns; the last of the four writes it out. -/
module

public import proofs.«01_k».proof.Proof.Math.Blocks
public import proofs.«01_k».proof.Proof.Math.Side
public import proofs.«01_k».proof.Proof.Gen.KvProjDxIdeal.Value
public import Idealize.ShloMosaic.Lib.Pipeline.ValueKit

@[expose] public section

noncomputable section

namespace Cert.KvProjDxArray

open Idealize.ShloMosaic Idealize.ShloMosaic.TcCoe Idealize.ShloMosaic.Tactic Idealize.SL.Sem
open Cert.KvProjDxIdeal Cert.KvProjDxIdeal.Gen Cert.Attn

variable (m : (ℓ : Loc nD τ sig) → Buf (Elt Ideal) ℓ) (c : Dev nD)

/-- The arguments: the cotangent and the matrix. -/
abbrev A0 : S8192x3072.Idx → EReal := m ((c : Thread nD τ).loc main_arg0)
abbrev A1 : S2048x3072.Idx → EReal := m ((c : Thread nD τ).loc main_arg1)

/-- Point `t`'s blocks of them. -/
abbrev X0 (t : Fin cfg0.N) : S1024x768.Idx → EReal := iblk m c 0 t
abbrev X1 (t : Fin cfg0.N) : S1x2048x768.Idx → EReal := iblk m c 1 t

/-- The payloads at an index. -/
theorem pay_first (a : S1024x768.Idx → EReal) (b : S1x512x768.Idx → EReal) (p : Fin 1024) (q : Fin 512) :
    (k0_pay2 (F := Ideal) a b (ix2 p q) : EReal) = ∑ r : Fin 768, a (ix2 p r) * b (ix3 0 q r) := by
  unfold k0_pay2 k0_pay1
  pointwise
theorem pay_later (a : S1024x768.Idx → EReal) (b : S1x512x768.Idx → EReal) (s : S1024x512.Idx → EReal) (p : Fin 1024) (q : Fin 512) :
    (k0_pay10 (F := Ideal) a b s (ix2 p q) : EReal) = s (ix2 p q) + ∑ r : Fin 768, a (ix2 p r) * b (ix3 0 q r) := by
  unfold k0_pay10 k0_pay9
  pointwise

/-- The first product of a run of four. -/
theorem acc_first (t : Fin cfg0.N) (h : t.val % 4 = 0) (p : Fin 1024) (q : Fin 2048) :
    (outsAt0 m c t.val t.isLt).2 (ix2 p q) = ∑ r : Fin 768, X0 m c t (ix2 p r) * X1 m c t (ix3 0 q r) := by
  rw [outsAt0_A m c t h (by omega) (by omega)]
  dsimp only
  unfold sout0_A_0; rw [View.read_writes_eq_canon _ _ _ (scover0_A_0 c _ _ _ _ _ _ _ _ _ _ _ _ _ _)]
  unfold kernelRun0_A; dsimp only; sl_unfold_words
  simp only [View.readAt_eq_ld, (hs0_0 t).read_unread, (hs0_1 t).read_unread]
  canon_tiles x hx
  all_goals
    rw [eq_ix2 x p (x 1) hx0.symm rfl]
    refine (pay_first _ _ p (x 1)).trans (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix3 0 q r) (fun a => by
        match a with
        | ⟨0, _⟩ => rfl
        | ⟨1, _⟩ => first | exact hx1 | exact hx1.trans (Nat.zero_add _).symm
        | ⟨2, _⟩ => exact (Nat.zero_add _).symm)

/-- A later product is added to what the scratch holds. -/
theorem acc_later (t : Fin cfg0.N) (h : ¬ t.val % 4 = 0) (p : Fin 1024) (q : Fin 2048) :
    (outsAt0 m c t.val t.isLt).2 (ix2 p q) = ((outsAt0 m c (t.val - 1) (Nat.lt_of_le_of_lt (Nat.sub_le _ _) t.isLt)).2 (ix2 p q) : EReal)
      + ∑ r : Fin 768, X0 m c t (ix2 p r) * X1 m c t (ix3 0 q r) := by
  by_cases h3 : t.val % 4 = 3
  · rw [outsAt0_C m c t h (by omega) h3]
    dsimp only
    unfold sout0_C_0; rw [View.read_writes_eq_canon _ _ _ (scover0_C_0 c _ _ _ _ _ _ _ _ _ _ _ _ _ _ _)]
    unfold kernelRun0_C; dsimp only; sl_unfold_words
    simp only [View.readAt_eq_ld, (hs0_0 t).read_unread, (hs0_1 t).read_unread, (Memref.isWhole_whole _).read_unread]
    canon_tiles x hx
    all_goals
      rw [eq_ix2 x p (x 1) hx0.symm rfl]
      refine (pay_later _ _ _ p (x 1)).trans (congrArg₂ (· + ·) ?_ (Finset.sum_congr rfl fun r _ => congrArg₂ (· * ·) ?_ ?_))
      · exact View.ld_unit_apply_of _ _ _ _ _ (ix2 p q) (Fin.forall_fin_two.2 ⟨(Nat.zero_add _).symm, by first | exact hx1 | exact hx1.trans (Nat.zero_add _).symm⟩)
      · exact View.ld_unit_apply_of _ _ _ _ _ (ix2 p r) (Fin.forall_fin_two.2 ⟨(Nat.zero_add _).symm, (Nat.zero_add _).symm⟩)
      · exact View.ld_unit_apply_of _ _ _ _ _ (ix3 0 q r) (fun a => by
          match a with
          | ⟨0, _⟩ => rfl
          | ⟨1, _⟩ => first | exact hx1 | exact hx1.trans (Nat.zero_add _).symm
          | ⟨2, _⟩ => exact (Nat.zero_add _).symm)
  · rw [outsAt0_B m c t h (by omega) h3]
    dsimp only
    unfold sout0_B_0; rw [View.read_writes_eq_canon _ _ _ (scover0_B_0 c _ _ _ _ _ _ _ _ _ _ _ _ _ _ _)]
    unfold kernelRun0_B; dsimp only; sl_unfold_words
    simp only [View.readAt_eq_ld, (hs0_0 t).read_unread, (hs0_1 t).read_unread, (Memref.isWhole_whole _).read_unread]
    canon_tiles x hx
    all_goals
      rw [eq_ix2 x p (x 1) hx0.symm rfl]
      refine (pay_later _ _ _ p (x 1)).trans (congrArg₂ (· + ·) ?_ (Finset.sum_congr rfl fun r _ => congrArg₂ (· * ·) ?_ ?_))
      · exact View.ld_unit_apply_of _ _ _ _ _ (ix2 p q) (Fin.forall_fin_two.2 ⟨(Nat.zero_add _).symm, by first | exact hx1 | exact hx1.trans (Nat.zero_add _).symm⟩)
      · exact View.ld_unit_apply_of _ _ _ _ _ (ix2 p r) (Fin.forall_fin_two.2 ⟨(Nat.zero_add _).symm, (Nat.zero_add _).symm⟩)
      · exact View.ld_unit_apply_of _ _ _ _ _ (ix3 0 q r) (fun a => by
          match a with
          | ⟨0, _⟩ => rfl
          | ⟨1, _⟩ => first | exact hx1 | exact hx1.trans (Nat.zero_add _).symm
          | ⟨2, _⟩ => exact (Nat.zero_add _).symm)

/-- The last of a run of four writes out what the scratch then holds. -/
theorem out_last (t : Fin cfg0.N) (h : t.val % 4 = 3) :
    (outsAt0 m c t.val t.isLt).1 = k0_pay8 (outsAt0 m c t.val t.isLt).2 := by
  rw [outsAt0_C m c t (by omega) (by omega) h]
  dsimp only
  unfold out0_C_2 sout0_C_0
  rw [View.read_writes_eq_canon _ _ _ (cover0_C_2 c _ _ _ _ _ _ _ _ _ _ _ _ _ _ _), View.read_writes_eq_canon _ _ _ (scover0_C_0 c _ _ _ _ _ _ _ _ _ _ _ _ _ _ _)]
  have hc := scover0_C_0 (F := Ideal) c (grid0.coords t) (ms0_0 t) (hs0_0 t) (ms0_1 t) (hs0_1 t) (ms0_2 t) (hs0_2 t) scM0_0 (Memref.isWhole_whole _)
    (fun h' => (show ¬ t.val % 4 = 0 by omega) ((hcond0_0 t).mp h')) ((hcond0_1 t).mpr (by omega)) ((hcond0_2 t).mpr h)
    (iblk m c 0 t) (iblk m c 1 t) (outsAt0 m c (t.val - 1) (Nat.lt_of_le_of_lt (Nat.sub_le _ _) t.isLt)).2
  revert hc
  unfold kernelRun0_C; dsimp only; sl_unfold_words
  intro hc
  rw [View.canon_unit_zero hz, View.readCov_eq_canon_ld _ _ _ hc]
  rw [View.ld_unit_zero (S := S1024x2048) hz]

theorem pay8_apply (s : S1024x2048.Idx → EReal) (i : S1024x2048.Idx) : (k0_pay8 (F := Ideal) s i : EReal) = s i := by
  rfl

theorem index0 : ∀ t : Fin cfg0.N, win0_0.index t 0 = t.val / 4 ∧ win0_0.index t 1 = t.val % 4 := by decide +kernel
theorem index1 : ∀ t : Fin cfg0.N, win0_1.index t 0 = t.val % 4 ∧ win0_1.index t 1 = 0 ∧ win0_1.index t 2 = 0 := by decide +kernel
theorem index2 : ∀ t : Fin cfg0.N, win0_2.index t 0 = t.val / 4 ∧ win0_2.index t 1 = 0 := by decide +kernel

/-- The matrix, its columns in four blocks; the host's rounding to bfloat16 is none at the extended reals. -/
theorem V_1 (b : Fin 4) (p : Fin 2048) (q : Fin 768) : (V m c main_v3 : S4x2048x768.Idx → EReal) (ix3 b p q)
    = A1 m c (ix2 p ⟨768 * b.val + q.val, by omega⟩) := by
  show transpose S4x2048x768 [1, 0, 2] (shapeCast S2048x4x768 (A1 m c) shapeCasts_S2048x3072_S2048x4x768) transposes_S2048x4x768_S4x2048x768_1_0_2 (ix3 b p q) = _
  refine (transpose_apply (t := S4x2048x768) [1, 0, 2] _ _ _ (ix3 p b q) (fun a => match a with | ⟨0, _⟩ => rfl | ⟨1, _⟩ => rfl | ⟨2, _⟩ => rfl)).trans ?_
  refine shapeCast_apply _ _ _ _ ?_
  rw [Shape.rowMajor_val_two, Shape.rowMajor_val_three]
  show p.val * 3072 + (768 * b.val + q.val) = (p.val * 4 + b.val) * 768 + q.val
  omega

theorem blk0 (t : Fin cfg0.N) (p : Fin 1024) (r : Fin 768) : X0 m c t (ix2 p r) = A0 m c (ix2
    ⟨1024 * (t.val / 4) + p.val, by have : t.val < 32 := t.isLt; omega⟩ ⟨768 * (t.val % 4) + r.val, by omega⟩) := by
  unfold X0 iblk
  rw [View.read_apply]
  refine congrArg (A0 m c) (eq_ix2 _ _ _ ?_ ?_)
  · show win0_0.index t 0 * 1024 + 1 * p.val = 1024 * (t.val / 4) + p.val; rw [(index0 t).1]; omega
  · show win0_0.index t 1 * 768 + 1 * r.val = 768 * (t.val % 4) + r.val; rw [(index0 t).2]; omega
theorem blk1 (t : Fin cfg0.N) (q : Fin 2048) (r : Fin 768) :
    X1 m c t (ix3 0 q r) = A1 m c (ix2 q ⟨768 * (t.val % 4) + r.val, by omega⟩) := by
  unfold X1 iblk
  rw [View.read_apply]
  refine Eq.trans ?_ (V_1 m c ⟨t.val % 4, by omega⟩ q r)
  refine congrArg (V m c main_v3) (eq_ix3 _ _ _ _ ?_ ?_ ?_)
  · show win0_1.index t 0 * 1 + 1 * 0 = t.val % 4; rw [(index1 t).1]; omega
  · show win0_1.index t 1 * 2048 + 1 * q.val = q.val; rw [(index1 t).2.1]; omega
  · show win0_1.index t 2 * 768 + 1 * r.val = r.val; rw [(index1 t).2.2]; omega

/-- The last of a run of four leaves its block of the gradient. -/
theorem out_apply (t : Fin cfg0.N) (h : t.val % 4 = 3) (p : Fin 1024) (q : Fin 2048) :
    (outsAt0 m c t.val t.isLt).1 (ix2 p q)
      = ∑ r : Fin 3072, A0 m c (ix2 ⟨1024 * (t.val / 4) + p.val, by have : t.val < 32 := t.isLt; omega⟩ r) * A1 m c (ix2 q r) := by
  rw [out_last m c t h, pay8_apply]
  refine run_rows (N := cfg0.N) (G := 4) (b := 768) rfl (by decide)
    (fun t h => (outsAt0 m c t h).2 (ix2 p q))
    (fun t h => ∑ r : Fin 768, X0 m c ⟨t, h⟩ (ix2 p r) * X1 m c ⟨t, h⟩ (ix3 0 q r))
    (fun t h ht => acc_first m c ⟨t, h⟩ ht p q) (fun t h ht => acc_later m c ⟨t, h⟩ ht p q) _ t.val t.isLt h
    (fun s hs => Finset.sum_congr rfl fun r _ => ?_)
  have hs : s.val < 4 := s.isLt
  rw [blk0, blk1]
  refine congrArg₂ (· * ·) (congrArg (A0 m c) (eq_ix2 _ _ _ ?_ ?_)) (congrArg (A1 m c) (eq_ix2 _ _ _ rfl ?_))
  · show 1024 * ((4 * (t.val / 4) + s.val) / 4) + p.val = 1024 * (t.val / 4) + p.val; omega
  · show 768 * ((4 * (t.val / 4) + s.val) % 4) + r.val = 768 * s.val + r.val; omega
  · show 768 * ((4 * (t.val / 4) + s.val) % 4) + r.val = 768 * s.val + r.val; omega

/-- Each block is written at its place. -/
theorem flushed_eq (t : Fin cfg0.N) (hf : (cfg0.win 2).flush t = true) :
    (dats m 0 c).flushed 2 t = ((cfg0.win 2).blk t).view.read (Elt Ideal) (mulNT (A0 m c) (A1 m c)) := by
  rw [Value.flushed2]
  funext i
  rw [View.read_apply]
  refine Eq.trans ?_ (cast_eq _ _).symm
  show (outsAt0 m c t.val t.isLt).1 i = _
  obtain ⟨p, q, rfl⟩ : ∃ (p : Fin 1024) (q : Fin 2048), i = ix2 p q := ⟨i 0, i 1, eq_ix2 i _ _ rfl rfl⟩
  refine (out_apply m c t ((flush0_2 t).mp hf) p q).trans (Finset.sum_congr rfl fun r _ => ?_)
  refine congrArg₂ (· * ·) (congrArg (A0 m c) (eq_ix2 _ _ _ ?_ rfl).symm) (congrArg (A1 m c) (eq_ix2 _ _ _ ?_ rfl).symm)
  · show win0_2.index t 0 * 1024 + 1 * p.val = 1024 * (t.val / 4) + p.val; rw [(index2 t).1]; omega
  · show win0_2.index t 1 * 2048 + 1 * q.val = q.val; rw [(index2 t).2]; omega

/-- The gradient after the run. -/
theorem final : (dats m 0 c).arrAt 2 cfg0.N = mulNT (A0 m c) (A1 m c) :=
  (dats m 0 c).arrAt_eq_of_cover 2 _ (flushed_eq m c) fun i => by
    have h0 : (i 0).val < 8192 := (i 0).isLt
    have h1 : (i 1).val < 2048 := (i 1).isLt
    have ht : 4 * ((i 0).val / 1024) + 3 < 32 := by omega
    refine ⟨⟨_, ht⟩, (flush0_2 _).mpr (by show (4 * ((i 0).val / 1024) + 3) % 4 = 3; omega), ?_⟩
    show i ∈ ((View.whole main_v4).slice (win0_2.rect ⟨_, ht⟩)).set
    rw [View.set_slice_whole, Rect.mem_set_unit]
    obtain ⟨e0, e1⟩ := index2 ⟨_, ht⟩
    intro a
    match a with
    | ⟨0, _⟩ => show win0_2.index _ 0 * 1024 ≤ (i 0).val ∧ (i 0).val < win0_2.index _ 0 * 1024 + 1024; rw [e0]; dsimp only; omega
    | ⟨1, _⟩ => show win0_2.index _ 1 * 2048 ≤ (i 1).val ∧ (i 1).val < win0_2.index _ 1 * 2048 + 2048; rw [e1]; omega

end Cert.KvProjDxArray

end
-- ==== Proof.Mix.KvProjDw.lean ====
/- The gradient of the shared keys' and values' matrix: each of its four blocks of 768 columns gathers the products of four
   blocks of 2048 rows in a scratch buffer, and the last of the four writes it out. -/
module

public import proofs.«01_k».proof.Proof.Math.Blocks
public import proofs.«01_k».proof.Proof.Math.Side
public import proofs.«01_k».proof.Proof.Gen.KvProjDwIdeal.Value

@[expose] public section

noncomputable section

namespace Cert.KvProjDwArray

open Idealize.ShloMosaic Idealize.ShloMosaic.TcCoe Idealize.ShloMosaic.Tactic Idealize.SL.Sem
open Cert.KvProjDwIdeal Cert.KvProjDwIdeal.Gen Cert.Attn
open Idealize.ShloMosaic.Pipeline (Dat)

variable (m : (ℓ : Loc nD τ sig) → Buf (Elt Ideal) ℓ) (c : Dev nD)

/-- The arguments: the inputs and the cotangent. -/
abbrev A0 : S8192x2048.Idx → EReal := m ((c : Thread nD τ).loc main_arg0)
abbrev A1 : S8192x3072.Idx → EReal := m ((c : Thread nD τ).loc main_arg1)

/-- Point `t`'s blocks of them. -/
abbrev X0 (t : Fin cfg0.N) : S2048x2048.Idx → EReal := iblk m c 0 t
abbrev X1 (t : Fin cfg0.N) : S2048x768.Idx → EReal := iblk m c 1 t

/-- The first product of a run of four. -/
theorem acc_first (t : Fin cfg0.N) (h : t.val % 4 = 0) :
    (outsAt0 m c t.val t.isLt).2 = k0_pay1 (F := Ideal) (X0 m c t) (X1 m c t) := by
  rw [outsAt0_A m c t h (by omega) (by omega)]
  dsimp only
  unfold sout0_A_0; rw [View.read_writes_eq_canon _ _ _ (scover0_A_0 c _ _ _ _ _ _ _ _ _ _ _ _ _ _)]
  unfold kernelRun0_A; dsimp only; sl_unfold_words
  simp only [View.readAt_eq_ld, (hs0_0 t).read_unread, (hs0_1 t).read_unread]
  rw [View.canon_unit_zero hz]
  simp only [View.ld_unit_zero (S := S2048x2048) hz, View.ld_unit_zero (S := S2048x768) hz]

/-- A later product is added to what the scratch holds. -/
theorem acc_later (t : Fin cfg0.N) (h : ¬ t.val % 4 = 0) :
    (outsAt0 m c t.val t.isLt).2 = k0_pay2 (F := Ideal) (X0 m c t) (X1 m c t)
      (outsAt0 m c (t.val - 1) (Nat.lt_of_le_of_lt (Nat.sub_le _ _) t.isLt)).2 := by
  by_cases h3 : t.val % 4 = 3
  · rw [outsAt0_C m c t h (by omega) h3]
    dsimp only
    unfold sout0_C_0; rw [View.read_writes_eq_canon _ _ _ (scover0_C_0 c _ _ _ _ _ _ _ _ _ _ _ _ _ _ _)]
    unfold kernelRun0_C; dsimp only; sl_unfold_words
    simp only [View.readAt_eq_ld, (hs0_0 t).read_unread, (hs0_1 t).read_unread, (Memref.isWhole_whole _).read_unread]
    rw [View.canon_unit_zero hz]
    simp only [View.ld_unit_zero (S := S2048x2048) hz, View.ld_unit_zero (S := S2048x768) hz]
  · rw [outsAt0_B m c t h (by omega) h3]
    dsimp only
    unfold sout0_B_0; rw [View.read_writes_eq_canon _ _ _ (scover0_B_0 c _ _ _ _ _ _ _ _ _ _ _ _ _ _ _)]
    unfold kernelRun0_B; dsimp only; sl_unfold_words
    simp only [View.readAt_eq_ld, (hs0_0 t).read_unread, (hs0_1 t).read_unread, (Memref.isWhole_whole _).read_unread]
    rw [View.canon_unit_zero hz]
    simp only [View.ld_unit_zero (S := S2048x2048) hz, View.ld_unit_zero (S := S2048x768) hz]

/-- The last of a run of four writes out what the scratch then holds. -/
theorem out_last (t : Fin cfg0.N) (h : t.val % 4 = 3) :
    (outsAt0 m c t.val t.isLt).1 = k0_pay3 (outsAt0 m c t.val t.isLt).2 := by
  rw [acc_later m c t (by omega), outsAt0_C m c t (by omega) (by omega) h]
  dsimp only
  unfold out0_C_2; rw [View.read_writes_eq_canon _ _ _ (cover0_C_2 c _ _ _ _ _ _ _ _ _ _ _ _ _ _ _)]
  unfold kernelRun0_C; dsimp only; sl_unfold_words
  simp only [View.readAt_eq_ld, (hs0_0 t).read_unread, (hs0_1 t).read_unread, (Memref.isWhole_whole _).read_unread]
  rw [View.canon_unit_zero hz3, View.readCov_unit_zero (S := S2048x768) _ hz]
  simp only [View.ld_unit_zero (S := S2048x2048) hz, View.ld_unit_zero (S := S2048x768) hz]

/-- The payloads at an index. -/
theorem pay1_apply (a : S2048x2048.Idx → EReal) (b : S2048x768.Idx → EReal) (p : Fin 2048) (q : Fin 768) :
    (k0_pay1 (F := Ideal) a b (ix2 p q) : EReal) = ∑ r : Fin 2048, a (ix2 r p) * b (ix2 r q) := by
  unfold k0_pay1
  pointwise
theorem pay2_apply (a : S2048x2048.Idx → EReal) (b s : S2048x768.Idx → EReal) (p : Fin 2048) (q : Fin 768) :
    (k0_pay2 (F := Ideal) a b s (ix2 p q) : EReal) = s (ix2 p q) + ∑ r : Fin 2048, a (ix2 r p) * b (ix2 r q) := by
  unfold k0_pay2
  pointwise
theorem pay3_apply (s : S2048x768.Idx → EReal) (z : Fin 1) (p : Fin 2048) (q : Fin 768) :
    (k0_pay3 (F := Ideal) s (ix3 z p q) : EReal) = s (ix2 p q) := by
  unfold k0_pay3
  pointwise

theorem index0 : ∀ t : Fin cfg0.N, win0_0.index t 0 = t.val % 4 ∧ win0_0.index t 1 = 0 := by decide +kernel
theorem index1 : ∀ t : Fin cfg0.N, win0_1.index t 0 = t.val % 4 ∧ win0_1.index t 1 = t.val / 4 := by decide +kernel
theorem index2 : ∀ t : Fin cfg0.N, win0_2.index t 0 = t.val / 4 ∧ win0_2.index t 1 = 0 ∧ win0_2.index t 2 = 0 := by decide +kernel

theorem blk0 (t : Fin cfg0.N) (r p : Fin 2048) : X0 m c t (ix2 r p) = A0 m c (ix2 ⟨2048 * (t.val % 4) + r.val, by omega⟩ p) := by
  unfold X0 iblk
  rw [View.read_apply]
  refine congrArg (A0 m c) (eq_ix2 _ _ _ ?_ ?_)
  · show win0_0.index t 0 * 2048 + 1 * r.val = 2048 * (t.val % 4) + r.val; rw [(index0 t).1]; omega
  · show win0_0.index t 1 * 2048 + 1 * p.val = p.val; rw [(index0 t).2]; omega
theorem blk1 (t : Fin cfg0.N) (r : Fin 2048) (q : Fin 768) : X1 m c t (ix2 r q) = A1 m c (ix2
    ⟨2048 * (t.val % 4) + r.val, by omega⟩ ⟨768 * (t.val / 4) + q.val, by have : t.val < 16 := t.isLt; omega⟩) := by
  unfold X1 iblk
  rw [View.read_apply]
  refine congrArg (A1 m c) (eq_ix2 _ _ _ ?_ ?_)
  · show win0_1.index t 0 * 2048 + 1 * r.val = 2048 * (t.val % 4) + r.val; rw [(index1 t).1]; omega
  · show win0_1.index t 1 * 768 + 1 * q.val = 768 * (t.val / 4) + q.val; rw [(index1 t).2]; omega

/-- The last of a run of four leaves its block of the gradient. -/
theorem out_apply (t : Fin cfg0.N) (h : t.val % 4 = 3) (z : Fin 1) (p : Fin 2048) (q : Fin 768) :
    (outsAt0 m c t.val t.isLt).1 (ix3 z p q)
      = ∑ r : Fin 8192, A0 m c (ix2 r p) * A1 m c (ix2 r ⟨768 * (t.val / 4) + q.val, by have : t.val < 16 := t.isLt; omega⟩) := by
  rw [out_last m c t h, pay3_apply]
  refine run_rows (N := cfg0.N) (G := 4) (b := 2048) rfl (by decide)
    (fun t h => (outsAt0 m c t h).2 (ix2 p q))
    (fun t h => ∑ r : Fin 2048, X0 m c ⟨t, h⟩ (ix2 r p) * X1 m c ⟨t, h⟩ (ix2 r q))
    (fun t h ht => (congrFun (acc_first m c ⟨t, h⟩ ht) _).trans (pay1_apply _ _ _ _))
    (fun t h ht => (congrFun (acc_later m c ⟨t, h⟩ ht) _).trans (pay2_apply _ _ _ _ _)) _ t.val t.isLt h
    (fun s hs => Finset.sum_congr rfl fun r _ => ?_)
  have hs : s.val < 4 := s.isLt
  rw [blk0, blk1]
  refine congrArg₂ (· * ·) (congrArg (A0 m c) (eq_ix2 _ _ _ ?_ rfl)) (congrArg (A1 m c) (eq_ix2 _ _ _ ?_ ?_))
  · show 2048 * ((4 * (t.val / 4) + s.val) % 4) + r.val = 2048 * s.val + r.val; omega
  · show 2048 * ((4 * (t.val / 4) + s.val) % 4) + r.val = 2048 * s.val + r.val; omega
  · show 768 * ((4 * (t.val / 4) + s.val) / 4) + q.val = 768 * (t.val / 4) + q.val; omega

/-- Each block is written at its place. -/
theorem flushed_eq (t : Fin cfg0.N) (hf : (cfg0.win 2).flush t = true) :
    (dats m 0 c).flushed 2 t = ((cfg0.win 2).blk t).view.read (Elt Ideal) (fourBlocks (B := 768) (N := 3072) rfl (mulTN (A0 m c) (A1 m c))) := by
  rw [Value.flushed2]
  funext i
  rw [View.read_apply]
  refine Eq.trans ?_ (cast_eq _ _).symm
  show (outsAt0 m c t.val t.isLt).1 i = _
  obtain ⟨z, p, q, rfl⟩ : ∃ (z : Fin 1) (p : Fin 2048) (q : Fin 768), i = ix3 z p q := ⟨i 0, i 1, i 2, eq_ix3 i _ _ _ rfl rfl rfl⟩
  have h0 : z.val = 0 := by omega
  refine (out_apply m c t ((flush0_2 t).mp hf) z p q).trans (fourBlocks_mulTN _ _ _ _ _ _ ?_ ?_).symm
  · show win0_2.index t 1 * 2048 + 1 * p.val = p.val; rw [(index2 t).2.1]; omega
  · show 768 * (win0_2.index t 0 * 1 + 1 * z.val) + (win0_2.index t 2 * 768 + 1 * q.val) = 768 * (t.val / 4) + q.val
    rw [(index2 t).1, (index2 t).2.2]; omega

/-- The gradient after the run. -/
theorem final : (dats m 0 c).arrAt 2 cfg0.N = fourBlocks (B := 768) (N := 3072) rfl (mulTN (A0 m c) (A1 m c)) :=
  (dats m 0 c).arrAt_eq_of_cover 2 _ (flushed_eq m c) fun i => by
    have h0 : (i 0).val < 4 := (i 0).isLt
    have h1 : (i 1).val < 2048 := (i 1).isLt
    have h2 : (i 2).val < 768 := (i 2).isLt
    have ht : 4 * (i 0).val + 3 < 16 := by omega
    refine ⟨⟨_, ht⟩, (flush0_2 _).mpr (by show (4 * (i 0).val + 3) % 4 = 3; omega), ?_⟩
    show i ∈ ((View.whole main_v2).slice (win0_2.rect ⟨_, ht⟩)).set
    rw [View.set_slice_whole, Rect.mem_set_unit]
    obtain ⟨e0, e1, e2⟩ := index2 ⟨_, ht⟩
    intro a
    match a with
    | ⟨0, _⟩ => show win0_2.index _ 0 * 1 ≤ (i 0).val ∧ (i 0).val < win0_2.index _ 0 * 1 + 1; rw [e0]; dsimp only; omega
    | ⟨1, _⟩ => show win0_2.index _ 1 * 2048 ≤ (i 1).val ∧ (i 1).val < win0_2.index _ 1 * 2048 + 2048; rw [e1]; omega
    | ⟨2, _⟩ => show win0_2.index _ 2 * 768 ≤ (i 2).val ∧ (i 2).val < win0_2.index _ 2 * 768 + 768; rw [e2]; omega

end Cert.KvProjDwArray

end
-- ==== Proof.Mix.MemKv.lean ====
/- The product of the memory with its weights, in two blocks of 512 columns. The call is one point. -/
module

public import proofs.«01_k».proof.Proof.Math.Blocks
public import proofs.«01_k».proof.Proof.Gen.MemKvIdeal.Value
public import Idealize.ShloMosaic.Lib.Pipeline.ValueKit

@[expose] public section

noncomputable section

namespace Cert.MemKvArray

open Idealize.ShloMosaic Idealize.ShloMosaic.TcCoe Idealize.ShloMosaic.Tactic Idealize.SL.Sem
open Cert.MemKvIdeal Cert.MemKvIdeal.Gen Cert.Attn

variable (m : (ℓ : Loc nD τ sig) → Buf (Elt Ideal) ℓ) (c : Dev nD)

/-- The arguments: the inputs and the matrix. -/
abbrev A0 : S256x2048.Idx → EReal := m ((c : Thread nD τ).loc main_arg0)
abbrev A1 : S2048x1024.Idx → EReal := m ((c : Thread nD τ).loc main_arg1)

/-- A payload at an index. -/
theorem pay (a : S256x2048.Idx → EReal) (b : S2048x512.Idx → EReal) (p : Fin 256) (q : Fin 512) :
    (k0_pay2 (F := Ideal) a b (ix2 p q) : EReal) = ∑ r : Fin 2048, a (ix2 p r) * b (ix2 r q) := by
  unfold k0_pay2 k0_pay1
  pointwise

/-- What a point leaves is its blocks' product. -/
theorem out_eq (a : S256x2048.Idx → EReal) (b : S2048x1024.Idx → EReal) (p : Fin 256) (q : Fin 1024) :
    (out0_2 (F := Ideal) a b (ix2 p q) : EReal) = ∑ r : Fin 2048, a (ix2 p r) * b (ix2 r q) := by
  unfold out0_2
  canon_tiles x hx
  all_goals
    rw [eq_ix2 x p (x 1) hx0.symm rfl]
    refine (pay _ _ p (x 1)).trans (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix2 r q) (Fin.forall_fin_two.2 ⟨(Nat.zero_add _).symm, by first | exact hx1 | exact hx1.trans (Nat.zero_add _).symm⟩)

theorem index0 : ∀ t : Fin cfg0.N, win0_0.index t 0 = 0 ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel

/-- The point's blocks are the arguments, which the host rounds to bfloat16: at the extended reals, not at all. -/
theorem blk0 (t : Fin cfg0.N) : (iblk m c 0 t : S256x2048.Idx → EReal) = A0 m c := by
  funext i
  unfold iblk
  rw [View.read_apply]
  refine (congrArg (A0 m c) (eq_ix2 _ (i 0) (i 1) ?_ ?_)).trans (congrArg (A0 m c) (eq_ix2 i _ _ rfl rfl).symm)
  · show win0_0.index t 0 * 256 + 1 * (i 0).val = (i 0).val; rw [(index0 t).1]; omega
  · show win0_0.index t 1 * 2048 + 1 * (i 1).val = (i 1).val; rw [(index0 t).2]; omega
theorem blk1 (t : Fin cfg0.N) : (iblk m c 1 t : S2048x1024.Idx → EReal) = A1 m c := by
  funext i
  unfold iblk
  rw [View.read_apply]
  refine (congrArg (A1 m c) (eq_ix2 _ (i 0) (i 1) ?_ ?_)).trans (congrArg (A1 m c) (eq_ix2 i _ _ rfl rfl).symm)
  · show win0_1.index t 0 * 2048 + 1 * (i 0).val = (i 0).val; rw [(index1 t).1]; omega
  · show win0_1.index t 1 * 1024 + 1 * (i 1).val = (i 1).val; rw [(index1 t).2]; omega

/-- The block is written at its place, which is everywhere. -/
theorem flushed_eq (t : Fin cfg0.N) :
    (dats m 0 c).flushed 2 t = ((cfg0.win 2).blk t).view.read (Elt Ideal) (mulNN (A0 m c) (A1 m c)) := by
  rw [Value.flushed2]
  funext i
  rw [View.read_apply]
  refine Eq.trans ?_ (cast_eq _ _).symm
  obtain ⟨p, q, rfl⟩ : ∃ (p : Fin 256) (q : Fin 1024), i = ix2 p q := ⟨i 0, i 1, eq_ix2 i _ _ rfl rfl⟩
  refine (congrFun (congrArg₂ (out0_2 (F := Ideal)) (blk0 m c t) (blk1 m c t)) (ix2 p q)).trans ((out_eq _ _ p q).trans ?_)
  have e : ((cfg0.win 2).blk t).view.emb (ix2 p q) = ix2 p q := eq_ix2 _ _ _
    (by show win0_2.index t 0 * 256 + 1 * p.val = p.val; rw [(index2 t).1]; omega)
    (by show win0_2.index t 1 * 1024 + 1 * q.val = q.val; rw [(index2 t).2]; omega)
  exact (congrArg (mulNN (A0 m c) (A1 m c)) e).symm

/-- The result after the run. -/
theorem final : (dats m 0 c).arrAt 2 cfg0.N = mulNN (A0 m c) (A1 m c) :=
  (dats m 0 c).arrAt_eq_of_cover 2 _ (fun t _ => flushed_eq m c t) fun i => by
    have h0 : (i 0).val < 256 := (i 0).isLt
    have h1 : (i 1).val < 1024 := (i 1).isLt
    have ht : 0 < cfg0.N := by decide
    refine ⟨⟨0, ht⟩, flush0_2 _, ?_⟩
    show i ∈ ((View.whole main_v2).slice (win0_2.rect ⟨0, ht⟩)).set
    rw [View.set_slice_whole, Rect.mem_set_unit]
    obtain ⟨e0, e1⟩ := index2 ⟨0, ht⟩
    intro a
    match a with
    | ⟨0, _⟩ => show win0_2.index _ 0 * 256 ≤ (i 0).val ∧ (i 0).val < win0_2.index _ 0 * 256 + 256; rw [e0]; omega
    | ⟨1, _⟩ => show win0_2.index _ 1 * 1024 ≤ (i 1).val ∧ (i 1).val < win0_2.index _ 1 * 1024 + 1024; rw [e1]; omega

end Cert.MemKvArray

end
-- ==== Proof.Mix.MemKvDx.lean ====
/- The gradient of the memory from its keys' and values' product, in four blocks of 512 columns. The call is one point. -/
module

public import proofs.«01_k».proof.Proof.Math.Blocks
public import proofs.«01_k».proof.Proof.Gen.MemKvDxIdeal.Value
public import Idealize.ShloMosaic.Lib.Pipeline.ValueKit

@[expose] public section

noncomputable section

namespace Cert.MemKvDxArray

open Idealize.ShloMosaic Idealize.ShloMosaic.TcCoe Idealize.ShloMosaic.Tactic Idealize.SL.Sem
open Cert.MemKvDxIdeal Cert.MemKvDxIdeal.Gen Cert.Attn

variable (m : (ℓ : Loc nD τ sig) → Buf (Elt Ideal) ℓ) (c : Dev nD)

/-- The arguments: the cotangent and the matrix. -/
abbrev A0 : S256x1024.Idx → EReal := m ((c : Thread nD τ).loc main_arg0)
abbrev A1 : S2048x1024.Idx → EReal := m ((c : Thread nD τ).loc main_arg1)

/-- A payload at an index. -/
theorem pay (a : S256x1024.Idx → EReal) (b : S512x1024.Idx → EReal) (p : Fin 256) (q : Fin 512) :
    (k0_pay2 (F := Ideal) a b (ix2 p q) : EReal) = ∑ r : Fin 1024, a (ix2 p r) * b (ix2 q r) := by
  unfold k0_pay2 k0_pay1
  pointwise

/-- What a point leaves is its blocks' product. -/
theorem out_eq (a : S256x1024.Idx → EReal) (b : S2048x1024.Idx → EReal) (p : Fin 256) (q : Fin 2048) :
    (out0_2 (F := Ideal) a b (ix2 p q) : EReal) = ∑ r : Fin 1024, a (ix2 p r) * b (ix2 q r) := by
  unfold out0_2
  canon_tiles x hx
  all_goals
    rw [eq_ix2 x p (x 1) hx0.symm rfl]
    refine (pay _ _ p (x 1)).trans (Finset.sum_congr rfl fun r _ => congrArg₂ (· * ·) ?_ ?_)
    · exact View.ld_unit_apply_of _ _ _ _ _ (ix2 p r) (Fin.forall_fin_two.2 ⟨(Nat.zero_add _).symm, (Nat.zero_add _).symm⟩)
    · exact View.ld_unit_apply_of _ _ _ _ _ (ix2 q r) (Fin.forall_fin_two.2 ⟨by first | exact hx1 | exact hx1.trans (Nat.zero_add _).symm, (Nat.zero_add _).symm⟩)

theorem index0 : ∀ t : Fin cfg0.N, win0_0.index t 0 = 0 ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel

/-- The point's blocks are the arguments, which the host rounds to bfloat16: at the extended reals, not at all. -/
theorem blk0 (t : Fin cfg0.N) : (iblk m c 0 t : S256x1024.Idx → EReal) = A0 m c := by
  funext i
  unfold iblk
  rw [View.read_apply]
  refine (congrArg (A0 m c) (eq_ix2 _ (i 0) (i 1) ?_ ?_)).trans (congrArg (A0 m c) (eq_ix2 i _ _ rfl rfl).symm)
  · show win0_0.index t 0 * 256 + 1 * (i 0).val = (i 0).val; rw [(index0 t).1]; omega
  · show win0_0.index t 1 * 1024 + 1 * (i 1).val = (i 1).val; rw [(index0 t).2]; omega
theorem blk1 (t : Fin cfg0.N) : (iblk m c 1 t : S2048x1024.Idx → EReal) = A1 m c := by
  funext i
  unfold iblk
  rw [View.read_apply]
  refine (congrArg (A1 m c) (eq_ix2 _ (i 0) (i 1) ?_ ?_)).trans (congrArg (A1 m c) (eq_ix2 i _ _ rfl rfl).symm)
  · show win0_1.index t 0 * 2048 + 1 * (i 0).val = (i 0).val; rw [(index1 t).1]; omega
  · show win0_1.index t 1 * 1024 + 1 * (i 1).val = (i 1).val; rw [(index1 t).2]; omega

/-- The block is written at its place, which is everywhere. -/
theorem flushed_eq (t : Fin cfg0.N) :
    (dats m 0 c).flushed 2 t = ((cfg0.win 2).blk t).view.read (Elt Ideal) (mulNT (A0 m c) (A1 m c)) := by
  rw [Value.flushed2]
  funext i
  rw [View.read_apply]
  refine Eq.trans ?_ (cast_eq _ _).symm
  obtain ⟨p, q, rfl⟩ : ∃ (p : Fin 256) (q : Fin 2048), i = ix2 p q := ⟨i 0, i 1, eq_ix2 i _ _ rfl rfl⟩
  refine (congrFun (congrArg₂ (out0_2 (F := Ideal)) (blk0 m c t) (blk1 m c t)) (ix2 p q)).trans ((out_eq _ _ p q).trans ?_)
  have e : ((cfg0.win 2).blk t).view.emb (ix2 p q) = ix2 p q := eq_ix2 _ _ _
    (by show win0_2.index t 0 * 256 + 1 * p.val = p.val; rw [(index2 t).1]; omega)
    (by show win0_2.index t 1 * 2048 + 1 * q.val = q.val; rw [(index2 t).2]; omega)
  exact (congrArg (mulNT (A0 m c) (A1 m c)) e).symm

/-- The result after the run. -/
theorem final : (dats m 0 c).arrAt 2 cfg0.N = mulNT (A0 m c) (A1 m c) :=
  (dats m 0 c).arrAt_eq_of_cover 2 _ (fun t _ => flushed_eq m c t) fun i => by
    have h0 : (i 0).val < 256 := (i 0).isLt
    have h1 : (i 1).val < 2048 := (i 1).isLt
    have ht : 0 < cfg0.N := by decide
    refine ⟨⟨0, ht⟩, flush0_2 _, ?_⟩
    show i ∈ ((View.whole main_v2).slice (win0_2.rect ⟨0, ht⟩)).set
    rw [View.set_slice_whole, Rect.mem_set_unit]
    obtain ⟨e0, e1⟩ := index2 ⟨0, ht⟩
    intro a
    match a with
    | ⟨0, _⟩ => show win0_2.index _ 0 * 256 ≤ (i 0).val ∧ (i 0).val < win0_2.index _ 0 * 256 + 256; rw [e0]; omega
    | ⟨1, _⟩ => show win0_2.index _ 1 * 2048 ≤ (i 1).val ∧ (i 1).val < win0_2.index _ 1 * 2048 + 2048; rw [e1]; omega

end Cert.MemKvDxArray

end
-- ==== Proof.Mix.MemKvDw.lean ====
/- The gradient of the memory's weights: one product of the memory transposed with the cotangent. The call is one point. -/
module

public import proofs.«01_k».proof.Proof.Math.Blocks
public import proofs.«01_k».proof.Proof.Gen.MemKvDwIdeal.Value
public import Idealize.ShloMosaic.Lib.Pipeline.ValueKit

@[expose] public section

noncomputable section

namespace Cert.MemKvDwArray

open Idealize.ShloMosaic Idealize.ShloMosaic.TcCoe Idealize.ShloMosaic.Tactic Idealize.SL.Sem
open Cert.MemKvDwIdeal Cert.MemKvDwIdeal.Gen Cert.Attn

variable (m : (ℓ : Loc nD τ sig) → Buf (Elt Ideal) ℓ) (c : Dev nD)

/-- The arguments: the memory and the cotangent. -/
abbrev A0 : S256x2048.Idx → EReal := m ((c : Thread nD τ).loc main_arg0)
abbrev A1 : S256x1024.Idx → EReal := m ((c : Thread nD τ).loc main_arg1)

theorem hz : (![0, 0] : Fin 2 → Nat) = fun _ => 0 := funext fun a => by fin_cases a <;> rfl

/-- What the point leaves is its blocks' product. -/
theorem out_eq (a : S256x2048.Idx → EReal) (b : S256x1024.Idx → EReal) (p : Fin 2048) (q : Fin 1024) :
    (out0_2 (F := Ideal) a b (ix2 p q) : EReal) = ∑ r : Fin 256, a (ix2 r p) * b (ix2 r q) := by
  unfold out0_2
  rw [View.canon_unit_zero hz]
  simp only [View.ld_unit_zero (S := S256x2048) hz, View.ld_unit_zero (S := S256x1024) hz]
  unfold k0_pay1
  pointwise

theorem index0 : ∀ t : Fin cfg0.N, win0_0.index t 0 = 0 ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = 0 ∧ win0_2.index t 1 = 0 := by decide +kernel

/-- The point's blocks are the arguments, which the host rounds to bfloat16: at the extended reals, not at all. -/
theorem blk0 (t : Fin cfg0.N) : (iblk m c 0 t : S256x2048.Idx → EReal) = A0 m c := by
  funext i
  unfold iblk
  rw [View.read_apply]
  refine (congrArg (A0 m c) (eq_ix2 _ (i 0) (i 1) ?_ ?_)).trans (congrArg (A0 m c) (eq_ix2 i _ _ rfl rfl).symm)
  · show win0_0.index t 0 * 256 + 1 * (i 0).val = (i 0).val; rw [(index0 t).1]; omega
  · show win0_0.index t 1 * 2048 + 1 * (i 1).val = (i 1).val; rw [(index0 t).2]; omega
theorem blk1 (t : Fin cfg0.N) : (iblk m c 1 t : S256x1024.Idx → EReal) = A1 m c := by
  funext i
  unfold iblk
  rw [View.read_apply]
  refine (congrArg (A1 m c) (eq_ix2 _ (i 0) (i 1) ?_ ?_)).trans (congrArg (A1 m c) (eq_ix2 i _ _ rfl rfl).symm)
  · show win0_1.index t 0 * 256 + 1 * (i 0).val = (i 0).val; rw [(index1 t).1]; omega
  · show win0_1.index t 1 * 1024 + 1 * (i 1).val = (i 1).val; rw [(index1 t).2]; omega

/-- The block is written at its place, which is everywhere. -/
theorem flushed_eq (t : Fin cfg0.N) :
    (dats m 0 c).flushed 2 t = ((cfg0.win 2).blk t).view.read (Elt Ideal) (mulTN (A0 m c) (A1 m c)) := by
  rw [Value.flushed2]
  funext i
  rw [View.read_apply]
  refine Eq.trans ?_ (cast_eq _ _).symm
  obtain ⟨p, q, rfl⟩ : ∃ (p : Fin 2048) (q : Fin 1024), i = ix2 p q := ⟨i 0, i 1, eq_ix2 i _ _ rfl rfl⟩
  refine (congrFun (congrArg₂ (out0_2 (F := Ideal)) (blk0 m c t) (blk1 m c t)) (ix2 p q)).trans ((out_eq _ _ p q).trans ?_)
  have e : ((cfg0.win 2).blk t).view.emb (ix2 p q) = ix2 p q := eq_ix2 _ _ _
    (by show win0_2.index t 0 * 2048 + 1 * p.val = p.val; rw [(index2 t).1]; omega)
    (by show win0_2.index t 1 * 1024 + 1 * q.val = q.val; rw [(index2 t).2]; omega)
  exact (congrArg (mulTN (A0 m c) (A1 m c)) e).symm

/-- The result after the run. -/
theorem final : (dats m 0 c).arrAt 2 cfg0.N = mulTN (A0 m c) (A1 m c) :=
  (dats m 0 c).arrAt_eq_of_cover 2 _ (fun t _ => flushed_eq m c t) fun i => by
    have h0 : (i 0).val < 2048 := (i 0).isLt
    have h1 : (i 1).val < 1024 := (i 1).isLt
    have ht : 0 < cfg0.N := by decide
    refine ⟨⟨0, ht⟩, flush0_2 _, ?_⟩
    show i ∈ ((View.whole main_v2).slice (win0_2.rect ⟨0, ht⟩)).set
    rw [View.set_slice_whole, Rect.mem_set_unit]
    obtain ⟨e0, e1⟩ := index2 ⟨0, ht⟩
    intro a
    match a with
    | ⟨0, _⟩ => show win0_2.index _ 0 * 2048 ≤ (i 0).val ∧ (i 0).val < win0_2.index _ 0 * 2048 + 2048; rw [e0]; omega
    | ⟨1, _⟩ => show win0_2.index _ 1 * 1024 ≤ (i 1).val ∧ (i 1).val < win0_2.index _ 1 * 1024 + 1024; rw [e1]; omega

end Cert.MemKvDwArray

end
-- ==== Proof.Mix.Claims.lean ====
/- The other products with the weights: each kernel's result is its reference's, whatever the arguments. -/
module

public import proofs.«01_k».proof.Defs
public import proofs.«01_k».proof.Proof.Mix.MixOut
public import proofs.«01_k».proof.Proof.Mix.MixOutDx
public import proofs.«01_k».proof.Proof.Mix.MixOutDw
public import proofs.«01_k».proof.Proof.Mix.DilInDx
public import proofs.«01_k».proof.Proof.Mix.RecIn
public import proofs.«01_k».proof.Proof.Mix.RecInDx
public import proofs.«01_k».proof.Proof.Mix.RecInDw
public import proofs.«01_k».proof.Proof.Mix.KvProj
public import proofs.«01_k».proof.Proof.Mix.KvProjDx
public import proofs.«01_k».proof.Proof.Mix.KvProjDw
public import proofs.«01_k».proof.Proof.Mix.MemKv
public import proofs.«01_k».proof.Proof.Mix.MemKvDx
public import proofs.«01_k».proof.Proof.Mix.MemKvDw
public import proofs.«01_k».proof.Proof.Gen.MixOutRefIdeal.Read
public import proofs.«01_k».proof.Proof.Gen.MemKvRefIdeal.Read
public import proofs.«01_k».proof.Proof.Gen.MemKvDxRefIdeal.Read
public import proofs.«01_k».proof.Proof.Gen.MemKvDwRefIdeal.Read
public import proofs.«01_k».proof.Proof.Gen.MixOutDxRefIdeal.Read
public import proofs.«01_k».proof.Proof.Gen.MixOutDwRefIdeal.Read
public import proofs.«01_k».proof.Proof.Gen.DilInDxRefIdeal.Read
public import proofs.«01_k».proof.Proof.Gen.RecInRefIdeal.Read
public import proofs.«01_k».proof.Proof.Gen.RecInDxRefIdeal.Read
public import proofs.«01_k».proof.Proof.Gen.RecInDwRefIdeal.Read
public import proofs.«01_k».proof.Proof.Gen.KvProjRefIdeal.Read
public import proofs.«01_k».proof.Proof.Gen.KvProjDxRefIdeal.Read
public import proofs.«01_k».proof.Proof.Gen.KvProjDwRefIdeal.Read

@[expose] public section

noncomputable section

namespace Cert.MixClaims

open Idealize.ShloMosaic Idealize.SL.Sem Idealize.ShloMosaic.TcCoe Cert.Attn

/-- An array of the shape of a matrix. -/
abbrev Mat (A B : ℕ) : Type := (⟨2, ![A, B]⟩ : Shape).Idx → EReal

/-- The references are the products. -/
theorem mix_out_ref (x : Mat 8192 2048) (w : Mat 2048 2048) : (MixOutRefIdeal.Read.val_main_v0 (F := Ideal) x w : _ → EReal) = mulNN x w := by
  funext i
  rw [MixOutRefIdeal.Read.val_main_v0_apply]
  exact Finset.sum_congr rfl fun r _ => congrArg₂ (· * ·) (congrArg x (eq_ix2 _ _ _ rfl rfl)) (congrArg w (eq_ix2 _ _ _ rfl rfl))
theorem rec_in_ref (x : Mat 8192 2048) (w : Mat 2048 3584) : (RecInRefIdeal.Read.val_main_v0 (F := Ideal) x w : _ → EReal) = mulNN x w := by
  funext i
  rw [RecInRefIdeal.Read.val_main_v0_apply]
  exact Finset.sum_congr rfl fun r _ => congrArg₂ (· * ·) (congrArg x (eq_ix2 _ _ _ rfl rfl)) (congrArg w (eq_ix2 _ _ _ rfl rfl))
theorem kv_proj_ref (x : Mat 8192 2048) (w : Mat 2048 3072) : (KvProjRefIdeal.Read.val_main_v1 (F := Ideal) x w : _ → EReal) = mulNN x w := by
  funext i
  refine (KvProjRefIdeal.Read.val_main_v0_apply x w i).trans ?_
  exact Finset.sum_congr rfl fun r _ => congrArg₂ (· * ·) (congrArg x (eq_ix2 _ _ _ rfl rfl)) (congrArg w (eq_ix2 _ _ _ rfl rfl))

/-- The inputs' gradients are the products with the matrix transposed. -/
theorem mix_out_dx_ref (g : Mat 8192 2048) (w : Mat 2048 2048) : (MixOutDxRefIdeal.Read.val_main_v2 (F := Ideal) g w : _ → EReal) = mulNT g w := by
  funext i
  rw [MixOutDxRefIdeal.Read.val_main_v2_apply]
  exact Finset.sum_congr rfl fun r _ => congrArg₂ (· * ·) (congrArg g (eq_ix2 _ _ _ rfl rfl)) (congrArg w (eq_ix2 _ _ _ rfl rfl))
theorem dil_in_dx_ref (g : Mat 8192 2048) (w : Mat 2048 2048) : (DilInDxRefIdeal.Read.val_main_v3 (F := Ideal) g w : _ → EReal) = mulNT g w := by
  funext i
  refine (DilInDxRefIdeal.Read.val_main_v2_apply g w i).trans ?_
  exact Finset.sum_congr rfl fun r _ => congrArg₂ (· * ·) (congrArg g (eq_ix2 _ _ _ rfl rfl)) (congrArg w (eq_ix2 _ _ _ rfl rfl))
theorem rec_in_dx_ref (g : Mat 8192 3584) (w : Mat 2048 3584) : (RecInDxRefIdeal.Read.val_main_v3 (F := Ideal) g w : _ → EReal) = mulNT g w := by
  funext i
  refine (RecInDxRefIdeal.Read.val_main_v2_apply g w i).trans ?_
  exact Finset.sum_congr rfl fun r _ => congrArg₂ (· * ·) (congrArg g (eq_ix2 _ _ _ rfl rfl)) (congrArg w (eq_ix2 _ _ _ rfl rfl))
theorem kv_proj_dx_ref (g : Mat 8192 3072) (w : Mat 2048 3072) : (KvProjDxRefIdeal.Read.val_main_v3 (F := Ideal) g w : _ → EReal) = mulNT g w := by
  funext i
  refine (KvProjDxRefIdeal.Read.val_main_v2_apply g w i).trans ?_
  exact Finset.sum_congr rfl fun r _ => congrArg₂ (· * ·) (congrArg g (eq_ix2 _ _ _ rfl rfl)) (congrArg w (eq_ix2 _ _ _ rfl rfl))

/-- The matrices' gradients are the products of the inputs transposed with the cotangent, held in four blocks of columns where
    the matrix is. -/
theorem mix_out_dw_ref (x g : Mat 8192 2048) : (MixOutDwRefIdeal.Read.val_main_v4 (F := Ideal) x g : _ → EReal) = mulTN x g := by
  funext i
  refine (MixOutDwRefIdeal.Read.val_main_v3_apply (F := Ideal) x g i).trans ?_
  rw [MixOutDwRefIdeal.Read.val_main_v2_apply]
  refine Finset.sum_congr rfl fun r _ => (mul_comm _ _).trans ?_
  exact congrArg₂ (· * ·) (congrArg x (eq_ix2 _ _ _ rfl rfl)) (congrArg g (eq_ix2 _ _ _ rfl rfl))
theorem rec_in_dw_ref (x : Mat 8192 2048) (g : Mat 8192 3584) :
    (RecInDwRefIdeal.Read.val_main_v6 (F := Ideal) x g : _ → EReal) = fourBlocks (B := 896) (N := 3584) rfl (mulTN x g) := by
  funext i
  have h0 : (i 0).val < 4 := (i 0).isLt
  have h1 : (i 1).val < 2048 := (i 1).isLt
  have h2 : (i 2).val < 896 := (i 2).isLt
  rw [RecInDwRefIdeal.Read.val_main_v6_apply, RecInDwRefIdeal.Read.val_main_v5_apply, RecInDwRefIdeal.Read.val_main_v4_apply, RecInDwRefIdeal.Read.val_main_v3_apply,
    RecInDwRefIdeal.Read.val_main_v2_apply, fourBlocks_mulTN _ x g i (i 1) ⟨896 * (i 0).val + (i 2).val, by omega⟩ rfl rfl]
  refine Finset.sum_congr rfl fun r _ => (mul_comm _ _).trans ?_
  refine congrArg₂ (· * ·) (congrArg x (eq_ix2 _ _ _ rfl ?_)) (congrArg g (eq_ix2 _ _ _ rfl ?_))
  · show (((i 1).val * 4 + (i 0).val) * 896 + (i 2).val) / 3584 = (i 1).val; omega
  · show (((i 1).val * 4 + (i 0).val) * 896 + (i 2).val) % 3584 = 896 * (i 0).val + (i 2).val; omega
theorem kv_proj_dw_ref (x : Mat 8192 2048) (g : Mat 8192 3072) :
    (KvProjDwRefIdeal.Read.val_main_v6 (F := Ideal) x g : _ → EReal) = fourBlocks (B := 768) (N := 3072) rfl (mulTN x g) := by
  funext i
  have h0 : (i 0).val < 4 := (i 0).isLt
  have h1 : (i 1).val < 2048 := (i 1).isLt
  have h2 : (i 2).val < 768 := (i 2).isLt
  rw [KvProjDwRefIdeal.Read.val_main_v6_apply, KvProjDwRefIdeal.Read.val_main_v5_apply, KvProjDwRefIdeal.Read.val_main_v4_apply, KvProjDwRefIdeal.Read.val_main_v3_apply,
    KvProjDwRefIdeal.Read.val_main_v2_apply, fourBlocks_mulTN _ x g i (i 1) ⟨768 * (i 0).val + (i 2).val, by omega⟩ rfl rfl]
  refine Finset.sum_congr rfl fun r _ => (mul_comm _ _).trans ?_
  refine congrArg₂ (· * ·) (congrArg x (eq_ix2 _ _ _ rfl ?_)) (congrArg g (eq_ix2 _ _ _ rfl ?_))
  · show (((i 1).val * 4 + (i 0).val) * 768 + (i 2).val) / 3072 = (i 1).val; omega
  · show (((i 1).val * 4 + (i 0).val) * 768 + (i 2).val) % 3072 = 768 * (i 0).val + (i 2).val; omega

/-- The memory's products, likewise. -/
theorem mem_kv_ref (x : Mat 256 2048) (w : Mat 2048 1024) : (MemKvRefIdeal.Read.val_main_v1 (F := Ideal) x w : _ → EReal) = mulNN x w := by
  funext i
  refine (MemKvRefIdeal.Read.val_main_v0_apply x w i).trans ?_
  exact Finset.sum_congr rfl fun r _ => congrArg₂ (· * ·) (congrArg x (eq_ix2 _ _ _ rfl rfl)) (congrArg w (eq_ix2 _ _ _ rfl rfl))
theorem mem_kv_dx_ref (g : Mat 256 1024) (w : Mat 2048 1024) : (MemKvDxRefIdeal.Read.val_main_v2 (F := Ideal) g w : _ → EReal) = mulNT g w := by
  funext i
  rw [MemKvDxRefIdeal.Read.val_main_v2_apply]
  exact Finset.sum_congr rfl fun r _ => congrArg₂ (· * ·) (congrArg g (eq_ix2 _ _ _ rfl rfl)) (congrArg w (eq_ix2 _ _ _ rfl rfl))
theorem mem_kv_dw_ref (x : Mat 256 2048) (g : Mat 256 1024) : (MemKvDwRefIdeal.Read.val_main_v4 (F := Ideal) x g : _ → EReal) = mulTN x g := by
  funext i
  refine (MemKvDwRefIdeal.Read.val_main_v3_apply (F := Ideal) x g i).trans ?_
  rw [MemKvDwRefIdeal.Read.val_main_v2_apply]
  refine Finset.sum_congr rfl fun r _ => (mul_comm _ _).trans ?_
  exact congrArg₂ (· * ·) (congrArg x (eq_ix2 _ _ _ rfl rfl)) (congrArg g (eq_ix2 _ _ _ rfl rfl))

theorem mix_out : Cert.algebraic_MixOutIdeal_MixOutRefIdeal := by
  intro m ρ m' ρ' _ hag
  refine ⟨fun c => mulNN (MixOutArray.A0 m c) (MixOutArray.A1 m c),
    (θ_run _ _ _).mono (fun _ h c => ?_) (MixOutIdeal.Value.run_blocks m ρ),
    (θ_run _ _ _).mono (fun _ h c => ?_) (MixOutRefIdeal.Value.run m' ρ')⟩
  · exact ⟨(h c).1.trans (MixOutArray.final m c), (h c).2⟩
  · obtain ⟨e0, e1⟩ := hag c
    refine ⟨(h c).1.trans ?_, (h c).2⟩
    rw [MixOutRefIdeal.Read.val_main_v0_eq, e0, e1]; exact mix_out_ref _ _

theorem mix_out_dx : Cert.algebraic_MixOutDxIdeal_MixOutDxRefIdeal := by
  intro m ρ m' ρ' _ hag
  refine ⟨fun c => mulNT (MixOutDxArray.A0 m c) (MixOutDxArray.A1 m c),
    (θ_run _ _ _).mono (fun _ h c => ?_) (MixOutDxIdeal.Value.run_blocks m ρ),
    (θ_run _ _ _).mono (fun _ h c => ?_) (MixOutDxRefIdeal.Value.run m' ρ')⟩
  · exact ⟨(h c).1.trans (MixOutDxArray.final m c), (h c).2⟩
  · obtain ⟨e0, e1⟩ := hag c
    refine ⟨(h c).1.trans ?_, (h c).2⟩
    rw [MixOutDxRefIdeal.Read.val_main_v2_eq, e0, e1]; exact mix_out_dx_ref _ _

theorem mix_out_dw : Cert.algebraic_MixOutDwIdeal_MixOutDwRefIdeal := by
  intro m ρ m' ρ' _ hag
  refine ⟨fun c => mulTN (MixOutDwArray.A0 m c) (MixOutDwArray.A1 m c),
    (θ_run _ _ _).mono (fun _ h c => ?_) (MixOutDwIdeal.Value.run_blocks m ρ),
    (θ_run _ _ _).mono (fun _ h c => ?_) (MixOutDwRefIdeal.Value.run m' ρ')⟩
  · exact ⟨(h c).1.trans (MixOutDwArray.final m c), (h c).2⟩
  · obtain ⟨e0, e1⟩ := hag c
    refine ⟨(h c).1.trans ?_, (h c).2⟩
    rw [MixOutDwRefIdeal.Read.val_main_v4_eq, e0, e1]; exact mix_out_dw_ref _ _

theorem dil_in_dx : Cert.algebraic_DilInDxIdeal_DilInDxRefIdeal := by
  intro m ρ m' ρ' _ hag
  refine ⟨fun c => mulNT (DilInDxArray.A0 m c) (DilInDxArray.A1 m c),
    (θ_run _ _ _).mono (fun _ h c => ?_) (DilInDxIdeal.Value.run_blocks m ρ),
    (θ_run _ _ _).mono (fun _ h c => ?_) (DilInDxRefIdeal.Value.run m' ρ')⟩
  · exact ⟨(h c).1.trans (DilInDxArray.final m c), (h c).2⟩
  · obtain ⟨e0, e1⟩ := hag c
    refine ⟨(h c).1.trans ?_, (h c).2⟩
    rw [DilInDxRefIdeal.Read.val_main_v3_eq, e0, e1]; exact dil_in_dx_ref _ _

theorem rec_in : Cert.algebraic_RecInIdeal_RecInRefIdeal := by
  intro m ρ m' ρ' _ hag
  refine ⟨fun c => mulNN (RecInArray.A0 m c) (RecInArray.A1 m c),
    (θ_run _ _ _).mono (fun _ h c => ?_) (RecInIdeal.Value.run_blocks m ρ),
    (θ_run _ _ _).mono (fun _ h c => ?_) (RecInRefIdeal.Value.run m' ρ')⟩
  · exact ⟨(h c).1.trans (RecInArray.final m c), (h c).2⟩
  · obtain ⟨e0, e1⟩ := hag c
    refine ⟨(h c).1.trans ?_, (h c).2⟩
    rw [RecInRefIdeal.Read.val_main_v0_eq, e0, e1]; exact rec_in_ref _ _

theorem rec_in_dx : Cert.algebraic_RecInDxIdeal_RecInDxRefIdeal := by
  intro m ρ m' ρ' _ hag
  refine ⟨fun c => mulNT (RecInDxArray.A0 m c) (RecInDxArray.A1 m c),
    (θ_run _ _ _).mono (fun _ h c => ?_) (RecInDxIdeal.Value.run_blocks m ρ),
    (θ_run _ _ _).mono (fun _ h c => ?_) (RecInDxRefIdeal.Value.run m' ρ')⟩
  · exact ⟨(h c).1.trans (RecInDxArray.final m c), (h c).2⟩
  · obtain ⟨e0, e1⟩ := hag c
    refine ⟨(h c).1.trans ?_, (h c).2⟩
    rw [RecInDxRefIdeal.Read.val_main_v3_eq, e0, e1]; exact rec_in_dx_ref _ _

theorem rec_in_dw : Cert.algebraic_RecInDwIdeal_RecInDwRefIdeal := by
  intro m ρ m' ρ' _ hag
  refine ⟨fun c => fourBlocks (B := 896) (N := 3584) rfl (mulTN (RecInDwArray.A0 m c) (RecInDwArray.A1 m c)),
    (θ_run _ _ _).mono (fun _ h c => ?_) (RecInDwIdeal.Value.run_blocks m ρ),
    (θ_run _ _ _).mono (fun _ h c => ?_) (RecInDwRefIdeal.Value.run m' ρ')⟩
  · exact ⟨(h c).1.trans (RecInDwArray.final m c), (h c).2⟩
  · obtain ⟨e0, e1⟩ := hag c
    refine ⟨(h c).1.trans ?_, (h c).2⟩
    rw [RecInDwRefIdeal.Read.val_main_v6_eq, e0, e1]; exact rec_in_dw_ref _ _

theorem kv_proj : Cert.algebraic_KvProjIdeal_KvProjRefIdeal := by
  intro m ρ m' ρ' _ hag
  refine ⟨fun c => mulNN (KvProjArray.A0 m c) (KvProjArray.A1 m c),
    (θ_run _ _ _).mono (fun _ h c => ?_) (KvProjIdeal.Value.run_blocks m ρ),
    (θ_run _ _ _).mono (fun _ h c => ?_) (KvProjRefIdeal.Value.run m' ρ')⟩
  · exact ⟨(h c).1.trans (KvProjArray.final m c), (h c).2⟩
  · obtain ⟨e0, e1⟩ := hag c
    refine ⟨(h c).1.trans ?_, (h c).2⟩
    rw [KvProjRefIdeal.Read.val_main_v1_eq, e0, e1]; exact kv_proj_ref _ _

theorem kv_proj_dx : Cert.algebraic_KvProjDxIdeal_KvProjDxRefIdeal := by
  intro m ρ m' ρ' _ hag
  refine ⟨fun c => mulNT (KvProjDxArray.A0 m c) (KvProjDxArray.A1 m c),
    (θ_run _ _ _).mono (fun _ h c => ?_) (KvProjDxIdeal.Value.run_blocks m ρ),
    (θ_run _ _ _).mono (fun _ h c => ?_) (KvProjDxRefIdeal.Value.run m' ρ')⟩
  · exact ⟨(h c).1.trans (KvProjDxArray.final m c), (h c).2⟩
  · obtain ⟨e0, e1⟩ := hag c
    refine ⟨(h c).1.trans ?_, (h c).2⟩
    rw [KvProjDxRefIdeal.Read.val_main_v3_eq, e0, e1]; exact kv_proj_dx_ref _ _

theorem kv_proj_dw : Cert.algebraic_KvProjDwIdeal_KvProjDwRefIdeal := by
  intro m ρ m' ρ' _ hag
  refine ⟨fun c => fourBlocks (B := 768) (N := 3072) rfl (mulTN (KvProjDwArray.A0 m c) (KvProjDwArray.A1 m c)),
    (θ_run _ _ _).mono (fun _ h c => ?_) (KvProjDwIdeal.Value.run_blocks m ρ),
    (θ_run _ _ _).mono (fun _ h c => ?_) (KvProjDwRefIdeal.Value.run m' ρ')⟩
  · exact ⟨(h c).1.trans (KvProjDwArray.final m c), (h c).2⟩
  · obtain ⟨e0, e1⟩ := hag c
    refine ⟨(h c).1.trans ?_, (h c).2⟩
    rw [KvProjDwRefIdeal.Read.val_main_v6_eq, e0, e1]; exact kv_proj_dw_ref _ _

theorem mem_kv : Cert.algebraic_MemKvIdeal_MemKvRefIdeal := by
  intro m ρ m' ρ' _ hag
  refine ⟨fun c => mulNN (MemKvArray.A0 m c) (MemKvArray.A1 m c),
    (θ_run _ _ _).mono (fun _ h c => ?_) (MemKvIdeal.Value.run_blocks m ρ),
    (θ_run _ _ _).mono (fun _ h c => ?_) (MemKvRefIdeal.Value.run m' ρ')⟩
  · exact ⟨(h c).1.trans (MemKvArray.final m c), (h c).2⟩
  · obtain ⟨e0, e1⟩ := hag c
    refine ⟨(h c).1.trans ?_, (h c).2⟩
    rw [MemKvRefIdeal.Read.val_main_v1_eq, e0, e1]; exact mem_kv_ref _ _

theorem mem_kv_dx : Cert.algebraic_MemKvDxIdeal_MemKvDxRefIdeal := by
  intro m ρ m' ρ' _ hag
  refine ⟨fun c => mulNT (MemKvDxArray.A0 m c) (MemKvDxArray.A1 m c),
    (θ_run _ _ _).mono (fun _ h c => ?_) (MemKvDxIdeal.Value.run_blocks m ρ),
    (θ_run _ _ _).mono (fun _ h c => ?_) (MemKvDxRefIdeal.Value.run m' ρ')⟩
  · exact ⟨(h c).1.trans (MemKvDxArray.final m c), (h c).2⟩
  · obtain ⟨e0, e1⟩ := hag c
    refine ⟨(h c).1.trans ?_, (h c).2⟩
    rw [MemKvDxRefIdeal.Read.val_main_v2_eq, e0, e1]; exact mem_kv_dx_ref _ _

theorem mem_kv_dw : Cert.algebraic_MemKvDwIdeal_MemKvDwRefIdeal := by
  intro m ρ m' ρ' _ hag
  refine ⟨fun c => mulTN (MemKvDwArray.A0 m c) (MemKvDwArray.A1 m c),
    (θ_run _ _ _).mono (fun _ h c => ?_) (MemKvDwIdeal.Value.run_blocks m ρ),
    (θ_run _ _ _).mono (fun _ h c => ?_) (MemKvDwRefIdeal.Value.run m' ρ')⟩
  · exact ⟨(h c).1.trans (MemKvDwArray.final m c), (h c).2⟩
  · obtain ⟨e0, e1⟩ := hag c
    refine ⟨(h c).1.trans ?_, (h c).2⟩
    rw [MemKvDwRefIdeal.Read.val_main_v4_eq, e0, e1]; exact mem_kv_dw_ref _ _

end Cert.MixClaims

end
-- ==== Proof.Mem.FwdBlock.lean ====
/- What the memory attention's forward call computes: each head's softmax weights times its values. A block of 512 queries
   computes its own rows, its four heads side by side. -/
module

public import proofs.«01_k».proof.Proof.Mem.Spec
public import proofs.«01_k».proof.Proof.Gen.RecMemIdeal.Value

@[expose] public section

noncomputable section

namespace Cert.MemFwd

open Idealize.ShloMosaic Cert.Attn

/-- The output of one head. -/
def att {R n : ℕ} (Q : Fin R → Fin 128 → EReal) (K V : Fin n → Fin 128 → EReal) (r : Fin R) (d : Fin 128) : EReal :=
  ∑ k, prob (score Q K r) k * V k d

/-- The outputs of all heads, at the heads' queries `q` and the memory's keys and values `a1`. -/
def outs {R : ℕ} (q : Fin 4 → Fin R → Fin 128 → EReal) (a1 : (⟨2, ![256, 1024]⟩ : Shape).Idx → EReal) :
    (⟨2, ![R, 512]⟩ : Shape).Idx → EReal := joinHeads fun h => att (q h) (MemSpec.K a1 h) (MemSpec.V a1 h)

end Cert.MemFwd

namespace Cert.MemFwdBlock

open Idealize.ShloMosaic Cert.RecMemIdeal Cert.RecMemIdeal.Gen Cert.Attn Cert.MemFwd

variable (x0 : Vec Ideal S512x512 .f32) (x1 : Vec Ideal S256x1024 .bf16)

/-- The heads of a block's queries. -/
abbrev hQ (h : Fin 4) := cols x0 (128 * h.val) (by omega)

theorem hz : (![0, 0] : Fin 2 → Nat) = fun _ => 0 := funext fun a => by fin_cases a <;> rfl

/-- The weights before normalization of heads 0 to 2, and the exponents of head 3. -/
theorem ex0 (r : Fin 512) (k : Fin 256) : k0_pay4 (F := Ideal) x0 x1 (ix2 r k) = ex (score (hQ x0 0) (MemSpec.K x1 0) r) k := by
  unfold k0_pay4 k0_pay2 k0_pay3
  pointwise [ofBits_neg_inf]
  simp only [ex, rowMax, score, scl, hQ, MemSpec.K, cols]
  rfl
theorem ex1 (r : Fin 512) (k : Fin 256) : k0_pay5 (F := Ideal) x0 x1 (ix2 r k) = ex (score (hQ x0 1) (MemSpec.K x1 1) r) k := by
  unfold k0_pay5 k0_pay2 k0_pay3
  pointwise [ofBits_neg_inf]
  rfl
theorem ex2 (r : Fin 512) (k : Fin 256) : k0_pay6 (F := Ideal) x0 x1 (ix2 r k) = ex (score (hQ x0 2) (MemSpec.K x1 2) r) k := by
  unfold k0_pay6 k0_pay2 k0_pay3
  pointwise [ofBits_neg_inf]
  rfl
theorem ex3 (r : Fin 512) (k : Fin 256) :
    Ideal.exp (k0_pay7 (F := Ideal) x0 x1 (ix2 r k)) = ex (score (hQ x0 3) (MemSpec.K x1 3) r) k := by
  unfold k0_pay7 k0_pay2 k0_pay3
  pointwise [ofBits_neg_inf]
  rfl
theorem kv_apply (i : Fin 256) (j : Fin 1024) : k0_pay3 (F := Ideal) x1 (ix2 i j) = x1 (ix2 i j) := by
  unfold k0_pay3
  pointwise

/-- The block's result. -/
def blockOut : Vec Ideal S512x512 .bf16 :=
  k0_pay1 (F := Ideal) (k0_pay3 x1) (k0_pay4 x0 x1) (k0_pay5 x0 x1) (k0_pay6 x0 x1) (k0_pay7 x0 x1)

theorem blockOut_apply (r : Fin 512) (h : Fin 4) (d : Fin 128) :
    blockOut x0 x1 (ix2 r ⟨128 * h.val + d.val, by omega⟩) = att (hQ x0 h) (MemSpec.K x1 h) (MemSpec.V x1 h) r d := by
  have hd := d.isLt
  unfold att
  match h with
  | 0 =>
    unfold blockOut k0_pay1
    pointwise [ex0, kv_apply]
    simp only [prob, den, MemSpec.V, cols, Fin.val_zero, Nat.mul_zero, Nat.zero_add, Nat.add_zero]
  | 1 =>
    unfold blockOut k0_pay1
    pointwise [ex1, kv_apply]
    rfl
  | 2 =>
    unfold blockOut k0_pay1
    pointwise
    iterate 2 rw [dif_neg (by omega)]
    rw [dif_pos (by omega)]
    have e : 256 + d.val - 128 - 128 = d.val := by omega
    simp only [e]
    pointwise [ex2, kv_apply]
    rfl
  | 3 =>
    unfold blockOut k0_pay1
    pointwise
    iterate 3 rw [dif_neg (by omega)]
    have e : 384 + d.val - 128 - 128 - 128 = d.val := by omega
    simp only [e]
    pointwise [ex3, kv_apply]
    rfl

/-- A point leaves its block's outputs. -/
theorem out_eq : (out0_2 (F := Ideal) x0 x1 : S512x512.Idx → EReal) = outs (hQ x0) x1 := by
  refine Eq.trans ?_ (eq_joinHeads (R := 512) (blockOut x0 x1) _ (blockOut_apply x0 x1))
  unfold out0_2
  rw [View.canon_unit_zero hz]
  simp only [View.ld_unit_zero (S := S512x512) hz, View.ld_unit_zero (S := S256x1024) hz]
  rfl

end Cert.MemFwdBlock

end
-- ==== Proof.Mem.FwdRef.lean ====
/- The memory attention's reference, forward: the softmax of the scores times the values. The dilated layers' reference is the
   recurrent layers' one at the same queries. -/
module

public import proofs.«01_k».proof.Proof.Mem.FwdBlock
public import proofs.«01_k».proof.Proof.Gen.RecMemRefIdeal.Read
public import proofs.«01_k».proof.Proof.Gen.DilMemRefIdeal.Read

@[expose] public section

noncomputable section

namespace Cert.MemFwdRef

open Idealize.ShloMosaic Cert.RecMemRefIdeal Cert.RecMemRefIdeal.Gen Cert.RecMemRefIdeal.Read Cert.Attn Cert.MemFwd

variable (x0 : S8192x3584.Idx → EReal) (x1 : S256x1024.Idx → EReal)

abbrev Q (h : Fin 4) := MemSpec.Q x0 h
abbrev K (h : Fin 4) := MemSpec.K x1 h
abbrev V (h : Fin 4) := MemSpec.V x1 h

theorem q_apply (r : Fin 8192) (h : Fin 4) (d : Fin 128) : val_main_v3 (F := Ideal) x0 (ix3 r h d) = Q x0 h r d := by
  unfold val_main_v3 val_main_v0
  pointwise
  exact congrArg x0 (congrArg (ix2 _) (Fin.ext (by show 3072 + (h.val * 128 + d.val) = 3072 + 128 * h.val + d.val; omega)))
theorem k_apply (k : Fin 256) (h : Fin 4) (d : Fin 128) : val_main_v4 (F := Ideal) x1 (ix3 k h d) = K x1 h k d := by
  unfold val_main_v4 val_main_v1
  pointwise
  exact congrArg x1 (congrArg (ix2 _) (Fin.ext (by show h.val * 128 + d.val = 128 * h.val + d.val; omega)))
theorem v_apply (k : Fin 256) (h : Fin 4) (d : Fin 128) : val_main_v5 (F := Ideal) x1 (ix3 k h d) = V x1 h k d := by
  unfold val_main_v5 val_main_v2
  pointwise
  exact congrArg x1 (congrArg (ix2 _) (Fin.ext (by show 512 + (h.val * 128 + d.val) = 512 + 128 * h.val + d.val; omega)))

/-- The scores, their maximum, the exponentials and their sum, the softmax, the outputs. -/
theorem score_apply (h : Fin 4) (r : Fin 8192) (k : Fin 256) :
    val_main_v8 (F := Ideal) x0 x1 (ix3 h r k) = score (Q x0 h) (K x1 h) r k := by
  unfold val_main_v8 val_main_v7 val_main_v6 val_main_cst
  pointwise [q_apply, k_apply]
  rfl
theorem fold_apply (h : Fin 4) (r : Fin 8192) :
    val_main_v9 (F := Ideal) x0 x1 (ix2 h r)
      = Finset.univ.fold max (Ideal.ofBits .f32 0xFF800000#32) fun k => val_main_v8 (F := Ideal) x0 x1 (ix3 h r k) := by
  unfold val_main_v9 val_main_cst_0
  pointwise
theorem max_eq_fold (h : Fin 4) (r : Fin 8192) :
    val_main_v11 (F := Ideal) x0 x1 (ix2 h r) = max (Ideal.ofBits .f32 0xFF800000#32) (val_main_v9 (F := Ideal) x0 x1 (ix2 h r)) := by
  rw [val_main_v11_apply, val_main_v10_apply, val_main_cst_1_apply]
  generalize val_main_v9 (F := Ideal) x0 x1 (ix2 h r) = y
  rfl
theorem max_apply (h : Fin 4) (r : Fin 8192) :
    val_main_v11 (F := Ideal) x0 x1 (ix2 h r) = rowMax (score (Q x0 h) (K x1 h) r) := by
  have e : (fun k => val_main_v8 (F := Ideal) x0 x1 (ix3 h r k)) = score (Q x0 h) (K x1 h) r := funext fun k => score_apply x0 x1 h r k
  rw [max_eq_fold, fold_apply, e, ofBits_neg_inf, max_eq_right bot_le]
  rfl
theorem ex_apply (h : Fin 4) (r : Fin 8192) (k : Fin 256) :
    val_main_v15 (F := Ideal) x0 x1 (ix3 h r k) = ex (score (Q x0 h) (K x1 h) r) k := by
  unfold val_main_v15 val_main_v14 val_main_v13 val_main_v12
  pointwise [score_apply, max_apply]
  rfl
theorem den_apply (h : Fin 4) (r : Fin 8192) :
    val_main_v16 (F := Ideal) x0 x1 (ix2 h r) = den (score (Q x0 h) (K x1 h) r) := by
  unfold val_main_v16 val_main_cst_2
  pointwise [ex_apply, ofBits_zero]
  rfl
theorem prob_apply (h : Fin 4) (r : Fin 8192) (k : Fin 256) :
    val_main_v19 (F := Ideal) x0 x1 (ix3 h r k) = prob (score (Q x0 h) (K x1 h) r) k := by
  unfold val_main_v19 val_main_v18 val_main_v17
  pointwise [ex_apply, den_apply]
  rfl
theorem out_apply (r : Fin 8192) (h : Fin 4) (d : Fin 128) :
    val_main_v23 (F := Ideal) x0 x1 (ix2 r ⟨128 * h.val + d.val, by omega⟩) = att (Q x0 h) (K x1 h) (V x1 h) r d := by
  unfold val_main_v23 val_main_v22 val_main_v21 val_main_v20
  pointwise [v_apply, prob_apply]
  exact Finset.sum_congr rfl fun k _ => mul_comm _ _
theorem rec_ref : (val_main_v23 (F := Ideal) x0 x1 : _ → EReal) = outs (Q x0) x1 :=
  eq_joinHeads (R := 8192) _ _ (out_apply x0 x1)

/-- The queries of a dilated layer's projections. -/
abbrev dilQ (y : (⟨2, ![8192, 2048]⟩ : Shape).Idx → EReal) (h : Fin 4) := cols y (1536 + 128 * h.val) (by omega)

/-- The dilated layers' projections as the recurrent layers', with the queries where those are. -/
def shift (y : (⟨2, ![8192, 2048]⟩ : Shape).Idx → EReal) : S8192x3584.Idx → EReal :=
  fun i => y (ix2 (i 0) ⟨(i 1).val - 1536, by have h : (i 1).val < 3584 := (i 1).isLt; omega⟩)

theorem queries_eq (y : (⟨2, ![8192, 2048]⟩ : Shape).Idx → EReal) :
    Cert.DilMemRefIdeal.Read.val_main_v0 (F := Ideal) y = val_main_v0 (F := Ideal) (shift y) := by
  funext i
  rw [Cert.DilMemRefIdeal.Read.val_main_v0_apply, val_main_v0_apply]
  refine congrArg y (funext fun a => ?_)
  match a with
  | ⟨0, _⟩ => rfl
  | ⟨1, _⟩ => exact Fin.ext (by show 1536 + (i 1).val = 3072 + (i 1).val - 1536; omega)
theorem dil_ref (y : (⟨2, ![8192, 2048]⟩ : Shape).Idx → EReal) :
    (Cert.DilMemRefIdeal.Read.val_main_v23 (F := Ideal) y x1 : _ → EReal) = outs (dilQ y) x1 := by
  have e3 : Cert.DilMemRefIdeal.Read.val_main_v3 (F := Ideal) y = val_main_v3 (F := Ideal) (shift y) := by
    unfold Cert.DilMemRefIdeal.Read.val_main_v3 val_main_v3
    rw [queries_eq]
  have e6 : Cert.DilMemRefIdeal.Read.val_main_v6 (F := Ideal) y x1 = val_main_v6 (F := Ideal) (shift y) x1 := by
    unfold Cert.DilMemRefIdeal.Read.val_main_v6 val_main_v6
    rw [e3]
    rfl
  have e8 : Cert.DilMemRefIdeal.Read.val_main_v8 (F := Ideal) y x1 = val_main_v8 (F := Ideal) (shift y) x1 := by
    unfold Cert.DilMemRefIdeal.Read.val_main_v8 val_main_v8
    rw [e6]
    rfl
  have e15 : Cert.DilMemRefIdeal.Read.val_main_v15 (F := Ideal) y x1 = val_main_v15 (F := Ideal) (shift y) x1 := by
    unfold Cert.DilMemRefIdeal.Read.val_main_v15 Cert.DilMemRefIdeal.Read.val_main_v14 Cert.DilMemRefIdeal.Read.val_main_v13
      Cert.DilMemRefIdeal.Read.val_main_v12 Cert.DilMemRefIdeal.Read.val_main_v11 Cert.DilMemRefIdeal.Read.val_main_v9
      val_main_v15 val_main_v14 val_main_v13 val_main_v12 val_main_v11 val_main_v9
    rw [e8]
    rfl
  have e23 : Cert.DilMemRefIdeal.Read.val_main_v23 (F := Ideal) y x1 = val_main_v23 (F := Ideal) (shift y) x1 := by
    unfold Cert.DilMemRefIdeal.Read.val_main_v23 Cert.DilMemRefIdeal.Read.val_main_v22 Cert.DilMemRefIdeal.Read.val_main_v21
      Cert.DilMemRefIdeal.Read.val_main_v20 Cert.DilMemRefIdeal.Read.val_main_v19 Cert.DilMemRefIdeal.Read.val_main_v18
      Cert.DilMemRefIdeal.Read.val_main_v17 Cert.DilMemRefIdeal.Read.val_main_v16
      val_main_v23 val_main_v22 val_main_v21 val_main_v20 val_main_v19 val_main_v18 val_main_v17 val_main_v16
    rw [e15]
    rfl
  rw [e23, rec_ref]
  have eq : Q (shift y) = dilQ y := funext fun h => funext fun r => funext fun d =>
    congrArg y (congrArg (ix2 r) (Fin.ext (by show 3072 + 128 * h.val + d.val - 1536 = 1536 + 128 * h.val + d.val; omega)))
  rw [eq]

end Cert.MemFwdRef

end
-- ==== Proof.Mem.RecMem.lean ====
/- The memory attention's forward call in the recurrent layers, over its sixteen blocks of 512 queries: each block's rows are its own. -/
module

public import proofs.«01_k».proof.Proof.Math.Blocks
public import proofs.«01_k».proof.Proof.Mem.FwdRef
public import proofs.«01_k».proof.Proof.Gen.RecMemIdeal.Value

@[expose] public section

noncomputable section

namespace Cert.RecMemArray

open Idealize.ShloMosaic Idealize.ShloMosaic.TcCoe Idealize.ShloMosaic.Tactic Idealize.SL.Sem
open Cert.RecMemIdeal Cert.RecMemIdeal.Gen Cert.Attn Cert.MemFwd

variable (m : (ℓ : Loc nD τ sig) → Buf (Elt Ideal) ℓ) (c : Dev nD)

/-- The arguments: the layer's projections, the memory's keys and values. -/
abbrev A0 : S8192x3584.Idx → EReal := m ((c : Thread nD τ).loc main_arg0)
abbrev A1 : S256x1024.Idx → EReal := m ((c : Thread nD τ).loc main_arg1)

theorem index0 : ∀ t : Fin cfg0.N, win0_0.index t 0 = t.val ∧ win0_0.index t 1 = 6 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- Point `t`'s blocks of the arguments. -/
abbrev X0 (t : Fin cfg0.N) : S512x512.Idx → EReal := iblk m c 0 t
abbrev X1 (t : Fin cfg0.N) : S256x1024.Idx → EReal := iblk m c 1 t
/-- Row `r` of the block of point `t`. -/
abbrev at_ (t : Fin 16) (r : Fin 512) : Fin 8192 := row (a := 16) (b := 512) rfl t r

theorem blk0 (t : Fin cfg0.N) (h : Fin 4) : MemFwdBlock.hQ (X0 m c t) h = fun r => MemSpec.Q (A0 m c) h (at_ t r) := by
  funext r d
  unfold MemFwdBlock.hQ cols X0 iblk
  rw [View.read_apply]
  refine congrArg (A0 m c) (eq_ix2 _ _ _ ?_ ?_)
  · show win0_0.index t 0 * 512 + 1 * r.val = 512 * t.val + r.val; rw [(index0 t).1]; omega
  · show win0_0.index t 1 * 512 + 1 * (128 * h.val + d.val) = 3072 + 128 * h.val + d.val; rw [(index0 t).2]; omega
theorem blk1 (t : Fin cfg0.N) : X1 m c t = A1 m c := by
  funext i
  unfold X1 iblk
  rw [View.read_apply]
  refine (congrArg (A1 m c) (eq_ix2 _ (i 0) (i 1) ?_ ?_)).trans (congrArg (A1 m c) (eq_ix2 i _ _ rfl rfl).symm)
  · show win0_1.index t 0 * 256 + 1 * (i 0).val = (i 0).val; rw [(index1 t).1]; omega
  · show win0_1.index t 1 * 1024 + 1 * (i 1).val = (i 1).val; rw [(index1 t).2]; omega

/-- What a point leaves. -/
theorem out_block (x0 : S512x512.Idx → EReal) (x1 : S256x1024.Idx → EReal) :
    (out0_2 (F := Ideal) x0 x1 : S512x512.Idx → EReal) = outs (MemFwdBlock.hQ x0) x1 := MemFwdBlock.out_eq x0 x1

/-- Each block is written at its place. -/
theorem flushed_eq (t : Fin cfg0.N) :
    (dats m 0 c).flushed 2 t = ((cfg0.win 2).blk t).view.read (Elt Ideal) (outs (MemSpec.Q (A0 m c)) (A1 m c)) := by
  rw [Value.flushed2]
  funext i
  rw [View.read_apply]
  refine Eq.trans ?_ (cast_eq _ _).symm
  refine (congrFun (out_block (X0 m c t) (X1 m c t)) i).trans ?_
  have hr : ((cfg0.win 2).blk t).view.emb i 0 = at_ t (i 0) := by
    apply Fin.ext
    show win0_2.index t 0 * 512 + 1 * (i 0).val = 512 * t.val + (i 0).val; rw [(index2 t).1]; omega
  have hc : (((cfg0.win 2).blk t).view.emb i 1).val = (i 1).val := by
    show win0_2.index t 1 * 512 + 1 * (i 1).val = (i 1).val; rw [(index2 t).2]; omega
  refine joinHeads_congr (R := 512) (R' := 8192) _ _ i _ hc fun h d => ?_
  rw [hr, blk0, blk1]
  rfl

/-- The outputs after the run. -/
theorem final : (dats m 0 c).arrAt 2 cfg0.N = outs (MemSpec.Q (A0 m c)) (A1 m c) :=
  (dats m 0 c).arrAt_eq_of_cover 2 _ (fun t _ => flushed_eq m c t) fun i => by
    have h0 : (i 0).val < 8192 := (i 0).isLt
    have h1 : (i 1).val < 512 := (i 1).isLt
    have ht : (i 0).val / 512 < 16 := by omega
    refine ⟨⟨_, ht⟩, flush0_2 _, ?_⟩
    show i ∈ ((View.whole main_v1).slice (win0_2.rect ⟨_, ht⟩)).set
    rw [View.set_slice_whole, Rect.mem_set_unit]
    obtain ⟨e0, e1⟩ := index2 ⟨_, ht⟩
    intro a
    match a with
    | ⟨0, _⟩ => show win0_2.index _ 0 * 512 ≤ (i 0).val ∧ (i 0).val < win0_2.index _ 0 * 512 + 512; rw [e0]; dsimp only; omega
    | ⟨1, _⟩ => show win0_2.index _ 1 * 512 ≤ (i 1).val ∧ (i 1).val < win0_2.index _ 1 * 512 + 512; rw [e1]; omega

end Cert.RecMemArray

end
-- ==== Proof.Mem.DilMem.lean ====
/- The memory attention's forward call in the dilated layers, over its sixteen blocks of 512 queries: each block's rows are its own. -/
module

public import proofs.«01_k».proof.Proof.Math.Blocks
public import proofs.«01_k».proof.Proof.Mem.FwdRef
public import proofs.«01_k».proof.Proof.Gen.DilMemIdeal.Value

@[expose] public section

noncomputable section

namespace Cert.DilMemArray

open Idealize.ShloMosaic Idealize.ShloMosaic.TcCoe Idealize.ShloMosaic.Tactic Idealize.SL.Sem
open Cert.DilMemIdeal Cert.DilMemIdeal.Gen Cert.Attn Cert.MemFwd

variable (m : (ℓ : Loc nD τ sig) → Buf (Elt Ideal) ℓ) (c : Dev nD)

/-- The arguments: the layer's projections, the memory's keys and values. -/
abbrev A0 : S8192x2048.Idx → EReal := m ((c : Thread nD τ).loc main_arg0)
abbrev A1 : S256x1024.Idx → EReal := m ((c : Thread nD τ).loc main_arg1)

theorem index0 : ∀ t : Fin cfg0.N, win0_0.index t 0 = t.val ∧ win0_0.index t 1 = 3 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- Point `t`'s blocks of the arguments. -/
abbrev X0 (t : Fin cfg0.N) : S512x512.Idx → EReal := iblk m c 0 t
abbrev X1 (t : Fin cfg0.N) : S256x1024.Idx → EReal := iblk m c 1 t
/-- Row `r` of the block of point `t`. -/
abbrev at_ (t : Fin 16) (r : Fin 512) : Fin 8192 := row (a := 16) (b := 512) rfl t r

theorem blk0 (t : Fin cfg0.N) (h : Fin 4) : MemFwdBlock.hQ (X0 m c t) h = fun r => MemFwdRef.dilQ (A0 m c) h (at_ t r) := by
  funext r d
  unfold MemFwdBlock.hQ cols X0 iblk
  rw [View.read_apply]
  refine congrArg (A0 m c) (eq_ix2 _ _ _ ?_ ?_)
  · show win0_0.index t 0 * 512 + 1 * r.val = 512 * t.val + r.val; rw [(index0 t).1]; omega
  · show win0_0.index t 1 * 512 + 1 * (128 * h.val + d.val) = 1536 + 128 * h.val + d.val; rw [(index0 t).2]; omega
theorem blk1 (t : Fin cfg0.N) : X1 m c t = A1 m c := by
  funext i
  unfold X1 iblk
  rw [View.read_apply]
  refine (congrArg (A1 m c) (eq_ix2 _ (i 0) (i 1) ?_ ?_)).trans (congrArg (A1 m c) (eq_ix2 i _ _ rfl rfl).symm)
  · show win0_1.index t 0 * 256 + 1 * (i 0).val = (i 0).val; rw [(index1 t).1]; omega
  · show win0_1.index t 1 * 1024 + 1 * (i 1).val = (i 1).val; rw [(index1 t).2]; omega

/-- What a point leaves. -/
theorem out_block (x0 : S512x512.Idx → EReal) (x1 : S256x1024.Idx → EReal) :
    (out0_2 (F := Ideal) x0 x1 : S512x512.Idx → EReal) = outs (MemFwdBlock.hQ x0) x1 :=
  Eq.trans (b := RecMemIdeal.Gen.out0_2 (F := Ideal) x0 x1) rfl (MemFwdBlock.out_eq x0 x1)

/-- Each block is written at its place. -/
theorem flushed_eq (t : Fin cfg0.N) :
    (dats m 0 c).flushed 2 t = ((cfg0.win 2).blk t).view.read (Elt Ideal) (outs (MemFwdRef.dilQ (A0 m c)) (A1 m c)) := by
  rw [Value.flushed2]
  funext i
  rw [View.read_apply]
  refine Eq.trans ?_ (cast_eq _ _).symm
  refine (congrFun (out_block (X0 m c t) (X1 m c t)) i).trans ?_
  have hr : ((cfg0.win 2).blk t).view.emb i 0 = at_ t (i 0) := by
    apply Fin.ext
    show win0_2.index t 0 * 512 + 1 * (i 0).val = 512 * t.val + (i 0).val; rw [(index2 t).1]; omega
  have hc : (((cfg0.win 2).blk t).view.emb i 1).val = (i 1).val := by
    show win0_2.index t 1 * 512 + 1 * (i 1).val = (i 1).val; rw [(index2 t).2]; omega
  refine joinHeads_congr (R := 512) (R' := 8192) _ _ i _ hc fun h d => ?_
  rw [hr, blk0, blk1]
  rfl

/-- The outputs after the run. -/
theorem final : (dats m 0 c).arrAt 2 cfg0.N = outs (MemFwdRef.dilQ (A0 m c)) (A1 m c) :=
  (dats m 0 c).arrAt_eq_of_cover 2 _ (fun t _ => flushed_eq m c t) fun i => by
    have h0 : (i 0).val < 8192 := (i 0).isLt
    have h1 : (i 1).val < 512 := (i 1).isLt
    have ht : (i 0).val / 512 < 16 := by omega
    refine ⟨⟨_, ht⟩, flush0_2 _, ?_⟩
    show i ∈ ((View.whole main_v1).slice (win0_2.rect ⟨_, ht⟩)).set
    rw [View.set_slice_whole, Rect.mem_set_unit]
    obtain ⟨e0, e1⟩ := index2 ⟨_, ht⟩
    intro a
    match a with
    | ⟨0, _⟩ => show win0_2.index _ 0 * 512 ≤ (i 0).val ∧ (i 0).val < win0_2.index _ 0 * 512 + 512; rw [e0]; dsimp only; omega
    | ⟨1, _⟩ => show win0_2.index _ 1 * 512 ≤ (i 1).val ∧ (i 1).val < win0_2.index _ 1 * 512 + 512; rw [e1]; omega

end Cert.DilMemArray

end
-- ==== Proof.Mem.FwdClaims.lean ====
/- The memory attention's forward call: each kernel's result is its reference's, whatever the arguments. -/
module

public import proofs.«01_k».proof.Defs
public import proofs.«01_k».proof.Proof.Mem.RecMem
public import proofs.«01_k».proof.Proof.Mem.DilMem
public import proofs.«01_k».proof.Proof.Mix.Claims

@[expose] public section

noncomputable section

namespace Cert.MemFwdClaims

open Idealize.ShloMosaic Idealize.SL.Sem Idealize.ShloMosaic.TcCoe Cert.MemFwd

theorem rec_mem : Cert.algebraic_RecMemIdeal_RecMemRefIdeal := by
  intro m ρ m' ρ' _ hag
  refine ⟨fun c => outs (MemSpec.Q (RecMemArray.A0 m c)) (RecMemArray.A1 m c),
    (θ_run _ _ _).mono (fun _ h c => ?_) (RecMemIdeal.Value.run_blocks m ρ),
    (θ_run _ _ _).mono (fun _ h c => ?_) (RecMemRefIdeal.Value.run m' ρ')⟩
  · exact ⟨(h c).1.trans (RecMemArray.final m c), (h c).2⟩
  · obtain ⟨e0, e1⟩ := hag c
    refine ⟨(h c).1.trans ?_, (h c).2⟩
    rw [RecMemRefIdeal.Read.val_main_v23_eq, e0, e1]; exact MemFwdRef.rec_ref _ _

theorem dil_mem : Cert.algebraic_DilMemIdeal_DilMemRefIdeal := by
  intro m ρ m' ρ' _ hag
  refine ⟨fun c => outs (MemFwdRef.dilQ (DilMemArray.A0 m c)) (DilMemArray.A1 m c),
    (θ_run _ _ _).mono (fun _ h c => ?_) (DilMemIdeal.Value.run_blocks m ρ),
    (θ_run _ _ _).mono (fun _ h c => ?_) (DilMemRefIdeal.Value.run m' ρ')⟩
  · exact ⟨(h c).1.trans (DilMemArray.final m c), (h c).2⟩
  · obtain ⟨e0, e1⟩ := hag c
    refine ⟨(h c).1.trans ?_, (h c).2⟩
    rw [DilMemRefIdeal.Read.val_main_v23_eq, e0, e1]; exact MemFwdRef.dil_ref (x1 := _) _

end Cert.MemFwdClaims

end
-- ==== Proof.Mem.DilArray.lean ====
/- The memory attention's gradient kernel in the dilated layers over its sixteen blocks of 512 queries: each block's rows of the queries'
   gradient are that block's own, and the gradients of keys and values gather every block's share. -/
module

public import proofs.«01_k».proof.Proof.Mem.Gather
public import proofs.«01_k».proof.Proof.Mem.FwdRef
public import proofs.«01_k».proof.Proof.Gen.DilMemGradIdeal.Value

@[expose] public section

noncomputable section

namespace Cert.MemDilArray

open Idealize.ShloMosaic Idealize.ShloMosaic.TcCoe Idealize.ShloMosaic.Tactic Idealize.SL.Sem
open Cert.DilMemGradIdeal Cert.DilMemGradIdeal.Gen Cert.Attn Cert.MemBlock Cert.MemGather
open Cert.MemFwdRef (shift)
open Idealize.ShloMosaic.Pipeline (Dat)

variable (m : (ℓ : Loc nD τ sig) → Buf (Elt Ideal) ℓ) (c : Dev nD)

theorem hz : (![0, 0] : Fin 2 → Nat) = fun _ => 0 := funext fun a => by fin_cases a <;> rfl

/-- What a later point leaves: its own rows of the queries' gradient, and its share added to the keys' and values'. -/
theorem outs_later (t : Fin cfg0.N) (h : ¬ t.val % 16 = 0) :
    outsAt0 m c t.val t.isLt = (outQ (iblk m c 0 t) (iblk m c 1 t) (iblk m c 2 t),
      outKV (iblk m c 0 t) (iblk m c 1 t) (iblk m c 2 t) (outsAt0 m c (t.val - 1) (Nat.lt_of_le_of_lt (Nat.sub_le _ _) t.isLt)).2) := by
  rw [outsAt0_B m c t h]
  refine Prod.ext ?_ ?_
  · dsimp only
    unfold out0_B_3; rw [View.read_writes_eq_canon _ _ _ (cover0_B_3 c _ _ _ _ _ _ _ _ _ _ _ _ _ _ _ _)]
    unfold kernelRun0_B; dsimp only; sl_unfold_words
    simp only [View.readAt_eq_ld, (hs0_0 t).read_unread, (hs0_1 t).read_unread, (hs0_2 t).read_unread]
    rw [View.canon_unit_zero hz]
    simp only [View.ld_unit_zero (S := S512x512) hz, View.ld_unit_zero (S := S256x1024) hz]
    rfl
  · dsimp only
    unfold out0_B_4; rw [View.read_writes_eq_canon _ _ _ (cover0_B_4 c _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_4 t).read_unread]
    rw [View.canon_unit_zero hz]
    simp only [View.ld_unit_zero (S := S512x512) hz, View.ld_unit_zero (S := S256x1024) hz]
    rfl

/-- What the first point leaves: the same, its share added to zeros. -/
theorem outs_first (t : Fin cfg0.N) (h : t.val % 16 = 0) :
    outsAt0 m c t.val t.isLt = (outQ (iblk m c 0 t) (iblk m c 1 t) (iblk m c 2 t),
      outKV (iblk m c 0 t) (iblk m c 1 t) (iblk m c 2 t) (k0_pay3 (F := Ideal))) := by
  rw [outsAt0_A m c t h]
  refine Prod.ext ?_ ?_
  · dsimp only
    unfold out0_A_3; rw [View.read_writes_eq_canon _ _ _ (cover0_A_3 c _ _ _ _ _ _ _ _ _ _ _ _ _ _ _)]
    unfold kernelRun0_A; dsimp only; sl_unfold_words
    simp only [View.readAt_eq_ld, (hs0_0 t).read_unread, (hs0_1 t).read_unread, (hs0_2 t).read_unread]
    rw [View.canon_unit_zero hz]
    simp only [View.ld_unit_zero (S := S512x512) hz, View.ld_unit_zero (S := S256x1024) hz]
    rfl
  · dsimp only
    unfold out0_A_4; rw [View.read_writes_eq_canon _ _ _ (cover0_A_4 c _ _ _ _ _ _ _ _ _ _ _ _ _ _ _)]
    unfold kernelRun0_A; dsimp only; sl_unfold_words
    simp only [View.readAt_eq_ld, (hs0_0 t).read_unread, (hs0_1 t).read_unread, (hs0_2 t).read_unread]
    rw [View.canon_cons_unit_zero (S := S256x1024) hz, View.readCov_unit_zero (S := S256x1024) _ hz]
    simp only [View.ld_unit_zero (S := S512x512) hz, View.ld_unit_zero (S := S256x1024) hz]
    rfl

/-- The arguments: the layer's projections, the memory's keys and values, the gradient of the mixed outputs. -/
abbrev A0 : S8192x2048.Idx → EReal := m ((c : Thread nD τ).loc main_arg0)
abbrev A1 : S256x1024.Idx → EReal := m ((c : Thread nD τ).loc main_arg1)
abbrev A2 : S8192x2048.Idx → EReal := m ((c : Thread nD τ).loc main_arg2)

theorem index0 : ∀ t : Fin cfg0.N, win0_0.index t 0 = t.val ∧ win0_0.index t 1 = 3 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 3 := by decide +kernel
theorem index3 : ∀ t : Fin cfg0.N, win0_3.index t 0 = t.val ∧ win0_3.index t 1 = 0 := by decide +kernel
theorem index4 : ∀ t : Fin cfg0.N, win0_4.index t 0 = 0 ∧ win0_4.index t 1 = 0 := by decide +kernel

/-- The queries of the block of point `t`. -/
theorem blk0 (t : Fin cfg0.N) (r : Fin 512) (j : Fin 512) :
    iblk m c 0 t (ix2 r j) = A0 m c (ix2 (rw_ t r) ⟨1536 + j.val, by omega⟩) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(index0 t).1]; omega
  | ⟨1, _⟩ => show win0_0.index t 1 * 512 + 1 * j.val = 1536 + j.val; rw [(index0 t).2]; omega

/-- The gradients of the outputs in the block of point `t`. -/
theorem blk2 (t : Fin cfg0.N) (r : Fin 512) (j : Fin 512) :
    iblk m c 2 t (ix2 r j) = A2 m c (ix2 (rw_ t r) ⟨1536 + j.val, by omega⟩) := by
  unfold iblk
  rw [View.read_apply]
  show V m c main_arg2 _ = _
  rw [V_main_arg2]
  congr 1
  funext a
  apply Fin.ext
  match a with
  | ⟨0, _⟩ => show win0_2.index t 0 * 512 + 1 * r.val = 512 * t.val + r.val; rw [(index2 t).1]; omega
  | ⟨1, _⟩ => show win0_2.index t 1 * 512 + 1 * j.val = 1536 + j.val; rw [(index2 t).2]; omega

/-- The keys and values, rounded to bfloat16 by the host: at the extended reals, the argument. -/
theorem V_kv : V m c main_v0 = A1 m c := by
  rfl

/-- Every point's block of keys and values is the whole of them. -/
theorem blk1 (t : Fin cfg0.N) (k : Fin 256) (j : Fin 1024) : iblk m c 1 t (ix2 k j) = A1 m c (ix2 k j) := by
  unfold iblk
  rw [View.read_apply]
  show V m c main_v0 _ = _
  rw [V_kv]
  congr 1
  funext a
  apply Fin.ext
  match a with
  | ⟨0, _⟩ => show win0_1.index t 0 * 256 + 1 * k.val = k.val; rw [(index1 t).1]; omega
  | ⟨1, _⟩ => show win0_1.index t 1 * 1024 + 1 * j.val = j.val; rw [(index1 t).2]; omega

/-- The heads of the blocks, read from the arguments. -/
theorem hQ0 (t : Fin cfg0.N) (h : Fin 4) : hQ (iblk m c 0 t) h = fun r => MemSpec.Q (shift (A0 m c)) h (rw_ t r) := by
  funext r d
  refine (blk0 m c t r _).trans (congrArg (A0 m c) (congrArg (ix2 _) (Fin.ext ?_)))
  show 1536 + (128 * h.val + d.val) = 3072 + 128 * h.val + d.val - 1536
  omega
theorem hQ2 (t : Fin cfg0.N) (h : Fin 4) : hQ (iblk m c 2 t) h = fun r => MemSpec.D (A2 m c) h (rw_ t r) := by
  funext r d
  refine (blk2 m c t r _).trans (congrArg (A2 m c) (congrArg (ix2 _) (Fin.ext ?_)))
  show 1536 + (128 * h.val + d.val) = 1536 + 128 * h.val + d.val
  omega
theorem hK1 (t : Fin cfg0.N) (h : Fin 4) : hK (iblk m c 1 t) h = MemSpec.K (A1 m c) h := funext fun r => funext fun d => blk1 m c t r _
theorem hV1 (t : Fin cfg0.N) (h : Fin 4) : hV (iblk m c 1 t) h = MemSpec.V (A1 m c) h := funext fun r => funext fun d => blk1 m c t r _

/-- The points read the arguments' blocks. -/
theorem reads : MemGather.Reads (shift (A0 m c)) (A1 m c) (A2 m c) (iblk m c 0) (iblk m c 1) (iblk m c 2) where
  q := hQ0 m c
  k := hK1 m c
  v := hV1 m c
  d := hQ2 m c

/-- Every point leaves its own rows of the queries' gradient. -/
theorem outs_1 (t : Fin cfg0.N) : (outsAt0 m c t.val t.isLt).1 = outQ (iblk m c 0 t) (iblk m c 1 t) (iblk m c 2 t) := by
  by_cases h : t.val % 16 = 0
  · rw [outs_first m c t h]
  · rw [outs_later m c t h]

/-- The last point leaves the gradient of the keys and the values. -/
theorem last_kv : (outsAt0 m c 15 (by decide)).2 = MemSpec.gradKV (shift (A0 m c)) (A1 m c) (A2 m c) :=
  MemGather.last (reads m c) (fun n hn => (outsAt0 m c n hn).2)
    (fun h => congrArg Prod.snd (outs_first m c ⟨0, h⟩ rfl))
    (fun n h _ => congrArg Prod.snd (outs_later m c ⟨n + 1, h⟩ (by
      have hn : n + 1 < 16 := h
      show ¬ (n + 1) % 16 = 0; omega)))

/-- What point `t` writes to the queries' gradient is its block of the queries' gradient. -/
theorem flushed_q (t : Fin cfg0.N) :
    (dats m 0 c).flushed 3 t = ((cfg0.win 3).blk t).view.read (Elt Ideal) (MemSpec.gradQ (shift (A0 m c)) (A1 m c) (A2 m c)) := by
  rw [Value.flushed3, outs_1]
  funext i
  rw [View.read_apply]
  have hr : ((cfg0.win 3).blk t).view.emb i 0 = rw_ t (i 0) := by
    apply Fin.ext
    show win0_3.index t 0 * 512 + 1 * (i 0).val = 512 * t.val + (i 0).val; rw [(index3 t).1]; omega
  have hc : (((cfg0.win 3).blk t).view.emb i 1).val = (i 1).val := by
    show win0_3.index t 1 * 512 + 1 * (i 1).val = (i 1).val; rw [(index3 t).2]; omega
  refine Eq.trans ?_ (cast_eq _ _).symm
  exact MemGather.rows (reads m c) t i _ hr hc

theorem mem_q (t : Fin cfg0.N) (i : S8192x512.Idx) (h : 512 * t.val ≤ (i 0).val ∧ (i 0).val < 512 * t.val + 512) :
    i ∈ ((cfg0.win 3).blk t).view.set := by
  show i ∈ ((View.whole main_v1_0).slice (win0_3.rect t)).set
  rw [View.set_slice_whole, Rect.mem_set_unit]
  have h1 : (i 1).val < 512 := (i 1).isLt
  intro a
  match a with
  | ⟨0, _⟩ =>
    show win0_3.index t 0 * 512 ≤ (i 0).val ∧ (i 0).val < win0_3.index t 0 * 512 + 512
    rw [(index3 t).1]; omega
  | ⟨1, _⟩ =>
    show win0_3.index t 1 * 512 ≤ (i 1).val ∧ (i 1).val < win0_3.index t 1 * 512 + 512
    rw [(index3 t).2]; omega

/-- The queries' gradient after the run. -/
theorem final_q : (dats m 0 c).arrAt 3 cfg0.N = MemSpec.gradQ (shift (A0 m c)) (A1 m c) (A2 m c) :=
  (dats m 0 c).arrAt_eq_of_cover 3 _ (fun t _ => flushed_q m c t) fun i => by
    have h0 : (i 0).val < 8192 := (i 0).isLt
    have ht : (i 0).val / 512 < 16 := by omega
    exact ⟨⟨(i 0).val / 512, ht⟩, flush0_3 _, mem_q ⟨(i 0).val / 512, ht⟩ i
      (show 512 * ((i 0).val / 512) ≤ (i 0).val ∧ (i 0).val < 512 * ((i 0).val / 512) + 512 by omega)⟩

theorem flushed_kv (t : Fin cfg0.N) (hf : (cfg0.win 4).flush t = true) :
    (dats m 0 c).flushed 4 t = ((cfg0.win 4).blk t).view.read (Elt Ideal) (MemSpec.gradKV (shift (A0 m c)) (A1 m c) (A2 m c)) := by
  have ht : t = ⟨15, by decide⟩ := by
    have h := (flush0_4 t).mp hf
    have h' : t.val < 16 := t.isLt
    exact Fin.ext (by show t.val = 15; omega)
  subst ht
  rw [Value.flushed4]
  show (cfg0.win 4).cut _ (outsAt0 m c 15 _).2 = _
  rw [last_kv]
  funext i
  rw [View.read_apply]
  refine Eq.trans ?_ (cast_eq _ _).symm
  show MemSpec.gradKV _ _ _ _ = MemSpec.gradKV _ _ _ _
  congr 1
  funext a
  apply Fin.ext
  match a with
  | ⟨0, _⟩ => show (i 0).val = win0_4.index _ 0 * 256 + 1 * (i 0).val; rw [(index4 _).1]; omega
  | ⟨1, _⟩ => show (i 1).val = win0_4.index _ 1 * 1024 + 1 * (i 1).val; rw [(index4 _).2]; omega

theorem mem_kv (t : Fin cfg0.N) (i : S256x1024.Idx) : i ∈ ((cfg0.win 4).blk t).view.set := by
  show i ∈ ((View.whole main_v1_1).slice (win0_4.rect t)).set
  rw [View.set_slice_whole, Rect.mem_set_unit]
  have h0 : (i 0).val < 256 := (i 0).isLt
  have h1 : (i 1).val < 1024 := (i 1).isLt
  intro a
  match a with
  | ⟨0, _⟩ =>
    show win0_4.index t 0 * 256 ≤ (i 0).val ∧ (i 0).val < win0_4.index t 0 * 256 + 256
    rw [(index4 t).1]; omega
  | ⟨1, _⟩ =>
    show win0_4.index t 1 * 1024 ≤ (i 1).val ∧ (i 1).val < win0_4.index t 1 * 1024 + 1024
    rw [(index4 t).2]; omega

/-- The keys' and values' gradient after the run. -/
theorem final_kv : (dats m 0 c).arrAt 4 cfg0.N = MemSpec.gradKV (shift (A0 m c)) (A1 m c) (A2 m c) :=
  (dats m 0 c).arrAt_eq_of_cover 4 _ (flushed_kv m c) fun i =>
    ⟨⟨15, by decide⟩, (flush0_4 _).mpr rfl, mem_kv _ i⟩

end Cert.MemDilArray

end
-- ==== Proof.Mem.DilRef.lean ====
/- The reference of the memory attention's gradient in the dilated layers, and its precondition: those of the recurrent
   layers, at the projections with the queries moved to where the recurrent layers have them. -/
module

public import proofs.«01_k».proof.Proof.Mem.Ref
public import proofs.«01_k».proof.Proof.Mem.Pre
public import proofs.«01_k».proof.Proof.Mem.FwdRef
public import proofs.«01_k».proof.Pre_dil_mem_finite
public import proofs.«01_k».proof.Proof.Gen.Pre_dil_mem_finite
public import proofs.«01_k».proof.Proof.Gen.DilMemGradRefIdeal.Read

@[expose] public section

noncomputable section

namespace Cert.MemDilRef

open Idealize.ShloMosaic Cert.MemReferenceIdeal.Read Cert.Attn
open Cert.MemFwdRef (shift)

variable (y : (⟨2, ![8192, 2048]⟩ : Shape).Idx → EReal) (x1 : (⟨2, ![256, 1024]⟩ : Shape).Idx → EReal)
  (x2 : (⟨2, ![8192, 2048]⟩ : Shape).Idx → EReal)

theorem e0 : Cert.DilMemGradRefIdeal.Read.val_main_v0 (F := Ideal) y = val_main_v0 (F := Ideal) (shift y) := MemFwdRef.queries_eq y
theorem e3 : Cert.DilMemGradRefIdeal.Read.val_main_v3 (F := Ideal) y = val_main_v3 (F := Ideal) (shift y) := by
  unfold Cert.DilMemGradRefIdeal.Read.val_main_v3 val_main_v3
  rw [e0]
theorem e8 : Cert.DilMemGradRefIdeal.Read.val_main_v8 (F := Ideal) y x1 = val_main_v8 (F := Ideal) (shift y) x1 := by
  unfold Cert.DilMemGradRefIdeal.Read.val_main_v8 Cert.DilMemGradRefIdeal.Read.val_main_v6 val_main_v8 val_main_v6
  rw [e3]
  rfl
theorem e29 : Cert.DilMemGradRefIdeal.Read.val_main_v29 (F := Ideal) y x1 = val_main_v29 (F := Ideal) (shift y) x1 := by
  unfold Cert.DilMemGradRefIdeal.Read.val_main_v29 Cert.DilMemGradRefIdeal.Read.val_main_v28 Cert.DilMemGradRefIdeal.Read.val_main_v27
    Cert.DilMemGradRefIdeal.Read.val_main_v26 Cert.DilMemGradRefIdeal.Read.val_main_v16 Cert.DilMemGradRefIdeal.Read.val_main_v9
    val_main_v29 val_main_v28 val_main_v27 val_main_v26 val_main_v16 val_main_v9
  rw [e8]
  rfl
theorem e31 : Cert.DilMemGradRefIdeal.Read.val_main_v31 (F := Ideal) y x1 = val_main_v31 (F := Ideal) (shift y) x1 := by
  unfold Cert.DilMemGradRefIdeal.Read.val_main_v31 Cert.DilMemGradRefIdeal.Read.val_main_v30 val_main_v31 val_main_v30
  rw [e29]
  rfl
theorem e33 : Cert.DilMemGradRefIdeal.Read.val_main_v33 (F := Ideal) y x1 = val_main_v33 (F := Ideal) (shift y) x1 := by
  unfold Cert.DilMemGradRefIdeal.Read.val_main_v33 Cert.DilMemGradRefIdeal.Read.val_main_v32 val_main_v33 val_main_v32
  rw [e29, e31]
/-- The gradient of the scores. -/
theorem e59 : Cert.DilMemGradRefIdeal.Read.val_main_v59 (F := Ideal) y x1 x2 = val_main_v59 (F := Ideal) (shift y) x1 x2 := by
  unfold Cert.DilMemGradRefIdeal.Read.val_main_v59 Cert.DilMemGradRefIdeal.Read.val_main_v57 Cert.DilMemGradRefIdeal.Read.val_main_v56
    Cert.DilMemGradRefIdeal.Read.val_main_v55 Cert.DilMemGradRefIdeal.Read.val_main_v54 Cert.DilMemGradRefIdeal.Read.val_main_v53
    Cert.DilMemGradRefIdeal.Read.val_main_v52 Cert.DilMemGradRefIdeal.Read.val_main_v51 Cert.DilMemGradRefIdeal.Read.val_main_v50
    Cert.DilMemGradRefIdeal.Read.val_main_v49 Cert.DilMemGradRefIdeal.Read.val_main_v48 Cert.DilMemGradRefIdeal.Read.val_main_v47
    Cert.DilMemGradRefIdeal.Read.val_main_v46 Cert.DilMemGradRefIdeal.Read.val_main_v36 Cert.DilMemGradRefIdeal.Read.val_main_v34
    val_main_v59 val_main_v57 val_main_v56 val_main_v55 val_main_v54 val_main_v53 val_main_v52 val_main_v51 val_main_v50
    val_main_v49 val_main_v48 val_main_v47 val_main_v46 val_main_v36 val_main_v34
  rw [e29, e31]
  rfl

/-- The reference's two results are the recurrent layers', at the moved projections. -/
theorem e67 : Cert.DilMemGradRefIdeal.Read.val_main_v67 (F := Ideal) y x1 x2 = val_main_v67 (F := Ideal) (shift y) x1 x2 := by
  unfold Cert.DilMemGradRefIdeal.Read.val_main_v67 Cert.DilMemGradRefIdeal.Read.val_main_v66 Cert.DilMemGradRefIdeal.Read.val_main_v63
    Cert.DilMemGradRefIdeal.Read.val_main_v62 val_main_v67 val_main_v66 val_main_v63 val_main_v62
  rw [e59]
  rfl
theorem e68 : Cert.DilMemGradRefIdeal.Read.val_main_v68 (F := Ideal) y x1 x2 = val_main_v68 (F := Ideal) (shift y) x1 x2 := by
  unfold Cert.DilMemGradRefIdeal.Read.val_main_v68 Cert.DilMemGradRefIdeal.Read.val_main_v65 Cert.DilMemGradRefIdeal.Read.val_main_v64
    Cert.DilMemGradRefIdeal.Read.val_main_v61 Cert.DilMemGradRefIdeal.Read.val_main_v60 Cert.DilMemGradRefIdeal.Read.val_main_v45
    Cert.DilMemGradRefIdeal.Read.val_main_v44
    val_main_v68 val_main_v65 val_main_v64 val_main_v61 val_main_v60 val_main_v45 val_main_v44
  rw [e3, e33, e59]
  rfl

/-- The precondition is the recurrent layers', at the moved projections. -/
theorem pre_eq : Cert.Pre_dil_mem_finite.fn (F := Ideal) y x1 x2 = Cert.Pre_mem_finite.fn (F := Ideal) (shift y) x1 x2 := by
  have h : extractStridedSlice _ ![0, 1536] y Cert.Pre_dil_mem_finite.Facts.slices_S8192x2048_S8192x512_0_1536
      = extractStridedSlice _ ![0, 3072] (shift y) Cert.Pre_mem_finite.Facts.slices_S8192x3584_S8192x512_0_3072 := MemFwdRef.queries_eq y
  unfold Cert.Pre_dil_mem_finite.fn Cert.Pre_mem_finite.fn
  dsimp only
  rw [h]

theorem score_fin (h : Cert.Pre_dil_mem_finite.fn (F := Ideal) y x1 x2 = fun _ => 1#1) :
    ∀ h r, Fin' (score (MemRef.Q (shift y) h) (MemRef.K x1 h) r) := by
  obtain ⟨hq, hk⟩ := MemPre.split _ _ _ ((pre_eq y x1 x2).symm.trans h)
  exact MemRef.score_fin _ _ hq hk

end Cert.MemDilRef

end
-- ==== Proof.Mem.DilClaim.lean ====
/- The memory attention's gradient in the dilated layers: the kernel's two results are the reference's, at finite queries and
   keys. -/
module

public import proofs.«01_k».proof.Defs
public import proofs.«01_k».proof.Proof.Mem.DilArray
public import proofs.«01_k».proof.Proof.Mem.DilRef
public import proofs.«01_k».proof.Proof.Gen.DilMemGradRefIdeal.Run

@[expose] public section

noncomputable section

namespace Cert.MemDilClaim

open Idealize.ShloMosaic Idealize.SL.Sem Idealize.ShloMosaic.TcCoe Cert.MemDilArray
open Cert.MemFwdRef (shift)

theorem algebraic : Cert.algebraic_DilMemGradIdeal_DilMemGradRefIdeal_pre_dil_mem_finite := by
  intro m ρ m' ρ' hpre hag
  refine ⟨fun c => MemSpec.gradQ (shift (A0 m c)) (A1 m c) (A2 m c), fun c => MemSpec.gradKV (shift (A0 m c)) (A1 m c) (A2 m c),
    (θ_run _ _ _).mono (fun _ h c => ?_) (Cert.DilMemGradIdeal.Value.run_blocks m ρ),
    (θ_run _ _ _).mono (fun _ h c => ?_) (Cert.DilMemGradRefIdeal.Value.run m' ρ')⟩
  · obtain ⟨h0, h1, h2⟩ := h c
    exact ⟨h0.trans (final_q m c), h1.trans (final_kv m c), h2⟩
  · obtain ⟨h0, h1, h2⟩ := h c
    obtain ⟨e0, e1, e2⟩ := hag c
    have hs := MemDilRef.score_fin _ _ _ (hpre c)
    refine ⟨h0.trans ?_, h1.trans ?_, h2⟩
    · rw [Cert.DilMemGradRefIdeal.Read.val_main_v67_eq, e0, e1, e2, MemDilRef.e67]
      exact MemRef.gradQ_eq _ _ _ hs
    · rw [Cert.DilMemGradRefIdeal.Read.val_main_v68_eq, e0, e1, e2, MemDilRef.e68]
      exact MemRef.gradKV_eq _ _ _ hs

end Cert.MemDilClaim

end
-- ==== Proof.Norm.Spec.lean ====
/- The norm of a row by its root mean square, and the norm's gradient: the kernels' form and jax.vjp's are one function of
   the row, whatever its entries. -/
module

public import proofs.«01_k».proof.Proof.Math.Softmax
public import proofs.«01_k».proof.Proof.Math.Sums

@[expose] public section

noncomputable section

namespace Cert.NormSpec

open Idealize.ShloMosaic Cert.Attn

/-- The three words the programs hold: the row's length, the shift of the mean square, and -1/2. -/
def len : EReal := Ideal.ofBits .f32 0x45000000#32
def shift : EReal := Ideal.ofBits .f32 0x358637BD#32
def mhalf : EReal := Ideal.ofBits .f32 0xBF000000#32

theorem len_eq : len = ((2048 : ℝ) : EReal) := by
  simp [len, Ideal.ofBits, Ideal.ieee]
  rw [← EReal.coe_mul]; congr 1; norm_num
theorem mhalf_eq : mhalf = ((-(1 / 2) : ℝ) : EReal) := by
  simp [mhalf, Ideal.ofBits, Ideal.ieee]
  rw [← EReal.coe_mul]; congr 1; norm_num
theorem shift_eq : ∃ e : ℝ, 0 < e ∧ shift = e := by
  refine ⟨8796093 / 2 ^ 43, by norm_num, ?_⟩
  simp [shift, Ideal.ofBits, Ideal.ieee]
  rw [← EReal.coe_mul]; congr 1

abbrev Row := Fin 2048 → EReal

/-- The shifted mean square of a row, its inverse root, the normed row. -/
def ms (x : Row) : EReal := Ideal.div (∑ k, x k * x k) len + shift
def rn (x : Row) : EReal := Ideal.rsqrt (ms x)
def normed (x g : Row) : Row := fun j => x j * rn x * g j

/-- The gradient of a row whose scaled result's gradient is `a`, as the kernels form it. -/
def dx (x a : Row) : Row := fun j => rn x * (a j - x j * rn x * Ideal.div (∑ k, a k * (x k * rn x)) len)
/-- The derivative through the mean square, as jax.vjp forms it. -/
def slope (x a : Row) : EReal := Ideal.div ((∑ k, x k * a k) * (mhalf * Ideal.div (rn x) (ms x))) len

theorem twice (z : EReal) : z + z = z * ((2 : ℝ) : EReal) := by
  induction z using EReal.rec with
  | bot => rw [EReal.bot_mul_coe_of_pos (by norm_num)]; rfl
  | top => rw [EReal.top_mul_coe_of_pos (by norm_num)]; rfl
  | coe y => rw [← EReal.coe_add, ← EReal.coe_mul]; congr 1; ring

theorem coe_mul_add {r : ℝ} (hr : 0 ≤ r) (x y : EReal) : (r : EReal) * (x + y) = r * x + r * y := by
  rw [mul_comm, EReal.right_distrib_of_nonneg_of_ne_top (by exact_mod_cast hr) (EReal.coe_ne_top r), mul_comm x, mul_comm y]

theorem sq_nonneg' (z : EReal) : 0 ≤ z * z := by
  induction z using EReal.rec with
  | bot => simp
  | top => simp
  | coe y => rw [← EReal.coe_mul]; exact_mod_cast mul_self_nonneg y

/-- A row with an infinite entry has inverse root 0. -/
theorem rn_of_inf (x : Row) (h : ¬ ∀ k, ∃ y : ℝ, x k = y) : rn x = 0 ∧ ms x = ⊤ := by
  obtain ⟨k, hk⟩ := not_forall.1 h
  have e : x k * x k = ⊤ := by
    revert hk
    generalize x k = z
    induction z using EReal.rec with
    | bot => intro _; simp
    | top => intro _; simp
    | coe y => intro hk; exact absurd ⟨y, rfl⟩ hk
  have es : ∑ k, x k * x k = ⊤ :=
    top_le_iff.1 (e ▸ Finset.single_le_sum (f := fun k => x k * x k) (fun i _ => sq_nonneg' (x i)) (Finset.mem_univ k))
  obtain ⟨s, _, hs⟩ := shift_eq
  have em : ms x = ⊤ := by
    unfold ms
    rw [es, len_eq, Ideal.div_coe (by norm_num), EReal.top_mul_coe_of_pos (by norm_num), hs, EReal.top_add_coe]
  exact ⟨by unfold rn; rw [em]; rfl, em⟩

/-- A row of real numbers has a positive real mean square `v` and inverse root `ρ`, with `ρ * ρ = 1 / v`. -/
theorem rn_of_real (x : Row) (h : ∀ k, ∃ y : ℝ, x k = y) :
    ∃ v ρ : ℝ, 0 < v ∧ 0 ≤ ρ ∧ ρ * ρ = 1 / v ∧ ms x = v ∧ rn x = ρ := by
  choose f hf using h
  obtain ⟨s, hs, es⟩ := shift_eq
  have hv : 0 < (∑ k, f k * f k) * (1 / 2048) + s :=
    add_pos_of_nonneg_of_pos (mul_nonneg (Finset.sum_nonneg fun k _ => mul_self_nonneg (f k)) (by norm_num)) hs
  have em : ms x = (((∑ k, f k * f k) * (1 / 2048) + s : ℝ) : EReal) := by
    unfold ms
    simp only [hf, ← EReal.coe_mul]
    rw [coe_sum, len_eq, Ideal.div_coe (by norm_num), es, ← EReal.coe_mul, ← EReal.coe_add]
  generalize (∑ k, f k * f k) * (1 / 2048) + s = v at hv em
  refine ⟨v, (Real.sqrt v)⁻¹, hv, inv_nonneg.2 (Real.sqrt_nonneg v), ?_, em, ?_⟩
  · rw [← mul_inv, Real.mul_self_sqrt hv.le, one_div]
  · unfold rn
    rw [em, Ideal.rsqrt_coe, if_neg (not_lt.2 hv.le), if_neg hv.ne']

/-- The two forms of the gradient are one. -/
theorem dx_eq (x a : Row) (j : Fin 2048) : a j * rn x + x j * slope x a + slope x a * x j = dx x a j := by
  by_cases h : ∀ k, ∃ y : ℝ, x k = y
  · obtain ⟨v, ρ, hv, hρ, e, em, er⟩ := rn_of_real x h
    choose f hf using h
    unfold slope dx
    rw [em, er]
    simp only [hf, len_eq, mhalf_eq, Ideal.div_coe hv.ne', Ideal.div_coe (show (2048 : ℝ) ≠ 0 by norm_num)]
    have es : ∑ k, a k * ((f k : EReal) * ρ) = (∑ k, (f k : EReal) * a k) * ρ := by
      rw [← sum_mul_coe _ _ hρ]
      exact Finset.sum_congr rfl fun k _ => by rw [← mul_assoc, mul_comm (a k)]
    rw [es]
    generalize ∑ k, (f k : EReal) * a k = T
    have e1 : T * (((-(1 / 2) : ℝ) : EReal) * ((ρ : EReal) * ((1 / v : ℝ) : EReal))) * ((1 / 2048 : ℝ) : EReal)
        = T * ((-(1 / 2) * (ρ * (1 / v)) * (1 / 2048) : ℝ) : EReal) := by
      rw [mul_assoc, EReal.coe_mul (-(1 / 2) * (ρ * (1 / v))), EReal.coe_mul (-(1 / 2)), EReal.coe_mul ρ]
    rw [e1, mul_comm _ (f j : EReal), add_assoc, twice, sub_eq_add_neg, coe_mul_add hρ, mul_comm (a j)]
    refine congrArg (HAdd.hAdd _) ?_
    have e2 : (f j : EReal) * (T * ((-(1 / 2) * (ρ * (1 / v)) * (1 / 2048) : ℝ) : EReal)) * ((2 : ℝ) : EReal)
        = T * ((f j * (-(1 / 2) * (ρ * (1 / v)) * (1 / 2048)) * 2 : ℝ) : EReal) := by
      rw [EReal.coe_mul _ 2, EReal.coe_mul (f j), ← mul_assoc T, ← mul_assoc T, ← mul_assoc, mul_comm T]
    have e3 : (ρ : EReal) * -((f j : EReal) * ρ * (T * ρ * ((1 / 2048 : ℝ) : EReal)))
        = T * ((ρ * -(f j * ρ * (ρ * (1 / 2048))) : ℝ) : EReal) := by
      rw [EReal.coe_mul ρ, EReal.coe_neg, EReal.coe_mul (f j * ρ), EReal.coe_mul (f j), EReal.coe_mul ρ, mul_assoc T, ← mul_assoc ((f j : EReal) * ρ), mul_comm _ T, mul_assoc T,
        ← mul_neg, ← mul_assoc, mul_comm (ρ : EReal) T, mul_assoc T]
    rw [e2, e3]
    refine congrArg (fun z : EReal => T * z) (congrArg _ ?_)
    rw [← e]
    ring
  · obtain ⟨er, em⟩ := rn_of_inf x h
    have e : slope x a = 0 := by
      unfold slope
      rw [er, em, len_eq, Ideal.div_coe (by norm_num)]
      have e0 : Ideal.div 0 ⊤ = 0 := by unfold Ideal.div; rw [if_neg (by simp), zero_mul]
      rw [e0, mul_zero, mul_zero, zero_mul]
    unfold dx
    rw [e, er]
    simp

end Cert.NormSpec

end
-- ==== Proof.Norm.Blocks.lean ====
/- The norms' arrays of 8192 rows, in sixteen blocks of 512. -/
module

public import proofs.«01_k».proof.Proof.Math.Blocks
public import proofs.«01_k».proof.Proof.Norm.Spec

@[expose] public section

noncomputable section

namespace Cert.NormSpec

open Idealize.ShloMosaic Cert.Attn

/-- An array of rows, its row `r`; a gain, as a row, alone and beside a unit axis. -/
abbrev Arr (R : ℕ) := (⟨2, ![R, 2048]⟩ : Shape).Idx → EReal
abbrev Gain := (⟨1, ![2048]⟩ : Shape).Idx → EReal
abbrev rowOf {R : ℕ} (x : Arr R) (r : Fin R) : Row := fun k => x (ix2 r k)
abbrev gainOf (g : Gain) : Row := fun k => g (ix1 k)
/-- Row `r` of block `t`. -/
abbrev at_ (t : Fin 16) (r : Fin 512) : Fin 8192 := row (a := 16) (b := 512) rfl t r

/-- The array whose row `r` is `f r`. -/
def byRow {R : ℕ} (f : Fin R → Row) : Arr R := fun i => f (i 0) (i 1)

theorem eq_byRow {R : ℕ} (X : Arr R) (f : Fin R → Row) (h : ∀ r j, X (ix2 r j) = f r j) : X = byRow f := funext fun i =>
  (congrArg X (eq_ix2 i (i 0) (i 1) rfl rfl)).trans (h _ _)

/-- A block of rows at its place. -/
theorem byRow_at (f : Fin 8192 → Row) (f' : Fin 512 → Row) (t : Fin 16) (h : ∀ r, f' r = f (at_ t r))
    (i : (⟨2, ![512, 2048]⟩ : Shape).Idx) (j : (⟨2, ![8192, 2048]⟩ : Shape).Idx)
    (h0 : (j 0).val = 512 * t.val + (i 0).val) (h1 : (j 1).val = (i 1).val) : byRow f' i = byRow f j := by
  have e0 : at_ t (i 0) = j 0 := Fin.ext h0.symm
  have e1 : (show Fin 2048 from i 1) = j 1 := Fin.ext h1.symm
  exact (congrFun (h (i 0)) (i 1)).trans (congrArg₂ f e0 e1)

/-- The sum of all rows, beside a unit axis. -/
def total {R : ℕ} (F : Fin R → Row) : Arr 1 := fun i => ∑ r, F r (i 1)

theorem eq_total {R : ℕ} (X : Arr 1) (F : Fin R → Row) (h : ∀ j, X (ix2 0 j) = ∑ r, F r j) : X = total F := funext fun i =>
  (congrArg X (eq_ix2 i 0 (i 1) (Nat.lt_one_iff.1 (i 0).isLt) rfl)).trans (h _)

/-- What sixteen points gather, the first to zeros, each its block's rows: the sum of all rows. -/
theorem gather (F : Fin 8192 → Row) (F' : Fin 16 → Fin 512 → Row) (hF : ∀ t r, F' t r = F (at_ t r))
    (o : ∀ n, n < 16 → Arr 1) (h0 : ∀ h j, o 0 h (ix2 0 j) = 0 + ∑ r, F' ⟨0, h⟩ r j)
    (hn : ∀ n h h' j, o (n + 1) h (ix2 0 j) = o n h' (ix2 0 j) + ∑ r, F' ⟨n + 1, h⟩ r j) : o 15 (by decide) = total F := by
  funext i
  obtain ⟨p, j, rfl⟩ : ∃ p : Fin 1, ∃ j : Fin 2048, i = ix2 p j := ⟨i 0, i 1, eq_ix2 i _ _ rfl rfl⟩
  obtain rfl : p = 0 := Subsingleton.elim _ _
  refine Eq.trans ?_ (sum_rows (a := 16) (b := 512) rfl fun r => F r j).symm
  refine (acc_eq_sum (N := 16) (fun t => ∑ r, F (at_ t r) j) (fun n h => o n h (ix2 0 j)) (fun h => ?_) (fun n h h' => ?_) 15
    (by decide)).trans rfl
  · exact (h0 h j).trans (congrArg (0 + ·) (Finset.sum_congr rfl fun r _ => congrFun (hF _ r) j))
  · exact (hn n h h' j).trans (congrArg (_ + ·) (Finset.sum_congr rfl fun r _ => congrFun (hF _ r) j))

/-- The stream with a branch's normed result added; a row's gradient at the gradient `dy` of its scaled norm, the
    gradient `past` the branch added to it, and the row's share of the gain's gradient. -/
def added (h y g : Row) : Row := fun j => h j + normed y g j
def grad (x g dy : Row) : Row := dx x fun k => dy k * g k
def joined (x g dy past : Row) : Row := fun j => grad x g dy j + past j
def share (x dy : Row) : Row := fun j => dy j * (x j * rn x)

theorem hz : (![0, 0] : Fin 2 → Nat) = fun _ => 0 := funext fun a => by fin_cases a <;> rfl

end Cert.NormSpec

end
-- ==== Proof.Norm.PreNorm.lean ====
/- The norm before a branch: the kernel's blocks and the reference. -/
module

public import proofs.«01_k».proof.Proof.Norm.Blocks
public import proofs.«01_k».proof.Proof.Gen.PreNormIdeal.Value
public import proofs.«01_k».proof.Proof.Gen.PreNormRefIdeal.Read

@[expose] public section

noncomputable section

namespace Cert.PreNormArray

open Idealize.ShloMosaic Idealize.ShloMosaic.TcCoe Idealize.ShloMosaic.Tactic Idealize.SL.Sem
open Cert.PreNormIdeal Cert.PreNormIdeal.Gen Cert.Attn Cert.NormSpec

variable (m : (ℓ : Loc nD τ sig) → Buf (Elt Ideal) ℓ) (c : Dev nD)

abbrev A0 : Arr 8192 := m ((c : Thread nD τ).loc main_arg0)
abbrev A1 : Gain := m ((c : Thread nD τ).loc main_arg1)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

theorem blk0 (t : Fin cfg0.N) (r : Fin 512) : rowOf (iblk m c 0 t : Arr 512) r = rowOf (A0 m c) (at_ t r) := by
  funext j
  unfold rowOf iblk
  rw [View.read_apply]
  refine congrArg (A0 m c) (eq_ix2 _ _ _ ?_ ?_)
  · show win0_0.index t 0 * 512 + 1 * r.val = 512 * t.val + r.val; rw [(index0 t).1]; omega
  · show win0_0.index t 1 * 2048 + 1 * j.val = j.val; rw [(index0 t).2]; omega
/-- The gain as the host hands it over, a unit axis before it. -/
theorem V_gain (j : Fin 2048) : V m c main_v0 (ix2 0 j) = A1 m c (ix1 j) := by
  show shapeCast (s := S2048) S1x2048 (A1 m c) _ (ix2 0 j) = _
  pointwise
theorem blk1 (t : Fin cfg0.N) : rowOf (iblk m c 1 t : Arr 1) 0 = gainOf (A1 m c) := by
  funext j
  unfold rowOf iblk
  rw [View.read_apply]
  refine (congrArg (V m c main_v0) (eq_ix2 _ 0 j ?_ ?_)).trans (V_gain m c j)
  · show win0_1.index t 0 * 1 + 1 * 0 = 0; rw [(index1 t).1]
  · show win0_1.index t 1 * 2048 + 1 * j.val = j.val; rw [(index1 t).2]; omega

/-- What a point leaves. -/
theorem out_block (x0 : Arr 512) (x1 : Arr 1) :
    (out0_2 (F := Ideal) x0 x1 : Arr 512) = byRow fun r => normed (rowOf x0 r) (rowOf x1 0) := by
  refine eq_byRow _ _ fun r j => ?_
  unfold out0_2
  rw [View.canon_unit_zero hz]
  simp only [View.ld_unit_zero (S := S512x2048) hz, View.ld_unit_zero (S := S1x2048) hz]
  unfold k0_pay1
  pointwise
  rfl

/-- The result, and each block of it at its place. -/
abbrev res : Arr 8192 := byRow fun r => normed (rowOf (A0 m c) r) (gainOf (A1 m c))
theorem flushed_eq (t : Fin cfg0.N) : (dats m 0 c).flushed 2 t = ((cfg0.win 2).blk t).view.read (Elt Ideal) (res m c) := by
  rw [Value.flushed2]
  funext i
  rw [View.read_apply]
  refine Eq.trans ?_ (cast_eq _ _).symm
  refine (congrFun (out_block (iblk m c 0 t) (iblk m c 1 t)) i).trans
    (byRow_at _ _ t (fun r => by rw [blk0, blk1]) i (((cfg0.win 2).blk t).view.emb i) ?_ ?_)
  · show win0_2.index t 0 * 512 + 1 * (i 0).val = 512 * t.val + (i 0).val; rw [(index2 t).1]; omega
  · show win0_2.index t 1 * 2048 + 1 * (i 1).val = (i 1).val; rw [(index2 t).2]; omega

/-- The normed rows after the run. -/
theorem final : (dats m 0 c).arrAt 2 cfg0.N = res m c :=
  (dats m 0 c).arrAt_eq_of_cover 2 _ (fun t _ => flushed_eq m c t) fun i => by
    have h0 : (i 0).val < 8192 := (i 0).isLt
    have h1 : (i 1).val < 2048 := (i 1).isLt
    have ht : (i 0).val / 512 < 16 := by omega
    refine ⟨⟨_, ht⟩, flush0_2 _, ?_⟩
    show i ∈ ((View.whole main_v1).slice (win0_2.rect ⟨_, ht⟩)).set
    rw [View.set_slice_whole, Rect.mem_set_unit]
    obtain ⟨e0, e1⟩ := index2 ⟨_, ht⟩
    intro a
    match a with
    | ⟨0, _⟩ => show win0_2.index _ 0 * 512 ≤ (i 0).val ∧ (i 0).val < win0_2.index _ 0 * 512 + 512; rw [e0]; dsimp only; omega
    | ⟨1, _⟩ => show win0_2.index _ 1 * 2048 ≤ (i 1).val ∧ (i 1).val < win0_2.index _ 1 * 2048 + 2048; rw [e1]; omega

end Cert.PreNormArray

namespace Cert.PreNormMath

open Idealize.ShloMosaic Cert.PreNormRefIdeal Cert.PreNormRefIdeal.Gen Cert.PreNormRefIdeal.Read Cert.Attn Cert.NormSpec

variable (x0 : Arr 8192) (x1 : Gain)

theorem ms_apply (r : Fin 8192) : val_main_v6 (F := Ideal) x0 (ix2 r 0) = ms (rowOf x0 r) := by
  unfold val_main_v6 val_main_v5 val_main_v4 val_main_v3 val_main_v2 val_main_v1 val_main_v0 val_main_cst val_main_cst_0 val_main_cst_1
  pointwise [ofBits_zero]
  rfl
theorem out_eq : val_main_v13 (F := Ideal) x0 x1 = byRow fun r => normed (rowOf x0 r) (gainOf x1) := by
  refine eq_byRow _ _ fun r j => ?_
  unfold val_main_v13 val_main_v12 val_main_v11 val_main_v10 val_main_v9 val_main_v8 val_main_v7
  pointwise [ms_apply]
  rfl

end Cert.PreNormMath

end
-- ==== Proof.Norm.PostNorm.lean ====
/- The norm after a branch, added to the stream: the kernel's blocks and the reference. -/
module

public import proofs.«01_k».proof.Proof.Norm.Blocks
public import proofs.«01_k».proof.Proof.Gen.PostNormIdeal.Value
public import proofs.«01_k».proof.Proof.Gen.PostNormRefIdeal.Read

@[expose] public section

noncomputable section

namespace Cert.PostNormArray

open Idealize.ShloMosaic Idealize.ShloMosaic.TcCoe Idealize.ShloMosaic.Tactic Idealize.SL.Sem
open Cert.PostNormIdeal Cert.PostNormIdeal.Gen Cert.Attn Cert.NormSpec

variable (m : (ℓ : Loc nD τ sig) → Buf (Elt Ideal) ℓ) (c : Dev nD)

abbrev A0 : Arr 8192 := m ((c : Thread nD τ).loc main_arg0)
abbrev A1 : Arr 8192 := m ((c : Thread nD τ).loc main_arg1)
abbrev A2 : Gain := m ((c : Thread nD τ).loc main_arg2)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = t.val ∧ win0_3.index t 1 = 0 := by decide +kernel

theorem blk0 (t : Fin cfg0.N) (r : Fin 512) : rowOf (iblk m c 0 t : Arr 512) r = rowOf (A0 m c) (at_ t r) := by
  funext j
  unfold rowOf iblk
  rw [View.read_apply]
  refine congrArg (A0 m c) (eq_ix2 _ _ _ ?_ ?_)
  · show win0_0.index t 0 * 512 + 1 * r.val = 512 * t.val + r.val; rw [(index0 t).1]; omega
  · show win0_0.index t 1 * 2048 + 1 * j.val = j.val; rw [(index0 t).2]; omega
theorem blk1 (t : Fin cfg0.N) (r : Fin 512) : rowOf (iblk m c 1 t : Arr 512) r = rowOf (A1 m c) (at_ t r) := by
  funext j
  unfold rowOf iblk
  rw [View.read_apply]
  refine congrArg (A1 m c) (eq_ix2 _ _ _ ?_ ?_)
  · show win0_1.index t 0 * 512 + 1 * r.val = 512 * t.val + r.val; rw [(index1 t).1]; omega
  · show win0_1.index t 1 * 2048 + 1 * j.val = j.val; rw [(index1 t).2]; omega
/-- The gain as the host hands it over, a unit axis before it. -/
theorem V_gain2 (j : Fin 2048) : V m c main_v0 (ix2 0 j) = A2 m c (ix1 j) := by
  show shapeCast (s := S2048) S1x2048 (A2 m c) _ (ix2 0 j) = _
  pointwise
theorem blk2 (t : Fin cfg0.N) : rowOf (iblk m c 2 t : Arr 1) 0 = gainOf (A2 m c) := by
  funext j
  unfold rowOf iblk
  rw [View.read_apply]
  refine (congrArg (V m c main_v0) (eq_ix2 _ 0 j ?_ ?_)).trans (V_gain2 m c j)
  · show win0_2.index t 0 * 1 + 1 * 0 = 0; rw [(index2 t).1]
  · show win0_2.index t 1 * 2048 + 1 * j.val = j.val; rw [(index2 t).2]; omega

/-- The stream with the normed branch's result added, row by row. -/
theorem out3_block (x0 x1 : Arr 512) (x2 : Arr 1) :
    (out0_3 (F := Ideal) x0 x1 x2 : Arr 512) = byRow fun r => added (rowOf x0 r) (rowOf x1 r) (rowOf x2 0) := by
  refine eq_byRow _ _ fun r j => ?_
  unfold out0_3
  rw [View.canon_unit_zero hz]
  simp only [View.ld_unit_zero (S := S512x2048) hz, View.ld_unit_zero (S := S1x2048) hz]
  unfold k0_pay1
  pointwise
  rfl
abbrev res3 : Arr 8192 := byRow fun r => added (rowOf (A0 m c) r) (rowOf (A1 m c) r) (gainOf (A2 m c))
theorem flushed3_eq (t : Fin cfg0.N) : (dats m 0 c).flushed 3 t = ((cfg0.win 3).blk t).view.read (Elt Ideal) (res3 m c) := by
  rw [Value.flushed3]
  funext i
  rw [View.read_apply]
  refine Eq.trans ?_ (cast_eq _ _).symm
  refine (congrFun (out3_block (iblk m c 0 t) (iblk m c 1 t) (iblk m c 2 t)) i).trans
    (byRow_at _ _ t (fun r => by simp only [blk0, blk1, blk2]) i (((cfg0.win 3).blk t).view.emb i) ?_ ?_)
  · show win0_3.index t 0 * 512 + 1 * (i 0).val = 512 * t.val + (i 0).val; rw [(index3 t).1]; omega
  · show win0_3.index t 1 * 2048 + 1 * (i 1).val = (i 1).val; rw [(index3 t).2]; omega
theorem final3 : (dats m 0 c).arrAt 3 cfg0.N = res3 m c :=
  (dats m 0 c).arrAt_eq_of_cover 3 _ (fun t _ => flushed3_eq m c t) fun i => by
    have h0 : (i 0).val < 8192 := (i 0).isLt
    have h1 : (i 1).val < 2048 := (i 1).isLt
    have ht : (i 0).val / 512 < 16 := by omega
    refine ⟨⟨_, ht⟩, flush0_3 _, ?_⟩
    show i ∈ ((View.whole main_v1).slice (win0_3.rect ⟨_, ht⟩)).set
    rw [View.set_slice_whole, Rect.mem_set_unit]
    obtain ⟨e0, e1⟩ := index3 ⟨_, ht⟩
    intro a
    match a with
    | ⟨0, _⟩ => show win0_3.index _ 0 * 512 ≤ (i 0).val ∧ (i 0).val < win0_3.index _ 0 * 512 + 512; rw [e0]; dsimp only; omega
    | ⟨1, _⟩ => show win0_3.index _ 1 * 2048 ≤ (i 1).val ∧ (i 1).val < win0_3.index _ 1 * 2048 + 2048; rw [e1]; omega

end Cert.PostNormArray

namespace Cert.PostNormMath

open Idealize.ShloMosaic Cert.PostNormRefIdeal Cert.PostNormRefIdeal.Gen Cert.PostNormRefIdeal.Read Cert.Attn Cert.NormSpec

variable (x0 x1 : Arr 8192) (x2 : Gain)

theorem ms_apply (r : Fin 8192) : val_main_v6 (F := Ideal) x1 (ix2 r 0) = ms (rowOf x1 r) := by
  unfold val_main_v6 val_main_v5 val_main_v4 val_main_v3 val_main_v2 val_main_v1 val_main_v0 val_main_cst val_main_cst_0 val_main_cst_1
  pointwise [ofBits_zero]
  rfl
theorem out_eq : val_main_v13 (F := Ideal) x0 x1 x2 = byRow fun r => added (rowOf x0 r) (rowOf x1 r) (gainOf x2) := by
  refine eq_byRow _ _ fun r j => ?_
  unfold val_main_v13 val_main_v12 val_main_v11 val_main_v10 val_main_v9 val_main_v8 val_main_v7
  pointwise [ms_apply]
  rfl

end Cert.PostNormMath

end
-- ==== Proof.Norm.PostPreNorm.lean ====
/- The norm after a branch, added to the stream, and the next branch's norm of the sum: the kernel's blocks and the reference. -/
module

public import proofs.«01_k».proof.Proof.Norm.PreNorm
public import proofs.«01_k».proof.Proof.Norm.PostNorm
public import proofs.«01_k».proof.Proof.Gen.PostPreNormIdeal.Value
public import proofs.«01_k».proof.Proof.Gen.PostPreNormRefIdeal.Read

@[expose] public section

noncomputable section

namespace Cert.PostPreNormArray

open Idealize.ShloMosaic Idealize.ShloMosaic.TcCoe Idealize.ShloMosaic.Tactic Idealize.SL.Sem
open Cert.PostPreNormIdeal Cert.PostPreNormIdeal.Gen Cert.Attn Cert.NormSpec

variable (m : (ℓ : Loc nD τ sig) → Buf (Elt Ideal) ℓ) (c : Dev nD)

abbrev A0 : Arr 8192 := m ((c : Thread nD τ).loc main_arg0)
abbrev A1 : Arr 8192 := m ((c : Thread nD τ).loc main_arg1)
abbrev A2 : Gain := m ((c : Thread nD τ).loc main_arg2)
abbrev A3 : Gain := m ((c : Thread nD τ).loc main_arg3)

theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem index3 : ∀ t : Fin cfg0.N, win0_3.index t 0 = 0 ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel

theorem blk0 (t : Fin cfg0.N) (r : Fin 512) : rowOf (iblk m c 0 t : Arr 512) r = rowOf (A0 m c) (at_ t r) := by
  funext j
  unfold rowOf iblk
  rw [View.read_apply]
  refine congrArg (A0 m c) (eq_ix2 _ _ _ ?_ ?_)
  · show win0_0.index t 0 * 512 + 1 * r.val = 512 * t.val + r.val; rw [(index0 t).1]; omega
  · show win0_0.index t 1 * 2048 + 1 * j.val = j.val; rw [(index0 t).2]; omega
theorem blk1 (t : Fin cfg0.N) (r : Fin 512) : rowOf (iblk m c 1 t : Arr 512) r = rowOf (A1 m c) (at_ t r) := by
  funext j
  unfold rowOf iblk
  rw [View.read_apply]
  refine congrArg (A1 m c) (eq_ix2 _ _ _ ?_ ?_)
  · show win0_1.index t 0 * 512 + 1 * r.val = 512 * t.val + r.val; rw [(index1 t).1]; omega
  · show win0_1.index t 1 * 2048 + 1 * j.val = j.val; rw [(index1 t).2]; omega
/-- The gain as the host hands it over, a unit axis before it. -/
theorem V_gain2 (j : Fin 2048) : V m c main_v0 (ix2 0 j) = A2 m c (ix1 j) := by
  show shapeCast (s := S2048) S1x2048 (A2 m c) _ (ix2 0 j) = _
  pointwise
theorem blk2 (t : Fin cfg0.N) : rowOf (iblk m c 2 t : Arr 1) 0 = gainOf (A2 m c) := by
  funext j
  unfold rowOf iblk
  rw [View.read_apply]
  refine (congrArg (V m c main_v0) (eq_ix2 _ 0 j ?_ ?_)).trans (V_gain2 m c j)
  · show win0_2.index t 0 * 1 + 1 * 0 = 0; rw [(index2 t).1]
  · show win0_2.index t 1 * 2048 + 1 * j.val = j.val; rw [(index2 t).2]; omega
/-- The gain as the host hands it over, a unit axis before it. -/
theorem V_gain3 (j : Fin 2048) : V m c main_v1 (ix2 0 j) = A3 m c (ix1 j) := by
  show shapeCast (s := S2048) S1x2048 (A3 m c) _ (ix2 0 j) = _
  pointwise
theorem blk3 (t : Fin cfg0.N) : rowOf (iblk m c 3 t : Arr 1) 0 = gainOf (A3 m c) := by
  funext j
  unfold rowOf iblk
  rw [View.read_apply]
  refine (congrArg (V m c main_v1) (eq_ix2 _ 0 j ?_ ?_)).trans (V_gain3 m c j)
  · show win0_3.index t 0 * 1 + 1 * 0 = 0; rw [(index3 t).1]
  · show win0_3.index t 1 * 2048 + 1 * j.val = j.val; rw [(index3 t).2]; omega

/-- The stream with the normed branch's result added, row by row; and the norm of that. -/
theorem out4_block (x0 x1 : Arr 512) (x2 x3 : Arr 1) :
    (out0_4 (F := Ideal) x0 x1 x2 x3 : Arr 512) = byRow fun r => added (rowOf x0 r) (rowOf x1 r) (rowOf x2 0) :=
  Eq.trans rfl (PostNormArray.out3_block x0 x1 x2)
theorem sum_apply (x0 x1 : Arr 512) (x2 : Arr 1) (r : Fin 512) (j : Fin 2048) :
    k0_pay1 (F := Ideal) x1 x0 x2 (ix2 r j) = added (rowOf x0 r) (rowOf x1 r) (rowOf x2 0) j := by
  unfold k0_pay1
  pointwise
  rfl
theorem out5_block (x0 x1 : Arr 512) (x2 x3 : Arr 1) :
    (out0_5 (F := Ideal) x0 x1 x2 x3 : Arr 512) = byRow fun r => normed (added (rowOf x0 r) (rowOf x1 r) (rowOf x2 0)) (rowOf x3 0) := by
  refine eq_byRow _ _ fun r j => ?_
  unfold out0_5
  rw [View.canon_unit_zero hz]
  simp only [View.ld_unit_zero (S := S512x2048) hz, View.ld_unit_zero (S := S1x2048) hz]
  unfold k0_pay2
  pointwise [sum_apply]
  rfl
abbrev res4 : Arr 8192 := byRow fun r => added (rowOf (A0 m c) r) (rowOf (A1 m c) r) (gainOf (A2 m c))
abbrev res5 : Arr 8192 := byRow fun r => normed (rowOf (res4 m c) r) (gainOf (A3 m c))
theorem flushed4_eq (t : Fin cfg0.N) : (dats m 0 c).flushed 4 t = ((cfg0.win 4).blk t).view.read (Elt Ideal) (res4 m c) := by
  rw [Value.flushed4]
  funext i
  rw [View.read_apply]
  refine Eq.trans ?_ (cast_eq _ _).symm
  refine (congrFun (out4_block (iblk m c 0 t) (iblk m c 1 t) (iblk m c 2 t) (iblk m c 3 t)) i).trans
    (byRow_at _ _ t (fun r => by simp only [blk0, blk1, blk2]) i (((cfg0.win 4).blk t).view.emb i) ?_ ?_)
  · show win0_4.index t 0 * 512 + 1 * (i 0).val = 512 * t.val + (i 0).val; rw [(index4 t).1]; omega
  · show win0_4.index t 1 * 2048 + 1 * (i 1).val = (i 1).val; rw [(index4 t).2]; omega
theorem final4 : (dats m 0 c).arrAt 4 cfg0.N = res4 m c :=
  (dats m 0 c).arrAt_eq_of_cover 4 _ (fun t _ => flushed4_eq m c t) fun i => by
    have h0 : (i 0).val < 8192 := (i 0).isLt
    have h1 : (i 1).val < 2048 := (i 1).isLt
    have ht : (i 0).val / 512 < 16 := by omega
    refine ⟨⟨_, ht⟩, flush0_4 _, ?_⟩
    show i ∈ ((View.whole main_v2_0).slice (win0_4.rect ⟨_, ht⟩)).set
    rw [View.set_slice_whole, Rect.mem_set_unit]
    obtain ⟨e0, e1⟩ := index4 ⟨_, ht⟩
    intro a
    match a with
    | ⟨0, _⟩ => show win0_4.index _ 0 * 512 ≤ (i 0).val ∧ (i 0).val < win0_4.index _ 0 * 512 + 512; rw [e0]; dsimp only; omega
    | ⟨1, _⟩ => show win0_4.index _ 1 * 2048 ≤ (i 1).val ∧ (i 1).val < win0_4.index _ 1 * 2048 + 2048; rw [e1]; omega

theorem flushed5_eq (t : Fin cfg0.N) : (dats m 0 c).flushed 5 t = ((cfg0.win 5).blk t).view.read (Elt Ideal) (res5 m c) := by
  rw [Value.flushed5]
  funext i
  rw [View.read_apply]
  refine Eq.trans ?_ (cast_eq _ _).symm
  refine (congrFun (out5_block (iblk m c 0 t) (iblk m c 1 t) (iblk m c 2 t) (iblk m c 3 t)) i).trans
    (byRow_at _ _ t (fun r => by simp only [blk0, blk1, blk2, blk3]; rfl) i (((cfg0.win 5).blk t).view.emb i) ?_ ?_)
  · show win0_5.index t 0 * 512 + 1 * (i 0).val = 512 * t.val + (i 0).val; rw [(index5 t).1]; omega
  · show win0_5.index t 1 * 2048 + 1 * (i 1).val = (i 1).val; rw [(index5 t).2]; omega
theorem final5 : (dats m 0 c).arrAt 5 cfg0.N = res5 m c :=
  (dats m 0 c).arrAt_eq_of_cover 5 _ (fun t _ => flushed5_eq m c t) fun i => by
    have h0 : (i 0).val < 8192 := (i 0).isLt
    have h1 : (i 1).val < 2048 := (i 1).isLt
    have ht : (i 0).val / 512 < 16 := by omega
    refine ⟨⟨_, ht⟩, flush0_5 _, ?_⟩
    show i ∈ ((View.whole main_v2_1).slice (win0_5.rect ⟨_, ht⟩)).set
    rw [View.set_slice_whole, Rect.mem_set_unit]
    obtain ⟨e0, e1⟩ := index5 ⟨_, ht⟩
    intro a
    match a with
    | ⟨0, _⟩ => show win0_5.index _ 0 * 512 ≤ (i 0).val ∧ (i 0).val < win0_5.index _ 0 * 512 + 512; rw [e0]; dsimp only; omega
    | ⟨1, _⟩ => show win0_5.index _ 1 * 2048 ≤ (i 1).val ∧ (i 1).val < win0_5.index _ 1 * 2048 + 2048; rw [e1]; omega

end Cert.PostPreNormArray

namespace Cert.PostPreNormMath

open Idealize.ShloMosaic Cert.PostPreNormRefIdeal Cert.PostPreNormRefIdeal.Gen Cert.PostPreNormRefIdeal.Read Cert.Attn Cert.NormSpec

variable (x0 x1 : Arr 8192) (x2 x3 : Gain)

/-- The reference is the two norms' references, one after the other. -/
theorem sum_eq : val_main_v13 (F := Ideal) x0 x1 x2 = byRow fun r => added (rowOf x0 r) (rowOf x1 r) (gainOf x2) :=
  Eq.trans rfl (PostNormMath.out_eq x0 x1 x2)
theorem out_eq : val_main_v27 (F := Ideal) x0 x1 x2 x3
    = byRow fun r => normed (added (rowOf x0 r) (rowOf x1 r) (gainOf x2)) (gainOf x3) :=
  Eq.trans (Eq.trans rfl (PreNormMath.out_eq (val_main_v13 (F := Ideal) x0 x1 x2) x3)) (by rw [sum_eq]; rfl)

end Cert.PostPreNormMath

end
-- ==== Proof.Norm.PostNormBwd.lean ====
/- The gradient of the norm after a branch: the kernel's blocks and the reference. -/
module

public import proofs.«01_k».proof.Proof.Norm.Blocks
public import proofs.«01_k».proof.Proof.Gen.PostNormBwdIdeal.Value
public import proofs.«01_k».proof.Proof.Gen.PostNormBwdRefIdeal.Read

@[expose] public section

noncomputable section

namespace Cert.PostNormBwdArray

open Idealize.ShloMosaic Idealize.ShloMosaic.TcCoe Idealize.ShloMosaic.Tactic Idealize.SL.Sem
open Cert.PostNormBwdIdeal Cert.PostNormBwdIdeal.Gen Cert.Attn Cert.NormSpec

variable (m : (ℓ : Loc nD τ sig) → Buf (Elt Ideal) ℓ) (c : Dev nD)

abbrev A0 : Arr 8192 := m ((c : Thread nD τ).loc main_arg0)
abbrev A1 : Gain := m ((c : Thread nD τ).loc main_arg1)
abbrev A2 : Arr 8192 := m ((c : Thread nD τ).loc main_arg2)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = 0 ∧ win0_4.index t 1 = 0 := by decide +kernel

theorem blk0 (t : Fin cfg0.N) (r : Fin 512) : rowOf (iblk m c 0 t : Arr 512) r = rowOf (A0 m c) (at_ t r) := by
  funext j
  unfold rowOf iblk
  rw [View.read_apply]
  refine congrArg (A0 m c) (eq_ix2 _ _ _ ?_ ?_)
  · show win0_0.index t 0 * 512 + 1 * r.val = 512 * t.val + r.val; rw [(index0 t).1]; omega
  · show win0_0.index t 1 * 2048 + 1 * j.val = j.val; rw [(index0 t).2]; omega
theorem blk2 (t : Fin cfg0.N) (r : Fin 512) : rowOf (iblk m c 2 t : Arr 512) r = rowOf (A2 m c) (at_ t r) := by
  funext j
  unfold rowOf iblk
  rw [View.read_apply]
  refine congrArg (A2 m c) (eq_ix2 _ _ _ ?_ ?_)
  · show win0_2.index t 0 * 512 + 1 * r.val = 512 * t.val + r.val; rw [(index2 t).1]; omega
  · show win0_2.index t 1 * 2048 + 1 * j.val = j.val; rw [(index2 t).2]; omega
/-- The gain as the host hands it over, a unit axis before it. -/
theorem V_gain1 (j : Fin 2048) : V m c main_v0 (ix2 0 j) = A1 m c (ix1 j) := by
  show shapeCast (s := S2048) S1x2048 (A1 m c) _ (ix2 0 j) = _
  pointwise
theorem blk1 (t : Fin cfg0.N) : rowOf (iblk m c 1 t : Arr 1) 0 = gainOf (A1 m c) := by
  funext j
  unfold rowOf iblk
  rw [View.read_apply]
  refine (congrArg (V m c main_v0) (eq_ix2 _ 0 j ?_ ?_)).trans (V_gain1 m c j)
  · show win0_1.index t 0 * 1 + 1 * 0 = 0; rw [(index1 t).1]
  · show win0_1.index t 1 * 2048 + 1 * j.val = j.val; rw [(index1 t).2]; omega

/-- The two blocks a point computes: its rows' gradients, and its rows' shares of the gain's gradient added to `a`. -/
theorem dx_block (x0 : Arr 512) (x1 : Arr 1) (x2 : Arr 512) :
    (k0_pay3 (F := Ideal) x0 x1 x2 : Arr 512) = byRow fun r => grad (rowOf x0 r) (rowOf x1 0) (rowOf x2 r) := by
  refine eq_byRow _ _ fun r j => ?_
  unfold k0_pay3 k0_pay2 k0_pay1
  pointwise
  rfl
theorem gain_block (x0 x2 : Arr 512) (a : Arr 1) (j : Fin 2048) :
    (k0_pay5 (F := Ideal) x0 x2 a : Arr 1) (ix2 0 j) = a (ix2 0 j) + ∑ r, share (rowOf x0 r) (rowOf x2 r) j := by
  unfold k0_pay5 k0_pay2 k0_pay1
  pointwise
  rfl
theorem zeros (j : Fin 2048) : (k0_pay4 (F := Ideal) : Arr 1) (ix2 0 j) = 0 := by
  unfold k0_pay4
  pointwise [ofBits_zero]

/-- What a later point leaves, and the first point. -/
theorem outs_later (t : Fin cfg0.N) (h : ¬ t.val % 16 = 0) :
    outsAt0 m c t.val t.isLt = (k0_pay3 (F := Ideal) (iblk m c 0 t) (iblk m c 1 t) (iblk m c 2 t),
      k0_pay5 (F := Ideal) (iblk m c 0 t) (iblk m c 2 t) (outsAt0 m c (t.val - 1) (Nat.lt_of_le_of_lt (Nat.sub_le _ _) t.isLt)).2) := by
  rw [outsAt0_B m c t h]
  refine Prod.ext ?_ ?_
  · dsimp only
    unfold out0_B_3; rw [View.read_writes_eq_canon _ _ _ (cover0_B_3 c _ _ _ _ _ _ _ _ _ _ _ _ _ _ _ _)]
    unfold kernelRun0_B; dsimp only; sl_unfold_words
    simp only [View.readAt_eq_ld, (hs0_0 t).read_unread, (hs0_1 t).read_unread, (hs0_2 t).read_unread]
    rw [View.canon_unit_zero hz]
    simp only [View.ld_unit_zero (S := S512x2048) hz, View.ld_unit_zero (S := S1x2048) hz]
  · dsimp only
    unfold out0_B_4; rw [View.read_writes_eq_canon _ _ _ (cover0_B_4 c _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_4 t).read_unread]
    rw [View.canon_unit_zero hz]
    simp only [View.ld_unit_zero (S := S512x2048) hz, View.ld_unit_zero (S := S1x2048) hz]
theorem outs_first (t : Fin cfg0.N) (h : t.val % 16 = 0) :
    outsAt0 m c t.val t.isLt = (k0_pay3 (F := Ideal) (iblk m c 0 t) (iblk m c 1 t) (iblk m c 2 t),
      k0_pay5 (F := Ideal) (iblk m c 0 t) (iblk m c 2 t) (k0_pay4 (F := Ideal))) := by
  rw [outsAt0_A m c t h]
  refine Prod.ext ?_ ?_
  · dsimp only
    unfold out0_A_3; rw [View.read_writes_eq_canon _ _ _ (cover0_A_3 c _ _ _ _ _ _ _ _ _ _ _ _ _ _ _)]
    unfold kernelRun0_A; dsimp only; sl_unfold_words
    simp only [View.readAt_eq_ld, (hs0_0 t).read_unread, (hs0_1 t).read_unread, (hs0_2 t).read_unread]
    rw [View.canon_unit_zero hz]
    simp only [View.ld_unit_zero (S := S512x2048) hz, View.ld_unit_zero (S := S1x2048) hz]
  · dsimp only
    unfold out0_A_4; rw [View.read_writes_eq_canon _ _ _ (cover0_A_4 c _ _ _ _ _ _ _ _ _ _ _ _ _ _ _)]
    unfold kernelRun0_A; dsimp only; sl_unfold_words
    simp only [View.readAt_eq_ld, (hs0_0 t).read_unread, (hs0_1 t).read_unread, (hs0_2 t).read_unread]
    rw [View.canon_cons_unit_zero (S := S1x2048) hz, View.readCov_unit_zero (S := S1x2048) _ hz]
    simp only [View.ld_unit_zero (S := S512x2048) hz, View.ld_unit_zero (S := S1x2048) hz]

/-- The results: the rows' gradients, and the gain's. -/
abbrev res3 : Arr 8192 := byRow fun r => grad (rowOf (A0 m c) r) (gainOf (A1 m c)) (rowOf (A2 m c) r)
abbrev shares (r : Fin 8192) : Row := share (rowOf (A0 m c) r) (rowOf (A2 m c) r)
abbrev res4 : Arr 1 := total (shares m c)

theorem outs_1 (t : Fin cfg0.N) : (outsAt0 m c t.val t.isLt).1
    = (byRow fun r => grad (rowOf (iblk m c 0 t : Arr 512) r) (rowOf (iblk m c 1 t : Arr 1) 0) (rowOf (iblk m c 2 t : Arr 512) r) : Arr 512) := by
  by_cases h : t.val % 16 = 0
  · rw [outs_first m c t h]; exact dx_block _ _ _
  · rw [outs_later m c t h]; exact dx_block _ _ _
theorem last_gain : (outsAt0 m c 15 (by decide)).2 = res4 m c :=
  gather (shares m c) (fun t r => share (rowOf (iblk m c 0 t : Arr 512) r) (rowOf (iblk m c 2 t : Arr 512) r))
    (fun t r => congrArg₂ share (blk0 m c t r) (blk2 m c t r)) (fun n hn => (outsAt0 m c n hn).2)
    (fun h j => (congrFun (congrArg Prod.snd (outs_first m c ⟨0, h⟩ rfl)) (ix2 0 j)).trans
      ((gain_block _ _ _ j).trans (congrArg (· + _) (zeros j))))
    (fun n h _ j => (congrFun (congrArg Prod.snd (outs_later m c ⟨n + 1, h⟩ (by
      have hn : n + 1 < 16 := h
      show ¬ (n + 1) % 16 = 0; omega))) (ix2 0 j)).trans (gain_block _ _ _ j))

theorem flushed3_eq (t : Fin cfg0.N) : (dats m 0 c).flushed 3 t = ((cfg0.win 3).blk t).view.read (Elt Ideal) (res3 m c) := by
  rw [Value.flushed3, outs_1]
  funext i
  rw [View.read_apply]
  refine Eq.trans ?_ (cast_eq _ _).symm
  refine byRow_at _ _ t (fun r => by simp only [blk0, blk1, blk2]) i (((cfg0.win 3).blk t).view.emb i) ?_ ?_
  · show win0_3.index t 0 * 512 + 1 * (i 0).val = 512 * t.val + (i 0).val; rw [(index3 t).1]; omega
  · show win0_3.index t 1 * 2048 + 1 * (i 1).val = (i 1).val; rw [(index3 t).2]; omega
theorem final3 : (dats m 0 c).arrAt 3 cfg0.N = res3 m c :=
  (dats m 0 c).arrAt_eq_of_cover 3 _ (fun t _ => flushed3_eq m c t) fun i => by
    have h0 : (i 0).val < 8192 := (i 0).isLt
    have h1 : (i 1).val < 2048 := (i 1).isLt
    have ht : (i 0).val / 512 < 16 := by omega
    refine ⟨⟨_, ht⟩, flush0_3 _, ?_⟩
    show i ∈ ((View.whole main_v1_0).slice (win0_3.rect ⟨_, ht⟩)).set
    rw [View.set_slice_whole, Rect.mem_set_unit]
    obtain ⟨e0, e1⟩ := index3 ⟨_, ht⟩
    intro a
    match a with
    | ⟨0, _⟩ => show win0_3.index _ 0 * 512 ≤ (i 0).val ∧ (i 0).val < win0_3.index _ 0 * 512 + 512; rw [e0]; dsimp only; omega
    | ⟨1, _⟩ => show win0_3.index _ 1 * 2048 ≤ (i 1).val ∧ (i 1).val < win0_3.index _ 1 * 2048 + 2048; rw [e1]; omega

theorem flushed4_eq (t : Fin cfg0.N) (hf : (cfg0.win 4).flush t = true) :
    (dats m 0 c).flushed 4 t = ((cfg0.win 4).blk t).view.read (Elt Ideal) (res4 m c) := by
  obtain rfl : t = ⟨15, by decide⟩ := by
    have h := (flush0_4 t).mp hf
    have h' : t.val < 16 := t.isLt
    exact Fin.ext (by show t.val = 15; omega)
  rw [Value.flushed4]
  show (cfg0.win 4).cut _ (outsAt0 m c 15 _).2 = _
  rw [last_gain]
  funext i
  rw [View.read_apply]
  refine Eq.trans ?_ (cast_eq _ _).symm
  refine congrArg (res4 m c) (funext fun a => Fin.ext ?_)
  match a with
  | ⟨0, _⟩ => show (i 0).val = win0_4.index _ 0 * 1 + 1 * (i 0).val; rw [(index4 _).1]; omega
  | ⟨1, _⟩ => show (i 1).val = win0_4.index _ 1 * 2048 + 1 * (i 1).val; rw [(index4 _).2]; omega
theorem mem4 (t : Fin cfg0.N) (i : S1x2048.Idx) : i ∈ ((cfg0.win 4).blk t).view.set := by
  show i ∈ ((View.whole main_v1_1).slice (win0_4.rect t)).set
  rw [View.set_slice_whole, Rect.mem_set_unit]
  have h0 : (i 0).val < 1 := (i 0).isLt
  have h1 : (i 1).val < 2048 := (i 1).isLt
  intro a
  match a with
  | ⟨0, _⟩ => show win0_4.index t 0 * 1 ≤ (i 0).val ∧ (i 0).val < win0_4.index t 0 * 1 + 1; rw [(index4 t).1]; omega
  | ⟨1, _⟩ => show win0_4.index t 1 * 2048 ≤ (i 1).val ∧ (i 1).val < win0_4.index t 1 * 2048 + 2048; rw [(index4 t).2]; omega
theorem final4 : (dats m 0 c).arrAt 4 cfg0.N = res4 m c :=
  (dats m 0 c).arrAt_eq_of_cover 4 _ (flushed4_eq m c) fun i => ⟨⟨15, by decide⟩, (flush0_4 _).mpr rfl, mem4 _ i⟩

end Cert.PostNormBwdArray

namespace Cert.PostNormBwdMath

open Idealize.ShloMosaic Cert.PostNormBwdRefIdeal Cert.PostNormBwdRefIdeal.Gen Cert.PostNormBwdRefIdeal.Read Cert.Attn Cert.NormSpec

variable (x0 : Arr 8192) (x1 : Gain) (x2 : Arr 8192)

theorem ms_apply (r : Fin 8192) : val_main_v6 (F := Ideal) x0 (ix2 r 0) = ms (rowOf x0 r) := by
  unfold val_main_v6 val_main_v5 val_main_v4 val_main_v3 val_main_v2 val_main_v1 val_main_v0 val_main_cst val_main_cst_0 val_main_cst_1
  pointwise [ofBits_zero]
  rfl
theorem rn_apply (r : Fin 8192) : val_main_v7 (F := Ideal) x0 (ix2 r 0) = rn (rowOf x0 r) := by
  unfold val_main_v7
  pointwise [ms_apply]
  rfl
theorem scaled_apply (r : Fin 8192) (k : Fin 2048) : val_main_v20 (F := Ideal) x1 x2 (ix2 r k) = rowOf x2 r k * gainOf x1 k := by
  unfold val_main_v20 val_main_v19 val_main_v13
  pointwise
theorem slope_apply (r : Fin 8192) : val_main_v29 (F := Ideal) x0 x1 x2 (ix2 r 0)
    = slope (rowOf x0 r) fun k => rowOf x2 r k * gainOf x1 k := by
  unfold val_main_v29 val_main_v28 val_main_v27 val_main_v24 val_main_v23 val_main_v22 val_main_v10 val_main_v9 val_main_v8
    val_main_cst_2 val_main_cst_5 val_main_cst_6
  pointwise [ms_apply, rn_apply, scaled_apply, ofBits_zero]
  rfl
theorem through_apply (r : Fin 8192) : val_main_v30 (F := Ideal) x0 x1 x2 (ix1 r)
    = slope (rowOf x0 r) fun k => rowOf x2 r k * gainOf x1 k := by
  unfold val_main_v30 val_main_cst_7
  pointwise [ofBits_zero]
  rw [Fin.sum_univ_one]
  exact slope_apply x0 x1 x2 r
theorem dx_eq : val_main_v36 (F := Ideal) x0 x1 x2 = byRow fun r => grad (rowOf x0 r) (gainOf x1) (rowOf x2 r) := by
  refine eq_byRow _ _ fun r j => ?_
  unfold grad
  rw [← NormSpec.dx_eq]
  unfold val_main_v36 val_main_v35 val_main_v34 val_main_v33 val_main_v32 val_main_v31 val_main_v26 val_main_v25
  pointwise [rn_apply, scaled_apply, through_apply]
theorem share_apply (r : Fin 8192) (j : Fin 2048) : val_main_v16 (F := Ideal) x0 x2 (ix2 r j) = share (rowOf x0 r) (rowOf x2 r) j := by
  unfold share
  rw [mul_comm]
  unfold val_main_v16 val_main_v12 val_main_v11
  pointwise [rn_apply]
theorem sum_apply (j : Fin 2048) : val_main_v17 (F := Ideal) x0 x2 (ix1 j) = ∑ r, share (rowOf x0 r) (rowOf x2 r) j := by
  unfold val_main_v17 val_main_cst_3
  pointwise [share_apply, ofBits_zero]
theorem gain_eq : val_main_v37 (F := Ideal) x0 x2 = total fun r => share (rowOf x0 r) (rowOf x2 r) := by
  refine eq_total _ _ fun j => ?_
  unfold val_main_v37 val_main_v21 val_main_v18 val_main_cst_4
  pointwise [ofBits_zero]
  rw [Fin.sum_univ_one]
  exact sum_apply x0 x2 j

end Cert.PostNormBwdMath

end
-- ==== Proof.Norm.PreNormBwd.lean ====
/- The gradient of the norm before a branch, the gradient past the branch added: the kernel's blocks and the reference. -/
module

public import proofs.«01_k».proof.Proof.Norm.PostNormBwd
public import proofs.«01_k».proof.Proof.Gen.PreNormBwdIdeal.Value
public import proofs.«01_k».proof.Proof.Gen.PreNormBwdRefIdeal.Read

@[expose] public section

noncomputable section

namespace Cert.PreNormBwdArray

open Idealize.ShloMosaic Idealize.ShloMosaic.TcCoe Idealize.ShloMosaic.Tactic Idealize.SL.Sem
open Cert.PreNormBwdIdeal Cert.PreNormBwdIdeal.Gen Cert.Attn Cert.NormSpec

variable (m : (ℓ : Loc nD τ sig) → Buf (Elt Ideal) ℓ) (c : Dev nD)

abbrev A0 : Arr 8192 := m ((c : Thread nD τ).loc main_arg0)
abbrev A1 : Gain := m ((c : Thread nD τ).loc main_arg1)
abbrev A2 : Arr 8192 := m ((c : Thread nD τ).loc main_arg2)
abbrev A3 : Arr 8192 := m ((c : Thread nD τ).loc main_arg3)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel

theorem blk0 (t : Fin cfg0.N) (r : Fin 512) : rowOf (iblk m c 0 t : Arr 512) r = rowOf (A0 m c) (at_ t r) := by
  funext j
  unfold rowOf iblk
  rw [View.read_apply]
  refine congrArg (A0 m c) (eq_ix2 _ _ _ ?_ ?_)
  · show win0_0.index t 0 * 512 + 1 * r.val = 512 * t.val + r.val; rw [(index0 t).1]; omega
  · show win0_0.index t 1 * 2048 + 1 * j.val = j.val; rw [(index0 t).2]; omega
theorem blk2 (t : Fin cfg0.N) (r : Fin 512) : rowOf (iblk m c 2 t : Arr 512) r = rowOf (A2 m c) (at_ t r) := by
  funext j
  unfold rowOf iblk
  rw [View.read_apply]
  refine congrArg (A2 m c) (eq_ix2 _ _ _ ?_ ?_)
  · show win0_2.index t 0 * 512 + 1 * r.val = 512 * t.val + r.val; rw [(index2 t).1]; omega
  · show win0_2.index t 1 * 2048 + 1 * j.val = j.val; rw [(index2 t).2]; omega
theorem blk3 (t : Fin cfg0.N) (r : Fin 512) : rowOf (iblk m c 3 t : Arr 512) r = rowOf (A3 m c) (at_ t r) := by
  funext j
  unfold rowOf iblk
  rw [View.read_apply]
  refine congrArg (A3 m c) (eq_ix2 _ _ _ ?_ ?_)
  · show win0_3.index t 0 * 512 + 1 * r.val = 512 * t.val + r.val; rw [(index3 t).1]; omega
  · show win0_3.index t 1 * 2048 + 1 * j.val = j.val; rw [(index3 t).2]; omega
/-- The gain as the host hands it over, a unit axis before it. -/
theorem V_gain1 (j : Fin 2048) : V m c main_v1 (ix2 0 j) = A1 m c (ix1 j) := by
  show shapeCast (s := S2048) S1x2048 (A1 m c) _ (ix2 0 j) = _
  pointwise
theorem blk1 (t : Fin cfg0.N) : rowOf (iblk m c 1 t : Arr 1) 0 = gainOf (A1 m c) := by
  funext j
  unfold rowOf iblk
  rw [View.read_apply]
  refine (congrArg (V m c main_v1) (eq_ix2 _ 0 j ?_ ?_)).trans (V_gain1 m c j)
  · show win0_1.index t 0 * 1 + 1 * 0 = 0; rw [(index1 t).1]
  · show win0_1.index t 1 * 2048 + 1 * j.val = j.val; rw [(index1 t).2]; omega

/-- The two blocks a point computes: its rows' gradients, the gradient past the branch added, and its rows' shares of the gain's
    gradient added to `a`. -/
theorem dx_block (x0 : Arr 512) (x1 : Arr 1) (x2 x3 : Arr 512) :
    (k0_pay6 (F := Ideal) x0 x1 x2 x3 : Arr 512) = byRow fun r => joined (rowOf x0 r) (rowOf x1 0) (rowOf x2 r) (rowOf x3 r) := by
  refine eq_byRow _ _ fun r j => ?_
  unfold k0_pay6 k0_pay4 k0_pay3 k0_pay2
  pointwise
  rfl
theorem gain_block (x0 x2 : Arr 512) (a : Arr 1) (j : Fin 2048) :
    (k0_pay1 (F := Ideal) (k0_pay5 x0 x2) a : Arr 1) (ix2 0 j) = a (ix2 0 j) + ∑ r, share (rowOf x0 r) (rowOf x2 r) j := by
  unfold k0_pay1 k0_pay5 k0_pay4 k0_pay3 k0_pay2
  pointwise
  rfl
theorem zeros (j : Fin 2048) : (k0_pay7 (F := Ideal) : Arr 1) (ix2 0 j) = 0 := by
  unfold k0_pay7
  pointwise [ofBits_zero]

/-- What a later point leaves, and the first point. -/
theorem outs_later (t : Fin cfg0.N) (h : ¬ t.val % 16 = 0) :
    outsAt0 m c t.val t.isLt = (k0_pay6 (F := Ideal) (iblk m c 0 t) (iblk m c 1 t) (iblk m c 2 t) (iblk m c 3 t), k0_pay1 (F := Ideal) (k0_pay5 (iblk m c 0 t) (iblk m c 2 t))
      (outsAt0 m c (t.val - 1) (Nat.lt_of_le_of_lt (Nat.sub_le _ _) t.isLt)).2) := by
  rw [outsAt0_B m c t h]
  refine Prod.ext ?_ ?_
  · dsimp only
    unfold out0_B_4; rw [View.read_writes_eq_canon _ _ _ (cover0_B_4 c _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_3 t).read_unread]
    rw [View.canon_unit_zero hz]
    simp only [View.ld_unit_zero (S := S512x2048) hz, View.ld_unit_zero (S := S1x2048) hz]
  · dsimp only
    unfold out0_B_5; rw [View.read_writes_eq_canon _ _ _ (cover0_B_5 c _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_3 t).read_unread, (hs0_5 t).read_unread]
    rw [View.canon_unit_zero hz]
    simp only [View.ld_unit_zero (S := S512x2048) hz, View.ld_unit_zero (S := S1x2048) hz]
theorem outs_first (t : Fin cfg0.N) (h : t.val % 16 = 0) :
    outsAt0 m c t.val t.isLt = (k0_pay6 (F := Ideal) (iblk m c 0 t) (iblk m c 1 t) (iblk m c 2 t) (iblk m c 3 t), k0_pay1 (F := Ideal) (k0_pay5 (iblk m c 0 t) (iblk m c 2 t)) (k0_pay7 (F := Ideal))) := by
  rw [outsAt0_A m c t h]
  refine Prod.ext ?_ ?_
  · dsimp only
    unfold out0_A_4; rw [View.read_writes_eq_canon _ _ _ (cover0_A_4 c _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread]
    rw [View.canon_unit_zero hz]
    simp only [View.ld_unit_zero (S := S512x2048) hz, View.ld_unit_zero (S := S1x2048) hz]
  · dsimp only
    unfold out0_A_5; rw [View.read_writes_eq_canon _ _ _ (cover0_A_5 c _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread]
    rw [View.canon_cons_unit_zero (S := S1x2048) hz, View.readCov_unit_zero (S := S1x2048) _ hz]
    simp only [View.ld_unit_zero (S := S512x2048) hz, View.ld_unit_zero (S := S1x2048) hz]

/-- The results: the rows' gradients, and the gain's. -/
abbrev res4 : Arr 8192 := byRow fun r => joined (rowOf (A0 m c) r) (gainOf (A1 m c)) (rowOf (A2 m c) r) (rowOf (A3 m c) r)
abbrev shares (r : Fin 8192) : Row := share (rowOf (A0 m c) r) (rowOf (A2 m c) r)
abbrev res5 : Arr 1 := total (shares m c)

theorem outs_1 (t : Fin cfg0.N) : (outsAt0 m c t.val t.isLt).1
    = (byRow fun r => joined (rowOf (iblk m c 0 t : Arr 512) r) (rowOf (iblk m c 1 t : Arr 1) 0) (rowOf (iblk m c 2 t : Arr 512) r)
        (rowOf (iblk m c 3 t : Arr 512) r) : Arr 512) := by
  by_cases h : t.val % 16 = 0
  · rw [outs_first m c t h]; exact dx_block _ _ _ _
  · rw [outs_later m c t h]; exact dx_block _ _ _ _
theorem last_gain : (outsAt0 m c 15 (by decide)).2 = res5 m c :=
  gather (shares m c) (fun t r => share (rowOf (iblk m c 0 t : Arr 512) r) (rowOf (iblk m c 2 t : Arr 512) r))
    (fun t r => congrArg₂ share (blk0 m c t r) (blk2 m c t r)) (fun n hn => (outsAt0 m c n hn).2)
    (fun h j => (congrFun (congrArg Prod.snd (outs_first m c ⟨0, h⟩ rfl)) (ix2 0 j)).trans
      ((gain_block _ _ _ j).trans (congrArg (· + _) (zeros j))))
    (fun n h _ j => (congrFun (congrArg Prod.snd (outs_later m c ⟨n + 1, h⟩ (by
      have hn : n + 1 < 16 := h
      show ¬ (n + 1) % 16 = 0; omega))) (ix2 0 j)).trans (gain_block _ _ _ j))

theorem flushed4_eq (t : Fin cfg0.N) : (dats m 0 c).flushed 4 t = ((cfg0.win 4).blk t).view.read (Elt Ideal) (res4 m c) := by
  rw [Value.flushed4, outs_1]
  funext i
  rw [View.read_apply]
  refine Eq.trans ?_ (cast_eq _ _).symm
  refine byRow_at _ _ t (fun r => by simp only [blk0, blk1, blk2, blk3]) i (((cfg0.win 4).blk t).view.emb i) ?_ ?_
  · show win0_4.index t 0 * 512 + 1 * (i 0).val = 512 * t.val + (i 0).val; rw [(index4 t).1]; omega
  · show win0_4.index t 1 * 2048 + 1 * (i 1).val = (i 1).val; rw [(index4 t).2]; omega
theorem final4 : (dats m 0 c).arrAt 4 cfg0.N = res4 m c :=
  (dats m 0 c).arrAt_eq_of_cover 4 _ (fun t _ => flushed4_eq m c t) fun i => by
    have h0 : (i 0).val < 8192 := (i 0).isLt
    have h1 : (i 1).val < 2048 := (i 1).isLt
    have ht : (i 0).val / 512 < 16 := by omega
    refine ⟨⟨_, ht⟩, flush0_4 _, ?_⟩
    show i ∈ ((View.whole main_v2_0).slice (win0_4.rect ⟨_, ht⟩)).set
    rw [View.set_slice_whole, Rect.mem_set_unit]
    obtain ⟨e0, e1⟩ := index4 ⟨_, ht⟩
    intro a
    match a with
    | ⟨0, _⟩ => show win0_4.index _ 0 * 512 ≤ (i 0).val ∧ (i 0).val < win0_4.index _ 0 * 512 + 512; rw [e0]; dsimp only; omega
    | ⟨1, _⟩ => show win0_4.index _ 1 * 2048 ≤ (i 1).val ∧ (i 1).val < win0_4.index _ 1 * 2048 + 2048; rw [e1]; omega

theorem flushed5_eq (t : Fin cfg0.N) (hf : (cfg0.win 5).flush t = true) :
    (dats m 0 c).flushed 5 t = ((cfg0.win 5).blk t).view.read (Elt Ideal) (res5 m c) := by
  obtain rfl : t = ⟨15, by decide⟩ := by
    have h := (flush0_5 t).mp hf
    have h' : t.val < 16 := t.isLt
    exact Fin.ext (by show t.val = 15; omega)
  rw [Value.flushed5]
  show (cfg0.win 5).cut _ (outsAt0 m c 15 _).2 = _
  rw [last_gain]
  funext i
  rw [View.read_apply]
  refine Eq.trans ?_ (cast_eq _ _).symm
  refine congrArg (res5 m c) (funext fun a => Fin.ext ?_)
  match a with
  | ⟨0, _⟩ => show (i 0).val = win0_5.index _ 0 * 1 + 1 * (i 0).val; rw [(index5 _).1]; omega
  | ⟨1, _⟩ => show (i 1).val = win0_5.index _ 1 * 2048 + 1 * (i 1).val; rw [(index5 _).2]; omega
theorem mem5 (t : Fin cfg0.N) (i : S1x2048.Idx) : i ∈ ((cfg0.win 5).blk t).view.set := by
  show i ∈ ((View.whole main_v2_1).slice (win0_5.rect t)).set
  rw [View.set_slice_whole, Rect.mem_set_unit]
  have h0 : (i 0).val < 1 := (i 0).isLt
  have h1 : (i 1).val < 2048 := (i 1).isLt
  intro a
  match a with
  | ⟨0, _⟩ => show win0_5.index t 0 * 1 ≤ (i 0).val ∧ (i 0).val < win0_5.index t 0 * 1 + 1; rw [(index5 t).1]; omega
  | ⟨1, _⟩ => show win0_5.index t 1 * 2048 ≤ (i 1).val ∧ (i 1).val < win0_5.index t 1 * 2048 + 2048; rw [(index5 t).2]; omega
theorem final5 : (dats m 0 c).arrAt 5 cfg0.N = res5 m c :=
  (dats m 0 c).arrAt_eq_of_cover 5 _ (flushed5_eq m c) fun i => ⟨⟨15, by decide⟩, (flush0_5 _).mpr rfl, mem5 _ i⟩

end Cert.PreNormBwdArray

namespace Cert.PreNormBwdMath

open Idealize.ShloMosaic Cert.PreNormBwdRefIdeal Cert.PreNormBwdRefIdeal.Gen Cert.PreNormBwdRefIdeal.Read Cert.Attn Cert.NormSpec

variable (x0 : Arr 8192) (x1 : Gain) (x2 x3 : Arr 8192)

/-- The reference is the other norm's, the gradient past the branch added. -/
theorem grad_eq : val_main_v35 (F := Ideal) x0 x1 x2 = byRow fun r => grad (rowOf x0 r) (gainOf x1) (rowOf x2 r) :=
  Eq.trans rfl (PostNormBwdMath.dx_eq x0 x1 x2)
theorem dx_eq : val_main_v36 (F := Ideal) x0 x1 x2 x3
    = byRow fun r => joined (rowOf x0 r) (gainOf x1) (rowOf x2 r) (rowOf x3 r) := by
  unfold val_main_v36
  rw [grad_eq]
  exact eq_byRow _ _ fun r j => rfl
theorem gain_eq : val_main_v37 (F := Ideal) x0 x2 = total fun r => share (rowOf x0 r) (rowOf x2 r) :=
  Eq.trans rfl (PostNormBwdMath.gain_eq x0 x2)

end Cert.PreNormBwdMath

end
-- ==== Proof.Norm.PrePostNormBwd.lean ====
/- The gradient of the norm before a branch and of the norm after it, in one call: the kernel's blocks and the reference. -/
module

public import proofs.«01_k».proof.Proof.Norm.PreNormBwd
public import proofs.«01_k».proof.Proof.Gen.PrePostNormBwdIdeal.Value
public import proofs.«01_k».proof.Proof.Gen.PrePostNormBwdRefIdeal.Read

@[expose] public section

noncomputable section

namespace Cert.PrePostNormBwdArray

open Idealize.ShloMosaic Idealize.ShloMosaic.TcCoe Idealize.ShloMosaic.Tactic Idealize.SL.Sem
open Cert.PrePostNormBwdIdeal Cert.PrePostNormBwdIdeal.Gen Cert.Attn Cert.NormSpec

variable (m : (ℓ : Loc nD τ sig) → Buf (Elt Ideal) ℓ) (c : Dev nD)

abbrev A0 : Arr 8192 := m ((c : Thread nD τ).loc main_arg0)
abbrev A1 : Gain := m ((c : Thread nD τ).loc main_arg1)
abbrev A2 : Arr 8192 := m ((c : Thread nD τ).loc main_arg2)
abbrev A3 : Arr 8192 := m ((c : Thread nD τ).loc main_arg3)
abbrev A4 : Arr 8192 := m ((c : Thread nD τ).loc main_arg4)
abbrev A5 : Gain := m ((c : Thread nD τ).loc main_arg5)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = t.val ∧ win0_8.index t 1 = 0 := by decide +kernel
theorem index9 : ∀ t : Fin cfg0.N, win0_9.index t 0 = 0 ∧ win0_9.index t 1 = 0 := by decide +kernel

theorem blk0 (t : Fin cfg0.N) (r : Fin 512) : rowOf (iblk m c 0 t : Arr 512) r = rowOf (A0 m c) (at_ t r) := by
  funext j
  unfold rowOf iblk
  rw [View.read_apply]
  refine congrArg (A0 m c) (eq_ix2 _ _ _ ?_ ?_)
  · show win0_0.index t 0 * 512 + 1 * r.val = 512 * t.val + r.val; rw [(index0 t).1]; omega
  · show win0_0.index t 1 * 2048 + 1 * j.val = j.val; rw [(index0 t).2]; omega
theorem blk2 (t : Fin cfg0.N) (r : Fin 512) : rowOf (iblk m c 2 t : Arr 512) r = rowOf (A2 m c) (at_ t r) := by
  funext j
  unfold rowOf iblk
  rw [View.read_apply]
  refine congrArg (A2 m c) (eq_ix2 _ _ _ ?_ ?_)
  · show win0_2.index t 0 * 512 + 1 * r.val = 512 * t.val + r.val; rw [(index2 t).1]; omega
  · show win0_2.index t 1 * 2048 + 1 * j.val = j.val; rw [(index2 t).2]; omega
theorem blk3 (t : Fin cfg0.N) (r : Fin 512) : rowOf (iblk m c 3 t : Arr 512) r = rowOf (A3 m c) (at_ t r) := by
  funext j
  unfold rowOf iblk
  rw [View.read_apply]
  refine congrArg (A3 m c) (eq_ix2 _ _ _ ?_ ?_)
  · show win0_3.index t 0 * 512 + 1 * r.val = 512 * t.val + r.val; rw [(index3 t).1]; omega
  · show win0_3.index t 1 * 2048 + 1 * j.val = j.val; rw [(index3 t).2]; omega
theorem blk4 (t : Fin cfg0.N) (r : Fin 512) : rowOf (iblk m c 4 t : Arr 512) r = rowOf (A4 m c) (at_ t r) := by
  funext j
  unfold rowOf iblk
  rw [View.read_apply]
  refine congrArg (A4 m c) (eq_ix2 _ _ _ ?_ ?_)
  · show win0_4.index t 0 * 512 + 1 * r.val = 512 * t.val + r.val; rw [(index4 t).1]; omega
  · show win0_4.index t 1 * 2048 + 1 * j.val = j.val; rw [(index4 t).2]; omega
/-- The gain as the host hands it over, a unit axis before it. -/
theorem V_gain1 (j : Fin 2048) : V m c main_v1 (ix2 0 j) = A1 m c (ix1 j) := by
  show shapeCast (s := S2048) S1x2048 (A1 m c) _ (ix2 0 j) = _
  pointwise
theorem blk1 (t : Fin cfg0.N) : rowOf (iblk m c 1 t : Arr 1) 0 = gainOf (A1 m c) := by
  funext j
  unfold rowOf iblk
  rw [View.read_apply]
  refine (congrArg (V m c main_v1) (eq_ix2 _ 0 j ?_ ?_)).trans (V_gain1 m c j)
  · show win0_1.index t 0 * 1 + 1 * 0 = 0; rw [(index1 t).1]
  · show win0_1.index t 1 * 2048 + 1 * j.val = j.val; rw [(index1 t).2]; omega
/-- The gain as the host hands it over, a unit axis before it. -/
theorem V_gain5 (j : Fin 2048) : V m c main_v2 (ix2 0 j) = A5 m c (ix1 j) := by
  show shapeCast (s := S2048) S1x2048 (A5 m c) _ (ix2 0 j) = _
  pointwise
theorem blk5 (t : Fin cfg0.N) : rowOf (iblk m c 5 t : Arr 1) 0 = gainOf (A5 m c) := by
  funext j
  unfold rowOf iblk
  rw [View.read_apply]
  refine (congrArg (V m c main_v2) (eq_ix2 _ 0 j ?_ ?_)).trans (V_gain5 m c j)
  · show win0_5.index t 0 * 1 + 1 * 0 = 0; rw [(index5 t).1]
  · show win0_5.index t 1 * 2048 + 1 * j.val = j.val; rw [(index5 t).2]; omega

/-- The blocks a point computes: its rows' gradients before the branch, the gradient past it added, and from these `d` its rows'
    gradients after the branch; and for each of the two norms its rows' shares of the gain's gradient added to `a`. -/
theorem dx_block (x0 : Arr 512) (x1 : Arr 1) (x2 x3 : Arr 512) :
    (k0_pay5 (F := Ideal) x0 x1 x2 x3 : Arr 512) = byRow fun r => joined (rowOf x0 r) (rowOf x1 0) (rowOf x2 r) (rowOf x3 r) := by
  refine eq_byRow _ _ fun r j => ?_
  unfold k0_pay5 k0_pay1 k0_pay3 k0_pay2
  pointwise
  rfl
theorem dy_block (d x4 : Arr 512) (x5 : Arr 1) :
    (k0_pay10 (F := Ideal) d x4 x5 : Arr 512) = byRow fun r => grad (rowOf x4 r) (rowOf x5 0) (rowOf d r) := by
  refine eq_byRow _ _ fun r j => ?_
  unfold k0_pay10 k0_pay9 k0_pay8
  pointwise
  rfl
theorem gain_block (x0 x2 : Arr 512) (a : Arr 1) (j : Fin 2048) :
    (k0_pay7 (F := Ideal) (k0_pay4 x0 x2) a : Arr 1) (ix2 0 j) = a (ix2 0 j) + ∑ r, share (rowOf x0 r) (rowOf x2 r) j := by
  unfold k0_pay7 k0_pay4 k0_pay1 k0_pay3 k0_pay2
  pointwise
  rfl
theorem gain_block' (d x4 : Arr 512) (a : Arr 1) (j : Fin 2048) :
    (k0_pay12 (F := Ideal) d x4 a : Arr 1) (ix2 0 j) = a (ix2 0 j) + ∑ r, share (rowOf x4 r) (rowOf d r) j := by
  unfold k0_pay12 k0_pay9 k0_pay8
  pointwise
  rfl
theorem zeros (j : Fin 2048) : (k0_pay6 (F := Ideal) : Arr 1) (ix2 0 j) = 0 := by
  unfold k0_pay6
  pointwise [ofBits_zero]
theorem zeros' (j : Fin 2048) : (k0_pay11 (F := Ideal) : Arr 1) (ix2 0 j) = 0 := by
  unfold k0_pay11
  pointwise [ofBits_zero]

/-- What a later point leaves, and the first point. -/
theorem outs_later (t : Fin cfg0.N) (h : ¬ t.val % 16 = 0) :
    outsAt0 m c t.val t.isLt = ((k0_pay5 (F := Ideal) (iblk m c 0 t) (iblk m c 1 t) (iblk m c 2 t) (iblk m c 3 t)),
      k0_pay7 (F := Ideal) (k0_pay4 (iblk m c 0 t) (iblk m c 2 t)) (outsAt0 m c (t.val - 1) (Nat.lt_of_le_of_lt (Nat.sub_le _ _) t.isLt)).2.1,
      k0_pay10 (F := Ideal) (k0_pay5 (F := Ideal) (iblk m c 0 t) (iblk m c 1 t) (iblk m c 2 t) (iblk m c 3 t)) (iblk m c 4 t) (iblk m c 5 t),
      k0_pay12 (F := Ideal) (k0_pay5 (F := Ideal) (iblk m c 0 t) (iblk m c 1 t) (iblk m c 2 t) (iblk m c 3 t)) (iblk m c 4 t) (outsAt0 m c (t.val - 1) (Nat.lt_of_le_of_lt (Nat.sub_le _ _) t.isLt)).2.2.2) := by
  rw [outsAt0_B m c t h h]
  refine Prod.ext ?_ (Prod.ext ?_ (Prod.ext ?_ ?_))
  · dsimp only
    unfold out0_B_6; rw [View.read_writes_eq_canon _ _ _ (cover0_B_6 c _ _ _ _ _ _ _ _ _ _ _ _ _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_3 t).read_unread]
    rw [View.canon_unit_zero hz]
    simp only [View.ld_unit_zero (S := S512x2048) hz, View.ld_unit_zero (S := S1x2048) hz]
  · dsimp only
    unfold out0_B_7; rw [View.read_writes_eq_canon _ _ _ (cover0_B_7 c _ _ _ _ _ _ _ _ _ _ _ _ _ _ _ _ _ _ _ _ _ _ _ _ _ _ _ _ _ _ _)]
    unfold kernelRun0_B; dsimp only; sl_unfold_words
    simp only [View.readAt_eq_ld, (hs0_0 t).read_unread, (hs0_2 t).read_unread, (hs0_7 t).read_unread]
    rw [View.canon_unit_zero hz]
    simp only [View.ld_unit_zero (S := S512x2048) hz, View.ld_unit_zero (S := S1x2048) hz]
  · dsimp only
    unfold out0_B_8; rw [View.read_writes_eq_canon _ _ _ (cover0_B_8 c _ _ _ _ _ _ _ _ _ _ _ _ _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_3 t).read_unread, (hs0_4 t).read_unread, (hs0_5 t).read_unread]
    rw [View.canon_unit_zero hz]
    simp only [View.ld_unit_zero (S := S512x2048) hz, View.ld_unit_zero (S := S1x2048) hz]
  · dsimp only
    unfold out0_B_9; rw [View.read_writes_eq_canon _ _ _ (cover0_B_9 c _ _ _ _ _ _ _ _ _ _ _ _ _ _ _ _ _ _ _ _ _ _ _ _ _ _ _ _ _ _ _)]
    unfold kernelRun0_B; dsimp only; sl_unfold_words
    simp only [View.readAt_eq_ld, (hs0_0 t).read_unread, (hs0_1 t).read_unread, (hs0_2 t).read_unread, (hs0_3 t).read_unread, (hs0_4 t).read_unread, (hs0_9 t).read_unread]
    rw [View.canon_unit_zero hz]
    simp only [View.ld_unit_zero (S := S512x2048) hz, View.ld_unit_zero (S := S1x2048) hz]
theorem outs_first (t : Fin cfg0.N) (h : t.val % 16 = 0) :
    outsAt0 m c t.val t.isLt = ((k0_pay5 (F := Ideal) (iblk m c 0 t) (iblk m c 1 t) (iblk m c 2 t) (iblk m c 3 t)),
      k0_pay7 (F := Ideal) (k0_pay4 (iblk m c 0 t) (iblk m c 2 t)) (k0_pay6 (F := Ideal)),
      k0_pay10 (F := Ideal) (k0_pay5 (F := Ideal) (iblk m c 0 t) (iblk m c 1 t) (iblk m c 2 t) (iblk m c 3 t)) (iblk m c 4 t) (iblk m c 5 t),
      k0_pay12 (F := Ideal) (k0_pay5 (F := Ideal) (iblk m c 0 t) (iblk m c 1 t) (iblk m c 2 t) (iblk m c 3 t)) (iblk m c 4 t) (k0_pay11 (F := Ideal))) := by
  rw [outsAt0_A m c t h h]
  refine Prod.ext ?_ (Prod.ext ?_ (Prod.ext ?_ ?_))
  · dsimp only
    unfold out0_A_6; rw [View.read_writes_eq_canon _ _ _ (cover0_A_6 c _ _ _ _ _ _ _ _ _ _ _ _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread]
    rw [View.canon_unit_zero hz]
    simp only [View.ld_unit_zero (S := S512x2048) hz, View.ld_unit_zero (S := S1x2048) hz]
  · dsimp only
    unfold out0_A_7; rw [View.read_writes_eq_canon _ _ _ (cover0_A_7 c _ _ _ _ _ _ _ _ _ _ _ _ _ _ _ _ _ _ _ _ _ _ _ _ _ _ _ _ _)]
    unfold kernelRun0_A; dsimp only; sl_unfold_words
    simp only [View.readAt_eq_ld, (hs0_0 t).read_unread, (hs0_2 t).read_unread]
    rw [View.canon_cons_unit_zero (S := S1x2048) hz, View.readCov_unit_zero (S := S1x2048) _ hz]
    simp only [View.ld_unit_zero (S := S512x2048) hz, View.ld_unit_zero (S := S1x2048) hz]
  · dsimp only
    unfold out0_A_8; rw [View.read_writes_eq_canon _ _ _ (cover0_A_8 c _ _ _ _ _ _ _ _ _ _ _ _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread, (hs0_4 t).read_unread, (hs0_5 t).read_unread]
    rw [View.canon_unit_zero hz]
    simp only [View.ld_unit_zero (S := S512x2048) hz, View.ld_unit_zero (S := S1x2048) hz]
  · dsimp only
    unfold out0_A_9; rw [View.read_writes_eq_canon _ _ _ (cover0_A_9 c _ _ _ _ _ _ _ _ _ _ _ _ _ _ _ _ _ _ _ _ _ _ _ _ _ _ _ _ _)]
    unfold kernelRun0_A; dsimp only; sl_unfold_words
    simp only [View.readAt_eq_ld, (hs0_0 t).read_unread, (hs0_1 t).read_unread, (hs0_2 t).read_unread, (hs0_3 t).read_unread, (hs0_4 t).read_unread]
    rw [View.canon_cons_unit_zero (S := S1x2048) hz, View.readCov_unit_zero (S := S1x2048) _ hz]
    simp only [View.ld_unit_zero (S := S512x2048) hz, View.ld_unit_zero (S := S1x2048) hz]

/-- The results: the rows' gradients before the branch and after it, and the two gains'. -/
abbrev before (r : Fin 8192) : Row := joined (rowOf (A0 m c) r) (gainOf (A1 m c)) (rowOf (A2 m c) r) (rowOf (A3 m c) r)
abbrev res6 : Arr 8192 := byRow (before m c)
abbrev shares (r : Fin 8192) : Row := share (rowOf (A0 m c) r) (rowOf (A2 m c) r)
abbrev res7 : Arr 1 := total (shares m c)
abbrev res8 : Arr 8192 := byRow fun r => grad (rowOf (A4 m c) r) (gainOf (A5 m c)) (before m c r)
abbrev shares' (r : Fin 8192) : Row := share (rowOf (A4 m c) r) (before m c r)
abbrev res9 : Arr 1 := total (shares' m c)

/-- Point `t`'s rows of the gradient before the branch. -/
theorem before_row (t : Fin cfg0.N) (r : Fin 512) : rowOf ((k0_pay5 (F := Ideal) (iblk m c 0 t) (iblk m c 1 t) (iblk m c 2 t) (iblk m c 3 t)) : Arr 512) r = before m c (at_ t r) := by
  refine (congrArg (fun a : Arr 512 => rowOf a r) (dx_block _ _ _ _)).trans ?_
  show joined (rowOf (iblk m c 0 t : Arr 512) r) (rowOf (iblk m c 1 t : Arr 1) 0) (rowOf (iblk m c 2 t : Arr 512) r)
    (rowOf (iblk m c 3 t : Arr 512) r) = _
  rw [blk0, blk1, blk2, blk3]

theorem outs_1 (t : Fin cfg0.N) : (outsAt0 m c t.val t.isLt).1 = (k0_pay5 (F := Ideal) (iblk m c 0 t) (iblk m c 1 t) (iblk m c 2 t) (iblk m c 3 t)) := by
  by_cases h : t.val % 16 = 0
  · rw [outs_first m c t h]
  · rw [outs_later m c t h]
theorem outs_rows (t : Fin cfg0.N) : (outsAt0 m c t.val t.isLt).1 = (byRow (rowOf ((k0_pay5 (F := Ideal) (iblk m c 0 t) (iblk m c 1 t) (iblk m c 2 t) (iblk m c 3 t)) : Arr 512)) : Arr 512) :=
  (outs_1 m c t).trans (eq_byRow _ _ fun _ _ => rfl)
theorem outs_3 (t : Fin cfg0.N) : (outsAt0 m c t.val t.isLt).2.2.1
    = (byRow fun r => grad (rowOf (iblk m c 4 t : Arr 512) r) (rowOf (iblk m c 5 t : Arr 1) 0) (rowOf ((k0_pay5 (F := Ideal) (iblk m c 0 t) (iblk m c 1 t) (iblk m c 2 t) (iblk m c 3 t)) : Arr 512) r) : Arr 512) := by
  by_cases h : t.val % 16 = 0
  · rw [outs_first m c t h]; exact dy_block _ _ _
  · rw [outs_later m c t h]; exact dy_block _ _ _
theorem last_gain : (outsAt0 m c 15 (by decide)).2.1 = res7 m c :=
  gather (shares m c) (fun t r => share (rowOf (iblk m c 0 t : Arr 512) r) (rowOf (iblk m c 2 t : Arr 512) r))
    (fun t r => congrArg₂ share (blk0 m c t r) (blk2 m c t r)) (fun n hn => (outsAt0 m c n hn).2.1)
    (fun h j => (congrFun (congrArg (·.2.1) (outs_first m c ⟨0, h⟩ rfl)) (ix2 0 j)).trans
      ((gain_block _ _ _ j).trans (congrArg (· + _) (zeros j))))
    (fun n h _ j => (congrFun (congrArg (·.2.1) (outs_later m c ⟨n + 1, h⟩ (by
      have hn : n + 1 < 16 := h
      show ¬ (n + 1) % 16 = 0; omega))) (ix2 0 j)).trans (gain_block _ _ _ j))
theorem last_gain' : (outsAt0 m c 15 (by decide)).2.2.2 = res9 m c :=
  gather (shares' m c) (fun t r => share (rowOf (iblk m c 4 t : Arr 512) r) (rowOf ((k0_pay5 (F := Ideal) (iblk m c 0 t) (iblk m c 1 t) (iblk m c 2 t) (iblk m c 3 t)) : Arr 512) r))
    (fun t r => congrArg₂ share (blk4 m c t r) (before_row m c t r)) (fun n hn => (outsAt0 m c n hn).2.2.2)
    (fun h j => (congrFun (congrArg (·.2.2.2) (outs_first m c ⟨0, h⟩ rfl)) (ix2 0 j)).trans
      ((gain_block' _ _ _ j).trans (congrArg (· + _) (zeros' j))))
    (fun n h _ j => (congrFun (congrArg (·.2.2.2) (outs_later m c ⟨n + 1, h⟩ (by
      have hn : n + 1 < 16 := h
      show ¬ (n + 1) % 16 = 0; omega))) (ix2 0 j)).trans (gain_block' _ _ _ j))

theorem flushed6_eq (t : Fin cfg0.N) : (dats m 0 c).flushed 6 t = ((cfg0.win 6).blk t).view.read (Elt Ideal) (res6 m c) := by
  rw [Value.flushed6, outs_rows]
  funext i
  rw [View.read_apply]
  refine Eq.trans ?_ (cast_eq _ _).symm
  refine byRow_at _ _ t (fun r => by simp only [before_row]) i (((cfg0.win 6).blk t).view.emb i) ?_ ?_
  · show win0_6.index t 0 * 512 + 1 * (i 0).val = 512 * t.val + (i 0).val; rw [(index6 t).1]; omega
  · show win0_6.index t 1 * 2048 + 1 * (i 1).val = (i 1).val; rw [(index6 t).2]; omega
theorem final6 : (dats m 0 c).arrAt 6 cfg0.N = res6 m c :=
  (dats m 0 c).arrAt_eq_of_cover 6 _ (fun t _ => flushed6_eq m c t) fun i => by
    have h0 : (i 0).val < 8192 := (i 0).isLt
    have h1 : (i 1).val < 2048 := (i 1).isLt
    have ht : (i 0).val / 512 < 16 := by omega
    refine ⟨⟨_, ht⟩, flush0_6 _, ?_⟩
    show i ∈ ((View.whole main_v3_0).slice (win0_6.rect ⟨_, ht⟩)).set
    rw [View.set_slice_whole, Rect.mem_set_unit]
    obtain ⟨e0, e1⟩ := index6 ⟨_, ht⟩
    intro a
    match a with
    | ⟨0, _⟩ => show win0_6.index _ 0 * 512 ≤ (i 0).val ∧ (i 0).val < win0_6.index _ 0 * 512 + 512; rw [e0]; dsimp only; omega
    | ⟨1, _⟩ => show win0_6.index _ 1 * 2048 ≤ (i 1).val ∧ (i 1).val < win0_6.index _ 1 * 2048 + 2048; rw [e1]; omega

theorem flushed8_eq (t : Fin cfg0.N) : (dats m 0 c).flushed 8 t = ((cfg0.win 8).blk t).view.read (Elt Ideal) (res8 m c) := by
  rw [Value.flushed8, outs_3]
  funext i
  rw [View.read_apply]
  refine Eq.trans ?_ (cast_eq _ _).symm
  refine byRow_at _ _ t (fun r => by simp only [before_row, blk4, blk5]) i (((cfg0.win 8).blk t).view.emb i) ?_ ?_
  · show win0_8.index t 0 * 512 + 1 * (i 0).val = 512 * t.val + (i 0).val; rw [(index8 t).1]; omega
  · show win0_8.index t 1 * 2048 + 1 * (i 1).val = (i 1).val; rw [(index8 t).2]; omega
theorem final8 : (dats m 0 c).arrAt 8 cfg0.N = res8 m c :=
  (dats m 0 c).arrAt_eq_of_cover 8 _ (fun t _ => flushed8_eq m c t) fun i => by
    have h0 : (i 0).val < 8192 := (i 0).isLt
    have h1 : (i 1).val < 2048 := (i 1).isLt
    have ht : (i 0).val / 512 < 16 := by omega
    refine ⟨⟨_, ht⟩, flush0_8 _, ?_⟩
    show i ∈ ((View.whole main_v3_2).slice (win0_8.rect ⟨_, ht⟩)).set
    rw [View.set_slice_whole, Rect.mem_set_unit]
    obtain ⟨e0, e1⟩ := index8 ⟨_, ht⟩
    intro a
    match a with
    | ⟨0, _⟩ => show win0_8.index _ 0 * 512 ≤ (i 0).val ∧ (i 0).val < win0_8.index _ 0 * 512 + 512; rw [e0]; dsimp only; omega
    | ⟨1, _⟩ => show win0_8.index _ 1 * 2048 ≤ (i 1).val ∧ (i 1).val < win0_8.index _ 1 * 2048 + 2048; rw [e1]; omega

theorem flushed7_eq (t : Fin cfg0.N) (hf : (cfg0.win 7).flush t = true) :
    (dats m 0 c).flushed 7 t = ((cfg0.win 7).blk t).view.read (Elt Ideal) (res7 m c) := by
  obtain rfl : t = ⟨15, by decide⟩ := by
    have h := (flush0_7 t).mp hf
    have h' : t.val < 16 := t.isLt
    exact Fin.ext (by show t.val = 15; omega)
  rw [Value.flushed7]
  show (cfg0.win 7).cut _ (outsAt0 m c 15 _).2.1 = _
  rw [last_gain]
  funext i
  rw [View.read_apply]
  refine Eq.trans ?_ (cast_eq _ _).symm
  refine congrArg (res7 m c) (funext fun a => Fin.ext ?_)
  match a with
  | ⟨0, _⟩ => show (i 0).val = win0_7.index _ 0 * 1 + 1 * (i 0).val; rw [(index7 _).1]; omega
  | ⟨1, _⟩ => show (i 1).val = win0_7.index _ 1 * 2048 + 1 * (i 1).val; rw [(index7 _).2]; omega
theorem mem7 (t : Fin cfg0.N) (i : S1x2048.Idx) : i ∈ ((cfg0.win 7).blk t).view.set := by
  show i ∈ ((View.whole main_v3_1).slice (win0_7.rect t)).set
  rw [View.set_slice_whole, Rect.mem_set_unit]
  have h0 : (i 0).val < 1 := (i 0).isLt
  have h1 : (i 1).val < 2048 := (i 1).isLt
  intro a
  match a with
  | ⟨0, _⟩ => show win0_7.index t 0 * 1 ≤ (i 0).val ∧ (i 0).val < win0_7.index t 0 * 1 + 1; rw [(index7 t).1]; omega
  | ⟨1, _⟩ => show win0_7.index t 1 * 2048 ≤ (i 1).val ∧ (i 1).val < win0_7.index t 1 * 2048 + 2048; rw [(index7 t).2]; omega
theorem final7 : (dats m 0 c).arrAt 7 cfg0.N = res7 m c :=
  (dats m 0 c).arrAt_eq_of_cover 7 _ (flushed7_eq m c) fun i => ⟨⟨15, by decide⟩, (flush0_7 _).mpr rfl, mem7 _ i⟩

theorem flushed9_eq (t : Fin cfg0.N) (hf : (cfg0.win 9).flush t = true) :
    (dats m 0 c).flushed 9 t = ((cfg0.win 9).blk t).view.read (Elt Ideal) (res9 m c) := by
  obtain rfl : t = ⟨15, by decide⟩ := by
    have h := (flush0_9 t).mp hf
    have h' : t.val < 16 := t.isLt
    exact Fin.ext (by show t.val = 15; omega)
  rw [Value.flushed9]
  show (cfg0.win 9).cut _ (outsAt0 m c 15 _).2.2.2 = _
  rw [last_gain']
  funext i
  rw [View.read_apply]
  refine Eq.trans ?_ (cast_eq _ _).symm
  refine congrArg (res9 m c) (funext fun a => Fin.ext ?_)
  match a with
  | ⟨0, _⟩ => show (i 0).val = win0_9.index _ 0 * 1 + 1 * (i 0).val; rw [(index9 _).1]; omega
  | ⟨1, _⟩ => show (i 1).val = win0_9.index _ 1 * 2048 + 1 * (i 1).val; rw [(index9 _).2]; omega
theorem mem9 (t : Fin cfg0.N) (i : S1x2048.Idx) : i ∈ ((cfg0.win 9).blk t).view.set := by
  show i ∈ ((View.whole main_v3_3).slice (win0_9.rect t)).set
  rw [View.set_slice_whole, Rect.mem_set_unit]
  have h0 : (i 0).val < 1 := (i 0).isLt
  have h1 : (i 1).val < 2048 := (i 1).isLt
  intro a
  match a with
  | ⟨0, _⟩ => show win0_9.index t 0 * 1 ≤ (i 0).val ∧ (i 0).val < win0_9.index t 0 * 1 + 1; rw [(index9 t).1]; omega
  | ⟨1, _⟩ => show win0_9.index t 1 * 2048 ≤ (i 1).val ∧ (i 1).val < win0_9.index t 1 * 2048 + 2048; rw [(index9 t).2]; omega
theorem final9 : (dats m 0 c).arrAt 9 cfg0.N = res9 m c :=
  (dats m 0 c).arrAt_eq_of_cover 9 _ (flushed9_eq m c) fun i => ⟨⟨15, by decide⟩, (flush0_9 _).mpr rfl, mem9 _ i⟩

end Cert.PrePostNormBwdArray

namespace Cert.PrePostNormBwdMath

open Idealize.ShloMosaic Cert.PrePostNormBwdRefIdeal Cert.PrePostNormBwdRefIdeal.Gen Cert.PrePostNormBwdRefIdeal.Read Cert.Attn Cert.NormSpec

variable (x0 : Arr 8192) (x1 : Gain) (x2 x3 x4 : Arr 8192) (x5 : Gain)

/-- The reference is the norm's before the branch, and then the norm's after it at its result. -/
theorem before_eq : val_main_v36 (F := Ideal) x0 x1 x2 x3
    = byRow fun r => joined (rowOf x0 r) (gainOf x1) (rowOf x2 r) (rowOf x3 r) :=
  Eq.trans rfl (PreNormBwdMath.dx_eq x0 x1 x2 x3)
theorem gain_eq : val_main_v73 (F := Ideal) x0 x2 = total fun r => share (rowOf x0 r) (rowOf x2 r) :=
  Eq.trans rfl (PostNormBwdMath.gain_eq x0 x2)
theorem after_eq : val_main_v74 (F := Ideal) x0 x1 x2 x3 x4 x5
    = byRow fun r => grad (rowOf x4 r) (gainOf x5) (joined (rowOf x0 r) (gainOf x1) (rowOf x2 r) (rowOf x3 r)) :=
  (Eq.trans rfl (PostNormBwdMath.dx_eq x4 x5 (val_main_v36 (F := Ideal) x0 x1 x2 x3))).trans (by rw [before_eq]; rfl)
theorem gain_eq' : val_main_v75 (F := Ideal) x0 x1 x2 x3 x4
    = total fun r => share (rowOf x4 r) (joined (rowOf x0 r) (gainOf x1) (rowOf x2 r) (rowOf x3 r)) :=
  (Eq.trans rfl (PostNormBwdMath.gain_eq x4 (val_main_v36 (F := Ideal) x0 x1 x2 x3))).trans (by rw [before_eq]; rfl)

end Cert.PrePostNormBwdMath

end
-- ==== Proof.Norm.Claims.lean ====
/- The norms and their gradients: each kernel's results are its reference's, whatever the arguments. -/
module

public import proofs.«01_k».proof.Defs
public import proofs.«01_k».proof.Proof.Gen.PreNormRefIdeal.Run
public import proofs.«01_k».proof.Proof.Norm.PreNorm
public import proofs.«01_k».proof.Proof.Gen.PostNormRefIdeal.Run
public import proofs.«01_k».proof.Proof.Norm.PostNorm
public import proofs.«01_k».proof.Proof.Gen.PostPreNormRefIdeal.Run
public import proofs.«01_k».proof.Proof.Norm.PostPreNorm
public import proofs.«01_k».proof.Proof.Gen.PostNormBwdRefIdeal.Run
public import proofs.«01_k».proof.Proof.Norm.PostNormBwd
public import proofs.«01_k».proof.Proof.Gen.PreNormBwdRefIdeal.Run
public import proofs.«01_k».proof.Proof.Norm.PreNormBwd
public import proofs.«01_k».proof.Proof.Gen.PrePostNormBwdRefIdeal.Run
public import proofs.«01_k».proof.Proof.Norm.PrePostNormBwd

@[expose] public section

noncomputable section

namespace Cert.NormClaims

open Idealize.ShloMosaic Idealize.SL.Sem Idealize.ShloMosaic.TcCoe

theorem pre : Cert.algebraic_PreNormIdeal_PreNormRefIdeal := by
  intro m ρ m' ρ' _ hag
  refine ⟨PreNormArray.res m,
    (θ_run _ _ _).mono (fun _ h c => ?_) (PreNormIdeal.Value.run_blocks m ρ),
    (θ_run _ _ _).mono (fun _ h c => ?_) (PreNormRefIdeal.Value.run m' ρ')⟩
  · obtain ⟨h0, h1⟩ := h c
    exact ⟨h0.trans (PreNormArray.final m c), h1⟩
  · obtain ⟨h0, h1⟩ := h c
    obtain ⟨e0, e1⟩ := hag c
    refine ⟨h0.trans ?_, h1⟩
    rw [PreNormRefIdeal.Read.val_main_v13_eq, e0, e1]; exact PreNormMath.out_eq _ _

theorem post : Cert.algebraic_PostNormIdeal_PostNormRefIdeal := by
  intro m ρ m' ρ' _ hag
  refine ⟨PostNormArray.res3 m,
    (θ_run _ _ _).mono (fun _ h c => ?_) (PostNormIdeal.Value.run_blocks m ρ),
    (θ_run _ _ _).mono (fun _ h c => ?_) (PostNormRefIdeal.Value.run m' ρ')⟩
  · obtain ⟨h0, h1⟩ := h c
    exact ⟨h0.trans (PostNormArray.final3 m c), h1⟩
  · obtain ⟨h0, h1⟩ := h c
    obtain ⟨e0, e1, e2⟩ := hag c
    refine ⟨h0.trans ?_, h1⟩
    rw [PostNormRefIdeal.Read.val_main_v13_eq, e0, e1, e2]; exact PostNormMath.out_eq _ _ _

theorem post_pre : Cert.algebraic_PostPreNormIdeal_PostPreNormRefIdeal := by
  intro m ρ m' ρ' _ hag
  refine ⟨PostPreNormArray.res4 m, PostPreNormArray.res5 m,
    (θ_run _ _ _).mono (fun _ h c => ?_) (PostPreNormIdeal.Value.run_blocks m ρ),
    (θ_run _ _ _).mono (fun _ h c => ?_) (PostPreNormRefIdeal.Value.run m' ρ')⟩
  · obtain ⟨h0, h1, h2⟩ := h c
    exact ⟨h0.trans (PostPreNormArray.final4 m c), h1.trans (PostPreNormArray.final5 m c), h2⟩
  · obtain ⟨h0, h1, h2⟩ := h c
    obtain ⟨e0, e1, e2, e3⟩ := hag c
    refine ⟨h0.trans ?_, h1.trans ?_, h2⟩
    · rw [PostPreNormRefIdeal.Read.val_main_v13_eq, e0, e1, e2]; exact PostPreNormMath.sum_eq _ _ _
    · rw [PostPreNormRefIdeal.Read.val_main_v27_eq, e0, e1, e2, e3]; exact PostPreNormMath.out_eq _ _ _ _

theorem post_bwd : Cert.algebraic_PostNormBwdIdeal_PostNormBwdRefIdeal := by
  intro m ρ m' ρ' _ hag
  refine ⟨PostNormBwdArray.res3 m, PostNormBwdArray.res4 m,
    (θ_run _ _ _).mono (fun _ h c => ?_) (PostNormBwdIdeal.Value.run_blocks m ρ),
    (θ_run _ _ _).mono (fun _ h c => ?_) (PostNormBwdRefIdeal.Value.run m' ρ')⟩
  · obtain ⟨h0, h1, h2⟩ := h c
    exact ⟨h0.trans (PostNormBwdArray.final3 m c), h1.trans (PostNormBwdArray.final4 m c), h2⟩
  · obtain ⟨h0, h1, h2⟩ := h c
    obtain ⟨e0, e1, e2⟩ := hag c
    refine ⟨h0.trans ?_, h1.trans ?_, h2⟩
    · rw [PostNormBwdRefIdeal.Read.val_main_v36_eq, e0, e1, e2]; exact PostNormBwdMath.dx_eq _ _ _
    · rw [PostNormBwdRefIdeal.Read.val_main_v37_eq, e0, e2]; exact PostNormBwdMath.gain_eq _ _

theorem pre_bwd : Cert.algebraic_PreNormBwdIdeal_PreNormBwdRefIdeal := by
  intro m ρ m' ρ' _ hag
  refine ⟨PreNormBwdArray.res4 m, PreNormBwdArray.res5 m,
    (θ_run _ _ _).mono (fun _ h c => ?_) (PreNormBwdIdeal.Value.run_blocks m ρ),
    (θ_run _ _ _).mono (fun _ h c => ?_) (PreNormBwdRefIdeal.Value.run m' ρ')⟩
  · obtain ⟨h0, h1, h2⟩ := h c
    exact ⟨h0.trans (PreNormBwdArray.final4 m c), h1.trans (PreNormBwdArray.final5 m c), h2⟩
  · obtain ⟨h0, h1, h2⟩ := h c
    obtain ⟨e0, e1, e2, e3⟩ := hag c
    refine ⟨h0.trans ?_, h1.trans ?_, h2⟩
    · rw [PreNormBwdRefIdeal.Read.val_main_v36_eq, e0, e1, e2, e3]; exact PreNormBwdMath.dx_eq _ _ _ _
    · rw [PreNormBwdRefIdeal.Read.val_main_v37_eq, e0, e2]; exact PreNormBwdMath.gain_eq _ _

theorem pre_post_bwd : Cert.algebraic_PrePostNormBwdIdeal_PrePostNormBwdRefIdeal := by
  intro m ρ m' ρ' _ hag
  refine ⟨PrePostNormBwdArray.res6 m, PrePostNormBwdArray.res7 m, PrePostNormBwdArray.res8 m, PrePostNormBwdArray.res9 m,
    (θ_run _ _ _).mono (fun _ h c => ?_) (PrePostNormBwdIdeal.Value.run_blocks m ρ),
    (θ_run _ _ _).mono (fun _ h c => ?_) (PrePostNormBwdRefIdeal.Value.run m' ρ')⟩
  · obtain ⟨h0, h1, h2, h3, h4⟩ := h c
    exact ⟨h0.trans (PrePostNormBwdArray.final6 m c), h1.trans (PrePostNormBwdArray.final7 m c), h2.trans (PrePostNormBwdArray.final8 m c), h3.trans (PrePostNormBwdArray.final9 m c), h4⟩
  · obtain ⟨h0, h1, h2, h3, h4⟩ := h c
    obtain ⟨e0, e1, e2, e3, e4, e5⟩ := hag c
    refine ⟨h0.trans ?_, h1.trans ?_, h2.trans ?_, h3.trans ?_, h4⟩
    · rw [PrePostNormBwdRefIdeal.Read.val_main_v36_eq, e0, e1, e2, e3]; exact PrePostNormBwdMath.before_eq _ _ _ _
    · rw [PrePostNormBwdRefIdeal.Read.val_main_v73_eq, e0, e2]; exact PrePostNormBwdMath.gain_eq _ _
    · rw [PrePostNormBwdRefIdeal.Read.val_main_v74_eq, e0, e1, e2, e3, e4, e5]; exact PrePostNormBwdMath.after_eq _ _ _ _ _ _
    · rw [PrePostNormBwdRefIdeal.Read.val_main_v75_eq, e0, e1, e2, e3, e4]; exact PrePostNormBwdMath.gain_eq' _ _ _ _ _

end Cert.NormClaims

end
-- ==== Proof.lean ====
/- The certificate's claim, put together: every program's frame, and the value of each kernel. -/
module

public import proofs.«01_k».proof.Defs
public import proofs.«01_k».proof.Proof.Gen.MemKernel.Frame
public import proofs.«01_k».proof.Proof.Gen.FfnAct.Frame
public import proofs.«01_k».proof.Proof.Gen.FfnActIdeal.Frame
public import proofs.«01_k».proof.Proof.Gen.FfnActRefIdeal.Run
public import proofs.«01_k».proof.Proof.Gen.FfnOut.Frame
public import proofs.«01_k».proof.Proof.Gen.OutDw.Frame
public import proofs.«01_k».proof.Proof.Gen.InDx.Frame
public import proofs.«01_k».proof.Proof.Gen.InDw.Frame
public import proofs.«01_k».proof.Proof.Mem.Claim
public import proofs.«01_k».proof.Proof.Ffn.ActClaim
public import proofs.«01_k».proof.Proof.Ffn.Claims
public import proofs.«01_k».proof.Proof.Gen.DilAttn.Frame
public import proofs.«01_k».proof.Proof.Gen.DilAttnIdeal.Frame
public import proofs.«01_k».proof.Proof.Gen.DilAttnRefIdeal.Run
public import proofs.«01_k».proof.Proof.Dil.Claim
public import proofs.«01_k».proof.Proof.Gen.MixOut.Frame
public import proofs.«01_k».proof.Proof.Gen.MixOutDx.Frame
public import proofs.«01_k».proof.Proof.Gen.MixOutDw.Frame
public import proofs.«01_k».proof.Proof.Gen.DilInDx.Frame
public import proofs.«01_k».proof.Proof.Gen.RecIn.Frame
public import proofs.«01_k».proof.Proof.Gen.RecInDx.Frame
public import proofs.«01_k».proof.Proof.Gen.RecInDw.Frame
public import proofs.«01_k».proof.Proof.Gen.KvProj.Frame
public import proofs.«01_k».proof.Proof.Gen.KvProjDx.Frame
public import proofs.«01_k».proof.Proof.Gen.KvProjDw.Frame
public import proofs.«01_k».proof.Proof.Mix.Claims
public import proofs.«01_k».proof.Proof.Gen.MemKv.Frame
public import proofs.«01_k».proof.Proof.Gen.MemKvDx.Frame
public import proofs.«01_k».proof.Proof.Gen.MemKvDw.Frame
public import proofs.«01_k».proof.Proof.Gen.RecMem.Frame
public import proofs.«01_k».proof.Proof.Gen.DilMem.Frame
public import proofs.«01_k».proof.Proof.Mem.FwdClaims
public import proofs.«01_k».proof.Proof.Gen.DilMemGrad.Frame
public import proofs.«01_k».proof.Proof.Mem.DilClaim
public import proofs.«01_k».proof.Proof.Gen.PreNorm.Frame
public import proofs.«01_k».proof.Proof.Gen.PostNorm.Frame
public import proofs.«01_k».proof.Proof.Gen.PostPreNorm.Frame
public import proofs.«01_k».proof.Proof.Gen.PostNormBwd.Frame
public import proofs.«01_k».proof.Proof.Gen.PreNormBwd.Frame
public import proofs.«01_k».proof.Proof.Gen.PrePostNormBwd.Frame
public import proofs.«01_k».proof.Proof.Norm.Claims
public import Idealize.ShloMosaic.Lib.Quiescent

@[expose] public section

noncomputable section

namespace Cert.Proof

open Idealize.ShloMosaic Idealize.SL.Sem

/-- Each reference runs, keeps its arguments, and has no semaphore. -/
theorem memReferenceFrame : Cert.quiescent_MemReferenceIdeal := fun m ρ _ =>
  (θ_run Cert.MemReferenceIdeal.defs _ _).mono (fun r h => ⟨fun c => (h c).2.2, sem_eq_zero_of_no_sems (by decide) r.2⟩)
    (Cert.MemReferenceIdeal.Value.run (F := Ideal) m ρ)
theorem dilReferenceFrame : Cert.quiescent_DilAttnRefIdeal := fun m ρ _ =>
  (θ_run Cert.DilAttnRefIdeal.defs _ _).mono (fun r h => ⟨fun c => (h c).2.2.2.2.2, sem_eq_zero_of_no_sems (by decide) r.2⟩)
    (Cert.DilAttnRefIdeal.Value.run (F := Ideal) m ρ)
theorem ffnActReferenceFrame : Cert.quiescent_FfnActRefIdeal := fun m ρ _ =>
  (θ_run Cert.FfnActRefIdeal.defs _ _).mono (fun r h => ⟨fun c => (h c).2.2.2, sem_eq_zero_of_no_sems (by decide) r.2⟩)
    (Cert.FfnActRefIdeal.Value.run (F := Ideal) m ρ)
theorem ffnOutReferenceFrame : Cert.quiescent_FfnOutRefIdeal := fun m ρ _ =>
  (θ_run Cert.FfnOutRefIdeal.defs _ _).mono (fun r h => ⟨fun c => (h c).2, sem_eq_zero_of_no_sems (by decide) r.2⟩)
    (Cert.FfnOutRefIdeal.Value.run (F := Ideal) m ρ)
theorem outDwReferenceFrame : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)
theorem inDxReferenceFrame : Cert.quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)
theorem inDwReferenceFrame : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)
theorem mixOutReferenceFrame : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)
theorem mixOutDxReferenceFrame : Cert.quiescent_MixOutDxRefIdeal := fun m ρ _ =>
  (θ_run Cert.MixOutDxRefIdeal.defs _ _).mono (fun r h => ⟨fun c => (h c).2, sem_eq_zero_of_no_sems (by decide) r.2⟩)
    (Cert.MixOutDxRefIdeal.Value.run (F := Ideal) m ρ)
theorem mixOutDwReferenceFrame : Cert.quiescent_MixOutDwRefIdeal := fun m ρ _ =>
  (θ_run Cert.MixOutDwRefIdeal.defs _ _).mono (fun r h => ⟨fun c => (h c).2, sem_eq_zero_of_no_sems (by decide) r.2⟩)
    (Cert.MixOutDwRefIdeal.Value.run (F := Ideal) m ρ)
theorem dilInDxReferenceFrame : Cert.quiescent_DilInDxRefIdeal := fun m ρ _ =>
  (θ_run Cert.DilInDxRefIdeal.defs _ _).mono (fun r h => ⟨fun c => (h c).2, sem_eq_zero_of_no_sems (by decide) r.2⟩)
    (Cert.DilInDxRefIdeal.Value.run (F := Ideal) m ρ)
theorem recInReferenceFrame : Cert.quiescent_RecInRefIdeal := fun m ρ _ =>
  (θ_run Cert.RecInRefIdeal.defs _ _).mono (fun r h => ⟨fun c => (h c).2, sem_eq_zero_of_no_sems (by decide) r.2⟩)
    (Cert.RecInRefIdeal.Value.run (F := Ideal) m ρ)
theorem recInDxReferenceFrame : Cert.quiescent_RecInDxRefIdeal := fun m ρ _ =>
  (θ_run Cert.RecInDxRefIdeal.defs _ _).mono (fun r h => ⟨fun c => (h c).2, sem_eq_zero_of_no_sems (by decide) r.2⟩)
    (Cert.RecInDxRefIdeal.Value.run (F := Ideal) m ρ)
theorem recInDwReferenceFrame : Cert.quiescent_RecInDwRefIdeal := fun m ρ _ =>
  (θ_run Cert.RecInDwRefIdeal.defs _ _).mono (fun r h => ⟨fun c => (h c).2, sem_eq_zero_of_no_sems (by decide) r.2⟩)
    (Cert.RecInDwRefIdeal.Value.run (F := Ideal) m ρ)
theorem kvProjReferenceFrame : Cert.quiescent_KvProjRefIdeal := fun m ρ _ =>
  (θ_run Cert.KvProjRefIdeal.defs _ _).mono (fun r h => ⟨fun c => (h c).2, sem_eq_zero_of_no_sems (by decide) r.2⟩)
    (Cert.KvProjRefIdeal.Value.run (F := Ideal) m ρ)
theorem kvProjDxReferenceFrame : Cert.quiescent_KvProjDxRefIdeal := fun m ρ _ =>
  (θ_run Cert.KvProjDxRefIdeal.defs _ _).mono (fun r h => ⟨fun c => (h c).2, sem_eq_zero_of_no_sems (by decide) r.2⟩)
    (Cert.KvProjDxRefIdeal.Value.run (F := Ideal) m ρ)
theorem kvProjDwReferenceFrame : Cert.quiescent_KvProjDwRefIdeal := fun m ρ _ =>
  (θ_run Cert.KvProjDwRefIdeal.defs _ _).mono (fun r h => ⟨fun c => (h c).2, sem_eq_zero_of_no_sems (by decide) r.2⟩)
    (Cert.KvProjDwRefIdeal.Value.run (F := Ideal) m ρ)
theorem memKvReferenceFrame : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)
theorem memKvDxReferenceFrame : Cert.quiescent_MemKvDxRefIdeal := fun m ρ _ =>
  (θ_run Cert.MemKvDxRefIdeal.defs _ _).mono (fun r h => ⟨fun c => (h c).2, sem_eq_zero_of_no_sems (by decide) r.2⟩)
    (Cert.MemKvDxRefIdeal.Value.run (F := Ideal) m ρ)
theorem memKvDwReferenceFrame : Cert.quiescent_MemKvDwRefIdeal := fun m ρ _ =>
  (θ_run Cert.MemKvDwRefIdeal.defs _ _).mono (fun r h => ⟨fun c => (h c).2, sem_eq_zero_of_no_sems (by decide) r.2⟩)
    (Cert.MemKvDwRefIdeal.Value.run (F := Ideal) m ρ)
theorem recMemReferenceFrame : Cert.quiescent_RecMemRefIdeal := fun m ρ _ =>
  (θ_run Cert.RecMemRefIdeal.defs _ _).mono (fun r h => ⟨fun c => (h c).2, sem_eq_zero_of_no_sems (by decide) r.2⟩)
    (Cert.RecMemRefIdeal.Value.run (F := Ideal) m ρ)
theorem dilMemReferenceFrame : Cert.quiescent_DilMemRefIdeal := fun m ρ _ =>
  (θ_run Cert.DilMemRefIdeal.defs _ _).mono (fun r h => ⟨fun c => (h c).2, sem_eq_zero_of_no_sems (by decide) r.2⟩)
    (Cert.DilMemRefIdeal.Value.run (F := Ideal) m ρ)
theorem dilMemGradReferenceFrame : Cert.quiescent_DilMemGradRefIdeal := fun m ρ _ =>
  (θ_run Cert.DilMemGradRefIdeal.defs _ _).mono (fun r h => ⟨fun c => (h c).2.2, sem_eq_zero_of_no_sems (by decide) r.2⟩)
    (Cert.DilMemGradRefIdeal.Value.run (F := Ideal) m ρ)
theorem preNormReferenceFrame : Cert.quiescent_PreNormRefIdeal := fun m ρ _ =>
  (θ_run Cert.PreNormRefIdeal.defs _ _).mono (fun r h => ⟨fun c => (h c).2, sem_eq_zero_of_no_sems (by decide) r.2⟩)
    (Cert.PreNormRefIdeal.Value.run (F := Ideal) m ρ)
theorem postNormReferenceFrame : Cert.quiescent_PostNormRefIdeal := fun m ρ _ =>
  (θ_run Cert.PostNormRefIdeal.defs _ _).mono (fun r h => ⟨fun c => (h c).2, sem_eq_zero_of_no_sems (by decide) r.2⟩)
    (Cert.PostNormRefIdeal.Value.run (F := Ideal) m ρ)
theorem postPreNormReferenceFrame : Cert.quiescent_PostPreNormRefIdeal := fun m ρ _ =>
  (θ_run Cert.PostPreNormRefIdeal.defs _ _).mono (fun r h => ⟨fun c => (h c).2.2, sem_eq_zero_of_no_sems (by decide) r.2⟩)
    (Cert.PostPreNormRefIdeal.Value.run (F := Ideal) m ρ)
theorem postNormBwdReferenceFrame : Cert.quiescent_PostNormBwdRefIdeal := fun m ρ _ =>
  (θ_run Cert.PostNormBwdRefIdeal.defs _ _).mono (fun r h => ⟨fun c => (h c).2.2, sem_eq_zero_of_no_sems (by decide) r.2⟩)
    (Cert.PostNormBwdRefIdeal.Value.run (F := Ideal) m ρ)
theorem preNormBwdReferenceFrame : Cert.quiescent_PreNormBwdRefIdeal := fun m ρ _ =>
  (θ_run Cert.PreNormBwdRefIdeal.defs _ _).mono (fun r h => ⟨fun c => (h c).2.2, sem_eq_zero_of_no_sems (by decide) r.2⟩)
    (Cert.PreNormBwdRefIdeal.Value.run (F := Ideal) m ρ)
theorem prePostNormBwdReferenceFrame : Cert.quiescent_PrePostNormBwdRefIdeal := fun m ρ _ =>
  (θ_run Cert.PrePostNormBwdRefIdeal.defs _ _).mono (fun r h => ⟨fun c => (h c).2.2.2.2, sem_eq_zero_of_no_sems (by decide) r.2⟩)
    (Cert.PrePostNormBwdRefIdeal.Value.run (F := Ideal) m ρ)

theorem claim : Cert.Claim :=
  ⟨Cert.MemKernel.Gen.facts, Cert.MemKernelIdeal.Gen.facts, Cert.MemReferenceIdeal.Gen.facts, Cert.DilAttn.Gen.facts,
    Cert.DilAttnIdeal.Gen.facts, Cert.DilAttnRefIdeal.Gen.facts, Cert.FfnAct.Gen.facts,
    Cert.FfnActIdeal.Gen.facts, Cert.FfnActRefIdeal.Gen.facts, Cert.FfnOut.Gen.facts, Cert.FfnOutIdeal.Gen.facts,
    Cert.FfnOutRefIdeal.Gen.facts, Cert.OutDw.Gen.facts, Cert.OutDwIdeal.Gen.facts, Cert.OutDwRefIdeal.Gen.facts,
    Cert.InDx.Gen.facts, Cert.InDxIdeal.Gen.facts, Cert.InDxRefIdeal.Gen.facts, Cert.InDw.Gen.facts, Cert.InDwIdeal.Gen.facts,
    Cert.InDwRefIdeal.Gen.facts,
    Cert.MixOut.Gen.facts, Cert.MixOutIdeal.Gen.facts, Cert.MixOutRefIdeal.Gen.facts,
    Cert.MixOutDx.Gen.facts, Cert.MixOutDxIdeal.Gen.facts, Cert.MixOutDxRefIdeal.Gen.facts,
    Cert.MixOutDw.Gen.facts, Cert.MixOutDwIdeal.Gen.facts, Cert.MixOutDwRefIdeal.Gen.facts,
    Cert.DilInDx.Gen.facts, Cert.DilInDxIdeal.Gen.facts, Cert.DilInDxRefIdeal.Gen.facts,
    Cert.RecIn.Gen.facts, Cert.RecInIdeal.Gen.facts, Cert.RecInRefIdeal.Gen.facts,
    Cert.RecInDx.Gen.facts, Cert.RecInDxIdeal.Gen.facts, Cert.RecInDxRefIdeal.Gen.facts,
    Cert.RecInDw.Gen.facts, Cert.RecInDwIdeal.Gen.facts, Cert.RecInDwRefIdeal.Gen.facts,
    Cert.KvProj.Gen.facts, Cert.KvProjIdeal.Gen.facts, Cert.KvProjRefIdeal.Gen.facts,
    Cert.KvProjDx.Gen.facts, Cert.KvProjDxIdeal.Gen.facts, Cert.KvProjDxRefIdeal.Gen.facts,
    Cert.KvProjDw.Gen.facts, Cert.KvProjDwIdeal.Gen.facts, Cert.KvProjDwRefIdeal.Gen.facts,
    Cert.MemKv.Gen.facts, Cert.MemKvIdeal.Gen.facts, Cert.MemKvRefIdeal.Gen.facts,
    Cert.MemKvDx.Gen.facts, Cert.MemKvDxIdeal.Gen.facts, Cert.MemKvDxRefIdeal.Gen.facts,
    Cert.MemKvDw.Gen.facts, Cert.MemKvDwIdeal.Gen.facts, Cert.MemKvDwRefIdeal.Gen.facts,
    Cert.RecMem.Gen.facts, Cert.RecMemIdeal.Gen.facts, Cert.RecMemRefIdeal.Gen.facts,
    Cert.DilMem.Gen.facts, Cert.DilMemIdeal.Gen.facts, Cert.DilMemRefIdeal.Gen.facts,
    Cert.DilMemGrad.Gen.facts, Cert.DilMemGradIdeal.Gen.facts, Cert.DilMemGradRefIdeal.Gen.facts,
    Cert.PreNorm.Gen.facts, Cert.PreNormIdeal.Gen.facts, Cert.PreNormRefIdeal.Gen.facts,
    Cert.PostNorm.Gen.facts, Cert.PostNormIdeal.Gen.facts, Cert.PostNormRefIdeal.Gen.facts,
    Cert.PostPreNorm.Gen.facts, Cert.PostPreNormIdeal.Gen.facts, Cert.PostPreNormRefIdeal.Gen.facts,
    Cert.PostNormBwd.Gen.facts, Cert.PostNormBwdIdeal.Gen.facts, Cert.PostNormBwdRefIdeal.Gen.facts,
    Cert.PreNormBwd.Gen.facts, Cert.PreNormBwdIdeal.Gen.facts, Cert.PreNormBwdRefIdeal.Gen.facts,
    Cert.PrePostNormBwd.Gen.facts, Cert.PrePostNormBwdIdeal.Gen.facts, Cert.PrePostNormBwdRefIdeal.Gen.facts,
    Cert.Pre_mem_finite.Gen.facts, Cert.DilPre.facts, Cert.Pre_ffn_finite.Gen.facts, Cert.Pre_dil_mem_finite.Gen.facts,
    fun m ρ _ => Cert.MemKernel.Gen.frame m ρ, fun m ρ _ => Cert.MemKernelIdeal.Gen.frame m ρ,
    fun m ρ _ => Cert.MemKernelIdeal.Gen.frame m ρ, memReferenceFrame, fun m ρ _ => memReferenceFrame m ρ trivial,
    fun m ρ _ => Cert.DilAttn.Gen.frame m ρ, fun m ρ _ => Cert.DilAttnIdeal.Gen.frame m ρ,
    fun m ρ _ => Cert.DilAttnIdeal.Gen.frame m ρ, dilReferenceFrame, fun m ρ _ => dilReferenceFrame m ρ trivial,
    fun m ρ _ => Cert.FfnAct.Gen.frame m ρ, fun m ρ _ => Cert.FfnActIdeal.Gen.frame m ρ,
    fun m ρ _ => Cert.FfnActIdeal.Gen.frame m ρ, ffnActReferenceFrame, fun m ρ _ => ffnActReferenceFrame m ρ trivial,
    fun m ρ _ => Cert.FfnOut.Gen.frame m ρ, fun m ρ _ => Cert.FfnOutIdeal.Gen.frame m ρ, ffnOutReferenceFrame,
    fun m ρ _ => Cert.OutDw.Gen.frame m ρ, fun m ρ _ => Cert.OutDwIdeal.Gen.frame m ρ, outDwReferenceFrame,
    fun m ρ _ => Cert.InDx.Gen.frame m ρ, fun m ρ _ => Cert.InDxIdeal.Gen.frame m ρ, inDxReferenceFrame,
    fun m ρ _ => Cert.InDw.Gen.frame m ρ, fun m ρ _ => Cert.InDwIdeal.Gen.frame m ρ, inDwReferenceFrame,
    fun m ρ _ => Cert.MixOut.Gen.frame m ρ, fun m ρ _ => Cert.MixOutIdeal.Gen.frame m ρ, mixOutReferenceFrame,
    fun m ρ _ => Cert.MixOutDx.Gen.frame m ρ, fun m ρ _ => Cert.MixOutDxIdeal.Gen.frame m ρ, mixOutDxReferenceFrame,
    fun m ρ _ => Cert.MixOutDw.Gen.frame m ρ, fun m ρ _ => Cert.MixOutDwIdeal.Gen.frame m ρ, mixOutDwReferenceFrame,
    fun m ρ _ => Cert.DilInDx.Gen.frame m ρ, fun m ρ _ => Cert.DilInDxIdeal.Gen.frame m ρ, dilInDxReferenceFrame,
    fun m ρ _ => Cert.RecIn.Gen.frame m ρ, fun m ρ _ => Cert.RecInIdeal.Gen.frame m ρ, recInReferenceFrame,
    fun m ρ _ => Cert.RecInDx.Gen.frame m ρ, fun m ρ _ => Cert.RecInDxIdeal.Gen.frame m ρ, recInDxReferenceFrame,
    fun m ρ _ => Cert.RecInDw.Gen.frame m ρ, fun m ρ _ => Cert.RecInDwIdeal.Gen.frame m ρ, recInDwReferenceFrame,
    fun m ρ _ => Cert.KvProj.Gen.frame m ρ, fun m ρ _ => Cert.KvProjIdeal.Gen.frame m ρ, kvProjReferenceFrame,
    fun m ρ _ => Cert.KvProjDx.Gen.frame m ρ, fun m ρ _ => Cert.KvProjDxIdeal.Gen.frame m ρ, kvProjDxReferenceFrame,
    fun m ρ _ => Cert.KvProjDw.Gen.frame m ρ, fun m ρ _ => Cert.KvProjDwIdeal.Gen.frame m ρ, kvProjDwReferenceFrame,
    fun m ρ _ => Cert.MemKv.Gen.frame m ρ, fun m ρ _ => Cert.MemKvIdeal.Gen.frame m ρ, memKvReferenceFrame,
    fun m ρ _ => Cert.MemKvDx.Gen.frame m ρ, fun m ρ _ => Cert.MemKvDxIdeal.Gen.frame m ρ, memKvDxReferenceFrame,
    fun m ρ _ => Cert.MemKvDw.Gen.frame m ρ, fun m ρ _ => Cert.MemKvDwIdeal.Gen.frame m ρ, memKvDwReferenceFrame,
    fun m ρ _ => Cert.RecMem.Gen.frame m ρ, fun m ρ _ => Cert.RecMemIdeal.Gen.frame m ρ, recMemReferenceFrame,
    fun m ρ _ => Cert.DilMem.Gen.frame m ρ, fun m ρ _ => Cert.DilMemIdeal.Gen.frame m ρ, dilMemReferenceFrame,
    fun m ρ _ => Cert.DilMemGrad.Gen.frame m ρ, fun m ρ _ => Cert.DilMemGradIdeal.Gen.frame m ρ,
    fun m ρ _ => Cert.DilMemGradIdeal.Gen.frame m ρ, dilMemGradReferenceFrame, fun m ρ _ => dilMemGradReferenceFrame m ρ trivial,
    fun m ρ _ => Cert.PreNorm.Gen.frame m ρ, fun m ρ _ => Cert.PreNormIdeal.Gen.frame m ρ, preNormReferenceFrame,
    fun m ρ _ => Cert.PostNorm.Gen.frame m ρ, fun m ρ _ => Cert.PostNormIdeal.Gen.frame m ρ, postNormReferenceFrame,
    fun m ρ _ => Cert.PostPreNorm.Gen.frame m ρ, fun m ρ _ => Cert.PostPreNormIdeal.Gen.frame m ρ, postPreNormReferenceFrame,
    fun m ρ _ => Cert.PostNormBwd.Gen.frame m ρ, fun m ρ _ => Cert.PostNormBwdIdeal.Gen.frame m ρ, postNormBwdReferenceFrame,
    fun m ρ _ => Cert.PreNormBwd.Gen.frame m ρ, fun m ρ _ => Cert.PreNormBwdIdeal.Gen.frame m ρ, preNormBwdReferenceFrame,
    fun m ρ _ => Cert.PrePostNormBwd.Gen.frame m ρ, fun m ρ _ => Cert.PrePostNormBwdIdeal.Gen.frame m ρ, prePostNormBwdReferenceFrame,
    trivial, MemClaim.algebraic,
    IdealRules.named_const.statement Cert.DilAttnIdeal.κ "mask" .f32 0xF149F2CA#32 ⊥ rfl, DilClaim.algebraic, trivial, FfnActClaim.algebraic, trivial, FfnClaims.ffn_out, trivial, FfnClaims.out_dw, trivial, FfnClaims.in_dx,
    trivial, FfnClaims.in_dw,
    trivial, MixClaims.mix_out,
    trivial, MixClaims.mix_out_dx,
    trivial, MixClaims.mix_out_dw,
    trivial, MixClaims.dil_in_dx,
    trivial, MixClaims.rec_in,
    trivial, MixClaims.rec_in_dx,
    trivial, MixClaims.rec_in_dw,
    trivial, MixClaims.kv_proj,
    trivial, MixClaims.kv_proj_dx,
    trivial, MixClaims.kv_proj_dw,
    trivial, MixClaims.mem_kv,
    trivial, MixClaims.mem_kv_dx,
    trivial, MixClaims.mem_kv_dw,
    trivial, MemFwdClaims.rec_mem,
    trivial, MemFwdClaims.dil_mem,
    trivial, MemDilClaim.algebraic,
    trivial, NormClaims.pre,
    trivial, NormClaims.post,
    trivial, NormClaims.post_pre,
    trivial, NormClaims.post_bwd,
    trivial, NormClaims.pre_bwd,
    trivial, NormClaims.pre_post_bwd⟩

end Cert.Proof

end
